-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_valid [hPre_operands_valid : Cert.Pre_operands_valid.Facts] (m : (ℓ : Loc Cert.KernelIdeal.nD Cert.KernelIdeal.τ Cert.KernelIdeal.sig) → Buf (Elt Ideal) ℓ) : Prop :=
  ∀ c : Dev Cert.KernelIdeal.nD,
    (Cert.Pre_operands_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_valid [hPre_operands_valid : Cert.Pre_operands_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_operands_valid [hKernelIdeal : Cert.KernelIdeal.Facts] [hPre_operands_valid : Cert.Pre_operands_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_operands_valid [hReferenceIdeal : Cert.ReferenceIdeal.Facts] [hPre_operands_valid : Cert.Pre_operands_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_3" .f32 0x3FCAE00D#32 (((Real.log 3) * (Real.log 2)⁻¹ : ℝ) : EReal)
  ∧ IdealRules.named_const.Statement Cert.KernelIdeal.κ "mask" .f32 0xF149F2CA#32 ⊥
  ∧ IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)

def algebraic_KernelIdeal_ReferenceIdeal_pre_operands_valid [hKernelIdeal : Cert.KernelIdeal.Facts] [hReferenceIdeal : Cert.ReferenceIdeal.Facts] [hPre_operands_valid : Cert.Pre_operands_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_operands_valid : Cert.Pre_operands_valid.Facts),
    quiescent_Kernel (hKernel := hKernel)
    ∧ quiescent_KernelIdeal (hKernelIdeal := hKernelIdeal)
    ∧ quiescent_KernelIdeal_pre_operands_valid (hKernelIdeal := hKernelIdeal) (hPre_operands_valid := hPre_operands_valid)
    ∧ quiescent_ReferenceIdeal (hReferenceIdeal := hReferenceIdeal)
    ∧ quiescent_ReferenceIdeal_pre_operands_valid (hReferenceIdeal := hReferenceIdeal) (hPre_operands_valid := hPre_operands_valid)
    ∧ preserves_Kernel_KernelIdeal
    ∧ algebraic_KernelIdeal_ReferenceIdeal_pre_operands_valid (hKernelIdeal := hKernelIdeal) (hReferenceIdeal := hReferenceIdeal) (hPre_operands_valid := hPre_operands_valid)
-- ==== Pre_operands_valid.lean ====
abbrev S4x384x56x128 : Shape := ⟨4, ![4, 384, 56, 128]⟩
abbrev S4x56 : Shape := ⟨2, ![4, 56]⟩
abbrev S_ : Shape := ⟨0, ![]⟩
abbrev S4x1x56x1 : Shape := ⟨4, ![4, 1, 56, 1]⟩

class Facts : Prop where
  natLt_8_32 : 8 < 32
  bcast_S_S4x384x56x128 : S_.BroadcastsInDim S4x384x56x128 (![] : Fin 0 → Fin S4x384x56x128.rank)
  bcast_S_S4x56 : S_.BroadcastsInDim S4x56 (![] : Fin 0 → Fin S4x56.rank)
  bcast_S4x56_S4x1x56x1_0_2 : S4x56.BroadcastsInDim S4x1x56x1 (![0, 2] : Fin 2 → Fin S4x1x56x1.rank)
  bcast_S4x1x56x1_S4x384x56x128_0_1_2_3 : S4x1x56x1.BroadcastsInDim S4x384x56x128 (![0, 1, 2, 3] : Fin 4 → Fin S4x384x56x128.rank)

variable [Facts]

def fn_part1 {F : FTy → Type} [FloatOps F] (main_arg5 : FVec F S4x56 .f32) (main_v10 : IVec S4x384x56x128 1) (main_v17 : IVec S4x56 1) : IVec S4x384x56x128 1 :=
  let main_v18 : FVec F S4x56 .f32 := Host.absf main_arg5
  let main_cst_4 : FVec F S_ .f32 := constant S_ .f32 0x7F800000#32
  let main_v19 : FVec F S4x56 .f32 := broadcastInDim S4x56 ![] bcast_S_S4x56 main_cst_4
  let main_v20 : IVec S4x56 1 := cmpf .olt main_v18 main_v19
  let main_v21 : IVec S4x56 1 := andi main_v17 main_v20
  let main_v22 : IVec S4x1x56x1 1 := broadcastInDim S4x1x56x1 ![0, 2] bcast_S4x56_S4x1x56x1_0_2 main_v21
  let main_v23 : IVec S4x384x56x128 1 := broadcastInDim S4x384x56x128 ![0, 1, 2, 3] bcast_S4x1x56x1_S4x384x56x128_0_1_2_3 main_v22
  let main_v24 : IVec S4x384x56x128 1 := andi main_v10 main_v23
  main_v24

def fn {F : FTy → Type} [FloatOps F] (main_arg0 : IVec S4x384x56x128 8) (main_arg1 : IVec S4x384x56x128 8) (main_arg2 : IVec S4x384x56x128 8) (main_arg3 : FVec F S4x56 .f32) (main_arg4 : FVec F S4x56 .f32) (main_arg5 : FVec F S4x56 .f32) : IVec S4x384x56x128 1 :=
  let main_v0 : IVec S4x384x56x128 32 := (extui 32 · natLt_8_32) main_arg0
  let main_c : IVec S_ 32 := constantI S_ 32 127#32
  let main_v1 : IVec S4x384x56x128 32 := broadcastInDim S4x384x56x128 ![] bcast_S_S4x384x56x128 main_c
  let main_v2 : IVec S4x384x56x128 32 := andi main_v0 main_v1
  let main_c_0 : IVec S_ 32 := constantI S_ 32 127#32
  let main_v3 : IVec S4x384x56x128 32 := broadcastInDim S4x384x56x128 ![] bcast_S_S4x384x56x128 main_c_0
  let main_v4 : IVec S4x384x56x128 1 := cmpi .ne main_v2 main_v3
  let main_v5 : IVec S4x384x56x128 32 := (extui 32 · natLt_8_32) main_arg1
  let main_c_1 : IVec S_ 32 := constantI S_ 32 127#32
  let main_v6 : IVec S4x384x56x128 32 := broadcastInDim S4x384x56x128 ![] bcast_S_S4x384x56x128 main_c_1
  let main_v7 : IVec S4x384x56x128 32 := andi main_v5 main_v6
  let main_c_2 : IVec S_ 32 := constantI S_ 32 127#32
  let main_v8 : IVec S4x384x56x128 32 := broadcastInDim S4x384x56x128 ![] bcast_S_S4x384x56x128 main_c_2
  let main_v9 : IVec S4x384x56x128 1 := cmpi .ne main_v7 main_v8
  let main_v10 : IVec S4x384x56x128 1 := andi main_v4 main_v9
  let main_v11 : FVec F S4x56 .f32 := Host.absf main_arg3
  let main_cst : FVec F S_ .f32 := constant S_ .f32 0x7F800000#32
  let main_v12 : FVec F S4x56 .f32 := broadcastInDim S4x56 ![] bcast_S_S4x56 main_cst
  let main_v13 : IVec S4x56 1 := cmpf .olt main_v11 main_v12
  let main_v14 : FVec F S4x56 .f32 := Host.absf main_arg4
  let main_cst_3 : FVec F S_ .f32 := constant S_ .f32 0x7F800000#32
  let main_v15 : FVec F S4x56 .f32 := broadcastInDim S4x56 ![] bcast_S_S4x56 main_cst_3
  let main_v16 : IVec S4x56 1 := cmpf .olt main_v14 main_v15
  let main_v17 : IVec S4x56 1 := andi main_v13 main_v16
  fn_part1 (F := F) main_arg5 main_v10 main_v17
-- ==== Kernel.lean ====
abbrev S4x384x56x128 : Shape := ⟨4, ![4, 384, 56, 128]⟩
abbrev S4x56 : Shape := ⟨2, ![4, 56]⟩
abbrev S4x384x7x8x128 : Shape := ⟨5, ![4, 384, 7, 8, 128]⟩
abbrev S4x384x7168 : Shape := ⟨3, ![4, 384, 7168]⟩
abbrev S4x384x56 : Shape := ⟨3, ![4, 384, 56]⟩
abbrev S1x384x1x8x128 : Shape := ⟨5, ![1, 384, 1, 8, 128]⟩
abbrev S1x384x1024 : Shape := ⟨3, ![1, 384, 1024]⟩
abbrev S1x384x56 : Shape := ⟨3, ![1, 384, 56]⟩
abbrev S6x480x128 : Shape := ⟨3, ![6, 480, 128]⟩
abbrev S3x8x96x128 : Shape := ⟨4, ![3, 8, 96, 128]⟩
abbrev S2x8x8x128 : Shape := ⟨4, ![2, 8, 8, 128]⟩
abbrev S7x8x384 : Shape := ⟨3, ![7, 8, 384]⟩
abbrev S768x128 : Shape := ⟨2, ![768, 128]⟩
abbrev S8x128 : Shape := ⟨2, ![8, 128]⟩
abbrev S1x8x128 : Shape := ⟨3, ![1, 8, 128]⟩
abbrev S3072x128 : Shape := ⟨2, ![3072, 128]⟩
abbrev S1x1x8x128 : Shape := ⟨4, ![1, 1, 8, 128]⟩
abbrev S1x128 : Shape := ⟨2, ![1, 128]⟩
abbrev S64x128 : Shape := ⟨2, ![64, 128]⟩
abbrev S1x1 : Shape := ⟨2, ![1, 1]⟩
abbrev S1x1x48x128 : Shape := ⟨4, ![1, 1, 48, 128]⟩
abbrev S48x128 : Shape := ⟨2, ![48, 128]⟩
abbrev S192x128 : Shape := ⟨2, ![192, 128]⟩
abbrev S192x256 : Shape := ⟨2, ![192, 256]⟩
abbrev S1x1x16x128 : Shape := ⟨4, ![1, 1, 16, 128]⟩
abbrev S16x128 : Shape := ⟨2, ![16, 128]⟩
abbrev S64x256 : Shape := ⟨2, ![64, 256]⟩
abbrev S128x256 : Shape := ⟨2, ![128, 256]⟩
abbrev S1x64x128 : Shape := ⟨3, ![1, 64, 128]⟩
abbrev S128 : Shape := ⟨1, ![128]⟩
abbrev S128x64 : Shape := ⟨2, ![128, 64]⟩
abbrev S64x64 : Shape := ⟨2, ![64, 64]⟩
abbrev S1x64x256 : Shape := ⟨3, ![1, 64, 256]⟩
abbrev S1x64 : Shape := ⟨2, ![1, 64]⟩
abbrev S1x1x64 : Shape := ⟨3, ![1, 1, 64]⟩
abbrev S128x128 : Shape := ⟨2, ![128, 128]⟩
abbrev S1x128x128 : Shape := ⟨3, ![1, 128, 128]⟩
abbrev S1x192x128 : Shape := ⟨3, ![1, 192, 128]⟩
abbrev S128x192 : Shape := ⟨2, ![128, 192]⟩
abbrev S64x192 : Shape := ⟨2, ![64, 192]⟩
abbrev S32x128 : Shape := ⟨2, ![32, 128]⟩
abbrev S32x256 : Shape := ⟨2, ![32, 256]⟩
abbrev S96x256 : Shape := ⟨2, ![96, 256]⟩
abbrev S96x128 : Shape := ⟨2, ![96, 128]⟩
abbrev S1x32x128 : Shape := ⟨3, ![1, 32, 128]⟩
abbrev S128x96 : Shape := ⟨2, ![128, 96]⟩
abbrev S64x96 : Shape := ⟨2, ![64, 96]⟩
abbrev S160x256 : Shape := ⟨2, ![160, 256]⟩
abbrev S160x128 : Shape := ⟨2, ![160, 128]⟩
abbrev S128x160 : Shape := ⟨2, ![128, 160]⟩
abbrev S64x160 : Shape := ⟨2, ![64, 160]⟩
abbrev S224x256 : Shape := ⟨2, ![224, 256]⟩
abbrev S224x128 : Shape := ⟨2, ![224, 128]⟩
abbrev S128x224 : Shape := ⟨2, ![128, 224]⟩
abbrev S64x224 : Shape := ⟨2, ![64, 224]⟩
abbrev S56x384 : Shape := ⟨2, ![56, 384]⟩
abbrev S384x56 : Shape := ⟨2, ![384, 56]⟩

abbrev nBuf : Space → Nat
  | .hbm => 11
  | .vmem => 15
  | .smem => 3
  | _ => 0

abbrev bufTy : (tb : Table) → Fin (tcTables nBuf tb) → BufTy
  | .hbm, ⟨0, _⟩ => ⟨S4x384x56x128, .i8⟩
  | .hbm, ⟨1, _⟩ => ⟨S4x384x56x128, .i8⟩
  | .hbm, ⟨2, _⟩ => ⟨S4x384x56x128, .i8⟩
  | .hbm, ⟨3, _⟩ => ⟨S4x56, .f32⟩
  | .hbm, ⟨4, _⟩ => ⟨S4x56, .f32⟩
  | .hbm, ⟨5, _⟩ => ⟨S4x56, .f32⟩
  | .hbm, ⟨6, _⟩ => ⟨S4x384x7x8x128, .i8⟩
  | .hbm, ⟨7, _⟩ => ⟨S4x384x7x8x128, .i8⟩
  | .hbm, ⟨8, _⟩ => ⟨S4x384x7x8x128, .i8⟩
  | .hbm, ⟨9, _⟩ => ⟨S4x384x7168, .bf16⟩
  | .hbm, ⟨10, _⟩ => ⟨S4x384x56, .f32⟩
  | .local _ .vmem, ⟨0, _⟩ => ⟨S1x384x1x8x128, .i8⟩
  | .local _ .vmem, ⟨1, _⟩ => ⟨S1x384x1x8x128, .i8⟩
  | .local _ .vmem, ⟨2, _⟩ => ⟨S1x384x1x8x128, .i8⟩
  | .local _ .vmem, ⟨3, _⟩ => ⟨S1x384x1x8x128, .i8⟩
  | .local _ .vmem, ⟨4, _⟩ => ⟨S1x384x1x8x128, .i8⟩
  | .local _ .vmem, ⟨5, _⟩ => ⟨S1x384x1x8x128, .i8⟩
  | .local _ .vmem, ⟨6, _⟩ => ⟨S1x384x1024, .bf16⟩
  | .local _ .vmem, ⟨7, _⟩ => ⟨S1x384x1024, .bf16⟩
  | .local _ .vmem, ⟨8, _⟩ => ⟨S1x384x56, .f32⟩
  | .local _ .vmem, ⟨9, _⟩ => ⟨S1x384x56, .f32⟩
  | .local _ .vmem, ⟨10, _⟩ => ⟨S6x480x128, .f32⟩
  | .local _ .vmem, ⟨11, _⟩ => ⟨S3x8x96x128, .i32⟩
  | .local _ .vmem, ⟨12, _⟩ => ⟨S2x8x8x128, .i32⟩
  | .local _ .vmem, ⟨13, _⟩ => ⟨S7x8x384, .f32⟩
  | .local _ .vmem, ⟨14, _⟩ => ⟨S768x128, .i32⟩
  | .local _ .smem, ⟨0, _⟩ => ⟨S4x56, .f32⟩
  | .local _ .smem, ⟨1, _⟩ => ⟨S4x56, .f32⟩
  | .local _ .smem, ⟨2, _⟩ => ⟨S4x56, .f32⟩
  | _, _ => ⟨S4x384x56x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_4555 : BitVec 32 := 0#32
  let c6_i32_4556 : BitVec 32 := 6#32
  let v7493 : BitVec 32 := Scalar.addi c0_i32_4555 c6_i32_4556
  let c1_i32_4557 : BitVec 32 := 1#32
  ⟨c0_i32_4555, v7493, c1_i32_4557⟩
def k0_off1 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v7653 : Index := Scalar.indexCast arg15
  let c0_4615 : Index := 0#32
  let c0_4616 : Index := 0#32
  ![v7653.toNat, 0, 0]
def k0_off2 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v7703 : Index := Scalar.indexCast arg15
  let c8_4634 : Index := 8#32
  let c0_4635 : Index := 0#32
  ![v7703.toNat, 8, 0]
def k0_off3 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v7753 : Index := Scalar.indexCast arg15
  let c16_4653 : Index := 16#32
  let c0_4654 : Index := 0#32
  ![v7753.toNat, 16, 0]
def k0_off4 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v7803 : Index := Scalar.indexCast arg15
  let c24_4672 : Index := 24#32
  let c0_4673 : Index := 0#32
  ![v7803.toNat, 24, 0]
def k0_off5 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v7853 : Index := Scalar.indexCast arg15
  let c32_4690 : Index := 32#32
  let c0_4691 : Index := 0#32
  ![v7853.toNat, 32, 0]
def k0_off6 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v7903 : Index := Scalar.indexCast arg15
  let c40_4708 : Index := 40#32
  let c0_4709 : Index := 0#32
  ![v7903.toNat, 40, 0]
def k0_off7 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v7953 : Index := Scalar.indexCast arg15
  let c48_4726 : Index := 48#32
  let c0_4727 : Index := 0#32
  ![v7953.toNat, 48, 0]
def k0_off8 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8003 : Index := Scalar.indexCast arg15
  let c56_4744 : Index := 56#32
  let c0_4745 : Index := 0#32
  ![v8003.toNat, 56, 0]
def k0_off9 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8035 : Index := Scalar.indexCast arg15
  let c384_4757 : Index := 384#32
  let c0_4758 : Index := 0#32
  ![v8035.toNat, 384, 0]
def k0_off10 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8067 : Index := Scalar.indexCast arg15
  let c392 : Index := 392#32
  let c0_4770 : Index := 0#32
  ![v8067.toNat, 392, 0]
def k0_off11 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8099 : Index := Scalar.indexCast arg15
  let c400 : Index := 400#32
  let c0_4782 : Index := 0#32
  ![v8099.toNat, 400, 0]
def k0_off12 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8131 : Index := Scalar.indexCast arg15
  let c408 : Index := 408#32
  let c0_4794 : Index := 0#32
  ![v8131.toNat, 408, 0]
def k0_off13 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8233 : Index := Scalar.indexCast arg15
  let c64_4831 : Index := 64#32
  let c0_4832 : Index := 0#32
  ![v8233.toNat, 64, 0]
def k0_off14 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8283 : Index := Scalar.indexCast arg15
  let c72_4850 : Index := 72#32
  let c0_4851 : Index := 0#32
  ![v8283.toNat, 72, 0]
def k0_off15 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8333 : Index := Scalar.indexCast arg15
  let c80_4869 : Index := 80#32
  let c0_4870 : Index := 0#32
  ![v8333.toNat, 80, 0]
def k0_off16 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8383 : Index := Scalar.indexCast arg15
  let c88_4888 : Index := 88#32
  let c0_4889 : Index := 0#32
  ![v8383.toNat, 88, 0]
def k0_off17 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8433 : Index := Scalar.indexCast arg15
  let c96 : Index := 96#32
  let c0_4907 : Index := 0#32
  ![v8433.toNat, 96, 0]
def k0_off18 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8483 : Index := Scalar.indexCast arg15
  let c104 : Index := 104#32
  let c0_4925 : Index := 0#32
  ![v8483.toNat, 104, 0]
def k0_off19 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8533 : Index := Scalar.indexCast arg15
  let c112 : Index := 112#32
  let c0_4943 : Index := 0#32
  ![v8533.toNat, 112, 0]
def k0_off20 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8583 : Index := Scalar.indexCast arg15
  let c120 : Index := 120#32
  let c0_4961 : Index := 0#32
  ![v8583.toNat, 120, 0]
def k0_off21 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8633 : Index := Scalar.indexCast arg15
  let c128_4979 : Index := 128#32
  let c0_4980 : Index := 0#32
  ![v8633.toNat, 128, 0]
def k0_off22 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8683 : Index := Scalar.indexCast arg15
  let c136 : Index := 136#32
  let c0_4997 : Index := 0#32
  ![v8683.toNat, 136, 0]
def k0_off23 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8733 : Index := Scalar.indexCast arg15
  let c144 : Index := 144#32
  let c0_5014 : Index := 0#32
  ![v8733.toNat, 144, 0]
def k0_off24 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8783 : Index := Scalar.indexCast arg15
  let c152 : Index := 152#32
  let c0_5031 : Index := 0#32
  ![v8783.toNat, 152, 0]
def k0_off25 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8833 : Index := Scalar.indexCast arg15
  let c160 : Index := 160#32
  let c0_5048 : Index := 0#32
  ![v8833.toNat, 160, 0]
def k0_off26 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8883 : Index := Scalar.indexCast arg15
  let c168 : Index := 168#32
  let c0_5065 : Index := 0#32
  ![v8883.toNat, 168, 0]
def k0_off27 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8933 : Index := Scalar.indexCast arg15
  let c176 : Index := 176#32
  let c0_5082 : Index := 0#32
  ![v8933.toNat, 176, 0]
def k0_off28 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v8983 : Index := Scalar.indexCast arg15
  let c184 : Index := 184#32
  let c0_5099 : Index := 0#32
  ![v8983.toNat, 184, 0]
def k0_off29 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9015 : Index := Scalar.indexCast arg15
  let c416_5111 : Index := 416#32
  let c0_5112 : Index := 0#32
  ![v9015.toNat, 416, 0]
def k0_off30 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9047 : Index := Scalar.indexCast arg15
  let c424 : Index := 424#32
  let c0_5124 : Index := 0#32
  ![v9047.toNat, 424, 0]
def k0_off31 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9079 : Index := Scalar.indexCast arg15
  let c432 : Index := 432#32
  let c0_5136 : Index := 0#32
  ![v9079.toNat, 432, 0]
def k0_off32 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9111 : Index := Scalar.indexCast arg15
  let c440 : Index := 440#32
  let c0_5148 : Index := 0#32
  ![v9111.toNat, 440, 0]
def k0_off33 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9213 : Index := Scalar.indexCast arg15
  let c192_5184 : Index := 192#32
  let c0_5185 : Index := 0#32
  ![v9213.toNat, 192, 0]
def k0_off34 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9263 : Index := Scalar.indexCast arg15
  let c200 : Index := 200#32
  let c0_5203 : Index := 0#32
  ![v9263.toNat, 200, 0]
def k0_off35 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9313 : Index := Scalar.indexCast arg15
  let c208 : Index := 208#32
  let c0_5221 : Index := 0#32
  ![v9313.toNat, 208, 0]
def k0_off36 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9363 : Index := Scalar.indexCast arg15
  let c216 : Index := 216#32
  let c0_5239 : Index := 0#32
  ![v9363.toNat, 216, 0]
def k0_off37 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9413 : Index := Scalar.indexCast arg15
  let c224 : Index := 224#32
  let c0_5257 : Index := 0#32
  ![v9413.toNat, 224, 0]
def k0_off38 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9463 : Index := Scalar.indexCast arg15
  let c232 : Index := 232#32
  let c0_5275 : Index := 0#32
  ![v9463.toNat, 232, 0]
def k0_off39 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9513 : Index := Scalar.indexCast arg15
  let c240 : Index := 240#32
  let c0_5293 : Index := 0#32
  ![v9513.toNat, 240, 0]
def k0_off40 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9563 : Index := Scalar.indexCast arg15
  let c248 : Index := 248#32
  let c0_5311 : Index := 0#32
  ![v9563.toNat, 248, 0]
def k0_off41 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9613 : Index := Scalar.indexCast arg15
  let c256_5329 : Index := 256#32
  let c0_5330 : Index := 0#32
  ![v9613.toNat, 256, 0]
def k0_off42 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9663 : Index := Scalar.indexCast arg15
  let c264 : Index := 264#32
  let c0_5348 : Index := 0#32
  ![v9663.toNat, 264, 0]
def k0_off43 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9713 : Index := Scalar.indexCast arg15
  let c272 : Index := 272#32
  let c0_5366 : Index := 0#32
  ![v9713.toNat, 272, 0]
def k0_off44 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9763 : Index := Scalar.indexCast arg15
  let c280 : Index := 280#32
  let c0_5384 : Index := 0#32
  ![v9763.toNat, 280, 0]
def k0_off45 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9813 : Index := Scalar.indexCast arg15
  let c288 : Index := 288#32
  let c0_5402 : Index := 0#32
  ![v9813.toNat, 288, 0]
def k0_off46 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9863 : Index := Scalar.indexCast arg15
  let c296 : Index := 296#32
  let c0_5420 : Index := 0#32
  ![v9863.toNat, 296, 0]
def k0_off47 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9913 : Index := Scalar.indexCast arg15
  let c304 : Index := 304#32
  let c0_5438 : Index := 0#32
  ![v9913.toNat, 304, 0]
def k0_off48 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v9963 : Index := Scalar.indexCast arg15
  let c312 : Index := 312#32
  let c0_5456 : Index := 0#32
  ![v9963.toNat, 312, 0]
def k0_off49 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10013 : Index := Scalar.indexCast arg15
  let c320_5474 : Index := 320#32
  let c0_5475 : Index := 0#32
  ![v10013.toNat, 320, 0]
def k0_off50 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10063 : Index := Scalar.indexCast arg15
  let c328 : Index := 328#32
  let c0_5492 : Index := 0#32
  ![v10063.toNat, 328, 0]
def k0_off51 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10113 : Index := Scalar.indexCast arg15
  let c336 : Index := 336#32
  let c0_5509 : Index := 0#32
  ![v10113.toNat, 336, 0]
def k0_off52 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10163 : Index := Scalar.indexCast arg15
  let c344 : Index := 344#32
  let c0_5526 : Index := 0#32
  ![v10163.toNat, 344, 0]
def k0_off53 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10213 : Index := Scalar.indexCast arg15
  let c352 : Index := 352#32
  let c0_5543 : Index := 0#32
  ![v10213.toNat, 352, 0]
def k0_off54 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10263 : Index := Scalar.indexCast arg15
  let c360 : Index := 360#32
  let c0_5560 : Index := 0#32
  ![v10263.toNat, 360, 0]
def k0_off55 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10313 : Index := Scalar.indexCast arg15
  let c368 : Index := 368#32
  let c0_5577 : Index := 0#32
  ![v10313.toNat, 368, 0]
def k0_off56 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10363 : Index := Scalar.indexCast arg15
  let c376 : Index := 376#32
  let c0_5594 : Index := 0#32
  ![v10363.toNat, 376, 0]
def k0_off57 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10395 : Index := Scalar.indexCast arg15
  let c448_5606 : Index := 448#32
  let c0_5607 : Index := 0#32
  ![v10395.toNat, 448, 0]
def k0_off58 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10427 : Index := Scalar.indexCast arg15
  let c456 : Index := 456#32
  let c0_5619 : Index := 0#32
  ![v10427.toNat, 456, 0]
def k0_off59 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10459 : Index := Scalar.indexCast arg15
  let c464 : Index := 464#32
  let c0_5631 : Index := 0#32
  ![v10459.toNat, 464, 0]
def k0_off60 (k0_t1 : Fin k0_t1_loop.trips) : Fin 3 → Nat :=
  let c0_i32_4555 : BitVec 32 := 0#32
  let c1_i32_4557 : BitVec 32 := 1#32
  let arg15 : BitVec 32 := Scf.iv c0_i32_4555 c1_i32_4557 k0_t1
  let v10491 : Index := Scalar.indexCast arg15
  let c472 : Index := 472#32
  let c0_5643 : Index := 0#32
  ![v10491.toNat, 472, 0]
def k0_off61 (i : grid0.Coords) (c0_i32_1495 : BitVec 32) (c0_i32_1489 : BitVec 32) (c0_i32_1490 : BitVec 32) (c0_i32_1496 : BitVec 32) : Fin 2 → Nat :=
  let c2_i32 : BitVec 32 := 2#32
  let c8_i32_1488 : BitVec 32 := 8#32
  let arg1 : BitVec 32 := BitVec.ofNat 32 (i 1).val
  let v2323 : BitVec 32 := Scalar.muli c8_i32_1488 arg1
  let v2324 : BitVec 32 := Scalar.addi v2323 c0_i32_1489
  let v2325 : BitVec 32 := Scalar.addi v2324 c0_i32_1490
  let c6_i32 : BitVec 32 := 6#32
  let c0_i32_1491 : BitVec 32 := 0#32
  let v2326 : BitVec 1 := Scalar.cmpi .eq c6_i32 c0_i32_1491
  let c1_i32 : BitVec 32 := 1#32
  let v2327 : BitVec 32 := Scalar.select v2326 c1_i32 c6_i32
  let v2328 : BitVec 32 := Scalar.remsi v2325 v2327
  let c0_i32_1493 : BitVec 32 := 0#32
  let v2330 : BitVec 1 := Scalar.cmpi .slt v2328 c0_i32_1493
  let c0_i32_1494 : BitVec 32 := 0#32
  let v2331 : BitVec 1 := Scalar.cmpi .slt v2327 c0_i32_1494
  let v2332 : BitVec 1 := Scalar.xori v2330 v2331
  let c0_i32_1492 : BitVec 32 := 0#32
  let v2329 : BitVec 1 := Scalar.cmpi .ne v2328 c0_i32_1492
  let v2333 : BitVec 1 := Scalar.andi v2332 v2329
  let v2334 : BitVec 32 := Scalar.addi v2328 v2327
  let v2335 : BitVec 32 := Scalar.select v2333 v2334 v2328
  let v2336 : BitVec 32 := Scalar.addi c0_i32_1495 v2335
  let v2337 : BitVec 32 := Scalar.muli c2_i32 v2336
  let v2338 : BitVec 32 := Scalar.addi v2337 c0_i32_1496
  let v2339 : Index := Scalar.indexCast v2338
  let c0_1497 : Index := 0#32
  ![v2339.toNat, 0]
def k0_off61_at (r : Fin 32) : BitVec 32 × BitVec 32 × BitVec 32 × BitVec 32 :=
  if r.val < 16 then
    if r.val < 8 then
      if r.val < 4 then
        if r.val < 2 then
          if r.val < 1 then
            (0#32, 0#32, 0#32, 0#32)
          else
            (6#32, 0#32, 0#32, 0#32)
        else
          if r.val < 3 then
            (12#32, 0#32, 0#32, 0#32)
          else
            (18#32, 0#32, 0#32, 0#32)
      else
        if r.val < 6 then
          if r.val < 5 then
            (0#32, 0#32, 1#32, 0#32)
          else
            (6#32, 0#32, 1#32, 0#32)
        else
          if r.val < 7 then
            (12#32, 0#32, 1#32, 0#32)
          else
            (18#32, 0#32, 1#32, 0#32)
    else
      if r.val < 12 then
        if r.val < 10 then
          if r.val < 9 then
            (0#32, 0#32, 2#32, 0#32)
          else
            (6#32, 0#32, 2#32, 0#32)
        else
          if r.val < 11 then
            (12#32, 0#32, 2#32, 0#32)
          else
            (18#32, 0#32, 2#32, 0#32)
      else
        if r.val < 14 then
          if r.val < 13 then
            (0#32, 0#32, 3#32, 0#32)
          else
            (6#32, 0#32, 3#32, 0#32)
        else
          if r.val < 15 then
            (12#32, 0#32, 3#32, 0#32)
          else
            (18#32, 0#32, 3#32, 0#32)
  else
    if r.val < 24 then
      if r.val < 20 then
        if r.val < 18 then
          if r.val < 17 then
            (0#32, 4#32, 0#32, 1#32)
          else
            (6#32, 4#32, 0#32, 1#32)
        else
          if r.val < 19 then
            (12#32, 4#32, 0#32, 1#32)
          else
            (18#32, 4#32, 0#32, 1#32)
      else
        if r.val < 22 then
          if r.val < 21 then
            (0#32, 4#32, 1#32, 1#32)
          else
            (6#32, 4#32, 1#32, 1#32)
        else
          if r.val < 23 then
            (12#32, 4#32, 1#32, 1#32)
          else
            (18#32, 4#32, 1#32, 1#32)
    else
      if r.val < 28 then
        if r.val < 26 then
          if r.val < 25 then
            (0#32, 4#32, 2#32, 1#32)
          else
            (6#32, 4#32, 2#32, 1#32)
        else
          if r.val < 27 then
            (12#32, 4#32, 2#32, 1#32)
          else
            (18#32, 4#32, 2#32, 1#32)
      else
        if r.val < 30 then
          if r.val < 29 then
            (0#32, 4#32, 3#32, 1#32)
          else
            (6#32, 4#32, 3#32, 1#32)
        else
          if r.val < 31 then
            (12#32, 4#32, 3#32, 1#32)
          else
            (18#32, 4#32, 3#32, 1#32)
def k0_off62 (i : grid0.Coords) (c0_i32_3652 : BitVec 32) (c0_i32_3653 : BitVec 32) : Fin 2 → Nat :=
  let arg0 : BitVec 32 := BitVec.ofNat 32 (i 0).val
  let v5501 : Index := Scalar.indexCast arg0
  let c8_i32_3651 : BitVec 32 := 8#32
  let arg1 : BitVec 32 := BitVec.ofNat 32 (i 1).val
  let v5498 : BitVec 32 := Scalar.muli c8_i32_3651 arg1
  let v5499 : BitVec 32 := Scalar.addi v5498 c0_i32_3652
  let v5500 : BitVec 32 := Scalar.addi v5499 c0_i32_3653
  let v5502 : Index := Scalar.indexCast v5500
  ![v5501.toNat, v5502.toNat]
def k0_off63 (i : grid0.Coords) (c0_i32_3644 : BitVec 32) : Fin 3 → Nat :=
  let c4_i32_3643 : BitVec 32 := 4#32
  let arg1 : BitVec 32 := BitVec.ofNat 32 (i 1).val
  let v5486 : BitVec 32 := Scalar.muli c4_i32_3643 arg1
  let v5487 : BitVec 32 := Scalar.addi v5486 c0_i32_3644
  let c6_i32_3645 : BitVec 32 := 6#32
  let c0_i32_3646 : BitVec 32 := 0#32
  let v5488 : BitVec 1 := Scalar.cmpi .eq c6_i32_3645 c0_i32_3646
  let c1_i32_3647 : BitVec 32 := 1#32
  let v5489 : BitVec 32 := Scalar.select v5488 c1_i32_3647 c6_i32_3645
  let v5490 : BitVec 32 := Scalar.remsi v5487 v5489
  let c0_i32_3649 : BitVec 32 := 0#32
  let v5492 : BitVec 1 := Scalar.cmpi .slt v5490 c0_i32_3649
  let c0_i32_3650 : BitVec 32 := 0#32
  let v5493 : BitVec 1 := Scalar.cmpi .slt v5489 c0_i32_3650
  let v5494 : BitVec 1 := Scalar.xori v5492 v5493
  let c0_i32_3648 : BitVec 32 := 0#32
  let v5491 : BitVec 1 := Scalar.cmpi .ne v5490 c0_i32_3648
  let v5495 : BitVec 1 := Scalar.andi v5494 v5491
  let v5496 : BitVec 32 := Scalar.addi v5490 v5489
  let v5497 : BitVec 32 := Scalar.select v5495 v5496 v5490
  let v5550 : Index := Scalar.indexCast v5497
  let c0_3685 : Index := 0#32
  let c0_3686 : Index := 0#32
  ![v5550.toNat, 0, 0]
def k0_off64 (i : grid0.Coords) (c0_i32_3652 : BitVec 32) : Fin 2 → Nat :=
  let arg0 : BitVec 32 := BitVec.ofNat 32 (i 0).val
  let v5578 : Index := Scalar.indexCast arg0
  let c8_i32_3651 : BitVec 32 := 8#32
  let arg1 : BitVec 32 := BitVec.ofNat 32 (i 1).val
  let v5498 : BitVec 32 := Scalar.muli c8_i32_3651 arg1
  let v5499 : BitVec 32 := Scalar.addi v5498 c0_i32_3652
  let v5579 : Index := Scalar.indexCast v5499
  ![v5578.toNat, v5579.toNat]
def k0_off65 (i : grid0.Coords) : Fin 3 → Nat :=
  let arg1 : BitVec 32 := BitVec.ofNat 32 (i 1).val
  let v5597 : Index := Scalar.indexCast arg1
  let c0_3699 : Index := 0#32
  let c0_3700 : Index := 0#32
  ![v5597.toNat, 0, 0]
def k0_off66 (i : grid0.Coords) : Fin 3 → Nat :=
  let arg1 : BitVec 32 := BitVec.ofNat 32 (i 1).val
  let v5602 : Index := Scalar.indexCast arg1
  let c1_3701 : Index := 1#32
  let c0_3702 : Index := 0#32
  ![v5602.toNat, 1, 0]
def k0_off67 (i : grid0.Coords) (c0_i32_3644 : BitVec 32) : Fin 3 → Nat :=
  let c4_i32_3643 : BitVec 32 := 4#32
  let arg1 : BitVec 32 := BitVec.ofNat 32 (i 1).val
  let v5486 : BitVec 32 := Scalar.muli c4_i32_3643 arg1
  let v5487 : BitVec 32 := Scalar.addi v5486 c0_i32_3644
  let c6_i32_3645 : BitVec 32 := 6#32
  let c0_i32_3646 : BitVec 32 := 0#32
  let v5488 : BitVec 1 := Scalar.cmpi .eq c6_i32_3645 c0_i32_3646
  let c1_i32_3647 : BitVec 32 := 1#32
  let v5489 : BitVec 32 := Scalar.select v5488 c1_i32_3647 c6_i32_3645
  let v5490 : BitVec 32 := Scalar.remsi v5487 v5489
  let c0_i32_3649 : BitVec 32 := 0#32
  let v5492 : BitVec 1 := Scalar.cmpi .slt v5490 c0_i32_3649
  let c0_i32_3650 : BitVec 32 := 0#32
  let v5493 : BitVec 1 := Scalar.cmpi .slt v5489 c0_i32_3650
  let v5494 : BitVec 1 := Scalar.xori v5492 v5493
  let c0_i32_3648 : BitVec 32 := 0#32
  let v5491 : BitVec 1 := Scalar.cmpi .ne v5490 c0_i32_3648
  let v5495 : BitVec 1 := Scalar.andi v5494 v5491
  let v5496 : BitVec 32 := Scalar.addi v5490 v5489
  let v5497 : BitVec 32 := Scalar.select v5495 v5496 v5490
  let v5618 : Index := Scalar.indexCast v5497
  let c64_3711 : Index := 64#32
  let c0_3712 : Index := 0#32
  ![v5618.toNat, 64, 0]
def k0_off68 (i : grid0.Coords) : Fin 3 → Nat :=
  let arg1 : BitVec 32 := BitVec.ofNat 32 (i 1).val
  let v5665 : Index := Scalar.indexCast arg1
  let c0_3725 : Index := 0#32
  let c64_3726 : Index := 64#32
  ![v5665.toNat, 0, 64]
def k0_off69 (i : grid0.Coords) : Fin 3 → Nat :=
  let arg1 : BitVec 32 := BitVec.ofNat 32 (i 1).val
  let v5670 : Index := Scalar.indexCast arg1
  let c1_3727 : Index := 1#32
  let c64_3728 : Index := 64#32
  ![v5670.toNat, 1, 64]
def k0_off70 (i : grid0.Coords) (c0_i32_3644 : BitVec 32) : Fin 3 → Nat :=
  let c4_i32_3643 : BitVec 32 := 4#32
  let arg1 : BitVec 32 := BitVec.ofNat 32 (i 1).val
  let v5486 : BitVec 32 := Scalar.muli c4_i32_3643 arg1
  let v5487 : BitVec 32 := Scalar.addi v5486 c0_i32_3644
  let c6_i32_3645 : BitVec 32 := 6#32
  let c0_i32_3646 : BitVec 32 := 0#32
  let v5488 : BitVec 1 := Scalar.cmpi .eq c6_i32_3645 c0_i32_3646
  let c1_i32_3647 : BitVec 32 := 1#32
  let v5489 : BitVec 32 := Scalar.select v5488 c1_i32_3647 c6_i32_3645
  let v5490 : BitVec 32 := Scalar.remsi v5487 v5489
  let c0_i32_3649 : BitVec 32 := 0#32
  let v5492 : BitVec 1 := Scalar.cmpi .slt v5490 c0_i32_3649
  let c0_i32_3650 : BitVec 32 := 0#32
  let v5493 : BitVec 1 := Scalar.cmpi .slt v5489 c0_i32_3650
  let v5494 : BitVec 1 := Scalar.xori v5492 v5493
  let c0_i32_3648 : BitVec 32 := 0#32
  let v5491 : BitVec 1 := Scalar.cmpi .ne v5490 c0_i32_3648
  let v5495 : BitVec 1 := Scalar.andi v5494 v5491
  let v5496 : BitVec 32 := Scalar.addi v5490 v5489
  let v5497 : BitVec 32 := Scalar.select v5495 v5496 v5490
  let v5683 : Index := Scalar.indexCast v5497
  let c192_3737 : Index := 192#32
  let c0_3738 : Index := 0#32
  ![v5683.toNat, 192, 0]
def k0_off71 (i : grid0.Coords) : Fin 3 → Nat :=
  let arg1 : BitVec 32 := BitVec.ofNat 32 (i 1).val
  let v5730 : Index := Scalar.indexCast arg1
  let c0_3751 : Index := 0#32
  let c128_3752 : Index := 128#32
  ![v5730.toNat, 0, 128]
def k0_off72 (i : grid0.Coords) : Fin 3 → Nat :=
  let arg1 : BitVec 32 := BitVec.ofNat 32 (i 1).val
  let v5735 : Index := Scalar.indexCast arg1
  let c1_3753 : Index := 1#32
  let c128_3754 : Index := 128#32
  ![v5735.toNat, 1, 128]
def k0_off73 (i : grid0.Coords) (c0_i32_3644 : BitVec 32) : Fin 3 → Nat :=
  let c4_i32_3643 : BitVec 32 := 4#32
  let arg1 : BitVec 32 := BitVec.ofNat 32 (i 1).val
  let v5486 : BitVec 32 := Scalar.muli c4_i32_3643 arg1
  let v5487 : BitVec 32 := Scalar.addi v5486 c0_i32_3644
  let c6_i32_3645 : BitVec 32 := 6#32
  let c0_i32_3646 : BitVec 32 := 0#32
  let v5488 : BitVec 1 := Scalar.cmpi .eq c6_i32_3645 c0_i32_3646
  let c1_i32_3647 : BitVec 32 := 1#32
  let v5489 : BitVec 32 := Scalar.select v5488 c1_i32_3647 c6_i32_3645
  let v5490 : BitVec 32 := Scalar.remsi v5487 v5489
  let c0_i32_3649 : BitVec 32 := 0#32
  let v5492 : BitVec 1 := Scalar.cmpi .slt v5490 c0_i32_3649
  let c0_i32_3650 : BitVec 32 := 0#32
  let v5493 : BitVec 1 := Scalar.cmpi .slt v5489 c0_i32_3650
  let v5494 : BitVec 1 := Scalar.xori v5492 v5493
  let c0_i32_3648 : BitVec 32 := 0#32
  let v5491 : BitVec 1 := Scalar.cmpi .ne v5490 c0_i32_3648
  let v5495 : BitVec 1 := Scalar.andi v5494 v5491
  let v5496 : BitVec 32 := Scalar.addi v5490 v5489
  let v5497 : BitVec 32 := Scalar.select v5495 v5496 v5490
  let v5783 : Index := Scalar.indexCast v5497
  let c384_3797 : Index := 384#32
  let c0_3798 : Index := 0#32
  ![v5783.toNat, 384, 0]
def k0_off74 (i : grid0.Coords) : Fin 3 → Nat :=
  let arg1 : BitVec 32 := BitVec.ofNat 32 (i 1).val
  let v5831 : Index := Scalar.indexCast arg1
  let c0_3811 : Index := 0#32
  let c192_3812 : Index := 192#32
  ![v5831.toNat, 0, 192]
def k0_off75 (i : grid0.Coords) : Fin 3 → Nat :=
  let arg1 : BitVec 32 := BitVec.ofNat 32 (i 1).val
  let v5836 : Index := Scalar.indexCast arg1
  let c1_3813 : Index := 1#32
  let c192_3814 : Index := 192#32
  ![v5836.toNat, 1, 192]
def k0_off76 (i : grid0.Coords) (c0_i32_3644 : BitVec 32) : Fin 3 → Nat :=
  let c4_i32_3643 : BitVec 32 := 4#32
  let arg1 : BitVec 32 := BitVec.ofNat 32 (i 1).val
  let v5486 : BitVec 32 := Scalar.muli c4_i32_3643 arg1
  let v5487 : BitVec 32 := Scalar.addi v5486 c0_i32_3644
  let c6_i32_3645 : BitVec 32 := 6#32
  let c0_i32_3646 : BitVec 32 := 0#32
  let v5488 : BitVec 1 := Scalar.cmpi .eq c6_i32_3645 c0_i32_3646
  let c1_i32_3647 : BitVec 32 := 1#32
  let v5489 : BitVec 32 := Scalar.select v5488 c1_i32_3647 c6_i32_3645
  let v5490 : BitVec 32 := Scalar.remsi v5487 v5489
  let c0_i32_3649 : BitVec 32 := 0#32
  let v5492 : BitVec 1 := Scalar.cmpi .slt v5490 c0_i32_3649
  let c0_i32_3650 : BitVec 32 := 0#32
  let v5493 : BitVec 1 := Scalar.cmpi .slt v5489 c0_i32_3650
  let v5494 : BitVec 1 := Scalar.xori v5492 v5493
  let c0_i32_3648 : BitVec 32 := 0#32
  let v5491 : BitVec 1 := Scalar.cmpi .ne v5490 c0_i32_3648
  let v5495 : BitVec 1 := Scalar.andi v5494 v5491
  let v5496 : BitVec 32 := Scalar.addi v5490 v5489
  let v5497 : BitVec 32 := Scalar.select v5495 v5496 v5490
  let v5858 : Index := Scalar.indexCast v5497
  let c416 : Index := 416#32
  let c0_3825 : Index := 0#32
  ![v5858.toNat, 416, 0]
def k0_off77 (i : grid0.Coords) : Fin 3 → Nat :=
  let arg1 : BitVec 32 := BitVec.ofNat 32 (i 1).val
  let v5906 : Index := Scalar.indexCast arg1
  let c0_3838 : Index := 0#32
  let c256_3839 : Index := 256#32
  ![v5906.toNat, 0, 256]
def k0_off78 (i : grid0.Coords) : Fin 3 → Nat :=
  let arg1 : BitVec 32 := BitVec.ofNat 32 (i 1).val
  let v5911 : Index := Scalar.indexCast arg1
  let c1_3840 : Index := 1#32
  let c256_3841 : Index := 256#32
  ![v5911.toNat, 1, 256]
def k0_off79 (i : grid0.Coords) (c0_i32_3644 : BitVec 32) : Fin 3 → Nat :=
  let c4_i32_3643 : BitVec 32 := 4#32
  let arg1 : BitVec 32 := BitVec.ofNat 32 (i 1).val
  let v5486 : BitVec 32 := Scalar.muli c4_i32_3643 arg1
  let v5487 : BitVec 32 := Scalar.addi v5486 c0_i32_3644
  let c6_i32_3645 : BitVec 32 := 6#32
  let c0_i32_3646 : BitVec 32 := 0#32
  let v5488 : BitVec 1 := Scalar.cmpi .eq c6_i32_3645 c0_i32_3646
  let c1_i32_3647 : BitVec 32 := 1#32
  let v5489 : BitVec 32 := Scalar.select v5488 c1_i32_3647 c6_i32_3645
  let v5490 : BitVec 32 := Scalar.remsi v5487 v5489
  let c0_i32_3649 : BitVec 32 := 0#32
  let v5492 : BitVec 1 := Scalar.cmpi .slt v5490 c0_i32_3649
  let c0_i32_3650 : BitVec 32 := 0#32
  let v5493 : BitVec 1 := Scalar.cmpi .slt v5489 c0_i32_3650
  let v5494 : BitVec 1 := Scalar.xori v5492 v5493
  let c0_i32_3648 : BitVec 32 := 0#32
  let v5491 : BitVec 1 := Scalar.cmpi .ne v5490 c0_i32_3648
  let v5495 : BitVec 1 := Scalar.andi v5494 v5491
  let v5496 : BitVec 32 := Scalar.addi v5490 v5489
  let v5497 : BitVec 32 := Scalar.select v5495 v5496 v5490
  let v5930 : Index := Scalar.indexCast v5497
  let c448_3852 : Index := 448#32
  let c0_3853 : Index := 0#32
  ![v5930.toNat, 448, 0]
def k0_off80 (i : grid0.Coords) : Fin 3 → Nat :=
  let arg1 : BitVec 32 := BitVec.ofNat 32 (i 1).val
  let v5978 : Index := Scalar.indexCast arg1
  let c0_3866 : Index := 0#32
  let c320_3867 : Index := 320#32
  ![v5978.toNat, 0, 320]
def k0_off81 (i : grid0.Coords) : Fin 3 → Nat :=
  let arg1 : BitVec 32 := BitVec.ofNat 32 (i 1).val
  let v5983 : Index := Scalar.indexCast arg1
  let c1_3868 : Index := 1#32
  let c320_3869 : Index := 320#32
  ![v5983.toNat, 1, 320]
def k0_off82 (i : grid0.Coords) : Fin 3 → Nat :=
  let arg1 : BitVec 32 := BitVec.ofNat 32 (i 1).val
  let v6098 : Index := Scalar.indexCast arg1
  let c2_3926 : Index := 2#32
  let c0_3927 : Index := 0#32
  ![v6098.toNat, 2, 0]
def k0_off83 (i : grid0.Coords) : Fin 3 → Nat :=
  let arg1 : BitVec 32 := BitVec.ofNat 32 (i 1).val
  let v6103 : Index := Scalar.indexCast arg1
  let c3_3928 : Index := 3#32
  let c0_3929 : Index := 0#32
  ![v6103.toNat, 3, 0]
def k0_off84 (i : grid0.Coords) : Fin 3 → Nat :=
  let arg1 : BitVec 32 := BitVec.ofNat 32 (i 1).val
  let v6166 : Index := Scalar.indexCast arg1
  let c2_3952 : Index := 2#32
  let c64_3953 : Index := 64#32
  ![v6166.toNat, 2, 64]
def k0_off85 (i : grid0.Coords) : Fin 3 → Nat :=
  let arg1 : BitVec 32 := BitVec.ofNat 32 (i 1).val
  let v6171 : Index := Scalar.indexCast arg1
  let c3_3954 : Index := 3#32
  let c64_3955 : Index := 64#32
  ![v6171.toNat, 3, 64]
def k0_off86 (i : grid0.Coords) : Fin 3 → Nat :=
  let arg1 : BitVec 32 := BitVec.ofNat 32 (i 1).val
  let v6231 : Index := Scalar.indexCast arg1
  let c2_3978 : Index := 2#32
  let c128_3979 : Index := 128#32
  ![v6231.toNat, 2, 128]
def k0_off87 (i : grid0.Coords) : Fin 3 → Nat :=
  let arg1 : BitVec 32 := BitVec.ofNat 32 (i 1).val
  let v6236 : Index := Scalar.indexCast arg1
  let c3_3980 : Index := 3#32
  let c128_3981 : Index := 128#32
  ![v6236.toNat, 3, 128]
def k0_off88 (i : grid0.Coords) : Fin 3 → Nat :=
  let arg1 : BitVec 32 := BitVec.ofNat 32 (i 1).val
  let v6332 : Index := Scalar.indexCast arg1
  let c2_4038 : Index := 2#32
  let c192_4039 : Index := 192#32
  ![v6332.toNat, 2, 192]
def k0_off89 (i : grid0.Coords) : Fin 3 → Nat :=
  let arg1 : BitVec 32 := BitVec.ofNat 32 (i 1).val
  let v6337 : Index := Scalar.indexCast arg1
  let c3_4040 : Index := 3#32
  let c192_4041 : Index := 192#32
  ![v6337.toNat, 3, 192]
def k0_off90 (i : grid0.Coords) : Fin 3 → Nat :=
  let arg1 : BitVec 32 := BitVec.ofNat 32 (i 1).val
  let v6407 : Index := Scalar.indexCast arg1
  let c2_4066 : Index := 2#32
  let c256_4067 : Index := 256#32
  ![v6407.toNat, 2, 256]
def k0_off91 (i : grid0.Coords) : Fin 3 → Nat :=
  let arg1 : BitVec 32 := BitVec.ofNat 32 (i 1).val
  let v6412 : Index := Scalar.indexCast arg1
  let c3_4068 : Index := 3#32
  let c256_4069 : Index := 256#32
  ![v6412.toNat, 3, 256]
def k0_off92 (i : grid0.Coords) : Fin 3 → Nat :=
  let arg1 : BitVec 32 := BitVec.ofNat 32 (i 1).val
  let v6479 : Index := Scalar.indexCast arg1
  let c2_4094 : Index := 2#32
  let c320_4095 : Index := 320#32
  ![v6479.toNat, 2, 320]
def k0_off93 (i : grid0.Coords) : Fin 3 → Nat :=
  let arg1 : BitVec 32 := BitVec.ofNat 32 (i 1).val
  let v6484 : Index := Scalar.indexCast arg1
  let c3_4096 : Index := 3#32
  let c320_4097 : Index := 320#32
  ![v6484.toNat, 3, 320]
def k0_off94 (i : grid0.Coords) : Fin 3 → Nat :=
  let arg1 : BitVec 32 := BitVec.ofNat 32 (i 1).val
  let v6599 : Index := Scalar.indexCast arg1
  let c4_4154 : Index := 4#32
  let c0_4155 : Index := 0#32
  ![v6599.toNat, 4, 0]
def k0_off95 (i : grid0.Coords) : Fin 3 → Nat :=
  let arg1 : BitVec 32 := BitVec.ofNat 32 (i 1).val
  let v6604 : Index := Scalar.indexCast arg1
  let c5_4156 : Index := 5#32
  let c0_4157 : Index := 0#32
  ![v6604.toNat, 5, 0]
def k0_off96 (i : grid0.Coords) : Fin 3 → Nat :=
  let arg1 : BitVec 32 := BitVec.ofNat 32 (i 1).val
  let v6667 : Index := Scalar.indexCast arg1
  let c4_4180 : Index := 4#32
  let c64_4181 : Index := 64#32
  ![v6667.toNat, 4, 64]
def k0_off97 (i : grid0.Coords) : Fin 3 → Nat :=
  let arg1 : BitVec 32 := BitVec.ofNat 32 (i 1).val
  let v6672 : Index := Scalar.indexCast arg1
  let c5_4182 : Index := 5#32
  let c64_4183 : Index := 64#32
  ![v6672.toNat, 5, 64]
def k0_off98 (i : grid0.Coords) : Fin 3 → Nat :=
  let arg1 : BitVec 32 := BitVec.ofNat 32 (i 1).val
  let v6732 : Index := Scalar.indexCast arg1
  let c4_4206 : Index := 4#32
  let c128_4207 : Index := 128#32
  ![v6732.toNat, 4, 128]
def k0_off99 (i : grid0.Coords) : Fin 3 → Nat :=
  let arg1 : BitVec 32 := BitVec.ofNat 32 (i 1).val
  let v6737 : Index := Scalar.indexCast arg1
  let c5_4208 : Index := 5#32
  let c128_4209 : Index := 128#32
  ![v6737.toNat, 5, 128]
def k0_off100 (i : grid0.Coords) : Fin 3 → Nat :=
  let arg1 : BitVec 32 := BitVec.ofNat 32 (i 1).val
  let v6833 : Index := Scalar.indexCast arg1
  let c4_4266 : Index := 4#32
  let c192_4267 : Index := 192#32
  ![v6833.toNat, 4, 192]
def k0_off101 (i : grid0.Coords) : Fin 3 → Nat :=
  let arg1 : BitVec 32 := BitVec.ofNat 32 (i 1).val
  let v6838 : Index := Scalar.indexCast arg1
  let c5_4268 : Index := 5#32
  let c192_4269 : Index := 192#32
  ![v6838.toNat, 5, 192]
def k0_off102 (i : grid0.Coords) : Fin 3 → Nat :=
  let arg1 : BitVec 32 := BitVec.ofNat 32 (i 1).val
  let v6908 : Index := Scalar.indexCast arg1
  let c4_4294 : Index := 4#32
  let c256_4295 : Index := 256#32
  ![v6908.toNat, 4, 256]
def k0_off103 (i : grid0.Coords) : Fin 3 → Nat :=
  let arg1 : BitVec 32 := BitVec.ofNat 32 (i 1).val
  let v6913 : Index := Scalar.indexCast arg1
  let c5_4296 : Index := 5#32
  let c256_4297 : Index := 256#32
  ![v6913.toNat, 5, 256]
def k0_off104 (i : grid0.Coords) : Fin 3 → Nat :=
  let arg1 : BitVec 32 := BitVec.ofNat 32 (i 1).val
  let v6980 : Index := Scalar.indexCast arg1
  let c4_4322 : Index := 4#32
  let c320_4323 : Index := 320#32
  ![v6980.toNat, 4, 320]
def k0_off105 (i : grid0.Coords) : Fin 3 → Nat :=
  let arg1 : BitVec 32 := BitVec.ofNat 32 (i 1).val
  let v6985 : Index := Scalar.indexCast arg1
  let c5_4324 : Index := 5#32
  let c320_4325 : Index := 320#32
  ![v6985.toNat, 5, 320]
def k0_off106 (i : grid0.Coords) : Fin 3 → Nat :=
  let arg1 : BitVec 32 := BitVec.ofNat 32 (i 1).val
  let v7100 : Index := Scalar.indexCast arg1
  let c6_4381 : Index := 6#32
  let c0_4382 : Index := 0#32
  ![v7100.toNat, 6, 0]
def k0_off107 (i : grid0.Coords) : Fin 3 → Nat :=
  let arg1 : BitVec 32 := BitVec.ofNat 32 (i 1).val
  let v7105 : Index := Scalar.indexCast arg1
  let c7_4383 : Index := 7#32
  let c0_4384 : Index := 0#32
  ![v7105.toNat, 7, 0]
def k0_off108 (i : grid0.Coords) : Fin 3 → Nat :=
  let arg1 : BitVec 32 := BitVec.ofNat 32 (i 1).val
  let v7168 : Index := Scalar.indexCast arg1
  let c6_4407 : Index := 6#32
  let c64_4408 : Index := 64#32
  ![v7168.toNat, 6, 64]
def k0_off109 (i : grid0.Coords) : Fin 3 → Nat :=
  let arg1 : BitVec 32 := BitVec.ofNat 32 (i 1).val
  let v7173 : Index := Scalar.indexCast arg1
  let c7_4409 : Index := 7#32
  let c64_4410 : Index := 64#32
  ![v7173.toNat, 7, 64]
def k0_off110 (i : grid0.Coords) : Fin 3 → Nat :=
  let arg1 : BitVec 32 := BitVec.ofNat 32 (i 1).val
  let v7233 : Index := Scalar.indexCast arg1
  let c6_4433 : Index := 6#32
  let c128_4434 : Index := 128#32
  ![v7233.toNat, 6, 128]
def k0_off111 (i : grid0.Coords) : Fin 3 → Nat :=
  let arg1 : BitVec 32 := BitVec.ofNat 32 (i 1).val
  let v7238 : Index := Scalar.indexCast arg1
  let c7_4435 : Index := 7#32
  let c128_4436 : Index := 128#32
  ![v7238.toNat, 7, 128]
def k0_off112 (i : grid0.Coords) : Fin 3 → Nat :=
  let arg1 : BitVec 32 := BitVec.ofNat 32 (i 1).val
  let v7334 : Index := Scalar.indexCast arg1
  let c6_4493 : Index := 6#32
  let c192_4494 : Index := 192#32
  ![v7334.toNat, 6, 192]
def k0_off113 (i : grid0.Coords) : Fin 3 → Nat :=
  let arg1 : BitVec 32 := BitVec.ofNat 32 (i 1).val
  let v7339 : Index := Scalar.indexCast arg1
  let c7_4495 : Index := 7#32
  let c192_4496 : Index := 192#32
  ![v7339.toNat, 7, 192]
def k0_off114 (i : grid0.Coords) : Fin 3 → Nat :=
  let arg1 : BitVec 32 := BitVec.ofNat 32 (i 1).val
  let v7409 : Index := Scalar.indexCast arg1
  let c6_4521 : Index := 6#32
  let c256_4522 : Index := 256#32
  ![v7409.toNat, 6, 256]
def k0_off115 (i : grid0.Coords) : Fin 3 → Nat :=
  let arg1 : BitVec 32 := BitVec.ofNat 32 (i 1).val
  let v7414 : Index := Scalar.indexCast arg1
  let c7_4523 : Index := 7#32
  let c256_4524 : Index := 256#32
  ![v7414.toNat, 7, 256]
def k0_off116 (i : grid0.Coords) : Fin 3 → Nat :=
  let arg1 : BitVec 32 := BitVec.ofNat 32 (i 1).val
  let v7481 : Index := Scalar.indexCast arg1
  let c6_4549 : Index := 6#32
  let c320_4550 : Index := 320#32
  ![v7481.toNat, 6, 320]
def k0_off117 (i : grid0.Coords) : Fin 3 → Nat :=
  let arg1 : BitVec 32 := BitVec.ofNat 32 (i 1).val
  let v7486 : Index := Scalar.indexCast arg1
  let c7_4551 : Index := 7#32
  let c320_4552 : Index := 320#32
  ![v7486.toNat, 7, 320]
def k0_cond2 (i : grid0.Coords) : BitVec 1 :=
  let arg1 : BitVec 32 := BitVec.ofNat 32 (i 1).val
  let c6_i32_4553 : BitVec 32 := 6#32
  let v7490 : BitVec 1 := Scalar.cmpi .eq arg1 c6_i32_4553
  let v7491 : BitVec 32 := Scalar.extui v7490
  let c0_i32_4554 : BitVec 32 := 0#32
  let v7492 : BitVec 1 := Scalar.cmpi .ne v7491 c0_i32_4554
  v7492

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x384x1x8x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x1x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x1x8x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x56 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "ln_2" => some ((Real.log 2 : ℝ) : EReal)
  | "log2_3" => some (((Real.log 3) * (Real.log 2)⁻¹ : ℝ) : EReal)
  | "log2_e" => some (((Real.log 2)⁻¹ : ℝ) : EReal)
  | "mask" => some ⊥
  | _ => none
-- ==== ReferenceIdeal.lean ====
abbrev S4x384x56x128 : Shape := ⟨4, ![4, 384, 56, 128]⟩
abbrev S4x56 : Shape := ⟨2, ![4, 56]⟩
abbrev S3 : Shape := ⟨1, ![3]⟩
abbrev S_ : Shape := ⟨0, ![]⟩
abbrev S4x56x384x384 : Shape := ⟨4, ![4, 56, 384, 384]⟩
abbrev S4x56x1x1 : Shape := ⟨4, ![4, 56, 1, 1]⟩
abbrev S3x1x1x1 : Shape := ⟨4, ![3, 1, 1, 1]⟩
abbrev S3x56x384x384 : Shape := ⟨4, ![3, 56, 384, 384]⟩
abbrev S3x56x384x1 : Shape := ⟨4, ![3, 56, 384, 1]⟩
abbrev S3x56x384 : Shape := ⟨3, ![3, 56, 384]⟩
abbrev S3x1x56x384 : Shape := ⟨4, ![3, 1, 56, 384]⟩
abbrev S3x1x56x384x384 : Shape := ⟨5, ![3, 1, 56, 384, 384]⟩
abbrev S1x4x56x384x384 : Shape := ⟨5, ![1, 4, 56, 384, 384]⟩
abbrev S3x4x56x384x384 : Shape := ⟨5, ![3, 4, 56, 384, 384]⟩
abbrev S3x4x56x384 : Shape := ⟨4, ![3, 4, 56, 384]⟩
abbrev S3x4x56x384x1 : Shape := ⟨5, ![3, 4, 56, 384, 1]⟩
abbrev S4x56x128x3x384 : Shape := ⟨5, ![4, 56, 128, 3, 384]⟩
abbrev S3x4x56x384x128 : Shape := ⟨5, ![3, 4, 56, 384, 128]⟩
abbrev S1x4x56x1x1 : Shape := ⟨5, ![1, 4, 56, 1, 1]⟩
abbrev S4x56x384 : Shape := ⟨3, ![4, 56, 384]⟩
abbrev S1x4x56x384 : Shape := ⟨4, ![1, 4, 56, 384]⟩
abbrev S4x56x384x128 : Shape := ⟨4, ![4, 56, 384, 128]⟩
abbrev S4x384x7168 : Shape := ⟨3, ![4, 384, 7168]⟩
abbrev S4x384x56 : Shape := ⟨3, ![4, 384, 56]⟩

abbrev nBuf : Space → Nat
  | .hbm => 110
  | .vmem => 6
  | .smem => 0
  | _ => 0

abbrev bufTy : (tb : Table) → Fin (tcTables nBuf tb) → BufTy
  | .hbm, ⟨0, _⟩ => ⟨S4x384x56x128, .i8⟩
  | .hbm, ⟨1, _⟩ => ⟨S4x384x56x128, .i8⟩
  | .hbm, ⟨2, _⟩ => ⟨S4x384x56x128, .i8⟩
  | .hbm, ⟨3, _⟩ => ⟨S4x56, .f32⟩
  | .hbm, ⟨4, _⟩ => ⟨S4x56, .f32⟩
  | .hbm, ⟨5, _⟩ => ⟨S4x56, .f32⟩
  | .hbm, ⟨6, _⟩ => ⟨S3, .i32⟩
  | .hbm, ⟨7, _⟩ => ⟨S3, .i32⟩
  | .hbm, ⟨8, _⟩ => ⟨S4x384x56x128, .f32⟩
  | .hbm, ⟨9, _⟩ => ⟨S4x384x56x128, .f32⟩
  | .hbm, ⟨10, _⟩ => ⟨S4x384x56x128, .f32⟩
  | .hbm, ⟨11, _⟩ => ⟨S4x56, .f32⟩
  | .hbm, ⟨12, _⟩ => ⟨S_, .f32⟩
  | .hbm, ⟨13, _⟩ => ⟨S4x56, .f32⟩
  | .hbm, ⟨14, _⟩ => ⟨S4x56, .f32⟩
  | .hbm, ⟨15, _⟩ => ⟨S4x56x384x384, .f32⟩
  | .hbm, ⟨16, _⟩ => ⟨S4x56x1x1, .f32⟩
  | .hbm, ⟨17, _⟩ => ⟨S4x56x384x384, .f32⟩
  | .hbm, ⟨18, _⟩ => ⟨S4x56x384x384, .f32⟩
  | .hbm, ⟨19, _⟩ => ⟨S3x1x1x1, .i32⟩
  | .hbm, ⟨20, _⟩ => ⟨S3x1x1x1, .i32⟩
  | .hbm, ⟨21, _⟩ => ⟨S3x56x384x384, .i32⟩
  | .hbm, ⟨22, _⟩ => ⟨S3x56x384x384, .i32⟩
  | .hbm, ⟨23, _⟩ => ⟨S3x56x384x384, .i32⟩
  | .hbm, ⟨24, _⟩ => ⟨S3x56x384x384, .i32⟩
  | .hbm, ⟨25, _⟩ => ⟨S3x56x384x384, .i32⟩
  | .hbm, ⟨26, _⟩ => ⟨S3x56x384x384, .i32⟩
  | .hbm, ⟨27, _⟩ => ⟨S3x56x384x384, .i32⟩
  | .hbm, ⟨28, _⟩ => ⟨S3x56x384x384, .i1⟩
  | .hbm, ⟨29, _⟩ => ⟨S3x56x384x384, .i32⟩
  | .hbm, ⟨30, _⟩ => ⟨S3x56x384x384, .i32⟩
  | .hbm, ⟨31, _⟩ => ⟨S3x56x384x384, .i1⟩
  | .hbm, ⟨32, _⟩ => ⟨S3x56x384x384, .i1⟩
  | .hbm, ⟨33, _⟩ => ⟨S3x56x384x384, .i1⟩
  | .hbm, ⟨34, _⟩ => ⟨S3x56x384x384, .i1⟩
  | .hbm, ⟨35, _⟩ => ⟨S3x56x384x384, .i32⟩
  | .hbm, ⟨36, _⟩ => ⟨S3x56x384x384, .i32⟩
  | .hbm, ⟨37, _⟩ => ⟨S3x56x384x384, .i32⟩
  | .hbm, ⟨38, _⟩ => ⟨S3x56x384x384, .i32⟩
  | .hbm, ⟨39, _⟩ => ⟨S3x56x384x384, .i1⟩
  | .hbm, ⟨40, _⟩ => ⟨S3x56x384x384, .i1⟩
  | .hbm, ⟨41, _⟩ => ⟨S3x56x384x1, .i1⟩
  | .hbm, ⟨42, _⟩ => ⟨S3x56x384, .i1⟩
  | .hbm, ⟨43, _⟩ => ⟨S3x1x56x384, .i1⟩
  | .hbm, ⟨44, _⟩ => ⟨S3x1x56x384x384, .i1⟩
  | .hbm, ⟨45, _⟩ => ⟨S1x4x56x384x384, .f32⟩
  | .hbm, ⟨46, _⟩ => ⟨S_, .f32⟩
  | .hbm, ⟨47, _⟩ => ⟨S_, .f32⟩
  | .hbm, ⟨48, _⟩ => ⟨S3x4x56x384x384, .i1⟩
  | .hbm, ⟨49, _⟩ => ⟨S3x4x56x384x384, .f32⟩
  | .hbm, ⟨50, _⟩ => ⟨S3x4x56x384x384, .f32⟩
  | .hbm, ⟨51, _⟩ => ⟨S3x4x56x384x384, .f32⟩
  | .hbm, ⟨52, _⟩ => ⟨S_, .f32⟩
  | .hbm, ⟨53, _⟩ => ⟨S3x4x56x384, .f32⟩
  | .hbm, ⟨54, _⟩ => ⟨S_, .f32⟩
  | .hbm, ⟨55, _⟩ => ⟨S_, .f32⟩
  | .hbm, ⟨56, _⟩ => ⟨S3x4x56x384, .i1⟩
  | .hbm, ⟨57, _⟩ => ⟨S3x4x56x384, .f32⟩
  | .hbm, ⟨58, _⟩ => ⟨S3x4x56x384, .f32⟩
  | .hbm, ⟨59, _⟩ => ⟨S3x4x56x384x1, .f32⟩
  | .hbm, ⟨60, _⟩ => ⟨S3x4x56x384x384, .f32⟩
  | .hbm, ⟨61, _⟩ => ⟨S3x4x56x384x384, .f32⟩
  | .hbm, ⟨62, _⟩ => ⟨S3x4x56x384x384, .f32⟩
  | .hbm, ⟨63, _⟩ => ⟨S_, .f32⟩
  | .hbm, ⟨64, _⟩ => ⟨S3x4x56x384, .f32⟩
  | .hbm, ⟨65, _⟩ => ⟨S_, .f32⟩
  | .hbm, ⟨66, _⟩ => ⟨S_, .f32⟩
  | .hbm, ⟨67, _⟩ => ⟨S3x4x56x384, .i1⟩
  | .hbm, ⟨68, _⟩ => ⟨S3x4x56x384, .f32⟩
  | .hbm, ⟨69, _⟩ => ⟨S3x4x56x384, .f32⟩
  | .hbm, ⟨70, _⟩ => ⟨S3x4x56x384x1, .f32⟩
  | .hbm, ⟨71, _⟩ => ⟨S3x4x56x384x384, .f32⟩
  | .hbm, ⟨72, _⟩ => ⟨S3x4x56x384x384, .f32⟩
  | .hbm, ⟨73, _⟩ => ⟨S3x4x56x384x384, .bf16⟩
  | .hbm, ⟨74, _⟩ => ⟨S4x384x56x128, .bf16⟩
  | .hbm, ⟨75, _⟩ => ⟨S4x56x128x3x384, .f32⟩
  | .hbm, ⟨76, _⟩ => ⟨S3x4x56x384x128, .f32⟩
  | .hbm, ⟨77, _⟩ => ⟨S1x4x56x1x1, .f32⟩
  | .hbm, ⟨78, _⟩ => ⟨S3x4x56x384x128, .f32⟩
  | .hbm, ⟨79, _⟩ => ⟨S3x4x56x384x128, .f32⟩
  | .hbm, ⟨80, _⟩ => ⟨S3x4x56x384, .f32⟩
  | .hbm, ⟨81, _⟩ => ⟨S3x4x56x384, .f32⟩
  | .hbm, ⟨82, _⟩ => ⟨S_, .f32⟩
  | .hbm, ⟨83, _⟩ => ⟨S_, .f32⟩
  | .hbm, ⟨84, _⟩ => ⟨S3x4x56x384, .i1⟩
  | .hbm, ⟨85, _⟩ => ⟨S3x4x56x384, .f32⟩
  | .hbm, ⟨86, _⟩ => ⟨S3x4x56x384, .f32⟩
  | .hbm, ⟨87, _⟩ => ⟨S_, .f32⟩
  | .hbm, ⟨88, _⟩ => ⟨S4x56x384, .f32⟩
  | .hbm, ⟨89, _⟩ => ⟨S1x4x56x384, .f32⟩
  | .hbm, ⟨90, _⟩ => ⟨S3x4x56x384, .f32⟩
  | .hbm, ⟨91, _⟩ => ⟨S3x4x56x384, .f32⟩
  | .hbm, ⟨92, _⟩ => ⟨S3x4x56x384, .f32⟩
  | .hbm, ⟨93, _⟩ => ⟨S_, .f32⟩
  | .hbm, ⟨94, _⟩ => ⟨S4x56x384, .f32⟩
  | .hbm, ⟨95, _⟩ => ⟨S4x56x384, .f32⟩
  | .hbm, ⟨96, _⟩ => ⟨S4x56x384, .f32⟩
  | .hbm, ⟨97, _⟩ => ⟨S1x4x56x384, .f32⟩
  | .hbm, ⟨98, _⟩ => ⟨S3x4x56x384, .f32⟩
  | .hbm, ⟨99, _⟩ => ⟨S3x4x56x384, .f32⟩
  | .hbm, ⟨100, _⟩ => ⟨S3x4x56x384, .f32⟩
  | .hbm, ⟨101, _⟩ => ⟨S3x4x56x384x1, .f32⟩
  | .hbm, ⟨102, _⟩ => ⟨S3x4x56x384x128, .f32⟩
  | .hbm, ⟨103, _⟩ => ⟨S3x4x56x384x128, .f32⟩
  | .hbm, ⟨104, _⟩ => ⟨S_, .f32⟩
  | .hbm, ⟨105, _⟩ => ⟨S4x56x384x128, .f32⟩
  | .hbm, ⟨106, _⟩ => ⟨S4x384x56x128, .f32⟩
  | .hbm, ⟨107, _⟩ => ⟨S4x384x7168, .f32⟩
  | .hbm, ⟨108, _⟩ => ⟨S4x384x7168, .bf16⟩
  | .hbm, ⟨109, _⟩ => ⟨S4x384x56, .f32⟩
  | .local _ .vmem, ⟨0, _⟩ => ⟨S4x384x56x128, .i8⟩
  | .local _ .vmem, ⟨1, _⟩ => ⟨S4x384x56x128, .i8⟩
  | .local _ .vmem, ⟨2, _⟩ => ⟨S4x384x56x128, .i8⟩
  | .local _ .vmem, ⟨3, _⟩ => ⟨S4x384x56x128, .f32⟩
  | .local _ .vmem, ⟨4, _⟩ => ⟨S4x384x56x128, .f32⟩
  | .local _ .vmem, ⟨5, _⟩ => ⟨S4x384x56x128, .f32⟩
  | _, _ => ⟨S4x384x56x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_6 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_8 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x384x56x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384x56x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384x56x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384x56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384x56x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384x56x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Body.lean ====
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The rows of the gathered keys, in closed form: the residue modulo six of the head is arithmetic of the grid's
    second coordinate. -/

instance off61_0_0_0_0 (i : grid0.Coords) : ClosedOff (k0_off61 i 0#32 0#32 0#32 0#32) :=
  ⟨![2 * (0 + (8 * (i 1).val + 0) % 6) + 0, 0], by revert i; decide +kernel⟩

instance off61_0_0_1_0 (i : grid0.Coords) : ClosedOff (k0_off61 i 0#32 0#32 1#32 0#32) :=
  ⟨![2 * (0 + (8 * (i 1).val + 1) % 6) + 0, 0], by revert i; decide +kernel⟩

instance off61_0_0_2_0 (i : grid0.Coords) : ClosedOff (k0_off61 i 0#32 0#32 2#32 0#32) :=
  ⟨![2 * (0 + (8 * (i 1).val + 2) % 6) + 0, 0], by revert i; decide +kernel⟩

instance off61_0_0_3_0 (i : grid0.Coords) : ClosedOff (k0_off61 i 0#32 0#32 3#32 0#32) :=
  ⟨![2 * (0 + (8 * (i 1).val + 3) % 6) + 0, 0], by revert i; decide +kernel⟩

instance off61_0_4_0_1 (i : grid0.Coords) : ClosedOff (k0_off61 i 0#32 4#32 0#32 1#32) :=
  ⟨![2 * (0 + (8 * (i 1).val + 4) % 6) + 1, 0], by revert i; decide +kernel⟩

instance off61_0_4_1_1 (i : grid0.Coords) : ClosedOff (k0_off61 i 0#32 4#32 1#32 1#32) :=
  ⟨![2 * (0 + (8 * (i 1).val + 5) % 6) + 1, 0], by revert i; decide +kernel⟩

instance off61_0_4_2_1 (i : grid0.Coords) : ClosedOff (k0_off61 i 0#32 4#32 2#32 1#32) :=
  ⟨![2 * (0 + (8 * (i 1).val + 6) % 6) + 1, 0], by revert i; decide +kernel⟩

instance off61_0_4_3_1 (i : grid0.Coords) : ClosedOff (k0_off61 i 0#32 4#32 3#32 1#32) :=
  ⟨![2 * (0 + (8 * (i 1).val + 7) % 6) + 1, 0], by revert i; decide +kernel⟩

instance off61_6_0_0_0 (i : grid0.Coords) : ClosedOff (k0_off61 i 6#32 0#32 0#32 0#32) :=
  ⟨![2 * (6 + (8 * (i 1).val + 0) % 6) + 0, 0], by revert i; decide +kernel⟩

instance off61_6_0_1_0 (i : grid0.Coords) : ClosedOff (k0_off61 i 6#32 0#32 1#32 0#32) :=
  ⟨![2 * (6 + (8 * (i 1).val + 1) % 6) + 0, 0], by revert i; decide +kernel⟩

instance off61_6_0_2_0 (i : grid0.Coords) : ClosedOff (k0_off61 i 6#32 0#32 2#32 0#32) :=
  ⟨![2 * (6 + (8 * (i 1).val + 2) % 6) + 0, 0], by revert i; decide +kernel⟩

instance off61_6_0_3_0 (i : grid0.Coords) : ClosedOff (k0_off61 i 6#32 0#32 3#32 0#32) :=
  ⟨![2 * (6 + (8 * (i 1).val + 3) % 6) + 0, 0], by revert i; decide +kernel⟩

instance off61_6_4_0_1 (i : grid0.Coords) : ClosedOff (k0_off61 i 6#32 4#32 0#32 1#32) :=
  ⟨![2 * (6 + (8 * (i 1).val + 4) % 6) + 1, 0], by revert i; decide +kernel⟩

instance off61_6_4_1_1 (i : grid0.Coords) : ClosedOff (k0_off61 i 6#32 4#32 1#32 1#32) :=
  ⟨![2 * (6 + (8 * (i 1).val + 5) % 6) + 1, 0], by revert i; decide +kernel⟩

instance off61_6_4_2_1 (i : grid0.Coords) : ClosedOff (k0_off61 i 6#32 4#32 2#32 1#32) :=
  ⟨![2 * (6 + (8 * (i 1).val + 6) % 6) + 1, 0], by revert i; decide +kernel⟩

instance off61_6_4_3_1 (i : grid0.Coords) : ClosedOff (k0_off61 i 6#32 4#32 3#32 1#32) :=
  ⟨![2 * (6 + (8 * (i 1).val + 7) % 6) + 1, 0], by revert i; decide +kernel⟩

instance off61_12_0_0_0 (i : grid0.Coords) : ClosedOff (k0_off61 i 12#32 0#32 0#32 0#32) :=
  ⟨![2 * (12 + (8 * (i 1).val + 0) % 6) + 0, 0], by revert i; decide +kernel⟩

instance off61_12_0_1_0 (i : grid0.Coords) : ClosedOff (k0_off61 i 12#32 0#32 1#32 0#32) :=
  ⟨![2 * (12 + (8 * (i 1).val + 1) % 6) + 0, 0], by revert i; decide +kernel⟩

instance off61_12_0_2_0 (i : grid0.Coords) : ClosedOff (k0_off61 i 12#32 0#32 2#32 0#32) :=
  ⟨![2 * (12 + (8 * (i 1).val + 2) % 6) + 0, 0], by revert i; decide +kernel⟩

instance off61_12_0_3_0 (i : grid0.Coords) : ClosedOff (k0_off61 i 12#32 0#32 3#32 0#32) :=
  ⟨![2 * (12 + (8 * (i 1).val + 3) % 6) + 0, 0], by revert i; decide +kernel⟩

instance off61_12_4_0_1 (i : grid0.Coords) : ClosedOff (k0_off61 i 12#32 4#32 0#32 1#32) :=
  ⟨![2 * (12 + (8 * (i 1).val + 4) % 6) + 1, 0], by revert i; decide +kernel⟩

instance off61_12_4_1_1 (i : grid0.Coords) : ClosedOff (k0_off61 i 12#32 4#32 1#32 1#32) :=
  ⟨![2 * (12 + (8 * (i 1).val + 5) % 6) + 1, 0], by revert i; decide +kernel⟩

instance off61_12_4_2_1 (i : grid0.Coords) : ClosedOff (k0_off61 i 12#32 4#32 2#32 1#32) :=
  ⟨![2 * (12 + (8 * (i 1).val + 6) % 6) + 1, 0], by revert i; decide +kernel⟩

instance off61_12_4_3_1 (i : grid0.Coords) : ClosedOff (k0_off61 i 12#32 4#32 3#32 1#32) :=
  ⟨![2 * (12 + (8 * (i 1).val + 7) % 6) + 1, 0], by revert i; decide +kernel⟩

instance off61_18_0_0_0 (i : grid0.Coords) : ClosedOff (k0_off61 i 18#32 0#32 0#32 0#32) :=
  ⟨![2 * (18 + (8 * (i 1).val + 0) % 6) + 0, 0], by revert i; decide +kernel⟩

instance off61_18_0_1_0 (i : grid0.Coords) : ClosedOff (k0_off61 i 18#32 0#32 1#32 0#32) :=
  ⟨![2 * (18 + (8 * (i 1).val + 1) % 6) + 0, 0], by revert i; decide +kernel⟩

instance off61_18_0_2_0 (i : grid0.Coords) : ClosedOff (k0_off61 i 18#32 0#32 2#32 0#32) :=
  ⟨![2 * (18 + (8 * (i 1).val + 2) % 6) + 0, 0], by revert i; decide +kernel⟩

instance off61_18_0_3_0 (i : grid0.Coords) : ClosedOff (k0_off61 i 18#32 0#32 3#32 0#32) :=
  ⟨![2 * (18 + (8 * (i 1).val + 3) % 6) + 0, 0], by revert i; decide +kernel⟩

instance off61_18_4_0_1 (i : grid0.Coords) : ClosedOff (k0_off61 i 18#32 4#32 0#32 1#32) :=
  ⟨![2 * (18 + (8 * (i 1).val + 4) % 6) + 1, 0], by revert i; decide +kernel⟩

instance off61_18_4_1_1 (i : grid0.Coords) : ClosedOff (k0_off61 i 18#32 4#32 1#32 1#32) :=
  ⟨![2 * (18 + (8 * (i 1).val + 5) % 6) + 1, 0], by revert i; decide +kernel⟩

instance off61_18_4_2_1 (i : grid0.Coords) : ClosedOff (k0_off61 i 18#32 4#32 2#32 1#32) :=
  ⟨![2 * (18 + (8 * (i 1).val + 6) % 6) + 1, 0], by revert i; decide +kernel⟩

instance off61_18_4_3_1 (i : grid0.Coords) : ClosedOff (k0_off61 i 18#32 4#32 3#32 1#32) :=
  ⟨![2 * (18 + (8 * (i 1).val + 7) % 6) + 1, 0], by revert i; decide +kernel⟩

/-- The grid's second coordinate is below seven. -/
theorem i1_lt (i : grid0.Coords) : (i 1).val < 7 := (i 1).isLt

/-- What the bias table's buffer holds after the guarded build of the table: the loop's stores over what was there at
    the grid's first point, what was there at every other one. -/
def biasAfter (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f10 : BufTy.Contents (Elt F) arg10.view.ty) :
    BufTy.Contents (Elt F) arg10.view.ty :=
  if h : k0_cond1 i = 1#1 then
    arg10.view.writes (Elt F) f10 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h k0_t1_loop.trips)
  else f10

/-- A guarded program before a continuation both ways share: run under its condition it takes `R` to `S`, and without
    the condition `R` is `S`; the continuation starts from `S`. -/
theorem wp_dite_join {p : Prop} [Decidable p] {α : Type} (Q : α → sProp 𝕄)
    {R S : sProp 𝕄} (A : p → Prog (TpuEff nD τ sig (Elt F) Λ₀ .tc) Unit) (J : Prog (TpuEff nD τ sig (Elt F) Λ₀ .tc) α)
    (c : Dev nD)
    (hA : ∀ h : p, R ⊢ wp (M := 𝕄) frame (wpE (defs₀ (F := F)) Variants.none (c : Thread nD τ) none) Set.univ (A h) (fun _ => S))
    (hn : ¬p → R ⊢ S) :
    iprop(R ∗ (S -∗ wp (M := 𝕄) frame (wpE (defs₀ (F := F)) Variants.none (c : Thread nD τ) none) Set.univ (J) Q))
      ⊢ wp (M := 𝕄) frame (wpE (defs₀ (F := F)) Variants.none (c : Thread nD τ) none) Set.univ
          ((if h : p then (A h >>= fun _ => J) else J : Prog (TpuEff nD τ sig (Elt F) Λ₀ .tc) α)) Q := by
  by_cases h : p
  · rw [dif_pos h, wp_bind]
    iintro ⟨HR, HJ⟩
    iapply (wp_wand_r Idealize.ShloMosaic.frame (wpE (defs₀ (F := F)) Variants.none (c : Thread nD τ) none))
    isplitl [HR]
    · iapply (hA h); iexact HR
    iintro %_ HS
    iapply HJ; iexact HS
  · rw [dif_neg h]
    iintro ⟨HR, HJ⟩
    iapply HJ
    iapply (hn h); iexact HR

/-- The build of the bias table, run: the table's buffer goes from `f10` to `biasAfter`. -/
theorem bias_run (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f10 : BufTy.Contents (Elt F) arg10.view.ty) (h : k0_cond1 i = 1#1) :
    (arg10.view.loc (c : Thread nD τ) ↦[arg10.view.set]{fullShare} f10)
      ⊢ wp (M := 𝕄) frame (wpE (defs₀ (F := F)) Variants.none (c : Thread nD τ) none) Set.univ
          (Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 h)) (fun _ => (arg10.view.loc (c : Thread nD τ) ↦[arg10.view.set]{fullShare} biasAfter c i arg2 harg2 arg3 harg3 arg4 harg4 arg5 harg5 arg6 harg6 arg7 harg7 arg8 harg8 arg9 harg9 arg10 harg10 arg11 harg11 arg12 harg12 arg13 harg13 arg14 harg14 f10)) := by
  unfold biasAfter
  rw [dif_pos h]
  iintro H10
  sl_exec
  iexact H10

/-- What the log-sum-exp block holds after the body: at the last group of a batch row the transposed scratch `g13`, at
    every other one what was there. -/
def lseAfter (i : grid0.Coords) (arg9 : Memref sig .tc .vmem S1x384x56 .f32) (arg13 : Memref sig .tc .vmem S7x8x384 .f32)
    (f9 : BufTy.Contents (Elt F) arg9.view.ty) (g13 : BufTy.Contents (Elt F) arg13.view.ty) : BufTy.Contents (Elt F) arg9.view.ty :=
  if hc : k0_cond2 i = 1#1 then
    arg9.view.writes (Elt F) f9
      [⟨Rect.unit ![0, 0, 0] S1x384x56.size inb_S1x384x56_S1x384x56_0_0_0,
        k0_pay3 (View.readAt (Elt F) arg13.view
          (Rect.unit ![0, 0, 0] S7x8x384.size inb_S7x8x384_S7x8x384_0_0_0).toLoadRect g13)⟩]
  else f9

/-- THE BODY, RUN at symbolic operands: the pieces it writes into the output block and into the log-sum-exp scratch —
    they depend on the inputs and on the bias table alone, whatever the output, the scratch and the word buffers held
    before — WITH the proof that from all the buffers held whole it runs to its return, handing the inputs back as they
    were. `f10'` is what the bias table holds after the guarded build. -/
def BodySpec (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f10' : BufTy.Contents (Elt F) arg10.view.ty)
    (W : List (View.Piece (Elt F) S1x384x1024 .bf16) × List (View.Piece (Elt F) S7x8x384 .f32)) : Prop :=
  ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄)
    (_ : ∀ h : k0_cond1 i = 1#1, (arg10.view.loc (c : Thread nD τ) ↦[arg10.view.set]{fullShare} f10)
      ⊢ wp (M := 𝕄) frame (wpE (defs₀ (F := F)) Variants.none (c : Thread nD τ) none) Set.univ
        (Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 h)) (fun _ => (arg10.view.loc (c : Thread nD τ) ↦[arg10.view.set]{fullShare} f10')))
    (_ : ¬ k0_cond1 i = 1#1 → (arg10.view.loc (c : Thread nD τ) ↦[arg10.view.set]{fullShare} f10) ⊢ ((arg10.view.loc (c : Thread nD τ) ↦[arg10.view.set]{fullShare} f10') : sProp 𝕄)),
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} arg8.view.writes (Elt F) f8 W.1) ∗ (arg9.view.loc (c : Thread nD τ) ↦[arg9.view.set]{fullShare} lseAfter i arg9 arg13 f9 (arg13.view.writes (Elt F) f13 W.2)) ∗ (arg10.view.loc (c : Thread nD τ) ↦[arg10.view.set]{fullShare} f10') ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 W.2) ∗ (∃ f, (arg14.view.loc (c : Thread nD τ) ↦[arg14.view.set]{fullShare} f))) -∗ K ⟨⟩))
      ⊢ wp frame (wpE (defs₀ (F := F)) Variants.none (c : Thread nD τ) none) Set.univ
          (cc0_dilated_attention (F := F) i arg2 harg2 arg3 harg3 arg4 harg4 arg5 harg5 arg6 harg6 arg7 harg7 arg8 harg8 arg9 harg9 arg10 harg10 arg11 harg11 arg12 harg12 arg13 harg13 arg14 harg14) K

/-- The body's run: the pieces it finds, with `BodySpec` of them. -/
def bodyRun (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f10' : BufTy.Contents (Elt F) arg10.view.ty) :
    { W : List (View.Piece (Elt F) S1x384x1024 .bf16) × List (View.Piece (Elt F) S7x8x384 .f32) //
      BodySpec c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f10' W } := by
  refine ⟨⟨?_, ?_⟩, ?run⟩
  case run =>
    unfold BodySpec
    intro f8 f9 f10 f11 f12 f13 f14 K hb hn
    have hi1 := i1_lt i
    iintro ⟨H2, H3, H4, H5, H6, H7, H8, H9, H10, H11, H12, H13, H14, Hk⟩
    sl_exec_parts
    iapply (wp_dite_join (F := F) _ (fun h => (Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 h))) _ c hb hn)
    isplitl [H10]
    · iexact H10
    iintro H10
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · unfold lseAfter; iexact H9
    isplitl [H10]; · iexact H10
    isplitl [H11]; · iexists _; iexact H11
    isplitl [H12]; · iexists _; iexact H12
    isplitl [H13]; · iexact H13
    iexists _; iexact H14

end Cert.Kernel.Hand

end
-- ==== Proof.Kernel.FrameRun.lean ====
module

public import proofs.«01_k».proof.Proof.Kernel.Body
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Pipeline.FrameBody

@[expose] public section

/-! # Kernel: the frame

The launch's proof data with everything the body leaves in its windows left unnamed; the body's obligation from the
body's run; the arguments end unchanged and every counter ends at zero. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg arrRef restRefs)

variable {F : FTy → Type} [FloatOps F] (m : (ℓ : Loc nD τ sig) → Buf (Elt F) ℓ) (ρ : Dev nD → PrngReg)

local notation "𝕄" => MT nD τ sig Unit (Elt F) ℕ (UR sig nD τ) ℕ

/-- The proof data on core `c`: the arrays as the region finds them; nothing said of what the body leaves in a window's
    buffer; the launch's own invariant; full shares; nothing owed. -/
def rdat (c : Dev nD) : RDat τ (Elt F) Unit ℕ (UR sig nD τ) ℕ cfg0 c where
  A w := V m c (arrRef spec0 w)
  after _ _ _ _ := True
  Φ _ := Pipeline.ΦA spec0 c
  q _ := fullShare
  owed _ := 0

theorem rA_eq (c : Dev nD) (w : Fin cfg0.W) : (rdat m c).A w = V m c (arrRef spec0 w) := by dsimp only [rdat]

/-- What the body is called with at a point, the windows' buffers at the contents `Y`, -/
def fPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7))

/-- and what it returns: the same buffers at some contents. -/
def fPost (c : Dev nD) (t : Fin cfg0.N) : sProp 𝕄 :=
  iprop((rdat m c).Φ t.succ ∗ (rdat m c).owesAt () t.succ
    ∗ (∃ X, ⌜True⌝ ∗ owns (c : Thread nD τ) (win0_0.stage (cfg0.slots t 0)) fullShare X) ∗ (∃ X, ⌜True⌝ ∗ owns (c : Thread nD τ) (win0_1.stage (cfg0.slots t 1)) fullShare X) ∗ (∃ X, ⌜True⌝ ∗ owns (c : Thread nD τ) (win0_2.stage (cfg0.slots t 2)) fullShare X) ∗ (∃ X, ⌜True⌝ ∗ owns (c : Thread nD τ) (win0_3.stage (cfg0.slots t 3)) fullShare X) ∗ (∃ X, ⌜True⌝ ∗ owns (c : Thread nD τ) (win0_4.stage (cfg0.slots t 4)) fullShare X) ∗ (∃ X, ⌜True⌝ ∗ owns (c : Thread nD τ) (win0_5.stage (cfg0.slots t 5)) fullShare X) ∗ (∃ X, ⌜True⌝ ∗ owns (c : Thread nD τ) (win0_6.stage (cfg0.slots t 6)) fullShare X) ∗ (∃ X, ⌜True⌝ ∗ owns (c : Thread nD τ) (win0_7.stage (cfg0.slots t 7)) fullShare X))

/-- The body at any point, from any contents of its buffers. -/
theorem sound_body (c : Dev nD) (t : Fin cfg0.N) (Y : (w : Fin cfg0.W) → (cfg0.win w).block.Idx → Elt F (cfg0.win w).elt) :
    fPre m c t Y ⊢ wp frame (wpE (defs₀ (F := F)) Variants.none c none) Set.univ (bodyAt0 t) (fun _ => fPost m c t) := by
  unfold fPre fPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  simp only [← owns_whole]
  unfold owns
  iintro ⟨⟨⟨⟨%g0, %d0, -, S0⟩, ⟨%g1, %d1, -, S1⟩, ⟨%g2, %d2, -, S2⟩, ⟨%g3, %d3, -, S3⟩, ⟨%g4, %d4, -, S4⟩⟩, Hg⟩, Ho, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩⟩
  iapply ((bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5
    (biasAfter c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0)).2 f6 f7 d0 d1 d2 d3 d4 _ (bias_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0)
    (fun h => by unfold biasAfter; rw [dif_neg h]))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, ⟨%e1, S1⟩, ⟨%e2, S2⟩, S3, ⟨%e4, S4⟩⟩
  isplitl [S0 S1 S2 S3 S4 Hg]
  · isplitl [S0 S1 S2 S3 S4]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      iexists _, _; isplitr; swap; · iexact S4
      ipureintro; rfl
    iexact Hg
  isplitl [Ho]; · iexact Ho
  isplitl [H0]
  · iexists _; isplitr; · ipureintro; trivial
    iexists _; isplitr; swap; · iexact H0
    ipureintro; rfl
  isplitl [H1]
  · iexists _; isplitr; · ipureintro; trivial
    iexists _; isplitr; swap; · iexact H1
    ipureintro; rfl
  isplitl [H2]
  · iexists _; isplitr; · ipureintro; trivial
    iexists _; isplitr; swap; · iexact H2
    ipureintro; rfl
  isplitl [H3]
  · iexists _; isplitr; · ipureintro; trivial
    iexists _; isplitr; swap; · iexact H3
    ipureintro; rfl
  isplitl [H4]
  · iexists _; isplitr; · ipureintro; trivial
    iexists _; isplitr; swap; · iexact H4
    ipureintro; rfl
  isplitl [H5]
  · iexists _; isplitr; · ipureintro; trivial
    iexists _; isplitr; swap; · iexact H5
    ipureintro; rfl
  isplitl [H6]
  · iexists _; isplitr; · ipureintro; trivial
    iexists _; isplitr; swap; · iexact H6
    ipureintro; rfl
  iexists _; isplitr; · ipureintro; trivial
  iexists _; isplitr; swap; · iexact H7
  ipureintro; rfl

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) :
    (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The program runs to the end from any memory with zero counters; its argument arrays end unchanged and every
    counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := rA_eq m) (hΦ := fun _ _ => rfl)
    (Q' := _)
    (hQ' := fun r ⟨h, hz⟩ => ⟨fun c =>
      ⟨((h c).2 main_arg0 (Pipeline.mem_restRefs_of main_arg0 (by decide) (by decide))).trans (V_main_arg0 m c),
       ((h c).2 main_arg1 (Pipeline.mem_restRefs_of main_arg1 (by decide) (by decide))).trans (V_main_arg1 m c),
       ((h c).2 main_arg2 (Pipeline.mem_restRefs_of main_arg2 (by decide) (by decide))).trans (V_main_arg2 m c),
       (Pipeline.RDat.FramePost.arr_in h c 0 rfl).trans ((rA_eq m c 0).trans (V_main_arg3 m c)),
       (Pipeline.RDat.FramePost.arr_in h c 1 rfl).trans ((rA_eq m c 1).trans (V_main_arg4 m c)),
       (Pipeline.RDat.FramePost.arr_in h c 2 rfl).trans ((rA_eq m c 2).trans (V_main_arg5 m c))⟩, hz⟩)

end Cert.Kernel.Hand

end
-- ==== Proof.KernelIdeal.Body.lean ====
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The rows of the gathered keys, in closed form: the residue modulo six of the head is arithmetic of the grid's
    second coordinate. -/

instance off61_0_0_0_0 (i : grid0.Coords) : ClosedOff (k0_off61 i 0#32 0#32 0#32 0#32) :=
  ⟨![2 * (0 + (8 * (i 1).val + 0) % 6) + 0, 0], by revert i; decide +kernel⟩

instance off61_0_0_1_0 (i : grid0.Coords) : ClosedOff (k0_off61 i 0#32 0#32 1#32 0#32) :=
  ⟨![2 * (0 + (8 * (i 1).val + 1) % 6) + 0, 0], by revert i; decide +kernel⟩

instance off61_0_0_2_0 (i : grid0.Coords) : ClosedOff (k0_off61 i 0#32 0#32 2#32 0#32) :=
  ⟨![2 * (0 + (8 * (i 1).val + 2) % 6) + 0, 0], by revert i; decide +kernel⟩

instance off61_0_0_3_0 (i : grid0.Coords) : ClosedOff (k0_off61 i 0#32 0#32 3#32 0#32) :=
  ⟨![2 * (0 + (8 * (i 1).val + 3) % 6) + 0, 0], by revert i; decide +kernel⟩

instance off61_0_4_0_1 (i : grid0.Coords) : ClosedOff (k0_off61 i 0#32 4#32 0#32 1#32) :=
  ⟨![2 * (0 + (8 * (i 1).val + 4) % 6) + 1, 0], by revert i; decide +kernel⟩

instance off61_0_4_1_1 (i : grid0.Coords) : ClosedOff (k0_off61 i 0#32 4#32 1#32 1#32) :=
  ⟨![2 * (0 + (8 * (i 1).val + 5) % 6) + 1, 0], by revert i; decide +kernel⟩

instance off61_0_4_2_1 (i : grid0.Coords) : ClosedOff (k0_off61 i 0#32 4#32 2#32 1#32) :=
  ⟨![2 * (0 + (8 * (i 1).val + 6) % 6) + 1, 0], by revert i; decide +kernel⟩

instance off61_0_4_3_1 (i : grid0.Coords) : ClosedOff (k0_off61 i 0#32 4#32 3#32 1#32) :=
  ⟨![2 * (0 + (8 * (i 1).val + 7) % 6) + 1, 0], by revert i; decide +kernel⟩

instance off61_6_0_0_0 (i : grid0.Coords) : ClosedOff (k0_off61 i 6#32 0#32 0#32 0#32) :=
  ⟨![2 * (6 + (8 * (i 1).val + 0) % 6) + 0, 0], by revert i; decide +kernel⟩

instance off61_6_0_1_0 (i : grid0.Coords) : ClosedOff (k0_off61 i 6#32 0#32 1#32 0#32) :=
  ⟨![2 * (6 + (8 * (i 1).val + 1) % 6) + 0, 0], by revert i; decide +kernel⟩

instance off61_6_0_2_0 (i : grid0.Coords) : ClosedOff (k0_off61 i 6#32 0#32 2#32 0#32) :=
  ⟨![2 * (6 + (8 * (i 1).val + 2) % 6) + 0, 0], by revert i; decide +kernel⟩

instance off61_6_0_3_0 (i : grid0.Coords) : ClosedOff (k0_off61 i 6#32 0#32 3#32 0#32) :=
  ⟨![2 * (6 + (8 * (i 1).val + 3) % 6) + 0, 0], by revert i; decide +kernel⟩

instance off61_6_4_0_1 (i : grid0.Coords) : ClosedOff (k0_off61 i 6#32 4#32 0#32 1#32) :=
  ⟨![2 * (6 + (8 * (i 1).val + 4) % 6) + 1, 0], by revert i; decide +kernel⟩

instance off61_6_4_1_1 (i : grid0.Coords) : ClosedOff (k0_off61 i 6#32 4#32 1#32 1#32) :=
  ⟨![2 * (6 + (8 * (i 1).val + 5) % 6) + 1, 0], by revert i; decide +kernel⟩

instance off61_6_4_2_1 (i : grid0.Coords) : ClosedOff (k0_off61 i 6#32 4#32 2#32 1#32) :=
  ⟨![2 * (6 + (8 * (i 1).val + 6) % 6) + 1, 0], by revert i; decide +kernel⟩

instance off61_6_4_3_1 (i : grid0.Coords) : ClosedOff (k0_off61 i 6#32 4#32 3#32 1#32) :=
  ⟨![2 * (6 + (8 * (i 1).val + 7) % 6) + 1, 0], by revert i; decide +kernel⟩

instance off61_12_0_0_0 (i : grid0.Coords) : ClosedOff (k0_off61 i 12#32 0#32 0#32 0#32) :=
  ⟨![2 * (12 + (8 * (i 1).val + 0) % 6) + 0, 0], by revert i; decide +kernel⟩

instance off61_12_0_1_0 (i : grid0.Coords) : ClosedOff (k0_off61 i 12#32 0#32 1#32 0#32) :=
  ⟨![2 * (12 + (8 * (i 1).val + 1) % 6) + 0, 0], by revert i; decide +kernel⟩

instance off61_12_0_2_0 (i : grid0.Coords) : ClosedOff (k0_off61 i 12#32 0#32 2#32 0#32) :=
  ⟨![2 * (12 + (8 * (i 1).val + 2) % 6) + 0, 0], by revert i; decide +kernel⟩

instance off61_12_0_3_0 (i : grid0.Coords) : ClosedOff (k0_off61 i 12#32 0#32 3#32 0#32) :=
  ⟨![2 * (12 + (8 * (i 1).val + 3) % 6) + 0, 0], by revert i; decide +kernel⟩

instance off61_12_4_0_1 (i : grid0.Coords) : ClosedOff (k0_off61 i 12#32 4#32 0#32 1#32) :=
  ⟨![2 * (12 + (8 * (i 1).val + 4) % 6) + 1, 0], by revert i; decide +kernel⟩

instance off61_12_4_1_1 (i : grid0.Coords) : ClosedOff (k0_off61 i 12#32 4#32 1#32 1#32) :=
  ⟨![2 * (12 + (8 * (i 1).val + 5) % 6) + 1, 0], by revert i; decide +kernel⟩

instance off61_12_4_2_1 (i : grid0.Coords) : ClosedOff (k0_off61 i 12#32 4#32 2#32 1#32) :=
  ⟨![2 * (12 + (8 * (i 1).val + 6) % 6) + 1, 0], by revert i; decide +kernel⟩

instance off61_12_4_3_1 (i : grid0.Coords) : ClosedOff (k0_off61 i 12#32 4#32 3#32 1#32) :=
  ⟨![2 * (12 + (8 * (i 1).val + 7) % 6) + 1, 0], by revert i; decide +kernel⟩

instance off61_18_0_0_0 (i : grid0.Coords) : ClosedOff (k0_off61 i 18#32 0#32 0#32 0#32) :=
  ⟨![2 * (18 + (8 * (i 1).val + 0) % 6) + 0, 0], by revert i; decide +kernel⟩

instance off61_18_0_1_0 (i : grid0.Coords) : ClosedOff (k0_off61 i 18#32 0#32 1#32 0#32) :=
  ⟨![2 * (18 + (8 * (i 1).val + 1) % 6) + 0, 0], by revert i; decide +kernel⟩

instance off61_18_0_2_0 (i : grid0.Coords) : ClosedOff (k0_off61 i 18#32 0#32 2#32 0#32) :=
  ⟨![2 * (18 + (8 * (i 1).val + 2) % 6) + 0, 0], by revert i; decide +kernel⟩

instance off61_18_0_3_0 (i : grid0.Coords) : ClosedOff (k0_off61 i 18#32 0#32 3#32 0#32) :=
  ⟨![2 * (18 + (8 * (i 1).val + 3) % 6) + 0, 0], by revert i; decide +kernel⟩

instance off61_18_4_0_1 (i : grid0.Coords) : ClosedOff (k0_off61 i 18#32 4#32 0#32 1#32) :=
  ⟨![2 * (18 + (8 * (i 1).val + 4) % 6) + 1, 0], by revert i; decide +kernel⟩

instance off61_18_4_1_1 (i : grid0.Coords) : ClosedOff (k0_off61 i 18#32 4#32 1#32 1#32) :=
  ⟨![2 * (18 + (8 * (i 1).val + 5) % 6) + 1, 0], by revert i; decide +kernel⟩

instance off61_18_4_2_1 (i : grid0.Coords) : ClosedOff (k0_off61 i 18#32 4#32 2#32 1#32) :=
  ⟨![2 * (18 + (8 * (i 1).val + 6) % 6) + 1, 0], by revert i; decide +kernel⟩

instance off61_18_4_3_1 (i : grid0.Coords) : ClosedOff (k0_off61 i 18#32 4#32 3#32 1#32) :=
  ⟨![2 * (18 + (8 * (i 1).val + 7) % 6) + 1, 0], by revert i; decide +kernel⟩

/-- The grid's second coordinate is below seven. -/
theorem i1_lt (i : grid0.Coords) : (i 1).val < 7 := (i 1).isLt

/-- What the bias table's buffer holds after the guarded build of the table: the loop's stores over what was there at
    the grid's first point, what was there at every other one. -/
def biasAfter (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f10 : BufTy.Contents (Elt F) arg10.view.ty) :
    BufTy.Contents (Elt F) arg10.view.ty :=
  if h : k0_cond1 i = 1#1 then
    arg10.view.writes (Elt F) f10 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h k0_t1_loop.trips)
  else f10

/-- A guarded program before a continuation both ways share: run under its condition it takes `R` to `S`, and without
    the condition `R` is `S`; the continuation starts from `S`. -/
theorem wp_dite_join {p : Prop} [Decidable p] {α : Type} (Q : α → sProp 𝕄)
    {R S : sProp 𝕄} (A : p → Prog (TpuEff nD τ sig (Elt F) Λ₀ .tc) Unit) (J : Prog (TpuEff nD τ sig (Elt F) Λ₀ .tc) α)
    (c : Dev nD)
    (hA : ∀ h : p, R ⊢ wp (M := 𝕄) frame (wpE (defs₀ (F := F)) Variants.none (c : Thread nD τ) none) Set.univ (A h) (fun _ => S))
    (hn : ¬p → R ⊢ S) :
    iprop(R ∗ (S -∗ wp (M := 𝕄) frame (wpE (defs₀ (F := F)) Variants.none (c : Thread nD τ) none) Set.univ (J) Q))
      ⊢ wp (M := 𝕄) frame (wpE (defs₀ (F := F)) Variants.none (c : Thread nD τ) none) Set.univ
          ((if h : p then (A h >>= fun _ => J) else J : Prog (TpuEff nD τ sig (Elt F) Λ₀ .tc) α)) Q := by
  by_cases h : p
  · rw [dif_pos h, wp_bind]
    iintro ⟨HR, HJ⟩
    iapply (wp_wand_r Idealize.ShloMosaic.frame (wpE (defs₀ (F := F)) Variants.none (c : Thread nD τ) none))
    isplitl [HR]
    · iapply (hA h); iexact HR
    iintro %_ HS
    iapply HJ; iexact HS
  · rw [dif_neg h]
    iintro ⟨HR, HJ⟩
    iapply HJ
    iapply (hn h); iexact HR

/-- The build of the bias table, run: the table's buffer goes from `f10` to `biasAfter`. -/
theorem bias_run (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f10 : BufTy.Contents (Elt F) arg10.view.ty) (h : k0_cond1 i = 1#1) :
    (arg10.view.loc (c : Thread nD τ) ↦[arg10.view.set]{fullShare} f10)
      ⊢ wp (M := 𝕄) frame (wpE (defs₀ (F := F)) Variants.none (c : Thread nD τ) none) Set.univ
          (Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 h)) (fun _ => (arg10.view.loc (c : Thread nD τ) ↦[arg10.view.set]{fullShare} biasAfter c i arg2 harg2 arg3 harg3 arg4 harg4 arg5 harg5 arg6 harg6 arg7 harg7 arg8 harg8 arg9 harg9 arg10 harg10 arg11 harg11 arg12 harg12 arg13 harg13 arg14 harg14 f10)) := by
  unfold biasAfter
  rw [dif_pos h]
  iintro H10
  sl_exec
  iexact H10

/-- What the log-sum-exp block holds after the body: at the last group of a batch row the transposed scratch `g13`, at
    every other one what was there. -/
def lseAfter (i : grid0.Coords) (arg9 : Memref sig .tc .vmem S1x384x56 .f32) (arg13 : Memref sig .tc .vmem S7x8x384 .f32)
    (f9 : BufTy.Contents (Elt F) arg9.view.ty) (g13 : BufTy.Contents (Elt F) arg13.view.ty) : BufTy.Contents (Elt F) arg9.view.ty :=
  if hc : k0_cond2 i = 1#1 then
    arg9.view.writes (Elt F) f9
      [⟨Rect.unit ![0, 0, 0] S1x384x56.size inb_S1x384x56_S1x384x56_0_0_0,
        k0_pay3 (View.readAt (Elt F) arg13.view
          (Rect.unit ![0, 0, 0] S7x8x384.size inb_S7x8x384_S7x8x384_0_0_0).toLoadRect g13)⟩]
  else f9

/-- THE BODY, RUN at symbolic operands: the pieces it writes into the output block and into the log-sum-exp scratch —
    they depend on the inputs and on the bias table alone, whatever the output, the scratch and the word buffers held
    before — WITH the proof that from all the buffers held whole it runs to its return, handing the inputs back as they
    were. `f10'` is what the bias table holds after the guarded build. -/
def BodySpec (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f10' : BufTy.Contents (Elt F) arg10.view.ty)
    (W : List (View.Piece (Elt F) S1x384x1024 .bf16) × List (View.Piece (Elt F) S7x8x384 .f32)) : Prop :=
  ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄)
    (_ : ∀ h : k0_cond1 i = 1#1, (arg10.view.loc (c : Thread nD τ) ↦[arg10.view.set]{fullShare} f10)
      ⊢ wp (M := 𝕄) frame (wpE (defs₀ (F := F)) Variants.none (c : Thread nD τ) none) Set.univ
        (Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 h)) (fun _ => (arg10.view.loc (c : Thread nD τ) ↦[arg10.view.set]{fullShare} f10')))
    (_ : ¬ k0_cond1 i = 1#1 → (arg10.view.loc (c : Thread nD τ) ↦[arg10.view.set]{fullShare} f10) ⊢ ((arg10.view.loc (c : Thread nD τ) ↦[arg10.view.set]{fullShare} f10') : sProp 𝕄)),
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} arg8.view.writes (Elt F) f8 W.1) ∗ (arg9.view.loc (c : Thread nD τ) ↦[arg9.view.set]{fullShare} lseAfter i arg9 arg13 f9 (arg13.view.writes (Elt F) f13 W.2)) ∗ (arg10.view.loc (c : Thread nD τ) ↦[arg10.view.set]{fullShare} f10') ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 W.2) ∗ (∃ f, (arg14.view.loc (c : Thread nD τ) ↦[arg14.view.set]{fullShare} f))) -∗ K ⟨⟩))
      ⊢ wp frame (wpE (defs₀ (F := F)) Variants.none (c : Thread nD τ) none) Set.univ
          (cc0_dilated_attention (F := F) i arg2 harg2 arg3 harg3 arg4 harg4 arg5 harg5 arg6 harg6 arg7 harg7 arg8 harg8 arg9 harg9 arg10 harg10 arg11 harg11 arg12 harg12 arg13 harg13 arg14 harg14) K

/-- The body's run: the pieces it finds, with `BodySpec` of them. -/
def bodyRun (c : Dev nD) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f10' : BufTy.Contents (Elt F) arg10.view.ty) :
    { W : List (View.Piece (Elt F) S1x384x1024 .bf16) × List (View.Piece (Elt F) S7x8x384 .f32) //
      BodySpec c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f10' W } := by
  refine ⟨⟨?_, ?_⟩, ?run⟩
  case run =>
    unfold BodySpec
    intro f8 f9 f10 f11 f12 f13 f14 K hb hn
    have hi1 := i1_lt i
    iintro ⟨H2, H3, H4, H5, H6, H7, H8, H9, H10, H11, H12, H13, H14, Hk⟩
    sl_exec_parts
    iapply (wp_dite_join (F := F) _ (fun h => (Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 h))) _ c hb hn)
    isplitl [H10]
    · iexact H10
    iintro H10
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · unfold lseAfter; iexact H9
    isplitl [H10]; · iexact H10
    isplitl [H11]; · iexists _; iexact H11
    isplitl [H12]; · iexists _; iexact H12
    isplitl [H13]; · iexact H13
    iexists _; iexact H14

end Cert.KernelIdeal.Hand

end
-- ==== Proof.KernelIdeal.FrameRun.lean ====
module

public import proofs.«01_k».proof.Proof.KernelIdeal.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Pipeline.FrameBody

@[expose] public section

/-! # KernelIdeal: the frame

The launch's proof data with everything the body leaves in its windows left unnamed; the body's obligation from the
body's run; the arguments end unchanged and every counter ends at zero. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg arrRef restRefs)

variable {F : FTy → Type} [FloatOps F] [Named F] (m : (ℓ : Loc nD τ sig) → Buf (Elt F) ℓ) (ρ : Dev nD → PrngReg)

local notation "𝕄" => MT nD τ sig Unit (Elt F) ℕ (UR sig nD τ) ℕ

/-- The proof data on core `c`: the arrays as the region finds them; nothing said of what the body leaves in a window's
    buffer; the launch's own invariant; full shares; nothing owed. -/
def rdat (c : Dev nD) : RDat τ (Elt F) Unit ℕ (UR sig nD τ) ℕ cfg0 c where
  A w := V m c (arrRef spec0 w)
  after _ _ _ _ := True
  Φ _ := Pipeline.ΦA spec0 c
  q _ := fullShare
  owed _ := 0

theorem rA_eq (c : Dev nD) (w : Fin cfg0.W) : (rdat m c).A w = V m c (arrRef spec0 w) := by dsimp only [rdat]

/-- What the body is called with at a point, the windows' buffers at the contents `Y`, -/
def fPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7))

/-- and what it returns: the same buffers at some contents. -/
def fPost (c : Dev nD) (t : Fin cfg0.N) : sProp 𝕄 :=
  iprop((rdat m c).Φ t.succ ∗ (rdat m c).owesAt () t.succ
    ∗ (∃ X, ⌜True⌝ ∗ owns (c : Thread nD τ) (win0_0.stage (cfg0.slots t 0)) fullShare X) ∗ (∃ X, ⌜True⌝ ∗ owns (c : Thread nD τ) (win0_1.stage (cfg0.slots t 1)) fullShare X) ∗ (∃ X, ⌜True⌝ ∗ owns (c : Thread nD τ) (win0_2.stage (cfg0.slots t 2)) fullShare X) ∗ (∃ X, ⌜True⌝ ∗ owns (c : Thread nD τ) (win0_3.stage (cfg0.slots t 3)) fullShare X) ∗ (∃ X, ⌜True⌝ ∗ owns (c : Thread nD τ) (win0_4.stage (cfg0.slots t 4)) fullShare X) ∗ (∃ X, ⌜True⌝ ∗ owns (c : Thread nD τ) (win0_5.stage (cfg0.slots t 5)) fullShare X) ∗ (∃ X, ⌜True⌝ ∗ owns (c : Thread nD τ) (win0_6.stage (cfg0.slots t 6)) fullShare X) ∗ (∃ X, ⌜True⌝ ∗ owns (c : Thread nD τ) (win0_7.stage (cfg0.slots t 7)) fullShare X))

/-- The body at any point, from any contents of its buffers. -/
theorem sound_body (c : Dev nD) (t : Fin cfg0.N) (Y : (w : Fin cfg0.W) → (cfg0.win w).block.Idx → Elt F (cfg0.win w).elt) :
    fPre m c t Y ⊢ wp frame (wpE (defs₀ (F := F)) Variants.none c none) Set.univ (bodyAt0 t) (fun _ => fPost m c t) := by
  unfold fPre fPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  simp only [← owns_whole]
  unfold owns
  iintro ⟨⟨⟨⟨%g0, %d0, -, S0⟩, ⟨%g1, %d1, -, S1⟩, ⟨%g2, %d2, -, S2⟩, ⟨%g3, %d3, -, S3⟩, ⟨%g4, %d4, -, S4⟩⟩, Hg⟩, Ho, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩⟩
  iapply ((bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5
    (biasAfter c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0)).2 f6 f7 d0 d1 d2 d3 d4 _ (bias_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0)
    (fun h => by unfold biasAfter; rw [dif_neg h]))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, ⟨%e1, S1⟩, ⟨%e2, S2⟩, S3, ⟨%e4, S4⟩⟩
  isplitl [S0 S1 S2 S3 S4 Hg]
  · isplitl [S0 S1 S2 S3 S4]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      iexists _, _; isplitr; swap; · iexact S4
      ipureintro; rfl
    iexact Hg
  isplitl [Ho]; · iexact Ho
  isplitl [H0]
  · iexists _; isplitr; · ipureintro; trivial
    iexists _; isplitr; swap; · iexact H0
    ipureintro; rfl
  isplitl [H1]
  · iexists _; isplitr; · ipureintro; trivial
    iexists _; isplitr; swap; · iexact H1
    ipureintro; rfl
  isplitl [H2]
  · iexists _; isplitr; · ipureintro; trivial
    iexists _; isplitr; swap; · iexact H2
    ipureintro; rfl
  isplitl [H3]
  · iexists _; isplitr; · ipureintro; trivial
    iexists _; isplitr; swap; · iexact H3
    ipureintro; rfl
  isplitl [H4]
  · iexists _; isplitr; · ipureintro; trivial
    iexists _; isplitr; swap; · iexact H4
    ipureintro; rfl
  isplitl [H5]
  · iexists _; isplitr; · ipureintro; trivial
    iexists _; isplitr; swap; · iexact H5
    ipureintro; rfl
  isplitl [H6]
  · iexists _; isplitr; · ipureintro; trivial
    iexists _; isplitr; swap; · iexact H6
    ipureintro; rfl
  iexists _; isplitr; · ipureintro; trivial
  iexists _; isplitr; swap; · iexact H7
  ipureintro; rfl

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body's obligation, at every point. -/
theorem body_obligation (c : Dev nD) :
    (rdat (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The program runs to the end from any memory with zero counters; its argument arrays end unchanged and every
    counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := rA_eq m) (hΦ := fun _ _ => rfl)
    (Q' := _)
    (hQ' := fun r ⟨h, hz⟩ => ⟨fun c =>
      ⟨((h c).2 main_arg0 (Pipeline.mem_restRefs_of main_arg0 (by decide) (by decide))).trans (V_main_arg0 m c),
       ((h c).2 main_arg1 (Pipeline.mem_restRefs_of main_arg1 (by decide) (by decide))).trans (V_main_arg1 m c),
       ((h c).2 main_arg2 (Pipeline.mem_restRefs_of main_arg2 (by decide) (by decide))).trans (V_main_arg2 m c),
       (Pipeline.RDat.FramePost.arr_in h c 0 rfl).trans ((rA_eq m c 0).trans (V_main_arg3 m c)),
       (Pipeline.RDat.FramePost.arr_in h c 1 rfl).trans ((rA_eq m c 1).trans (V_main_arg4 m c)),
       (Pipeline.RDat.FramePost.arr_in h c 2 rfl).trans ((rA_eq m c 2).trans (V_main_arg5 m c))⟩, hz⟩)

end Cert.KernelIdeal.Hand

end
-- ==== Proof.KernelIdeal.Bytes.lean ====
/- The bytes of the three code blocks through the body's relayout: the word buffer, the byte transpose and the byte gather,
   as statements about the bits. -/
module

public import proofs.«01_k».proof.Proof.KernelIdeal.Body
public import Idealize.ShloMosaic.Lib.Pointwise
public import Idealize.ShloMosaic.Lib.BitcastFour
public import Idealize.ShloMosaic.Lib.Writes

@[expose] public section

noncomputable section

namespace Cert.KernelIdeal.Hand

open Idealize.ShloMosaic Cert.KernelIdeal

/-- Four bytes as a word, the first lowest. -/
def word4 (b : ℕ → BitVec 8) : BitVec 32 :=
  (b 0).setWidth 32 ||| ((b 1).setWidth 32 <<< 8) ||| ((b 2).setWidth 32 <<< 16) ||| ((b 3).setWidth 32 <<< 24)

/-- A word's bit is a bit of its byte. -/
theorem word4_getLsbD (b : ℕ → BitVec 8) (q : ℕ) (hq : q < 32) : (word4 b).getLsbD q = (b (q / 8)).getLsbD (q % 8) := by
  have h := four_bytes_getLsbD (fun k : Fin 4 => b k.val) q hq
  exact h

/-- A word with the bits of four bytes is their word. -/
theorem eq_word4 (w : BitVec 32) (b : ℕ → BitVec 8) (h : ∀ q, q < 32 → w.getLsbD q = (b (q / 8)).getLsbD (q % 8)) : w = word4 b :=
  BitVec.eq_of_getLsbD_eq fun q hq => (h q hq).trans (word4_getLsbD b q hq).symm

/-- The byte of sequence row `s`, head `h`, lane `l` of a code block. -/
def byteAt (v : S1x384x1x8x128.Idx → BitVec 8) (s h l : ℕ) : BitVec 8 :=
  if hh : s < 384 ∧ h < 8 ∧ l < 128 then v (ix5 0 ⟨s, hh.1⟩ 0 ⟨h, hh.2.1⟩ ⟨l, hh.2.2⟩) else 0

/-- Word row `w` of a block's word buffer. -/
def wordAt (v : S1x384x1x8x128.Idx → BitVec 8) (w l : ℕ) : BitVec 32 :=
  word4 fun k => byteAt v ((4 * w + k) / 8) ((4 * w + k) % 8) l

/-- The stored word buffer holds the block's words. -/
theorem pay263_apply (v : S1x384x1x8x128.Idx → BitVec 8) (w : Fin 768) (l : Fin 128) :
    Gen.k0_pay263 (F := Ideal) v (ix2 w l) = wordAt v w l := by
  refine eq_word4 _ _ fun q hq => ?_
  unfold Gen.k0_pay263
  rw [shapeCast_self, shapeCast_self]
  refine (bitcast_8_32_getLsbD_ix2 _ _ w l q hq ⟨4 * w.val + q / 8, by omega⟩ rfl).trans ?_
  refine congrArg (fun x : BitVec 8 => x.getLsbD (q % 8)) ?_
  unfold byteAt
  rw [dif_pos ⟨by omega, by omega, l.isLt⟩]
  refine shapeCast_apply _ _ _ _ ?_
  rw [Shape.rowMajor_val_five, Shape.rowMajor_val_two]
  simp
  omega

/-! ## The byte transpose and the byte gather -/

section Pay
variable (a0 a1 a2 a3 : IVec S8x128 32)

/-- The four words of the byte transpose, stored. -/
def cpay : ℕ → IVec S1x1x8x128 32
  | 0 => shapeCast S1x1x8x128 (ori (andi (ori (andi a0 (broadcast S8x128 0xFFFF#32)) (shli a2 (broadcast S8x128 16#32))) (broadcast S8x128 0xFF00FF#32))
      (shli (andi (ori (andi a1 (broadcast S8x128 0xFFFF#32)) (shli a3 (broadcast S8x128 16#32))) (broadcast S8x128 0xFF00FF#32)) (broadcast S8x128 8#32))) Gen.shapeCasts_S8x128_S1x1x8x128
  | 1 => shapeCast S1x1x8x128 (ori (andi (shrui (ori (andi a0 (broadcast S8x128 0xFFFF#32)) (shli a2 (broadcast S8x128 16#32))) (broadcast S8x128 8#32)) (broadcast S8x128 0xFF00FF#32))
      (andi (ori (andi a1 (broadcast S8x128 0xFFFF#32)) (shli a3 (broadcast S8x128 16#32))) (broadcast S8x128 0xFF00FF00#32))) Gen.shapeCasts_S8x128_S1x1x8x128
  | 2 => shapeCast S1x1x8x128 (ori (andi (ori (shrui a0 (broadcast S8x128 16#32)) (andi a2 (broadcast S8x128 0xFFFF0000#32))) (broadcast S8x128 0xFF00FF#32))
      (shli (andi (ori (shrui a1 (broadcast S8x128 16#32)) (andi a3 (broadcast S8x128 0xFFFF0000#32))) (broadcast S8x128 0xFF00FF#32)) (broadcast S8x128 8#32))) Gen.shapeCasts_S8x128_S1x1x8x128
  | _ => shapeCast S1x1x8x128 (ori (andi (shrui (ori (shrui a0 (broadcast S8x128 16#32)) (andi a2 (broadcast S8x128 0xFFFF0000#32))) (broadcast S8x128 8#32)) (broadcast S8x128 0xFF00FF#32))
      (andi (ori (shrui a1 (broadcast S8x128 16#32)) (andi a3 (broadcast S8x128 0xFFFF0000#32))) (broadcast S8x128 0xFF00FF00#32))) Gen.shapeCasts_S8x128_S1x1x8x128

end Pay

theorem cpay_bit (a0 a1 a2 a3 : IVec S8x128 32) (a : ℕ → BitVec 32) (y : Fin 8) (l : Fin 128) (h0 : a0 (ix2 y l) = a 0) (h1 : a1 (ix2 y l) = a 1)
    (h2 : a2 (ix2 y l) = a 2) (h3 : a3 (ix2 y l) = a 3) (j : ℕ) (hj : j < 4) (q : ℕ) (hq : q < 32) :
    (cpay a0 a1 a2 a3 j (ix4 0 0 y l)).getLsbD q = (a (q / 8)).getLsbD (8 * j + q % 8) := by
  interval_cases j
  all_goals
    unfold cpay
    pointwise
    rw [h0, h1, h2, h3]
  all_goals interval_cases q <;> simp [IntOp.ori, IntOp.andi, IntOp.shli, IntOp.shrui]

/-- The word of the byte gather at byte `j`, stored. -/
def gpay (a0 a1 a2 a3 : IVec S8x128 32) : ℕ → IVec S1x1x8x128 32
  | 0 => shapeCast S1x1x8x128 (ori (ori (ori (andi a0 (broadcast S8x128 0xff#32)) (andi (shli a1 (broadcast S8x128 8#32)) (broadcast S8x128 0xff00#32))) (andi (shli a2 (broadcast S8x128 16#32)) (broadcast S8x128 0xff0000#32))) (andi (shli a3 (broadcast S8x128 24#32)) (broadcast S8x128 0xff000000#32))) Gen.shapeCasts_S8x128_S1x1x8x128
  | 1 => shapeCast S1x1x8x128 (ori (ori (ori (andi (shrui a0 (broadcast S8x128 8#32)) (broadcast S8x128 0xff#32)) (andi a1 (broadcast S8x128 0xff00#32))) (andi (shli a2 (broadcast S8x128 8#32)) (broadcast S8x128 0xff0000#32))) (andi (shli a3 (broadcast S8x128 16#32)) (broadcast S8x128 0xff000000#32))) Gen.shapeCasts_S8x128_S1x1x8x128
  | 2 => shapeCast S1x1x8x128 (ori (ori (ori (andi (shrui a0 (broadcast S8x128 16#32)) (broadcast S8x128 0xff#32)) (andi (shrui a1 (broadcast S8x128 8#32)) (broadcast S8x128 0xff00#32))) (andi a2 (broadcast S8x128 0xff0000#32))) (andi (shli a3 (broadcast S8x128 8#32)) (broadcast S8x128 0xff000000#32))) Gen.shapeCasts_S8x128_S1x1x8x128
  | _ => shapeCast S1x1x8x128 (ori (ori (ori (andi (shrui a0 (broadcast S8x128 24#32)) (broadcast S8x128 0xff#32)) (andi (shrui a1 (broadcast S8x128 16#32)) (broadcast S8x128 0xff00#32))) (andi (shrui a2 (broadcast S8x128 8#32)) (broadcast S8x128 0xff0000#32))) (andi a3 (broadcast S8x128 0xff000000#32))) Gen.shapeCasts_S8x128_S1x1x8x128

theorem gpay_bit (a0 a1 a2 a3 : IVec S8x128 32) (a : ℕ → BitVec 32) (y : Fin 8) (l : Fin 128) (h0 : a0 (ix2 y l) = a 0) (h1 : a1 (ix2 y l) = a 1)
    (h2 : a2 (ix2 y l) = a 2) (h3 : a3 (ix2 y l) = a 3) (j : ℕ) (hj : j < 4) (q : ℕ) (hq : q < 32) :
    (gpay a0 a1 a2 a3 j (ix4 0 0 y l)).getLsbD q = (a (q / 8)).getLsbD (8 * j + q % 8) := by
  interval_cases j
  all_goals
    unfold gpay
    pointwise
    rw [h0, h1, h2, h3]
  all_goals interval_cases q <;> simp [IntOp.ori, IntOp.andi, IntOp.shli, IntOp.shrui]

/-! ## The words loaded -/

/-- A strided load of a word buffer that holds a block's words. -/
theorem load_word (V : View sig .tc .vmem S768x128 .i32) (L : List (View.Piece (Elt Ideal) S768x128 .i32)) (v : S1x384x1x8x128.Idx → BitVec 8)
    (hL : ∀ y, V.read (Elt Ideal) (V.writes (Elt Ideal) V.junk L) y = Gen.k0_pay263 (F := Ideal) v y) (off : Fin 2 → ℕ) (o S : ℕ)
    (h0 : off 0 = o) (h1 : off 1 = 0)
    (inb : ∀ a, S8x128.size a = 0 ∨ off a + (![S, 1] : Fin 2 → ℕ) a * (S8x128.size a - 1) < S768x128.size a) (y : Fin 8) (l : Fin 128) :
    V.readCov (Val := Elt Ideal) L (LoadRect.mk (s := S768x128) off S8x128.size ![S, 1] inb) (ix2 y l) = wordAt v (o + S * y.val) l.val := by
  have hlt : o + S * y.val < 768 := by
    have h := inb 0
    have h7 : S * y.val ≤ S * 7 := Nat.mul_le_mul_left _ (by omega)
    rcases h with h | h
    · exact absurd h (by decide)
    · have h' : o + S * 7 < 768 := by simpa [h0] using h
      omega
  refine (hL _).trans ?_
  refine Eq.trans ?_ (pay263_apply v ⟨o + S * y.val, hlt⟩ l)
  congr 1
  funext a
  match a with
  | ⟨0, _⟩ => exact Fin.ext (by show off 0 + S * y.val = o + S * y.val; rw [h0])
  | ⟨1, _⟩ => exact Fin.ext (by show off 1 + 1 * l.val = l.val; rw [h1]; omega)

/-- A stored byte-transposed word is the four bytes of its head, four sequence rows. -/
theorem word_of_bits (w : BitVec 32) (v : S1x384x1x8x128.Idx → BitVec 8) (r j l : ℕ) (o : ℕ → ℕ) (b : ℕ → ℕ) (hj : j < 4) (hr : r < 2)
    (ho : ∀ k, k < 4 → o k = 2 * b k + r)
    (h : ∀ q, q < 32 → w.getLsbD q = (wordAt v (o (q / 8)) l).getLsbD (8 * j + q % 8)) :
    w = word4 fun k => byteAt v (b k) (4 * r + j) l := by
  refine eq_word4 _ _ fun q hq => ?_
  rw [h q hq]
  unfold wordAt
  rw [word4_getLsbD _ _ (by omega), ho (q / 8) (by omega)]
  rw [show (8 * j + q % 8) / 8 = j by omega, show (8 * j + q % 8) % 8 = q % 8 by omega,
    show (4 * (2 * b (q / 8) + r) + j) / 8 = b (q / 8) by omega, show (4 * (2 * b (q / 8) + r) + j) % 8 = 4 * r + j by omega]

/-- What the codes buffer holds: at row `R` of head `h` the four bytes of sequence rows `4R .. 4R+3`. -/
def G11 (v0 v1 v2 : S1x384x1x8x128.Idx → BitVec 8) : S3x8x96x128.Idx → BitVec 32 := fun y =>
  word4 fun k => byteAt (if (y 0).val = 0 then v0 else if (y 0).val = 1 then v1 else v2) (4 * (y 2).val + k) (y 1).val (y 3).val

/-- What the cross buffer holds at group `g`: at row `R` of head `h` the bytes of the sequence rows `6 (4R + k) + (8g + h) % 6`. -/
def G12 (g : ℕ) (v1 v2 : S1x384x1x8x128.Idx → BitVec 8) : S2x8x8x128.Idx → BitVec 32 := fun y =>
  word4 fun k => byteAt (if (y 0).val = 0 then v1 else v2) (6 * (4 * (y 2).val + k) + (8 * g + (y 1).val) % 6) (y 1).val (y 3).val

theorem exists_ix4 (x : S1x1x8x128.Idx) : ∃ (y : Fin 8) (l : Fin 128), x = ix4 0 0 y l := by
  refine ⟨x 2, x 3, ?_⟩
  funext a
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

/-- One piece of the codes buffer. -/
theorem piece11 (v0 v1 v2 : S1x384x1x8x128.Idx → BitVec 8) (V : View sig .tc .vmem S768x128 .i32) (L : List (View.Piece (Elt Ideal) S768x128 .i32))
    (t r s j : ℕ)
    (hL : ∀ y, V.read (Elt Ideal) (V.writes (Elt Ideal) V.junk L) y = Gen.k0_pay263 (F := Ideal) (if t = 0 then v0 else if t = 1 then v1 else v2) y)
    (hj : j < 4) (hr : r < 2) (inb) (i0 i1 i2 i3) (P : S1x1x8x128.Idx → BitVec 32)
    (hP : P = cpay (V.readCov (Val := Elt Ideal) L (LoadRect.mk (s := S768x128) ![64 * s + r, 0] S8x128.size ![8, 1] i0))
      (V.readCov (Val := Elt Ideal) L (LoadRect.mk (s := S768x128) ![64 * s + 2 + r, 0] S8x128.size ![8, 1] i1))
      (V.readCov (Val := Elt Ideal) L (LoadRect.mk (s := S768x128) ![64 * s + 4 + r, 0] S8x128.size ![8, 1] i2))
      (V.readCov (Val := Elt Ideal) L (LoadRect.mk (s := S768x128) ![64 * s + 6 + r, 0] S8x128.size ![8, 1] i3)) j)
    (x : S1x1x8x128.Idx) :
    P x = G11 v0 v1 v2 ((Rect.unit (s := S3x8x96x128) ![t, 4 * r + j, 8 * s, 0] S1x1x8x128.size inb).emb x) := by
  subst hP
  unfold G11
  obtain ⟨y, l, rfl⟩ := exists_ix4 x
  have e0 : (((Rect.unit (s := S3x8x96x128) ![t, 4 * r + j, 8 * s, 0] S1x1x8x128.size inb).emb (ix4 0 0 y l)) 0).val = t := by
    show t + 1 * 0 = t; omega
  have e1 : (((Rect.unit (s := S3x8x96x128) ![t, 4 * r + j, 8 * s, 0] S1x1x8x128.size inb).emb (ix4 0 0 y l)) 1).val = 4 * r + j := by
    show 4 * r + j + 1 * 0 = _; omega
  have e2 : (((Rect.unit (s := S3x8x96x128) ![t, 4 * r + j, 8 * s, 0] S1x1x8x128.size inb).emb (ix4 0 0 y l)) 2).val = 8 * s + y.val := by
    show 8 * s + 1 * y.val = _; omega
  have e3 : (((Rect.unit (s := S3x8x96x128) ![t, 4 * r + j, 8 * s, 0] S1x1x8x128.size inb).emb (ix4 0 0 y l)) 3).val = l.val := by
    show 0 + 1 * l.val = _; omega
  rw [e0, e1, e2, e3]
  generalize (if t = 0 then v0 else if t = 1 then v1 else v2) = v at hL ⊢
  obtain ⟨o, ho⟩ : ∃ o : ℕ → ℕ, ∀ k, o k = 64 * s + 2 * k + r + 8 * y.val := ⟨_, fun _ => rfl⟩
  have h0 := load_word V L v hL ![64 * s + r, 0] (64 * s + r) 8 rfl rfl i0 y l
  have h1 := load_word V L v hL ![64 * s + 2 + r, 0] (64 * s + 2 + r) 8 rfl rfl i1 y l
  have h2 := load_word V L v hL ![64 * s + 4 + r, 0] (64 * s + 4 + r) 8 rfl rfl i2 y l
  have h3 := load_word V L v hL ![64 * s + 6 + r, 0] (64 * s + 6 + r) 8 rfl rfl i3 y l
  rw [show 64 * s + r + 8 * y.val = o 0 by rw [ho]; omega] at h0
  rw [show 64 * s + 2 + r + 8 * y.val = o 1 by rw [ho]] at h1
  rw [show 64 * s + 4 + r + 8 * y.val = o 2 by rw [ho]] at h2
  rw [show 64 * s + 6 + r + 8 * y.val = o 3 by rw [ho]] at h3
  have hb := cpay_bit _ _ _ _ (fun k => wordAt v (o k) l.val) y l h0 h1 h2 h3 j hj
  rw [word_of_bits _ v r j l.val o (fun k => 32 * s + 4 * y.val + k) hj hr (fun k _ => by rw [ho]; omega) hb]
  refine congrArg word4 (funext fun k => ?_)
  rw [show 32 * s + 4 * y.val + k = 4 * (8 * s + y.val) + k by omega]

/-- One piece of the cross buffer. -/
theorem piece12 (g : ℕ) (v1 v2 : S1x384x1x8x128.Idx → BitVec 8) (V : View sig .tc .vmem S768x128 .i32) (L : List (View.Piece (Elt Ideal) S768x128 .i32))
    (t r j : ℕ)
    (hL : ∀ y, V.read (Elt Ideal) (V.writes (Elt Ideal) V.junk L) y = Gen.k0_pay263 (F := Ideal) (if t = 0 then v1 else v2) y)
    (hj : j < 4) (hr : r < 2) (inb) (f0 f1 f2 f3 : Fin 2 → ℕ) (i0 i1 i2 i3)
    (h0 : f0 = ![2 * (0 + (8 * g + (4 * r + j)) % 6) + r, 0]) (h1 : f1 = ![2 * (6 + (8 * g + (4 * r + j)) % 6) + r, 0])
    (h2 : f2 = ![2 * (12 + (8 * g + (4 * r + j)) % 6) + r, 0]) (h3 : f3 = ![2 * (18 + (8 * g + (4 * r + j)) % 6) + r, 0])
    (P : S1x1x8x128.Idx → BitVec 32)
    (hP : P = gpay (V.readCov (Val := Elt Ideal) L (LoadRect.mk (s := S768x128) f0 S8x128.size ![48, 1] i0))
      (V.readCov (Val := Elt Ideal) L (LoadRect.mk (s := S768x128) f1 S8x128.size ![48, 1] i1))
      (V.readCov (Val := Elt Ideal) L (LoadRect.mk (s := S768x128) f2 S8x128.size ![48, 1] i2))
      (V.readCov (Val := Elt Ideal) L (LoadRect.mk (s := S768x128) f3 S8x128.size ![48, 1] i3)) j)
    (x : S1x1x8x128.Idx) :
    P x = G12 g v1 v2 ((Rect.unit (s := S2x8x8x128) ![t, 4 * r + j, 0, 0] S1x1x8x128.size inb).emb x) := by
  subst hP
  unfold G12
  obtain ⟨y, l, rfl⟩ := exists_ix4 x
  have e0 : (((Rect.unit (s := S2x8x8x128) ![t, 4 * r + j, 0, 0] S1x1x8x128.size inb).emb (ix4 0 0 y l)) 0).val = t := by
    show t + 1 * 0 = t; omega
  have e1 : (((Rect.unit (s := S2x8x8x128) ![t, 4 * r + j, 0, 0] S1x1x8x128.size inb).emb (ix4 0 0 y l)) 1).val = 4 * r + j := by
    show 4 * r + j + 1 * 0 = _; omega
  have e2 : (((Rect.unit (s := S2x8x8x128) ![t, 4 * r + j, 0, 0] S1x1x8x128.size inb).emb (ix4 0 0 y l)) 2).val = y.val := by
    show 0 + 1 * y.val = _; omega
  have e3 : (((Rect.unit (s := S2x8x8x128) ![t, 4 * r + j, 0, 0] S1x1x8x128.size inb).emb (ix4 0 0 y l)) 3).val = l.val := by
    show 0 + 1 * l.val = _; omega
  rw [e0, e1, e2, e3]
  generalize (if t = 0 then v1 else v2) = v at hL ⊢
  obtain ⟨m, hm⟩ : ∃ m, m = (8 * g + (4 * r + j)) % 6 := ⟨_, rfl⟩
  rw [← hm] at h0 h1 h2 h3 ⊢
  obtain ⟨o, ho⟩ : ∃ o : ℕ → ℕ, ∀ k, o k = 2 * (6 * k + m) + r + 48 * y.val := ⟨_, fun _ => rfl⟩
  have w0 := load_word V L v hL f0 (2 * (0 + m) + r) 48 (by rw [h0]; rfl) (by rw [h0]; rfl) i0 y l
  have w1 := load_word V L v hL f1 (2 * (6 + m) + r) 48 (by rw [h1]; rfl) (by rw [h1]; rfl) i1 y l
  have w2 := load_word V L v hL f2 (2 * (12 + m) + r) 48 (by rw [h2]; rfl) (by rw [h2]; rfl) i2 y l
  have w3 := load_word V L v hL f3 (2 * (18 + m) + r) 48 (by rw [h3]; rfl) (by rw [h3]; rfl) i3 y l
  rw [show 2 * (0 + m) + r + 48 * y.val = o 0 by rw [ho]] at w0
  rw [show 2 * (6 + m) + r + 48 * y.val = o 1 by rw [ho]] at w1
  rw [show 2 * (12 + m) + r + 48 * y.val = o 2 by rw [ho]] at w2
  rw [show 2 * (18 + m) + r + 48 * y.val = o 3 by rw [ho]] at w3
  have hb := gpay_bit _ _ _ _ (fun k => wordAt v (o k) l.val) y l w0 w1 w2 w3 j hj
  rw [word_of_bits _ v r j l.val o (fun k => 6 * (4 * y.val + k) + m) hj hr (fun k _ => by rw [ho]; omega) hb]

end Cert.KernelIdeal.Hand

end
-- ==== Proof.KernelIdeal.Pieces.lean ====
/- Every piece that the body writes of the codes buffer and of the cross buffer holds the bytes told by `G11` and `G12`, and the
   pieces cover both buffers. -/
module

public import proofs.«01_k».proof.Proof.KernelIdeal.Bytes
public import Idealize.ShloMosaic.Lib.Ring

@[expose] public section

set_option maxRecDepth 16384

noncomputable section

namespace Cert.KernelIdeal.Hand

open Idealize.ShloMosaic Cert.KernelIdeal

/-- The whole of a code block, loaded. -/
abbrev blockOf (a : Memref sig .tc .vmem S1x384x1x8x128 .i8) (f : BufTy.Contents (Elt Ideal) a.view.ty) : S1x384x1x8x128.Idx → BitVec 8 :=
  View.readAt (Elt Ideal) a.view (Rect.unit (s := S1x384x1x8x128) ![0, 0, 0, 0, 0] S1x384x1x8x128.size Gen.inb_S1x384x1x8x128_S1x384x1x8x128_0_0_0_0_0).toLoadRect f

/-- A buffer whose newest write is the whole of it holds that write. -/
theorem read_whole (V : View sig .tc .vmem S768x128 .i32) (L : List (View.Piece (Elt Ideal) S768x128 .i32)) (inb) (w : S768x128.Idx → BitVec 32) (y : S768x128.Idx) :
    V.read (Elt Ideal) (V.writes (Elt Ideal) V.junk (⟨Rect.unit (s := S768x128) ![0, 0] S768x128.size inb, w⟩ :: L)) y = w y := by
  refine View.read_writes_cons_hit (Val := Elt Ideal) V V.junk (Rect.unit (s := S768x128) ![0, 0] S768x128.size inb) w L y y ?_
  funext a
  match a with
  | ⟨0, _⟩ => exact Fin.ext (by show 0 + 1 * (y 0).val = (y 0).val; omega)
  | ⟨1, _⟩ => exact Fin.ext (by show 0 + 1 * (y 1).val = (y 1).val; omega)

section
variable (i : grid0.Coords) (arg5 arg6 arg7 : Memref sig .tc .vmem S1x384x1x8x128 .i8) (arg14 : Memref sig .tc .vmem S768x128 .i32)
  (f5 : BufTy.Contents (Elt Ideal) arg5.view.ty) (f6 : BufTy.Contents (Elt Ideal) arg6.view.ty) (f7 : BufTy.Contents (Elt Ideal) arg7.view.ty)

theorem w0 (v1 v2 : S1x384x1x8x128.Idx → BitVec 8) (y : S768x128.Idx) :
    arg14.view.read (Elt Ideal) (arg14.view.writes (Elt Ideal) arg14.view.junk (bodyRun.sl.H14_1 (F := Ideal) arg5 f5)) y
      = Gen.k0_pay263 (F := Ideal) (if (0 : ℕ) = 0 then blockOf arg5 f5 else if (0 : ℕ) = 1 then v1 else v2) y := read_whole _ _ _ _ y

theorem w1 (v0 v2 : S1x384x1x8x128.Idx → BitVec 8) (y : S768x128.Idx) :
    arg14.view.read (Elt Ideal) (arg14.view.writes (Elt Ideal) arg14.view.junk (bodyRun.sl.H14_2 (F := Ideal) arg5 arg6 f5 f6)) y
      = Gen.k0_pay263 (F := Ideal) (if (1 : ℕ) = 0 then v0 else if (1 : ℕ) = 1 then blockOf arg6 f6 else v2) y := read_whole _ _ _ _ y

theorem w2 (v0 v1 : S1x384x1x8x128.Idx → BitVec 8) (y : S768x128.Idx) :
    arg14.view.read (Elt Ideal) (arg14.view.writes (Elt Ideal) arg14.view.junk (bodyRun.sl.H14_3 (F := Ideal) arg5 arg6 arg7 f5 f6 f7)) y
      = Gen.k0_pay263 (F := Ideal) (if (2 : ℕ) = 0 then v0 else if (2 : ℕ) = 1 then v1 else blockOf arg7 f7) y := read_whole _ _ _ _ y

theorem w1' (v2 : S1x384x1x8x128.Idx → BitVec 8) (y : S768x128.Idx) :
    arg14.view.read (Elt Ideal) (arg14.view.writes (Elt Ideal) arg14.view.junk (bodyRun.sl.H14_2 (F := Ideal) arg5 arg6 f5 f6)) y
      = Gen.k0_pay263 (F := Ideal) (if (0 : ℕ) = 0 then blockOf arg6 f6 else v2) y := read_whole _ _ _ _ y

theorem w2' (v1 : S1x384x1x8x128.Idx → BitVec 8) (y : S768x128.Idx) :
    arg14.view.read (Elt Ideal) (arg14.view.writes (Elt Ideal) arg14.view.junk (bodyRun.sl.H14_3 (F := Ideal) arg5 arg6 arg7 f5 f6 f7)) y
      = Gen.k0_pay263 (F := Ideal) (if (1 : ℕ) = 0 then v1 else blockOf arg7 f7) y := read_whole _ _ _ _ y

theorem c1 : ∀ p ∈ bodyRun.sl.H11_1 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 0 0 (w0 arg5 arg14 f5 _ _) (by decide) (by decide) (by decide) _ _ _ _ _ rfl,
  fun _ h => absurd h List.not_mem_nil⟩

theorem c4 : ∀ p ∈ bodyRun.sl.H11_4 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 0 3 (w0 arg5 arg14 f5 _ _) (by decide) (by decide) (by decide) _ _ _ _ _ rfl,
  List.forall_mem_cons.2 ⟨piece11 _ _ _ _ _ 0 0 0 2 (w0 arg5 arg14 f5 _ _) (by decide) (by decide) (by decide) _ _ _ _ _ rfl,
  List.forall_mem_cons.2 ⟨piece11 _ _ _ _ _ 0 0 0 1 (w0 arg5 arg14 f5 _ _) (by decide) (by decide) (by decide) _ _ _ _ _ rfl,
  c1 arg5 arg6 arg7 arg14 f5 f6 f7⟩⟩⟩

theorem c6 : ∀ p ∈ bodyRun.sl.H11_6 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 1 1 (w0 arg5 arg14 f5 _ _) (by decide) (by decide) (by decide) _ _ _ _ _ rfl,
  List.forall_mem_cons.2 ⟨piece11 _ _ _ _ _ 0 0 1 0 (w0 arg5 arg14 f5 _ _) (by decide) (by decide) (by decide) _ _ _ _ _ rfl,
  c4 arg5 arg6 arg7 arg14 f5 f6 f7⟩⟩

theorem c8 : ∀ p ∈ bodyRun.sl.H11_8 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 1 3 (w0 arg5 arg14 f5 _ _) (by decide) (by decide) (by decide) _ _ _ _ _ rfl,
  List.forall_mem_cons.2 ⟨piece11 _ _ _ _ _ 0 0 1 2 (w0 arg5 arg14 f5 _ _) (by decide) (by decide) (by decide) _ _ _ _ _ rfl,
  c6 arg5 arg6 arg7 arg14 f5 f6 f7⟩⟩

theorem c11 : ∀ p ∈ bodyRun.sl.H11_11 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 2 2 (w0 arg5 arg14 f5 _ _) (by decide) (by decide) (by decide) _ _ _ _ _ rfl,
  List.forall_mem_cons.2 ⟨piece11 _ _ _ _ _ 0 0 2 1 (w0 arg5 arg14 f5 _ _) (by decide) (by decide) (by decide) _ _ _ _ _ rfl,
  List.forall_mem_cons.2 ⟨piece11 _ _ _ _ _ 0 0 2 0 (w0 arg5 arg14 f5 _ _) (by decide) (by decide) (by decide) _ _ _ _ _ rfl,
  c8 arg5 arg6 arg7 arg14 f5 f6 f7⟩⟩⟩

theorem c12 : ∀ p ∈ bodyRun.sl.H11_12 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 2 3 (w0 arg5 arg14 f5 _ _) (by decide) (by decide) (by decide) _ _ _ _ _ rfl,
  c11 arg5 arg6 arg7 arg14 f5 f6 f7⟩

theorem c16 : ∀ p ∈ bodyRun.sl.H11_16 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 3 3 (w0 arg5 arg14 f5 _ _) (by decide) (by decide) (by decide) _ _ _ _ _ rfl,
  List.forall_mem_cons.2 ⟨piece11 _ _ _ _ _ 0 0 3 2 (w0 arg5 arg14 f5 _ _) (by decide) (by decide) (by decide) _ _ _ _ _ rfl,
  List.forall_mem_cons.2 ⟨piece11 _ _ _ _ _ 0 0 3 1 (w0 arg5 arg14 f5 _ _) (by decide) (by decide) (by decide) _ _ _ _ _ rfl,
  List.forall_mem_cons.2 ⟨piece11 _ _ _ _ _ 0 0 3 0 (w0 arg5 arg14 f5 _ _) (by decide) (by decide) (by decide) _ _ _ _ _ rfl,
  c12 arg5 arg6 arg7 arg14 f5 f6 f7⟩⟩⟩⟩

theorem c20 : ∀ p ∈ bodyRun.sl.H11_20 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 4 3 (w0 arg5 arg14 f5 _ _) (by decide) (by decide) (by decide) _ _ _ _ _ rfl,
  List.forall_mem_cons.2 ⟨piece11 _ _ _ _ _ 0 0 4 2 (w0 arg5 arg14 f5 _ _) (by decide) (by decide) (by decide) _ _ _ _ _ rfl,
  List.forall_mem_cons.2 ⟨piece11 _ _ _ _ _ 0 0 4 1 (w0 arg5 arg14 f5 _ _) (by decide) (by decide) (by decide) _ _ _ _ _ rfl,
  List.forall_mem_cons.2 ⟨piece11 _ _ _ _ _ 0 0 4 0 (w0 arg5 arg14 f5 _ _) (by decide) (by decide) (by decide) _ _ _ _ _ rfl,
  c16 arg5 arg6 arg7 arg14 f5 f6 f7⟩⟩⟩⟩

theorem c24 : ∀ p ∈ bodyRun.sl.H11_24 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 5 3 (w0 arg5 arg14 f5 _ _) (by decide) (by decide) (by decide) _ _ _ _ _ rfl,
  List.forall_mem_cons.2 ⟨piece11 _ _ _ _ _ 0 0 5 2 (w0 arg5 arg14 f5 _ _) (by decide) (by decide) (by decide) _ _ _ _ _ rfl,
  List.forall_mem_cons.2 ⟨piece11 _ _ _ _ _ 0 0 5 1 (w0 arg5 arg14 f5 _ _) (by decide) (by decide) (by decide) _ _ _ _ _ rfl,
  List.forall_mem_cons.2 ⟨piece11 _ _ _ _ _ 0 0 5 0 (w0 arg5 arg14 f5 _ _) (by decide) (by decide) (by decide) _ _ _ _ _ rfl,
  c20 arg5 arg6 arg7 arg14 f5 f6 f7⟩⟩⟩⟩

theorem c28 : ∀ p ∈ bodyRun.sl.H11_28 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 6 3 (w0 arg5 arg14 f5 _ _) (by decide) (by decide) (by decide) _ _ _ _ _ rfl,
  List.forall_mem_cons.2 ⟨piece11 _ _ _ _ _ 0 0 6 2 (w0 arg5 arg14 f5 _ _) (by decide) (by decide) (by decide) _ _ _ _ _ rfl,
  List.forall_mem_cons.2 ⟨piece11 _ _ _ _ _ 0 0 6 1 (w0 arg5 arg14 f5 _ _) (by decide) (by decide) (by decide) _ _ _ _ _ rfl,
  List.forall_mem_cons.2 ⟨piece11 _ _ _ _ _ 0 0 6 0 (w0 arg5 arg14 f5 _ _) (by decide) (by decide) (by decide) _ _ _ _ _ rfl,
  c24 arg5 arg6 arg7 arg14 f5 f6 f7⟩⟩⟩⟩

theorem c29 : ∀ p ∈ bodyRun.sl.H11_29 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 7 0 (w0 arg5 arg14 f5 _ _) (by decide) (by decide) (by decide) _ _ _ _ _ rfl,
  c28 arg5 arg6 arg7 arg14 f5 f6 f7⟩

theorem c32 : ∀ p ∈ bodyRun.sl.H11_32 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 7 3 (w0 arg5 arg14 f5 _ _) (by decide) (by decide) (by decide) _ _ _ _ _ rfl,
  List.forall_mem_cons.2 ⟨piece11 _ _ _ _ _ 0 0 7 2 (w0 arg5 arg14 f5 _ _) (by decide) (by decide) (by decide) _ _ _ _ _ rfl,
  List.forall_mem_cons.2 ⟨piece11 _ _ _ _ _ 0 0 7 1 (w0 arg5 arg14 f5 _ _) (by decide) (by decide) (by decide) _ _ _ _ _ rfl,
  c29 arg5 arg6 arg7 arg14 f5 f6 f7⟩⟩⟩

theorem c34 : ∀ p ∈ bodyRun.sl.H11_34 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 8 1 (w0 arg5 arg14 f5 _ _) (by decide) (by decide) (by decide) _ _ _ _ _ rfl,
  List.forall_mem_cons.2 ⟨piece11 _ _ _ _ _ 0 0 8 0 (w0 arg5 arg14 f5 _ _) (by decide) (by decide) (by decide) _ _ _ _ _ rfl,
  c32 arg5 arg6 arg7 arg14 f5 f6 f7⟩⟩

theorem c36 : ∀ p ∈ bodyRun.sl.H11_36 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 8 3 (w0 arg5 arg14 f5 _ _) (by decide) (by decide) (by decide) _ _ _ _ _ rfl,
  List.forall_mem_cons.2 ⟨piece11 _ _ _ _ _ 0 0 8 2 (w0 arg5 arg14 f5 _ _) (by decide) (by decide) (by decide) _ _ _ _ _ rfl,
  c34 arg5 arg6 arg7 arg14 f5 f6 f7⟩⟩

theorem c39 : ∀ p ∈ bodyRun.sl.H11_39 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 9 2 (w0 arg5 arg14 f5 _ _) (by decide) (by decide) (by decide) _ _ _ _ _ rfl,
  List.forall_mem_cons.2 ⟨piece11 _ _ _ _ _ 0 0 9 1 (w0 arg5 arg14 f5 _ _) (by decide) (by decide) (by decide) _ _ _ _ _ rfl,
  List.forall_mem_cons.2 ⟨piece11 _ _ _ _ _ 0 0 9 0 (w0 arg5 arg14 f5 _ _) (by decide) (by decide) (by decide) _ _ _ _ _ rfl,
  c36 arg5 arg6 arg7 arg14 f5 f6 f7⟩⟩⟩

theorem c40 : ∀ p ∈ bodyRun.sl.H11_40 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 9 3 (w0 arg5 arg14 f5 _ _) (by decide) (by decide) (by decide) _ _ _ _ _ rfl,
  c39 arg5 arg6 arg7 arg14 f5 f6 f7⟩

theorem c44 : ∀ p ∈ bodyRun.sl.H11_44 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 10 3 (w0 arg5 arg14 f5 _ _) (by decide) (by decide) (by decide) _ _ _ _ _ rfl,
  List.forall_mem_cons.2 ⟨piece11 _ _ _ _ _ 0 0 10 2 (w0 arg5 arg14 f5 _ _) (by decide) (by decide) (by decide) _ _ _ _ _ rfl,
  List.forall_mem_cons.2 ⟨piece11 _ _ _ _ _ 0 0 10 1 (w0 arg5 arg14 f5 _ _) (by decide) (by decide) (by decide) _ _ _ _ _ rfl,
  List.forall_mem_cons.2 ⟨piece11 _ _ _ _ _ 0 0 10 0 (w0 arg5 arg14 f5 _ _) (by decide) (by decide) (by decide) _ _ _ _ _ rfl,
  c40 arg5 arg6 arg7 arg14 f5 f6 f7⟩⟩⟩⟩

theorem c48 : ∀ p ∈ bodyRun.sl.H11_48 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 0 11 3 (w0 arg5 arg14 f5 _ _) (by decide) (by decide) (by decide) _ _ _ _ _ rfl,
  List.forall_mem_cons.2 ⟨piece11 _ _ _ _ _ 0 0 11 2 (w0 arg5 arg14 f5 _ _) (by decide) (by decide) (by decide) _ _ _ _ _ rfl,
  List.forall_mem_cons.2 ⟨piece11 _ _ _ _ _ 0 0 11 1 (w0 arg5 arg14 f5 _ _) (by decide) (by decide) (by decide) _ _ _ _ _ rfl,
  List.forall_mem_cons.2 ⟨piece11 _ _ _ _ _ 0 0 11 0 (w0 arg5 arg14 f5 _ _) (by decide) (by decide) (by decide) _ _ _ _ _ rfl,
  c44 arg5 arg6 arg7 arg14 f5 f6 f7⟩⟩⟩⟩

theorem c52 : ∀ p ∈ bodyRun.sl.H11_52 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 0 3 (w0 arg5 arg14 f5 _ _) (by decide) (by decide) (by decide) _ _ _ _ _ rfl,
  List.forall_mem_cons.2 ⟨piece11 _ _ _ _ _ 0 1 0 2 (w0 arg5 arg14 f5 _ _) (by decide) (by decide) (by decide) _ _ _ _ _ rfl,
  List.forall_mem_cons.2 ⟨piece11 _ _ _ _ _ 0 1 0 1 (w0 arg5 arg14 f5 _ _) (by decide) (by decide) (by decide) _ _ _ _ _ rfl,
  List.forall_mem_cons.2 ⟨piece11 _ _ _ _ _ 0 1 0 0 (w0 arg5 arg14 f5 _ _) (by decide) (by decide) (by decide) _ _ _ _ _ rfl,
  c48 arg5 arg6 arg7 arg14 f5 f6 f7⟩⟩⟩⟩

theorem c56 : ∀ p ∈ bodyRun.sl.H11_56 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 1 3 (w0 arg5 arg14 f5 _ _) (by decide) (by decide) (by decide) _ _ _ _ _ rfl,
  List.forall_mem_cons.2 ⟨piece11 _ _ _ _ _ 0 1 1 2 (w0 arg5 arg14 f5 _ _) (by decide) (by decide) (by decide) _ _ _ _ _ rfl,
  List.forall_mem_cons.2 ⟨piece11 _ _ _ _ _ 0 1 1 1 (w0 arg5 arg14 f5 _ _) (by decide) (by decide) (by decide) _ _ _ _ _ rfl,
  List.forall_mem_cons.2 ⟨piece11 _ _ _ _ _ 0 1 1 0 (w0 arg5 arg14 f5 _ _) (by decide) (by decide) (by decide) _ _ _ _ _ rfl,
  c52 arg5 arg6 arg7 arg14 f5 f6 f7⟩⟩⟩⟩

theorem c60 : ∀ p ∈ bodyRun.sl.H11_60 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 2 3 (w0 arg5 arg14 f5 _ _) (by decide) (by decide) (by decide) _ _ _ _ _ rfl,
  List.forall_mem_cons.2 ⟨piece11 _ _ _ _ _ 0 1 2 2 (w0 arg5 arg14 f5 _ _) (by decide) (by decide) (by decide) _ _ _ _ _ rfl,
  List.forall_mem_cons.2 ⟨piece11 _ _ _ _ _ 0 1 2 1 (w0 arg5 arg14 f5 _ _) (by decide) (by decide) (by decide) _ _ _ _ _ rfl,
  List.forall_mem_cons.2 ⟨piece11 _ _ _ _ _ 0 1 2 0 (w0 arg5 arg14 f5 _ _) (by decide) (by decide) (by decide) _ _ _ _ _ rfl,
  c56 arg5 arg6 arg7 arg14 f5 f6 f7⟩⟩⟩⟩

theorem c61 : ∀ p ∈ bodyRun.sl.H11_61 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 3 0 (w0 arg5 arg14 f5 _ _) (by decide) (by decide) (by decide) _ _ _ _ _ rfl,
  c60 arg5 arg6 arg7 arg14 f5 f6 f7⟩

theorem c64 : ∀ p ∈ bodyRun.sl.H11_64 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 3 3 (w0 arg5 arg14 f5 _ _) (by decide) (by decide) (by decide) _ _ _ _ _ rfl,
  List.forall_mem_cons.2 ⟨piece11 _ _ _ _ _ 0 1 3 2 (w0 arg5 arg14 f5 _ _) (by decide) (by decide) (by decide) _ _ _ _ _ rfl,
  List.forall_mem_cons.2 ⟨piece11 _ _ _ _ _ 0 1 3 1 (w0 arg5 arg14 f5 _ _) (by decide) (by decide) (by decide) _ _ _ _ _ rfl,
  c61 arg5 arg6 arg7 arg14 f5 f6 f7⟩⟩⟩

theorem c66 : ∀ p ∈ bodyRun.sl.H11_66 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 4 1 (w0 arg5 arg14 f5 _ _) (by decide) (by decide) (by decide) _ _ _ _ _ rfl,
  List.forall_mem_cons.2 ⟨piece11 _ _ _ _ _ 0 1 4 0 (w0 arg5 arg14 f5 _ _) (by decide) (by decide) (by decide) _ _ _ _ _ rfl,
  c64 arg5 arg6 arg7 arg14 f5 f6 f7⟩⟩

theorem c68 : ∀ p ∈ bodyRun.sl.H11_68 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 4 3 (w0 arg5 arg14 f5 _ _) (by decide) (by decide) (by decide) _ _ _ _ _ rfl,
  List.forall_mem_cons.2 ⟨piece11 _ _ _ _ _ 0 1 4 2 (w0 arg5 arg14 f5 _ _) (by decide) (by decide) (by decide) _ _ _ _ _ rfl,
  c66 arg5 arg6 arg7 arg14 f5 f6 f7⟩⟩

theorem c71 : ∀ p ∈ bodyRun.sl.H11_71 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 5 2 (w0 arg5 arg14 f5 _ _) (by decide) (by decide) (by decide) _ _ _ _ _ rfl,
  List.forall_mem_cons.2 ⟨piece11 _ _ _ _ _ 0 1 5 1 (w0 arg5 arg14 f5 _ _) (by decide) (by decide) (by decide) _ _ _ _ _ rfl,
  List.forall_mem_cons.2 ⟨piece11 _ _ _ _ _ 0 1 5 0 (w0 arg5 arg14 f5 _ _) (by decide) (by decide) (by decide) _ _ _ _ _ rfl,
  c68 arg5 arg6 arg7 arg14 f5 f6 f7⟩⟩⟩

theorem c72 : ∀ p ∈ bodyRun.sl.H11_72 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 5 3 (w0 arg5 arg14 f5 _ _) (by decide) (by decide) (by decide) _ _ _ _ _ rfl,
  c71 arg5 arg6 arg7 arg14 f5 f6 f7⟩

theorem c76 : ∀ p ∈ bodyRun.sl.H11_76 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 6 3 (w0 arg5 arg14 f5 _ _) (by decide) (by decide) (by decide) _ _ _ _ _ rfl,
  List.forall_mem_cons.2 ⟨piece11 _ _ _ _ _ 0 1 6 2 (w0 arg5 arg14 f5 _ _) (by decide) (by decide) (by decide) _ _ _ _ _ rfl,
  List.forall_mem_cons.2 ⟨piece11 _ _ _ _ _ 0 1 6 1 (w0 arg5 arg14 f5 _ _) (by decide) (by decide) (by decide) _ _ _ _ _ rfl,
  List.forall_mem_cons.2 ⟨piece11 _ _ _ _ _ 0 1 6 0 (w0 arg5 arg14 f5 _ _) (by decide) (by decide) (by decide) _ _ _ _ _ rfl,
  c72 arg5 arg6 arg7 arg14 f5 f6 f7⟩⟩⟩⟩

theorem c80 : ∀ p ∈ bodyRun.sl.H11_80 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 7 3 (w0 arg5 arg14 f5 _ _) (by decide) (by decide) (by decide) _ _ _ _ _ rfl,
  List.forall_mem_cons.2 ⟨piece11 _ _ _ _ _ 0 1 7 2 (w0 arg5 arg14 f5 _ _) (by decide) (by decide) (by decide) _ _ _ _ _ rfl,
  List.forall_mem_cons.2 ⟨piece11 _ _ _ _ _ 0 1 7 1 (w0 arg5 arg14 f5 _ _) (by decide) (by decide) (by decide) _ _ _ _ _ rfl,
  List.forall_mem_cons.2 ⟨piece11 _ _ _ _ _ 0 1 7 0 (w0 arg5 arg14 f5 _ _) (by decide) (by decide) (by decide) _ _ _ _ _ rfl,
  c76 arg5 arg6 arg7 arg14 f5 f6 f7⟩⟩⟩⟩

theorem c84 : ∀ p ∈ bodyRun.sl.H11_84 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 8 3 (w0 arg5 arg14 f5 _ _) (by decide) (by decide) (by decide) _ _ _ _ _ rfl,
  List.forall_mem_cons.2 ⟨piece11 _ _ _ _ _ 0 1 8 2 (w0 arg5 arg14 f5 _ _) (by decide) (by decide) (by decide) _ _ _ _ _ rfl,
  List.forall_mem_cons.2 ⟨piece11 _ _ _ _ _ 0 1 8 1 (w0 arg5 arg14 f5 _ _) (by decide) (by decide) (by decide) _ _ _ _ _ rfl,
  List.forall_mem_cons.2 ⟨piece11 _ _ _ _ _ 0 1 8 0 (w0 arg5 arg14 f5 _ _) (by decide) (by decide) (by decide) _ _ _ _ _ rfl,
  c80 arg5 arg6 arg7 arg14 f5 f6 f7⟩⟩⟩⟩

theorem c88 : ∀ p ∈ bodyRun.sl.H11_88 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 9 3 (w0 arg5 arg14 f5 _ _) (by decide) (by decide) (by decide) _ _ _ _ _ rfl,
  List.forall_mem_cons.2 ⟨piece11 _ _ _ _ _ 0 1 9 2 (w0 arg5 arg14 f5 _ _) (by decide) (by decide) (by decide) _ _ _ _ _ rfl,
  List.forall_mem_cons.2 ⟨piece11 _ _ _ _ _ 0 1 9 1 (w0 arg5 arg14 f5 _ _) (by decide) (by decide) (by decide) _ _ _ _ _ rfl,
  List.forall_mem_cons.2 ⟨piece11 _ _ _ _ _ 0 1 9 0 (w0 arg5 arg14 f5 _ _) (by decide) (by decide) (by decide) _ _ _ _ _ rfl,
  c84 arg5 arg6 arg7 arg14 f5 f6 f7⟩⟩⟩⟩

theorem c89 : ∀ p ∈ bodyRun.sl.H11_89 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 10 0 (w0 arg5 arg14 f5 _ _) (by decide) (by decide) (by decide) _ _ _ _ _ rfl,
  c88 arg5 arg6 arg7 arg14 f5 f6 f7⟩

theorem c92 : ∀ p ∈ bodyRun.sl.H11_92 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 10 3 (w0 arg5 arg14 f5 _ _) (by decide) (by decide) (by decide) _ _ _ _ _ rfl,
  List.forall_mem_cons.2 ⟨piece11 _ _ _ _ _ 0 1 10 2 (w0 arg5 arg14 f5 _ _) (by decide) (by decide) (by decide) _ _ _ _ _ rfl,
  List.forall_mem_cons.2 ⟨piece11 _ _ _ _ _ 0 1 10 1 (w0 arg5 arg14 f5 _ _) (by decide) (by decide) (by decide) _ _ _ _ _ rfl,
  c89 arg5 arg6 arg7 arg14 f5 f6 f7⟩⟩⟩

theorem c94 : ∀ p ∈ bodyRun.sl.H11_94 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 11 1 (w0 arg5 arg14 f5 _ _) (by decide) (by decide) (by decide) _ _ _ _ _ rfl,
  List.forall_mem_cons.2 ⟨piece11 _ _ _ _ _ 0 1 11 0 (w0 arg5 arg14 f5 _ _) (by decide) (by decide) (by decide) _ _ _ _ _ rfl,
  c92 arg5 arg6 arg7 arg14 f5 f6 f7⟩⟩

theorem c96 : ∀ p ∈ bodyRun.sl.H11_96 (F := Ideal) arg5 arg14 f5, ∀ x : p.1.shape.Idx, p.2 x = G11 (blockOf arg5 f5) (blockOf arg6 f6) (blockOf arg7 f7) (p.1.emb x) :=
  List.forall_mem_cons.2 ⟨piece11 _ _ _ _ _ 0 1 11 3 (w0 arg5 arg14 f5 _ _) (by decide) (by decide) (by decide) _ _ _ _ _ rfl,
  List.forall_mem_cons.2 ⟨piece11 _ _ _ _ _ 0 1 11 2 (w0 arg5 arg14 f5 _ _) (by decide) (by decide) (by decide) _ _ _ _ _ rfl,
  c94 arg5 arg6 arg7 arg14 f5 f6 f7⟩⟩

theorem c97 : ∀ p ∈ bodyRun.sl.H11_97 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 0 0 (w1 arg5 arg6 arg14 f5 f6 _ _) (by decide) (by decide) (by decide) _ _ _ _ _ rfl,
  c96 arg5 arg6 arg7 arg14 f5 f6 f7⟩

theorem c100 : ∀ p ∈ bodyRun.sl.H11_100 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 0 3 (w1 arg5 arg6 arg14 f5 f6 _ _) (by decide) (by decide) (by decide) _ _ _ _ _ rfl,
  List.forall_mem_cons.2 ⟨piece11 _ _ _ _ _ 1 0 0 2 (w1 arg5 arg6 arg14 f5 f6 _ _) (by decide) (by decide) (by decide) _ _ _ _ _ rfl,
  List.forall_mem_cons.2 ⟨piece11 _ _ _ _ _ 1 0 0 1 (w1 arg5 arg6 arg14 f5 f6 _ _) (by decide) (by decide) (by decide) _ _ _ _ _ rfl,
  c97 arg5 arg6 arg7 arg14 f5 f6 f7⟩⟩⟩

theorem c102 : ∀ p ∈ bodyRun.sl.H11_102 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 1 1 (w1 arg5 arg6 arg14 f5 f6 _ _) (by decide) (by decide) (by decide) _ _ _ _ _ rfl,
  List.forall_mem_cons.2 ⟨piece11 _ _ _ _ _ 1 0 1 0 (w1 arg5 arg6 arg14 f5 f6 _ _) (by decide) (by decide) (by decide) _ _ _ _ _ rfl,
  c100 arg5 arg6 arg7 arg14 f5 f6 f7⟩⟩

theorem c104 : ∀ p ∈ bodyRun.sl.H11_104 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 1 3 (w1 arg5 arg6 arg14 f5 f6 _ _) (by decide) (by decide) (by decide) _ _ _ _ _ rfl,
  List.forall_mem_cons.2 ⟨piece11 _ _ _ _ _ 1 0 1 2 (w1 arg5 arg6 arg14 f5 f6 _ _) (by decide) (by decide) (by decide) _ _ _ _ _ rfl,
  c102 arg5 arg6 arg7 arg14 f5 f6 f7⟩⟩

theorem c107 : ∀ p ∈ bodyRun.sl.H11_107 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 2 2 (w1 arg5 arg6 arg14 f5 f6 _ _) (by decide) (by decide) (by decide) _ _ _ _ _ rfl,
  List.forall_mem_cons.2 ⟨piece11 _ _ _ _ _ 1 0 2 1 (w1 arg5 arg6 arg14 f5 f6 _ _) (by decide) (by decide) (by decide) _ _ _ _ _ rfl,
  List.forall_mem_cons.2 ⟨piece11 _ _ _ _ _ 1 0 2 0 (w1 arg5 arg6 arg14 f5 f6 _ _) (by decide) (by decide) (by decide) _ _ _ _ _ rfl,
  c104 arg5 arg6 arg7 arg14 f5 f6 f7⟩⟩⟩

theorem c108 : ∀ p ∈ bodyRun.sl.H11_108 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 2 3 (w1 arg5 arg6 arg14 f5 f6 _ _) (by decide) (by decide) (by decide) _ _ _ _ _ rfl,
  c107 arg5 arg6 arg7 arg14 f5 f6 f7⟩

theorem c112 : ∀ p ∈ bodyRun.sl.H11_112 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 3 3 (w1 arg5 arg6 arg14 f5 f6 _ _) (by decide) (by decide) (by decide) _ _ _ _ _ rfl,
  List.forall_mem_cons.2 ⟨piece11 _ _ _ _ _ 1 0 3 2 (w1 arg5 arg6 arg14 f5 f6 _ _) (by decide) (by decide) (by decide) _ _ _ _ _ rfl,
  List.forall_mem_cons.2 ⟨piece11 _ _ _ _ _ 1 0 3 1 (w1 arg5 arg6 arg14 f5 f6 _ _) (by decide) (by decide) (by decide) _ _ _ _ _ rfl,
  List.forall_mem_cons.2 ⟨piece11 _ _ _ _ _ 1 0 3 0 (w1 arg5 arg6 arg14 f5 f6 _ _) (by decide) (by decide) (by decide) _ _ _ _ _ rfl,
  c108 arg5 arg6 arg7 arg14 f5 f6 f7⟩⟩⟩⟩

theorem c116 : ∀ p ∈ bodyRun.sl.H11_116 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 4 3 (w1 arg5 arg6 arg14 f5 f6 _ _) (by decide) (by decide) (by decide) _ _ _ _ _ rfl,
  List.forall_mem_cons.2 ⟨piece11 _ _ _ _ _ 1 0 4 2 (w1 arg5 arg6 arg14 f5 f6 _ _) (by decide) (by decide) (by decide) _ _ _ _ _ rfl,
  List.forall_mem_cons.2 ⟨piece11 _ _ _ _ _ 1 0 4 1 (w1 arg5 arg6 arg14 f5 f6 _ _) (by decide) (by decide) (by decide) _ _ _ _ _ rfl,
  List.forall_mem_cons.2 ⟨piece11 _ _ _ _ _ 1 0 4 0 (w1 arg5 arg6 arg14 f5 f6 _ _) (by decide) (by decide) (by decide) _ _ _ _ _ rfl,
  c112 arg5 arg6 arg7 arg14 f5 f6 f7⟩⟩⟩⟩

theorem c120 : ∀ p ∈ bodyRun.sl.H11_120 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 5 3 (w1 arg5 arg6 arg14 f5 f6 _ _) (by decide) (by decide) (by decide) _ _ _ _ _ rfl,
  List.forall_mem_cons.2 ⟨piece11 _ _ _ _ _ 1 0 5 2 (w1 arg5 arg6 arg14 f5 f6 _ _) (by decide) (by decide) (by decide) _ _ _ _ _ rfl,
  List.forall_mem_cons.2 ⟨piece11 _ _ _ _ _ 1 0 5 1 (w1 arg5 arg6 arg14 f5 f6 _ _) (by decide) (by decide) (by decide) _ _ _ _ _ rfl,
  List.forall_mem_cons.2 ⟨piece11 _ _ _ _ _ 1 0 5 0 (w1 arg5 arg6 arg14 f5 f6 _ _) (by decide) (by decide) (by decide) _ _ _ _ _ rfl,
  c116 arg5 arg6 arg7 arg14 f5 f6 f7⟩⟩⟩⟩

theorem c124 : ∀ p ∈ bodyRun.sl.H11_124 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 6 3 (w1 arg5 arg6 arg14 f5 f6 _ _) (by decide) (by decide) (by decide) _ _ _ _ _ rfl,
  List.forall_mem_cons.2 ⟨piece11 _ _ _ _ _ 1 0 6 2 (w1 arg5 arg6 arg14 f5 f6 _ _) (by decide) (by decide) (by decide) _ _ _ _ _ rfl,
  List.forall_mem_cons.2 ⟨piece11 _ _ _ _ _ 1 0 6 1 (w1 arg5 arg6 arg14 f5 f6 _ _) (by decide) (by decide) (by decide) _ _ _ _ _ rfl,
  List.forall_mem_cons.2 ⟨piece11 _ _ _ _ _ 1 0 6 0 (w1 arg5 arg6 arg14 f5 f6 _ _) (by decide) (by decide) (by decide) _ _ _ _ _ rfl,
  c120 arg5 arg6 arg7 arg14 f5 f6 f7⟩⟩⟩⟩

theorem c128 : ∀ p ∈ bodyRun.sl.H11_128 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 7 3 (w1 arg5 arg6 arg14 f5 f6 _ _) (by decide) (by decide) (by decide) _ _ _ _ _ rfl,
  List.forall_mem_cons.2 ⟨piece11 _ _ _ _ _ 1 0 7 2 (w1 arg5 arg6 arg14 f5 f6 _ _) (by decide) (by decide) (by decide) _ _ _ _ _ rfl,
  List.forall_mem_cons.2 ⟨piece11 _ _ _ _ _ 1 0 7 1 (w1 arg5 arg6 arg14 f5 f6 _ _) (by decide) (by decide) (by decide) _ _ _ _ _ rfl,
  List.forall_mem_cons.2 ⟨piece11 _ _ _ _ _ 1 0 7 0 (w1 arg5 arg6 arg14 f5 f6 _ _) (by decide) (by decide) (by decide) _ _ _ _ _ rfl,
  c124 arg5 arg6 arg7 arg14 f5 f6 f7⟩⟩⟩⟩

theorem c129 : ∀ p ∈ bodyRun.sl.H11_129 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 8 0 (w1 arg5 arg6 arg14 f5 f6 _ _) (by decide) (by decide) (by decide) _ _ _ _ _ rfl,
  c128 arg5 arg6 arg7 arg14 f5 f6 f7⟩

theorem c132 : ∀ p ∈ bodyRun.sl.H11_132 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 8 3 (w1 arg5 arg6 arg14 f5 f6 _ _) (by decide) (by decide) (by decide) _ _ _ _ _ rfl,
  List.forall_mem_cons.2 ⟨piece11 _ _ _ _ _ 1 0 8 2 (w1 arg5 arg6 arg14 f5 f6 _ _) (by decide) (by decide) (by decide) _ _ _ _ _ rfl,
  List.forall_mem_cons.2 ⟨piece11 _ _ _ _ _ 1 0 8 1 (w1 arg5 arg6 arg14 f5 f6 _ _) (by decide) (by decide) (by decide) _ _ _ _ _ rfl,
  c129 arg5 arg6 arg7 arg14 f5 f6 f7⟩⟩⟩

theorem c134 : ∀ p ∈ bodyRun.sl.H11_134 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 9 1 (w1 arg5 arg6 arg14 f5 f6 _ _) (by decide) (by decide) (by decide) _ _ _ _ _ rfl,
  List.forall_mem_cons.2 ⟨piece11 _ _ _ _ _ 1 0 9 0 (w1 arg5 arg6 arg14 f5 f6 _ _) (by decide) (by decide) (by decide) _ _ _ _ _ rfl,
  c132 arg5 arg6 arg7 arg14 f5 f6 f7⟩⟩

theorem c136 : ∀ p ∈ bodyRun.sl.H11_136 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 9 3 (w1 arg5 arg6 arg14 f5 f6 _ _) (by decide) (by decide) (by decide) _ _ _ _ _ rfl,
  List.forall_mem_cons.2 ⟨piece11 _ _ _ _ _ 1 0 9 2 (w1 arg5 arg6 arg14 f5 f6 _ _) (by decide) (by decide) (by decide) _ _ _ _ _ rfl,
  c134 arg5 arg6 arg7 arg14 f5 f6 f7⟩⟩

theorem c139 : ∀ p ∈ bodyRun.sl.H11_139 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 10 2 (w1 arg5 arg6 arg14 f5 f6 _ _) (by decide) (by decide) (by decide) _ _ _ _ _ rfl,
  List.forall_mem_cons.2 ⟨piece11 _ _ _ _ _ 1 0 10 1 (w1 arg5 arg6 arg14 f5 f6 _ _) (by decide) (by decide) (by decide) _ _ _ _ _ rfl,
  List.forall_mem_cons.2 ⟨piece11 _ _ _ _ _ 1 0 10 0 (w1 arg5 arg6 arg14 f5 f6 _ _) (by decide) (by decide) (by decide) _ _ _ _ _ rfl,
  c136 arg5 arg6 arg7 arg14 f5 f6 f7⟩⟩⟩

theorem c140 : ∀ p ∈ bodyRun.sl.H11_140 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 10 3 (w1 arg5 arg6 arg14 f5 f6 _ _) (by decide) (by decide) (by decide) _ _ _ _ _ rfl,
  c139 arg5 arg6 arg7 arg14 f5 f6 f7⟩

theorem c144 : ∀ p ∈ bodyRun.sl.H11_144 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 0 11 3 (w1 arg5 arg6 arg14 f5 f6 _ _) (by decide) (by decide) (by decide) _ _ _ _ _ rfl,
  List.forall_mem_cons.2 ⟨piece11 _ _ _ _ _ 1 0 11 2 (w1 arg5 arg6 arg14 f5 f6 _ _) (by decide) (by decide) (by decide) _ _ _ _ _ rfl,
  List.forall_mem_cons.2 ⟨piece11 _ _ _ _ _ 1 0 11 1 (w1 arg5 arg6 arg14 f5 f6 _ _) (by decide) (by decide) (by decide) _ _ _ _ _ rfl,
  List.forall_mem_cons.2 ⟨piece11 _ _ _ _ _ 1 0 11 0 (w1 arg5 arg6 arg14 f5 f6 _ _) (by decide) (by decide) (by decide) _ _ _ _ _ rfl,
  c140 arg5 arg6 arg7 arg14 f5 f6 f7⟩⟩⟩⟩

theorem c148 : ∀ p ∈ bodyRun.sl.H11_148 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 0 3 (w1 arg5 arg6 arg14 f5 f6 _ _) (by decide) (by decide) (by decide) _ _ _ _ _ rfl,
  List.forall_mem_cons.2 ⟨piece11 _ _ _ _ _ 1 1 0 2 (w1 arg5 arg6 arg14 f5 f6 _ _) (by decide) (by decide) (by decide) _ _ _ _ _ rfl,
  List.forall_mem_cons.2 ⟨piece11 _ _ _ _ _ 1 1 0 1 (w1 arg5 arg6 arg14 f5 f6 _ _) (by decide) (by decide) (by decide) _ _ _ _ _ rfl,
  List.forall_mem_cons.2 ⟨piece11 _ _ _ _ _ 1 1 0 0 (w1 arg5 arg6 arg14 f5 f6 _ _) (by decide) (by decide) (by decide) _ _ _ _ _ rfl,
  c144 arg5 arg6 arg7 arg14 f5 f6 f7⟩⟩⟩⟩

theorem c152 : ∀ p ∈ bodyRun.sl.H11_152 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 1 3 (w1 arg5 arg6 arg14 f5 f6 _ _) (by decide) (by decide) (by decide) _ _ _ _ _ rfl,
  List.forall_mem_cons.2 ⟨piece11 _ _ _ _ _ 1 1 1 2 (w1 arg5 arg6 arg14 f5 f6 _ _) (by decide) (by decide) (by decide) _ _ _ _ _ rfl,
  List.forall_mem_cons.2 ⟨piece11 _ _ _ _ _ 1 1 1 1 (w1 arg5 arg6 arg14 f5 f6 _ _) (by decide) (by decide) (by decide) _ _ _ _ _ rfl,
  List.forall_mem_cons.2 ⟨piece11 _ _ _ _ _ 1 1 1 0 (w1 arg5 arg6 arg14 f5 f6 _ _) (by decide) (by decide) (by decide) _ _ _ _ _ rfl,
  c148 arg5 arg6 arg7 arg14 f5 f6 f7⟩⟩⟩⟩

theorem c156 : ∀ p ∈ bodyRun.sl.H11_156 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 2 3 (w1 arg5 arg6 arg14 f5 f6 _ _) (by decide) (by decide) (by decide) _ _ _ _ _ rfl,
  List.forall_mem_cons.2 ⟨piece11 _ _ _ _ _ 1 1 2 2 (w1 arg5 arg6 arg14 f5 f6 _ _) (by decide) (by decide) (by decide) _ _ _ _ _ rfl,
  List.forall_mem_cons.2 ⟨piece11 _ _ _ _ _ 1 1 2 1 (w1 arg5 arg6 arg14 f5 f6 _ _) (by decide) (by decide) (by decide) _ _ _ _ _ rfl,
  List.forall_mem_cons.2 ⟨piece11 _ _ _ _ _ 1 1 2 0 (w1 arg5 arg6 arg14 f5 f6 _ _) (by decide) (by decide) (by decide) _ _ _ _ _ rfl,
  c152 arg5 arg6 arg7 arg14 f5 f6 f7⟩⟩⟩⟩

theorem c157 : ∀ p ∈ bodyRun.sl.H11_157 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 3 0 (w1 arg5 arg6 arg14 f5 f6 _ _) (by decide) (by decide) (by decide) _ _ _ _ _ rfl,
  c156 arg5 arg6 arg7 arg14 f5 f6 f7⟩

theorem c160 : ∀ p ∈ bodyRun.sl.H11_160 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 3 3 (w1 arg5 arg6 arg14 f5 f6 _ _) (by decide) (by decide) (by decide) _ _ _ _ _ rfl,
  List.forall_mem_cons.2 ⟨piece11 _ _ _ _ _ 1 1 3 2 (w1 arg5 arg6 arg14 f5 f6 _ _) (by decide) (by decide) (by decide) _ _ _ _ _ rfl,
  List.forall_mem_cons.2 ⟨piece11 _ _ _ _ _ 1 1 3 1 (w1 arg5 arg6 arg14 f5 f6 _ _) (by decide) (by decide) (by decide) _ _ _ _ _ rfl,
  c157 arg5 arg6 arg7 arg14 f5 f6 f7⟩⟩⟩

theorem c162 : ∀ p ∈ bodyRun.sl.H11_162 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 4 1 (w1 arg5 arg6 arg14 f5 f6 _ _) (by decide) (by decide) (by decide) _ _ _ _ _ rfl,
  List.forall_mem_cons.2 ⟨piece11 _ _ _ _ _ 1 1 4 0 (w1 arg5 arg6 arg14 f5 f6 _ _) (by decide) (by decide) (by decide) _ _ _ _ _ rfl,
  c160 arg5 arg6 arg7 arg14 f5 f6 f7⟩⟩

theorem c164 : ∀ p ∈ bodyRun.sl.H11_164 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 4 3 (w1 arg5 arg6 arg14 f5 f6 _ _) (by decide) (by decide) (by decide) _ _ _ _ _ rfl,
  List.forall_mem_cons.2 ⟨piece11 _ _ _ _ _ 1 1 4 2 (w1 arg5 arg6 arg14 f5 f6 _ _) (by decide) (by decide) (by decide) _ _ _ _ _ rfl,
  c162 arg5 arg6 arg7 arg14 f5 f6 f7⟩⟩

theorem c167 : ∀ p ∈ bodyRun.sl.H11_167 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 5 2 (w1 arg5 arg6 arg14 f5 f6 _ _) (by decide) (by decide) (by decide) _ _ _ _ _ rfl,
  List.forall_mem_cons.2 ⟨piece11 _ _ _ _ _ 1 1 5 1 (w1 arg5 arg6 arg14 f5 f6 _ _) (by decide) (by decide) (by decide) _ _ _ _ _ rfl,
  List.forall_mem_cons.2 ⟨piece11 _ _ _ _ _ 1 1 5 0 (w1 arg5 arg6 arg14 f5 f6 _ _) (by decide) (by decide) (by decide) _ _ _ _ _ rfl,
  c164 arg5 arg6 arg7 arg14 f5 f6 f7⟩⟩⟩

theorem c168 : ∀ p ∈ bodyRun.sl.H11_168 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 5 3 (w1 arg5 arg6 arg14 f5 f6 _ _) (by decide) (by decide) (by decide) _ _ _ _ _ rfl,
  c167 arg5 arg6 arg7 arg14 f5 f6 f7⟩

theorem c172 : ∀ p ∈ bodyRun.sl.H11_172 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 6 3 (w1 arg5 arg6 arg14 f5 f6 _ _) (by decide) (by decide) (by decide) _ _ _ _ _ rfl,
  List.forall_mem_cons.2 ⟨piece11 _ _ _ _ _ 1 1 6 2 (w1 arg5 arg6 arg14 f5 f6 _ _) (by decide) (by decide) (by decide) _ _ _ _ _ rfl,
  List.forall_mem_cons.2 ⟨piece11 _ _ _ _ _ 1 1 6 1 (w1 arg5 arg6 arg14 f5 f6 _ _) (by decide) (by decide) (by decide) _ _ _ _ _ rfl,
  List.forall_mem_cons.2 ⟨piece11 _ _ _ _ _ 1 1 6 0 (w1 arg5 arg6 arg14 f5 f6 _ _) (by decide) (by decide) (by decide) _ _ _ _ _ rfl,
  c168 arg5 arg6 arg7 arg14 f5 f6 f7⟩⟩⟩⟩

theorem c176 : ∀ p ∈ bodyRun.sl.H11_176 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 7 3 (w1 arg5 arg6 arg14 f5 f6 _ _) (by decide) (by decide) (by decide) _ _ _ _ _ rfl,
  List.forall_mem_cons.2 ⟨piece11 _ _ _ _ _ 1 1 7 2 (w1 arg5 arg6 arg14 f5 f6 _ _) (by decide) (by decide) (by decide) _ _ _ _ _ rfl,
  List.forall_mem_cons.2 ⟨piece11 _ _ _ _ _ 1 1 7 1 (w1 arg5 arg6 arg14 f5 f6 _ _) (by decide) (by decide) (by decide) _ _ _ _ _ rfl,
  List.forall_mem_cons.2 ⟨piece11 _ _ _ _ _ 1 1 7 0 (w1 arg5 arg6 arg14 f5 f6 _ _) (by decide) (by decide) (by decide) _ _ _ _ _ rfl,
  c172 arg5 arg6 arg7 arg14 f5 f6 f7⟩⟩⟩⟩

theorem c180 : ∀ p ∈ bodyRun.sl.H11_180 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 8 3 (w1 arg5 arg6 arg14 f5 f6 _ _) (by decide) (by decide) (by decide) _ _ _ _ _ rfl,
  List.forall_mem_cons.2 ⟨piece11 _ _ _ _ _ 1 1 8 2 (w1 arg5 arg6 arg14 f5 f6 _ _) (by decide) (by decide) (by decide) _ _ _ _ _ rfl,
  List.forall_mem_cons.2 ⟨piece11 _ _ _ _ _ 1 1 8 1 (w1 arg5 arg6 arg14 f5 f6 _ _) (by decide) (by decide) (by decide) _ _ _ _ _ rfl,
  List.forall_mem_cons.2 ⟨piece11 _ _ _ _ _ 1 1 8 0 (w1 arg5 arg6 arg14 f5 f6 _ _) (by decide) (by decide) (by decide) _ _ _ _ _ rfl,
  c176 arg5 arg6 arg7 arg14 f5 f6 f7⟩⟩⟩⟩

theorem c184 : ∀ p ∈ bodyRun.sl.H11_184 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 9 3 (w1 arg5 arg6 arg14 f5 f6 _ _) (by decide) (by decide) (by decide) _ _ _ _ _ rfl,
  List.forall_mem_cons.2 ⟨piece11 _ _ _ _ _ 1 1 9 2 (w1 arg5 arg6 arg14 f5 f6 _ _) (by decide) (by decide) (by decide) _ _ _ _ _ rfl,
  List.forall_mem_cons.2 ⟨piece11 _ _ _ _ _ 1 1 9 1 (w1 arg5 arg6 arg14 f5 f6 _ _) (by decide) (by decide) (by decide) _ _ _ _ _ rfl,
  List.forall_mem_cons.2 ⟨piece11 _ _ _ _ _ 1 1 9 0 (w1 arg5 arg6 arg14 f5 f6 _ _) (by decide) (by decide) (by decide) _ _ _ _ _ rfl,
  c180 arg5 arg6 arg7 arg14 f5 f6 f7⟩⟩⟩⟩

theorem c188 : ∀ p ∈ bodyRun.sl.H11_188 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 10 3 (w1 arg5 arg6 arg14 f5 f6 _ _) (by decide) (by decide) (by decide) _ _ _ _ _ rfl,
  List.forall_mem_cons.2 ⟨piece11 _ _ _ _ _ 1 1 10 2 (w1 arg5 arg6 arg14 f5 f6 _ _) (by decide) (by decide) (by decide) _ _ _ _ _ rfl,
  List.forall_mem_cons.2 ⟨piece11 _ _ _ _ _ 1 1 10 1 (w1 arg5 arg6 arg14 f5 f6 _ _) (by decide) (by decide) (by decide) _ _ _ _ _ rfl,
  List.forall_mem_cons.2 ⟨piece11 _ _ _ _ _ 1 1 10 0 (w1 arg5 arg6 arg14 f5 f6 _ _) (by decide) (by decide) (by decide) _ _ _ _ _ rfl,
  c184 arg5 arg6 arg7 arg14 f5 f6 f7⟩⟩⟩⟩

theorem c189 : ∀ p ∈ bodyRun.sl.H11_189 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 11 0 (w1 arg5 arg6 arg14 f5 f6 _ _) (by decide) (by decide) (by decide) _ _ _ _ _ rfl,
  c188 arg5 arg6 arg7 arg14 f5 f6 f7⟩

theorem c192 : ∀ p ∈ bodyRun.sl.H11_192 (F := Ideal) arg5 arg6 arg14 f5 f6, ∀ x : p.1.shape.Idx, p.2 x = G11 (blockOf arg5 f5) (blockOf arg6 f6) (blockOf arg7 f7) (p.1.emb x) :=
  List.forall_mem_cons.2 ⟨piece11 _ _ _ _ _ 1 1 11 3 (w1 arg5 arg6 arg14 f5 f6 _ _) (by decide) (by decide) (by decide) _ _ _ _ _ rfl,
  List.forall_mem_cons.2 ⟨piece11 _ _ _ _ _ 1 1 11 2 (w1 arg5 arg6 arg14 f5 f6 _ _) (by decide) (by decide) (by decide) _ _ _ _ _ rfl,
  List.forall_mem_cons.2 ⟨piece11 _ _ _ _ _ 1 1 11 1 (w1 arg5 arg6 arg14 f5 f6 _ _) (by decide) (by decide) (by decide) _ _ _ _ _ rfl,
  c189 arg5 arg6 arg7 arg14 f5 f6 f7⟩⟩⟩

theorem c193 : ∀ p ∈ bodyRun.sl.H11_193 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 0 0 (w2 arg5 arg6 arg7 arg14 f5 f6 f7 _ _) (by decide) (by decide) (by decide) _ _ _ _ _ rfl,
  c192 arg5 arg6 arg7 arg14 f5 f6 f7⟩

theorem c196 : ∀ p ∈ bodyRun.sl.H11_196 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 0 3 (w2 arg5 arg6 arg7 arg14 f5 f6 f7 _ _) (by decide) (by decide) (by decide) _ _ _ _ _ rfl,
  List.forall_mem_cons.2 ⟨piece11 _ _ _ _ _ 2 0 0 2 (w2 arg5 arg6 arg7 arg14 f5 f6 f7 _ _) (by decide) (by decide) (by decide) _ _ _ _ _ rfl,
  List.forall_mem_cons.2 ⟨piece11 _ _ _ _ _ 2 0 0 1 (w2 arg5 arg6 arg7 arg14 f5 f6 f7 _ _) (by decide) (by decide) (by decide) _ _ _ _ _ rfl,
  c193 arg5 arg6 arg7 arg14 f5 f6 f7⟩⟩⟩

theorem c198 : ∀ p ∈ bodyRun.sl.H11_198 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 1 1 (w2 arg5 arg6 arg7 arg14 f5 f6 f7 _ _) (by decide) (by decide) (by decide) _ _ _ _ _ rfl,
  List.forall_mem_cons.2 ⟨piece11 _ _ _ _ _ 2 0 1 0 (w2 arg5 arg6 arg7 arg14 f5 f6 f7 _ _) (by decide) (by decide) (by decide) _ _ _ _ _ rfl,
  c196 arg5 arg6 arg7 arg14 f5 f6 f7⟩⟩

theorem c200 : ∀ p ∈ bodyRun.sl.H11_200 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 1 3 (w2 arg5 arg6 arg7 arg14 f5 f6 f7 _ _) (by decide) (by decide) (by decide) _ _ _ _ _ rfl,
  List.forall_mem_cons.2 ⟨piece11 _ _ _ _ _ 2 0 1 2 (w2 arg5 arg6 arg7 arg14 f5 f6 f7 _ _) (by decide) (by decide) (by decide) _ _ _ _ _ rfl,
  c198 arg5 arg6 arg7 arg14 f5 f6 f7⟩⟩

theorem c203 : ∀ p ∈ bodyRun.sl.H11_203 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 2 2 (w2 arg5 arg6 arg7 arg14 f5 f6 f7 _ _) (by decide) (by decide) (by decide) _ _ _ _ _ rfl,
  List.forall_mem_cons.2 ⟨piece11 _ _ _ _ _ 2 0 2 1 (w2 arg5 arg6 arg7 arg14 f5 f6 f7 _ _) (by decide) (by decide) (by decide) _ _ _ _ _ rfl,
  List.forall_mem_cons.2 ⟨piece11 _ _ _ _ _ 2 0 2 0 (w2 arg5 arg6 arg7 arg14 f5 f6 f7 _ _) (by decide) (by decide) (by decide) _ _ _ _ _ rfl,
  c200 arg5 arg6 arg7 arg14 f5 f6 f7⟩⟩⟩

theorem c204 : ∀ p ∈ bodyRun.sl.H11_204 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 2 3 (w2 arg5 arg6 arg7 arg14 f5 f6 f7 _ _) (by decide) (by decide) (by decide) _ _ _ _ _ rfl,
  c203 arg5 arg6 arg7 arg14 f5 f6 f7⟩

theorem c208 : ∀ p ∈ bodyRun.sl.H11_208 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 3 3 (w2 arg5 arg6 arg7 arg14 f5 f6 f7 _ _) (by decide) (by decide) (by decide) _ _ _ _ _ rfl,
  List.forall_mem_cons.2 ⟨piece11 _ _ _ _ _ 2 0 3 2 (w2 arg5 arg6 arg7 arg14 f5 f6 f7 _ _) (by decide) (by decide) (by decide) _ _ _ _ _ rfl,
  List.forall_mem_cons.2 ⟨piece11 _ _ _ _ _ 2 0 3 1 (w2 arg5 arg6 arg7 arg14 f5 f6 f7 _ _) (by decide) (by decide) (by decide) _ _ _ _ _ rfl,
  List.forall_mem_cons.2 ⟨piece11 _ _ _ _ _ 2 0 3 0 (w2 arg5 arg6 arg7 arg14 f5 f6 f7 _ _) (by decide) (by decide) (by decide) _ _ _ _ _ rfl,
  c204 arg5 arg6 arg7 arg14 f5 f6 f7⟩⟩⟩⟩

theorem c212 : ∀ p ∈ bodyRun.sl.H11_212 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 4 3 (w2 arg5 arg6 arg7 arg14 f5 f6 f7 _ _) (by decide) (by decide) (by decide) _ _ _ _ _ rfl,
  List.forall_mem_cons.2 ⟨piece11 _ _ _ _ _ 2 0 4 2 (w2 arg5 arg6 arg7 arg14 f5 f6 f7 _ _) (by decide) (by decide) (by decide) _ _ _ _ _ rfl,
  List.forall_mem_cons.2 ⟨piece11 _ _ _ _ _ 2 0 4 1 (w2 arg5 arg6 arg7 arg14 f5 f6 f7 _ _) (by decide) (by decide) (by decide) _ _ _ _ _ rfl,
  List.forall_mem_cons.2 ⟨piece11 _ _ _ _ _ 2 0 4 0 (w2 arg5 arg6 arg7 arg14 f5 f6 f7 _ _) (by decide) (by decide) (by decide) _ _ _ _ _ rfl,
  c208 arg5 arg6 arg7 arg14 f5 f6 f7⟩⟩⟩⟩

theorem c216 : ∀ p ∈ bodyRun.sl.H11_216 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 5 3 (w2 arg5 arg6 arg7 arg14 f5 f6 f7 _ _) (by decide) (by decide) (by decide) _ _ _ _ _ rfl,
  List.forall_mem_cons.2 ⟨piece11 _ _ _ _ _ 2 0 5 2 (w2 arg5 arg6 arg7 arg14 f5 f6 f7 _ _) (by decide) (by decide) (by decide) _ _ _ _ _ rfl,
  List.forall_mem_cons.2 ⟨piece11 _ _ _ _ _ 2 0 5 1 (w2 arg5 arg6 arg7 arg14 f5 f6 f7 _ _) (by decide) (by decide) (by decide) _ _ _ _ _ rfl,
  List.forall_mem_cons.2 ⟨piece11 _ _ _ _ _ 2 0 5 0 (w2 arg5 arg6 arg7 arg14 f5 f6 f7 _ _) (by decide) (by decide) (by decide) _ _ _ _ _ rfl,
  c212 arg5 arg6 arg7 arg14 f5 f6 f7⟩⟩⟩⟩

theorem c220 : ∀ p ∈ bodyRun.sl.H11_220 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 6 3 (w2 arg5 arg6 arg7 arg14 f5 f6 f7 _ _) (by decide) (by decide) (by decide) _ _ _ _ _ rfl,
  List.forall_mem_cons.2 ⟨piece11 _ _ _ _ _ 2 0 6 2 (w2 arg5 arg6 arg7 arg14 f5 f6 f7 _ _) (by decide) (by decide) (by decide) _ _ _ _ _ rfl,
  List.forall_mem_cons.2 ⟨piece11 _ _ _ _ _ 2 0 6 1 (w2 arg5 arg6 arg7 arg14 f5 f6 f7 _ _) (by decide) (by decide) (by decide) _ _ _ _ _ rfl,
  List.forall_mem_cons.2 ⟨piece11 _ _ _ _ _ 2 0 6 0 (w2 arg5 arg6 arg7 arg14 f5 f6 f7 _ _) (by decide) (by decide) (by decide) _ _ _ _ _ rfl,
  c216 arg5 arg6 arg7 arg14 f5 f6 f7⟩⟩⟩⟩

theorem c224 : ∀ p ∈ bodyRun.sl.H11_224 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 7 3 (w2 arg5 arg6 arg7 arg14 f5 f6 f7 _ _) (by decide) (by decide) (by decide) _ _ _ _ _ rfl,
  List.forall_mem_cons.2 ⟨piece11 _ _ _ _ _ 2 0 7 2 (w2 arg5 arg6 arg7 arg14 f5 f6 f7 _ _) (by decide) (by decide) (by decide) _ _ _ _ _ rfl,
  List.forall_mem_cons.2 ⟨piece11 _ _ _ _ _ 2 0 7 1 (w2 arg5 arg6 arg7 arg14 f5 f6 f7 _ _) (by decide) (by decide) (by decide) _ _ _ _ _ rfl,
  List.forall_mem_cons.2 ⟨piece11 _ _ _ _ _ 2 0 7 0 (w2 arg5 arg6 arg7 arg14 f5 f6 f7 _ _) (by decide) (by decide) (by decide) _ _ _ _ _ rfl,
  c220 arg5 arg6 arg7 arg14 f5 f6 f7⟩⟩⟩⟩

theorem c225 : ∀ p ∈ bodyRun.sl.H11_225 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 8 0 (w2 arg5 arg6 arg7 arg14 f5 f6 f7 _ _) (by decide) (by decide) (by decide) _ _ _ _ _ rfl,
  c224 arg5 arg6 arg7 arg14 f5 f6 f7⟩

theorem c228 : ∀ p ∈ bodyRun.sl.H11_228 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 8 3 (w2 arg5 arg6 arg7 arg14 f5 f6 f7 _ _) (by decide) (by decide) (by decide) _ _ _ _ _ rfl,
  List.forall_mem_cons.2 ⟨piece11 _ _ _ _ _ 2 0 8 2 (w2 arg5 arg6 arg7 arg14 f5 f6 f7 _ _) (by decide) (by decide) (by decide) _ _ _ _ _ rfl,
  List.forall_mem_cons.2 ⟨piece11 _ _ _ _ _ 2 0 8 1 (w2 arg5 arg6 arg7 arg14 f5 f6 f7 _ _) (by decide) (by decide) (by decide) _ _ _ _ _ rfl,
  c225 arg5 arg6 arg7 arg14 f5 f6 f7⟩⟩⟩

theorem c230 : ∀ p ∈ bodyRun.sl.H11_230 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 9 1 (w2 arg5 arg6 arg7 arg14 f5 f6 f7 _ _) (by decide) (by decide) (by decide) _ _ _ _ _ rfl,
  List.forall_mem_cons.2 ⟨piece11 _ _ _ _ _ 2 0 9 0 (w2 arg5 arg6 arg7 arg14 f5 f6 f7 _ _) (by decide) (by decide) (by decide) _ _ _ _ _ rfl,
  c228 arg5 arg6 arg7 arg14 f5 f6 f7⟩⟩

theorem c232 : ∀ p ∈ bodyRun.sl.H11_232 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 9 3 (w2 arg5 arg6 arg7 arg14 f5 f6 f7 _ _) (by decide) (by decide) (by decide) _ _ _ _ _ rfl,
  List.forall_mem_cons.2 ⟨piece11 _ _ _ _ _ 2 0 9 2 (w2 arg5 arg6 arg7 arg14 f5 f6 f7 _ _) (by decide) (by decide) (by decide) _ _ _ _ _ rfl,
  c230 arg5 arg6 arg7 arg14 f5 f6 f7⟩⟩

theorem c235 : ∀ p ∈ bodyRun.sl.H11_235 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 10 2 (w2 arg5 arg6 arg7 arg14 f5 f6 f7 _ _) (by decide) (by decide) (by decide) _ _ _ _ _ rfl,
  List.forall_mem_cons.2 ⟨piece11 _ _ _ _ _ 2 0 10 1 (w2 arg5 arg6 arg7 arg14 f5 f6 f7 _ _) (by decide) (by decide) (by decide) _ _ _ _ _ rfl,
  List.forall_mem_cons.2 ⟨piece11 _ _ _ _ _ 2 0 10 0 (w2 arg5 arg6 arg7 arg14 f5 f6 f7 _ _) (by decide) (by decide) (by decide) _ _ _ _ _ rfl,
  c232 arg5 arg6 arg7 arg14 f5 f6 f7⟩⟩⟩

theorem c236 : ∀ p ∈ bodyRun.sl.H11_236 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 10 3 (w2 arg5 arg6 arg7 arg14 f5 f6 f7 _ _) (by decide) (by decide) (by decide) _ _ _ _ _ rfl,
  c235 arg5 arg6 arg7 arg14 f5 f6 f7⟩

theorem c240 : ∀ p ∈ bodyRun.sl.H11_240 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 0 11 3 (w2 arg5 arg6 arg7 arg14 f5 f6 f7 _ _) (by decide) (by decide) (by decide) _ _ _ _ _ rfl,
  List.forall_mem_cons.2 ⟨piece11 _ _ _ _ _ 2 0 11 2 (w2 arg5 arg6 arg7 arg14 f5 f6 f7 _ _) (by decide) (by decide) (by decide) _ _ _ _ _ rfl,
  List.forall_mem_cons.2 ⟨piece11 _ _ _ _ _ 2 0 11 1 (w2 arg5 arg6 arg7 arg14 f5 f6 f7 _ _) (by decide) (by decide) (by decide) _ _ _ _ _ rfl,
  List.forall_mem_cons.2 ⟨piece11 _ _ _ _ _ 2 0 11 0 (w2 arg5 arg6 arg7 arg14 f5 f6 f7 _ _) (by decide) (by decide) (by decide) _ _ _ _ _ rfl,
  c236 arg5 arg6 arg7 arg14 f5 f6 f7⟩⟩⟩⟩

theorem c244 : ∀ p ∈ bodyRun.sl.H11_244 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 0 3 (w2 arg5 arg6 arg7 arg14 f5 f6 f7 _ _) (by decide) (by decide) (by decide) _ _ _ _ _ rfl,
  List.forall_mem_cons.2 ⟨piece11 _ _ _ _ _ 2 1 0 2 (w2 arg5 arg6 arg7 arg14 f5 f6 f7 _ _) (by decide) (by decide) (by decide) _ _ _ _ _ rfl,
  List.forall_mem_cons.2 ⟨piece11 _ _ _ _ _ 2 1 0 1 (w2 arg5 arg6 arg7 arg14 f5 f6 f7 _ _) (by decide) (by decide) (by decide) _ _ _ _ _ rfl,
  List.forall_mem_cons.2 ⟨piece11 _ _ _ _ _ 2 1 0 0 (w2 arg5 arg6 arg7 arg14 f5 f6 f7 _ _) (by decide) (by decide) (by decide) _ _ _ _ _ rfl,
  c240 arg5 arg6 arg7 arg14 f5 f6 f7⟩⟩⟩⟩

theorem c248 : ∀ p ∈ bodyRun.sl.H11_248 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 1 3 (w2 arg5 arg6 arg7 arg14 f5 f6 f7 _ _) (by decide) (by decide) (by decide) _ _ _ _ _ rfl,
  List.forall_mem_cons.2 ⟨piece11 _ _ _ _ _ 2 1 1 2 (w2 arg5 arg6 arg7 arg14 f5 f6 f7 _ _) (by decide) (by decide) (by decide) _ _ _ _ _ rfl,
  List.forall_mem_cons.2 ⟨piece11 _ _ _ _ _ 2 1 1 1 (w2 arg5 arg6 arg7 arg14 f5 f6 f7 _ _) (by decide) (by decide) (by decide) _ _ _ _ _ rfl,
  List.forall_mem_cons.2 ⟨piece11 _ _ _ _ _ 2 1 1 0 (w2 arg5 arg6 arg7 arg14 f5 f6 f7 _ _) (by decide) (by decide) (by decide) _ _ _ _ _ rfl,
  c244 arg5 arg6 arg7 arg14 f5 f6 f7⟩⟩⟩⟩

theorem c252 : ∀ p ∈ bodyRun.sl.H11_252 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 2 3 (w2 arg5 arg6 arg7 arg14 f5 f6 f7 _ _) (by decide) (by decide) (by decide) _ _ _ _ _ rfl,
  List.forall_mem_cons.2 ⟨piece11 _ _ _ _ _ 2 1 2 2 (w2 arg5 arg6 arg7 arg14 f5 f6 f7 _ _) (by decide) (by decide) (by decide) _ _ _ _ _ rfl,
  List.forall_mem_cons.2 ⟨piece11 _ _ _ _ _ 2 1 2 1 (w2 arg5 arg6 arg7 arg14 f5 f6 f7 _ _) (by decide) (by decide) (by decide) _ _ _ _ _ rfl,
  List.forall_mem_cons.2 ⟨piece11 _ _ _ _ _ 2 1 2 0 (w2 arg5 arg6 arg7 arg14 f5 f6 f7 _ _) (by decide) (by decide) (by decide) _ _ _ _ _ rfl,
  c248 arg5 arg6 arg7 arg14 f5 f6 f7⟩⟩⟩⟩

theorem c253 : ∀ p ∈ bodyRun.sl.H11_253 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 3 0 (w2 arg5 arg6 arg7 arg14 f5 f6 f7 _ _) (by decide) (by decide) (by decide) _ _ _ _ _ rfl,
  c252 arg5 arg6 arg7 arg14 f5 f6 f7⟩

theorem c256 : ∀ p ∈ bodyRun.sl.H11_256 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 3 3 (w2 arg5 arg6 arg7 arg14 f5 f6 f7 _ _) (by decide) (by decide) (by decide) _ _ _ _ _ rfl,
  List.forall_mem_cons.2 ⟨piece11 _ _ _ _ _ 2 1 3 2 (w2 arg5 arg6 arg7 arg14 f5 f6 f7 _ _) (by decide) (by decide) (by decide) _ _ _ _ _ rfl,
  List.forall_mem_cons.2 ⟨piece11 _ _ _ _ _ 2 1 3 1 (w2 arg5 arg6 arg7 arg14 f5 f6 f7 _ _) (by decide) (by decide) (by decide) _ _ _ _ _ rfl,
  c253 arg5 arg6 arg7 arg14 f5 f6 f7⟩⟩⟩

theorem c258 : ∀ p ∈ bodyRun.sl.H11_258 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 4 1 (w2 arg5 arg6 arg7 arg14 f5 f6 f7 _ _) (by decide) (by decide) (by decide) _ _ _ _ _ rfl,
  List.forall_mem_cons.2 ⟨piece11 _ _ _ _ _ 2 1 4 0 (w2 arg5 arg6 arg7 arg14 f5 f6 f7 _ _) (by decide) (by decide) (by decide) _ _ _ _ _ rfl,
  c256 arg5 arg6 arg7 arg14 f5 f6 f7⟩⟩

theorem c260 : ∀ p ∈ bodyRun.sl.H11_260 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 4 3 (w2 arg5 arg6 arg7 arg14 f5 f6 f7 _ _) (by decide) (by decide) (by decide) _ _ _ _ _ rfl,
  List.forall_mem_cons.2 ⟨piece11 _ _ _ _ _ 2 1 4 2 (w2 arg5 arg6 arg7 arg14 f5 f6 f7 _ _) (by decide) (by decide) (by decide) _ _ _ _ _ rfl,
  c258 arg5 arg6 arg7 arg14 f5 f6 f7⟩⟩

theorem c263 : ∀ p ∈ bodyRun.sl.H11_263 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 5 2 (w2 arg5 arg6 arg7 arg14 f5 f6 f7 _ _) (by decide) (by decide) (by decide) _ _ _ _ _ rfl,
  List.forall_mem_cons.2 ⟨piece11 _ _ _ _ _ 2 1 5 1 (w2 arg5 arg6 arg7 arg14 f5 f6 f7 _ _) (by decide) (by decide) (by decide) _ _ _ _ _ rfl,
  List.forall_mem_cons.2 ⟨piece11 _ _ _ _ _ 2 1 5 0 (w2 arg5 arg6 arg7 arg14 f5 f6 f7 _ _) (by decide) (by decide) (by decide) _ _ _ _ _ rfl,
  c260 arg5 arg6 arg7 arg14 f5 f6 f7⟩⟩⟩

theorem c264 : ∀ p ∈ bodyRun.sl.H11_264 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 5 3 (w2 arg5 arg6 arg7 arg14 f5 f6 f7 _ _) (by decide) (by decide) (by decide) _ _ _ _ _ rfl,
  c263 arg5 arg6 arg7 arg14 f5 f6 f7⟩

theorem c268 : ∀ p ∈ bodyRun.sl.H11_268 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 6 3 (w2 arg5 arg6 arg7 arg14 f5 f6 f7 _ _) (by decide) (by decide) (by decide) _ _ _ _ _ rfl,
  List.forall_mem_cons.2 ⟨piece11 _ _ _ _ _ 2 1 6 2 (w2 arg5 arg6 arg7 arg14 f5 f6 f7 _ _) (by decide) (by decide) (by decide) _ _ _ _ _ rfl,
  List.forall_mem_cons.2 ⟨piece11 _ _ _ _ _ 2 1 6 1 (w2 arg5 arg6 arg7 arg14 f5 f6 f7 _ _) (by decide) (by decide) (by decide) _ _ _ _ _ rfl,
  List.forall_mem_cons.2 ⟨piece11 _ _ _ _ _ 2 1 6 0 (w2 arg5 arg6 arg7 arg14 f5 f6 f7 _ _) (by decide) (by decide) (by decide) _ _ _ _ _ rfl,
  c264 arg5 arg6 arg7 arg14 f5 f6 f7⟩⟩⟩⟩

theorem c272 : ∀ p ∈ bodyRun.sl.H11_272 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 7 3 (w2 arg5 arg6 arg7 arg14 f5 f6 f7 _ _) (by decide) (by decide) (by decide) _ _ _ _ _ rfl,
  List.forall_mem_cons.2 ⟨piece11 _ _ _ _ _ 2 1 7 2 (w2 arg5 arg6 arg7 arg14 f5 f6 f7 _ _) (by decide) (by decide) (by decide) _ _ _ _ _ rfl,
  List.forall_mem_cons.2 ⟨piece11 _ _ _ _ _ 2 1 7 1 (w2 arg5 arg6 arg7 arg14 f5 f6 f7 _ _) (by decide) (by decide) (by decide) _ _ _ _ _ rfl,
  List.forall_mem_cons.2 ⟨piece11 _ _ _ _ _ 2 1 7 0 (w2 arg5 arg6 arg7 arg14 f5 f6 f7 _ _) (by decide) (by decide) (by decide) _ _ _ _ _ rfl,
  c268 arg5 arg6 arg7 arg14 f5 f6 f7⟩⟩⟩⟩

theorem c276 : ∀ p ∈ bodyRun.sl.H11_276 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 8 3 (w2 arg5 arg6 arg7 arg14 f5 f6 f7 _ _) (by decide) (by decide) (by decide) _ _ _ _ _ rfl,
  List.forall_mem_cons.2 ⟨piece11 _ _ _ _ _ 2 1 8 2 (w2 arg5 arg6 arg7 arg14 f5 f6 f7 _ _) (by decide) (by decide) (by decide) _ _ _ _ _ rfl,
  List.forall_mem_cons.2 ⟨piece11 _ _ _ _ _ 2 1 8 1 (w2 arg5 arg6 arg7 arg14 f5 f6 f7 _ _) (by decide) (by decide) (by decide) _ _ _ _ _ rfl,
  List.forall_mem_cons.2 ⟨piece11 _ _ _ _ _ 2 1 8 0 (w2 arg5 arg6 arg7 arg14 f5 f6 f7 _ _) (by decide) (by decide) (by decide) _ _ _ _ _ rfl,
  c272 arg5 arg6 arg7 arg14 f5 f6 f7⟩⟩⟩⟩

theorem c280 : ∀ p ∈ bodyRun.sl.H11_280 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 9 3 (w2 arg5 arg6 arg7 arg14 f5 f6 f7 _ _) (by decide) (by decide) (by decide) _ _ _ _ _ rfl,
  List.forall_mem_cons.2 ⟨piece11 _ _ _ _ _ 2 1 9 2 (w2 arg5 arg6 arg7 arg14 f5 f6 f7 _ _) (by decide) (by decide) (by decide) _ _ _ _ _ rfl,
  List.forall_mem_cons.2 ⟨piece11 _ _ _ _ _ 2 1 9 1 (w2 arg5 arg6 arg7 arg14 f5 f6 f7 _ _) (by decide) (by decide) (by decide) _ _ _ _ _ rfl,
  List.forall_mem_cons.2 ⟨piece11 _ _ _ _ _ 2 1 9 0 (w2 arg5 arg6 arg7 arg14 f5 f6 f7 _ _) (by decide) (by decide) (by decide) _ _ _ _ _ rfl,
  c276 arg5 arg6 arg7 arg14 f5 f6 f7⟩⟩⟩⟩

theorem c284 : ∀ p ∈ bodyRun.sl.H11_284 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 10 3 (w2 arg5 arg6 arg7 arg14 f5 f6 f7 _ _) (by decide) (by decide) (by decide) _ _ _ _ _ rfl,
  List.forall_mem_cons.2 ⟨piece11 _ _ _ _ _ 2 1 10 2 (w2 arg5 arg6 arg7 arg14 f5 f6 f7 _ _) (by decide) (by decide) (by decide) _ _ _ _ _ rfl,
  List.forall_mem_cons.2 ⟨piece11 _ _ _ _ _ 2 1 10 1 (w2 arg5 arg6 arg7 arg14 f5 f6 f7 _ _) (by decide) (by decide) (by decide) _ _ _ _ _ rfl,
  List.forall_mem_cons.2 ⟨piece11 _ _ _ _ _ 2 1 10 0 (w2 arg5 arg6 arg7 arg14 f5 f6 f7 _ _) (by decide) (by decide) (by decide) _ _ _ _ _ rfl,
  c280 arg5 arg6 arg7 arg14 f5 f6 f7⟩⟩⟩⟩

theorem c285 : ∀ p ∈ bodyRun.sl.H11_285 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 11 0 (w2 arg5 arg6 arg7 arg14 f5 f6 f7 _ _) (by decide) (by decide) (by decide) _ _ _ _ _ rfl,
  c284 arg5 arg6 arg7 arg14 f5 f6 f7⟩

theorem c288 : ∀ p ∈ bodyRun.sl.H11_288 (F := Ideal) arg5 arg6 arg7 arg14 f5 f6 f7, ∀ x : p.1.shape.Idx, p.2 x = G11 (blockOf arg5 f5) (blockOf arg6 f6) (blockOf arg7 f7) (p.1.emb x) :=
  List.forall_mem_cons.2 ⟨piece11 _ _ _ _ _ 2 1 11 3 (w2 arg5 arg6 arg7 arg14 f5 f6 f7 _ _) (by decide) (by decide) (by decide) _ _ _ _ _ rfl,
  List.forall_mem_cons.2 ⟨piece11 _ _ _ _ _ 2 1 11 2 (w2 arg5 arg6 arg7 arg14 f5 f6 f7 _ _) (by decide) (by decide) (by decide) _ _ _ _ _ rfl,
  List.forall_mem_cons.2 ⟨piece11 _ _ _ _ _ 2 1 11 1 (w2 arg5 arg6 arg7 arg14 f5 f6 f7 _ _) (by decide) (by decide) (by decide) _ _ _ _ _ rfl,
  c285 arg5 arg6 arg7 arg14 f5 f6 f7⟩⟩⟩

theorem x1 : ∀ p ∈ bodyRun.sl.H12_1 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 0 0 (w1' arg5 arg6 arg14 f5 f6 _) (by decide) (by decide) (by decide)
    _ _ _ _ _ _ _ _ (ClosedOff.eq (off := k0_off61 i 0#32 0#32 0#32 0#32)) (ClosedOff.eq (off := k0_off61 i 6#32 0#32 0#32 0#32)) (ClosedOff.eq (off := k0_off61 i 12#32 0#32 0#32 0#32)) (ClosedOff.eq (off := k0_off61 i 18#32 0#32 0#32 0#32)) _ rfl, fun _ h => absurd h List.not_mem_nil⟩

theorem x2 : ∀ p ∈ bodyRun.sl.H12_2 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 0 1 (w1' arg5 arg6 arg14 f5 f6 _) (by decide) (by decide) (by decide)
    _ _ _ _ _ _ _ _ (ClosedOff.eq (off := k0_off61 i 0#32 0#32 1#32 0#32)) (ClosedOff.eq (off := k0_off61 i 6#32 0#32 1#32 0#32)) (ClosedOff.eq (off := k0_off61 i 12#32 0#32 1#32 0#32)) (ClosedOff.eq (off := k0_off61 i 18#32 0#32 1#32 0#32)) _ rfl, x1 i arg5 arg6 arg7 arg14 f5 f6 f7⟩

theorem x3 : ∀ p ∈ bodyRun.sl.H12_3 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 0 2 (w1' arg5 arg6 arg14 f5 f6 _) (by decide) (by decide) (by decide)
    _ _ _ _ _ _ _ _ (ClosedOff.eq (off := k0_off61 i 0#32 0#32 2#32 0#32)) (ClosedOff.eq (off := k0_off61 i 6#32 0#32 2#32 0#32)) (ClosedOff.eq (off := k0_off61 i 12#32 0#32 2#32 0#32)) (ClosedOff.eq (off := k0_off61 i 18#32 0#32 2#32 0#32)) _ rfl, x2 i arg5 arg6 arg7 arg14 f5 f6 f7⟩

theorem x4 : ∀ p ∈ bodyRun.sl.H12_4 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 0 3 (w1' arg5 arg6 arg14 f5 f6 _) (by decide) (by decide) (by decide)
    _ _ _ _ _ _ _ _ (ClosedOff.eq (off := k0_off61 i 0#32 0#32 3#32 0#32)) (ClosedOff.eq (off := k0_off61 i 6#32 0#32 3#32 0#32)) (ClosedOff.eq (off := k0_off61 i 12#32 0#32 3#32 0#32)) (ClosedOff.eq (off := k0_off61 i 18#32 0#32 3#32 0#32)) _ rfl, x3 i arg5 arg6 arg7 arg14 f5 f6 f7⟩

theorem x5 : ∀ p ∈ bodyRun.sl.H12_5 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 1 0 (w1' arg5 arg6 arg14 f5 f6 _) (by decide) (by decide) (by decide)
    _ _ _ _ _ _ _ _ (ClosedOff.eq (off := k0_off61 i 0#32 4#32 0#32 1#32)) (ClosedOff.eq (off := k0_off61 i 6#32 4#32 0#32 1#32)) (ClosedOff.eq (off := k0_off61 i 12#32 4#32 0#32 1#32)) (ClosedOff.eq (off := k0_off61 i 18#32 4#32 0#32 1#32)) _ rfl, x4 i arg5 arg6 arg7 arg14 f5 f6 f7⟩

theorem x6 : ∀ p ∈ bodyRun.sl.H12_6 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 1 1 (w1' arg5 arg6 arg14 f5 f6 _) (by decide) (by decide) (by decide)
    _ _ _ _ _ _ _ _ (ClosedOff.eq (off := k0_off61 i 0#32 4#32 1#32 1#32)) (ClosedOff.eq (off := k0_off61 i 6#32 4#32 1#32 1#32)) (ClosedOff.eq (off := k0_off61 i 12#32 4#32 1#32 1#32)) (ClosedOff.eq (off := k0_off61 i 18#32 4#32 1#32 1#32)) _ rfl, x5 i arg5 arg6 arg7 arg14 f5 f6 f7⟩

theorem x7 : ∀ p ∈ bodyRun.sl.H12_7 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 1 2 (w1' arg5 arg6 arg14 f5 f6 _) (by decide) (by decide) (by decide)
    _ _ _ _ _ _ _ _ (ClosedOff.eq (off := k0_off61 i 0#32 4#32 2#32 1#32)) (ClosedOff.eq (off := k0_off61 i 6#32 4#32 2#32 1#32)) (ClosedOff.eq (off := k0_off61 i 12#32 4#32 2#32 1#32)) (ClosedOff.eq (off := k0_off61 i 18#32 4#32 2#32 1#32)) _ rfl, x6 i arg5 arg6 arg7 arg14 f5 f6 f7⟩

theorem x8 : ∀ p ∈ bodyRun.sl.H12_8 (F := Ideal) i arg5 arg6 arg14 f5 f6, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 0 1 3 (w1' arg5 arg6 arg14 f5 f6 _) (by decide) (by decide) (by decide)
    _ _ _ _ _ _ _ _ (ClosedOff.eq (off := k0_off61 i 0#32 4#32 3#32 1#32)) (ClosedOff.eq (off := k0_off61 i 6#32 4#32 3#32 1#32)) (ClosedOff.eq (off := k0_off61 i 12#32 4#32 3#32 1#32)) (ClosedOff.eq (off := k0_off61 i 18#32 4#32 3#32 1#32)) _ rfl, x7 i arg5 arg6 arg7 arg14 f5 f6 f7⟩

theorem x9 : ∀ p ∈ bodyRun.sl.H12_9 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 0 0 (w2' arg5 arg6 arg7 arg14 f5 f6 f7 _) (by decide) (by decide) (by decide)
    _ _ _ _ _ _ _ _ (ClosedOff.eq (off := k0_off61 i 0#32 0#32 0#32 0#32)) (ClosedOff.eq (off := k0_off61 i 6#32 0#32 0#32 0#32)) (ClosedOff.eq (off := k0_off61 i 12#32 0#32 0#32 0#32)) (ClosedOff.eq (off := k0_off61 i 18#32 0#32 0#32 0#32)) _ rfl, x8 i arg5 arg6 arg7 arg14 f5 f6 f7⟩

theorem x10 : ∀ p ∈ bodyRun.sl.H12_10 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 0 1 (w2' arg5 arg6 arg7 arg14 f5 f6 f7 _) (by decide) (by decide) (by decide)
    _ _ _ _ _ _ _ _ (ClosedOff.eq (off := k0_off61 i 0#32 0#32 1#32 0#32)) (ClosedOff.eq (off := k0_off61 i 6#32 0#32 1#32 0#32)) (ClosedOff.eq (off := k0_off61 i 12#32 0#32 1#32 0#32)) (ClosedOff.eq (off := k0_off61 i 18#32 0#32 1#32 0#32)) _ rfl, x9 i arg5 arg6 arg7 arg14 f5 f6 f7⟩

theorem x11 : ∀ p ∈ bodyRun.sl.H12_11 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 0 2 (w2' arg5 arg6 arg7 arg14 f5 f6 f7 _) (by decide) (by decide) (by decide)
    _ _ _ _ _ _ _ _ (ClosedOff.eq (off := k0_off61 i 0#32 0#32 2#32 0#32)) (ClosedOff.eq (off := k0_off61 i 6#32 0#32 2#32 0#32)) (ClosedOff.eq (off := k0_off61 i 12#32 0#32 2#32 0#32)) (ClosedOff.eq (off := k0_off61 i 18#32 0#32 2#32 0#32)) _ rfl, x10 i arg5 arg6 arg7 arg14 f5 f6 f7⟩

theorem x12 : ∀ p ∈ bodyRun.sl.H12_12 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 0 3 (w2' arg5 arg6 arg7 arg14 f5 f6 f7 _) (by decide) (by decide) (by decide)
    _ _ _ _ _ _ _ _ (ClosedOff.eq (off := k0_off61 i 0#32 0#32 3#32 0#32)) (ClosedOff.eq (off := k0_off61 i 6#32 0#32 3#32 0#32)) (ClosedOff.eq (off := k0_off61 i 12#32 0#32 3#32 0#32)) (ClosedOff.eq (off := k0_off61 i 18#32 0#32 3#32 0#32)) _ rfl, x11 i arg5 arg6 arg7 arg14 f5 f6 f7⟩

theorem x13 : ∀ p ∈ bodyRun.sl.H12_13 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 1 0 (w2' arg5 arg6 arg7 arg14 f5 f6 f7 _) (by decide) (by decide) (by decide)
    _ _ _ _ _ _ _ _ (ClosedOff.eq (off := k0_off61 i 0#32 4#32 0#32 1#32)) (ClosedOff.eq (off := k0_off61 i 6#32 4#32 0#32 1#32)) (ClosedOff.eq (off := k0_off61 i 12#32 4#32 0#32 1#32)) (ClosedOff.eq (off := k0_off61 i 18#32 4#32 0#32 1#32)) _ rfl, x12 i arg5 arg6 arg7 arg14 f5 f6 f7⟩

theorem x14 : ∀ p ∈ bodyRun.sl.H12_14 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 1 1 (w2' arg5 arg6 arg7 arg14 f5 f6 f7 _) (by decide) (by decide) (by decide)
    _ _ _ _ _ _ _ _ (ClosedOff.eq (off := k0_off61 i 0#32 4#32 1#32 1#32)) (ClosedOff.eq (off := k0_off61 i 6#32 4#32 1#32 1#32)) (ClosedOff.eq (off := k0_off61 i 12#32 4#32 1#32 1#32)) (ClosedOff.eq (off := k0_off61 i 18#32 4#32 1#32 1#32)) _ rfl, x13 i arg5 arg6 arg7 arg14 f5 f6 f7⟩

theorem x15 : ∀ p ∈ bodyRun.sl.H12_15 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 1 2 (w2' arg5 arg6 arg7 arg14 f5 f6 f7 _) (by decide) (by decide) (by decide)
    _ _ _ _ _ _ _ _ (ClosedOff.eq (off := k0_off61 i 0#32 4#32 2#32 1#32)) (ClosedOff.eq (off := k0_off61 i 6#32 4#32 2#32 1#32)) (ClosedOff.eq (off := k0_off61 i 12#32 4#32 2#32 1#32)) (ClosedOff.eq (off := k0_off61 i 18#32 4#32 2#32 1#32)) _ rfl, x14 i arg5 arg6 arg7 arg14 f5 f6 f7⟩

theorem x16 : ∀ p ∈ bodyRun.sl.H12_16 (F := Ideal) i arg5 arg6 arg7 arg14 f5 f6 f7, ∀ x : p.1.shape.Idx, p.2 x = G12 (i 1).val (blockOf arg6 f6) (blockOf arg7 f7) (p.1.emb x) :=
  List.forall_mem_cons.2 ⟨piece12 (i 1).val (blockOf arg6 f6) (blockOf arg7 f7) arg14.view _ 1 1 3 (w2' arg5 arg6 arg7 arg14 f5 f6 f7 _) (by decide) (by decide) (by decide)
    _ _ _ _ _ _ _ _ (ClosedOff.eq (off := k0_off61 i 0#32 4#32 3#32 1#32)) (ClosedOff.eq (off := k0_off61 i 6#32 4#32 3#32 1#32)) (ClosedOff.eq (off := k0_off61 i 12#32 4#32 3#32 1#32)) (ClosedOff.eq (off := k0_off61 i 18#32 4#32 3#32 1#32)) _ rfl, x15 i arg5 arg6 arg7 arg14 f5 f6 f7⟩

/-- Every element of the codes buffer is the bytes told. -/
theorem codes_read (y : S3x8x96x128.Idx) (V : View sig .tc .vmem S3x8x96x128 .i32) :
    V.read (Elt Ideal) (V.writes (Elt Ideal) V.junk (bodyRun.sl.H11_288 (F := Ideal) arg5 arg6 arg7 arg14 f5 f6 f7)) y = G11 (blockOf arg5 f5) (blockOf arg6 f6) (blockOf arg7 f7) y :=
  View.read_writes_apply_of_pieces V V.junk _ _ (c288 arg5 arg6 arg7 arg14 f5 f6 f7) y
    (View.cover_of_tiledL (s := S3x8x96x128) _ S1x1x8x128.size (by sl_kernel_rfl) y)

/-- Every element of the cross buffer is the bytes told. -/
theorem cross_read (y : S2x8x8x128.Idx) (V : View sig .tc .vmem S2x8x8x128 .i32) :
    V.read (Elt Ideal) (V.writes (Elt Ideal) V.junk (bodyRun.sl.H12_16 (F := Ideal) i arg5 arg6 arg7 arg14 f5 f6 f7)) y = G12 (i 1).val (blockOf arg6 f6) (blockOf arg7 f7) y :=
  View.read_writes_apply_of_pieces V V.junk _ _ (x16 i arg5 arg6 arg7 arg14 f5 f6 f7) y
    (View.cover_of_tiledL (s := S2x8x8x128) _ S1x1x8x128.size (by sl_kernel_rfl) y)

end

end Cert.KernelIdeal.Hand

end
-- ==== Proof.KernelIdeal.Bias.lean ====
/- The bias table that the guarded loop builds: for each pair of heads modulo twelve, each block of 64 queries and each key row, the
   base two logarithm of the number of patterns that link the query and the key. -/
module

public import proofs.«01_k».proof.Proof.KernelIdeal.Body
public import Idealize.ShloMosaic.Lib.Pointwise
public import Idealize.ShloMosaic.Lib.Writes
public import Idealize.ShloMosaic.Lib.Ring

@[expose] public section

set_option maxRecDepth 16384
set_option maxHeartbeats 8000000

noncomputable section

namespace Cert.KernelIdeal.Hand

open Idealize.ShloMosaic Cert.KernelIdeal

/-! ## The integer vectors -/

/-- The remainder that rounds down, of one word. -/
def smod (m : BitVec 32) (x : BitVec 32) : BitVec 32 :=
  Scalar.select (IntOp.andi (IntOp.xori (IntOp.cmpi .slt (IntOp.remsi .vector x m) 0#32) (IntOp.cmpi .slt m 0#32)) (IntOp.cmpi .ne (IntOp.remsi .vector x m) 0#32))
    (IntOp.addi (IntOp.remsi .vector x m) m) (IntOp.remsi .vector x m)

/-- The quotient by 64 that rounds down, of one word. -/
def sdiv64 (x : BitVec 32) : BitVec 32 :=
  Scalar.select (IntOp.andi (IntOp.cmpi .ne (IntOp.subi ((IntOp.cmpi .sgt x 0#32).setWidth 32) ((IntOp.cmpi .slt x 0#32).setWidth 32)) 1#32)
      (IntOp.cmpi .ne (IntOp.remsi .vector x 64#32) 0#32))
    (IntOp.subi (IntOp.divsi .vector x 64#32) 1#32) (IntOp.divsi .vector x 64#32)

/-- The head of a lane, modulo twelve. -/
def sHead (k : Fin k0_t1_loop.trips) (l : BitVec 32) : BitVec 32 := IntOp.addi (IntOp.muli 2#32 (Scf.iv 0#32 1#32 k)) (sdiv64 l)

/-- The query of a lane. -/
def sQuery (blk : ℕ) (l : BitVec 32) : BitVec 32 := IntOp.addi (BitVec.ofNat 32 (64 * blk)) (smod 64#32 l)

/-- The payload of a store of own keys. -/
def oPay (k : Fin k0_t1_loop.trips) (blk j : ℕ) : S8x128.Idx → Elt Ideal .f32 := fun x =>
  let l := BitVec.ofNat 32 (0 * 128 + (x 1).val)
  let h := sHead k l
  let q := sQuery blk l
  let kk := IntOp.addi (BitVec.ofNat 32 (8 * j)) (BitVec.ofNat 32 (0 * 8 + (x 0).val))
  Scalar.select (IntOp.cmpi .sle kk q)
    (Scalar.select (IntOp.andi (IntOp.cmpi .eq (smod 12#32 q) (smod 12#32 h)) (IntOp.cmpi .eq (smod 12#32 kk) (smod 12#32 h))) (Named.named (F := Ideal) (φ := .f32) κ "log2_3" 0x3FCAE00D#32)
      (Scalar.select (IntOp.andi (IntOp.cmpi .eq (smod 6#32 q) (smod 6#32 h)) (IntOp.cmpi .eq (smod 6#32 kk) (smod 6#32 h))) (Scalar.ofBits (F := Ideal) .f32 0x3F800000#32) (Scalar.ofBits (F := Ideal) .f32 0x00000000#32)))
    (Named.named (F := Ideal) (φ := .f32) κ "mask" 0xF149F2CA#32)

/-- The payload of a store of cross keys. -/
def xPay (k : Fin k0_t1_loop.trips) (blk j : ℕ) : S8x128.Idx → Elt Ideal .f32 := fun x =>
  let l := BitVec.ofNat 32 (0 * 128 + (x 1).val)
  let h := sHead k l
  let q := sQuery blk l
  let kk := IntOp.addi (IntOp.muli 6#32 (IntOp.addi (BitVec.ofNat 32 (8 * j)) (BitVec.ofNat 32 (0 * 8 + (x 0).val)))) (smod 6#32 h)
  Scalar.select (IntOp.andi (IntOp.cmpi .eq (smod 12#32 q) (smod 12#32 h)) (IntOp.cmpi .eq (smod 12#32 kk) (smod 12#32 h)))
    (Scalar.ofBits (F := Ideal) .f32 0x3F800000#32)
    (Scalar.select (IntOp.cmpi .eq (smod 6#32 q) (smod 6#32 h)) (Scalar.ofBits (F := Ideal) .f32 0x00000000#32) (Named.named (F := Ideal) (φ := .f32) κ "mask" 0xF149F2CA#32))

/-! ## Their values -/

theorem smod6 : ∀ n : Fin 256, smod 6#32 (BitVec.ofNat 32 n.val) = BitVec.ofNat 32 (n.val % 6) := by decide +kernel
theorem smod12 : ∀ n : Fin 256, smod 12#32 (BitVec.ofNat 32 n.val) = BitVec.ofNat 32 (n.val % 12) := by decide +kernel
theorem smod64 : ∀ n : Fin 256, smod 64#32 (BitVec.ofNat 32 n.val) = BitVec.ofNat 32 (n.val % 64) := by decide +kernel
theorem sdiv64_val : ∀ n : Fin 128, sdiv64 (BitVec.ofNat 32 n.val) = BitVec.ofNat 32 (n.val / 64) := by decide +kernel

theorem smod6' (n : ℕ) (h : n < 256) : smod 6#32 (BitVec.ofNat 32 n) = BitVec.ofNat 32 (n % 6) := smod6 ⟨n, h⟩
theorem smod12' (n : ℕ) (h : n < 256) : smod 12#32 (BitVec.ofNat 32 n) = BitVec.ofNat 32 (n % 12) := smod12 ⟨n, h⟩

theorem iv2 (k : Fin k0_t1_loop.trips) : IntOp.muli 2#32 (Scf.iv 0#32 1#32 k) = BitVec.ofNat 32 (2 * k.val) := by revert k; decide +kernel

theorem trips_lt (k : Fin k0_t1_loop.trips) : k.val < 6 := Nat.lt_of_lt_of_le k.isLt Gen.k0_t1_abs.2.1

theorem addi_val (a b : ℕ) : IntOp.addi (BitVec.ofNat 32 a) (BitVec.ofNat 32 b) = BitVec.ofNat 32 (a + b) := by
  unfold IntOp.addi; exact (BitVec.ofNat_add a b).symm
theorem muli_val (a b : ℕ) : IntOp.muli (BitVec.ofNat 32 a) (BitVec.ofNat 32 b) = BitVec.ofNat 32 (a * b) := by
  unfold IntOp.muli; exact (BitVec.ofNat_mul a b).symm

theorem sHead_val (k : Fin k0_t1_loop.trips) (l : ℕ) (hl : l < 128) : sHead k (BitVec.ofNat 32 l) = BitVec.ofNat 32 (2 * k.val + l / 64) := by
  unfold sHead; rw [iv2, sdiv64_val ⟨l, hl⟩, addi_val]
theorem sQuery_val (blk l : ℕ) (hl : l < 128) : sQuery blk (BitVec.ofNat 32 l) = BitVec.ofNat 32 (64 * blk + l % 64) := by
  unfold sQuery; rw [smod64 ⟨l, by omega⟩, addi_val]

theorem cmpi_eq_val (a b : ℕ) (ha : a < 256) (hb : b < 256) : IntOp.cmpi .eq (BitVec.ofNat 32 a) (BitVec.ofNat 32 b) = BitVec.ofBool (decide (a = b)) := by
  unfold IntOp.cmpi
  by_cases h : a = b
  · subst h; simp
  · have : BitVec.ofNat 32 a ≠ BitVec.ofNat 32 b := fun e => h (by
      have e' := congrArg BitVec.toNat e
      rw [BitVec.toNat_ofNat, BitVec.toNat_ofNat] at e'; omega)
    simp [h, beq_eq_false_iff_ne.2 this]
theorem cmpi_sle_val (a b : ℕ) (ha : a < 256) (hb : b < 256) : IntOp.cmpi .sle (BitVec.ofNat 32 a) (BitVec.ofNat 32 b) = BitVec.ofBool (decide (a ≤ b)) := by
  have h : ∀ a b : Fin 256, IntOp.cmpi .sle (BitVec.ofNat 32 a.val) (BitVec.ofNat 32 b.val) = BitVec.ofBool (decide (a.val ≤ b.val)) := by
    intro a b
    unfold IntOp.cmpi
    have h1 : (BitVec.ofNat 32 a.val).toInt = a.val := by rw [BitVec.toInt_ofNat']; have := a.isLt; simp [Int.bmod]; omega
    have h2 : (BitVec.ofNat 32 b.val).toInt = b.val := by rw [BitVec.toInt_ofNat']; have := b.isLt; simp [Int.bmod]; omega
    simp only [BitVec.sle, h1, h2, Int.ofNat_le]
  exact h ⟨a, ha⟩ ⟨b, hb⟩
theorem andi_val (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]
theorem select_val {α : Type} (p : Prop) [Decidable p] (x y : α) : Scalar.select (BitVec.ofBool (decide p)) x y = if p then x else y := by
  by_cases hp : p <;> simp [hp, Scalar.select]

/-- The weight of an own key, base two logarithm. -/
def oVal (h q kk : ℕ) : EReal :=
  if kk ≤ q then
    if q % 12 = h % 12 ∧ kk % 12 = h % 12 then ((Real.log 3 * (Real.log 2)⁻¹ : ℝ) : EReal)
    else if q % 6 = h % 6 ∧ kk % 6 = h % 6 then 1 else 0
  else ⊥
/-- The weight of a cross key, base two logarithm. -/
def xVal (h q κ : ℕ) : EReal :=
  if q % 12 = h % 12 ∧ (6 * κ + h % 6) % 12 = h % 12 then 1
  else if q % 6 = h % 6 then 0 else ⊥

theorem one_val : FloatOps.ofBits (F := Ideal) .f32 0x3F800000#32 = (1 : EReal) := Ideal.ofBits_one_f32
theorem zero_val : FloatOps.ofBits (F := Ideal) .f32 0x00000000#32 = (0 : EReal) := Ideal.ofBits_zero_f32

theorem oPay_val (k : Fin k0_t1_loop.trips) (blk j : ℕ) (hb : blk < 3) (hj : j < 24) (x : S8x128.Idx) :
    oPay k blk j x = oVal (2 * k.val + (x 1).val / 64) (64 * blk + (x 1).val % 64) (8 * j + (x 0).val) := by
  have hk := trips_lt k
  have h0 : (x 0).val < 8 := (x 0).isLt
  have h1 : (x 1).val < 128 := (x 1).isLt
  generalize h0' : (x 0).val = a at h0 ⊢
  generalize h1' : (x 1).val = l at h1 ⊢
  have d := Nat.div_lt_of_lt_mul (show l < 64 * 2 by omega)
  have md := Nat.mod_lt l (show 64 > 0 by omega)
  unfold oPay
  dsimp only
  rw [h0', h1']
  simp only [Nat.zero_mul, Nat.zero_add]
  rw [sHead_val k l h1, sQuery_val blk l h1, addi_val,
    smod6' _ (by omega), smod6' _ (by omega), smod6' _ (by omega), smod12' _ (by omega), smod12' _ (by omega), smod12' _ (by omega),
    cmpi_sle_val _ _ (by omega) (by omega), cmpi_eq_val _ _ (by omega) (by omega), cmpi_eq_val _ _ (by omega) (by omega),
    cmpi_eq_val _ _ (by omega) (by omega), cmpi_eq_val _ _ (by omega) (by omega), andi_val, andi_val, select_val, select_val, select_val]
  unfold oVal
  rw [one_val, zero_val]
  rfl

theorem xPay_val (k : Fin k0_t1_loop.trips) (blk j : ℕ) (hb : blk < 3) (hj : j < 4) (x : S8x128.Idx) :
    xPay k blk j x = xVal (2 * k.val + (x 1).val / 64) (64 * blk + (x 1).val % 64) (8 * j + (x 0).val) := by
  have hk := trips_lt k
  have h0 : (x 0).val < 8 := (x 0).isLt
  have h1 : (x 1).val < 128 := (x 1).isLt
  generalize h0' : (x 0).val = a at h0 ⊢
  generalize h1' : (x 1).val = l at h1 ⊢
  have d := Nat.div_lt_of_lt_mul (show l < 64 * 2 by omega)
  have md := Nat.mod_lt l (show 64 > 0 by omega)
  have m6 := Nat.mod_lt (2 * k.val + l / 64) (show 6 > 0 by omega)
  unfold xPay
  dsimp only
  rw [h0', h1']
  simp only [Nat.zero_mul, Nat.zero_add]
  rw [sHead_val k l h1, sQuery_val blk l h1, addi_val, muli_val,
    smod6' (2 * k.val + l / 64) (by omega), addi_val, smod6' _ (by omega), smod12' _ (by omega), smod12' _ (by omega), smod12' _ (by omega),
    cmpi_eq_val _ _ (by omega) (by omega), cmpi_eq_val _ _ (by omega) (by omega),
    cmpi_eq_val _ _ (by omega) (by omega), andi_val, select_val, select_val]
  unfold xVal
  rw [one_val, zero_val]
  rfl

/-- The whole table. -/
def G10 (y : S6x480x128.Idx) : EReal :=
  let h := 2 * (y 0).val + (y 2).val / 64
  let l := (y 2).val % 64
  let r := (y 1).val
  if r < 64 then oVal h l r
  else if r < 192 then oVal h (64 + l) (r - 64)
  else if r < 384 then oVal h (128 + l) (r - 192)
  else xVal h (64 * ((r - 384) / 32) + l) ((r - 384) % 32)

theorem exists_ix3' (x : S1x8x128.Idx) : ∃ (s : Fin 8) (l : Fin 128), x = ix3 0 s l :=
  ⟨x 1, x 2, by funext a; match a with
    | ⟨0, _⟩ => exact Fin.ext (Nat.lt_one_iff.1 (x 0).isLt)
    | ⟨1, _⟩ => rfl
    | ⟨2, _⟩ => rfl⟩

theorem cast_pay (P : S8x128.Idx → EReal) (s : Fin 8) (l : Fin 128) :
    shapeCast S1x8x128 P Gen.shapeCasts_S8x128_S1x8x128 (ix3 0 s l) = P (ix2 s l) := by
  refine shapeCast_apply _ _ _ _ ?_
  rw [Shape.rowMajor_val_three, Shape.rowMajor_val_two]
  show s.val * 128 + l.val = (0 * 8 + s.val) * 128 + l.val
  omega

theorem piece_inb (k : Fin k0_t1_loop.trips) (r : ℕ) (hr : r < 473) (off : Fin 3 → ℕ) (hoff : off = ![k.val, r, 0]) :
    ∀ a, off a + S1x8x128.size a ≤ S6x480x128.size a := by
  have hk := trips_lt k
  intro a
  rw [hoff]
  match a with
  | ⟨0, _⟩ => show k.val + 1 ≤ 6; omega
  | ⟨1, _⟩ => show r + 8 ≤ 480; omega
  | ⟨2, _⟩ => show 0 + 128 ≤ 128; omega

theorem own_row (blk j : ℕ) (hb : blk < 3) (hj : j < 8 * (blk + 1)) : 32 * (blk * (blk + 1)) + 8 * j < 473 := by
  obtain rfl | rfl | rfl : blk = 0 ∨ blk = 1 ∨ blk = 2 := by omega
  all_goals omega

theorem own_piece (k : Fin k0_t1_loop.trips) (blk j : ℕ) (hb : blk < 3) (hj : j < 8 * (blk + 1)) (off : Fin 3 → ℕ)
    (hoff : off = ![k.val, 32 * (blk * (blk + 1)) + 8 * j, 0]) (P : S1x8x128.Idx → Elt Ideal .f32)
    (hP : P = shapeCast S1x8x128 (oPay k blk j) Gen.shapeCasts_S8x128_S1x8x128) (x : S1x8x128.Idx) :
    P x = G10 ((Rect.unit (s := S6x480x128) off S1x8x128.size (piece_inb k _ (own_row blk j hb hj) off hoff)).emb x) := by
  obtain ⟨s, l, rfl⟩ := exists_ix3' x
  rw [hP]
  refine (cast_pay _ s l).trans ?_
  rw [oPay_val k blk j hb (by omega)]
  unfold G10
  have e0 : (((Rect.unit (s := S6x480x128) off S1x8x128.size (piece_inb k _ (own_row blk j hb hj) off hoff)).emb (ix3 0 s l)) 0).val = k.val := by
    show off 0 + 1 * 0 = _; rw [hoff]; rfl
  have e1 : (((Rect.unit (s := S6x480x128) off S1x8x128.size (piece_inb k _ (own_row blk j hb hj) off hoff)).emb (ix3 0 s l)) 1).val = 32 * (blk * (blk + 1)) + 8 * j + s.val := by
    show off 1 + 1 * s.val = _; rw [hoff]; show 32 * (blk * (blk + 1)) + 8 * j + 1 * s.val = _; rw [Nat.one_mul]
  have e2 : (((Rect.unit (s := S6x480x128) off S1x8x128.size (piece_inb k _ (own_row blk j hb hj) off hoff)).emb (ix3 0 s l)) 2).val = l.val := by
    show off 2 + 1 * l.val = _; rw [hoff]; show 0 + 1 * l.val = _; omega
  rw [e0, e1, e2]
  show oVal (2 * k.val + l.val / 64) (64 * blk + l.val % 64) (8 * j + s.val) = _
  have hs := s.isLt
  dsimp only
  obtain rfl | rfl | rfl : blk = 0 ∨ blk = 1 ∨ blk = 2 := by omega
  · rw [if_pos (by omega)]; congr 1 <;> omega
  · rw [if_neg (by omega), if_pos (by omega)]; congr 1; omega
  · rw [if_neg (by omega), if_neg (by omega), if_pos (by omega)]; congr 1; omega

theorem cross_piece (k : Fin k0_t1_loop.trips) (blk j : ℕ) (hb : blk < 3) (hj : j < 4) (off : Fin 3 → ℕ)
    (hoff : off = ![k.val, 384 + 32 * blk + 8 * j, 0]) (P : S1x8x128.Idx → Elt Ideal .f32)
    (hP : P = shapeCast S1x8x128 (xPay k blk j) Gen.shapeCasts_S8x128_S1x8x128) (x : S1x8x128.Idx) :
    P x = G10 ((Rect.unit (s := S6x480x128) off S1x8x128.size (piece_inb k _ (by omega) off hoff)).emb x) := by
  obtain ⟨s, l, rfl⟩ := exists_ix3' x
  rw [hP]
  refine (cast_pay _ s l).trans ?_
  rw [xPay_val k blk j hb hj]
  unfold G10
  have e0 : (((Rect.unit (s := S6x480x128) off S1x8x128.size (piece_inb k _ (by omega) off hoff)).emb (ix3 0 s l)) 0).val = k.val := by
    show off 0 + 1 * 0 = _; rw [hoff]; rfl
  have e1 : (((Rect.unit (s := S6x480x128) off S1x8x128.size (piece_inb k _ (by omega) off hoff)).emb (ix3 0 s l)) 1).val = 384 + 32 * blk + 8 * j + s.val := by
    show off 1 + 1 * s.val = _; rw [hoff]; show 384 + 32 * blk + 8 * j + 1 * s.val = _; rw [Nat.one_mul]
  have e2 : (((Rect.unit (s := S6x480x128) off S1x8x128.size (piece_inb k _ (by omega) off hoff)).emb (ix3 0 s l)) 2).val = l.val := by
    show off 2 + 1 * l.val = _; rw [hoff]; show 0 + 1 * l.val = _; omega
  rw [e0, e1, e2]
  show xVal (2 * k.val + l.val / 64) (64 * blk + l.val % 64) (8 * j + s.val) = _
  have hs := s.isLt
  dsimp only
  rw [if_neg (by omega), if_neg (by omega), if_neg (by omega)]
  congr 1 <;> omega

section
variable (𝒱 : Variants) (c : Dev nD) (bd : Option 𝒱.V) (i : grid0.Coords) (arg2 : Memref sig .tc .smem S4x56 .f32) (harg2 : arg2.IsWhole) (arg3 : Memref sig .tc .smem S4x56 .f32) (harg3 : arg3.IsWhole) (arg4 : Memref sig .tc .smem S4x56 .f32) (harg4 : arg4.IsWhole) (arg5 : Memref sig .tc .vmem S1x384x1x8x128 .i8) (harg5 : arg5.IsWhole) (arg6 : Memref sig .tc .vmem S1x384x1x8x128 .i8) (harg6 : arg6.IsWhole) (arg7 : Memref sig .tc .vmem S1x384x1x8x128 .i8) (harg7 : arg7.IsWhole) (arg8 : Memref sig .tc .vmem S1x384x1024 .bf16) (harg8 : arg8.IsWhole) (arg9 : Memref sig .tc .vmem S1x384x56 .f32) (harg9 : arg9.IsWhole) (arg10 : Memref sig .tc .vmem S6x480x128 .f32) (harg10 : arg10.IsWhole) (arg11 : Memref sig .tc .vmem S3x8x96x128 .i32) (harg11 : arg11.IsWhole) (arg12 : Memref sig .tc .vmem S2x8x8x128 .i32) (harg12 : arg12.IsWhole) (arg13 : Memref sig .tc .vmem S7x8x384 .f32) (harg13 : arg13.IsWhole) (arg14 : Memref sig .tc .vmem S768x128 .i32) (harg14 : arg14.IsWhole) (h1 : k0_cond1 i = 1#1)

/-- Every store of a trip holds its part of the table. -/
theorem trip_pieces (k : Fin k0_t1_loop.trips) : ∀ p ∈ Gen.tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h1 k, ∀ x : p.1.shape.Idx, p.2 x = G10 (p.1.emb x) := by
  unfold Gen.tripL_k0_t1 Gen.trip_k0_t1
  exact
    List.forall_mem_cons.2 ⟨cross_piece k 2 3 (by decide) (by decide) _ (by revert k; decide +kernel) _ rfl,
    List.forall_mem_cons.2 ⟨cross_piece k 2 2 (by decide) (by decide) _ (by revert k; decide +kernel) _ rfl,
    List.forall_mem_cons.2 ⟨cross_piece k 2 1 (by decide) (by decide) _ (by revert k; decide +kernel) _ rfl,
    List.forall_mem_cons.2 ⟨cross_piece k 2 0 (by decide) (by decide) _ (by revert k; decide +kernel) _ rfl,
    List.forall_mem_cons.2 ⟨own_piece k 2 23 (by decide) (by decide) _ (by revert k; decide +kernel) _ rfl,
    List.forall_mem_cons.2 ⟨own_piece k 2 22 (by decide) (by decide) _ (by revert k; decide +kernel) _ rfl,
    List.forall_mem_cons.2 ⟨own_piece k 2 21 (by decide) (by decide) _ (by revert k; decide +kernel) _ rfl,
    List.forall_mem_cons.2 ⟨own_piece k 2 20 (by decide) (by decide) _ (by revert k; decide +kernel) _ rfl,
    List.forall_mem_cons.2 ⟨own_piece k 2 19 (by decide) (by decide) _ (by revert k; decide +kernel) _ rfl,
    List.forall_mem_cons.2 ⟨own_piece k 2 18 (by decide) (by decide) _ (by revert k; decide +kernel) _ rfl,
    List.forall_mem_cons.2 ⟨own_piece k 2 17 (by decide) (by decide) _ (by revert k; decide +kernel) _ rfl,
    List.forall_mem_cons.2 ⟨own_piece k 2 16 (by decide) (by decide) _ (by revert k; decide +kernel) _ rfl,
    List.forall_mem_cons.2 ⟨own_piece k 2 15 (by decide) (by decide) _ (by revert k; decide +kernel) _ rfl,
    List.forall_mem_cons.2 ⟨own_piece k 2 14 (by decide) (by decide) _ (by revert k; decide +kernel) _ rfl,
    List.forall_mem_cons.2 ⟨own_piece k 2 13 (by decide) (by decide) _ (by revert k; decide +kernel) _ rfl,
    List.forall_mem_cons.2 ⟨own_piece k 2 12 (by decide) (by decide) _ (by revert k; decide +kernel) _ rfl,
    List.forall_mem_cons.2 ⟨own_piece k 2 11 (by decide) (by decide) _ (by revert k; decide +kernel) _ rfl,
    List.forall_mem_cons.2 ⟨own_piece k 2 10 (by decide) (by decide) _ (by revert k; decide +kernel) _ rfl,
    List.forall_mem_cons.2 ⟨own_piece k 2 9 (by decide) (by decide) _ (by revert k; decide +kernel) _ rfl,
    List.forall_mem_cons.2 ⟨own_piece k 2 8 (by decide) (by decide) _ (by revert k; decide +kernel) _ rfl,
    List.forall_mem_cons.2 ⟨own_piece k 2 7 (by decide) (by decide) _ (by revert k; decide +kernel) _ rfl,
    List.forall_mem_cons.2 ⟨own_piece k 2 6 (by decide) (by decide) _ (by revert k; decide +kernel) _ rfl,
    List.forall_mem_cons.2 ⟨own_piece k 2 5 (by decide) (by decide) _ (by revert k; decide +kernel) _ rfl,
    List.forall_mem_cons.2 ⟨own_piece k 2 4 (by decide) (by decide) _ (by revert k; decide +kernel) _ rfl,
    List.forall_mem_cons.2 ⟨own_piece k 2 3 (by decide) (by decide) _ (by revert k; decide +kernel) _ rfl,
    List.forall_mem_cons.2 ⟨own_piece k 2 2 (by decide) (by decide) _ (by revert k; decide +kernel) _ rfl,
    List.forall_mem_cons.2 ⟨own_piece k 2 1 (by decide) (by decide) _ (by revert k; decide +kernel) _ rfl,
    List.forall_mem_cons.2 ⟨own_piece k 2 0 (by decide) (by decide) _ (by revert k; decide +kernel) _ rfl,
    List.forall_mem_cons.2 ⟨cross_piece k 1 3 (by decide) (by decide) _ (by revert k; decide +kernel) _ rfl,
    List.forall_mem_cons.2 ⟨cross_piece k 1 2 (by decide) (by decide) _ (by revert k; decide +kernel) _ rfl,
    List.forall_mem_cons.2 ⟨cross_piece k 1 1 (by decide) (by decide) _ (by revert k; decide +kernel) _ rfl,
    List.forall_mem_cons.2 ⟨cross_piece k 1 0 (by decide) (by decide) _ (by revert k; decide +kernel) _ rfl,
    List.forall_mem_cons.2 ⟨own_piece k 1 15 (by decide) (by decide) _ (by revert k; decide +kernel) _ rfl,
    List.forall_mem_cons.2 ⟨own_piece k 1 14 (by decide) (by decide) _ (by revert k; decide +kernel) _ rfl,
    List.forall_mem_cons.2 ⟨own_piece k 1 13 (by decide) (by decide) _ (by revert k; decide +kernel) _ rfl,
    List.forall_mem_cons.2 ⟨own_piece k 1 12 (by decide) (by decide) _ (by revert k; decide +kernel) _ rfl,
    List.forall_mem_cons.2 ⟨own_piece k 1 11 (by decide) (by decide) _ (by revert k; decide +kernel) _ rfl,
    List.forall_mem_cons.2 ⟨own_piece k 1 10 (by decide) (by decide) _ (by revert k; decide +kernel) _ rfl,
    List.forall_mem_cons.2 ⟨own_piece k 1 9 (by decide) (by decide) _ (by revert k; decide +kernel) _ rfl,
    List.forall_mem_cons.2 ⟨own_piece k 1 8 (by decide) (by decide) _ (by revert k; decide +kernel) _ rfl,
    List.forall_mem_cons.2 ⟨own_piece k 1 7 (by decide) (by decide) _ (by revert k; decide +kernel) _ rfl,
    List.forall_mem_cons.2 ⟨own_piece k 1 6 (by decide) (by decide) _ (by revert k; decide +kernel) _ rfl,
    List.forall_mem_cons.2 ⟨own_piece k 1 5 (by decide) (by decide) _ (by revert k; decide +kernel) _ rfl,
    List.forall_mem_cons.2 ⟨own_piece k 1 4 (by decide) (by decide) _ (by revert k; decide +kernel) _ rfl,
    List.forall_mem_cons.2 ⟨own_piece k 1 3 (by decide) (by decide) _ (by revert k; decide +kernel) _ rfl,
    List.forall_mem_cons.2 ⟨own_piece k 1 2 (by decide) (by decide) _ (by revert k; decide +kernel) _ rfl,
    List.forall_mem_cons.2 ⟨own_piece k 1 1 (by decide) (by decide) _ (by revert k; decide +kernel) _ rfl,
    List.forall_mem_cons.2 ⟨own_piece k 1 0 (by decide) (by decide) _ (by revert k; decide +kernel) _ rfl,
    List.forall_mem_cons.2 ⟨cross_piece k 0 3 (by decide) (by decide) _ (by revert k; decide +kernel) _ rfl,
    List.forall_mem_cons.2 ⟨cross_piece k 0 2 (by decide) (by decide) _ (by revert k; decide +kernel) _ rfl,
    List.forall_mem_cons.2 ⟨cross_piece k 0 1 (by decide) (by decide) _ (by revert k; decide +kernel) _ rfl,
    List.forall_mem_cons.2 ⟨cross_piece k 0 0 (by decide) (by decide) _ (by revert k; decide +kernel) _ rfl,
    List.forall_mem_cons.2 ⟨own_piece k 0 7 (by decide) (by decide) _ (by revert k; decide +kernel) _ rfl,
    List.forall_mem_cons.2 ⟨own_piece k 0 6 (by decide) (by decide) _ (by revert k; decide +kernel) _ rfl,
    List.forall_mem_cons.2 ⟨own_piece k 0 5 (by decide) (by decide) _ (by revert k; decide +kernel) _ rfl,
    List.forall_mem_cons.2 ⟨own_piece k 0 4 (by decide) (by decide) _ (by revert k; decide +kernel) _ rfl,
    List.forall_mem_cons.2 ⟨own_piece k 0 3 (by decide) (by decide) _ (by revert k; decide +kernel) _ rfl,
    List.forall_mem_cons.2 ⟨own_piece k 0 2 (by decide) (by decide) _ (by revert k; decide +kernel) _ rfl,
    List.forall_mem_cons.2 ⟨own_piece k 0 1 (by decide) (by decide) _ (by revert k; decide +kernel) _ rfl,
    List.forall_mem_cons.2 ⟨own_piece k 0 0 (by decide) (by decide) _ (by revert k; decide +kernel) _ rfl,
    fun _ h => absurd h List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
/-- Every group of eight rows has its store in a trip. -/
theorem trip_rows (k : Fin k0_t1_loop.trips) (m : Fin 60) : ∃ p ∈ Gen.tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h1 k,
    ∃ (off : Fin 3 → ℕ) (h : off = ![k.val, 8 * m.val, 0]), p.1 = Rect.unit (s := S6x480x128) off S1x8x128.size (piece_inb k _ (by omega) off h) := by
  unfold Gen.tripL_k0_t1 Gen.trip_k0_t1
  exact match m with
    | ⟨0, _⟩ => ⟨_, List.mem_iff_getElem?.2 ⟨59, rfl⟩, _, (by revert k; decide +kernel : k0_off1 k = ![k.val, 0, 0]), rfl⟩
    | ⟨1, _⟩ => ⟨_, List.mem_iff_getElem?.2 ⟨58, rfl⟩, _, (by revert k; decide +kernel : k0_off2 k = ![k.val, 8, 0]), rfl⟩
    | ⟨2, _⟩ => ⟨_, List.mem_iff_getElem?.2 ⟨57, rfl⟩, _, (by revert k; decide +kernel : k0_off3 k = ![k.val, 16, 0]), rfl⟩
    | ⟨3, _⟩ => ⟨_, List.mem_iff_getElem?.2 ⟨56, rfl⟩, _, (by revert k; decide +kernel : k0_off4 k = ![k.val, 24, 0]), rfl⟩
    | ⟨4, _⟩ => ⟨_, List.mem_iff_getElem?.2 ⟨55, rfl⟩, _, (by revert k; decide +kernel : k0_off5 k = ![k.val, 32, 0]), rfl⟩
    | ⟨5, _⟩ => ⟨_, List.mem_iff_getElem?.2 ⟨54, rfl⟩, _, (by revert k; decide +kernel : k0_off6 k = ![k.val, 40, 0]), rfl⟩
    | ⟨6, _⟩ => ⟨_, List.mem_iff_getElem?.2 ⟨53, rfl⟩, _, (by revert k; decide +kernel : k0_off7 k = ![k.val, 48, 0]), rfl⟩
    | ⟨7, _⟩ => ⟨_, List.mem_iff_getElem?.2 ⟨52, rfl⟩, _, (by revert k; decide +kernel : k0_off8 k = ![k.val, 56, 0]), rfl⟩
    | ⟨8, _⟩ => ⟨_, List.mem_iff_getElem?.2 ⟨47, rfl⟩, _, (by revert k; decide +kernel : k0_off13 k = ![k.val, 64, 0]), rfl⟩
    | ⟨9, _⟩ => ⟨_, List.mem_iff_getElem?.2 ⟨46, rfl⟩, _, (by revert k; decide +kernel : k0_off14 k = ![k.val, 72, 0]), rfl⟩
    | ⟨10, _⟩ => ⟨_, List.mem_iff_getElem?.2 ⟨45, rfl⟩, _, (by revert k; decide +kernel : k0_off15 k = ![k.val, 80, 0]), rfl⟩
    | ⟨11, _⟩ => ⟨_, List.mem_iff_getElem?.2 ⟨44, rfl⟩, _, (by revert k; decide +kernel : k0_off16 k = ![k.val, 88, 0]), rfl⟩
    | ⟨12, _⟩ => ⟨_, List.mem_iff_getElem?.2 ⟨43, rfl⟩, _, (by revert k; decide +kernel : k0_off17 k = ![k.val, 96, 0]), rfl⟩
    | ⟨13, _⟩ => ⟨_, List.mem_iff_getElem?.2 ⟨42, rfl⟩, _, (by revert k; decide +kernel : k0_off18 k = ![k.val, 104, 0]), rfl⟩
    | ⟨14, _⟩ => ⟨_, List.mem_iff_getElem?.2 ⟨41, rfl⟩, _, (by revert k; decide +kernel : k0_off19 k = ![k.val, 112, 0]), rfl⟩
    | ⟨15, _⟩ => ⟨_, List.mem_iff_getElem?.2 ⟨40, rfl⟩, _, (by revert k; decide +kernel : k0_off20 k = ![k.val, 120, 0]), rfl⟩
    | ⟨16, _⟩ => ⟨_, List.mem_iff_getElem?.2 ⟨39, rfl⟩, _, (by revert k; decide +kernel : k0_off21 k = ![k.val, 128, 0]), rfl⟩
    | ⟨17, _⟩ => ⟨_, List.mem_iff_getElem?.2 ⟨38, rfl⟩, _, (by revert k; decide +kernel : k0_off22 k = ![k.val, 136, 0]), rfl⟩
    | ⟨18, _⟩ => ⟨_, List.mem_iff_getElem?.2 ⟨37, rfl⟩, _, (by revert k; decide +kernel : k0_off23 k = ![k.val, 144, 0]), rfl⟩
    | ⟨19, _⟩ => ⟨_, List.mem_iff_getElem?.2 ⟨36, rfl⟩, _, (by revert k; decide +kernel : k0_off24 k = ![k.val, 152, 0]), rfl⟩
    | ⟨20, _⟩ => ⟨_, List.mem_iff_getElem?.2 ⟨35, rfl⟩, _, (by revert k; decide +kernel : k0_off25 k = ![k.val, 160, 0]), rfl⟩
    | ⟨21, _⟩ => ⟨_, List.mem_iff_getElem?.2 ⟨34, rfl⟩, _, (by revert k; decide +kernel : k0_off26 k = ![k.val, 168, 0]), rfl⟩
    | ⟨22, _⟩ => ⟨_, List.mem_iff_getElem?.2 ⟨33, rfl⟩, _, (by revert k; decide +kernel : k0_off27 k = ![k.val, 176, 0]), rfl⟩
    | ⟨23, _⟩ => ⟨_, List.mem_iff_getElem?.2 ⟨32, rfl⟩, _, (by revert k; decide +kernel : k0_off28 k = ![k.val, 184, 0]), rfl⟩
    | ⟨24, _⟩ => ⟨_, List.mem_iff_getElem?.2 ⟨27, rfl⟩, _, (by revert k; decide +kernel : k0_off33 k = ![k.val, 192, 0]), rfl⟩
    | ⟨25, _⟩ => ⟨_, List.mem_iff_getElem?.2 ⟨26, rfl⟩, _, (by revert k; decide +kernel : k0_off34 k = ![k.val, 200, 0]), rfl⟩
    | ⟨26, _⟩ => ⟨_, List.mem_iff_getElem?.2 ⟨25, rfl⟩, _, (by revert k; decide +kernel : k0_off35 k = ![k.val, 208, 0]), rfl⟩
    | ⟨27, _⟩ => ⟨_, List.mem_iff_getElem?.2 ⟨24, rfl⟩, _, (by revert k; decide +kernel : k0_off36 k = ![k.val, 216, 0]), rfl⟩
    | ⟨28, _⟩ => ⟨_, List.mem_iff_getElem?.2 ⟨23, rfl⟩, _, (by revert k; decide +kernel : k0_off37 k = ![k.val, 224, 0]), rfl⟩
    | ⟨29, _⟩ => ⟨_, List.mem_iff_getElem?.2 ⟨22, rfl⟩, _, (by revert k; decide +kernel : k0_off38 k = ![k.val, 232, 0]), rfl⟩
    | ⟨30, _⟩ => ⟨_, List.mem_iff_getElem?.2 ⟨21, rfl⟩, _, (by revert k; decide +kernel : k0_off39 k = ![k.val, 240, 0]), rfl⟩
    | ⟨31, _⟩ => ⟨_, List.mem_iff_getElem?.2 ⟨20, rfl⟩, _, (by revert k; decide +kernel : k0_off40 k = ![k.val, 248, 0]), rfl⟩
    | ⟨32, _⟩ => ⟨_, List.mem_iff_getElem?.2 ⟨19, rfl⟩, _, (by revert k; decide +kernel : k0_off41 k = ![k.val, 256, 0]), rfl⟩
    | ⟨33, _⟩ => ⟨_, List.mem_iff_getElem?.2 ⟨18, rfl⟩, _, (by revert k; decide +kernel : k0_off42 k = ![k.val, 264, 0]), rfl⟩
    | ⟨34, _⟩ => ⟨_, List.mem_iff_getElem?.2 ⟨17, rfl⟩, _, (by revert k; decide +kernel : k0_off43 k = ![k.val, 272, 0]), rfl⟩
    | ⟨35, _⟩ => ⟨_, List.mem_iff_getElem?.2 ⟨16, rfl⟩, _, (by revert k; decide +kernel : k0_off44 k = ![k.val, 280, 0]), rfl⟩
    | ⟨36, _⟩ => ⟨_, List.mem_iff_getElem?.2 ⟨15, rfl⟩, _, (by revert k; decide +kernel : k0_off45 k = ![k.val, 288, 0]), rfl⟩
    | ⟨37, _⟩ => ⟨_, List.mem_iff_getElem?.2 ⟨14, rfl⟩, _, (by revert k; decide +kernel : k0_off46 k = ![k.val, 296, 0]), rfl⟩
    | ⟨38, _⟩ => ⟨_, List.mem_iff_getElem?.2 ⟨13, rfl⟩, _, (by revert k; decide +kernel : k0_off47 k = ![k.val, 304, 0]), rfl⟩
    | ⟨39, _⟩ => ⟨_, List.mem_iff_getElem?.2 ⟨12, rfl⟩, _, (by revert k; decide +kernel : k0_off48 k = ![k.val, 312, 0]), rfl⟩
    | ⟨40, _⟩ => ⟨_, List.mem_iff_getElem?.2 ⟨11, rfl⟩, _, (by revert k; decide +kernel : k0_off49 k = ![k.val, 320, 0]), rfl⟩
    | ⟨41, _⟩ => ⟨_, List.mem_iff_getElem?.2 ⟨10, rfl⟩, _, (by revert k; decide +kernel : k0_off50 k = ![k.val, 328, 0]), rfl⟩
    | ⟨42, _⟩ => ⟨_, List.mem_iff_getElem?.2 ⟨9, rfl⟩, _, (by revert k; decide +kernel : k0_off51 k = ![k.val, 336, 0]), rfl⟩
    | ⟨43, _⟩ => ⟨_, List.mem_iff_getElem?.2 ⟨8, rfl⟩, _, (by revert k; decide +kernel : k0_off52 k = ![k.val, 344, 0]), rfl⟩
    | ⟨44, _⟩ => ⟨_, List.mem_iff_getElem?.2 ⟨7, rfl⟩, _, (by revert k; decide +kernel : k0_off53 k = ![k.val, 352, 0]), rfl⟩
    | ⟨45, _⟩ => ⟨_, List.mem_iff_getElem?.2 ⟨6, rfl⟩, _, (by revert k; decide +kernel : k0_off54 k = ![k.val, 360, 0]), rfl⟩
    | ⟨46, _⟩ => ⟨_, List.mem_iff_getElem?.2 ⟨5, rfl⟩, _, (by revert k; decide +kernel : k0_off55 k = ![k.val, 368, 0]), rfl⟩
    | ⟨47, _⟩ => ⟨_, List.mem_iff_getElem?.2 ⟨4, rfl⟩, _, (by revert k; decide +kernel : k0_off56 k = ![k.val, 376, 0]), rfl⟩
    | ⟨48, _⟩ => ⟨_, List.mem_iff_getElem?.2 ⟨51, rfl⟩, _, (by revert k; decide +kernel : k0_off9 k = ![k.val, 384, 0]), rfl⟩
    | ⟨49, _⟩ => ⟨_, List.mem_iff_getElem?.2 ⟨50, rfl⟩, _, (by revert k; decide +kernel : k0_off10 k = ![k.val, 392, 0]), rfl⟩
    | ⟨50, _⟩ => ⟨_, List.mem_iff_getElem?.2 ⟨49, rfl⟩, _, (by revert k; decide +kernel : k0_off11 k = ![k.val, 400, 0]), rfl⟩
    | ⟨51, _⟩ => ⟨_, List.mem_iff_getElem?.2 ⟨48, rfl⟩, _, (by revert k; decide +kernel : k0_off12 k = ![k.val, 408, 0]), rfl⟩
    | ⟨52, _⟩ => ⟨_, List.mem_iff_getElem?.2 ⟨31, rfl⟩, _, (by revert k; decide +kernel : k0_off29 k = ![k.val, 416, 0]), rfl⟩
    | ⟨53, _⟩ => ⟨_, List.mem_iff_getElem?.2 ⟨30, rfl⟩, _, (by revert k; decide +kernel : k0_off30 k = ![k.val, 424, 0]), rfl⟩
    | ⟨54, _⟩ => ⟨_, List.mem_iff_getElem?.2 ⟨29, rfl⟩, _, (by revert k; decide +kernel : k0_off31 k = ![k.val, 432, 0]), rfl⟩
    | ⟨55, _⟩ => ⟨_, List.mem_iff_getElem?.2 ⟨28, rfl⟩, _, (by revert k; decide +kernel : k0_off32 k = ![k.val, 440, 0]), rfl⟩
    | ⟨56, _⟩ => ⟨_, List.mem_iff_getElem?.2 ⟨3, rfl⟩, _, (by revert k; decide +kernel : k0_off57 k = ![k.val, 448, 0]), rfl⟩
    | ⟨57, _⟩ => ⟨_, List.mem_iff_getElem?.2 ⟨2, rfl⟩, _, (by revert k; decide +kernel : k0_off58 k = ![k.val, 456, 0]), rfl⟩
    | ⟨58, _⟩ => ⟨_, List.mem_iff_getElem?.2 ⟨1, rfl⟩, _, (by revert k; decide +kernel : k0_off59 k = ![k.val, 464, 0]), rfl⟩
    | ⟨59, _⟩ => ⟨_, List.mem_iff_getElem?.2 ⟨0, rfl⟩, _, (by revert k; decide +kernel : k0_off60 k = ![k.val, 472, 0]), rfl⟩
    | ⟨_ + 60, h⟩ => absurd h (by omega)

/-- The pieces of the first `n` trips hold their parts of the table, and cover the pairs below `n`. -/
theorem loop_pieces (n : ℕ) (hn : n ≤ k0_t1_loop.trips) :
    (∀ p ∈ Gen.pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h1 n, ∀ x : p.1.shape.Idx, p.2 x = G10 (p.1.emb x)) ∧
    (∀ y : S6x480x128.Idx, (y 0).val < n → ∃ p ∈ Gen.pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h1 n, ∃ x, p.1.emb x = y) := by
  induction n with
  | zero =>
    refine ⟨fun p hp => ?_, fun y hy => absurd hy (Nat.not_lt_zero _)⟩
    exact absurd hp List.not_mem_nil
  | succ n ih =>
    obtain ⟨ih1, ih2⟩ := ih (by omega)
    have e := Gen.pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 h1 ⟨n, hn⟩
    rw [show n + 1 = (⟨n, hn⟩ : Fin k0_t1_loop.trips).val + 1 from rfl, e]
    refine ⟨fun p hp => ?_, fun y hy => ?_⟩
    · rcases List.mem_append.1 hp with h | h
      · exact trip_pieces 𝒱 c bd i arg2 harg2 arg3 harg3 arg4 harg4 arg5 harg5 arg6 harg6 arg7 harg7 arg8 harg8 arg9 harg9 arg10 harg10 arg11 harg11 arg12 harg12 arg13 harg13 arg14 harg14 h1 ⟨n, hn⟩ p h
      · exact ih1 p h
    · by_cases h : (y 0).val < n
      · obtain ⟨p, hp, hy'⟩ := ih2 y h
        exact ⟨p, List.mem_append.2 (Or.inr hp), hy'⟩
      · have hlt : (y 1).val < 480 := (y 1).isLt
        obtain ⟨p, hp, off, ho, hr⟩ := trip_rows 𝒱 c bd i arg2 harg2 arg3 harg3 arg4 harg4 arg5 harg5 arg6 harg6 arg7 harg7 arg8 harg8 arg9 harg9 arg10 harg10 arg11 harg11 arg12 harg12 arg13 harg13 arg14 harg14 h1 ⟨n, hn⟩ ⟨(y 1).val / 8, by omega⟩
        refine ⟨p, List.mem_append.2 (Or.inl hp), ?_⟩
        rw [hr]
        refine ⟨(ix3 0 ⟨(y 1).val % 8, Nat.mod_lt _ (by decide)⟩ (y 2) : S1x8x128.Idx), ?_⟩
        funext a
        match a with
        | ⟨0, _⟩ => refine Fin.ext ?_; show off 0 + 1 * 0 = (y 0).val; rw [ho]; show n + 1 * 0 = _; have hy' : (y 0).val < n + 1 := hy; omega
        | ⟨1, _⟩ => refine Fin.ext ?_; show off 1 + 1 * ((y 1).val % 8) = (y 1).val; rw [ho]; show 8 * ((y 1).val / 8) + 1 * ((y 1).val % 8) = _; omega
        | ⟨2, _⟩ => refine Fin.ext ?_; show off 2 + 1 * (y 2).val = (y 2).val; rw [ho]; show 0 + 1 * (y 2).val = _; omega

/-- After the loop the buffer holds the table. -/
theorem table_read (f : BufTy.Contents (Elt Ideal) arg10.view.ty) (y : S6x480x128.Idx) :
    arg10.view.read (Elt Ideal) (arg10.view.writes (Elt Ideal) f (Gen.pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 h1 k0_t1_loop.trips)) y = G10 y := by
  obtain ⟨g1, g2⟩ := loop_pieces 𝒱 c bd i arg2 harg2 arg3 harg3 arg4 harg4 arg5 harg5 arg6 harg6 arg7 harg7 arg8 harg8 arg9 harg9 arg10 harg10 arg11 harg11 arg12 harg12 arg13 harg13 arg14 harg14 h1 k0_t1_loop.trips le_rfl
  exact View.read_writes_apply_of_pieces arg10.view f G10 _ g1 y (by obtain ⟨p, hp, x, hx⟩ := g2 y (y 0).isLt; exact ⟨p, hp, hx ▸ p.1.idx_mem x⟩)

end

end Cert.KernelIdeal.Hand

end
-- ==== Proof.KernelIdeal.Tile.lean ====
/- One attention tile of the body as functions of its operands, for any number `n` of keys, and what they hold at the ideal
   instance, read at an index. -/
module

public import proofs.«01_k».proof.Proof.Gen.KernelIdeal.Skeleton
public import Idealize.ShloMosaic.Lib.Pipeline.Value
public import Idealize.ShloMosaic.Lib.Pointwise
public import Idealize.ShloMosaic.Lib.MatmulPlain
public import Idealize.ShloMosaic.Lib.ValueIdx
public import Idealize.ShloMosaic.Lib.ValueIdxCoords

@[expose] public section

noncomputable section

namespace Cert.KernelIdeal.Hand

open Idealize.ShloMosaic Cert.KernelIdeal
open scoped BigOperators

/-- The shape facts that the tile's operations need at `n` keys. -/
structure TileOk (n : ℕ) : Prop where
  hB : Shape.Broadcasts ⟨2, ![1, 128]⟩ ⟨2, ![n, 128]⟩
  hR : Shape.Reduces ⟨2, ![n, 128]⟩ [0] ⟨1, ![128]⟩
  hT : Shape.Transposes ⟨2, ![n, 128]⟩ [1, 0] ⟨2, ![128, n]⟩
  hS0 : Shape.Slices ⟨2, ![128, n]⟩ ![0, 0] ⟨2, ![64, n]⟩
  hS1 : Shape.Slices ⟨2, ![128, n]⟩ ![64, 0] ⟨2, ![64, n]⟩

/-- Two blocks of 64 rows stack to 128. -/
theorem concat_rhs : Shape.Concatenates [S64x256, S64x256] S128x256 0 := by decide

section Ops
variable {F : FTy → Type} [FloatOps F] [Named F] {n : ℕ}

/-- The two heads' queries, block diagonal. -/
def tRhs (qa qb : FVec F S64x128 .fp8e4m3) : FVec F S128x256 .fp8e4m3 :=
  concatenate S128x256 0
    [⟨S64x256, concatenate S64x256 1 [⟨S64x128, qa⟩, ⟨S64x128, constant S64x128 .fp8e4m3 0#8⟩] Gen.concatenates_S64x128_S64x128_S64x256_d1⟩,
     ⟨S64x256, concatenate S64x256 1 [⟨S64x128, constant S64x128 .fp8e4m3 0#8⟩, ⟨S64x128, qb⟩] Gen.concatenates_S64x128_S64x128_S64x256_d1⟩]
    concat_rhs

/-- The biased scores. -/
def tX (h : TileOk n) (keys : FVec F ⟨2, ![n, 256]⟩ .fp8e4m3) (rhs : FVec F S128x256 .fp8e4m3) (cvec : FVec F S1x128 .f32)
    (bias : FVec F ⟨2, ![n, 128]⟩ .f32) : FVec F ⟨2, ![n, 128]⟩ .f32 :=
  addf (mulf (matmul (DotDims.transposedRhs n 256 128) none keys rhs (constant ⟨2, ![n, 128]⟩ .f32 0#32))
    (broadcastTo ⟨2, ![n, 128]⟩ cvec h.hB)) bias

/-- The column maxima. -/
def tM (h : TileOk n) (X : FVec F ⟨2, ![n, 128]⟩ .f32) : FVec F S1x128 .f32 :=
  shapeCast S1x128 (multiReduction .maximumf [0] S128 X 0xFF800000#32 h.hR) Gen.shapeCasts_S128_S1x128

/-- The exponentials. -/
def tE (h : TileOk n) (X : FVec F ⟨2, ![n, 128]⟩ .f32) : FVec F ⟨2, ![n, 128]⟩ .f32 :=
  exp2 (subf X (broadcastTo ⟨2, ![n, 128]⟩ (tM h X) h.hB))

/-- The column sums of the exponentials. -/
def tL (h : TileOk n) (X : FVec F ⟨2, ![n, 128]⟩ .f32) : FVec F S1x128 .f32 :=
  shapeCast S1x128 (multiReduction .add [0] S128 (tE h X) 0#32 h.hR) Gen.shapeCasts_S128_S1x128

/-- The log-sum-exp row. -/
def tLse (h : TileOk n) (X : FVec F ⟨2, ![n, 128]⟩ .f32) : FVec F S1x128 .f32 :=
  mulf (addf (tM h X) (mulf (log (tL h X)) (broadcast S1x128 (Named.named (φ := .f32) κ "log2_e" 1069066811#32))))
    (broadcast S1x128 (Named.named (φ := .f32) κ "ln_2" 1060205080#32))

/-- The probabilities, transposed. -/
def tPT (h : TileOk n) (X : FVec F ⟨2, ![n, 128]⟩ .f32) : FVec F ⟨2, ![128, n]⟩ .bf16 :=
  transpose ⟨2, ![128, n]⟩ [1, 0]
    (truncf .bf16 (mulf (tE h X) (broadcastTo ⟨2, ![n, 128]⟩
      (divf (broadcast S1x128 (FloatOps.ofBits .f32 1065353216#32)) (tL h X)) h.hB)) Gen.bitsLt_bf16_f32) h.hT

/-- The two heads' outputs, side by side. -/
def tO (h : TileOk n) (X : FVec F ⟨2, ![n, 128]⟩ .f32) (va vb : FVec F ⟨2, ![n, 128]⟩ .fp8e4m3) (sa sb : F .f32) :
    FVec F S1x64x256 .bf16 :=
  shapeCast S1x64x256 (truncf .bf16 (concatenate S64x256 1
    [⟨S64x128, mulf (matmul (DotDims.plain 64 n 128) none (extractStridedSlice ⟨2, ![64, n]⟩ ![0, 0] (tPT h X) h.hS0) va
        (constant S64x128 .f32 0#32)) (broadcast S64x128 sa)⟩,
     ⟨S64x128, mulf (matmul (DotDims.plain 64 n 128) none (extractStridedSlice ⟨2, ![64, n]⟩ ![64, 0] (tPT h X) h.hS1) vb
        (constant S64x128 .f32 0#32)) (broadcast S64x128 sb)⟩]
    Gen.concatenates_S64x128_S64x128_S64x256_d1) Gen.bitsLt_bf16_f32) Gen.shapeCasts_S64x256_S1x64x256

/-- The first head's log-sum-exp piece. -/
def tLa (h : TileOk n) (X : FVec F ⟨2, ![n, 128]⟩ .f32) : FVec F S1x1x64 .f32 :=
  shapeCast S1x1x64 (extractStridedSlice S1x64 ![0, 0] (tLse h X) Gen.slices_S1x128_o0_0_S1x64) Gen.shapeCasts_S1x64_S1x1x64

/-- The second head's log-sum-exp piece. -/
def tLb (h : TileOk n) (X : FVec F ⟨2, ![n, 128]⟩ .f32) : FVec F S1x1x64 .f32 :=
  shapeCast S1x1x64 (extractStridedSlice S1x64 ![0, 64] (tLse h X) (by decide)) Gen.shapeCasts_S1x64_S1x1x64

end Ops

/-! ## At the ideal instance -/

/-- A column's maximum. -/
def cM {n : ℕ} (x : Fin n → EReal) : EReal := Finset.univ.fold max ⊥ x
/-- A column's exponentials. -/
def cE {n : ℕ} (x : Fin n → EReal) (κ : Fin n) : EReal := Ideal.exp2 (x κ - cM x)
/-- Their sum. -/
def cL {n : ℕ} (x : Fin n → EReal) : EReal := ∑ κ, cE x κ
/-- The weights. -/
def cP {n : ℕ} (x : Fin n → EReal) (κ : Fin n) : EReal := cE x κ * Ideal.div 1 (cL x)
/-- The column's log-sum-exp. -/
def cLse {n : ℕ} (x : Fin n → EReal) : EReal := (cM x + Ideal.log (cL x) * ((Real.log 2)⁻¹ : ℝ)) * (Real.log 2 : ℝ)

variable {n : ℕ} (h : TileOk n)

/-- The word of one. -/
theorem ofBits_one_f32 : Ideal.ofBits .f32 1065353216#32 = 1 := by
  norm_num [Ideal.ofBits, Ideal.ieee, show (1065353216 >>> 23 : ℕ) = 127 from rfl, show BitVec.extractLsb' 31 1 1065353216#32 = 0#1 from rfl]
/-- The word of minus infinity. -/
theorem ofBits_ninf_f32 : Ideal.ofBits .f32 0xFF800000#32 = ⊥ := by
  simp [Ideal.ofBits, Ideal.ieee]
/-- The byte of zero. -/
theorem ofBits_zero_f8 : Ideal.ofBits .fp8e4m3 0#8 = 0 := by
  simp [Ideal.ofBits, Ideal.e4m3fn]

/-- The maxima row holds each column's maximum. -/
theorem tM_apply (X : FVec Ideal ⟨2, ![n, 128]⟩ .f32) (l : Fin 128) :
    tM h X (ix2 0 l) = cM (fun κ => X (ix2 κ l)) := by
  unfold tM cM
  pointwise
  rw [ofBits_ninf_f32]

/-- The exponentials are each column's. -/
theorem tE_apply (X : FVec Ideal ⟨2, ![n, 128]⟩ .f32) (κ : Fin n) (l : Fin 128) :
    tE h X (ix2 κ l) = cE (fun κ => X (ix2 κ l)) κ := by
  unfold tE cE
  pointwise
  rw [tM_apply]; rfl

/-- The sums row holds each column's sum. -/
theorem tL_apply (X : FVec Ideal ⟨2, ![n, 128]⟩ .f32) (l : Fin 128) :
    tL h X (ix2 0 l) = cL (fun κ => X (ix2 κ l)) := by
  unfold tL cL
  pointwise
  exact Finset.sum_congr rfl fun κ _ => tE_apply h X κ l

/-- The log-sum-exp row holds each column's. -/
theorem tLse_apply (X : FVec Ideal ⟨2, ![n, 128]⟩ .f32) (l : Fin 128) :
    tLse h X (ix2 0 l) = cLse (fun κ => X (ix2 κ l)) := by
  unfold tLse cLse
  pointwise
  rw [tM_apply, tL_apply]; rfl

/-- The transposed probabilities are each column's weights. -/
theorem tPT_apply (X : FVec Ideal ⟨2, ![n, 128]⟩ .f32) (κ : Fin n) (l : Fin 128) :
    tPT h X (ix2 l κ) = cP (fun κ => X (ix2 κ l)) κ := by
  unfold tPT cP
  rw [transpose_apply (k := ix2 κ l)]
  · pointwise
    rw [tE_apply, tL_apply]
  · intro a
    match a with
    | ⟨0, _⟩ => rfl
    | ⟨1, _⟩ => rfl

/-- The output piece holds, at the first head's columns, the weighted sum of its values, -/
theorem tO_apply_left (X : FVec Ideal ⟨2, ![n, 128]⟩ .f32) (va vb : FVec Ideal ⟨2, ![n, 128]⟩ .fp8e4m3) (sa sb : EReal)
    (r : Fin 64) (d : Fin 256) (hd : d.val < 128) :
    tO h X va vb sa sb (ix3 0 r d)
      = (∑ κ : Fin n, cP (fun κ => X (ix2 κ ⟨r.val, by omega⟩)) κ * va (ix2 κ ⟨d.val, hd⟩)) * sa := by
  unfold tO
  pointwise
  rw [dif_pos hd]
  refine congrArg (· * sa) ?_
  refine (Ideal.matmul_plain_apply (φ₁ := .bf16) (φ₂ := .fp8e4m3) none _ _ _ r ⟨d.val, hd⟩).trans ?_
  rw [show constant (F := Ideal) S64x128 .f32 0#32 (ValueIdx.ix2 r ⟨d.val, hd⟩) = 0 from by pointwise, zero_add]
  refine Finset.sum_congr rfl fun κ _ => congrArg₂ (· * ·) ?_ rfl
  rw [← tPT_apply h]
  refine extractStridedSlice_apply _ _ _ _ _ fun a => ?_
  match a with
  | ⟨0, _⟩ => exact (Nat.zero_add _).symm
  | ⟨1, _⟩ => exact (Nat.zero_add _).symm

/-- and at the second head's columns its. -/
theorem tO_apply_right (X : FVec Ideal ⟨2, ![n, 128]⟩ .f32) (va vb : FVec Ideal ⟨2, ![n, 128]⟩ .fp8e4m3) (sa sb : EReal)
    (r : Fin 64) (d : Fin 256) (hd : ¬ d.val < 128) :
    tO h X va vb sa sb (ix3 0 r d)
      = (∑ κ : Fin n, cP (fun κ => X (ix2 κ ⟨64 + r.val, by omega⟩)) κ * vb (ix2 κ ⟨d.val - 128, by omega⟩)) * sb := by
  unfold tO
  pointwise
  rw [dif_neg hd]
  refine congrArg (· * sb) ?_
  refine (Ideal.matmul_plain_apply (φ₁ := .bf16) (φ₂ := .fp8e4m3) none _ _ _ r ⟨d.val - 128, by omega⟩).trans ?_
  rw [show constant (F := Ideal) S64x128 .f32 0#32 (ValueIdx.ix2 r ⟨d.val - 128, by omega⟩) = 0 from by pointwise, zero_add]
  refine Finset.sum_congr rfl fun κ _ => congrArg₂ (· * ·) ?_ rfl
  rw [← tPT_apply h]
  refine extractStridedSlice_apply _ _ _ _ _ fun a => ?_
  match a with
  | ⟨0, _⟩ => rfl
  | ⟨1, _⟩ => exact (Nat.zero_add _).symm

/-- The first head's log-sum-exp piece, at a query. -/
theorem tLa_apply (X : FVec Ideal ⟨2, ![n, 128]⟩ .f32) (r : Fin 64) :
    tLa h X (ix3 0 0 r) = cLse (fun κ => X (ix2 κ ⟨r.val, by omega⟩)) := by
  rw [← tLse_apply h]
  unfold tLa
  pointwise

/-- The second head's. -/
theorem tLb_apply (X : FVec Ideal ⟨2, ![n, 128]⟩ .f32) (r : Fin 64) :
    tLb h X (ix3 0 0 r) = cLse (fun κ => X (ix2 κ ⟨64 + r.val, by omega⟩)) := by
  rw [← tLse_apply h]
  unfold tLb
  pointwise

/-- The block-diagonal queries, read. -/
theorem tRhs_apply (qa qb : FVec Ideal S64x128 .fp8e4m3) (l : Fin 128) (j : Fin 256) : tRhs qa qb (ix2 l j)
    = if h : l.val < 64 then if h1 : j.val < 128 then qa (ix2 ⟨l, h⟩ ⟨j, h1⟩) else 0
      else if h1 : j.val < 128 then 0 else qb (ix2 ⟨l - 64, by omega⟩ ⟨j - 128, by omega⟩) := by
  unfold tRhs
  pointwise
  rw [ofBits_zero_f8]

/-- A biased score: the head's own product, scaled, plus the bias. -/
theorem tX_apply (keys : FVec Ideal ⟨2, ![n, 256]⟩ .fp8e4m3) (qa qb : FVec Ideal S64x128 .fp8e4m3) (cvec : FVec Ideal S1x128 .f32)
    (bias : FVec Ideal ⟨2, ![n, 128]⟩ .f32) (κ : Fin n) (l : Fin 128) :
    tX h keys (tRhs qa qb) cvec bias (ix2 κ l)
      = (if hl : l.val < 64 then ∑ d : Fin 128, keys (ix2 κ ⟨d, by omega⟩) * qa (ix2 ⟨l, hl⟩ d)
         else ∑ d : Fin 128, keys (ix2 κ ⟨128 + d, by omega⟩) * qb (ix2 ⟨l - 64, by omega⟩ d)) * cvec (ix2 0 l) + bias (ix2 κ l) := by
  unfold tX
  rw [addf_apply, mulf_apply]
  refine congrArg (· + _) (congrArg₂ (· * ·) ?_ ?_)
  · refine (Ideal.matmul_transposedRhs_apply (φ₁ := .fp8e4m3) (φ₂ := .fp8e4m3) none _ _ _ κ l).trans ?_
    rw [show constant (F := Ideal) ⟨2, ![n, 128]⟩ .f32 0#32 (ValueIdx.ix2 κ l) = 0 from by pointwise, zero_add]
    refine (Fin.sum_univ_add (a := 128) (b := 128) _).trans ?_
    have e : ∀ j : Fin 256, tRhs qa qb (ValueIdx.ix2 l j) = _ := fun j => tRhs_apply qa qb l j
    simp only [e]
    by_cases hl : l.val < 64
    · simp only [hl, dif_pos]
      refine (congrArg₂ (· + ·) (Finset.sum_congr rfl fun d _ => ?_) (Finset.sum_eq_zero fun d _ => ?_)).trans (add_zero _)
      · rw [dif_pos (by simp)]; rfl
      · rw [dif_neg (by simp), mul_zero]
    · simp only [hl, dif_neg, not_false_eq_true]
      refine (congrArg₂ (· + ·) (Finset.sum_eq_zero fun d _ => ?_) (Finset.sum_congr rfl fun d _ => ?_)).trans (zero_add _)
      · rw [dif_pos (by simp), mul_zero]
      · rw [dif_neg (by simp)]
        congr 2
        apply congrArg
        exact Fin.ext (by simp)
  · pointwise

end Cert.KernelIdeal.Hand

end
-- ==== Proof.KernelIdeal.Spec.lean ====
/- What one grid point's tiles hold, over the codes, the scales and the bias table: the readings of the loads, and each stored piece
   as a column's weights over its keys. -/
module

public import proofs.«01_k».proof.Proof.KernelIdeal.Pieces
public import proofs.«01_k».proof.Proof.KernelIdeal.Bias
public import proofs.«01_k».proof.Proof.KernelIdeal.Tile
public import Idealize.ShloMosaic.Lib.BitcastPair

@[expose] public section

set_option maxRecDepth 16384

noncomputable section

namespace Cert.KernelIdeal.Hand

open Idealize.ShloMosaic Cert.KernelIdeal
open scoped BigOperators

/-! ## Loads -/

/-- Words that hold four bytes each, read as bytes. -/
theorem unpack {w n : ℕ} (W : (⟨2, ![w, 128]⟩ : Shape).Idx → BitVec 32) (hb : (⟨2, ![w, 128]⟩ : Shape).Bitcasts 32 ⟨2, ![n, 128]⟩ 8)
    (B : ℕ → BitVec 8) (l : Fin 128) (hW : ∀ a : Fin w, W (ix2 a l) = word4 fun k => B (4 * a.val + k)) (κ : Fin n) (hκ : κ.val / 4 < w) :
    bitcast ⟨2, ![n, 128]⟩ 8 W hb (ix2 κ l) = B κ.val := by
  refine BitVec.eq_of_getLsbD_eq fun q hq => ?_
  rw [bitcast_getLsbD W hb _ q hq (by decide)]
  have hr : Shape.row (s := ⟨2, ![n, 128]⟩) (ix2 κ l) = κ.val := rfl
  have e1 : (Shape.row (s := ⟨2, ![n, 128]⟩) (ix2 κ l) * 8 + q) / 32 = κ.val / 4 := by rw [hr]; omega
  have e2 : (Shape.row (s := ⟨2, ![n, 128]⟩) (ix2 κ l) * 8 + q) % 32 = 8 * (κ.val % 4) + q := by rw [hr]; omega
  rw [e2]
  have e3 : ∀ hp, hb.srcIdx (ix2 κ l) ((Shape.row (s := ⟨2, ![n, 128]⟩) (ix2 κ l) * 8 + q) / 32) hp = ix2 ⟨κ.val / 4, hκ⟩ l := by
    intro hp
    funext c
    match c with
    | ⟨0, _⟩ => exact Fin.ext ((hb.srcIdx_row _ _ _ ⟨0, Nat.zero_lt_two⟩ rfl).trans e1)
    | ⟨1, _⟩ => exact Fin.ext (hb.srcIdx_other _ _ _ ⟨1, Nat.one_lt_two⟩ (by show ¬ 1 + 2 = 2; omega))
  rw [e3, hW, word4_getLsbD _ _ (by omega)]
  have e4 : 4 * (κ.val / 4) + (8 * (κ.val % 4) + q) / 8 = κ.val := by omega
  have e5 : (8 * (κ.val % 4) + q) % 8 = q := by omega
  show (B (4 * (κ.val / 4) + (8 * (κ.val % 4) + q) / 8)).getLsbD _ = _
  rw [e4, e5]

theorem cast4 {w : ℕ} (X : (⟨4, ![1, 1, w, 128]⟩ : Shape).Idx → BitVec 32) (h) (a : Fin w) (l : Fin 128) :
    shapeCast ⟨2, ![w, 128]⟩ X h (ix2 a l) = X (ix4 0 0 a l) := by
  refine shapeCast_apply _ _ _ _ ?_
  rw [Shape.rowMajor_val_four, Shape.rowMajor_val_two]
  show ((0 * 1 + 0) * w + a.val) * 128 + l.val = a.val * 128 + l.val
  omega

/-- The decoded code of a byte. -/
def dec (b : BitVec 8) : EReal := Ideal.ofBits .fp8e4m3 b

/-- A load of code rows. -/
theorem ld11 {w n : ℕ} (v0 v1 v2 : S1x384x1x8x128.Idx → BitVec 8) (V : View sig .tc .vmem S3x8x96x128 .i32) (L : List (View.Piece (Elt Ideal) S3x8x96x128 .i32))
    (hL : ∀ y, V.read (Elt Ideal) (V.writes (Elt Ideal) V.junk L) y = G11 v0 v1 v2 y)
    (t hl r0 : ℕ) (off : Fin 4 → ℕ) (ho : off = ![t, hl, r0, 0]) (inb) (hc) (hb) (κ : Fin n) (l : Fin 128) (hκ : κ.val / 4 < w) (B : S1x384x1x8x128.Idx → BitVec 8)
    (hB : B = if t = 0 then v0 else if t = 1 then v1 else v2) :
    bitcastToFloat (F := Ideal) .fp8e4m3 (bitcast ⟨2, ![n, 128]⟩ 8 (shapeCast ⟨2, ![w, 128]⟩
      (V.readCov (Val := Elt Ideal) L (Rect.unit (s := S3x8x96x128) off ![1, 1, w, 128] inb).toLoadRect) hc) hb) (ix2 κ l)
      = dec (byteAt B (4 * r0 + κ.val) hl l.val) := by
  subst hB
  show dec (bitcast ⟨2, ![n, 128]⟩ 8 _ hb (ix2 κ l)) = _
  rw [unpack (w := w) _ hb (fun k => byteAt (if t = 0 then v0 else if t = 1 then v1 else v2) (4 * r0 + k) hl l.val) l ?_ κ hκ]
  intro a
  refine (cast4 _ hc a l).trans ((hL _).trans ?_)
  unfold G11
  have e0 : (((Rect.unit (s := S3x8x96x128) off ![1, 1, w, 128] inb).emb (ix4 0 0 a l)) 0).val = t := by
    show off 0 + 1 * 0 = t; rw [ho]; rfl
  have e1 : (((Rect.unit (s := S3x8x96x128) off ![1, 1, w, 128] inb).emb (ix4 0 0 a l)) 1).val = hl := by
    show off 1 + 1 * 0 = hl; rw [ho]; rfl
  have e2 : (((Rect.unit (s := S3x8x96x128) off ![1, 1, w, 128] inb).emb (ix4 0 0 a l)) 2).val = r0 + a.val := by
    show off 2 + 1 * a.val = _; rw [ho, Nat.one_mul]; rfl
  have e3 : (((Rect.unit (s := S3x8x96x128) off ![1, 1, w, 128] inb).emb (ix4 0 0 a l)) 3).val = l.val := by
    show off 3 + 1 * l.val = _; rw [ho]; show 0 + 1 * l.val = _; omega
  have key : ∀ y : S3x8x96x128.Idx, (y 0).val = t → (y 1).val = hl → (y 2).val = r0 + a.val → (y 3).val = l.val →
      (word4 fun k => byteAt (if (y 0).val = 0 then v0 else if (y 0).val = 1 then v1 else v2) (4 * (y 2).val + k) (y 1).val (y 3).val)
        = word4 fun k => byteAt (if t = 0 then v0 else if t = 1 then v1 else v2) (4 * r0 + (4 * a.val + k)) hl l.val := by
    intro y h0 h1 h2 h3
    rw [h0, h1, h2, h3]
    congr 1; funext k; congr 1; omega
  exact key _ e0 e1 e2 e3

/-- A load of cross rows. -/
theorem ld12 {w n : ℕ} (g : ℕ) (v1 v2 : S1x384x1x8x128.Idx → BitVec 8) (V : View sig .tc .vmem S2x8x8x128 .i32) (L : List (View.Piece (Elt Ideal) S2x8x8x128 .i32))
    (hL : ∀ y, V.read (Elt Ideal) (V.writes (Elt Ideal) V.junk L) y = G12 g v1 v2 y)
    (t hl : ℕ) (off : Fin 4 → ℕ) (ho : off = ![t, hl, 0, 0]) (inb) (hc) (hb) (κ : Fin n) (l : Fin 128) (hκ : κ.val / 4 < w) (B : S1x384x1x8x128.Idx → BitVec 8)
    (hB : B = if t = 0 then v1 else v2) :
    bitcastToFloat (F := Ideal) .fp8e4m3 (bitcast ⟨2, ![n, 128]⟩ 8 (shapeCast ⟨2, ![w, 128]⟩
      (V.readCov (Val := Elt Ideal) L (Rect.unit (s := S2x8x8x128) off ![1, 1, w, 128] inb).toLoadRect) hc) hb) (ix2 κ l)
      = dec (byteAt B (6 * κ.val + (8 * g + hl) % 6) hl l.val) := by
  subst hB
  show dec (bitcast ⟨2, ![n, 128]⟩ 8 _ hb (ix2 κ l)) = _
  rw [unpack (w := w) _ hb (fun k => byteAt (if t = 0 then v1 else v2) (6 * k + (8 * g + hl) % 6) hl l.val) l ?_ κ hκ]
  intro a
  refine (cast4 _ hc a l).trans ((hL _).trans ?_)
  unfold G12
  have e0 : (((Rect.unit (s := S2x8x8x128) off ![1, 1, w, 128] inb).emb (ix4 0 0 a l)) 0).val = t := by
    show off 0 + 1 * 0 = t; rw [ho]; rfl
  have e1 : (((Rect.unit (s := S2x8x8x128) off ![1, 1, w, 128] inb).emb (ix4 0 0 a l)) 1).val = hl := by
    show off 1 + 1 * 0 = hl; rw [ho]; rfl
  have e2 : (((Rect.unit (s := S2x8x8x128) off ![1, 1, w, 128] inb).emb (ix4 0 0 a l)) 2).val = a.val := by
    show off 2 + 1 * a.val = _; rw [ho, Nat.one_mul]; exact Nat.zero_add _
  have e3 : (((Rect.unit (s := S2x8x8x128) off ![1, 1, w, 128] inb).emb (ix4 0 0 a l)) 3).val = l.val := by
    show off 3 + 1 * l.val = _; rw [ho]; show 0 + 1 * l.val = _; omega
  have key : ∀ y : S2x8x8x128.Idx, (y 0).val = t → (y 1).val = hl → (y 2).val = a.val → (y 3).val = l.val →
      (word4 fun k => byteAt (if (y 0).val = 0 then v1 else v2) (6 * (4 * (y 2).val + k) + (8 * g + (y 1).val) % 6) (y 1).val (y 3).val)
        = word4 fun k => byteAt (if t = 0 then v1 else v2) (6 * (4 * a.val + k) + (8 * g + hl) % 6) hl l.val := by
    intro y h0 h1 h2 h3
    rw [h0, h1, h2, h3]
  exact key _ e0 e1 e2 e3

/-- A load of bias rows. -/
theorem ldB {n : ℕ} (V : View sig .tc .vmem S6x480x128 .f32) (f : BufTy.Contents (Elt Ideal) V.ty) (hf : ∀ y, V.read (Elt Ideal) f y = G10 y)
    (k r0 : ℕ) (hk : k < 6) (off : Fin 3 → ℕ) (ho : off = ![k, r0, 0]) (inb) (hc) (κ : Fin n) (l : Fin 128) (hr : r0 + κ.val < 480) :
    shapeCast ⟨2, ![n, 128]⟩ (V.readAt (Elt Ideal) (Rect.unit (s := S6x480x128) off ![1, n, 128] inb).toLoadRect f) hc (ix2 κ l)
      = G10 (ix3 ⟨k, hk⟩ ⟨r0 + κ.val, hr⟩ l) := by
  have e : shapeCast ⟨2, ![n, 128]⟩ (V.readAt (Elt Ideal) (Rect.unit (s := S6x480x128) off ![1, n, 128] inb).toLoadRect f) hc (ix2 κ l)
      = V.readAt (Elt Ideal) (Rect.unit (s := S6x480x128) off ![1, n, 128] inb).toLoadRect f (ix3 0 κ l) := by
    refine shapeCast_apply _ _ _ _ ?_
    rw [Shape.rowMajor_val_three, Shape.rowMajor_val_two]
    show (0 * n + κ.val) * 128 + l.val = κ.val * 128 + l.val
    omega
  refine e.trans ((hf _).trans ?_)
  congr 1
  funext a
  match a with
  | ⟨0, _⟩ => refine Fin.ext ?_; show off 0 + 1 * 0 = _; rw [ho]; rfl
  | ⟨1, _⟩ => refine Fin.ext ?_; show off 1 + 1 * κ.val = r0 + κ.val; rw [ho, Nat.one_mul]; rfl
  | ⟨2, _⟩ => refine Fin.ext ?_; show off 2 + 1 * l.val = l.val; rw [ho]; show 0 + 1 * l.val = _; omega

/-! ## The columns -/

/-- The key's sequence row at slot `κ` of a column of segment `seg` and head `h`. -/
def keyOf (seg h κ : ℕ) : ℕ := if seg = 0 then κ else if κ < 32 then 6 * κ + h % 6 else 192 + (κ - 32)
/-- Its bias. -/
def biasOf (seg blk h r κ : ℕ) : EReal :=
  if seg = 0 then oVal (h % 12) (64 * blk + r) κ
  else if κ < 32 then xVal (h % 12) (64 * blk + r) κ else oVal (h % 12) (64 * blk + r) (κ - 32)
/-- A column's keys. -/
def nOf (seg blk : ℕ) : ℕ := 64 * (blk + 1) + 32 * seg

/-- A column's scores. -/
def colX (K Q : ℕ → ℕ → ℕ → EReal) (cs : ℕ → EReal) (g seg blk hl r n : ℕ) : Fin n → EReal := fun κ =>
  (∑ d : Fin 128, K (keyOf seg (8 * g + hl) κ.val) hl d.val * Q (192 * seg + 64 * blk + r) hl d.val) * cs hl + biasOf seg blk (8 * g + hl) r κ.val

/-- An output element. -/
def outOf (K Q V : ℕ → ℕ → ℕ → EReal) (cs vs : ℕ → EReal) (g s hl d : ℕ) : EReal :=
  (∑ κ : Fin (nOf (s / 192) (s % 192 / 64)), cP (colX K Q cs g (s / 192) (s % 192 / 64) hl (s % 64) _) κ * V (keyOf (s / 192) (8 * g + hl) κ.val) hl d) * vs hl
/-- A log-sum-exp element. -/
def lseOf (K Q : ℕ → ℕ → ℕ → EReal) (cs : ℕ → EReal) (g s hl : ℕ) : EReal :=
  cLse (colX K Q cs g (s / 192) (s % 192 / 64) hl (s % 64) (nOf (s / 192) (s % 192 / 64)))

section Tiles
variable (K Q V : ℕ → ℕ → ℕ → EReal) (cs vs : ℕ → EReal) (g seg blk p n : ℕ)

/-- What a tile's operands are. -/
structure TileIn (h : TileOk n) (keys : FVec Ideal ⟨2, ![n, 256]⟩ .fp8e4m3) (qa qb : FVec Ideal S64x128 .fp8e4m3) (cvec : FVec Ideal S1x128 .f32)
    (bias : FVec Ideal ⟨2, ![n, 128]⟩ .f32) : Prop where
  hn : n = nOf seg blk
  hseg : seg < 2
  hblk : blk < 3
  hka : ∀ (κ : Fin n) (d : Fin 128), keys (ix2 κ ⟨d.val, by omega⟩) = K (keyOf seg (8 * g + 2 * p) κ.val) (2 * p) d.val
  hkb : ∀ (κ : Fin n) (d : Fin 128), keys (ix2 κ ⟨128 + d.val, by omega⟩) = K (keyOf seg (8 * g + (2 * p + 1)) κ.val) (2 * p + 1) d.val
  hqa : ∀ (r : Fin 64) (d : Fin 128), qa (ix2 r d) = Q (192 * seg + 64 * blk + r.val) (2 * p) d.val
  hqb : ∀ (r : Fin 64) (d : Fin 128), qb (ix2 r d) = Q (192 * seg + 64 * blk + r.val) (2 * p + 1) d.val
  hca : ∀ l : Fin 128, l.val < 64 → cvec (ix2 0 l) = cs (2 * p)
  hcb : ∀ l : Fin 128, ¬ l.val < 64 → cvec (ix2 0 l) = cs (2 * p + 1)
  hbi : ∀ (κ : Fin n) (l : Fin 128), bias (ix2 κ l) = biasOf seg blk (8 * g + (2 * p + l.val / 64)) (l.val % 64) κ.val

variable {K Q V cs vs g seg blk p n}

theorem TileIn.col {h : TileOk n} {keys qa qb cvec bias} (T : TileIn K Q cs g seg blk p n h keys qa qb cvec bias) (l : Fin 128) :
    (fun κ => tX h keys (tRhs qa qb) cvec bias (ix2 κ l)) = colX K Q cs g seg blk (2 * p + l.val / 64) (l.val % 64) n := by
  funext κ
  rw [tX_apply, T.hbi]
  unfold colX
  have hl := l.isLt
  by_cases h1 : l.val < 64
  · have e1 : l.val / 64 = 0 := by omega
    have e2 : l.val % 64 = l.val := by omega
    rw [dif_pos h1, T.hca l h1, e1, e2]
    congr 2
    exact Finset.sum_congr rfl fun d _ => by rw [T.hka, T.hqa]; rfl
  · have e1 : l.val / 64 = 1 := by omega
    have e2 : l.val % 64 = l.val - 64 := by omega
    rw [dif_neg h1, T.hcb l h1, e1, e2]
    congr 2
    exact Finset.sum_congr rfl fun d _ => by rw [T.hkb, T.hqb]

theorem exists_ix3o (x : S1x64x256.Idx) : ∃ (s : Fin 64) (l : Fin 256), x = ix3 0 s l :=
  ⟨x 1, x 2, by funext a; match a with
    | ⟨0, _⟩ => exact Fin.ext (Nat.lt_one_iff.1 (x 0).isLt)
    | ⟨1, _⟩ => rfl
    | ⟨2, _⟩ => rfl⟩
theorem exists_ix3l (x : S1x1x64.Idx) : ∃ (s : Fin 64), x = ix3 0 0 s :=
  ⟨x 2, by funext a; match a with
    | ⟨0, _⟩ => exact Fin.ext (Nat.lt_one_iff.1 (x 0).isLt)
    | ⟨1, _⟩ => exact Fin.ext (Nat.lt_one_iff.1 (x 1).isLt)
    | ⟨2, _⟩ => rfl⟩

theorem out_at (seg blk r s hl d : ℕ) (hseg : seg < 2) (hblk : blk < 3) (hr : r < 64) (hs : s = 192 * seg + 64 * blk + r) :
    outOf K Q V cs vs g s hl d = (∑ κ : Fin (nOf seg blk), cP (colX K Q cs g seg blk hl r _) κ * V (keyOf seg (8 * g + hl) κ.val) hl d) * vs hl := by
  unfold outOf
  have e1 : s / 192 = seg := by omega
  have e2 : s % 192 / 64 = blk := by omega
  have e3 : s % 64 = r := by omega
  rw [e1, e2, e3]
theorem lse_at (seg blk r s hl : ℕ) (hseg : seg < 2) (hblk : blk < 3) (hr : r < 64) (hs : s = 192 * seg + 64 * blk + r) :
    lseOf K Q cs g s hl = cLse (colX K Q cs g seg blk hl r (nOf seg blk)) := by
  unfold lseOf
  have e1 : s / 192 = seg := by omega
  have e2 : s % 192 / 64 = blk := by omega
  have e3 : s % 64 = r := by omega
  rw [e1, e2, e3]

/-- A stored output tile. -/
theorem TileIn.out {h : TileOk n} {keys qa qb cvec bias} (T : TileIn K Q cs g seg blk p n h keys qa qb cvec bias)
    (va vb : FVec Ideal ⟨2, ![n, 128]⟩ .fp8e4m3) (sa sb : EReal)
    (hva : ∀ (κ : Fin n) (d : Fin 128), va (ix2 κ d) = V (keyOf seg (8 * g + 2 * p) κ.val) (2 * p) d.val)
    (hvb : ∀ (κ : Fin n) (d : Fin 128), vb (ix2 κ d) = V (keyOf seg (8 * g + (2 * p + 1)) κ.val) (2 * p + 1) d.val)
    (hsa : sa = vs (2 * p)) (hsb : sb = vs (2 * p + 1))
    (off : Fin 3 → ℕ) (ho : off = ![0, 192 * seg + 64 * blk, 256 * p]) (inb) (x : S1x64x256.Idx) :
    tO h (tX h keys (tRhs qa qb) cvec bias) va vb sa sb x
      = outOf K Q V cs vs g (((Rect.unit (s := S1x384x1024) off S1x64x256.size inb).emb x) 1).val
          ((((Rect.unit (s := S1x384x1024) off S1x64x256.size inb).emb x) 2).val / 128) ((((Rect.unit (s := S1x384x1024) off S1x64x256.size inb).emb x) 2).val % 128) := by
  obtain ⟨r, c, rfl⟩ := exists_ix3o x
  have e1 : (((Rect.unit (s := S1x384x1024) off S1x64x256.size inb).emb (ix3 0 r c)) 1).val = 192 * seg + 64 * blk + r.val := by
    show off 1 + 1 * r.val = _; rw [ho, Nat.one_mul]; rfl
  have e2 : (((Rect.unit (s := S1x384x1024) off S1x64x256.size inb).emb (ix3 0 r c)) 2).val = 256 * p + c.val := by
    show off 2 + 1 * c.val = _; rw [ho, Nat.one_mul]; rfl
  rw [e1, e2, out_at seg blk r.val _ _ _ T.hseg T.hblk r.isLt rfl]
  have hc := c.isLt
  have hr := r.isLt
  obtain rfl := T.hn
  by_cases hd : c.val < 128
  · rw [tO_apply_left h _ va vb sa sb r c hd, T.col ⟨r.val, by omega⟩, hsa]
    have q1 : (256 * p + c.val) / 128 = 2 * p := by omega
    have q2 : (256 * p + c.val) % 128 = c.val := by omega
    have q3 : r.val / 64 = 0 := by omega
    have q4 : r.val % 64 = r.val := by omega
    dsimp only
    rw [q1, q2, q3, q4]
    congr 1
    exact Finset.sum_congr rfl fun κ _ => by rw [hva]; rfl
  · rw [tO_apply_right h _ va vb sa sb r c hd, T.col ⟨64 + r.val, by omega⟩, hsb]
    have q1 : (256 * p + c.val) / 128 = 2 * p + 1 := by omega
    have q2 : (256 * p + c.val) % 128 = c.val - 128 := by omega
    have q3 : (64 + r.val) / 64 = 1 := by omega
    have q4 : (64 + r.val) % 64 = r.val := by omega
    dsimp only
    rw [q1, q2, q3, q4]
    congr 1
    exact Finset.sum_congr rfl fun κ _ => by rw [hvb]

/-- A stored log-sum-exp row of the first head, -/
theorem TileIn.lseA {h : TileOk n} {keys qa qb cvec bias} (T : TileIn K Q cs g seg blk p n h keys qa qb cvec bias)
    (off : Fin 3 → ℕ) (ho : off = ![g, 2 * p, 192 * seg + 64 * blk]) (inb) (x : S1x1x64.Idx) :
    tLa h (tX h keys (tRhs qa qb) cvec bias) x
      = lseOf K Q cs g (((Rect.unit (s := S7x8x384) off S1x1x64.size inb).emb x) 2).val (((Rect.unit (s := S7x8x384) off S1x1x64.size inb).emb x) 1).val := by
  obtain ⟨r, rfl⟩ := exists_ix3l x
  have e1 : (((Rect.unit (s := S7x8x384) off S1x1x64.size inb).emb (ix3 0 0 r)) 2).val = 192 * seg + 64 * blk + r.val := by
    show off 2 + 1 * r.val = _; rw [ho, Nat.one_mul]; rfl
  have e2 : (((Rect.unit (s := S7x8x384) off S1x1x64.size inb).emb (ix3 0 0 r)) 1).val = 2 * p := by
    show off 1 + 1 * 0 = _; rw [ho]; rfl
  have hr := r.isLt
  rw [e1, e2, lse_at seg blk r.val _ _ T.hseg T.hblk r.isLt rfl, tLa_apply, T.col ⟨r.val, by omega⟩]
  obtain rfl := T.hn
  have q3 : r.val / 64 = 0 := by omega
  have q4 : r.val % 64 = r.val := by omega
  dsimp only
  rw [q3, q4]; rfl

/-- and of the second. -/
theorem TileIn.lseB {h : TileOk n} {keys qa qb cvec bias} (T : TileIn K Q cs g seg blk p n h keys qa qb cvec bias)
    (off : Fin 3 → ℕ) (ho : off = ![g, 2 * p + 1, 192 * seg + 64 * blk]) (inb) (x : S1x1x64.Idx) :
    tLb h (tX h keys (tRhs qa qb) cvec bias) x
      = lseOf K Q cs g (((Rect.unit (s := S7x8x384) off S1x1x64.size inb).emb x) 2).val (((Rect.unit (s := S7x8x384) off S1x1x64.size inb).emb x) 1).val := by
  obtain ⟨r, rfl⟩ := exists_ix3l x
  have e1 : (((Rect.unit (s := S7x8x384) off S1x1x64.size inb).emb (ix3 0 0 r)) 2).val = 192 * seg + 64 * blk + r.val := by
    show off 2 + 1 * r.val = _; rw [ho, Nat.one_mul]; rfl
  have e2 : (((Rect.unit (s := S7x8x384) off S1x1x64.size inb).emb (ix3 0 0 r)) 1).val = 2 * p + 1 := by
    show off 1 + 1 * 0 = _; rw [ho]; rfl
  have hr := r.isLt
  rw [e1, e2, lse_at seg blk r.val _ _ T.hseg T.hblk r.isLt rfl, tLb_apply, T.col ⟨64 + r.val, by omega⟩]
  obtain rfl := T.hn
  have q3 : (64 + r.val) / 64 = 1 := by omega
  have q4 : (64 + r.val) % 64 = r.val := by omega
  dsimp only
  rw [q3, q4]

end Tiles

end Cert.KernelIdeal.Hand

end
-- ==== Proof.KernelIdeal.Math.lean ====
module

public import proofs.«01_k».proof.Proof.KernelIdeal.Spec

@[expose] public section

/-! # The two softmaxes are one

Over the extended reals: a column of base-two scores, each with the base-two logarithm of its key's count added, against
three natural softmaxes combined by their log-sum-exps. -/

set_option maxHeartbeats 1000000

noncomputable section

namespace Cert.KernelIdeal.Hand

open Idealize.ShloMosaic

/-- The largest of finitely many elements below the top, one of them above the bottom, is a real. -/
theorem fold_real {ι : Type} [Fintype ι] (f : ι → EReal) (ht : ∀ i, f i ≠ ⊤) (hb : ∃ i, f i ≠ ⊥) :
    ∃ M : ℝ, Finset.univ.fold max ⊥ f = (M : EReal) := by
  obtain ⟨i, hi⟩ := hb
  have h1 : Finset.univ.fold max ⊥ f < ⊤ := (Finset.fold_max_lt ⊤).2 ⟨bot_lt_top, fun x _ => lt_top_iff_ne_top.2 (ht x)⟩
  have h2 : f i ≤ Finset.univ.fold max ⊥ f := (Finset.le_fold_max _).2 (.inr ⟨i, Finset.mem_univ _, le_rfl⟩)
  refine ⟨_, (EReal.coe_toReal h1.ne ?_).symm⟩
  exact fun h => hi (le_bot_iff.1 (h ▸ h2))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The base-two logarithm, the bottom at zero. -/
def lbr (w : ℝ) : EReal := if w = 0 then ⊥ else ((Real.log w * (Real.log 2)⁻¹ : ℝ) : EReal)
/-- The natural logarithm, the bottom at zero. -/
def llr (w : ℝ) : EReal := if w = 0 then ⊥ else ((Real.log w : ℝ) : EReal)

theorem log2_pos : 0 < Real.log 2 := Real.log_pos (by norm_num)

theorem exp2_lbr (w M : ℝ) (hw : 0 ≤ w) : Ideal.exp2 (lbr w - (M : EReal)) = ((w * Real.rpow 2 (-M) : ℝ) : EReal) := by
  unfold lbr
  split
  · next h => rw [EReal.bot_sub, Ideal.exp2_bot, h, zero_mul]; rfl
  · next h =>
    have hp : 0 < w := lt_of_le_of_ne hw (Ne.symm h)
    rw [← EReal.coe_sub, Ideal.exp2_coe]
    refine congrArg _ ?_
    show (2 : ℝ) ^ (_ : ℝ) = w * (2 : ℝ) ^ (-M)
    rw [sub_eq_add_neg, Real.rpow_add (by norm_num : (0 : ℝ) < 2)]
    congr 1
    rw [Real.rpow_def_of_pos (by norm_num : (0 : ℝ) < 2)]
    rw [show Real.log 2 * (Real.log w * (Real.log 2)⁻¹) = Real.log w by field_simp [log2_pos.ne'], Real.exp_log hp]

theorem exp_llr (w M : ℝ) (hw : 0 ≤ w) : Ideal.exp (llr w - (M : EReal)) = ((w * Real.exp (-M) : ℝ) : EReal) := by
  unfold llr
  split
  · next h => rw [EReal.bot_sub, Ideal.exp_bot, h, zero_mul]; rfl
  · next h =>
    have hp : 0 < w := lt_of_le_of_ne hw (Ne.symm h)
    rw [← EReal.coe_sub, Ideal.exp_coe]
    refine congrArg _ ?_
    rw [sub_eq_add_neg, Real.exp_add, Real.exp_log hp]

/-- A column whose scores are the base-two logarithms of the weights `w`. -/
theorem col_facts {n : ℕ} (x : Fin n → EReal) (w : Fin n → ℝ) (hx : ∀ κ, x κ = lbr (w κ)) (hw : ∀ κ, 0 ≤ w κ) (hpos : 0 < ∑ κ, w κ) :
    (∀ κ, cP x κ = ((w κ / ∑ κ, w κ : ℝ) : EReal)) ∧ cLse x = ((Real.log (∑ κ, w κ) : ℝ) : EReal) := by
  obtain ⟨κ0, -, h0⟩ := Finset.exists_ne_zero_of_sum_ne_zero hpos.ne'
  obtain ⟨M, hM⟩ : ∃ M : ℝ, cM x = (M : EReal) := fold_real x
    (fun i => by rw [hx]; unfold lbr; split; exacts [bot_ne_top, EReal.coe_ne_top _])
    ⟨κ0, by rw [hx]; unfold lbr; rw [if_neg h0]; exact EReal.coe_ne_bot _⟩
  have hE : ∀ κ, cE x κ = ((w κ * Real.rpow 2 (-M) : ℝ) : EReal) := fun κ => by
    unfold cE; rw [hM, hx, exp2_lbr _ _ (hw κ)]
  have hL : cL x = (((∑ κ, w κ) * Real.rpow 2 (-M) : ℝ) : EReal) := by
    unfold cL; rw [Finset.sum_mul, coe_sum]; exact Finset.sum_congr rfl fun κ _ => hE κ
  have h2 : 0 < Real.rpow 2 (-M) := Real.rpow_pos_of_pos (by norm_num) _
  have hp : 0 < (∑ κ, w κ) * Real.rpow 2 (-M) := mul_pos hpos h2
  constructor
  · intro κ
    unfold cP
    rw [hE, hL, Ideal.div_coe hp.ne', one_mul, ← EReal.coe_mul]
    refine congrArg _ ?_
    field_simp [hpos.ne', h2.ne']
  · unfold cLse
    rw [hL, hM, Ideal.log_coe, if_neg (not_le.2 hp), ← EReal.coe_mul, ← EReal.coe_add, ← EReal.coe_mul]
    refine congrArg _ ?_
    have : Real.log (Real.rpow 2 (-M)) = -M * Real.log 2 := Real.log_rpow (by norm_num) _
    rw [Real.log_mul hpos.ne' h2.ne', this]
    field_simp [log2_pos.ne']
    ring

section Pattern
variable (σ : Fin 384 → ℝ) (vis : Fin 384 → Prop) [DecidablePred vis] (ch : Prop) [Decidable ch]

/-- One pattern's masked scores, -/
def rS (j : Fin 384) : EReal := if vis j then (σ j : EReal) else ⊥
/-- their largest, -/
def rM : EReal := if ch then Finset.univ.fold max ⊥ (rS σ vis) else 0
/-- the sum of the exponentials, -/
def rL : EReal := if ch then ∑ j, Ideal.exp (rS σ vis j - rM σ vis ch) else 1
/-- the weights -/
def rP (j : Fin 384) : EReal := Ideal.div (Ideal.exp (rS σ vis j - rM σ vis ch)) (rL σ vis ch)
/-- and the log-sum-exp. -/
def rLse : EReal := if ch then rM σ vis ch + Ideal.log (rL σ vis ch) else ⊥

/-- A key's weight in a pattern. -/
def rA (j : Fin 384) : ℝ := if vis j then Real.exp (σ j) else 0

theorem rA_nonneg (j : Fin 384) : 0 ≤ rA σ vis j := by unfold rA; split; exacts [(Real.exp_pos _).le, le_rfl]

theorem rS_llr (j : Fin 384) : rS σ vis j = llr (rA σ vis j) := by
  unfold rS llr rA
  by_cases h : vis j
  · rw [if_pos h, if_pos h, if_neg (Real.exp_pos _).ne', Real.log_exp]
  · rw [if_neg h, if_neg h, if_pos rfl]

theorem pattern_facts (hv : ∀ j, vis j → ch) (hc : ch → ∃ j, vis j) :
    (∀ j, rP σ vis ch j = ((rA σ vis j / ∑ j, rA σ vis j : ℝ) : EReal)) ∧ rLse σ vis ch = llr (∑ j, rA σ vis j) := by
  by_cases h : ch
  · obtain ⟨j0, hj0⟩ := hc h
    obtain ⟨M, hM⟩ : ∃ M : ℝ, rM σ vis ch = (M : EReal) := by
      unfold rM; rw [if_pos h]
      exact fold_real _ (fun j => by unfold rS; split; exacts [EReal.coe_ne_top _, bot_ne_top]) ⟨j0, by unfold rS; rw [if_pos hj0]; exact EReal.coe_ne_bot _⟩
    have hE : ∀ j, Ideal.exp (rS σ vis j - rM σ vis ch) = ((rA σ vis j * Real.exp (-M) : ℝ) : EReal) := fun j => by
      rw [hM, rS_llr, exp_llr _ _ (rA_nonneg ..)]
    have hpos : 0 < ∑ j, rA σ vis j := Finset.sum_pos' (fun j _ => rA_nonneg ..) ⟨j0, Finset.mem_univ _, by unfold rA; rw [if_pos hj0]; exact Real.exp_pos _⟩
    have hL : rL σ vis ch = (((∑ j, rA σ vis j) * Real.exp (-M) : ℝ) : EReal) := by
      unfold rL; rw [if_pos h, Finset.sum_mul, coe_sum]; exact Finset.sum_congr rfl fun j _ => hE j
    have h2 := Real.exp_pos (-M)
    have hp := mul_pos hpos h2
    constructor
    · intro j
      unfold rP
      rw [hE, hL, Ideal.div_coe hp.ne', ← EReal.coe_mul]
      refine congrArg _ ?_
      field_simp [hpos.ne', h2.ne']
    · unfold rLse llr
      rw [if_pos h, if_neg hpos.ne', hL, hM, Ideal.log_coe, if_neg (not_le.2 hp), ← EReal.coe_add]
      refine congrArg _ ?_
      rw [Real.log_mul hpos.ne' h2.ne', Real.log_exp]; ring
  · have hA : ∀ j, rA σ vis j = 0 := fun j => by unfold rA; rw [if_neg fun hj => h (hv j hj)]
    have hs : ∑ j, rA σ vis j = 0 := Finset.sum_eq_zero fun j _ => hA j
    constructor
    · intro j
      unfold rP rL rM
      rw [if_neg h, if_neg h, hA, rS_llr, hA]
      unfold llr
      rw [if_pos rfl, EReal.bot_sub, Ideal.exp_bot, show (1 : EReal) = ((1 : ℝ) : EReal) from rfl, Ideal.div_coe one_ne_zero, zero_mul, zero_div]; rfl
    · unfold rLse llr; rw [if_neg h, if_pos hs]

end Pattern

/-- The patterns' combined log-sum-exp. -/
def rTop (l : Fin 3 → EReal) : EReal := Finset.univ.fold max ⊥ l
def rLL (l : Fin 3 → EReal) : EReal := rTop l + Ideal.log (∑ p, Ideal.exp (l p - rTop l))

theorem combine_facts (A : Fin 3 → ℝ) (l : Fin 3 → EReal) (hl : ∀ p, l p = llr (A p)) (hA : ∀ p, 0 ≤ A p) (hpos : 0 < ∑ p, A p) :
    rLL l = ((Real.log (∑ p, A p) : ℝ) : EReal) ∧ ∀ p, Ideal.exp (l p - rLL l) = ((A p / ∑ p, A p : ℝ) : EReal) := by
  obtain ⟨p0, -, h0⟩ := Finset.exists_ne_zero_of_sum_ne_zero hpos.ne'
  obtain ⟨M, hM⟩ : ∃ M : ℝ, rTop l = (M : EReal) := fold_real l
    (fun i => by rw [hl]; unfold llr; split; exacts [bot_ne_top, EReal.coe_ne_top _])
    ⟨p0, by rw [hl]; unfold llr; rw [if_neg h0]; exact EReal.coe_ne_bot _⟩
  have h2 := Real.exp_pos (-M)
  have hp := mul_pos hpos h2
  have hs : ∑ p, Ideal.exp (l p - rTop l) = (((∑ p, A p) * Real.exp (-M) : ℝ) : EReal) := by
    rw [Finset.sum_mul, coe_sum]; exact Finset.sum_congr rfl fun p _ => by rw [hM, hl, exp_llr _ _ (hA p)]
  have h1 : rLL l = ((Real.log (∑ p, A p) : ℝ) : EReal) := by
    unfold rLL
    rw [hs, hM, Ideal.log_coe, if_neg (not_le.2 hp), ← EReal.coe_add]
    refine congrArg _ ?_
    rw [Real.log_mul hpos.ne' h2.ne', Real.log_exp]; ring
  refine ⟨h1, fun p => ?_⟩
  rw [h1, hl, exp_llr _ _ (hA p), Real.exp_neg, Real.exp_log hpos, div_eq_mul_inv]

/-- A real factor moves out of a sum none of whose terms is the top. -/
theorem sum_mul_real {ι : Type} (s : Finset ι) (f : ι → EReal) (c : ℝ) (h : ∀ i ∈ s, f i ≠ ⊤) :
    (∑ i ∈ s, f i * (c : EReal)) = (∑ i ∈ s, f i) * (c : EReal) ∧ (∑ i ∈ s, f i) ≠ ⊤ := by
  classical
  induction s using Finset.induction_on with
  | empty => simp
  | insert a s ha ih =>
    obtain ⟨i1, i2⟩ := ih fun i hi => h i (Finset.mem_insert_of_mem hi)
    have ht := h a (Finset.mem_insert_self a s)
    rw [Finset.sum_insert ha, Finset.sum_insert ha, i1]
    generalize (∑ i ∈ s, f i) = y at i2 ⊢
    generalize f a = x at ht ⊢
    refine ⟨?_, (EReal.add_lt_top ht i2).ne⟩
    rcases lt_trichotomy c 0 with hc | hc | hc
    · induction x with
      | top => exact absurd rfl ht
      | bot =>
        rw [EReal.bot_add, EReal.bot_mul_coe_of_neg hc]
        induction y with
        | top => exact absurd rfl i2
        | bot => rw [EReal.bot_mul_coe_of_neg hc]; rfl
        | coe y => rw [← EReal.coe_mul]; rfl
      | coe x =>
        induction y with
        | top => exact absurd rfl i2
        | bot => rw [EReal.add_bot, EReal.bot_mul_coe_of_neg hc, ← EReal.coe_mul]; rfl
        | coe y => rw [← EReal.coe_mul, ← EReal.coe_mul, ← EReal.coe_add, ← EReal.coe_add, ← EReal.coe_mul, add_mul]
    · subst hc; simp
    · exact (EReal.right_distrib_of_nonneg_of_ne_top (by exact_mod_cast hc.le) (EReal.coe_ne_top _) _ _).symm

/-- Weights factor out of a column. -/
theorem mul_sum_nonneg {ι : Type} (s : Finset ι) (v : EReal) (a : ι → ℝ) (h : ∀ i, 0 ≤ a i) :
    ∑ i ∈ s, v * (a i : EReal) = v * ((∑ i ∈ s, a i : ℝ) : EReal) := by
  classical
  induction s using Finset.induction_on with
  | empty => simp
  | insert b s hb ih =>
    rw [Finset.sum_insert hb, Finset.sum_insert hb, ih, EReal.coe_add, EReal.left_distrib_of_nonneg]
    · exact_mod_cast h b
    · exact_mod_cast Finset.sum_nonneg fun i _ => h i

theorem mul_coe_ne_top (v : EReal) (hv : v ≠ ⊤) (a : ℝ) (ha : 0 ≤ a) : v * (a : EReal) ≠ ⊤ := by
  rcases ha.eq_or_lt with h | h
  · rw [← h]; simp
  · induction v with
    | top => exact absurd rfl hv
    | bot => rw [EReal.bot_mul_coe_of_pos h]; exact bot_ne_top
    | coe v => rw [← EReal.coe_mul]; exact EReal.coe_ne_top _

/-- The patterns' outputs, scaled and weighed, are one weighted sum. -/
theorem out_facts (V : Fin 384 → EReal) (hV : ∀ j, V j ≠ ⊤) (vs : ℝ) (P : Fin 3 → Fin 384 → ℝ) (w : Fin 3 → ℝ) (hP : ∀ p j, 0 ≤ P p j) (hw : ∀ p, 0 ≤ w p) :
    ∑ p, (∑ j, V j * (P p j : EReal)) * (vs : EReal) * (w p : EReal) = (∑ j, V j * ((∑ p, P p j * w p : ℝ) : EReal)) * (vs : EReal) := by
  have e1 : ∀ p, (∑ j, V j * (P p j : EReal)) * (vs : EReal) * (w p : EReal) = (∑ j, V j * ((P p j * w p : ℝ) : EReal)) * (vs : EReal) := fun p => by
    rw [mul_right_comm, ← (sum_mul_real _ (fun j => V j * (P p j : EReal)) (w p) fun j _ => mul_coe_ne_top _ (hV j) _ (hP p j)).1]
    congr 1
    exact Finset.sum_congr rfl fun j _ => by rw [mul_assoc, ← EReal.coe_mul]
  rw [Finset.sum_congr rfl fun p _ => e1 p, (sum_mul_real Finset.univ (fun p => ∑ j, V j * ((P p j * w p : ℝ) : EReal)) vs fun p _ => ?_).1]
  · congr 1
    rw [Finset.sum_comm]
    exact Finset.sum_congr rfl fun j _ => mul_sum_nonneg _ _ _ fun p => mul_nonneg (hP p j) (hw p)
  · have := (sum_mul_real Finset.univ (fun j => V j * ((P p j * w p : ℝ) : EReal)) 1 fun j _ => mul_coe_ne_top _ (hV j) _ (mul_nonneg (hP p j) (hw p))).2
    exact this

end Cert.KernelIdeal.Hand

end
-- ==== Proof.KernelIdeal.Count.lean ====
module

public import proofs.«01_k».proof.Proof.KernelIdeal.Math

@[expose] public section

/-! # How many patterns link a key to a query

The bias table holds the base-two logarithms of these counts, and a column's keys are the linked ones. -/

set_option maxHeartbeats 1000000

noncomputable section

namespace Cert.KernelIdeal.Hand

open Idealize.ShloMosaic

/-- The pattern of dilation `d` and segment length `w` links key `j` to query `s` of head `H`. -/
abbrev linked (d w H s j : ℕ) : Prop := s % d = H % d ∧ j % d = H % d ∧ j ≤ s ∧ s / w = j / w

/-- How many patterns do. -/
def nb (H s j : ℕ) : ℕ := (if linked 1 192 H s j then 1 else 0) + (if linked 6 384 H s j then 1 else 0) + (if linked 12 384 H s j then 1 else 0)

theorem lbr_one : lbr 1 = 0 := by unfold lbr; rw [if_neg one_ne_zero, Real.log_one, zero_mul]; rfl
theorem lbr_two : lbr 2 = 1 := by unfold lbr; rw [if_neg two_ne_zero, mul_inv_cancel₀ log2_pos.ne']; rfl
theorem lbr_three : lbr 3 = ((Real.log 3 * (Real.log 2)⁻¹ : ℝ) : EReal) := by unfold lbr; rw [if_neg three_ne_zero]
theorem lbr_zero : lbr 0 = ⊥ := if_pos rfl

theorem oVal_nb (H q kk s j : ℕ) (hq : q < 192) (hk : kk < 192) (m : ℕ) (hm : m < 2) (hs : s = 192 * m + q) (hj : j = 192 * m + kk) :
    oVal (H % 12) q kk = lbr (nb H s j : ℕ) := by
  unfold oVal
  split
  · split
    · rw [show nb H s j = 3 by unfold nb linked; split_ifs <;> omega]; exact lbr_three.symm
    · split
      · rw [show nb H s j = 2 by unfold nb linked; split_ifs <;> omega]; exact lbr_two.symm
      · rw [show nb H s j = 1 by unfold nb linked; split_ifs <;> omega]; rw [Nat.cast_one]; exact lbr_one.symm
  · rw [show nb H s j = 0 by unfold nb linked; split_ifs <;> omega]; rw [Nat.cast_zero]; exact lbr_zero.symm

theorem xVal_nb (H q κ s j : ℕ) (hq : q < 192) (hk : κ < 32) (hs : s = 192 + q) (hj : j = 6 * κ + H % 6) :
    xVal (H % 12) q κ = lbr (nb H s j : ℕ) := by
  unfold xVal
  split
  · rw [show nb H s j = 2 by unfold nb linked; split_ifs <;> omega]; exact lbr_two.symm
  · split
    · rw [show nb H s j = 1 by unfold nb linked; split_ifs <;> omega]; rw [Nat.cast_one]; exact lbr_one.symm
    · rw [show nb H s j = 0 by unfold nb linked; split_ifs <;> omega]; rw [Nat.cast_zero]; exact lbr_zero.symm

/-- A column's bias at a key is the logarithm of the count. -/
theorem biasOf_nb (H seg blk r κ : ℕ) (hseg : seg < 2) (hb : blk < 3) (hr : r < 64) (hκ : κ < nOf seg blk) :
    biasOf seg blk H r κ = lbr (nb H (192 * seg + 64 * blk + r) (keyOf seg H κ) : ℕ) := by
  unfold nOf at hκ
  unfold biasOf keyOf
  by_cases h0 : seg = 0
  · rw [if_pos h0, if_pos h0]
    exact oVal_nb H _ _ _ _ (by omega) (by omega) 0 (by omega) (by omega) (by omega)
  · rw [if_neg h0, if_neg h0]
    by_cases h1 : κ < 32
    · rw [if_pos h1, if_pos h1]; exact xVal_nb H _ _ _ _ (by omega) h1 (by omega) rfl
    · rw [if_neg h1, if_neg h1]; exact oVal_nb H _ _ _ _ (by omega) (by omega) 1 (by omega) (by omega) (by omega)

theorem keyOf_lt (H seg blk κ : ℕ) (hseg : seg < 2) (hb : blk < 3) (hκ : κ < nOf seg blk) : keyOf seg H κ < 384 := by
  unfold nOf at hκ; unfold keyOf; split_ifs <;> omega

/-- A sum over a column's keys of what vanishes at unlinked keys is the sum over all keys. -/
theorem sum_keys {M : Type} [AddCommMonoid M] (H seg blk r : ℕ) (hseg : seg < 2) (hb : blk < 3) (hr : r < 64) (f : Fin 384 → M)
    (h0 : ∀ j : Fin 384, nb H (192 * seg + 64 * blk + r) j.val = 0 → f j = 0) :
    ∑ κ : Fin (nOf seg blk), f ⟨keyOf seg H κ.val, keyOf_lt H seg blk κ.val hseg hb κ.isLt⟩ = ∑ j, f j := by
  refine Fintype.sum_of_injective (fun κ : Fin (nOf seg blk) => (⟨keyOf seg H κ.val, keyOf_lt H seg blk κ.val hseg hb κ.isLt⟩ : Fin 384)) ?_ _ _ ?_ fun _ => rfl
  · intro a b h
    have h := congrArg Fin.val h
    dsimp only at h
    have ha := a.isLt
    have hb' := b.isLt
    unfold keyOf at h
    refine Fin.ext ?_
    split_ifs at h <;> omega
  · intro j hj
    refine h0 j ?_
    by_contra hn
    refine hj ?_
    have hjl := j.isLt
    have hle : j.val ≤ 192 * seg + 64 * blk + r := by
      by_contra hlt; exact hn (by unfold nb linked; split_ifs <;> omega)
    by_cases hs0 : seg = 0
    · refine ⟨⟨j.val, by unfold nOf; omega⟩, Fin.ext ?_⟩
      show keyOf seg H j.val = j.val
      unfold keyOf; rw [if_pos hs0]
    · by_cases hj2 : j.val < 192
      · have h6 : j.val % 6 = H % 6 := by
          by_contra h6; exact hn (by unfold nb linked; split_ifs <;> omega)
        refine ⟨⟨j.val / 6, by unfold nOf; omega⟩, Fin.ext ?_⟩
        show keyOf seg H (j.val / 6) = j.val
        unfold keyOf; rw [if_neg hs0, if_pos (by omega)]; omega
      · refine ⟨⟨32 + (j.val - 192), by unfold nOf; omega⟩, Fin.ext ?_⟩
        show keyOf seg H (32 + (j.val - 192)) = j.val
        unfold keyOf; rw [if_neg hs0, if_neg (by omega)]; omega

end Cert.KernelIdeal.Hand

end
-- ==== Proof.ReferenceIdeal.Ref.lean ====
module

public import proofs.«01_k».proof.Proof.Gen.ReferenceIdeal.Frame
public import proofs.«01_k».proof.Proof.KernelIdeal.Count
public import Idealize.ShloMosaic.Lib.StableHlo.ReadAt
public import Idealize.ShloMosaic.Lib.Pointwise
public import Idealize.ShloMosaic.Lib.Claim

@[expose] public section

/-! # ReferenceIdeal: the host operations after the decode, read at an index -/

set_option maxRecDepth 16384
set_option maxHeartbeats 4000000

noncomputable section

namespace Cert.ReferenceIdeal.Hand

open Cert.ReferenceIdeal Cert.ReferenceIdeal.Gen Cert.KernelIdeal.Hand
open Idealize.ShloMosaic Idealize.ShloMosaic.TcCoe Idealize.SL.Sem Idealize.ShloMosaic.Tactic

/-- The patterns' dilations and segment lengths. -/
def dl (p : Fin 3) : ℕ := ![1, 6, 12] p
def wl (p : Fin 3) : ℕ := ![192, 384, 384] p

theorem rem_val : ∀ (p : Fin 3) (s : Fin 384), IntOp.remsi ArithUnit.host (BitVec.ofNat 32 s.val) (BitVec.ofNat 32 (dl p)) = BitVec.ofNat 32 (s.val % dl p) := by decide +kernel
theorem div_val : ∀ (p : Fin 3) (s : Fin 384), IntOp.divsi ArithUnit.host (BitVec.ofNat 32 s.val) (BitVec.ofNat 32 (wl p)) = BitVec.ofNat 32 (s.val / wl p) := by decide +kernel
theorem sle_val (a b : Fin 384) : IntOp.cmpi CmpIPredicate.sle (BitVec.ofNat 32 a.val) (BitVec.ofNat 32 b.val) = BitVec.ofBool (decide (a.val ≤ b.val)) := by
  show BitVec.ofBool ((BitVec.ofNat 32 a.val).sle (BitVec.ofNat 32 b.val)) = _
  refine congrArg _ ?_
  have ha := a.isLt
  have hb := b.isLt
  have e : ∀ x : ℕ, x < 384 → (BitVec.ofNat 32 x).toInt = x := fun x hx => by
    rw [BitVec.toInt_eq_toNat_of_lt (by rw [BitVec.toNat_ofNat]; omega), BitVec.toNat_ofNat, Nat.mod_eq_of_lt (by omega)]
  rw [BitVec.sle, e _ ha, e _ hb]
  simp
theorem eq_val (a b : ℕ) (ha : a < 384) (hb : b < 384) : IntOp.cmpi CmpIPredicate.eq (BitVec.ofNat 32 a) (BitVec.ofNat 32 b) = BitVec.ofBool (decide (a = b)) := by
  show BitVec.ofBool (BitVec.ofNat 32 a == BitVec.ofNat 32 b) = _
  refine congrArg _ ?_
  by_cases h : a = b
  · subst h; simp
  · have hn : ¬ BitVec.ofNat 32 a = BitVec.ofNat 32 b := fun e => h (by
      have := congrArg BitVec.toNat e
      rw [BitVec.toNat_ofNat, BitVec.toNat_ofNat, Nat.mod_eq_of_lt (by omega), Nat.mod_eq_of_lt (by omega)] at this; exact this)
    simp [h, hn]
theorem and_val : ∀ a b : Bool, IntOp.andi (BitVec.ofBool a) (BitVec.ofBool b) = BitVec.ofBool (a && b) := by decide
theorem sel_val {M : Type} (P : Prop) [Decidable P] (x y : M) : Scalar.select (BitVec.ofBool (decide P)) x y = if P then x else y := by
  by_cases h : P
  · rw [if_pos h, decide_eq_true h]; rfl
  · rw [if_neg h, decide_eq_false h]; rfl

theorem ofBits_bot : Ideal.ofBits FTy.f32 4286578688#32 = ⊥ := by
  simp [Ideal.ofBits, Ideal.ieee]

abbrev a_c (V : Valuation τ sig (Elt Ideal)) : S3.Idx → BitVec 32 := V (Proc.devRef .tc main_c)
abbrev a_c_0 (V : Valuation τ sig (Elt Ideal)) : S3.Idx → BitVec 32 := V (Proc.devRef .tc main_c_0)
abbrev a_v0_0 (V : Valuation τ sig (Elt Ideal)) : S4x384x56x128.Idx → EReal := V (Proc.devRef .tc main_v0_0)
abbrev a_v0_1 (V : Valuation τ sig (Elt Ideal)) : S4x384x56x128.Idx → EReal := V (Proc.devRef .tc main_v0_1)
abbrev a_arg3 (V : Valuation τ sig (Elt Ideal)) : S4x56.Idx → EReal := V (Proc.devRef .tc main_arg3)
abbrev a_arg4 (V : Valuation τ sig (Elt Ideal)) : S4x56.Idx → EReal := V (Proc.devRef .tc main_arg4)
abbrev a_v35 (V : Valuation τ sig (Elt Ideal)) : S3x4x56x384x384.Idx → EReal := V (Proc.devRef .tc main_v35)
abbrev a_v32 (V : Valuation τ sig (Elt Ideal)) : S3x1x56x384.Idx → BitVec 1 := V (Proc.devRef .tc main_v32)
abbrev a_v37 (V : Valuation τ sig (Elt Ideal)) : S3x4x56x384.Idx → EReal := V (Proc.devRef .tc main_v37)
abbrev a_v41 (V : Valuation τ sig (Elt Ideal)) : S3x4x56x384x384.Idx → EReal := V (Proc.devRef .tc main_v41)
abbrev a_v43 (V : Valuation τ sig (Elt Ideal)) : S3x4x56x384.Idx → EReal := V (Proc.devRef .tc main_v43)
abbrev a_v53 (V : Valuation τ sig (Elt Ideal)) : S3x4x56x384x128.Idx → EReal := V (Proc.devRef .tc main_v53)
abbrev a_v0_2 (V : Valuation τ sig (Elt Ideal)) : S4x384x56x128.Idx → EReal := V (Proc.devRef .tc main_v0_2)
abbrev a_arg5 (V : Valuation τ sig (Elt Ideal)) : S4x56.Idx → EReal := V (Proc.devRef .tc main_arg5)
abbrev a_v56 (V : Valuation τ sig (Elt Ideal)) : S3x4x56x384.Idx → EReal := V (Proc.devRef .tc main_v56)
abbrev a_v76 (V : Valuation τ sig (Elt Ideal)) : S4x384x56.Idx → EReal := V (Proc.devRef .tc main_v76)
abbrev a_v75 (V : Valuation τ sig (Elt Ideal)) : S4x384x7168.Idx → EReal := V (Proc.devRef .tc main_v75)

variable (V : Valuation τ sig (Elt Ideal))
variable (p : Fin 3) (b : Fin 4) (h : Fin 56) (s : Fin 384) (j : Fin 384) (d : Fin 128)

/-- The patterns' words, as the host's constants hold them. -/
structure Lits : Prop where
  dil : ∀ p : Fin 3, (a_c V) (ix1 p) = BitVec.ofNat 32 (dl p)
  seg : ∀ p : Fin 3, (a_c_0 V) (ix1 p) = BitVec.ofNat 32 (wl p)

/-- A score. -/
def score (V : Valuation τ sig (Elt Ideal)) (b : Fin 4) (h : Fin 56) (s j : Fin 384) : EReal :=
  (∑ x : Fin 128, (a_v0_0 V) (ix4 b s h x) * (a_v0_1 V) (ix4 b j h x))
    * ((a_arg3 V) (ix2 b h) * (a_arg4 V) (ix2 b h) * Ideal.ofBits FTy.f32 1035273459#32)

theorem h56 : h.val < 384 := lt_trans h.isLt (by decide)
theorem rem_lt (x : Fin 384) : x.val % dl p < 384 := lt_of_le_of_lt (Nat.mod_le _ _) x.isLt
theorem div_lt (x : Fin 384) : x.val / wl p < 384 := lt_of_le_of_lt (Nat.div_le_self _ _) x.isLt

theorem ch_bit (hl : Lits V) : IntOp.cmpi CmpIPredicate.eq (IntOp.remsi ArithUnit.host (BitVec.ofNat 32 s.val) ((a_c V) (ix1 p)))
      (IntOp.remsi ArithUnit.host (BitVec.ofNat 32 h.val) ((a_c V) (ix1 p))) = BitVec.ofBool (decide (s.val % dl p = h.val % dl p)) := by
  rw [hl.dil, rem_val, show BitVec.ofNat 32 h.val = BitVec.ofNat 32 (⟨h.val, h56 h⟩ : Fin 384).val from rfl, rem_val, eq_val _ _ (rem_lt ..) (rem_lt ..)]

theorem dv_bit (hl : Lits V) : IntOp.cmpi CmpIPredicate.eq (IntOp.divsi ArithUnit.host (BitVec.ofNat 32 s.val) ((a_c_0 V) (ix1 p)))
      (IntOp.divsi ArithUnit.host (BitVec.ofNat 32 j.val) ((a_c_0 V) (ix1 p))) = BitVec.ofBool (decide (s.val / wl p = j.val / wl p)) := by
  rw [hl.seg, div_val, div_val, eq_val _ _ (div_lt ..) (div_lt ..)]

theorem vis_bit (P Q R T : Prop) [Decidable P] [Decidable Q] [Decidable R] [Decidable T] :
    (((decide P && decide Q) && decide R) && decide T) = decide (P ∧ Q ∧ R ∧ T) := by
  by_cases hP : P <;> by_cases hQ : Q <;> by_cases hR : R <;> by_cases hT : T <;> simp [hP, hQ, hR, hT]

theorem r35 (hl : Lits V) :
    (a_v35 (StableHlo.after (hostOps1 ++ hostOps1_1 : List (HloOp τ sig (Elt Ideal))) V)) (ix5 p b h s j) = if linked (dl p) (wl p) h s j then score V b h s j else ⊥ := by
  simp only [a_c, a_c_0, a_v0_0, a_v0_1, a_arg3, a_arg4, a_v35, a_v32, a_v37, a_v41, a_v43, a_v53, a_v0_2, a_arg5, a_v56, a_v76, a_v75]
  after_reads_at
  rw [ch_bit V p h s hl, ch_bit V p h j hl, sle_val, dv_bit V p s j hl, and_val, and_val, and_val, vis_bit, sel_val]
  refine if_congr Iff.rfl rfl ?_
  exact ofBits_bot

theorem r32 (hl : Lits V) :
    (a_v32 (StableHlo.after (hostOps1 ++ hostOps1_1 : List (HloOp τ sig (Elt Ideal))) V)) (ix4 p 0 h s) = BitVec.ofBool (decide (s.val % dl p = h.val % dl p)) := by
  simp only [a_c, a_c_0, a_v0_0, a_v0_1, a_arg3, a_arg4, a_v35, a_v32, a_v37, a_v41, a_v43, a_v53, a_v0_2, a_arg5, a_v56, a_v76, a_v75]
  after_reads_at
  exact ch_bit V p h s hl

theorem r37 :
    (a_v37 (StableHlo.after (hostOps1_2 ++ hostOps1_3 : List (HloOp τ sig (Elt Ideal))) V)) (ix4 p b h s)
      = Scalar.select ((a_v32 V) (ix4 p 0 h s))
          (Finset.univ.fold max ⊥ fun x : Fin 384 => (a_v35 V) (ix5 p b h s x)) 0 := by
  simp only [a_c, a_c_0, a_v0_0, a_v0_1, a_arg3, a_arg4, a_v35, a_v32, a_v37, a_v41, a_v43, a_v53, a_v0_2, a_arg5, a_v56, a_v76, a_v75]
  after_reads_at
  rw [ofBits_bot]
  exact congrArg (Scalar.select _ _) Ideal.ofBits_zero_f32

theorem r41 :
    (a_v41 (StableHlo.after (hostOps1_4 ++ hostOps1_5 : List (HloOp τ sig (Elt Ideal))) V)) (ix5 p b h s j)
      = Ideal.exp ((a_v35 V) (ix5 p b h s j) - (a_v37 V) (ix4 p b h s)) := by
  simp only [a_c, a_c_0, a_v0_0, a_v0_1, a_arg3, a_arg4, a_v35, a_v32, a_v37, a_v41, a_v43, a_v53, a_v0_2, a_arg5, a_v56, a_v76, a_v75]
  after_reads_at

theorem r43 :
    (a_v43 (StableHlo.after (hostOps1_4 ++ hostOps1_5 : List (HloOp τ sig (Elt Ideal))) V)) (ix4 p b h s)
      = Scalar.select ((a_v32 V) (ix4 p 0 h s))
          (∑ x : Fin 384, Ideal.exp ((a_v35 V) (ix5 p b h s x) - (a_v37 V) (ix4 p b h s))) 1 := by
  simp only [a_c, a_c_0, a_v0_0, a_v0_1, a_arg3, a_arg4, a_v35, a_v32, a_v37, a_v41, a_v43, a_v53, a_v0_2, a_arg5, a_v56, a_v76, a_v75]
  after_reads_at
  exact congrArg (Scalar.select _ _) Ideal.ofBits_one_f32

theorem r53 :
    (a_v53 (StableHlo.after (hostOps1_6 ++ hostOps1_7 : List (HloOp τ sig (Elt Ideal))) V)) (ix5 p b h s d)
      = (∑ x : Fin 384, (a_v0_2 V) (ix4 b x h d)
          * Ideal.div ((a_v41 V) (ix5 p b h s x)) ((a_v43 V) (ix4 p b h s)))
        * (a_arg5 V) (ix2 b h) := by
  simp only [a_c, a_c_0, a_v0_0, a_v0_1, a_arg3, a_arg4, a_v35, a_v32, a_v37, a_v41, a_v43, a_v53, a_v0_2, a_arg5, a_v56, a_v76, a_v75]
  after_reads_at

theorem r56 :
    (a_v56 (StableHlo.after (hostOps1_6 ++ hostOps1_7 : List (HloOp τ sig (Elt Ideal))) V)) (ix4 p b h s)
      = Scalar.select ((a_v32 V) (ix4 p 0 h s))
          ((a_v37 V) (ix4 p b h s) + Ideal.log ((a_v43 V) (ix4 p b h s))) ⊥ := by
  simp only [a_c, a_c_0, a_v0_0, a_v0_1, a_arg3, a_arg4, a_v35, a_v32, a_v37, a_v41, a_v43, a_v53, a_v0_2, a_arg5, a_v56, a_v76, a_v75]
  after_reads_at
  exact congrArg (Scalar.select _ _) ofBits_bot

theorem r76 :
    (a_v76 (StableHlo.after (hostOps1_8 : List (HloOp τ sig (Elt Ideal))) V)) (ix3 b s h)
      = rLL fun p => (a_v56 V) (ix4 p b h s) := by
  simp only [a_c, a_c_0, a_v0_0, a_v0_1, a_arg3, a_arg4, a_v35, a_v32, a_v37, a_v41, a_v43, a_v53, a_v0_2, a_arg5, a_v56, a_v76, a_v75]
  after_reads_at
  rw [ofBits_bot]
  rfl

theorem r75 (e : Fin 7168) (he : e.val = 128 * h.val + d.val) :
    (a_v75 (StableHlo.after (hostOps1_8 : List (HloOp τ sig (Elt Ideal))) V)) (ix3 b s e)
      = ∑ p : Fin 3, (a_v53 V) (ix5 p b h s d)
          * Ideal.exp ((a_v56 V) (ix4 p b h s) - rLL fun p => (a_v56 V) (ix4 p b h s)) := by
  have e1 : ∀ pf, (⟨e.val / 128, pf⟩ : Fin 56) = h := fun pf => Fin.ext (by show e.val / 128 = _; omega)
  have e2 : ∀ pf, (⟨e.val % 128, pf⟩ : Fin 128) = d := fun pf => Fin.ext (by show e.val % 128 = _; omega)
  simp only [a_c, a_c_0, a_v0_0, a_v0_1, a_arg3, a_arg4, a_v35, a_v32, a_v37, a_v41, a_v43, a_v53, a_v0_2, a_arg5, a_v56, a_v76, a_v75]
  after_reads_at
  simp only [e1, e2]
  rw [ofBits_bot]
  rfl

theorem kA_main_v0_2 : a_v0_2 (StableHlo.after (hostOps1 ++ hostOps1_1 : List (HloOp τ sig (Elt Ideal))) V) = a_v0_2 V := by unfold a_v0_2; after_reads_simp
theorem kA_main_arg5 : a_arg5 (StableHlo.after (hostOps1 ++ hostOps1_1 : List (HloOp τ sig (Elt Ideal))) V) = a_arg5 V := by unfold a_arg5; after_reads_simp
theorem kB_main_v35 : a_v35 (StableHlo.after (hostOps1_2 ++ hostOps1_3 : List (HloOp τ sig (Elt Ideal))) V) = a_v35 V := by unfold a_v35; after_reads_simp
theorem kB_main_v32 : a_v32 (StableHlo.after (hostOps1_2 ++ hostOps1_3 : List (HloOp τ sig (Elt Ideal))) V) = a_v32 V := by unfold a_v32; after_reads_simp
theorem kB_main_v0_2 : a_v0_2 (StableHlo.after (hostOps1_2 ++ hostOps1_3 : List (HloOp τ sig (Elt Ideal))) V) = a_v0_2 V := by unfold a_v0_2; after_reads_simp
theorem kB_main_arg5 : a_arg5 (StableHlo.after (hostOps1_2 ++ hostOps1_3 : List (HloOp τ sig (Elt Ideal))) V) = a_arg5 V := by unfold a_arg5; after_reads_simp
theorem kC_main_v37 : a_v37 (StableHlo.after (hostOps1_4 ++ hostOps1_5 : List (HloOp τ sig (Elt Ideal))) V) = a_v37 V := by unfold a_v37; after_reads_simp
theorem kC_main_v32 : a_v32 (StableHlo.after (hostOps1_4 ++ hostOps1_5 : List (HloOp τ sig (Elt Ideal))) V) = a_v32 V := by unfold a_v32; after_reads_simp
theorem kC_main_v0_2 : a_v0_2 (StableHlo.after (hostOps1_4 ++ hostOps1_5 : List (HloOp τ sig (Elt Ideal))) V) = a_v0_2 V := by unfold a_v0_2; after_reads_simp
theorem kC_main_arg5 : a_arg5 (StableHlo.after (hostOps1_4 ++ hostOps1_5 : List (HloOp τ sig (Elt Ideal))) V) = a_arg5 V := by unfold a_arg5; after_reads_simp

/-- The line after the region, in groups. -/
def tail (V : Valuation τ sig (Elt Ideal)) : Valuation τ sig (Elt Ideal) :=
  StableHlo.after (hostOps1_8 : List (HloOp τ sig (Elt Ideal))) (StableHlo.after (hostOps1_6 ++ hostOps1_7 : List (HloOp τ sig (Elt Ideal))) (StableHlo.after (hostOps1_4 ++ hostOps1_5 : List (HloOp τ sig (Elt Ideal))) (StableHlo.after (hostOps1_2 ++ hostOps1_3 : List (HloOp τ sig (Elt Ideal))) (StableHlo.after (hostOps1 ++ hostOps1_1 : List (HloOp τ sig (Elt Ideal))) V))))

theorem tail_eq : StableHlo.after ([hostOps1, hostOps1_1, hostOps1_2, hostOps1_3, hostOps1_4, hostOps1_5, hostOps1_6, hostOps1_7, hostOps1_8] : List (List (HloOp τ sig (Elt Ideal)))).flatten V = tail V := by
  unfold tail
  rw [← StableHlo.after_append, ← StableHlo.after_append, ← StableHlo.after_append, ← StableHlo.after_append]
  refine congrArg (fun l => StableHlo.after l V) ?_
  simp only [List.flatten_cons, List.flatten_nil, List.append_assoc, List.append_nil]

section
variable (σ : Fin 384 → ℝ) (hσ : ∀ j, score V b h s j = (σ j : EReal)) (hl : Lits V)

include hσ hl in
theorem s35 : (a_v35 (StableHlo.after (hostOps1 ++ hostOps1_1 : List (HloOp τ sig (Elt Ideal))) V)) (ix5 p b h s j) = rS σ (fun j => linked (dl p) (wl p) h s j.val) j := by
  rw [r35 V p b h s j hl, hσ]; rfl

/-- The contents after the second group, and the third. -/
def VB : Valuation τ sig (Elt Ideal) := StableHlo.after (hostOps1_2 ++ hostOps1_3 : List (HloOp τ sig (Elt Ideal))) (StableHlo.after (hostOps1 ++ hostOps1_1 : List (HloOp τ sig (Elt Ideal))) V)
def VC : Valuation τ sig (Elt Ideal) := StableHlo.after (hostOps1_4 ++ hostOps1_5 : List (HloOp τ sig (Elt Ideal))) (VB V)

include hl in
theorem b32 : (a_v32 (VB V)) (ix4 p 0 h s) = BitVec.ofBool (decide (s.val % dl p = h.val % dl p)) := by
  unfold VB; rw [kB_main_v32]; exact r32 V p h s hl
include hσ hl in
theorem b35 : (a_v35 (VB V)) (ix5 p b h s j) = rS σ (fun j => linked (dl p) (wl p) h s j.val) j := by
  unfold VB; rw [kB_main_v35]; exact s35 V p b h s j σ hσ hl
include hσ hl in
theorem b37 : (a_v37 (VB V)) (ix4 p b h s) = rM σ (fun j => linked (dl p) (wl p) h s j.val) (s.val % dl p = h.val % dl p) := by
  unfold VB; rw [r37, r32 V p h s hl, sel_val]; unfold rM
  refine if_congr Iff.rfl ?_ rfl
  exact congrArg (fun f => Finset.univ.fold max ⊥ f) (funext fun j => s35 V p b h s j σ hσ hl)

include hl in
theorem c32 : (a_v32 (VC V)) (ix4 p 0 h s) = BitVec.ofBool (decide (s.val % dl p = h.val % dl p)) := by
  unfold VC; rw [kC_main_v32]; exact b32 V p h s hl
include hσ hl in
theorem c37 : (a_v37 (VC V)) (ix4 p b h s) = rM σ (fun j => linked (dl p) (wl p) h s j.val) (s.val % dl p = h.val % dl p) := by
  unfold VC; rw [kC_main_v37]; exact b37 V p b h s σ hσ hl
include hσ hl in
theorem c41 : (a_v41 (VC V)) (ix5 p b h s j)
    = Ideal.exp (rS σ (fun j => linked (dl p) (wl p) h s j.val) j - rM σ (fun j => linked (dl p) (wl p) h s j.val) (s.val % dl p = h.val % dl p)) := by
  unfold VC; rw [r41, b35 V p b h s j σ hσ hl, b37 V p b h s σ hσ hl]
include hσ hl in
theorem c43 : (a_v43 (VC V)) (ix4 p b h s) = rL σ (fun j => linked (dl p) (wl p) h s j.val) (s.val % dl p = h.val % dl p) := by
  unfold VC; rw [r43, b32 V p h s hl, sel_val]; unfold rL
  refine if_congr Iff.rfl ?_ rfl
  exact Finset.sum_congr rfl fun j _ => by rw [b35 V p b h s j σ hσ hl, b37 V p b h s σ hσ hl]

include hσ hl in
theorem d56 : (a_v56 (StableHlo.after (hostOps1_6 ++ hostOps1_7 : List (HloOp τ sig (Elt Ideal))) (VC V))) (ix4 p b h s) = rLse σ (fun j => linked (dl p) (wl p) h s j.val) (s.val % dl p = h.val % dl p) := by
  rw [r56, c32 V p h s hl, sel_val, c37 V p b h s σ hσ hl, c43 V p b h s σ hσ hl]; rfl
include hσ hl in
theorem d53 : (a_v53 (StableHlo.after (hostOps1_6 ++ hostOps1_7 : List (HloOp τ sig (Elt Ideal))) (VC V))) (ix5 p b h s d)
    = (∑ j : Fin 384, (a_v0_2 V) (ix4 b j h d) * rP σ (fun j => linked (dl p) (wl p) h s j.val) (s.val % dl p = h.val % dl p) j)
      * (a_arg5 V) (ix2 b h) := by
  have k1 : a_v0_2 (VC V) = a_v0_2 V := by unfold VC VB; rw [kC_main_v0_2, kB_main_v0_2, kA_main_v0_2]
  have k2 : a_arg5 (VC V) = a_arg5 V := by unfold VC VB; rw [kC_main_arg5, kB_main_arg5, kA_main_arg5]
  rw [r53, k1, k2]
  refine congrArg (· * _) (Finset.sum_congr rfl fun x _ => ?_)
  rw [c41 V p b h s x σ hσ hl, c43 V p b h s σ hσ hl]; rfl

include hσ hl in
/-- The reference's log-sum-exp. -/
theorem ref_lse : (a_v76 (tail V)) (ix3 b s h)
    = rLL fun p => rLse σ (fun j => linked (dl p) (wl p) h s j.val) (s.val % dl p = h.val % dl p) := by
  unfold tail
  rw [r76]
  exact congrArg rLL (funext fun p => d56 V p b h s σ hσ hl)

include hσ hl in
/-- The reference's output. -/
theorem ref_out (e : Fin 7168) (he : e.val = 128 * h.val + d.val) : (a_v75 (tail V)) (ix3 b s e)
    = ∑ p : Fin 3, (∑ j : Fin 384, (a_v0_2 V) (ix4 b j h d) * rP σ (fun j => linked (dl p) (wl p) h s j.val) (s.val % dl p = h.val % dl p) j)
        * (a_arg5 V) (ix2 b h)
        * Ideal.exp (rLse σ (fun j => linked (dl p) (wl p) h s j.val) (s.val % dl p = h.val % dl p) - rLL fun p => rLse σ (fun j => linked (dl p) (wl p) h s j.val) (s.val % dl p = h.val % dl p)) := by
  unfold tail
  rw [r75 _ b h s d e he]
  refine Finset.sum_congr rfl fun p _ => ?_
  have e1 := fun p => d56 V p b h s σ hσ hl
  have e2 := d53 V p b h s d σ hσ hl
  unfold VC VB at e1 e2
  simp only [e1, e2]

end

end Cert.ReferenceIdeal.Hand

end
-- ==== Proof.Bridge.lean ====
module

public import proofs.«01_k».proof.Proof.ReferenceIdeal.Ref

@[expose] public section

/-! # The kernel's row and the reference's row are the same mathematics -/

set_option maxRecDepth 16384
set_option maxHeartbeats 1000000

noncomputable section

namespace Cert.Bridge

open Cert.KernelIdeal.Hand Cert.ReferenceIdeal.Hand
open Idealize.ShloMosaic

variable (K Q V : ℕ → ℕ → ℕ → EReal) (cs vs : ℕ → EReal) (g hl s : ℕ) (hs : s < 384) (σ : Fin 384 → ℝ)

/-- A key's weight in the merged softmax: how many patterns link it, times the exponential of its score. -/
def wt (H s : ℕ) (j : Fin 384) : ℝ := (nb H s j.val : ℝ) * Real.exp (σ j)

theorem wt_zero (H : ℕ) (j : Fin 384) (h : nb H s j.val = 0) : wt σ H s j = 0 := by unfold wt; rw [h, Nat.cast_zero, zero_mul]
theorem wt_nonneg (H : ℕ) (j : Fin 384) : 0 ≤ wt σ H s j := mul_nonneg (Nat.cast_nonneg _) (Real.exp_pos _).le

theorem wt_eq (H : ℕ) (j : Fin 384) : wt σ H s j = ∑ p : Fin 3, rA σ (fun j => linked (dl p) (wl p) H s j.val) j := by
  rw [Fin.sum_univ_three]
  unfold wt nb rA
  simp only [show dl 0 = 1 from rfl, show dl 1 = 6 from rfl, show dl 2 = 12 from rfl, show wl 0 = 192 from rfl, show wl 1 = 384 from rfl, show wl 2 = 384 from rfl]
  push_cast
  split_ifs <;> ring

include hs in
theorem wt_pos (H : ℕ) : 0 < ∑ j, wt σ H s j := by
  refine Finset.sum_pos' (fun j _ => wt_nonneg s σ H j) ⟨⟨s, hs⟩, Finset.mem_univ _, mul_pos ?_ (Real.exp_pos _)⟩
  have : 0 < nb H s s := by
    unfold nb
    rw [if_pos (show linked 1 192 H s s from ⟨by omega, by omega, le_rfl, rfl⟩)]
    omega
  exact_mod_cast this

theorem es : 192 * (s / 192) + 64 * (s % 192 / 64) + s % 64 = s := by omega

include hs in
theorem key_lt (H : ℕ) (κ : Fin (nOf (s / 192) (s % 192 / 64))) : keyOf (s / 192) H κ.val < 384 :=
  keyOf_lt H _ _ κ.val (by omega) (by omega) κ.isLt

theorem sum_key {M : Type} [AddCommMonoid M] (H : ℕ) (f : Fin 384 → M) (h0 : ∀ j : Fin 384, nb H s j.val = 0 → f j = 0) :
    ∑ κ : Fin (nOf (s / 192) (s % 192 / 64)), f ⟨keyOf (s / 192) H κ.val, key_lt s hs H κ⟩ = ∑ j, f j :=
  sum_keys H (s / 192) (s % 192 / 64) (s % 64) (by omega) (by omega) (by omega) f (by rw [es]; exact h0)

theorem lbr_add (n : ℕ) (x : ℝ) : ((x * (Real.log 2)⁻¹ : ℝ) : EReal) + lbr (n : ℝ) = lbr ((n : ℝ) * Real.exp x) := by
  by_cases h : n = 0
  · rw [h, Nat.cast_zero, zero_mul, lbr_zero, EReal.add_bot]
  · have hn : (n : ℝ) ≠ 0 := by exact_mod_cast h
    unfold lbr
    rw [if_neg hn, if_neg (mul_ne_zero hn (Real.exp_pos _).ne'), Real.log_mul hn (Real.exp_pos _).ne', Real.log_exp, ← EReal.coe_add]
    congr 1; ring

section
variable (hx : ∀ j : Fin 384, (∑ d : Fin 128, K j.val hl d.val * Q s hl d.val) * cs hl = ((σ j * (Real.log 2)⁻¹ : ℝ) : EReal))

include hx in
theorem col_eq (κ : Fin (nOf (s / 192) (s % 192 / 64))) :
    colX K Q cs g (s / 192) (s % 192 / 64) hl (s % 64) _ κ = lbr (wt σ (8 * g + hl) s ⟨keyOf (s / 192) (8 * g + hl) κ.val, key_lt s hs _ κ⟩) := by
  unfold colX
  rw [biasOf_nb (8 * g + hl) _ _ _ κ.val (by omega) (by omega) (by omega) κ.isLt, es s]
  rw [hx ⟨keyOf (s / 192) (8 * g + hl) κ.val, key_lt s hs _ κ⟩, lbr_add]
  rfl

include hx in
theorem row_facts :
    (∀ κ, cP (colX K Q cs g (s / 192) (s % 192 / 64) hl (s % 64) (nOf (s / 192) (s % 192 / 64))) κ
        = ((wt σ (8 * g + hl) s ⟨keyOf (s / 192) (8 * g + hl) κ.val, key_lt s hs _ κ⟩ / ∑ j, wt σ (8 * g + hl) s j : ℝ) : EReal))
      ∧ lseOf K Q cs g s hl = ((Real.log (∑ j, wt σ (8 * g + hl) s j) : ℝ) : EReal) := by
  have e := sum_key s hs (8 * g + hl) (wt σ (8 * g + hl) s) fun j h => wt_zero s σ _ j h
  have f := col_facts _ _ (col_eq K Q cs g hl s hs σ hx) (fun κ => wt_nonneg s σ _ _) (by rw [e]; exact wt_pos s hs σ _)
  rw [e] at f
  exact f

include hs in
theorem pat (H : ℕ) (p : Fin 3) :
    (∀ j, rP σ (fun j => linked (dl p) (wl p) H s j.val) (s % dl p = H % dl p) j = ((rA σ (fun j => linked (dl p) (wl p) H s j.val) j / ∑ j, rA σ (fun j => linked (dl p) (wl p) H s j.val) j : ℝ) : EReal)) ∧ rLse σ (fun j => linked (dl p) (wl p) H s j.val) (s % dl p = H % dl p) = llr (∑ j, rA σ (fun j => linked (dl p) (wl p) H s j.val) j) :=
  pattern_facts σ (fun j => linked (dl p) (wl p) H s j.val) (s % dl p = H % dl p) (fun _ h => h.1) (fun h => ⟨⟨s, hs⟩, h, h, le_rfl, rfl⟩)

theorem tot (H : ℕ) : ∑ p : Fin 3, ∑ j, rA σ (fun j => linked (dl p) (wl p) H s j.val) j = ∑ j, wt σ H s j := by
  rw [Finset.sum_comm]; exact Finset.sum_congr rfl fun j _ => (wt_eq s σ H j).symm

include hs in
theorem comb (H : ℕ) :
    (rLL fun p => rLse σ (fun j => linked (dl p) (wl p) H s j.val) (s % dl p = H % dl p)) = ((Real.log (∑ j, wt σ H s j) : ℝ) : EReal)
      ∧ ∀ p, Ideal.exp (rLse σ (fun j => linked (dl p) (wl p) H s j.val) (s % dl p = H % dl p) - rLL fun p => rLse σ (fun j => linked (dl p) (wl p) H s j.val) (s % dl p = H % dl p)) = (((∑ j, rA σ (fun j => linked (dl p) (wl p) H s j.val) j) / ∑ j, wt σ H s j : ℝ) : EReal) := by
  have f := combine_facts (fun p => (∑ j, rA σ (fun j => linked (dl p) (wl p) H s j.val) j)) (fun p => rLse σ (fun j => linked (dl p) (wl p) H s j.val) (s % dl p = H % dl p)) (fun p => (pat s hs σ H p).2)
    (fun p => Finset.sum_nonneg fun j _ => rA_nonneg ..) (by rw [tot]; exact wt_pos s hs σ H)
  rw [tot] at f
  exact f

include hx hs in
/-- The two log-sum-exps. -/
theorem lse_eq : lseOf K Q cs g s hl
    = rLL fun p => rLse σ (fun j => linked (dl p) (wl p) (8 * g + hl) s j.val) (s % dl p = (8 * g + hl) % dl p) := by
  rw [(row_facts K Q cs g hl s hs σ hx).2, (comb s hs σ _).1]

include hs in
theorem share (H : ℕ) (j : Fin 384) :
    ∑ p : Fin 3, rA σ (fun j => linked (dl p) (wl p) H s j.val) j / (∑ j, rA σ (fun j => linked (dl p) (wl p) H s j.val) j)
        * ((∑ j, rA σ (fun j => linked (dl p) (wl p) H s j.val) j) / ∑ j, wt σ H s j) = wt σ H s j / ∑ j, wt σ H s j := by
  rw [wt_eq s σ H j, Finset.sum_div]
  refine Finset.sum_congr rfl fun p _ => ?_
  by_cases h : ∑ j, rA σ (fun j => linked (dl p) (wl p) H s j.val) j = 0
  · have h' := (Finset.sum_eq_zero_iff_of_nonneg fun j _ => rA_nonneg σ (fun j => linked (dl p) (wl p) H s j.val) j).mp h j (Finset.mem_univ _)
    rw [h', zero_div, zero_div, zero_mul]
  · exact div_mul_div_cancel₀ h

include hx hs in
/-- The two outputs. -/
theorem out_eq (d : ℕ) (v : ℝ) (hv : vs hl = (v : EReal)) (hV : ∀ j : Fin 384, V j.val hl d ≠ ⊤) : outOf K Q V cs vs g s hl d
    = ∑ p : Fin 3, (∑ j : Fin 384, V j.val hl d * rP σ (fun j => linked (dl p) (wl p) (8 * g + hl) s j.val) (s % dl p = (8 * g + hl) % dl p) j)
        * (v : EReal) * Ideal.exp (rLse σ (fun j => linked (dl p) (wl p) (8 * g + hl) s j.val) (s % dl p = (8 * g + hl) % dl p)
          - rLL fun p => rLse σ (fun j => linked (dl p) (wl p) (8 * g + hl) s j.val) (s % dl p = (8 * g + hl) % dl p)) := by
  have e := out_facts (fun j => V j.val hl d) hV v (fun p j => rA σ (fun j => linked (dl p) (wl p) (8 * g + hl) s j.val) j / ∑ j, rA σ (fun j => linked (dl p) (wl p) (8 * g + hl) s j.val) j)
    (fun p => (∑ j, rA σ (fun j => linked (dl p) (wl p) (8 * g + hl) s j.val) j) / ∑ j, wt σ (8 * g + hl) s j)
    (fun p j => div_nonneg (rA_nonneg ..) (Finset.sum_nonneg fun j _ => rA_nonneg ..))
    (fun p => div_nonneg (Finset.sum_nonneg fun j _ => rA_nonneg ..) (wt_pos s hs σ _).le)
  simp only [share s hs σ] at e
  have c := (comb s hs σ (8 * g + hl)).2
  simp only [c, (pat s hs σ (8 * g + hl) _).1]
  rw [e]
  unfold outOf
  rw [hv]
  refine congrArg (· * (v : EReal)) ?_
  simp only [(row_facts K Q cs g hl s hs σ hx).1]
  rw [sum_key s hs (8 * g + hl) (fun j => ((wt σ (8 * g + hl) s j / ∑ j, wt σ (8 * g + hl) s j : ℝ) : EReal) * V j.val hl d)
    fun j h => by rw [wt_zero s σ _ j h, zero_div, EReal.coe_zero, zero_mul]]
  exact Finset.sum_congr rfl fun j _ => mul_comm _ _

end

end Cert.Bridge

end
-- ==== Proof.Pre.lean ====
module

public import proofs.«01_k».proof.Proof.Gen.Pre_operands_valid
public import proofs.«01_k».proof.Proof.KernelIdeal.Spec
public import Idealize.ShloMosaic.Lib.Pointwise

@[expose] public section

/-! # What the precondition says at an element -/

set_option maxRecDepth 16384
set_option maxHeartbeats 1000000

noncomputable section

namespace Cert.Pre_operands_valid.Hand

open Cert.Pre_operands_valid Cert.Pre_operands_valid.Gen Cert.KernelIdeal.Hand
open Idealize.ShloMosaic

theorem and_one : ∀ x y : BitVec 1, IntOp.andi x y = 1#1 → x = 1#1 ∧ y = 1#1 := by decide

theorem code_ne : ∀ x : BitVec 8, IntOp.cmpi CmpIPredicate.ne (IntOp.andi (BitVec.setWidth 32 x) 127#32) 127#32 = 1#1 → x &&& 127#8 ≠ 127#8 := by decide +kernel

/-- A code decodes below infinity. -/
theorem dec_ne_top (x : BitVec 8) : dec x ≠ ⊤ := by
  unfold dec
  simp only [Ideal.ofBits, Ideal.e4m3fn]
  split_ifs
  all_goals first | exact EReal.coe_ne_top _ | exact bot_ne_top

theorem nan_code : ∀ x : BitVec 8, (BitVec.extractLsb' 3 4 x).toNat = 15 ∧ (BitVec.extractLsb' 0 3 x).toNat = 7 → x &&& 127#8 = 127#8 := by decide +kernel

/-- A code that is not NaN decodes to a real. -/
theorem dec_real (x : BitVec 8) (h : x &&& 127#8 ≠ 127#8) : ∃ r : ℝ, dec x = (r : EReal) := by
  unfold dec
  simp only [Ideal.ofBits, Ideal.e4m3fn]
  split_ifs with h1
  · exact absurd (nan_code x h1) h
  all_goals exact ⟨_, rfl⟩

theorem inf_top : (Ideal.ofBits FTy.f32 2139095040#32) = ⊤ := by
  simp [Ideal.ofBits, Ideal.ieee]

/-- A magnitude below infinity is a real's. -/
theorem abs_real (x : EReal) (h : FloatOps.cmpf (F := Ideal) CmpFPredicate.olt (φ := .f32) (FloatOps.hostAbsf (F := Ideal) (φ := .f32) x) (FloatOps.ofBits (F := Ideal) FTy.f32 2139095040#32) = 1#1) : ∃ r : ℝ, x = (r : EReal) := by
  have e : FloatOps.ofBits (F := Ideal) FTy.f32 2139095040#32 = (⊤ : EReal) := inf_top
  rw [e] at h
  induction x using EReal.rec with
  | coe r => exact ⟨r, rfl⟩
  | bot => exfalso; revert h; simp [FloatOps.cmpf, FloatOps.hostAbsf, Ideal.cmp]
  | top => exfalso; revert h; simp [FloatOps.cmpf, FloatOps.hostAbsf, Ideal.cmp]

variable (a0 a1 a2 : IVec S4x384x56x128 8) (a3 a4 a5 : FVec Ideal S4x56 .f32)

theorem at_elt (hp : fn (F := Ideal) a0 a1 a2 a3 a4 a5 = fun _ => 1#1) (b : Fin 4) (s : Fin 384) (h : Fin 56) (d : Fin 128) :
    ((∃ r : ℝ, dec (a0 (ix4 b s h d)) = (r : EReal)) ∧ ∃ r : ℝ, dec (a1 (ix4 b s h d)) = (r : EReal))
      ∧ ((∃ r : ℝ, a3 (ix2 b h) = (r : EReal)) ∧ ∃ r : ℝ, a4 (ix2 b h) = (r : EReal)) ∧ ∃ r : ℝ, a5 (ix2 b h) = (r : EReal) := by
  have e := congrFun hp (ix4 b s h d)
  simp only [fn, fn_part1, andi, cmpi, cmpf, Host.absf, extui, broadcastInDim, constantI, constant] at e
  obtain ⟨e1, e2⟩ := and_one _ _ e
  obtain ⟨c0, c1⟩ := and_one _ _ e1
  obtain ⟨e3, s5⟩ := and_one _ _ e2
  obtain ⟨s3, s4⟩ := and_one _ _ e3
  have ei : ∀ f : S4x56.Idx → EReal, ∀ i : S4x56.Idx, (i 0).val = b.val → (i 1).val = h.val → f i = f (ix2 b h) := fun f i h0 h1 =>
    congrArg f (funext fun a => by
      fin_cases a
      · exact Fin.ext h0
      · exact Fin.ext h1)
  refine ⟨⟨dec_real _ (code_ne _ c0), dec_real _ (code_ne _ c1)⟩, ⟨?_, ?_⟩, ?_⟩
  · obtain ⟨r, hr⟩ := abs_real _ s3; exact ⟨r, (ei a3 _ rfl rfl).symm.trans hr⟩
  · obtain ⟨r, hr⟩ := abs_real _ s4; exact ⟨r, (ei a4 _ rfl rfl).symm.trans hr⟩
  · obtain ⟨r, hr⟩ := abs_real _ s5; exact ⟨r, (ei a5 _ rfl rfl).symm.trans hr⟩

end Cert.Pre_operands_valid.Hand

end
-- ==== Proof.ReferenceIdeal.RefRun.lean ====
module

public import proofs.«01_k».proof.Proof.ReferenceIdeal.Ref
public import Idealize.ShloMosaic.Lib.Pipeline.FrameValue
public import Idealize.ShloMosaic.Lib.Pipeline.ValueKit

@[expose] public section

/-! # ReferenceIdeal: what the region leaves for the lines after it -/

set_option maxRecDepth 16384
set_option maxHeartbeats 1000000

noncomputable section

namespace Cert.ReferenceIdeal.Hand

open Cert.ReferenceIdeal Cert.ReferenceIdeal.Gen Cert.KernelIdeal.Hand
open Idealize.ShloMosaic Idealize.ShloMosaic.TcCoe Idealize.SL.Sem Idealize.ShloMosaic.Tactic

variable (m : (ℓ : Loc nD τ sig) → Buf (Elt Ideal) ℓ) (c : Dev nD)

/-- The contents after the region. -/
def W0 : Valuation τ sig (Elt Ideal) := Pipeline.withArrays (cfgs 0).spec c (V0 m c) fun w => (dats m 0 c).arrAt w (cfgs 0).N

theorem ix0 : ∀ t : Fin grid0.N, win0_0.index t = ![0, 0, 0, 0] := by decide +kernel
theorem ix1 : ∀ t : Fin grid0.N, win0_1.index t = ![0, 0, 0, 0] := by decide +kernel
theorem ix2 : ∀ t : Fin grid0.N, win0_2.index t = ![0, 0, 0, 0] := by decide +kernel
theorem ix3 : ∀ t : Fin grid0.N, win0_3.index t = ![0, 0, 0, 0] := by decide +kernel
theorem ix4 : ∀ t : Fin grid0.N, win0_4.index t = ![0, 0, 0, 0] := by decide +kernel
theorem ix5 : ∀ t : Fin grid0.N, win0_5.index t = ![0, 0, 0, 0] := by decide +kernel

theorem iblk0 (t : Fin cfg0.N) (y : S4x384x56x128.Idx) : iblk m c 0 t y = m ((c : Thread nD τ).loc main_arg0) y := by
  refine Eq.trans ?_ (congrFun (V_main_arg0 m c) y)
  show V m c main_arg0 ((win0_0.blk t).view.emb y) = _
  refine congrArg (V m c main_arg0) ?_
  blk_ext [ix0]

theorem arr3 : (dats m 0 c).arrAt 3 cfg0.N = (fun y : S4x384x56x128.Idx => dec (m ((c : Thread nD τ).loc main_arg0) y)) := by
  refine (dats m 0 c).arrAt_eq_of_covers 3 _ (by decide +kernel) fun t hf y => ?_
  blk_simp
  rw [after0_3]
  frame_out
  show dec (iblk m c 0 t y) = _
  rw [iblk0]
  refine congrArg (fun i => dec (m ((c : Thread nD τ).loc main_arg0) i)) ?_
  blk_ext [ix3]

theorem W_v0_0 : a_v0_0 (W0 m c) = fun y => dec (m ((c : Thread nD τ).loc main_arg0) y) := by
  unfold W0
  refine Eq.trans (Pipeline.withArrays_arr (cfgs 0).spec (by decide +kernel) c _ _ 3) ?_
  exact arr3 m c

theorem iblk1 (t : Fin cfg0.N) (y : S4x384x56x128.Idx) : iblk m c 1 t y = m ((c : Thread nD τ).loc main_arg1) y := by
  refine Eq.trans ?_ (congrFun (V_main_arg1 m c) y)
  show V m c main_arg1 ((win0_1.blk t).view.emb y) = _
  refine congrArg (V m c main_arg1) ?_
  blk_ext [ix1]

theorem arr4 : (dats m 0 c).arrAt 4 cfg0.N = (fun y : S4x384x56x128.Idx => dec (m ((c : Thread nD τ).loc main_arg1) y)) := by
  refine (dats m 0 c).arrAt_eq_of_covers 4 _ (by decide +kernel) fun t hf y => ?_
  blk_simp
  rw [after0_4]
  frame_out
  show dec (iblk m c 1 t y) = _
  rw [iblk1]
  refine congrArg (fun i => dec (m ((c : Thread nD τ).loc main_arg1) i)) ?_
  blk_ext [ix4]

theorem W_v0_1 : a_v0_1 (W0 m c) = fun y => dec (m ((c : Thread nD τ).loc main_arg1) y) := by
  unfold W0
  refine Eq.trans (Pipeline.withArrays_arr (cfgs 0).spec (by decide +kernel) c _ _ 4) ?_
  exact arr4 m c

theorem iblk2 (t : Fin cfg0.N) (y : S4x384x56x128.Idx) : iblk m c 2 t y = m ((c : Thread nD τ).loc main_arg2) y := by
  refine Eq.trans ?_ (congrFun (V_main_arg2 m c) y)
  show V m c main_arg2 ((win0_2.blk t).view.emb y) = _
  refine congrArg (V m c main_arg2) ?_
  blk_ext [ix2]

theorem arr5 : (dats m 0 c).arrAt 5 cfg0.N = (fun y : S4x384x56x128.Idx => dec (m ((c : Thread nD τ).loc main_arg2) y)) := by
  refine (dats m 0 c).arrAt_eq_of_covers 5 _ (by decide +kernel) fun t hf y => ?_
  blk_simp
  rw [after0_5]
  frame_out
  show dec (iblk m c 2 t y) = _
  rw [iblk2]
  refine congrArg (fun i => dec (m ((c : Thread nD τ).loc main_arg2) i)) ?_
  blk_ext [ix5]

theorem W_v0_2 : a_v0_2 (W0 m c) = fun y => dec (m ((c : Thread nD τ).loc main_arg2) y) := by
  unfold W0
  refine Eq.trans (Pipeline.withArrays_arr (cfgs 0).spec (by decide +kernel) c _ _ 5) ?_
  exact arr5 m c

theorem W_arg5 : a_arg5 (W0 m c) = m ((c : Thread nD τ).loc main_arg5) := by
  unfold a_arg5 W0
  rw [Pipeline.withArrays_of_ne _ c (V0 m c) _ main_arg5 (by exact (by decide : ∀ w, Pipeline.arrRef spec0 w ≠ main_arg5))]
  exact V_main_arg5 m c
theorem W_arg4 : a_arg4 (W0 m c) = m ((c : Thread nD τ).loc main_arg4) := by
  unfold a_arg4 W0
  rw [Pipeline.withArrays_of_ne _ c (V0 m c) _ main_arg4 (by exact (by decide : ∀ w, Pipeline.arrRef spec0 w ≠ main_arg4))]
  exact V_main_arg4 m c
theorem W_arg3 : a_arg3 (W0 m c) = m ((c : Thread nD τ).loc main_arg3) := by
  unfold a_arg3 W0
  rw [Pipeline.withArrays_of_ne _ c (V0 m c) _ main_arg3 (by exact (by decide : ∀ w, Pipeline.arrRef spec0 w ≠ main_arg3))]
  exact V_main_arg3 m c

theorem W_lits : Lits (W0 m c) where
  dil p := by
    unfold a_c W0
    rw [Pipeline.withArrays_of_ne _ c (V0 m c) _ main_c (by exact (by decide : ∀ w, Pipeline.arrRef spec0 w ≠ main_c))]
    simp only [V0, List.flatten_cons, List.flatten_nil, List.append_nil]
    after_reads_simp
    revert p; decide
  seg p := by
    unfold a_c_0 W0
    rw [Pipeline.withArrays_of_ne _ c (V0 m c) _ main_c_0 (by exact (by decide : ∀ w, Pipeline.arrRef spec0 w ≠ main_c_0))]
    simp only [V0, List.flatten_cons, List.flatten_nil, List.append_nil]
    after_reads_simp
    revert p; decide

theorem tail_run {r : PUnit × MemSt nD τ sig (Elt Ideal)}
    (h : Pipeline.FramePost cfgs (dats m) 0 (Pipeline.afterTail₀ cfgs (dats m) 0 (V0 m) [hostOps1, hostOps1_1, hostOps1_2, hostOps1_3, hostOps1_4, hostOps1_5, hostOps1_6, hostOps1_7, hostOps1_8]) r) :
    r.2.mem ((c : Thread nD τ).loc main_v75) = tail (W0 m c) (Proc.devRef .tc main_v75) ∧ r.2.mem ((c : Thread nD τ).loc main_v76) = tail (W0 m c) (Proc.devRef .tc main_v76) := by
  have e1 := (h c).2 main_v75 (Pipeline.mem_restRefs_of main_v75 (by decide) (by decide))
  have e2 := (h c).2 main_v76 (Pipeline.mem_restRefs_of main_v76 (by decide) (by decide))
  unfold Pipeline.afterTail₀ at e1 e2
  exact ⟨e1.trans (congrFun (tail_eq (W0 m c)) _), e2.trans (congrFun (tail_eq (W0 m c)) _)⟩

end Cert.ReferenceIdeal.Hand

end
-- ==== Proof.KernelIdeal.BodyTools.lean ====
/- Every piece that the body stores into the output block and into the log-sum-exp rows, told over the codes, the scales and the bias
   table; and the pieces cover both. -/
module

public import proofs.«01_k».proof.Proof.KernelIdeal.Spec

@[expose] public section

set_option maxRecDepth 16384

noncomputable section

namespace Cert.KernelIdeal.Hand

open Idealize.ShloMosaic Cert.KernelIdeal
open scoped BigOperators

/-! ## A tile's operands, assembled -/

/-- The two heads' rows side by side. -/
abbrev cat192 (A B : FVec Ideal S192x128 .fp8e4m3) : FVec Ideal S192x256 .fp8e4m3 :=
  concatenate S192x256 1 [⟨S192x128, A⟩, ⟨S192x128, B⟩] Gen.concatenates_S192x128_S192x128_S192x256_d1
/-- The two heads' cross rows side by side. -/
abbrev cat32 (A B : FVec Ideal S32x128 .fp8e4m3) : FVec Ideal S32x256 .fp8e4m3 :=
  concatenate S32x256 1 [⟨S32x128, A⟩, ⟨S32x128, B⟩] Gen.concatenates_S32x128_S32x128_S32x256_d1

theorem cat192_l (A B : FVec Ideal S192x128 .fp8e4m3) (κ : Fin 192) (d : Fin 128) : cat192 A B (ix2 κ ⟨d.val, by omega⟩) = A (ix2 κ d) := by
  unfold cat192
  pointwise
theorem cat192_r (A B : FVec Ideal S192x128 .fp8e4m3) (κ : Fin 192) (d : Fin 128) : cat192 A B (ix2 κ ⟨128 + d.val, by omega⟩) = B (ix2 κ d) := by
  unfold cat192
  pointwise
theorem cat32_l (A B : FVec Ideal S32x128 .fp8e4m3) (κ : Fin 32) (d : Fin 128) : cat32 A B (ix2 κ ⟨d.val, by omega⟩) = A (ix2 κ d) := by
  unfold cat32
  pointwise
theorem cat32_r (A B : FVec Ideal S32x128 .fp8e4m3) (κ : Fin 32) (d : Fin 128) : cat32 A B (ix2 κ ⟨128 + d.val, by omega⟩) = B (ix2 κ d) := by
  unfold cat32
  pointwise

/-- The first rows. -/
theorem slice_rows {α : Type} {N c n : ℕ} (X : (⟨2, ![N, c]⟩ : Shape).Idx → α) (hS : (⟨2, ![N, c]⟩ : Shape).Slices ![0, 0] ⟨2, ![n, c]⟩) (κ : Fin n) (hκ : κ.val < N) (j : Fin c) :
    extractStridedSlice ⟨2, ![n, c]⟩ ![0, 0] X hS (ix2 κ j) = X (ix2 ⟨κ.val, hκ⟩ j) := by
  rw [extractStridedSlice_apply (k := ix2 ⟨κ.val, hκ⟩ j)]
  intro a
  match a with
  | ⟨0, _⟩ => exact (Nat.zero_add _).symm
  | ⟨1, _⟩ => exact (Nat.zero_add _).symm

/-- Stacked rows. -/
theorem stack_rows {φ : FTy} {m n c : ℕ} (X : FVec Ideal ⟨2, ![32, c]⟩ φ) (Y : FVec Ideal ⟨2, ![m, c]⟩ φ)
    (hC : Shape.Concatenates [(⟨2, ![32, c]⟩ : Shape), ⟨2, ![m, c]⟩] ⟨2, ![n, c]⟩ 0) (κ : Fin n) (hn : n = 32 + m) (j : Fin c) :
    concatenate ⟨2, ![n, c]⟩ 0 [⟨⟨2, ![32, c]⟩, X⟩, ⟨⟨2, ![m, c]⟩, Y⟩] hC (ix2 κ j)
      = if h : κ.val < 32 then X (ix2 ⟨κ.val, h⟩ j) else Y (ix2 ⟨κ.val - 32, by omega⟩ j) := by
  pointwise
  split_ifs
  · congr 1; funext b; match b with | ⟨0, _⟩ => rfl | ⟨1, _⟩ => rfl
  · congr 1; funext b; match b with | ⟨0, _⟩ => rfl | ⟨1, _⟩ => rfl

section
variable {K Q : ℕ → ℕ → ℕ → EReal} {cs : ℕ → EReal} {g blk p n : ℕ}

theorem G10_own (k r l : ℕ) (blk κ : ℕ) (hk : k < 6) (hr : r < 480) (hl : l < 128) (hb : blk < 3) (hκ : κ < 64 * (blk + 1)) (e : r = 32 * (blk * (blk + 1)) + κ) :
    G10 (ix3 ⟨k, hk⟩ ⟨r, hr⟩ ⟨l, hl⟩) = oVal (2 * k + l / 64) (64 * blk + l % 64) κ := by
  subst e
  unfold G10
  show (if 32 * (blk * (blk + 1)) + κ < 64 then oVal (2 * k + l / 64) (l % 64) (32 * (blk * (blk + 1)) + κ) else if 32 * (blk * (blk + 1)) + κ < 192 then oVal (2 * k + l / 64) (64 + l % 64) (32 * (blk * (blk + 1)) + κ - 64)
    else if 32 * (blk * (blk + 1)) + κ < 384 then oVal (2 * k + l / 64) (128 + l % 64) (32 * (blk * (blk + 1)) + κ - 192) else _) = _
  obtain rfl | rfl | rfl : blk = 0 ∨ blk = 1 ∨ blk = 2 := by omega
  · rw [if_pos (by omega)]; congr 1 <;> omega
  · rw [if_neg (by omega), if_pos (by omega)]; congr 1; omega
  · rw [if_neg (by omega), if_neg (by omega), if_pos (by omega)]; congr 1; omega
theorem G10_cross (k r l : ℕ) (blk κ : ℕ) (hk : k < 6) (hr : r < 480) (hl : l < 128) (hb : blk < 3) (hκ : κ < 32) (e : r = 384 + 32 * blk + κ) :
    G10 (ix3 ⟨k, hk⟩ ⟨r, hr⟩ ⟨l, hl⟩) = xVal (2 * k + l / 64) (64 * blk + l % 64) κ := by
  subst e
  unfold G10
  show (if 384 + 32 * blk + κ < 64 then _ else if 384 + 32 * blk + κ < 192 then _ else if 384 + 32 * blk + κ < 384 then _
    else xVal (2 * k + l / 64) (64 * ((384 + 32 * blk + κ - 384) / 32) + l % 64) ((384 + 32 * blk + κ - 384) % 32)) = _
  rw [if_neg (by omega), if_neg (by omega), if_neg (by omega)]; congr 1 <;> omega

theorem mk0 {h : TileOk n} (hn : n = 64 * (blk + 1)) (hb : blk < 3) (A B : FVec Ideal S192x128 .fp8e4m3)
    {keys : FVec Ideal ⟨2, ![n, 256]⟩ .fp8e4m3} {qa qb : FVec Ideal S64x128 .fp8e4m3} {cvec : FVec Ideal S1x128 .f32} {bias : FVec Ideal ⟨2, ![n, 128]⟩ .f32}
    (hkeys : ∀ (κ : Fin n) (j : Fin 256) (hκ : κ.val < 192), keys (ix2 κ j) = cat192 A B (ix2 ⟨κ.val, hκ⟩ j))
    (hA : ∀ (κ : Fin 192) (d : Fin 128), A (ix2 κ d) = K κ.val (2 * p) d.val) (hB : ∀ (κ : Fin 192) (d : Fin 128), B (ix2 κ d) = K κ.val (2 * p + 1) d.val)
    (hqa : ∀ (r : Fin 64) (d : Fin 128), qa (ix2 r d) = Q (64 * blk + r.val) (2 * p) d.val)
    (hqb : ∀ (r : Fin 64) (d : Fin 128), qb (ix2 r d) = Q (64 * blk + r.val) (2 * p + 1) d.val)
    (hca : ∀ l : Fin 128, l.val < 64 → cvec (ix2 0 l) = cs (2 * p)) (hcb : ∀ l : Fin 128, ¬ l.val < 64 → cvec (ix2 0 l) = cs (2 * p + 1))
    (hbi : ∀ (κ : Fin n) (l : Fin 128) (hk : (4 * g + p) % 6 < 6) (hr : 32 * (blk * (blk + 1)) + κ.val < 480),
      bias (ix2 κ l) = G10 (ix3 ⟨(4 * g + p) % 6, hk⟩ ⟨32 * (blk * (blk + 1)) + κ.val, hr⟩ l)) :
    TileIn K Q cs g 0 blk p n h keys qa qb cvec bias where
  hn := by unfold nOf; omega
  hseg := by decide
  hblk := hb
  hka κ d := by
    have := κ.isLt
    rw [hkeys κ _ (by omega), cat192_l, hA]; rfl
  hkb κ d := by
    have := κ.isLt
    rw [hkeys κ _ (by omega), cat192_r, hB]; rfl
  hqa r d := by rw [hqa]; congr 1; omega
  hqb r d := by rw [hqb]; congr 1; omega
  hca := hca
  hcb := hcb
  hbi κ l := by
    have := κ.isLt
    have hq : 32 * (blk * (blk + 1)) + κ.val < 480 := by
      obtain rfl | rfl | rfl : blk = 0 ∨ blk = 1 ∨ blk = 2 := by omega
      all_goals omega
    rw [hbi κ l (Nat.mod_lt _ (by decide)) hq, G10_own _ _ l.val blk κ.val _ _ l.isLt hb (by omega) rfl]
    unfold biasOf
    rw [if_pos rfl]
    have hl := l.isLt
    congr 1
    omega

theorem mk1 {h : TileOk n} {m : ℕ} (hm : m = 64 * (blk + 1)) (hn : n = 32 + m) (hb : blk < 3) (A B : FVec Ideal S192x128 .fp8e4m3) (XA XB : FVec Ideal S32x128 .fp8e4m3)
    {own : FVec Ideal ⟨2, ![m, 256]⟩ .fp8e4m3} {qa qb : FVec Ideal S64x128 .fp8e4m3} {cvec : FVec Ideal S1x128 .f32}
    {bo : FVec Ideal ⟨2, ![m, 128]⟩ .f32} {bx : FVec Ideal ⟨2, ![32, 128]⟩ .f32}
    (hC : Shape.Concatenates [(⟨2, ![32, 256]⟩ : Shape), ⟨2, ![m, 256]⟩] ⟨2, ![n, 256]⟩ 0)
    (hCb : Shape.Concatenates [(⟨2, ![32, 128]⟩ : Shape), ⟨2, ![m, 128]⟩] ⟨2, ![n, 128]⟩ 0)
    (hkeys : ∀ (κ : Fin m) (j : Fin 256) (hκ : κ.val < 192), own (ix2 κ j) = cat192 A B (ix2 ⟨κ.val, hκ⟩ j))
    (hA : ∀ (κ : Fin 192) (d : Fin 128), A (ix2 κ d) = K (192 + κ.val) (2 * p) d.val) (hB : ∀ (κ : Fin 192) (d : Fin 128), B (ix2 κ d) = K (192 + κ.val) (2 * p + 1) d.val)
    (hXA : ∀ (κ : Fin 32) (d : Fin 128), XA (ix2 κ d) = K (6 * κ.val + (8 * g + 2 * p) % 6) (2 * p) d.val)
    (hXB : ∀ (κ : Fin 32) (d : Fin 128), XB (ix2 κ d) = K (6 * κ.val + (8 * g + (2 * p + 1)) % 6) (2 * p + 1) d.val)
    (hqa : ∀ (r : Fin 64) (d : Fin 128), qa (ix2 r d) = Q (192 + 64 * blk + r.val) (2 * p) d.val)
    (hqb : ∀ (r : Fin 64) (d : Fin 128), qb (ix2 r d) = Q (192 + 64 * blk + r.val) (2 * p + 1) d.val)
    (hca : ∀ l : Fin 128, l.val < 64 → cvec (ix2 0 l) = cs (2 * p)) (hcb : ∀ l : Fin 128, ¬ l.val < 64 → cvec (ix2 0 l) = cs (2 * p + 1))
    (hbi : ∀ (κ : Fin m) (l : Fin 128) (hk : (4 * g + p) % 6 < 6) (hr : 32 * (blk * (blk + 1)) + κ.val < 480),
      bo (ix2 κ l) = G10 (ix3 ⟨(4 * g + p) % 6, hk⟩ ⟨32 * (blk * (blk + 1)) + κ.val, hr⟩ l))
    (hbx : ∀ (κ : Fin 32) (l : Fin 128) (hk : (4 * g + p) % 6 < 6) (hr : 384 + 32 * blk + κ.val < 480),
      bx (ix2 κ l) = G10 (ix3 ⟨(4 * g + p) % 6, hk⟩ ⟨384 + 32 * blk + κ.val, hr⟩ l)) :
    TileIn K Q cs g 1 blk p n h (concatenate ⟨2, ![n, 256]⟩ 0 [⟨⟨2, ![32, 256]⟩, cat32 XA XB⟩, ⟨⟨2, ![m, 256]⟩, own⟩] hC) qa qb cvec
      (concatenate ⟨2, ![n, 128]⟩ 0 [⟨⟨2, ![32, 128]⟩, bx⟩, ⟨⟨2, ![m, 128]⟩, bo⟩] hCb) where
  hn := by unfold nOf; omega
  hseg := by decide
  hblk := hb
  hka κ d := by
    have := κ.isLt
    rw [stack_rows _ _ hC κ hn]
    unfold keyOf
    rw [if_neg (by decide)]
    split
    · rename_i hlt; exact (cat32_l _ _ _ d).trans (hXA _ _)
    · rw [hkeys _ _ (by show κ.val - 32 < 192; omega), cat192_l, hA]
  hkb κ d := by
    have := κ.isLt
    rw [stack_rows _ _ hC κ hn]
    unfold keyOf
    rw [if_neg (by decide)]
    split
    · rename_i hlt; exact (cat32_r _ _ _ d).trans (hXB _ _)
    · rw [hkeys _ _ (by show κ.val - 32 < 192; omega), cat192_r, hB]
  hqa r d := by rw [hqa]
  hqb r d := by rw [hqb]
  hca := hca
  hcb := hcb
  hbi κ l := by
    have := κ.isLt
    have hl := l.isLt
    rw [stack_rows _ _ hCb κ hn]
    unfold biasOf
    rw [if_neg (by decide)]
    split
    · rw [hbx _ l (Nat.mod_lt _ (by decide)) (by show 384 + 32 * blk + κ.val < 480; omega), G10_cross _ _ l.val blk κ.val _ _ l.isLt hb (by omega) rfl]
      congr 1
      omega
    · have hq : 32 * (blk * (blk + 1)) + (κ.val - 32) < 480 := by
        obtain rfl | rfl | rfl : blk = 0 ∨ blk = 1 ∨ blk = 2 := by omega
        all_goals omega
      rw [hbi _ l (Nat.mod_lt _ (by decide)) hq, G10_own _ _ l.val blk (κ.val - 32) _ _ l.isLt hb (by omega) rfl]
      congr 1
      omega
end

/-! ## The scales -/

/-- A scale of batch `b` and head `h`. -/
def scal (a : Memref sig .tc .smem S4x56 .f32) (f : BufTy.Contents (Elt Ideal) a.view.ty) (b h : ℕ) : EReal :=
  if hh : b < 4 ∧ h < 56 then a.view.read (Elt Ideal) f (ix2 ⟨b, hh.1⟩ ⟨h, hh.2⟩) else 0

theorem scal_ld (a : Memref sig .tc .smem S4x56 .f32) (f : BufTy.Contents (Elt Ideal) a.view.ty) (b h : ℕ) (hb : b < 4) (hh : h < 56) (off : Fin 2 → ℕ) (ho : off = ![b, h]) (inb) (h1) :
    View.readAt (Elt Ideal) a.view (Rect.unit (s := S4x56) off S1x1.size inb).toLoadRect f (Shape.Idx.first h1) = scal a f b h := by
  unfold scal
  rw [dif_pos ⟨hb, hh⟩]
  show a.view.read (Elt Ideal) f ((Rect.unit (s := S4x56) off S1x1.size inb).emb _) = _
  congr 1
  funext x
  match x with
  | ⟨0, _⟩ => refine Fin.ext ?_; show off 0 + 1 * 0 = b; rw [ho]; rfl
  | ⟨1, _⟩ => refine Fin.ext ?_; show off 1 + 1 * 0 = h; rw [ho]; rfl

/-- The lanes' scales of the scores. -/
def cvecOf (q1 k1 q2 k2 : EReal) : FVec Ideal S1x128 .f32 :=
  select (cmpi .slt bodyRun.sl.v5482 bodyRun.sl.v5483)
    (broadcast S1x128 (Scalar.mulf (F := Ideal) (φ := .f32) (Scalar.mulf (F := Ideal) (φ := .f32) (Scalar.mulf (F := Ideal) (φ := .f32) q1 k1) (FloatOps.ofBits (F := Ideal) .f32 1035273459#32)) (Named.named (F := Ideal) (φ := .f32) κ "log2_e" 1069066811#32)))
    (broadcast S1x128 (Scalar.mulf (F := Ideal) (φ := .f32) (Scalar.mulf (F := Ideal) (φ := .f32) (Scalar.mulf (F := Ideal) (φ := .f32) q2 k2) (FloatOps.ofBits (F := Ideal) .f32 1035273459#32)) (Named.named (F := Ideal) (φ := .f32) κ "log2_e" 1069066811#32)))

/-- The scale of a head's scores. -/
def csOf (q k : EReal) : EReal := q * k * Ideal.ofBits .f32 1035273459#32 * ((Real.log 2)⁻¹ : ℝ)

theorem lane_lt : ∀ l : Fin 128, IntOp.cmpi .slt (BitVec.ofNat 32 (0 * 128 + l.val)) 64#32 = BitVec.ofBool (decide (l.val < 64)) := by decide +kernel

theorem cvec_a (q1 k1 q2 k2 : EReal) (l : Fin 128) (h : l.val < 64) : cvecOf q1 k1 q2 k2 (ix2 0 l) = csOf q1 k1 := by
  show Scalar.select (IntOp.cmpi .slt (BitVec.ofNat 32 (0 * 128 + l.val)) 64#32) _ _ = _
  rw [lane_lt, select_val, if_pos h]; rfl
theorem cvec_b (q1 k1 q2 k2 : EReal) (l : Fin 128) (h : ¬ l.val < 64) : cvecOf q1 k1 q2 k2 (ix2 0 l) = csOf q2 k2 := by
  show Scalar.select (IntOp.cmpi .slt (BitVec.ofNat 32 (0 * 128 + l.val)) 64#32) _ _ = _
  rw [lane_lt, select_val, if_neg h]; rfl

theorem ok64 : TileOk 64 := ⟨by decide, by decide, by decide, by decide, by decide⟩
theorem ok128 : TileOk 128 := ⟨by decide, by decide, by decide, by decide, by decide⟩
theorem ok192 : TileOk 192 := ⟨by decide, by decide, by decide, by decide, by decide⟩
theorem ok96 : TileOk 96 := ⟨by decide, by decide, by decide, by decide, by decide⟩
theorem ok160 : TileOk 160 := ⟨by decide, by decide, by decide, by decide, by decide⟩
theorem ok224 : TileOk 224 := ⟨by decide, by decide, by decide, by decide, by decide⟩

section
variable (i : grid0.Coords) (arg2 arg3 arg4 : Memref sig .tc .smem S4x56 .f32) (arg5 arg6 arg7 : Memref sig .tc .vmem S1x384x1x8x128 .i8)
  (arg10 : Memref sig .tc .vmem S6x480x128 .f32) (arg11 : Memref sig .tc .vmem S3x8x96x128 .i32) (arg12 : Memref sig .tc .vmem S2x8x8x128 .i32) (arg14 : Memref sig .tc .vmem S768x128 .i32)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty) (f7 : BufTy.Contents (Elt Ideal) arg7.view.ty)
  (f10' : BufTy.Contents (Elt Ideal) arg10.view.ty)

/-- The decoded codes of a block. -/
abbrev codeOf (a : Memref sig .tc .vmem S1x384x1x8x128 .i8) (f : BufTy.Contents (Elt Ideal) a.view.ty) : ℕ → ℕ → ℕ → EReal :=
  fun s hl d => dec (byteAt (blockOf a f) s hl d)
/-- The scales of the scores of the point's heads. -/
abbrev csAt (hl : ℕ) : EReal := csOf (scal arg2 f2 (i 0).val (8 * (i 1).val + hl)) (scal arg3 f3 (i 0).val (8 * (i 1).val + hl))
/-- The scales of the values of the point's heads. -/
abbrev vsAt (hl : ℕ) : EReal := scal arg4 f4 (i 0).val (8 * (i 1).val + hl)

/-- A load of 192 code rows. -/
abbrev ldc192 (t hl r0 : ℕ) (inb : ∀ a, (![t, hl, r0, 0] : Fin 4 → ℕ) a + S1x1x48x128.size a ≤ S3x8x96x128.size a) : FVec Ideal S192x128 .fp8e4m3 :=
  bitcastToFloat (F := Ideal) .fp8e4m3 (bitcast S192x128 8 (shapeCast S48x128
    (arg11.view.readCov (Val := Elt Ideal) (bodyRun.sl.H11_288 (F := Ideal) arg5 arg6 arg7 arg14 f5 f6 f7) (Rect.unit (s := S3x8x96x128) ![t, hl, r0, 0] S1x1x48x128.size inb).toLoadRect)
    Gen.shapeCasts_S1x1x48x128_S48x128) Gen.bitcasts_S48x128_w32_S192x128_w8)
/-- A load of 64 code rows. -/
abbrev ldc64 (t hl r0 : ℕ) (inb : ∀ a, (![t, hl, r0, 0] : Fin 4 → ℕ) a + S1x1x16x128.size a ≤ S3x8x96x128.size a) : FVec Ideal S64x128 .fp8e4m3 :=
  bitcastToFloat (F := Ideal) .fp8e4m3 (bitcast S64x128 8 (shapeCast S16x128
    (arg11.view.readCov (Val := Elt Ideal) (bodyRun.sl.H11_288 (F := Ideal) arg5 arg6 arg7 arg14 f5 f6 f7) (Rect.unit (s := S3x8x96x128) ![t, hl, r0, 0] S1x1x16x128.size inb).toLoadRect)
    Gen.shapeCasts_S1x1x16x128_S16x128) Gen.bitcasts_S16x128_w32_S64x128_w8)
/-- A load of 32 cross rows. -/
abbrev ldc32 (t hl : ℕ) (inb : ∀ a, (![t, hl, 0, 0] : Fin 4 → ℕ) a + S1x1x8x128.size a ≤ S2x8x8x128.size a) : FVec Ideal S32x128 .fp8e4m3 :=
  bitcastToFloat (F := Ideal) .fp8e4m3 (bitcast S32x128 8 (shapeCast S8x128
    (arg12.view.readCov (Val := Elt Ideal) (bodyRun.sl.H12_16 (F := Ideal) i arg5 arg6 arg7 arg14 f5 f6 f7) (Rect.unit (s := S2x8x8x128) ![t, hl, 0, 0] S1x1x8x128.size inb).toLoadRect)
    Gen.shapeCasts_S1x1x8x128_S8x128) Gen.bitcasts_S8x128_w32_S32x128_w8)

theorem ldc192_q (hl r0) (inb) (κ : Fin 192) (d : Fin 128) : ldc192 arg5 arg6 arg7 arg11 arg14 f5 f6 f7 0 hl r0 inb (ix2 κ d) = codeOf arg5 f5 (4 * r0 + κ.val) hl d.val :=
  ld11 _ _ _ arg11.view _ (fun y => codes_read arg5 arg6 arg7 arg14 f5 f6 f7 y _) 0 hl r0 _ rfl inb _ _ κ d (by omega) _ rfl
theorem ldc192_k (hl r0) (inb) (κ : Fin 192) (d : Fin 128) : ldc192 arg5 arg6 arg7 arg11 arg14 f5 f6 f7 1 hl r0 inb (ix2 κ d) = codeOf arg6 f6 (4 * r0 + κ.val) hl d.val :=
  ld11 _ _ _ arg11.view _ (fun y => codes_read arg5 arg6 arg7 arg14 f5 f6 f7 y _) 1 hl r0 _ rfl inb _ _ κ d (by omega) _ rfl
theorem ldc192_v (hl r0) (inb) (κ : Fin 192) (d : Fin 128) : ldc192 arg5 arg6 arg7 arg11 arg14 f5 f6 f7 2 hl r0 inb (ix2 κ d) = codeOf arg7 f7 (4 * r0 + κ.val) hl d.val :=
  ld11 _ _ _ arg11.view _ (fun y => codes_read arg5 arg6 arg7 arg14 f5 f6 f7 y _) 2 hl r0 _ rfl inb _ _ κ d (by omega) _ rfl
theorem ldc64_q (hl r0) (inb) (κ : Fin 64) (d : Fin 128) : ldc64 arg5 arg6 arg7 arg11 arg14 f5 f6 f7 0 hl r0 inb (ix2 κ d) = codeOf arg5 f5 (4 * r0 + κ.val) hl d.val :=
  ld11 _ _ _ arg11.view _ (fun y => codes_read arg5 arg6 arg7 arg14 f5 f6 f7 y _) 0 hl r0 _ rfl inb _ _ κ d (by omega) _ rfl
theorem ldc32_k (hl) (inb) (κ : Fin 32) (d : Fin 128) : ldc32 i arg5 arg6 arg7 arg12 arg14 f5 f6 f7 0 hl inb (ix2 κ d) = codeOf arg6 f6 (6 * κ.val + (8 * (i 1).val + hl) % 6) hl d.val :=
  ld12 _ _ _ arg12.view _ (fun y => cross_read i arg5 arg6 arg7 arg14 f5 f6 f7 y _) 0 hl _ rfl inb _ _ κ d (by omega) _ rfl
theorem ldc32_v (hl) (inb) (κ : Fin 32) (d : Fin 128) : ldc32 i arg5 arg6 arg7 arg12 arg14 f5 f6 f7 1 hl inb (ix2 κ d) = codeOf arg7 f7 (6 * κ.val + (8 * (i 1).val + hl) % 6) hl d.val :=
  ld12 _ _ _ arg12.view _ (fun y => cross_read i arg5 arg6 arg7 arg14 f5 f6 f7 y _) 1 hl _ rfl inb _ _ κ d (by omega) _ rfl

/-- A load of bias rows. -/
abbrev bLd (n : ℕ) (off : Fin 3 → ℕ) (inb : ∀ a, off a + (![1, n, 128] : Fin 3 → ℕ) a ≤ S6x480x128.size a) (hc : (⟨3, ![1, n, 128]⟩ : Shape).ShapeCasts ⟨2, ![n, 128]⟩) : FVec Ideal ⟨2, ![n, 128]⟩ .f32 :=
  shapeCast ⟨2, ![n, 128]⟩ (arg10.view.readAt (Elt Ideal) (Rect.unit (s := S6x480x128) off ![1, n, 128] inb).toLoadRect f10') hc

theorem i0_lt : (i 0).val < 4 := (i 0).isLt
theorem i1_lt' : (i 1).val < 7 := (i 1).isLt

end

end Cert.KernelIdeal.Hand

end
-- ==== Proof.KernelIdeal.BodyTiles0.lean ====
module

public import proofs.«01_k».proof.Proof.KernelIdeal.BodyTools

@[expose] public section

/-! # KernelIdeal: tiles 0 to 5 of the body

What each tile's operands hold and what its two stored results are. -/

set_option maxRecDepth 16384
set_option maxHeartbeats 4000000

noncomputable section

namespace Cert.KernelIdeal.Hand

open Idealize.ShloMosaic Cert.KernelIdeal
open scoped BigOperators

section
variable (i : grid0.Coords) (arg2 arg3 arg4 : Memref sig .tc .smem S4x56 .f32) (arg5 arg6 arg7 : Memref sig .tc .vmem S1x384x1x8x128 .i8)
  (arg10 : Memref sig .tc .vmem S6x480x128 .f32) (arg11 : Memref sig .tc .vmem S3x8x96x128 .i32) (arg12 : Memref sig .tc .vmem S2x8x8x128 .i32) (arg14 : Memref sig .tc .vmem S768x128 .i32)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty) (f7 : BufTy.Contents (Elt Ideal) arg7.view.ty)
  (f10' : BufTy.Contents (Elt Ideal) arg10.view.ty)

variable (hf : ∀ y, arg10.view.read (Elt Ideal) f10' y = G10 y)
/-- The keys of tile 0, -/
def keys0 : FVec Ideal ⟨2, ![64, 256]⟩ .fp8e4m3 := (extractStridedSlice S64x256 ![0, 0] (cat192 (ldc192 arg5 arg6 arg7 arg11 arg14 f5 f6 f7 1 0 0 (by decide)) (ldc192 arg5 arg6 arg7 arg11 arg14 f5 f6 f7 1 1 0 (by decide))) Gen.slices_S192x256_o0_0_S64x256)
/-- its first and -/
def qa0 : FVec Ideal S64x128 .fp8e4m3 := (ldc64 arg5 arg6 arg7 arg11 arg14 f5 f6 f7 0 0 0 (by decide))
/-- its second queries, -/
def qb0 : FVec Ideal S64x128 .fp8e4m3 := (ldc64 arg5 arg6 arg7 arg11 arg14 f5 f6 f7 0 1 0 (by decide))
/-- its scales, -/
def cv0 : FVec Ideal S1x128 .f32 := (cvecOf (View.readAt (Elt Ideal) arg2.view (Rect.unit (s := S4x56) (k0_off62 i 0#32 0#32) S1x1.size (Gen.k0_off62_inb i 0 0)).toLoadRect f2 (Shape.Idx.first (show 0 < S1x1.numel by decide))) (View.readAt (Elt Ideal) arg3.view (Rect.unit (s := S4x56) (k0_off62 i 0#32 0#32) S1x1.size (Gen.k0_off62_inb i 0 0)).toLoadRect f3 (Shape.Idx.first (show 0 < S1x1.numel by decide))) (View.readAt (Elt Ideal) arg2.view (Rect.unit (s := S4x56) (k0_off62 i 0#32 1#32) S1x1.size (Gen.k0_off62_inb i 0 1)).toLoadRect f2 (Shape.Idx.first (show 0 < S1x1.numel by decide))) (View.readAt (Elt Ideal) arg3.view (Rect.unit (s := S4x56) (k0_off62 i 0#32 1#32) S1x1.size (Gen.k0_off62_inb i 0 1)).toLoadRect f3 (Shape.Idx.first (show 0 < S1x1.numel by decide))))
/-- its bias, -/
def bi0 : FVec Ideal ⟨2, ![64, 128]⟩ .f32 := (bLd arg10 f10' 64 (k0_off63 i 0#32) (Gen.k0_off63_inb i 0) (by decide))
/-- its first and -/
def va0 : FVec Ideal ⟨2, ![64, 128]⟩ .fp8e4m3 := (extractStridedSlice S64x128 ![0, 0] (ldc192 arg5 arg6 arg7 arg11 arg14 f5 f6 f7 2 0 0 (by decide)) Gen.slices_S192x128_o0_0_S64x128)
/-- its second values. -/
def vb0 : FVec Ideal ⟨2, ![64, 128]⟩ .fp8e4m3 := (extractStridedSlice S64x128 ![0, 0] (ldc192 arg5 arg6 arg7 arg11 arg14 f5 f6 f7 2 1 0 (by decide)) Gen.slices_S192x128_o0_0_S64x128)

include hf in
theorem tin0 : TileIn (codeOf arg6 f6) (codeOf arg5 f5) (csAt i arg2 arg3 f2 f3) (i 1).val 0 0 0 64 ok64 (keys0 arg5 arg6 arg7 arg11 arg14 f5 f6 f7) (qa0 arg5 arg6 arg7 arg11 arg14 f5 f6 f7) (qb0 arg5 arg6 arg7 arg11 arg14 f5 f6 f7) (cv0 i arg2 arg3 f2 f3) (bi0 i arg10 f10') :=
  mk0 (K := codeOf arg6 f6) (Q := codeOf arg5 f5) (cs := csAt i arg2 arg3 f2 f3) (g := (i 1).val) (p := 0) (by decide) (by decide) (ldc192 arg5 arg6 arg7 arg11 arg14 f5 f6 f7 1 0 0 (by decide)) (ldc192 arg5 arg6 arg7 arg11 arg14 f5 f6 f7 1 1 0 (by decide)) (fun κ j hκ => slice_rows _ _ κ hκ j) (fun κ d => (ldc192_k arg5 arg6 arg7 arg11 arg14 f5 f6 f7 (2 * 0) 0 _ κ d).trans (congrArg (fun s => codeOf arg6 f6 s (2 * 0) d.val) (by omega))) (fun κ d => (ldc192_k arg5 arg6 arg7 arg11 arg14 f5 f6 f7 (2 * 0 + 1) 0 _ κ d).trans (congrArg (fun s => codeOf arg6 f6 s (2 * 0 + 1) d.val) (by omega))) (fun κ d => (ldc64_q arg5 arg6 arg7 arg11 arg14 f5 f6 f7 (2 * 0) 0 _ κ d).trans (congrArg (fun s => codeOf arg5 f5 s (2 * 0) d.val) (by omega))) (fun κ d => (ldc64_q arg5 arg6 arg7 arg11 arg14 f5 f6 f7 (2 * 0 + 1) 0 _ κ d).trans (congrArg (fun s => codeOf arg5 f5 s (2 * 0 + 1) d.val) (by omega))) (fun l hl => (cvec_a _ _ _ _ l hl).trans (congrArg₂ csOf (scal_ld arg2 f2 (i 0).val (8 * (i 1).val + 2 * 0) (i0_lt i) (by have := i1_lt' i; omega) _ ((by decide +kernel : ∀ i : grid0.Coords, k0_off62 i 0#32 0#32 = ![(i 0).val, 8 * (i 1).val + 2 * 0]) i) _ _) (scal_ld arg3 f3 (i 0).val (8 * (i 1).val + 2 * 0) (i0_lt i) (by have := i1_lt' i; omega) _ ((by decide +kernel : ∀ i : grid0.Coords, k0_off62 i 0#32 0#32 = ![(i 0).val, 8 * (i 1).val + 2 * 0]) i) _ _))) (fun l hl => (cvec_b _ _ _ _ l hl).trans (congrArg₂ csOf (scal_ld arg2 f2 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) (scal_ld arg3 f3 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _))) (fun κ l hk hr => ldB arg10.view f10' hf _ _ hk _ ((by decide +kernel : ∀ i : grid0.Coords, k0_off63 i 0#32 = ![(4 * (i 1).val + 0) % 6, 32 * (0 * (0 + 1)), 0]) i) _ _ κ l hr)

theorem hva0 : ∀ (κ : Fin 64) (d : Fin 128), (va0 arg5 arg6 arg7 arg11 arg14 f5 f6 f7) (ix2 κ d) = codeOf arg7 f7 (keyOf 0 (8 * (i 1).val + (2 * 0)) κ.val) (2 * 0) d.val :=
  fun κ d => (slice_rows _ _ κ (by omega) d).trans ((ldc192_v arg5 arg6 arg7 arg11 arg14 f5 f6 f7 (2 * 0) 0 _ _ d).trans (congrArg (fun s => codeOf arg7 f7 s (2 * 0) d.val) (Nat.zero_add _)))

theorem hvb0 : ∀ (κ : Fin 64) (d : Fin 128), (vb0 arg5 arg6 arg7 arg11 arg14 f5 f6 f7) (ix2 κ d) = codeOf arg7 f7 (keyOf 0 (8 * (i 1).val + (2 * 0 + 1)) κ.val) (2 * 0 + 1) d.val :=
  fun κ d => (slice_rows _ _ κ (by omega) d).trans ((ldc192_v arg5 arg6 arg7 arg11 arg14 f5 f6 f7 (2 * 0 + 1) 0 _ _ d).trans (congrArg (fun s => codeOf arg7 f7 s (2 * 0 + 1) d.val) (Nat.zero_add _)))

include hf in
theorem h8_1 : ∀ q ∈ bodyRun.sl.H8_1 (F := Ideal) i arg2 arg3 arg4 arg5 arg6 arg7 arg10 arg11 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin0 i arg2 arg3 arg5 arg6 arg7 arg10 arg11 arg14 f2 f3 f5 f6 f7 f10' hf).out (V := codeOf arg7 f7) (vs := vsAt i arg4 f4) (va0 arg5 arg6 arg7 arg11 arg14 f5 f6 f7) (vb0 arg5 arg6 arg7 arg11 arg14 f5 f6 f7)
      _ _ (hva0 i arg5 arg6 arg7 arg11 arg14 f5 f6 f7) (hvb0 i arg5 arg6 arg7 arg11 arg14 f5 f6 f7) (scal_ld arg4 f4 (i 0).val (8 * (i 1).val + 2 * 0) (i0_lt i) (by have := i1_lt' i; omega) _ ((by decide +kernel : ∀ i : grid0.Coords, k0_off64 i 0#32 = ![(i 0).val, 8 * (i 1).val + 2 * 0]) i) _ _) (scal_ld arg4 f4 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) ![0, 0, 0] rfl (by decide) x,
    fun _ h => absurd h List.not_mem_nil⟩

include hf in
theorem h13_2 : ∀ q ∈ bodyRun.sl.H13_2 (F := Ideal) i arg2 arg3 arg5 arg6 arg7 arg10 arg11 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin0 i arg2 arg3 arg5 arg6 arg7 arg10 arg11 arg14 f2 f3 f5 f6 f7 f10' hf).lseB (k0_off66 i) ((by decide +kernel : ∀ i : grid0.Coords, k0_off66 i = ![(i 1).val, 2 * 0 + 1, 192 * 0 + 64 * 0]) i) (Gen.k0_off66_inb i) x,
    List.forall_mem_cons.2 ⟨fun x => (tin0 i arg2 arg3 arg5 arg6 arg7 arg10 arg11 arg14 f2 f3 f5 f6 f7 f10' hf).lseA (k0_off65 i) ((by decide +kernel : ∀ i : grid0.Coords, k0_off65 i = ![(i 1).val, 2 * 0, 192 * 0 + 64 * 0]) i) (Gen.k0_off65_inb i) x,
    fun _ h => absurd h List.not_mem_nil⟩⟩

/-- The keys of tile 1, -/
def keys1 : FVec Ideal ⟨2, ![128, 256]⟩ .fp8e4m3 := (extractStridedSlice S128x256 ![0, 0] (cat192 (ldc192 arg5 arg6 arg7 arg11 arg14 f5 f6 f7 1 0 0 (by decide)) (ldc192 arg5 arg6 arg7 arg11 arg14 f5 f6 f7 1 1 0 (by decide))) Gen.slices_S192x256_o0_0_S128x256)
/-- its first and -/
def qa1 : FVec Ideal S64x128 .fp8e4m3 := (ldc64 arg5 arg6 arg7 arg11 arg14 f5 f6 f7 0 0 16 (by decide))
/-- its second queries, -/
def qb1 : FVec Ideal S64x128 .fp8e4m3 := (ldc64 arg5 arg6 arg7 arg11 arg14 f5 f6 f7 0 1 16 (by decide))
/-- its scales, -/
def cv1 : FVec Ideal S1x128 .f32 := (cvecOf (View.readAt (Elt Ideal) arg2.view (Rect.unit (s := S4x56) (k0_off62 i 0#32 0#32) S1x1.size (Gen.k0_off62_inb i 0 0)).toLoadRect f2 (Shape.Idx.first (show 0 < S1x1.numel by decide))) (View.readAt (Elt Ideal) arg3.view (Rect.unit (s := S4x56) (k0_off62 i 0#32 0#32) S1x1.size (Gen.k0_off62_inb i 0 0)).toLoadRect f3 (Shape.Idx.first (show 0 < S1x1.numel by decide))) (View.readAt (Elt Ideal) arg2.view (Rect.unit (s := S4x56) (k0_off62 i 0#32 1#32) S1x1.size (Gen.k0_off62_inb i 0 1)).toLoadRect f2 (Shape.Idx.first (show 0 < S1x1.numel by decide))) (View.readAt (Elt Ideal) arg3.view (Rect.unit (s := S4x56) (k0_off62 i 0#32 1#32) S1x1.size (Gen.k0_off62_inb i 0 1)).toLoadRect f3 (Shape.Idx.first (show 0 < S1x1.numel by decide))))
/-- its bias, -/
def bi1 : FVec Ideal ⟨2, ![128, 128]⟩ .f32 := (bLd arg10 f10' 128 (k0_off67 i 0#32) (Gen.k0_off67_inb i 0) (by decide))
/-- its first and -/
def va1 : FVec Ideal ⟨2, ![128, 128]⟩ .fp8e4m3 := (extractStridedSlice S128x128 ![0, 0] (ldc192 arg5 arg6 arg7 arg11 arg14 f5 f6 f7 2 0 0 (by decide)) Gen.slices_S192x128_o0_0_S128x128)
/-- its second values. -/
def vb1 : FVec Ideal ⟨2, ![128, 128]⟩ .fp8e4m3 := (extractStridedSlice S128x128 ![0, 0] (ldc192 arg5 arg6 arg7 arg11 arg14 f5 f6 f7 2 1 0 (by decide)) Gen.slices_S192x128_o0_0_S128x128)

include hf in
theorem tin1 : TileIn (codeOf arg6 f6) (codeOf arg5 f5) (csAt i arg2 arg3 f2 f3) (i 1).val 0 1 0 128 ok128 (keys1 arg5 arg6 arg7 arg11 arg14 f5 f6 f7) (qa1 arg5 arg6 arg7 arg11 arg14 f5 f6 f7) (qb1 arg5 arg6 arg7 arg11 arg14 f5 f6 f7) (cv1 i arg2 arg3 f2 f3) (bi1 i arg10 f10') :=
  mk0 (K := codeOf arg6 f6) (Q := codeOf arg5 f5) (cs := csAt i arg2 arg3 f2 f3) (g := (i 1).val) (p := 0) (by decide) (by decide) (ldc192 arg5 arg6 arg7 arg11 arg14 f5 f6 f7 1 0 0 (by decide)) (ldc192 arg5 arg6 arg7 arg11 arg14 f5 f6 f7 1 1 0 (by decide)) (fun κ j hκ => slice_rows _ _ κ hκ j) (fun κ d => (ldc192_k arg5 arg6 arg7 arg11 arg14 f5 f6 f7 (2 * 0) 0 _ κ d).trans (congrArg (fun s => codeOf arg6 f6 s (2 * 0) d.val) (by omega))) (fun κ d => (ldc192_k arg5 arg6 arg7 arg11 arg14 f5 f6 f7 (2 * 0 + 1) 0 _ κ d).trans (congrArg (fun s => codeOf arg6 f6 s (2 * 0 + 1) d.val) (by omega))) (fun κ d => (ldc64_q arg5 arg6 arg7 arg11 arg14 f5 f6 f7 (2 * 0) 16 _ κ d).trans (congrArg (fun s => codeOf arg5 f5 s (2 * 0) d.val) (by omega))) (fun κ d => (ldc64_q arg5 arg6 arg7 arg11 arg14 f5 f6 f7 (2 * 0 + 1) 16 _ κ d).trans (congrArg (fun s => codeOf arg5 f5 s (2 * 0 + 1) d.val) (by omega))) (fun l hl => (cvec_a _ _ _ _ l hl).trans (congrArg₂ csOf (scal_ld arg2 f2 (i 0).val (8 * (i 1).val + 2 * 0) (i0_lt i) (by have := i1_lt' i; omega) _ ((by decide +kernel : ∀ i : grid0.Coords, k0_off62 i 0#32 0#32 = ![(i 0).val, 8 * (i 1).val + 2 * 0]) i) _ _) (scal_ld arg3 f3 (i 0).val (8 * (i 1).val + 2 * 0) (i0_lt i) (by have := i1_lt' i; omega) _ ((by decide +kernel : ∀ i : grid0.Coords, k0_off62 i 0#32 0#32 = ![(i 0).val, 8 * (i 1).val + 2 * 0]) i) _ _))) (fun l hl => (cvec_b _ _ _ _ l hl).trans (congrArg₂ csOf (scal_ld arg2 f2 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) (scal_ld arg3 f3 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _))) (fun κ l hk hr => ldB arg10.view f10' hf _ _ hk _ ((by decide +kernel : ∀ i : grid0.Coords, k0_off67 i 0#32 = ![(4 * (i 1).val + 0) % 6, 32 * (1 * (1 + 1)), 0]) i) _ _ κ l hr)

theorem hva1 : ∀ (κ : Fin 128) (d : Fin 128), (va1 arg5 arg6 arg7 arg11 arg14 f5 f6 f7) (ix2 κ d) = codeOf arg7 f7 (keyOf 0 (8 * (i 1).val + (2 * 0)) κ.val) (2 * 0) d.val :=
  fun κ d => (slice_rows _ _ κ (by omega) d).trans ((ldc192_v arg5 arg6 arg7 arg11 arg14 f5 f6 f7 (2 * 0) 0 _ _ d).trans (congrArg (fun s => codeOf arg7 f7 s (2 * 0) d.val) (Nat.zero_add _)))

theorem hvb1 : ∀ (κ : Fin 128) (d : Fin 128), (vb1 arg5 arg6 arg7 arg11 arg14 f5 f6 f7) (ix2 κ d) = codeOf arg7 f7 (keyOf 0 (8 * (i 1).val + (2 * 0 + 1)) κ.val) (2 * 0 + 1) d.val :=
  fun κ d => (slice_rows _ _ κ (by omega) d).trans ((ldc192_v arg5 arg6 arg7 arg11 arg14 f5 f6 f7 (2 * 0 + 1) 0 _ _ d).trans (congrArg (fun s => codeOf arg7 f7 s (2 * 0 + 1) d.val) (Nat.zero_add _)))

include hf in
theorem h8_2 (prev : (∀ q ∈ bodyRun.sl.H8_1 (F := Ideal) i arg2 arg3 arg4 arg5 arg6 arg7 arg10 arg11 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_2 (F := Ideal) i arg2 arg3 arg4 arg5 arg6 arg7 arg10 arg11 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin1 i arg2 arg3 arg5 arg6 arg7 arg10 arg11 arg14 f2 f3 f5 f6 f7 f10' hf).out (V := codeOf arg7 f7) (vs := vsAt i arg4 f4) (va1 arg5 arg6 arg7 arg11 arg14 f5 f6 f7) (vb1 arg5 arg6 arg7 arg11 arg14 f5 f6 f7)
      _ _ (hva1 i arg5 arg6 arg7 arg11 arg14 f5 f6 f7) (hvb1 i arg5 arg6 arg7 arg11 arg14 f5 f6 f7) (scal_ld arg4 f4 (i 0).val (8 * (i 1).val + 2 * 0) (i0_lt i) (by have := i1_lt' i; omega) _ ((by decide +kernel : ∀ i : grid0.Coords, k0_off64 i 0#32 = ![(i 0).val, 8 * (i 1).val + 2 * 0]) i) _ _) (scal_ld arg4 f4 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) ![0, 64, 0] rfl (by decide) x,
    prev⟩

include hf in
theorem h13_4 (prev : (∀ q ∈ bodyRun.sl.H13_2 (F := Ideal) i arg2 arg3 arg5 arg6 arg7 arg10 arg11 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_4 (F := Ideal) i arg2 arg3 arg5 arg6 arg7 arg10 arg11 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin1 i arg2 arg3 arg5 arg6 arg7 arg10 arg11 arg14 f2 f3 f5 f6 f7 f10' hf).lseB (k0_off69 i) ((by decide +kernel : ∀ i : grid0.Coords, k0_off69 i = ![(i 1).val, 2 * 0 + 1, 192 * 0 + 64 * 1]) i) (Gen.k0_off69_inb i) x,
    List.forall_mem_cons.2 ⟨fun x => (tin1 i arg2 arg3 arg5 arg6 arg7 arg10 arg11 arg14 f2 f3 f5 f6 f7 f10' hf).lseA (k0_off68 i) ((by decide +kernel : ∀ i : grid0.Coords, k0_off68 i = ![(i 1).val, 2 * 0, 192 * 0 + 64 * 1]) i) (Gen.k0_off68_inb i) x,
    prev⟩⟩

/-- The keys of tile 2, -/
def keys2 : FVec Ideal ⟨2, ![192, 256]⟩ .fp8e4m3 := (cat192 (ldc192 arg5 arg6 arg7 arg11 arg14 f5 f6 f7 1 0 0 (by decide)) (ldc192 arg5 arg6 arg7 arg11 arg14 f5 f6 f7 1 1 0 (by decide)))
/-- its first and -/
def qa2 : FVec Ideal S64x128 .fp8e4m3 := (ldc64 arg5 arg6 arg7 arg11 arg14 f5 f6 f7 0 0 32 (by decide))
/-- its second queries, -/
def qb2 : FVec Ideal S64x128 .fp8e4m3 := (ldc64 arg5 arg6 arg7 arg11 arg14 f5 f6 f7 0 1 32 (by decide))
/-- its scales, -/
def cv2 : FVec Ideal S1x128 .f32 := (cvecOf (View.readAt (Elt Ideal) arg2.view (Rect.unit (s := S4x56) (k0_off62 i 0#32 0#32) S1x1.size (Gen.k0_off62_inb i 0 0)).toLoadRect f2 (Shape.Idx.first (show 0 < S1x1.numel by decide))) (View.readAt (Elt Ideal) arg3.view (Rect.unit (s := S4x56) (k0_off62 i 0#32 0#32) S1x1.size (Gen.k0_off62_inb i 0 0)).toLoadRect f3 (Shape.Idx.first (show 0 < S1x1.numel by decide))) (View.readAt (Elt Ideal) arg2.view (Rect.unit (s := S4x56) (k0_off62 i 0#32 1#32) S1x1.size (Gen.k0_off62_inb i 0 1)).toLoadRect f2 (Shape.Idx.first (show 0 < S1x1.numel by decide))) (View.readAt (Elt Ideal) arg3.view (Rect.unit (s := S4x56) (k0_off62 i 0#32 1#32) S1x1.size (Gen.k0_off62_inb i 0 1)).toLoadRect f3 (Shape.Idx.first (show 0 < S1x1.numel by decide))))
/-- its bias, -/
def bi2 : FVec Ideal ⟨2, ![192, 128]⟩ .f32 := (bLd arg10 f10' 192 (k0_off70 i 0#32) (Gen.k0_off70_inb i 0) (by decide))
/-- its first and -/
def va2 : FVec Ideal ⟨2, ![192, 128]⟩ .fp8e4m3 := (ldc192 arg5 arg6 arg7 arg11 arg14 f5 f6 f7 2 0 0 (by decide))
/-- its second values. -/
def vb2 : FVec Ideal ⟨2, ![192, 128]⟩ .fp8e4m3 := (ldc192 arg5 arg6 arg7 arg11 arg14 f5 f6 f7 2 1 0 (by decide))

include hf in
theorem tin2 : TileIn (codeOf arg6 f6) (codeOf arg5 f5) (csAt i arg2 arg3 f2 f3) (i 1).val 0 2 0 192 ok192 (keys2 arg5 arg6 arg7 arg11 arg14 f5 f6 f7) (qa2 arg5 arg6 arg7 arg11 arg14 f5 f6 f7) (qb2 arg5 arg6 arg7 arg11 arg14 f5 f6 f7) (cv2 i arg2 arg3 f2 f3) (bi2 i arg10 f10') :=
  mk0 (K := codeOf arg6 f6) (Q := codeOf arg5 f5) (cs := csAt i arg2 arg3 f2 f3) (g := (i 1).val) (p := 0) (by decide) (by decide) (ldc192 arg5 arg6 arg7 arg11 arg14 f5 f6 f7 1 0 0 (by decide)) (ldc192 arg5 arg6 arg7 arg11 arg14 f5 f6 f7 1 1 0 (by decide)) (fun κ j hκ => rfl) (fun κ d => (ldc192_k arg5 arg6 arg7 arg11 arg14 f5 f6 f7 (2 * 0) 0 _ κ d).trans (congrArg (fun s => codeOf arg6 f6 s (2 * 0) d.val) (by omega))) (fun κ d => (ldc192_k arg5 arg6 arg7 arg11 arg14 f5 f6 f7 (2 * 0 + 1) 0 _ κ d).trans (congrArg (fun s => codeOf arg6 f6 s (2 * 0 + 1) d.val) (by omega))) (fun κ d => (ldc64_q arg5 arg6 arg7 arg11 arg14 f5 f6 f7 (2 * 0) 32 _ κ d).trans (congrArg (fun s => codeOf arg5 f5 s (2 * 0) d.val) (by omega))) (fun κ d => (ldc64_q arg5 arg6 arg7 arg11 arg14 f5 f6 f7 (2 * 0 + 1) 32 _ κ d).trans (congrArg (fun s => codeOf arg5 f5 s (2 * 0 + 1) d.val) (by omega))) (fun l hl => (cvec_a _ _ _ _ l hl).trans (congrArg₂ csOf (scal_ld arg2 f2 (i 0).val (8 * (i 1).val + 2 * 0) (i0_lt i) (by have := i1_lt' i; omega) _ ((by decide +kernel : ∀ i : grid0.Coords, k0_off62 i 0#32 0#32 = ![(i 0).val, 8 * (i 1).val + 2 * 0]) i) _ _) (scal_ld arg3 f3 (i 0).val (8 * (i 1).val + 2 * 0) (i0_lt i) (by have := i1_lt' i; omega) _ ((by decide +kernel : ∀ i : grid0.Coords, k0_off62 i 0#32 0#32 = ![(i 0).val, 8 * (i 1).val + 2 * 0]) i) _ _))) (fun l hl => (cvec_b _ _ _ _ l hl).trans (congrArg₂ csOf (scal_ld arg2 f2 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) (scal_ld arg3 f3 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _))) (fun κ l hk hr => ldB arg10.view f10' hf _ _ hk _ ((by decide +kernel : ∀ i : grid0.Coords, k0_off70 i 0#32 = ![(4 * (i 1).val + 0) % 6, 32 * (2 * (2 + 1)), 0]) i) _ _ κ l hr)

theorem hva2 : ∀ (κ : Fin 192) (d : Fin 128), (va2 arg5 arg6 arg7 arg11 arg14 f5 f6 f7) (ix2 κ d) = codeOf arg7 f7 (keyOf 0 (8 * (i 1).val + (2 * 0)) κ.val) (2 * 0) d.val :=
  fun κ d => (ldc192_v arg5 arg6 arg7 arg11 arg14 f5 f6 f7 (2 * 0) 0 _ _ d).trans (congrArg (fun s => codeOf arg7 f7 s (2 * 0) d.val) (Nat.zero_add _))

theorem hvb2 : ∀ (κ : Fin 192) (d : Fin 128), (vb2 arg5 arg6 arg7 arg11 arg14 f5 f6 f7) (ix2 κ d) = codeOf arg7 f7 (keyOf 0 (8 * (i 1).val + (2 * 0 + 1)) κ.val) (2 * 0 + 1) d.val :=
  fun κ d => (ldc192_v arg5 arg6 arg7 arg11 arg14 f5 f6 f7 (2 * 0 + 1) 0 _ _ d).trans (congrArg (fun s => codeOf arg7 f7 s (2 * 0 + 1) d.val) (Nat.zero_add _))

include hf in
theorem h8_3 (prev : (∀ q ∈ bodyRun.sl.H8_2 (F := Ideal) i arg2 arg3 arg4 arg5 arg6 arg7 arg10 arg11 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_3 (F := Ideal) i arg2 arg3 arg4 arg5 arg6 arg7 arg10 arg11 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin2 i arg2 arg3 arg5 arg6 arg7 arg10 arg11 arg14 f2 f3 f5 f6 f7 f10' hf).out (V := codeOf arg7 f7) (vs := vsAt i arg4 f4) (va2 arg5 arg6 arg7 arg11 arg14 f5 f6 f7) (vb2 arg5 arg6 arg7 arg11 arg14 f5 f6 f7)
      _ _ (hva2 i arg5 arg6 arg7 arg11 arg14 f5 f6 f7) (hvb2 i arg5 arg6 arg7 arg11 arg14 f5 f6 f7) (scal_ld arg4 f4 (i 0).val (8 * (i 1).val + 2 * 0) (i0_lt i) (by have := i1_lt' i; omega) _ ((by decide +kernel : ∀ i : grid0.Coords, k0_off64 i 0#32 = ![(i 0).val, 8 * (i 1).val + 2 * 0]) i) _ _) (scal_ld arg4 f4 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) ![0, 128, 0] rfl (by decide) x,
    prev⟩

include hf in
theorem h13_6 (prev : (∀ q ∈ bodyRun.sl.H13_4 (F := Ideal) i arg2 arg3 arg5 arg6 arg7 arg10 arg11 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_6 (F := Ideal) i arg2 arg3 arg5 arg6 arg7 arg10 arg11 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin2 i arg2 arg3 arg5 arg6 arg7 arg10 arg11 arg14 f2 f3 f5 f6 f7 f10' hf).lseB (k0_off72 i) ((by decide +kernel : ∀ i : grid0.Coords, k0_off72 i = ![(i 1).val, 2 * 0 + 1, 192 * 0 + 64 * 2]) i) (Gen.k0_off72_inb i) x,
    List.forall_mem_cons.2 ⟨fun x => (tin2 i arg2 arg3 arg5 arg6 arg7 arg10 arg11 arg14 f2 f3 f5 f6 f7 f10' hf).lseA (k0_off71 i) ((by decide +kernel : ∀ i : grid0.Coords, k0_off71 i = ![(i 1).val, 2 * 0, 192 * 0 + 64 * 2]) i) (Gen.k0_off71_inb i) x,
    prev⟩⟩

/-- The keys of tile 3, -/
def keys3 : FVec Ideal ⟨2, ![96, 256]⟩ .fp8e4m3 := (concatenate S96x256 0 [⟨S32x256, cat32 (ldc32 i arg5 arg6 arg7 arg12 arg14 f5 f6 f7 0 0 (by decide)) (ldc32 i arg5 arg6 arg7 arg12 arg14 f5 f6 f7 0 1 (by decide))⟩, ⟨S64x256, (extractStridedSlice S64x256 ![0, 0] (cat192 (ldc192 arg5 arg6 arg7 arg11 arg14 f5 f6 f7 1 0 48 (by decide)) (ldc192 arg5 arg6 arg7 arg11 arg14 f5 f6 f7 1 1 48 (by decide))) Gen.slices_S192x256_o0_0_S64x256)⟩] (show Shape.Concatenates [S32x256, S64x256] S96x256 0 by decide))
/-- its first and -/
def qa3 : FVec Ideal S64x128 .fp8e4m3 := (ldc64 arg5 arg6 arg7 arg11 arg14 f5 f6 f7 0 0 48 (by decide))
/-- its second queries, -/
def qb3 : FVec Ideal S64x128 .fp8e4m3 := (ldc64 arg5 arg6 arg7 arg11 arg14 f5 f6 f7 0 1 48 (by decide))
/-- its scales, -/
def cv3 : FVec Ideal S1x128 .f32 := (cvecOf (View.readAt (Elt Ideal) arg2.view (Rect.unit (s := S4x56) (k0_off62 i 0#32 0#32) S1x1.size (Gen.k0_off62_inb i 0 0)).toLoadRect f2 (Shape.Idx.first (show 0 < S1x1.numel by decide))) (View.readAt (Elt Ideal) arg3.view (Rect.unit (s := S4x56) (k0_off62 i 0#32 0#32) S1x1.size (Gen.k0_off62_inb i 0 0)).toLoadRect f3 (Shape.Idx.first (show 0 < S1x1.numel by decide))) (View.readAt (Elt Ideal) arg2.view (Rect.unit (s := S4x56) (k0_off62 i 0#32 1#32) S1x1.size (Gen.k0_off62_inb i 0 1)).toLoadRect f2 (Shape.Idx.first (show 0 < S1x1.numel by decide))) (View.readAt (Elt Ideal) arg3.view (Rect.unit (s := S4x56) (k0_off62 i 0#32 1#32) S1x1.size (Gen.k0_off62_inb i 0 1)).toLoadRect f3 (Shape.Idx.first (show 0 < S1x1.numel by decide))))
/-- its bias, -/
def bi3 : FVec Ideal ⟨2, ![96, 128]⟩ .f32 := (concatenate S96x128 0 [⟨S32x128, (bLd arg10 f10' 32 (k0_off73 i 0#32) (Gen.k0_off73_inb i 0) (by decide))⟩, ⟨S64x128, (bLd arg10 f10' 64 (k0_off63 i 0#32) (Gen.k0_off63_inb i 0) (by decide))⟩] (show Shape.Concatenates [S32x128, S64x128] S96x128 0 by decide))
/-- its first and -/
def va3 : FVec Ideal ⟨2, ![96, 128]⟩ .fp8e4m3 := (concatenate S96x128 0 [⟨S32x128, (ldc32 i arg5 arg6 arg7 arg12 arg14 f5 f6 f7 1 0 (by decide))⟩, ⟨S64x128, (extractStridedSlice S64x128 ![0, 0] (ldc192 arg5 arg6 arg7 arg11 arg14 f5 f6 f7 2 0 48 (by decide)) Gen.slices_S192x128_o0_0_S64x128)⟩] (show Shape.Concatenates [S32x128, S64x128] S96x128 0 by decide))
/-- its second values. -/
def vb3 : FVec Ideal ⟨2, ![96, 128]⟩ .fp8e4m3 := (concatenate S96x128 0 [⟨S32x128, (ldc32 i arg5 arg6 arg7 arg12 arg14 f5 f6 f7 1 1 (by decide))⟩, ⟨S64x128, (extractStridedSlice S64x128 ![0, 0] (ldc192 arg5 arg6 arg7 arg11 arg14 f5 f6 f7 2 1 48 (by decide)) Gen.slices_S192x128_o0_0_S64x128)⟩] (show Shape.Concatenates [S32x128, S64x128] S96x128 0 by decide))

include hf in
theorem tin3 : TileIn (codeOf arg6 f6) (codeOf arg5 f5) (csAt i arg2 arg3 f2 f3) (i 1).val 1 0 0 96 ok96 (keys3 i arg5 arg6 arg7 arg11 arg12 arg14 f5 f6 f7) (qa3 arg5 arg6 arg7 arg11 arg14 f5 f6 f7) (qb3 arg5 arg6 arg7 arg11 arg14 f5 f6 f7) (cv3 i arg2 arg3 f2 f3) (bi3 i arg10 f10') :=
  mk1 (n := 96) (m := 64) (blk := 0) (K := codeOf arg6 f6) (Q := codeOf arg5 f5) (cs := csAt i arg2 arg3 f2 f3) (g := (i 1).val) (p := 0) (by decide) (by decide) (by decide) (ldc192 arg5 arg6 arg7 arg11 arg14 f5 f6 f7 1 0 48 (by decide)) (ldc192 arg5 arg6 arg7 arg11 arg14 f5 f6 f7 1 1 48 (by decide)) (ldc32 i arg5 arg6 arg7 arg12 arg14 f5 f6 f7 0 0 (by decide)) (ldc32 i arg5 arg6 arg7 arg12 arg14 f5 f6 f7 0 1 (by decide)) _ _ (fun κ j hκ => slice_rows _ _ κ hκ j) (fun κ d => (ldc192_k arg5 arg6 arg7 arg11 arg14 f5 f6 f7 (2 * 0) 48 _ κ d).trans (congrArg (fun s => codeOf arg6 f6 s (2 * 0) d.val) (by omega))) (fun κ d => (ldc192_k arg5 arg6 arg7 arg11 arg14 f5 f6 f7 (2 * 0 + 1) 48 _ κ d).trans (congrArg (fun s => codeOf arg6 f6 s (2 * 0 + 1) d.val) (by omega))) (fun κ d => ldc32_k i arg5 arg6 arg7 arg12 arg14 f5 f6 f7 (2 * 0) _ κ d) (fun κ d => ldc32_k i arg5 arg6 arg7 arg12 arg14 f5 f6 f7 (2 * 0 + 1) _ κ d) (fun κ d => (ldc64_q arg5 arg6 arg7 arg11 arg14 f5 f6 f7 (2 * 0) 48 _ κ d).trans (congrArg (fun s => codeOf arg5 f5 s (2 * 0) d.val) (by omega))) (fun κ d => (ldc64_q arg5 arg6 arg7 arg11 arg14 f5 f6 f7 (2 * 0 + 1) 48 _ κ d).trans (congrArg (fun s => codeOf arg5 f5 s (2 * 0 + 1) d.val) (by omega))) (fun l hl => (cvec_a _ _ _ _ l hl).trans (congrArg₂ csOf (scal_ld arg2 f2 (i 0).val (8 * (i 1).val + 2 * 0) (i0_lt i) (by have := i1_lt' i; omega) _ ((by decide +kernel : ∀ i : grid0.Coords, k0_off62 i 0#32 0#32 = ![(i 0).val, 8 * (i 1).val + 2 * 0]) i) _ _) (scal_ld arg3 f3 (i 0).val (8 * (i 1).val + 2 * 0) (i0_lt i) (by have := i1_lt' i; omega) _ ((by decide +kernel : ∀ i : grid0.Coords, k0_off62 i 0#32 0#32 = ![(i 0).val, 8 * (i 1).val + 2 * 0]) i) _ _))) (fun l hl => (cvec_b _ _ _ _ l hl).trans (congrArg₂ csOf (scal_ld arg2 f2 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) (scal_ld arg3 f3 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _))) (fun κ l hk hr => ldB arg10.view f10' hf _ _ hk _ ((by decide +kernel : ∀ i : grid0.Coords, k0_off63 i 0#32 = ![(4 * (i 1).val + 0) % 6, 32 * (0 * (0 + 1)), 0]) i) _ _ κ l hr) (fun κ l hk hr => ldB arg10.view f10' hf _ _ hk _ ((by decide +kernel : ∀ i : grid0.Coords, k0_off73 i 0#32 = ![(4 * (i 1).val + 0) % 6, 384 + 32 * 0, 0]) i) _ _ κ l hr)

theorem hva3 : ∀ (κ : Fin 96) (d : Fin 128), (va3 i arg5 arg6 arg7 arg11 arg12 arg14 f5 f6 f7) (ix2 κ d) = codeOf arg7 f7 (keyOf 1 (8 * (i 1).val + (2 * 0)) κ.val) (2 * 0) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 0) _ _ d
  · exact (slice_rows _ _ _ (by show κ.val - 32 < 192; omega) d).trans ((ldc192_v arg5 arg6 arg7 arg11 arg14 f5 f6 f7 (2 * 0) 48 _ _ d).trans rfl)

theorem hvb3 : ∀ (κ : Fin 96) (d : Fin 128), (vb3 i arg5 arg6 arg7 arg11 arg12 arg14 f5 f6 f7) (ix2 κ d) = codeOf arg7 f7 (keyOf 1 (8 * (i 1).val + (2 * 0 + 1)) κ.val) (2 * 0 + 1) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 0 + 1) _ _ d
  · exact (slice_rows _ _ _ (by show κ.val - 32 < 192; omega) d).trans ((ldc192_v arg5 arg6 arg7 arg11 arg14 f5 f6 f7 (2 * 0 + 1) 48 _ _ d).trans rfl)

include hf in
theorem h8_4 (prev : (∀ q ∈ bodyRun.sl.H8_3 (F := Ideal) i arg2 arg3 arg4 arg5 arg6 arg7 arg10 arg11 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_4 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin3 i arg2 arg3 arg5 arg6 arg7 arg10 arg11 arg12 arg14 f2 f3 f5 f6 f7 f10' hf).out (V := codeOf arg7 f7) (vs := vsAt i arg4 f4) (va3 i arg5 arg6 arg7 arg11 arg12 arg14 f5 f6 f7) (vb3 i arg5 arg6 arg7 arg11 arg12 arg14 f5 f6 f7)
      _ _ (hva3 i arg5 arg6 arg7 arg11 arg12 arg14 f5 f6 f7) (hvb3 i arg5 arg6 arg7 arg11 arg12 arg14 f5 f6 f7) (scal_ld arg4 f4 (i 0).val (8 * (i 1).val + 2 * 0) (i0_lt i) (by have := i1_lt' i; omega) _ ((by decide +kernel : ∀ i : grid0.Coords, k0_off64 i 0#32 = ![(i 0).val, 8 * (i 1).val + 2 * 0]) i) _ _) (scal_ld arg4 f4 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) ![0, 192, 0] rfl (by decide) x,
    prev⟩

include hf in
theorem h13_8 (prev : (∀ q ∈ bodyRun.sl.H13_6 (F := Ideal) i arg2 arg3 arg5 arg6 arg7 arg10 arg11 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_8 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin3 i arg2 arg3 arg5 arg6 arg7 arg10 arg11 arg12 arg14 f2 f3 f5 f6 f7 f10' hf).lseB (k0_off75 i) ((by decide +kernel : ∀ i : grid0.Coords, k0_off75 i = ![(i 1).val, 2 * 0 + 1, 192 * 1 + 64 * 0]) i) (Gen.k0_off75_inb i) x,
    List.forall_mem_cons.2 ⟨fun x => (tin3 i arg2 arg3 arg5 arg6 arg7 arg10 arg11 arg12 arg14 f2 f3 f5 f6 f7 f10' hf).lseA (k0_off74 i) ((by decide +kernel : ∀ i : grid0.Coords, k0_off74 i = ![(i 1).val, 2 * 0, 192 * 1 + 64 * 0]) i) (Gen.k0_off74_inb i) x,
    prev⟩⟩

/-- The keys of tile 4, -/
def keys4 : FVec Ideal ⟨2, ![160, 256]⟩ .fp8e4m3 := (concatenate S160x256 0 [⟨S32x256, cat32 (ldc32 i arg5 arg6 arg7 arg12 arg14 f5 f6 f7 0 0 (by decide)) (ldc32 i arg5 arg6 arg7 arg12 arg14 f5 f6 f7 0 1 (by decide))⟩, ⟨S128x256, (extractStridedSlice S128x256 ![0, 0] (cat192 (ldc192 arg5 arg6 arg7 arg11 arg14 f5 f6 f7 1 0 48 (by decide)) (ldc192 arg5 arg6 arg7 arg11 arg14 f5 f6 f7 1 1 48 (by decide))) Gen.slices_S192x256_o0_0_S128x256)⟩] (show Shape.Concatenates [S32x256, S128x256] S160x256 0 by decide))
/-- its first and -/
def qa4 : FVec Ideal S64x128 .fp8e4m3 := (ldc64 arg5 arg6 arg7 arg11 arg14 f5 f6 f7 0 0 64 (by decide))
/-- its second queries, -/
def qb4 : FVec Ideal S64x128 .fp8e4m3 := (ldc64 arg5 arg6 arg7 arg11 arg14 f5 f6 f7 0 1 64 (by decide))
/-- its scales, -/
def cv4 : FVec Ideal S1x128 .f32 := (cvecOf (View.readAt (Elt Ideal) arg2.view (Rect.unit (s := S4x56) (k0_off62 i 0#32 0#32) S1x1.size (Gen.k0_off62_inb i 0 0)).toLoadRect f2 (Shape.Idx.first (show 0 < S1x1.numel by decide))) (View.readAt (Elt Ideal) arg3.view (Rect.unit (s := S4x56) (k0_off62 i 0#32 0#32) S1x1.size (Gen.k0_off62_inb i 0 0)).toLoadRect f3 (Shape.Idx.first (show 0 < S1x1.numel by decide))) (View.readAt (Elt Ideal) arg2.view (Rect.unit (s := S4x56) (k0_off62 i 0#32 1#32) S1x1.size (Gen.k0_off62_inb i 0 1)).toLoadRect f2 (Shape.Idx.first (show 0 < S1x1.numel by decide))) (View.readAt (Elt Ideal) arg3.view (Rect.unit (s := S4x56) (k0_off62 i 0#32 1#32) S1x1.size (Gen.k0_off62_inb i 0 1)).toLoadRect f3 (Shape.Idx.first (show 0 < S1x1.numel by decide))))
/-- its bias, -/
def bi4 : FVec Ideal ⟨2, ![160, 128]⟩ .f32 := (concatenate S160x128 0 [⟨S32x128, (bLd arg10 f10' 32 (k0_off76 i 0#32) (Gen.k0_off76_inb i 0) (by decide))⟩, ⟨S128x128, (bLd arg10 f10' 128 (k0_off67 i 0#32) (Gen.k0_off67_inb i 0) (by decide))⟩] (show Shape.Concatenates [S32x128, S128x128] S160x128 0 by decide))
/-- its first and -/
def va4 : FVec Ideal ⟨2, ![160, 128]⟩ .fp8e4m3 := (concatenate S160x128 0 [⟨S32x128, (ldc32 i arg5 arg6 arg7 arg12 arg14 f5 f6 f7 1 0 (by decide))⟩, ⟨S128x128, (extractStridedSlice S128x128 ![0, 0] (ldc192 arg5 arg6 arg7 arg11 arg14 f5 f6 f7 2 0 48 (by decide)) Gen.slices_S192x128_o0_0_S128x128)⟩] (show Shape.Concatenates [S32x128, S128x128] S160x128 0 by decide))
/-- its second values. -/
def vb4 : FVec Ideal ⟨2, ![160, 128]⟩ .fp8e4m3 := (concatenate S160x128 0 [⟨S32x128, (ldc32 i arg5 arg6 arg7 arg12 arg14 f5 f6 f7 1 1 (by decide))⟩, ⟨S128x128, (extractStridedSlice S128x128 ![0, 0] (ldc192 arg5 arg6 arg7 arg11 arg14 f5 f6 f7 2 1 48 (by decide)) Gen.slices_S192x128_o0_0_S128x128)⟩] (show Shape.Concatenates [S32x128, S128x128] S160x128 0 by decide))

include hf in
theorem tin4 : TileIn (codeOf arg6 f6) (codeOf arg5 f5) (csAt i arg2 arg3 f2 f3) (i 1).val 1 1 0 160 ok160 (keys4 i arg5 arg6 arg7 arg11 arg12 arg14 f5 f6 f7) (qa4 arg5 arg6 arg7 arg11 arg14 f5 f6 f7) (qb4 arg5 arg6 arg7 arg11 arg14 f5 f6 f7) (cv4 i arg2 arg3 f2 f3) (bi4 i arg10 f10') :=
  mk1 (n := 160) (m := 128) (blk := 1) (K := codeOf arg6 f6) (Q := codeOf arg5 f5) (cs := csAt i arg2 arg3 f2 f3) (g := (i 1).val) (p := 0) (by decide) (by decide) (by decide) (ldc192 arg5 arg6 arg7 arg11 arg14 f5 f6 f7 1 0 48 (by decide)) (ldc192 arg5 arg6 arg7 arg11 arg14 f5 f6 f7 1 1 48 (by decide)) (ldc32 i arg5 arg6 arg7 arg12 arg14 f5 f6 f7 0 0 (by decide)) (ldc32 i arg5 arg6 arg7 arg12 arg14 f5 f6 f7 0 1 (by decide)) _ _ (fun κ j hκ => slice_rows _ _ κ hκ j) (fun κ d => (ldc192_k arg5 arg6 arg7 arg11 arg14 f5 f6 f7 (2 * 0) 48 _ κ d).trans (congrArg (fun s => codeOf arg6 f6 s (2 * 0) d.val) (by omega))) (fun κ d => (ldc192_k arg5 arg6 arg7 arg11 arg14 f5 f6 f7 (2 * 0 + 1) 48 _ κ d).trans (congrArg (fun s => codeOf arg6 f6 s (2 * 0 + 1) d.val) (by omega))) (fun κ d => ldc32_k i arg5 arg6 arg7 arg12 arg14 f5 f6 f7 (2 * 0) _ κ d) (fun κ d => ldc32_k i arg5 arg6 arg7 arg12 arg14 f5 f6 f7 (2 * 0 + 1) _ κ d) (fun κ d => (ldc64_q arg5 arg6 arg7 arg11 arg14 f5 f6 f7 (2 * 0) 64 _ κ d).trans (congrArg (fun s => codeOf arg5 f5 s (2 * 0) d.val) (by omega))) (fun κ d => (ldc64_q arg5 arg6 arg7 arg11 arg14 f5 f6 f7 (2 * 0 + 1) 64 _ κ d).trans (congrArg (fun s => codeOf arg5 f5 s (2 * 0 + 1) d.val) (by omega))) (fun l hl => (cvec_a _ _ _ _ l hl).trans (congrArg₂ csOf (scal_ld arg2 f2 (i 0).val (8 * (i 1).val + 2 * 0) (i0_lt i) (by have := i1_lt' i; omega) _ ((by decide +kernel : ∀ i : grid0.Coords, k0_off62 i 0#32 0#32 = ![(i 0).val, 8 * (i 1).val + 2 * 0]) i) _ _) (scal_ld arg3 f3 (i 0).val (8 * (i 1).val + 2 * 0) (i0_lt i) (by have := i1_lt' i; omega) _ ((by decide +kernel : ∀ i : grid0.Coords, k0_off62 i 0#32 0#32 = ![(i 0).val, 8 * (i 1).val + 2 * 0]) i) _ _))) (fun l hl => (cvec_b _ _ _ _ l hl).trans (congrArg₂ csOf (scal_ld arg2 f2 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) (scal_ld arg3 f3 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _))) (fun κ l hk hr => ldB arg10.view f10' hf _ _ hk _ ((by decide +kernel : ∀ i : grid0.Coords, k0_off67 i 0#32 = ![(4 * (i 1).val + 0) % 6, 32 * (1 * (1 + 1)), 0]) i) _ _ κ l hr) (fun κ l hk hr => ldB arg10.view f10' hf _ _ hk _ ((by decide +kernel : ∀ i : grid0.Coords, k0_off76 i 0#32 = ![(4 * (i 1).val + 0) % 6, 384 + 32 * 1, 0]) i) _ _ κ l hr)

theorem hva4 : ∀ (κ : Fin 160) (d : Fin 128), (va4 i arg5 arg6 arg7 arg11 arg12 arg14 f5 f6 f7) (ix2 κ d) = codeOf arg7 f7 (keyOf 1 (8 * (i 1).val + (2 * 0)) κ.val) (2 * 0) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 0) _ _ d
  · exact (slice_rows _ _ _ (by show κ.val - 32 < 192; omega) d).trans ((ldc192_v arg5 arg6 arg7 arg11 arg14 f5 f6 f7 (2 * 0) 48 _ _ d).trans rfl)

theorem hvb4 : ∀ (κ : Fin 160) (d : Fin 128), (vb4 i arg5 arg6 arg7 arg11 arg12 arg14 f5 f6 f7) (ix2 κ d) = codeOf arg7 f7 (keyOf 1 (8 * (i 1).val + (2 * 0 + 1)) κ.val) (2 * 0 + 1) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 0 + 1) _ _ d
  · exact (slice_rows _ _ _ (by show κ.val - 32 < 192; omega) d).trans ((ldc192_v arg5 arg6 arg7 arg11 arg14 f5 f6 f7 (2 * 0 + 1) 48 _ _ d).trans rfl)

include hf in
theorem h8_5 (prev : (∀ q ∈ bodyRun.sl.H8_4 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_5 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin4 i arg2 arg3 arg5 arg6 arg7 arg10 arg11 arg12 arg14 f2 f3 f5 f6 f7 f10' hf).out (V := codeOf arg7 f7) (vs := vsAt i arg4 f4) (va4 i arg5 arg6 arg7 arg11 arg12 arg14 f5 f6 f7) (vb4 i arg5 arg6 arg7 arg11 arg12 arg14 f5 f6 f7)
      _ _ (hva4 i arg5 arg6 arg7 arg11 arg12 arg14 f5 f6 f7) (hvb4 i arg5 arg6 arg7 arg11 arg12 arg14 f5 f6 f7) (scal_ld arg4 f4 (i 0).val (8 * (i 1).val + 2 * 0) (i0_lt i) (by have := i1_lt' i; omega) _ ((by decide +kernel : ∀ i : grid0.Coords, k0_off64 i 0#32 = ![(i 0).val, 8 * (i 1).val + 2 * 0]) i) _ _) (scal_ld arg4 f4 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) ![0, 256, 0] rfl (by decide) x,
    prev⟩

include hf in
theorem h13_10 (prev : (∀ q ∈ bodyRun.sl.H13_8 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_10 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin4 i arg2 arg3 arg5 arg6 arg7 arg10 arg11 arg12 arg14 f2 f3 f5 f6 f7 f10' hf).lseB (k0_off78 i) ((by decide +kernel : ∀ i : grid0.Coords, k0_off78 i = ![(i 1).val, 2 * 0 + 1, 192 * 1 + 64 * 1]) i) (Gen.k0_off78_inb i) x,
    List.forall_mem_cons.2 ⟨fun x => (tin4 i arg2 arg3 arg5 arg6 arg7 arg10 arg11 arg12 arg14 f2 f3 f5 f6 f7 f10' hf).lseA (k0_off77 i) ((by decide +kernel : ∀ i : grid0.Coords, k0_off77 i = ![(i 1).val, 2 * 0, 192 * 1 + 64 * 1]) i) (Gen.k0_off77_inb i) x,
    prev⟩⟩

/-- The keys of tile 5, -/
def keys5 : FVec Ideal ⟨2, ![224, 256]⟩ .fp8e4m3 := (concatenate S224x256 0 [⟨S32x256, cat32 (ldc32 i arg5 arg6 arg7 arg12 arg14 f5 f6 f7 0 0 (by decide)) (ldc32 i arg5 arg6 arg7 arg12 arg14 f5 f6 f7 0 1 (by decide))⟩, ⟨S192x256, (cat192 (ldc192 arg5 arg6 arg7 arg11 arg14 f5 f6 f7 1 0 48 (by decide)) (ldc192 arg5 arg6 arg7 arg11 arg14 f5 f6 f7 1 1 48 (by decide)))⟩] (show Shape.Concatenates [S32x256, S192x256] S224x256 0 by decide))
/-- its first and -/
def qa5 : FVec Ideal S64x128 .fp8e4m3 := (ldc64 arg5 arg6 arg7 arg11 arg14 f5 f6 f7 0 0 80 (by decide))
/-- its second queries, -/
def qb5 : FVec Ideal S64x128 .fp8e4m3 := (ldc64 arg5 arg6 arg7 arg11 arg14 f5 f6 f7 0 1 80 (by decide))
/-- its scales, -/
def cv5 : FVec Ideal S1x128 .f32 := (cvecOf (View.readAt (Elt Ideal) arg2.view (Rect.unit (s := S4x56) (k0_off62 i 0#32 0#32) S1x1.size (Gen.k0_off62_inb i 0 0)).toLoadRect f2 (Shape.Idx.first (show 0 < S1x1.numel by decide))) (View.readAt (Elt Ideal) arg3.view (Rect.unit (s := S4x56) (k0_off62 i 0#32 0#32) S1x1.size (Gen.k0_off62_inb i 0 0)).toLoadRect f3 (Shape.Idx.first (show 0 < S1x1.numel by decide))) (View.readAt (Elt Ideal) arg2.view (Rect.unit (s := S4x56) (k0_off62 i 0#32 1#32) S1x1.size (Gen.k0_off62_inb i 0 1)).toLoadRect f2 (Shape.Idx.first (show 0 < S1x1.numel by decide))) (View.readAt (Elt Ideal) arg3.view (Rect.unit (s := S4x56) (k0_off62 i 0#32 1#32) S1x1.size (Gen.k0_off62_inb i 0 1)).toLoadRect f3 (Shape.Idx.first (show 0 < S1x1.numel by decide))))
/-- its bias, -/
def bi5 : FVec Ideal ⟨2, ![224, 128]⟩ .f32 := (concatenate S224x128 0 [⟨S32x128, (bLd arg10 f10' 32 (k0_off79 i 0#32) (Gen.k0_off79_inb i 0) (by decide))⟩, ⟨S192x128, (bLd arg10 f10' 192 (k0_off70 i 0#32) (Gen.k0_off70_inb i 0) (by decide))⟩] (show Shape.Concatenates [S32x128, S192x128] S224x128 0 by decide))
/-- its first and -/
def va5 : FVec Ideal ⟨2, ![224, 128]⟩ .fp8e4m3 := (concatenate S224x128 0 [⟨S32x128, (ldc32 i arg5 arg6 arg7 arg12 arg14 f5 f6 f7 1 0 (by decide))⟩, ⟨S192x128, (ldc192 arg5 arg6 arg7 arg11 arg14 f5 f6 f7 2 0 48 (by decide))⟩] (show Shape.Concatenates [S32x128, S192x128] S224x128 0 by decide))
/-- its second values. -/
def vb5 : FVec Ideal ⟨2, ![224, 128]⟩ .fp8e4m3 := (concatenate S224x128 0 [⟨S32x128, (ldc32 i arg5 arg6 arg7 arg12 arg14 f5 f6 f7 1 1 (by decide))⟩, ⟨S192x128, (ldc192 arg5 arg6 arg7 arg11 arg14 f5 f6 f7 2 1 48 (by decide))⟩] (show Shape.Concatenates [S32x128, S192x128] S224x128 0 by decide))

include hf in
theorem tin5 : TileIn (codeOf arg6 f6) (codeOf arg5 f5) (csAt i arg2 arg3 f2 f3) (i 1).val 1 2 0 224 ok224 (keys5 i arg5 arg6 arg7 arg11 arg12 arg14 f5 f6 f7) (qa5 arg5 arg6 arg7 arg11 arg14 f5 f6 f7) (qb5 arg5 arg6 arg7 arg11 arg14 f5 f6 f7) (cv5 i arg2 arg3 f2 f3) (bi5 i arg10 f10') :=
  mk1 (n := 224) (m := 192) (blk := 2) (K := codeOf arg6 f6) (Q := codeOf arg5 f5) (cs := csAt i arg2 arg3 f2 f3) (g := (i 1).val) (p := 0) (by decide) (by decide) (by decide) (ldc192 arg5 arg6 arg7 arg11 arg14 f5 f6 f7 1 0 48 (by decide)) (ldc192 arg5 arg6 arg7 arg11 arg14 f5 f6 f7 1 1 48 (by decide)) (ldc32 i arg5 arg6 arg7 arg12 arg14 f5 f6 f7 0 0 (by decide)) (ldc32 i arg5 arg6 arg7 arg12 arg14 f5 f6 f7 0 1 (by decide)) _ _ (fun κ j hκ => rfl) (fun κ d => (ldc192_k arg5 arg6 arg7 arg11 arg14 f5 f6 f7 (2 * 0) 48 _ κ d).trans (congrArg (fun s => codeOf arg6 f6 s (2 * 0) d.val) (by omega))) (fun κ d => (ldc192_k arg5 arg6 arg7 arg11 arg14 f5 f6 f7 (2 * 0 + 1) 48 _ κ d).trans (congrArg (fun s => codeOf arg6 f6 s (2 * 0 + 1) d.val) (by omega))) (fun κ d => ldc32_k i arg5 arg6 arg7 arg12 arg14 f5 f6 f7 (2 * 0) _ κ d) (fun κ d => ldc32_k i arg5 arg6 arg7 arg12 arg14 f5 f6 f7 (2 * 0 + 1) _ κ d) (fun κ d => (ldc64_q arg5 arg6 arg7 arg11 arg14 f5 f6 f7 (2 * 0) 80 _ κ d).trans (congrArg (fun s => codeOf arg5 f5 s (2 * 0) d.val) (by omega))) (fun κ d => (ldc64_q arg5 arg6 arg7 arg11 arg14 f5 f6 f7 (2 * 0 + 1) 80 _ κ d).trans (congrArg (fun s => codeOf arg5 f5 s (2 * 0 + 1) d.val) (by omega))) (fun l hl => (cvec_a _ _ _ _ l hl).trans (congrArg₂ csOf (scal_ld arg2 f2 (i 0).val (8 * (i 1).val + 2 * 0) (i0_lt i) (by have := i1_lt' i; omega) _ ((by decide +kernel : ∀ i : grid0.Coords, k0_off62 i 0#32 0#32 = ![(i 0).val, 8 * (i 1).val + 2 * 0]) i) _ _) (scal_ld arg3 f3 (i 0).val (8 * (i 1).val + 2 * 0) (i0_lt i) (by have := i1_lt' i; omega) _ ((by decide +kernel : ∀ i : grid0.Coords, k0_off62 i 0#32 0#32 = ![(i 0).val, 8 * (i 1).val + 2 * 0]) i) _ _))) (fun l hl => (cvec_b _ _ _ _ l hl).trans (congrArg₂ csOf (scal_ld arg2 f2 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) (scal_ld arg3 f3 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _))) (fun κ l hk hr => ldB arg10.view f10' hf _ _ hk _ ((by decide +kernel : ∀ i : grid0.Coords, k0_off70 i 0#32 = ![(4 * (i 1).val + 0) % 6, 32 * (2 * (2 + 1)), 0]) i) _ _ κ l hr) (fun κ l hk hr => ldB arg10.view f10' hf _ _ hk _ ((by decide +kernel : ∀ i : grid0.Coords, k0_off79 i 0#32 = ![(4 * (i 1).val + 0) % 6, 384 + 32 * 2, 0]) i) _ _ κ l hr)

theorem hva5 : ∀ (κ : Fin 224) (d : Fin 128), (va5 i arg5 arg6 arg7 arg11 arg12 arg14 f5 f6 f7) (ix2 κ d) = codeOf arg7 f7 (keyOf 1 (8 * (i 1).val + (2 * 0)) κ.val) (2 * 0) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 0) _ _ d
  · exact (ldc192_v arg5 arg6 arg7 arg11 arg14 f5 f6 f7 (2 * 0) 48 _ _ d).trans rfl

theorem hvb5 : ∀ (κ : Fin 224) (d : Fin 128), (vb5 i arg5 arg6 arg7 arg11 arg12 arg14 f5 f6 f7) (ix2 κ d) = codeOf arg7 f7 (keyOf 1 (8 * (i 1).val + (2 * 0 + 1)) κ.val) (2 * 0 + 1) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 0 + 1) _ _ d
  · exact (ldc192_v arg5 arg6 arg7 arg11 arg14 f5 f6 f7 (2 * 0 + 1) 48 _ _ d).trans rfl

include hf in
theorem h8_6 (prev : (∀ q ∈ bodyRun.sl.H8_5 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_6 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin5 i arg2 arg3 arg5 arg6 arg7 arg10 arg11 arg12 arg14 f2 f3 f5 f6 f7 f10' hf).out (V := codeOf arg7 f7) (vs := vsAt i arg4 f4) (va5 i arg5 arg6 arg7 arg11 arg12 arg14 f5 f6 f7) (vb5 i arg5 arg6 arg7 arg11 arg12 arg14 f5 f6 f7)
      _ _ (hva5 i arg5 arg6 arg7 arg11 arg12 arg14 f5 f6 f7) (hvb5 i arg5 arg6 arg7 arg11 arg12 arg14 f5 f6 f7) (scal_ld arg4 f4 (i 0).val (8 * (i 1).val + 2 * 0) (i0_lt i) (by have := i1_lt' i; omega) _ ((by decide +kernel : ∀ i : grid0.Coords, k0_off64 i 0#32 = ![(i 0).val, 8 * (i 1).val + 2 * 0]) i) _ _) (scal_ld arg4 f4 (i 0).val (8 * (i 1).val + (2 * 0 + 1)) (i0_lt i) (by have := i1_lt' i; omega) _ ((by decide +kernel : ∀ i : grid0.Coords, k0_off62 i 0#32 1#32 = ![(i 0).val, 8 * (i 1).val + (2 * 0 + 1)]) i) _ _) ![0, 320, 0] rfl (by decide) x,
    prev⟩

include hf in
theorem h13_12 (prev : (∀ q ∈ bodyRun.sl.H13_10 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_12 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin5 i arg2 arg3 arg5 arg6 arg7 arg10 arg11 arg12 arg14 f2 f3 f5 f6 f7 f10' hf).lseB (k0_off81 i) ((by decide +kernel : ∀ i : grid0.Coords, k0_off81 i = ![(i 1).val, 2 * 0 + 1, 192 * 1 + 64 * 2]) i) (Gen.k0_off81_inb i) x,
    List.forall_mem_cons.2 ⟨fun x => (tin5 i arg2 arg3 arg5 arg6 arg7 arg10 arg11 arg12 arg14 f2 f3 f5 f6 f7 f10' hf).lseA (k0_off80 i) ((by decide +kernel : ∀ i : grid0.Coords, k0_off80 i = ![(i 1).val, 2 * 0, 192 * 1 + 64 * 2]) i) (Gen.k0_off80_inb i) x,
    prev⟩⟩
end

end Cert.KernelIdeal.Hand

end
-- ==== Proof.KernelIdeal.BodyTiles1.lean ====
module

public import proofs.«01_k».proof.Proof.KernelIdeal.BodyTools

@[expose] public section

/-! # KernelIdeal: tiles 6 to 11 of the body

What each tile's operands hold and what its two stored results are. -/

set_option maxRecDepth 16384
set_option maxHeartbeats 4000000

noncomputable section

namespace Cert.KernelIdeal.Hand

open Idealize.ShloMosaic Cert.KernelIdeal
open scoped BigOperators

section
variable (i : grid0.Coords) (arg2 arg3 arg4 : Memref sig .tc .smem S4x56 .f32) (arg5 arg6 arg7 : Memref sig .tc .vmem S1x384x1x8x128 .i8)
  (arg10 : Memref sig .tc .vmem S6x480x128 .f32) (arg11 : Memref sig .tc .vmem S3x8x96x128 .i32) (arg12 : Memref sig .tc .vmem S2x8x8x128 .i32) (arg14 : Memref sig .tc .vmem S768x128 .i32)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty) (f7 : BufTy.Contents (Elt Ideal) arg7.view.ty)
  (f10' : BufTy.Contents (Elt Ideal) arg10.view.ty)

variable (hf : ∀ y, arg10.view.read (Elt Ideal) f10' y = G10 y)
/-- The keys of tile 6, -/
def keys6 : FVec Ideal ⟨2, ![64, 256]⟩ .fp8e4m3 := (extractStridedSlice S64x256 ![0, 0] (cat192 (ldc192 arg5 arg6 arg7 arg11 arg14 f5 f6 f7 1 2 0 (by decide)) (ldc192 arg5 arg6 arg7 arg11 arg14 f5 f6 f7 1 3 0 (by decide))) Gen.slices_S192x256_o0_0_S64x256)
/-- its first and -/
def qa6 : FVec Ideal S64x128 .fp8e4m3 := (ldc64 arg5 arg6 arg7 arg11 arg14 f5 f6 f7 0 2 0 (by decide))
/-- its second queries, -/
def qb6 : FVec Ideal S64x128 .fp8e4m3 := (ldc64 arg5 arg6 arg7 arg11 arg14 f5 f6 f7 0 3 0 (by decide))
/-- its scales, -/
def cv6 : FVec Ideal S1x128 .f32 := (cvecOf (View.readAt (Elt Ideal) arg2.view (Rect.unit (s := S4x56) (k0_off62 i 2#32 0#32) S1x1.size (Gen.k0_off62_inb i 1 0)).toLoadRect f2 (Shape.Idx.first (show 0 < S1x1.numel by decide))) (View.readAt (Elt Ideal) arg3.view (Rect.unit (s := S4x56) (k0_off62 i 2#32 0#32) S1x1.size (Gen.k0_off62_inb i 1 0)).toLoadRect f3 (Shape.Idx.first (show 0 < S1x1.numel by decide))) (View.readAt (Elt Ideal) arg2.view (Rect.unit (s := S4x56) (k0_off62 i 2#32 1#32) S1x1.size (Gen.k0_off62_inb i 1 1)).toLoadRect f2 (Shape.Idx.first (show 0 < S1x1.numel by decide))) (View.readAt (Elt Ideal) arg3.view (Rect.unit (s := S4x56) (k0_off62 i 2#32 1#32) S1x1.size (Gen.k0_off62_inb i 1 1)).toLoadRect f3 (Shape.Idx.first (show 0 < S1x1.numel by decide))))
/-- its bias, -/
def bi6 : FVec Ideal ⟨2, ![64, 128]⟩ .f32 := (bLd arg10 f10' 64 (k0_off63 i 1#32) (Gen.k0_off63_inb i 1) (by decide))
/-- its first and -/
def va6 : FVec Ideal ⟨2, ![64, 128]⟩ .fp8e4m3 := (extractStridedSlice S64x128 ![0, 0] (ldc192 arg5 arg6 arg7 arg11 arg14 f5 f6 f7 2 2 0 (by decide)) Gen.slices_S192x128_o0_0_S64x128)
/-- its second values. -/
def vb6 : FVec Ideal ⟨2, ![64, 128]⟩ .fp8e4m3 := (extractStridedSlice S64x128 ![0, 0] (ldc192 arg5 arg6 arg7 arg11 arg14 f5 f6 f7 2 3 0 (by decide)) Gen.slices_S192x128_o0_0_S64x128)

include hf in
theorem tin6 : TileIn (codeOf arg6 f6) (codeOf arg5 f5) (csAt i arg2 arg3 f2 f3) (i 1).val 0 0 1 64 ok64 (keys6 arg5 arg6 arg7 arg11 arg14 f5 f6 f7) (qa6 arg5 arg6 arg7 arg11 arg14 f5 f6 f7) (qb6 arg5 arg6 arg7 arg11 arg14 f5 f6 f7) (cv6 i arg2 arg3 f2 f3) (bi6 i arg10 f10') :=
  mk0 (K := codeOf arg6 f6) (Q := codeOf arg5 f5) (cs := csAt i arg2 arg3 f2 f3) (g := (i 1).val) (p := 1) (by decide) (by decide) (ldc192 arg5 arg6 arg7 arg11 arg14 f5 f6 f7 1 2 0 (by decide)) (ldc192 arg5 arg6 arg7 arg11 arg14 f5 f6 f7 1 3 0 (by decide)) (fun κ j hκ => slice_rows _ _ κ hκ j) (fun κ d => (ldc192_k arg5 arg6 arg7 arg11 arg14 f5 f6 f7 (2 * 1) 0 _ κ d).trans (congrArg (fun s => codeOf arg6 f6 s (2 * 1) d.val) (by omega))) (fun κ d => (ldc192_k arg5 arg6 arg7 arg11 arg14 f5 f6 f7 (2 * 1 + 1) 0 _ κ d).trans (congrArg (fun s => codeOf arg6 f6 s (2 * 1 + 1) d.val) (by omega))) (fun κ d => (ldc64_q arg5 arg6 arg7 arg11 arg14 f5 f6 f7 (2 * 1) 0 _ κ d).trans (congrArg (fun s => codeOf arg5 f5 s (2 * 1) d.val) (by omega))) (fun κ d => (ldc64_q arg5 arg6 arg7 arg11 arg14 f5 f6 f7 (2 * 1 + 1) 0 _ κ d).trans (congrArg (fun s => codeOf arg5 f5 s (2 * 1 + 1) d.val) (by omega))) (fun l hl => (cvec_a _ _ _ _ l hl).trans (congrArg₂ csOf (scal_ld arg2 f2 (i 0).val (8 * (i 1).val + 2 * 1) (i0_lt i) (by have := i1_lt' i; omega) _ ((by decide +kernel : ∀ i : grid0.Coords, k0_off62 i 2#32 0#32 = ![(i 0).val, 8 * (i 1).val + 2 * 1]) i) _ _) (scal_ld arg3 f3 (i 0).val (8 * (i 1).val + 2 * 1) (i0_lt i) (by have := i1_lt' i; omega) _ ((by decide +kernel : ∀ i : grid0.Coords, k0_off62 i 2#32 0#32 = ![(i 0).val, 8 * (i 1).val + 2 * 1]) i) _ _))) (fun l hl => (cvec_b _ _ _ _ l hl).trans (congrArg₂ csOf (scal_ld arg2 f2 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) (scal_ld arg3 f3 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _))) (fun κ l hk hr => ldB arg10.view f10' hf _ _ hk _ ((by decide +kernel : ∀ i : grid0.Coords, k0_off63 i 1#32 = ![(4 * (i 1).val + 1) % 6, 32 * (0 * (0 + 1)), 0]) i) _ _ κ l hr)

theorem hva6 : ∀ (κ : Fin 64) (d : Fin 128), (va6 arg5 arg6 arg7 arg11 arg14 f5 f6 f7) (ix2 κ d) = codeOf arg7 f7 (keyOf 0 (8 * (i 1).val + (2 * 1)) κ.val) (2 * 1) d.val :=
  fun κ d => (slice_rows _ _ κ (by omega) d).trans ((ldc192_v arg5 arg6 arg7 arg11 arg14 f5 f6 f7 (2 * 1) 0 _ _ d).trans (congrArg (fun s => codeOf arg7 f7 s (2 * 1) d.val) (Nat.zero_add _)))

theorem hvb6 : ∀ (κ : Fin 64) (d : Fin 128), (vb6 arg5 arg6 arg7 arg11 arg14 f5 f6 f7) (ix2 κ d) = codeOf arg7 f7 (keyOf 0 (8 * (i 1).val + (2 * 1 + 1)) κ.val) (2 * 1 + 1) d.val :=
  fun κ d => (slice_rows _ _ κ (by omega) d).trans ((ldc192_v arg5 arg6 arg7 arg11 arg14 f5 f6 f7 (2 * 1 + 1) 0 _ _ d).trans (congrArg (fun s => codeOf arg7 f7 s (2 * 1 + 1) d.val) (Nat.zero_add _)))

include hf in
theorem h8_7 (prev : (∀ q ∈ bodyRun.sl.H8_6 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_7 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin6 i arg2 arg3 arg5 arg6 arg7 arg10 arg11 arg14 f2 f3 f5 f6 f7 f10' hf).out (V := codeOf arg7 f7) (vs := vsAt i arg4 f4) (va6 arg5 arg6 arg7 arg11 arg14 f5 f6 f7) (vb6 arg5 arg6 arg7 arg11 arg14 f5 f6 f7)
      _ _ (hva6 i arg5 arg6 arg7 arg11 arg14 f5 f6 f7) (hvb6 i arg5 arg6 arg7 arg11 arg14 f5 f6 f7) (scal_ld arg4 f4 (i 0).val (8 * (i 1).val + 2 * 1) (i0_lt i) (by have := i1_lt' i; omega) _ ((by decide +kernel : ∀ i : grid0.Coords, k0_off64 i 2#32 = ![(i 0).val, 8 * (i 1).val + 2 * 1]) i) _ _) (scal_ld arg4 f4 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) ![0, 0, 256] rfl (by decide) x,
    prev⟩

include hf in
theorem h13_14 (prev : (∀ q ∈ bodyRun.sl.H13_12 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_14 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin6 i arg2 arg3 arg5 arg6 arg7 arg10 arg11 arg14 f2 f3 f5 f6 f7 f10' hf).lseB (k0_off83 i) ((by decide +kernel : ∀ i : grid0.Coords, k0_off83 i = ![(i 1).val, 2 * 1 + 1, 192 * 0 + 64 * 0]) i) (Gen.k0_off83_inb i) x,
    List.forall_mem_cons.2 ⟨fun x => (tin6 i arg2 arg3 arg5 arg6 arg7 arg10 arg11 arg14 f2 f3 f5 f6 f7 f10' hf).lseA (k0_off82 i) ((by decide +kernel : ∀ i : grid0.Coords, k0_off82 i = ![(i 1).val, 2 * 1, 192 * 0 + 64 * 0]) i) (Gen.k0_off82_inb i) x,
    prev⟩⟩

/-- The keys of tile 7, -/
def keys7 : FVec Ideal ⟨2, ![128, 256]⟩ .fp8e4m3 := (extractStridedSlice S128x256 ![0, 0] (cat192 (ldc192 arg5 arg6 arg7 arg11 arg14 f5 f6 f7 1 2 0 (by decide)) (ldc192 arg5 arg6 arg7 arg11 arg14 f5 f6 f7 1 3 0 (by decide))) Gen.slices_S192x256_o0_0_S128x256)
/-- its first and -/
def qa7 : FVec Ideal S64x128 .fp8e4m3 := (ldc64 arg5 arg6 arg7 arg11 arg14 f5 f6 f7 0 2 16 (by decide))
/-- its second queries, -/
def qb7 : FVec Ideal S64x128 .fp8e4m3 := (ldc64 arg5 arg6 arg7 arg11 arg14 f5 f6 f7 0 3 16 (by decide))
/-- its scales, -/
def cv7 : FVec Ideal S1x128 .f32 := (cvecOf (View.readAt (Elt Ideal) arg2.view (Rect.unit (s := S4x56) (k0_off62 i 2#32 0#32) S1x1.size (Gen.k0_off62_inb i 1 0)).toLoadRect f2 (Shape.Idx.first (show 0 < S1x1.numel by decide))) (View.readAt (Elt Ideal) arg3.view (Rect.unit (s := S4x56) (k0_off62 i 2#32 0#32) S1x1.size (Gen.k0_off62_inb i 1 0)).toLoadRect f3 (Shape.Idx.first (show 0 < S1x1.numel by decide))) (View.readAt (Elt Ideal) arg2.view (Rect.unit (s := S4x56) (k0_off62 i 2#32 1#32) S1x1.size (Gen.k0_off62_inb i 1 1)).toLoadRect f2 (Shape.Idx.first (show 0 < S1x1.numel by decide))) (View.readAt (Elt Ideal) arg3.view (Rect.unit (s := S4x56) (k0_off62 i 2#32 1#32) S1x1.size (Gen.k0_off62_inb i 1 1)).toLoadRect f3 (Shape.Idx.first (show 0 < S1x1.numel by decide))))
/-- its bias, -/
def bi7 : FVec Ideal ⟨2, ![128, 128]⟩ .f32 := (bLd arg10 f10' 128 (k0_off67 i 1#32) (Gen.k0_off67_inb i 1) (by decide))
/-- its first and -/
def va7 : FVec Ideal ⟨2, ![128, 128]⟩ .fp8e4m3 := (extractStridedSlice S128x128 ![0, 0] (ldc192 arg5 arg6 arg7 arg11 arg14 f5 f6 f7 2 2 0 (by decide)) Gen.slices_S192x128_o0_0_S128x128)
/-- its second values. -/
def vb7 : FVec Ideal ⟨2, ![128, 128]⟩ .fp8e4m3 := (extractStridedSlice S128x128 ![0, 0] (ldc192 arg5 arg6 arg7 arg11 arg14 f5 f6 f7 2 3 0 (by decide)) Gen.slices_S192x128_o0_0_S128x128)

include hf in
theorem tin7 : TileIn (codeOf arg6 f6) (codeOf arg5 f5) (csAt i arg2 arg3 f2 f3) (i 1).val 0 1 1 128 ok128 (keys7 arg5 arg6 arg7 arg11 arg14 f5 f6 f7) (qa7 arg5 arg6 arg7 arg11 arg14 f5 f6 f7) (qb7 arg5 arg6 arg7 arg11 arg14 f5 f6 f7) (cv7 i arg2 arg3 f2 f3) (bi7 i arg10 f10') :=
  mk0 (K := codeOf arg6 f6) (Q := codeOf arg5 f5) (cs := csAt i arg2 arg3 f2 f3) (g := (i 1).val) (p := 1) (by decide) (by decide) (ldc192 arg5 arg6 arg7 arg11 arg14 f5 f6 f7 1 2 0 (by decide)) (ldc192 arg5 arg6 arg7 arg11 arg14 f5 f6 f7 1 3 0 (by decide)) (fun κ j hκ => slice_rows _ _ κ hκ j) (fun κ d => (ldc192_k arg5 arg6 arg7 arg11 arg14 f5 f6 f7 (2 * 1) 0 _ κ d).trans (congrArg (fun s => codeOf arg6 f6 s (2 * 1) d.val) (by omega))) (fun κ d => (ldc192_k arg5 arg6 arg7 arg11 arg14 f5 f6 f7 (2 * 1 + 1) 0 _ κ d).trans (congrArg (fun s => codeOf arg6 f6 s (2 * 1 + 1) d.val) (by omega))) (fun κ d => (ldc64_q arg5 arg6 arg7 arg11 arg14 f5 f6 f7 (2 * 1) 16 _ κ d).trans (congrArg (fun s => codeOf arg5 f5 s (2 * 1) d.val) (by omega))) (fun κ d => (ldc64_q arg5 arg6 arg7 arg11 arg14 f5 f6 f7 (2 * 1 + 1) 16 _ κ d).trans (congrArg (fun s => codeOf arg5 f5 s (2 * 1 + 1) d.val) (by omega))) (fun l hl => (cvec_a _ _ _ _ l hl).trans (congrArg₂ csOf (scal_ld arg2 f2 (i 0).val (8 * (i 1).val + 2 * 1) (i0_lt i) (by have := i1_lt' i; omega) _ ((by decide +kernel : ∀ i : grid0.Coords, k0_off62 i 2#32 0#32 = ![(i 0).val, 8 * (i 1).val + 2 * 1]) i) _ _) (scal_ld arg3 f3 (i 0).val (8 * (i 1).val + 2 * 1) (i0_lt i) (by have := i1_lt' i; omega) _ ((by decide +kernel : ∀ i : grid0.Coords, k0_off62 i 2#32 0#32 = ![(i 0).val, 8 * (i 1).val + 2 * 1]) i) _ _))) (fun l hl => (cvec_b _ _ _ _ l hl).trans (congrArg₂ csOf (scal_ld arg2 f2 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) (scal_ld arg3 f3 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _))) (fun κ l hk hr => ldB arg10.view f10' hf _ _ hk _ ((by decide +kernel : ∀ i : grid0.Coords, k0_off67 i 1#32 = ![(4 * (i 1).val + 1) % 6, 32 * (1 * (1 + 1)), 0]) i) _ _ κ l hr)

theorem hva7 : ∀ (κ : Fin 128) (d : Fin 128), (va7 arg5 arg6 arg7 arg11 arg14 f5 f6 f7) (ix2 κ d) = codeOf arg7 f7 (keyOf 0 (8 * (i 1).val + (2 * 1)) κ.val) (2 * 1) d.val :=
  fun κ d => (slice_rows _ _ κ (by omega) d).trans ((ldc192_v arg5 arg6 arg7 arg11 arg14 f5 f6 f7 (2 * 1) 0 _ _ d).trans (congrArg (fun s => codeOf arg7 f7 s (2 * 1) d.val) (Nat.zero_add _)))

theorem hvb7 : ∀ (κ : Fin 128) (d : Fin 128), (vb7 arg5 arg6 arg7 arg11 arg14 f5 f6 f7) (ix2 κ d) = codeOf arg7 f7 (keyOf 0 (8 * (i 1).val + (2 * 1 + 1)) κ.val) (2 * 1 + 1) d.val :=
  fun κ d => (slice_rows _ _ κ (by omega) d).trans ((ldc192_v arg5 arg6 arg7 arg11 arg14 f5 f6 f7 (2 * 1 + 1) 0 _ _ d).trans (congrArg (fun s => codeOf arg7 f7 s (2 * 1 + 1) d.val) (Nat.zero_add _)))

include hf in
theorem h8_8 (prev : (∀ q ∈ bodyRun.sl.H8_7 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_8 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin7 i arg2 arg3 arg5 arg6 arg7 arg10 arg11 arg14 f2 f3 f5 f6 f7 f10' hf).out (V := codeOf arg7 f7) (vs := vsAt i arg4 f4) (va7 arg5 arg6 arg7 arg11 arg14 f5 f6 f7) (vb7 arg5 arg6 arg7 arg11 arg14 f5 f6 f7)
      _ _ (hva7 i arg5 arg6 arg7 arg11 arg14 f5 f6 f7) (hvb7 i arg5 arg6 arg7 arg11 arg14 f5 f6 f7) (scal_ld arg4 f4 (i 0).val (8 * (i 1).val + 2 * 1) (i0_lt i) (by have := i1_lt' i; omega) _ ((by decide +kernel : ∀ i : grid0.Coords, k0_off64 i 2#32 = ![(i 0).val, 8 * (i 1).val + 2 * 1]) i) _ _) (scal_ld arg4 f4 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) ![0, 64, 256] rfl (by decide) x,
    prev⟩

include hf in
theorem h13_16 (prev : (∀ q ∈ bodyRun.sl.H13_14 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_16 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin7 i arg2 arg3 arg5 arg6 arg7 arg10 arg11 arg14 f2 f3 f5 f6 f7 f10' hf).lseB (k0_off85 i) ((by decide +kernel : ∀ i : grid0.Coords, k0_off85 i = ![(i 1).val, 2 * 1 + 1, 192 * 0 + 64 * 1]) i) (Gen.k0_off85_inb i) x,
    List.forall_mem_cons.2 ⟨fun x => (tin7 i arg2 arg3 arg5 arg6 arg7 arg10 arg11 arg14 f2 f3 f5 f6 f7 f10' hf).lseA (k0_off84 i) ((by decide +kernel : ∀ i : grid0.Coords, k0_off84 i = ![(i 1).val, 2 * 1, 192 * 0 + 64 * 1]) i) (Gen.k0_off84_inb i) x,
    prev⟩⟩

/-- The keys of tile 8, -/
def keys8 : FVec Ideal ⟨2, ![192, 256]⟩ .fp8e4m3 := (cat192 (ldc192 arg5 arg6 arg7 arg11 arg14 f5 f6 f7 1 2 0 (by decide)) (ldc192 arg5 arg6 arg7 arg11 arg14 f5 f6 f7 1 3 0 (by decide)))
/-- its first and -/
def qa8 : FVec Ideal S64x128 .fp8e4m3 := (ldc64 arg5 arg6 arg7 arg11 arg14 f5 f6 f7 0 2 32 (by decide))
/-- its second queries, -/
def qb8 : FVec Ideal S64x128 .fp8e4m3 := (ldc64 arg5 arg6 arg7 arg11 arg14 f5 f6 f7 0 3 32 (by decide))
/-- its scales, -/
def cv8 : FVec Ideal S1x128 .f32 := (cvecOf (View.readAt (Elt Ideal) arg2.view (Rect.unit (s := S4x56) (k0_off62 i 2#32 0#32) S1x1.size (Gen.k0_off62_inb i 1 0)).toLoadRect f2 (Shape.Idx.first (show 0 < S1x1.numel by decide))) (View.readAt (Elt Ideal) arg3.view (Rect.unit (s := S4x56) (k0_off62 i 2#32 0#32) S1x1.size (Gen.k0_off62_inb i 1 0)).toLoadRect f3 (Shape.Idx.first (show 0 < S1x1.numel by decide))) (View.readAt (Elt Ideal) arg2.view (Rect.unit (s := S4x56) (k0_off62 i 2#32 1#32) S1x1.size (Gen.k0_off62_inb i 1 1)).toLoadRect f2 (Shape.Idx.first (show 0 < S1x1.numel by decide))) (View.readAt (Elt Ideal) arg3.view (Rect.unit (s := S4x56) (k0_off62 i 2#32 1#32) S1x1.size (Gen.k0_off62_inb i 1 1)).toLoadRect f3 (Shape.Idx.first (show 0 < S1x1.numel by decide))))
/-- its bias, -/
def bi8 : FVec Ideal ⟨2, ![192, 128]⟩ .f32 := (bLd arg10 f10' 192 (k0_off70 i 1#32) (Gen.k0_off70_inb i 1) (by decide))
/-- its first and -/
def va8 : FVec Ideal ⟨2, ![192, 128]⟩ .fp8e4m3 := (ldc192 arg5 arg6 arg7 arg11 arg14 f5 f6 f7 2 2 0 (by decide))
/-- its second values. -/
def vb8 : FVec Ideal ⟨2, ![192, 128]⟩ .fp8e4m3 := (ldc192 arg5 arg6 arg7 arg11 arg14 f5 f6 f7 2 3 0 (by decide))

include hf in
theorem tin8 : TileIn (codeOf arg6 f6) (codeOf arg5 f5) (csAt i arg2 arg3 f2 f3) (i 1).val 0 2 1 192 ok192 (keys8 arg5 arg6 arg7 arg11 arg14 f5 f6 f7) (qa8 arg5 arg6 arg7 arg11 arg14 f5 f6 f7) (qb8 arg5 arg6 arg7 arg11 arg14 f5 f6 f7) (cv8 i arg2 arg3 f2 f3) (bi8 i arg10 f10') :=
  mk0 (K := codeOf arg6 f6) (Q := codeOf arg5 f5) (cs := csAt i arg2 arg3 f2 f3) (g := (i 1).val) (p := 1) (by decide) (by decide) (ldc192 arg5 arg6 arg7 arg11 arg14 f5 f6 f7 1 2 0 (by decide)) (ldc192 arg5 arg6 arg7 arg11 arg14 f5 f6 f7 1 3 0 (by decide)) (fun κ j hκ => rfl) (fun κ d => (ldc192_k arg5 arg6 arg7 arg11 arg14 f5 f6 f7 (2 * 1) 0 _ κ d).trans (congrArg (fun s => codeOf arg6 f6 s (2 * 1) d.val) (by omega))) (fun κ d => (ldc192_k arg5 arg6 arg7 arg11 arg14 f5 f6 f7 (2 * 1 + 1) 0 _ κ d).trans (congrArg (fun s => codeOf arg6 f6 s (2 * 1 + 1) d.val) (by omega))) (fun κ d => (ldc64_q arg5 arg6 arg7 arg11 arg14 f5 f6 f7 (2 * 1) 32 _ κ d).trans (congrArg (fun s => codeOf arg5 f5 s (2 * 1) d.val) (by omega))) (fun κ d => (ldc64_q arg5 arg6 arg7 arg11 arg14 f5 f6 f7 (2 * 1 + 1) 32 _ κ d).trans (congrArg (fun s => codeOf arg5 f5 s (2 * 1 + 1) d.val) (by omega))) (fun l hl => (cvec_a _ _ _ _ l hl).trans (congrArg₂ csOf (scal_ld arg2 f2 (i 0).val (8 * (i 1).val + 2 * 1) (i0_lt i) (by have := i1_lt' i; omega) _ ((by decide +kernel : ∀ i : grid0.Coords, k0_off62 i 2#32 0#32 = ![(i 0).val, 8 * (i 1).val + 2 * 1]) i) _ _) (scal_ld arg3 f3 (i 0).val (8 * (i 1).val + 2 * 1) (i0_lt i) (by have := i1_lt' i; omega) _ ((by decide +kernel : ∀ i : grid0.Coords, k0_off62 i 2#32 0#32 = ![(i 0).val, 8 * (i 1).val + 2 * 1]) i) _ _))) (fun l hl => (cvec_b _ _ _ _ l hl).trans (congrArg₂ csOf (scal_ld arg2 f2 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) (scal_ld arg3 f3 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _))) (fun κ l hk hr => ldB arg10.view f10' hf _ _ hk _ ((by decide +kernel : ∀ i : grid0.Coords, k0_off70 i 1#32 = ![(4 * (i 1).val + 1) % 6, 32 * (2 * (2 + 1)), 0]) i) _ _ κ l hr)

theorem hva8 : ∀ (κ : Fin 192) (d : Fin 128), (va8 arg5 arg6 arg7 arg11 arg14 f5 f6 f7) (ix2 κ d) = codeOf arg7 f7 (keyOf 0 (8 * (i 1).val + (2 * 1)) κ.val) (2 * 1) d.val :=
  fun κ d => (ldc192_v arg5 arg6 arg7 arg11 arg14 f5 f6 f7 (2 * 1) 0 _ _ d).trans (congrArg (fun s => codeOf arg7 f7 s (2 * 1) d.val) (Nat.zero_add _))

theorem hvb8 : ∀ (κ : Fin 192) (d : Fin 128), (vb8 arg5 arg6 arg7 arg11 arg14 f5 f6 f7) (ix2 κ d) = codeOf arg7 f7 (keyOf 0 (8 * (i 1).val + (2 * 1 + 1)) κ.val) (2 * 1 + 1) d.val :=
  fun κ d => (ldc192_v arg5 arg6 arg7 arg11 arg14 f5 f6 f7 (2 * 1 + 1) 0 _ _ d).trans (congrArg (fun s => codeOf arg7 f7 s (2 * 1 + 1) d.val) (Nat.zero_add _))

include hf in
theorem h8_9 (prev : (∀ q ∈ bodyRun.sl.H8_8 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_9 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin8 i arg2 arg3 arg5 arg6 arg7 arg10 arg11 arg14 f2 f3 f5 f6 f7 f10' hf).out (V := codeOf arg7 f7) (vs := vsAt i arg4 f4) (va8 arg5 arg6 arg7 arg11 arg14 f5 f6 f7) (vb8 arg5 arg6 arg7 arg11 arg14 f5 f6 f7)
      _ _ (hva8 i arg5 arg6 arg7 arg11 arg14 f5 f6 f7) (hvb8 i arg5 arg6 arg7 arg11 arg14 f5 f6 f7) (scal_ld arg4 f4 (i 0).val (8 * (i 1).val + 2 * 1) (i0_lt i) (by have := i1_lt' i; omega) _ ((by decide +kernel : ∀ i : grid0.Coords, k0_off64 i 2#32 = ![(i 0).val, 8 * (i 1).val + 2 * 1]) i) _ _) (scal_ld arg4 f4 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) ![0, 128, 256] rfl (by decide) x,
    prev⟩

include hf in
theorem h13_18 (prev : (∀ q ∈ bodyRun.sl.H13_16 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_18 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin8 i arg2 arg3 arg5 arg6 arg7 arg10 arg11 arg14 f2 f3 f5 f6 f7 f10' hf).lseB (k0_off87 i) ((by decide +kernel : ∀ i : grid0.Coords, k0_off87 i = ![(i 1).val, 2 * 1 + 1, 192 * 0 + 64 * 2]) i) (Gen.k0_off87_inb i) x,
    List.forall_mem_cons.2 ⟨fun x => (tin8 i arg2 arg3 arg5 arg6 arg7 arg10 arg11 arg14 f2 f3 f5 f6 f7 f10' hf).lseA (k0_off86 i) ((by decide +kernel : ∀ i : grid0.Coords, k0_off86 i = ![(i 1).val, 2 * 1, 192 * 0 + 64 * 2]) i) (Gen.k0_off86_inb i) x,
    prev⟩⟩

/-- The keys of tile 9, -/
def keys9 : FVec Ideal ⟨2, ![96, 256]⟩ .fp8e4m3 := (concatenate S96x256 0 [⟨S32x256, cat32 (ldc32 i arg5 arg6 arg7 arg12 arg14 f5 f6 f7 0 2 (by decide)) (ldc32 i arg5 arg6 arg7 arg12 arg14 f5 f6 f7 0 3 (by decide))⟩, ⟨S64x256, (extractStridedSlice S64x256 ![0, 0] (cat192 (ldc192 arg5 arg6 arg7 arg11 arg14 f5 f6 f7 1 2 48 (by decide)) (ldc192 arg5 arg6 arg7 arg11 arg14 f5 f6 f7 1 3 48 (by decide))) Gen.slices_S192x256_o0_0_S64x256)⟩] (show Shape.Concatenates [S32x256, S64x256] S96x256 0 by decide))
/-- its first and -/
def qa9 : FVec Ideal S64x128 .fp8e4m3 := (ldc64 arg5 arg6 arg7 arg11 arg14 f5 f6 f7 0 2 48 (by decide))
/-- its second queries, -/
def qb9 : FVec Ideal S64x128 .fp8e4m3 := (ldc64 arg5 arg6 arg7 arg11 arg14 f5 f6 f7 0 3 48 (by decide))
/-- its scales, -/
def cv9 : FVec Ideal S1x128 .f32 := (cvecOf (View.readAt (Elt Ideal) arg2.view (Rect.unit (s := S4x56) (k0_off62 i 2#32 0#32) S1x1.size (Gen.k0_off62_inb i 1 0)).toLoadRect f2 (Shape.Idx.first (show 0 < S1x1.numel by decide))) (View.readAt (Elt Ideal) arg3.view (Rect.unit (s := S4x56) (k0_off62 i 2#32 0#32) S1x1.size (Gen.k0_off62_inb i 1 0)).toLoadRect f3 (Shape.Idx.first (show 0 < S1x1.numel by decide))) (View.readAt (Elt Ideal) arg2.view (Rect.unit (s := S4x56) (k0_off62 i 2#32 1#32) S1x1.size (Gen.k0_off62_inb i 1 1)).toLoadRect f2 (Shape.Idx.first (show 0 < S1x1.numel by decide))) (View.readAt (Elt Ideal) arg3.view (Rect.unit (s := S4x56) (k0_off62 i 2#32 1#32) S1x1.size (Gen.k0_off62_inb i 1 1)).toLoadRect f3 (Shape.Idx.first (show 0 < S1x1.numel by decide))))
/-- its bias, -/
def bi9 : FVec Ideal ⟨2, ![96, 128]⟩ .f32 := (concatenate S96x128 0 [⟨S32x128, (bLd arg10 f10' 32 (k0_off73 i 1#32) (Gen.k0_off73_inb i 1) (by decide))⟩, ⟨S64x128, (bLd arg10 f10' 64 (k0_off63 i 1#32) (Gen.k0_off63_inb i 1) (by decide))⟩] (show Shape.Concatenates [S32x128, S64x128] S96x128 0 by decide))
/-- its first and -/
def va9 : FVec Ideal ⟨2, ![96, 128]⟩ .fp8e4m3 := (concatenate S96x128 0 [⟨S32x128, (ldc32 i arg5 arg6 arg7 arg12 arg14 f5 f6 f7 1 2 (by decide))⟩, ⟨S64x128, (extractStridedSlice S64x128 ![0, 0] (ldc192 arg5 arg6 arg7 arg11 arg14 f5 f6 f7 2 2 48 (by decide)) Gen.slices_S192x128_o0_0_S64x128)⟩] (show Shape.Concatenates [S32x128, S64x128] S96x128 0 by decide))
/-- its second values. -/
def vb9 : FVec Ideal ⟨2, ![96, 128]⟩ .fp8e4m3 := (concatenate S96x128 0 [⟨S32x128, (ldc32 i arg5 arg6 arg7 arg12 arg14 f5 f6 f7 1 3 (by decide))⟩, ⟨S64x128, (extractStridedSlice S64x128 ![0, 0] (ldc192 arg5 arg6 arg7 arg11 arg14 f5 f6 f7 2 3 48 (by decide)) Gen.slices_S192x128_o0_0_S64x128)⟩] (show Shape.Concatenates [S32x128, S64x128] S96x128 0 by decide))

include hf in
theorem tin9 : TileIn (codeOf arg6 f6) (codeOf arg5 f5) (csAt i arg2 arg3 f2 f3) (i 1).val 1 0 1 96 ok96 (keys9 i arg5 arg6 arg7 arg11 arg12 arg14 f5 f6 f7) (qa9 arg5 arg6 arg7 arg11 arg14 f5 f6 f7) (qb9 arg5 arg6 arg7 arg11 arg14 f5 f6 f7) (cv9 i arg2 arg3 f2 f3) (bi9 i arg10 f10') :=
  mk1 (n := 96) (m := 64) (blk := 0) (K := codeOf arg6 f6) (Q := codeOf arg5 f5) (cs := csAt i arg2 arg3 f2 f3) (g := (i 1).val) (p := 1) (by decide) (by decide) (by decide) (ldc192 arg5 arg6 arg7 arg11 arg14 f5 f6 f7 1 2 48 (by decide)) (ldc192 arg5 arg6 arg7 arg11 arg14 f5 f6 f7 1 3 48 (by decide)) (ldc32 i arg5 arg6 arg7 arg12 arg14 f5 f6 f7 0 2 (by decide)) (ldc32 i arg5 arg6 arg7 arg12 arg14 f5 f6 f7 0 3 (by decide)) _ _ (fun κ j hκ => slice_rows _ _ κ hκ j) (fun κ d => (ldc192_k arg5 arg6 arg7 arg11 arg14 f5 f6 f7 (2 * 1) 48 _ κ d).trans (congrArg (fun s => codeOf arg6 f6 s (2 * 1) d.val) (by omega))) (fun κ d => (ldc192_k arg5 arg6 arg7 arg11 arg14 f5 f6 f7 (2 * 1 + 1) 48 _ κ d).trans (congrArg (fun s => codeOf arg6 f6 s (2 * 1 + 1) d.val) (by omega))) (fun κ d => ldc32_k i arg5 arg6 arg7 arg12 arg14 f5 f6 f7 (2 * 1) _ κ d) (fun κ d => ldc32_k i arg5 arg6 arg7 arg12 arg14 f5 f6 f7 (2 * 1 + 1) _ κ d) (fun κ d => (ldc64_q arg5 arg6 arg7 arg11 arg14 f5 f6 f7 (2 * 1) 48 _ κ d).trans (congrArg (fun s => codeOf arg5 f5 s (2 * 1) d.val) (by omega))) (fun κ d => (ldc64_q arg5 arg6 arg7 arg11 arg14 f5 f6 f7 (2 * 1 + 1) 48 _ κ d).trans (congrArg (fun s => codeOf arg5 f5 s (2 * 1 + 1) d.val) (by omega))) (fun l hl => (cvec_a _ _ _ _ l hl).trans (congrArg₂ csOf (scal_ld arg2 f2 (i 0).val (8 * (i 1).val + 2 * 1) (i0_lt i) (by have := i1_lt' i; omega) _ ((by decide +kernel : ∀ i : grid0.Coords, k0_off62 i 2#32 0#32 = ![(i 0).val, 8 * (i 1).val + 2 * 1]) i) _ _) (scal_ld arg3 f3 (i 0).val (8 * (i 1).val + 2 * 1) (i0_lt i) (by have := i1_lt' i; omega) _ ((by decide +kernel : ∀ i : grid0.Coords, k0_off62 i 2#32 0#32 = ![(i 0).val, 8 * (i 1).val + 2 * 1]) i) _ _))) (fun l hl => (cvec_b _ _ _ _ l hl).trans (congrArg₂ csOf (scal_ld arg2 f2 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) (scal_ld arg3 f3 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _))) (fun κ l hk hr => ldB arg10.view f10' hf _ _ hk _ ((by decide +kernel : ∀ i : grid0.Coords, k0_off63 i 1#32 = ![(4 * (i 1).val + 1) % 6, 32 * (0 * (0 + 1)), 0]) i) _ _ κ l hr) (fun κ l hk hr => ldB arg10.view f10' hf _ _ hk _ ((by decide +kernel : ∀ i : grid0.Coords, k0_off73 i 1#32 = ![(4 * (i 1).val + 1) % 6, 384 + 32 * 0, 0]) i) _ _ κ l hr)

theorem hva9 : ∀ (κ : Fin 96) (d : Fin 128), (va9 i arg5 arg6 arg7 arg11 arg12 arg14 f5 f6 f7) (ix2 κ d) = codeOf arg7 f7 (keyOf 1 (8 * (i 1).val + (2 * 1)) κ.val) (2 * 1) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 1) _ _ d
  · exact (slice_rows _ _ _ (by show κ.val - 32 < 192; omega) d).trans ((ldc192_v arg5 arg6 arg7 arg11 arg14 f5 f6 f7 (2 * 1) 48 _ _ d).trans rfl)

theorem hvb9 : ∀ (κ : Fin 96) (d : Fin 128), (vb9 i arg5 arg6 arg7 arg11 arg12 arg14 f5 f6 f7) (ix2 κ d) = codeOf arg7 f7 (keyOf 1 (8 * (i 1).val + (2 * 1 + 1)) κ.val) (2 * 1 + 1) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 1 + 1) _ _ d
  · exact (slice_rows _ _ _ (by show κ.val - 32 < 192; omega) d).trans ((ldc192_v arg5 arg6 arg7 arg11 arg14 f5 f6 f7 (2 * 1 + 1) 48 _ _ d).trans rfl)

include hf in
theorem h8_10 (prev : (∀ q ∈ bodyRun.sl.H8_9 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_10 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin9 i arg2 arg3 arg5 arg6 arg7 arg10 arg11 arg12 arg14 f2 f3 f5 f6 f7 f10' hf).out (V := codeOf arg7 f7) (vs := vsAt i arg4 f4) (va9 i arg5 arg6 arg7 arg11 arg12 arg14 f5 f6 f7) (vb9 i arg5 arg6 arg7 arg11 arg12 arg14 f5 f6 f7)
      _ _ (hva9 i arg5 arg6 arg7 arg11 arg12 arg14 f5 f6 f7) (hvb9 i arg5 arg6 arg7 arg11 arg12 arg14 f5 f6 f7) (scal_ld arg4 f4 (i 0).val (8 * (i 1).val + 2 * 1) (i0_lt i) (by have := i1_lt' i; omega) _ ((by decide +kernel : ∀ i : grid0.Coords, k0_off64 i 2#32 = ![(i 0).val, 8 * (i 1).val + 2 * 1]) i) _ _) (scal_ld arg4 f4 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) ![0, 192, 256] rfl (by decide) x,
    prev⟩

include hf in
theorem h13_20 (prev : (∀ q ∈ bodyRun.sl.H13_18 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_20 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin9 i arg2 arg3 arg5 arg6 arg7 arg10 arg11 arg12 arg14 f2 f3 f5 f6 f7 f10' hf).lseB (k0_off89 i) ((by decide +kernel : ∀ i : grid0.Coords, k0_off89 i = ![(i 1).val, 2 * 1 + 1, 192 * 1 + 64 * 0]) i) (Gen.k0_off89_inb i) x,
    List.forall_mem_cons.2 ⟨fun x => (tin9 i arg2 arg3 arg5 arg6 arg7 arg10 arg11 arg12 arg14 f2 f3 f5 f6 f7 f10' hf).lseA (k0_off88 i) ((by decide +kernel : ∀ i : grid0.Coords, k0_off88 i = ![(i 1).val, 2 * 1, 192 * 1 + 64 * 0]) i) (Gen.k0_off88_inb i) x,
    prev⟩⟩

/-- The keys of tile 10, -/
def keys10 : FVec Ideal ⟨2, ![160, 256]⟩ .fp8e4m3 := (concatenate S160x256 0 [⟨S32x256, cat32 (ldc32 i arg5 arg6 arg7 arg12 arg14 f5 f6 f7 0 2 (by decide)) (ldc32 i arg5 arg6 arg7 arg12 arg14 f5 f6 f7 0 3 (by decide))⟩, ⟨S128x256, (extractStridedSlice S128x256 ![0, 0] (cat192 (ldc192 arg5 arg6 arg7 arg11 arg14 f5 f6 f7 1 2 48 (by decide)) (ldc192 arg5 arg6 arg7 arg11 arg14 f5 f6 f7 1 3 48 (by decide))) Gen.slices_S192x256_o0_0_S128x256)⟩] (show Shape.Concatenates [S32x256, S128x256] S160x256 0 by decide))
/-- its first and -/
def qa10 : FVec Ideal S64x128 .fp8e4m3 := (ldc64 arg5 arg6 arg7 arg11 arg14 f5 f6 f7 0 2 64 (by decide))
/-- its second queries, -/
def qb10 : FVec Ideal S64x128 .fp8e4m3 := (ldc64 arg5 arg6 arg7 arg11 arg14 f5 f6 f7 0 3 64 (by decide))
/-- its scales, -/
def cv10 : FVec Ideal S1x128 .f32 := (cvecOf (View.readAt (Elt Ideal) arg2.view (Rect.unit (s := S4x56) (k0_off62 i 2#32 0#32) S1x1.size (Gen.k0_off62_inb i 1 0)).toLoadRect f2 (Shape.Idx.first (show 0 < S1x1.numel by decide))) (View.readAt (Elt Ideal) arg3.view (Rect.unit (s := S4x56) (k0_off62 i 2#32 0#32) S1x1.size (Gen.k0_off62_inb i 1 0)).toLoadRect f3 (Shape.Idx.first (show 0 < S1x1.numel by decide))) (View.readAt (Elt Ideal) arg2.view (Rect.unit (s := S4x56) (k0_off62 i 2#32 1#32) S1x1.size (Gen.k0_off62_inb i 1 1)).toLoadRect f2 (Shape.Idx.first (show 0 < S1x1.numel by decide))) (View.readAt (Elt Ideal) arg3.view (Rect.unit (s := S4x56) (k0_off62 i 2#32 1#32) S1x1.size (Gen.k0_off62_inb i 1 1)).toLoadRect f3 (Shape.Idx.first (show 0 < S1x1.numel by decide))))
/-- its bias, -/
def bi10 : FVec Ideal ⟨2, ![160, 128]⟩ .f32 := (concatenate S160x128 0 [⟨S32x128, (bLd arg10 f10' 32 (k0_off76 i 1#32) (Gen.k0_off76_inb i 1) (by decide))⟩, ⟨S128x128, (bLd arg10 f10' 128 (k0_off67 i 1#32) (Gen.k0_off67_inb i 1) (by decide))⟩] (show Shape.Concatenates [S32x128, S128x128] S160x128 0 by decide))
/-- its first and -/
def va10 : FVec Ideal ⟨2, ![160, 128]⟩ .fp8e4m3 := (concatenate S160x128 0 [⟨S32x128, (ldc32 i arg5 arg6 arg7 arg12 arg14 f5 f6 f7 1 2 (by decide))⟩, ⟨S128x128, (extractStridedSlice S128x128 ![0, 0] (ldc192 arg5 arg6 arg7 arg11 arg14 f5 f6 f7 2 2 48 (by decide)) Gen.slices_S192x128_o0_0_S128x128)⟩] (show Shape.Concatenates [S32x128, S128x128] S160x128 0 by decide))
/-- its second values. -/
def vb10 : FVec Ideal ⟨2, ![160, 128]⟩ .fp8e4m3 := (concatenate S160x128 0 [⟨S32x128, (ldc32 i arg5 arg6 arg7 arg12 arg14 f5 f6 f7 1 3 (by decide))⟩, ⟨S128x128, (extractStridedSlice S128x128 ![0, 0] (ldc192 arg5 arg6 arg7 arg11 arg14 f5 f6 f7 2 3 48 (by decide)) Gen.slices_S192x128_o0_0_S128x128)⟩] (show Shape.Concatenates [S32x128, S128x128] S160x128 0 by decide))

include hf in
theorem tin10 : TileIn (codeOf arg6 f6) (codeOf arg5 f5) (csAt i arg2 arg3 f2 f3) (i 1).val 1 1 1 160 ok160 (keys10 i arg5 arg6 arg7 arg11 arg12 arg14 f5 f6 f7) (qa10 arg5 arg6 arg7 arg11 arg14 f5 f6 f7) (qb10 arg5 arg6 arg7 arg11 arg14 f5 f6 f7) (cv10 i arg2 arg3 f2 f3) (bi10 i arg10 f10') :=
  mk1 (n := 160) (m := 128) (blk := 1) (K := codeOf arg6 f6) (Q := codeOf arg5 f5) (cs := csAt i arg2 arg3 f2 f3) (g := (i 1).val) (p := 1) (by decide) (by decide) (by decide) (ldc192 arg5 arg6 arg7 arg11 arg14 f5 f6 f7 1 2 48 (by decide)) (ldc192 arg5 arg6 arg7 arg11 arg14 f5 f6 f7 1 3 48 (by decide)) (ldc32 i arg5 arg6 arg7 arg12 arg14 f5 f6 f7 0 2 (by decide)) (ldc32 i arg5 arg6 arg7 arg12 arg14 f5 f6 f7 0 3 (by decide)) _ _ (fun κ j hκ => slice_rows _ _ κ hκ j) (fun κ d => (ldc192_k arg5 arg6 arg7 arg11 arg14 f5 f6 f7 (2 * 1) 48 _ κ d).trans (congrArg (fun s => codeOf arg6 f6 s (2 * 1) d.val) (by omega))) (fun κ d => (ldc192_k arg5 arg6 arg7 arg11 arg14 f5 f6 f7 (2 * 1 + 1) 48 _ κ d).trans (congrArg (fun s => codeOf arg6 f6 s (2 * 1 + 1) d.val) (by omega))) (fun κ d => ldc32_k i arg5 arg6 arg7 arg12 arg14 f5 f6 f7 (2 * 1) _ κ d) (fun κ d => ldc32_k i arg5 arg6 arg7 arg12 arg14 f5 f6 f7 (2 * 1 + 1) _ κ d) (fun κ d => (ldc64_q arg5 arg6 arg7 arg11 arg14 f5 f6 f7 (2 * 1) 64 _ κ d).trans (congrArg (fun s => codeOf arg5 f5 s (2 * 1) d.val) (by omega))) (fun κ d => (ldc64_q arg5 arg6 arg7 arg11 arg14 f5 f6 f7 (2 * 1 + 1) 64 _ κ d).trans (congrArg (fun s => codeOf arg5 f5 s (2 * 1 + 1) d.val) (by omega))) (fun l hl => (cvec_a _ _ _ _ l hl).trans (congrArg₂ csOf (scal_ld arg2 f2 (i 0).val (8 * (i 1).val + 2 * 1) (i0_lt i) (by have := i1_lt' i; omega) _ ((by decide +kernel : ∀ i : grid0.Coords, k0_off62 i 2#32 0#32 = ![(i 0).val, 8 * (i 1).val + 2 * 1]) i) _ _) (scal_ld arg3 f3 (i 0).val (8 * (i 1).val + 2 * 1) (i0_lt i) (by have := i1_lt' i; omega) _ ((by decide +kernel : ∀ i : grid0.Coords, k0_off62 i 2#32 0#32 = ![(i 0).val, 8 * (i 1).val + 2 * 1]) i) _ _))) (fun l hl => (cvec_b _ _ _ _ l hl).trans (congrArg₂ csOf (scal_ld arg2 f2 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) (scal_ld arg3 f3 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _))) (fun κ l hk hr => ldB arg10.view f10' hf _ _ hk _ ((by decide +kernel : ∀ i : grid0.Coords, k0_off67 i 1#32 = ![(4 * (i 1).val + 1) % 6, 32 * (1 * (1 + 1)), 0]) i) _ _ κ l hr) (fun κ l hk hr => ldB arg10.view f10' hf _ _ hk _ ((by decide +kernel : ∀ i : grid0.Coords, k0_off76 i 1#32 = ![(4 * (i 1).val + 1) % 6, 384 + 32 * 1, 0]) i) _ _ κ l hr)

theorem hva10 : ∀ (κ : Fin 160) (d : Fin 128), (va10 i arg5 arg6 arg7 arg11 arg12 arg14 f5 f6 f7) (ix2 κ d) = codeOf arg7 f7 (keyOf 1 (8 * (i 1).val + (2 * 1)) κ.val) (2 * 1) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 1) _ _ d
  · exact (slice_rows _ _ _ (by show κ.val - 32 < 192; omega) d).trans ((ldc192_v arg5 arg6 arg7 arg11 arg14 f5 f6 f7 (2 * 1) 48 _ _ d).trans rfl)

theorem hvb10 : ∀ (κ : Fin 160) (d : Fin 128), (vb10 i arg5 arg6 arg7 arg11 arg12 arg14 f5 f6 f7) (ix2 κ d) = codeOf arg7 f7 (keyOf 1 (8 * (i 1).val + (2 * 1 + 1)) κ.val) (2 * 1 + 1) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 1 + 1) _ _ d
  · exact (slice_rows _ _ _ (by show κ.val - 32 < 192; omega) d).trans ((ldc192_v arg5 arg6 arg7 arg11 arg14 f5 f6 f7 (2 * 1 + 1) 48 _ _ d).trans rfl)

include hf in
theorem h8_11 (prev : (∀ q ∈ bodyRun.sl.H8_10 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_11 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin10 i arg2 arg3 arg5 arg6 arg7 arg10 arg11 arg12 arg14 f2 f3 f5 f6 f7 f10' hf).out (V := codeOf arg7 f7) (vs := vsAt i arg4 f4) (va10 i arg5 arg6 arg7 arg11 arg12 arg14 f5 f6 f7) (vb10 i arg5 arg6 arg7 arg11 arg12 arg14 f5 f6 f7)
      _ _ (hva10 i arg5 arg6 arg7 arg11 arg12 arg14 f5 f6 f7) (hvb10 i arg5 arg6 arg7 arg11 arg12 arg14 f5 f6 f7) (scal_ld arg4 f4 (i 0).val (8 * (i 1).val + 2 * 1) (i0_lt i) (by have := i1_lt' i; omega) _ ((by decide +kernel : ∀ i : grid0.Coords, k0_off64 i 2#32 = ![(i 0).val, 8 * (i 1).val + 2 * 1]) i) _ _) (scal_ld arg4 f4 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) ![0, 256, 256] rfl (by decide) x,
    prev⟩

include hf in
theorem h13_22 (prev : (∀ q ∈ bodyRun.sl.H13_20 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_22 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin10 i arg2 arg3 arg5 arg6 arg7 arg10 arg11 arg12 arg14 f2 f3 f5 f6 f7 f10' hf).lseB (k0_off91 i) ((by decide +kernel : ∀ i : grid0.Coords, k0_off91 i = ![(i 1).val, 2 * 1 + 1, 192 * 1 + 64 * 1]) i) (Gen.k0_off91_inb i) x,
    List.forall_mem_cons.2 ⟨fun x => (tin10 i arg2 arg3 arg5 arg6 arg7 arg10 arg11 arg12 arg14 f2 f3 f5 f6 f7 f10' hf).lseA (k0_off90 i) ((by decide +kernel : ∀ i : grid0.Coords, k0_off90 i = ![(i 1).val, 2 * 1, 192 * 1 + 64 * 1]) i) (Gen.k0_off90_inb i) x,
    prev⟩⟩

/-- The keys of tile 11, -/
def keys11 : FVec Ideal ⟨2, ![224, 256]⟩ .fp8e4m3 := (concatenate S224x256 0 [⟨S32x256, cat32 (ldc32 i arg5 arg6 arg7 arg12 arg14 f5 f6 f7 0 2 (by decide)) (ldc32 i arg5 arg6 arg7 arg12 arg14 f5 f6 f7 0 3 (by decide))⟩, ⟨S192x256, (cat192 (ldc192 arg5 arg6 arg7 arg11 arg14 f5 f6 f7 1 2 48 (by decide)) (ldc192 arg5 arg6 arg7 arg11 arg14 f5 f6 f7 1 3 48 (by decide)))⟩] (show Shape.Concatenates [S32x256, S192x256] S224x256 0 by decide))
/-- its first and -/
def qa11 : FVec Ideal S64x128 .fp8e4m3 := (ldc64 arg5 arg6 arg7 arg11 arg14 f5 f6 f7 0 2 80 (by decide))
/-- its second queries, -/
def qb11 : FVec Ideal S64x128 .fp8e4m3 := (ldc64 arg5 arg6 arg7 arg11 arg14 f5 f6 f7 0 3 80 (by decide))
/-- its scales, -/
def cv11 : FVec Ideal S1x128 .f32 := (cvecOf (View.readAt (Elt Ideal) arg2.view (Rect.unit (s := S4x56) (k0_off62 i 2#32 0#32) S1x1.size (Gen.k0_off62_inb i 1 0)).toLoadRect f2 (Shape.Idx.first (show 0 < S1x1.numel by decide))) (View.readAt (Elt Ideal) arg3.view (Rect.unit (s := S4x56) (k0_off62 i 2#32 0#32) S1x1.size (Gen.k0_off62_inb i 1 0)).toLoadRect f3 (Shape.Idx.first (show 0 < S1x1.numel by decide))) (View.readAt (Elt Ideal) arg2.view (Rect.unit (s := S4x56) (k0_off62 i 2#32 1#32) S1x1.size (Gen.k0_off62_inb i 1 1)).toLoadRect f2 (Shape.Idx.first (show 0 < S1x1.numel by decide))) (View.readAt (Elt Ideal) arg3.view (Rect.unit (s := S4x56) (k0_off62 i 2#32 1#32) S1x1.size (Gen.k0_off62_inb i 1 1)).toLoadRect f3 (Shape.Idx.first (show 0 < S1x1.numel by decide))))
/-- its bias, -/
def bi11 : FVec Ideal ⟨2, ![224, 128]⟩ .f32 := (concatenate S224x128 0 [⟨S32x128, (bLd arg10 f10' 32 (k0_off79 i 1#32) (Gen.k0_off79_inb i 1) (by decide))⟩, ⟨S192x128, (bLd arg10 f10' 192 (k0_off70 i 1#32) (Gen.k0_off70_inb i 1) (by decide))⟩] (show Shape.Concatenates [S32x128, S192x128] S224x128 0 by decide))
/-- its first and -/
def va11 : FVec Ideal ⟨2, ![224, 128]⟩ .fp8e4m3 := (concatenate S224x128 0 [⟨S32x128, (ldc32 i arg5 arg6 arg7 arg12 arg14 f5 f6 f7 1 2 (by decide))⟩, ⟨S192x128, (ldc192 arg5 arg6 arg7 arg11 arg14 f5 f6 f7 2 2 48 (by decide))⟩] (show Shape.Concatenates [S32x128, S192x128] S224x128 0 by decide))
/-- its second values. -/
def vb11 : FVec Ideal ⟨2, ![224, 128]⟩ .fp8e4m3 := (concatenate S224x128 0 [⟨S32x128, (ldc32 i arg5 arg6 arg7 arg12 arg14 f5 f6 f7 1 3 (by decide))⟩, ⟨S192x128, (ldc192 arg5 arg6 arg7 arg11 arg14 f5 f6 f7 2 3 48 (by decide))⟩] (show Shape.Concatenates [S32x128, S192x128] S224x128 0 by decide))

include hf in
theorem tin11 : TileIn (codeOf arg6 f6) (codeOf arg5 f5) (csAt i arg2 arg3 f2 f3) (i 1).val 1 2 1 224 ok224 (keys11 i arg5 arg6 arg7 arg11 arg12 arg14 f5 f6 f7) (qa11 arg5 arg6 arg7 arg11 arg14 f5 f6 f7) (qb11 arg5 arg6 arg7 arg11 arg14 f5 f6 f7) (cv11 i arg2 arg3 f2 f3) (bi11 i arg10 f10') :=
  mk1 (n := 224) (m := 192) (blk := 2) (K := codeOf arg6 f6) (Q := codeOf arg5 f5) (cs := csAt i arg2 arg3 f2 f3) (g := (i 1).val) (p := 1) (by decide) (by decide) (by decide) (ldc192 arg5 arg6 arg7 arg11 arg14 f5 f6 f7 1 2 48 (by decide)) (ldc192 arg5 arg6 arg7 arg11 arg14 f5 f6 f7 1 3 48 (by decide)) (ldc32 i arg5 arg6 arg7 arg12 arg14 f5 f6 f7 0 2 (by decide)) (ldc32 i arg5 arg6 arg7 arg12 arg14 f5 f6 f7 0 3 (by decide)) _ _ (fun κ j hκ => rfl) (fun κ d => (ldc192_k arg5 arg6 arg7 arg11 arg14 f5 f6 f7 (2 * 1) 48 _ κ d).trans (congrArg (fun s => codeOf arg6 f6 s (2 * 1) d.val) (by omega))) (fun κ d => (ldc192_k arg5 arg6 arg7 arg11 arg14 f5 f6 f7 (2 * 1 + 1) 48 _ κ d).trans (congrArg (fun s => codeOf arg6 f6 s (2 * 1 + 1) d.val) (by omega))) (fun κ d => ldc32_k i arg5 arg6 arg7 arg12 arg14 f5 f6 f7 (2 * 1) _ κ d) (fun κ d => ldc32_k i arg5 arg6 arg7 arg12 arg14 f5 f6 f7 (2 * 1 + 1) _ κ d) (fun κ d => (ldc64_q arg5 arg6 arg7 arg11 arg14 f5 f6 f7 (2 * 1) 80 _ κ d).trans (congrArg (fun s => codeOf arg5 f5 s (2 * 1) d.val) (by omega))) (fun κ d => (ldc64_q arg5 arg6 arg7 arg11 arg14 f5 f6 f7 (2 * 1 + 1) 80 _ κ d).trans (congrArg (fun s => codeOf arg5 f5 s (2 * 1 + 1) d.val) (by omega))) (fun l hl => (cvec_a _ _ _ _ l hl).trans (congrArg₂ csOf (scal_ld arg2 f2 (i 0).val (8 * (i 1).val + 2 * 1) (i0_lt i) (by have := i1_lt' i; omega) _ ((by decide +kernel : ∀ i : grid0.Coords, k0_off62 i 2#32 0#32 = ![(i 0).val, 8 * (i 1).val + 2 * 1]) i) _ _) (scal_ld arg3 f3 (i 0).val (8 * (i 1).val + 2 * 1) (i0_lt i) (by have := i1_lt' i; omega) _ ((by decide +kernel : ∀ i : grid0.Coords, k0_off62 i 2#32 0#32 = ![(i 0).val, 8 * (i 1).val + 2 * 1]) i) _ _))) (fun l hl => (cvec_b _ _ _ _ l hl).trans (congrArg₂ csOf (scal_ld arg2 f2 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) (scal_ld arg3 f3 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _))) (fun κ l hk hr => ldB arg10.view f10' hf _ _ hk _ ((by decide +kernel : ∀ i : grid0.Coords, k0_off70 i 1#32 = ![(4 * (i 1).val + 1) % 6, 32 * (2 * (2 + 1)), 0]) i) _ _ κ l hr) (fun κ l hk hr => ldB arg10.view f10' hf _ _ hk _ ((by decide +kernel : ∀ i : grid0.Coords, k0_off79 i 1#32 = ![(4 * (i 1).val + 1) % 6, 384 + 32 * 2, 0]) i) _ _ κ l hr)

theorem hva11 : ∀ (κ : Fin 224) (d : Fin 128), (va11 i arg5 arg6 arg7 arg11 arg12 arg14 f5 f6 f7) (ix2 κ d) = codeOf arg7 f7 (keyOf 1 (8 * (i 1).val + (2 * 1)) κ.val) (2 * 1) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 1) _ _ d
  · exact (ldc192_v arg5 arg6 arg7 arg11 arg14 f5 f6 f7 (2 * 1) 48 _ _ d).trans rfl

theorem hvb11 : ∀ (κ : Fin 224) (d : Fin 128), (vb11 i arg5 arg6 arg7 arg11 arg12 arg14 f5 f6 f7) (ix2 κ d) = codeOf arg7 f7 (keyOf 1 (8 * (i 1).val + (2 * 1 + 1)) κ.val) (2 * 1 + 1) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 1 + 1) _ _ d
  · exact (ldc192_v arg5 arg6 arg7 arg11 arg14 f5 f6 f7 (2 * 1 + 1) 48 _ _ d).trans rfl

include hf in
theorem h8_12 (prev : (∀ q ∈ bodyRun.sl.H8_11 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_12 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin11 i arg2 arg3 arg5 arg6 arg7 arg10 arg11 arg12 arg14 f2 f3 f5 f6 f7 f10' hf).out (V := codeOf arg7 f7) (vs := vsAt i arg4 f4) (va11 i arg5 arg6 arg7 arg11 arg12 arg14 f5 f6 f7) (vb11 i arg5 arg6 arg7 arg11 arg12 arg14 f5 f6 f7)
      _ _ (hva11 i arg5 arg6 arg7 arg11 arg12 arg14 f5 f6 f7) (hvb11 i arg5 arg6 arg7 arg11 arg12 arg14 f5 f6 f7) (scal_ld arg4 f4 (i 0).val (8 * (i 1).val + 2 * 1) (i0_lt i) (by have := i1_lt' i; omega) _ ((by decide +kernel : ∀ i : grid0.Coords, k0_off64 i 2#32 = ![(i 0).val, 8 * (i 1).val + 2 * 1]) i) _ _) (scal_ld arg4 f4 (i 0).val (8 * (i 1).val + (2 * 1 + 1)) (i0_lt i) (by have := i1_lt' i; omega) _ ((by decide +kernel : ∀ i : grid0.Coords, k0_off62 i 2#32 1#32 = ![(i 0).val, 8 * (i 1).val + (2 * 1 + 1)]) i) _ _) ![0, 320, 256] rfl (by decide) x,
    prev⟩

include hf in
theorem h13_24 (prev : (∀ q ∈ bodyRun.sl.H13_22 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_24 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin11 i arg2 arg3 arg5 arg6 arg7 arg10 arg11 arg12 arg14 f2 f3 f5 f6 f7 f10' hf).lseB (k0_off93 i) ((by decide +kernel : ∀ i : grid0.Coords, k0_off93 i = ![(i 1).val, 2 * 1 + 1, 192 * 1 + 64 * 2]) i) (Gen.k0_off93_inb i) x,
    List.forall_mem_cons.2 ⟨fun x => (tin11 i arg2 arg3 arg5 arg6 arg7 arg10 arg11 arg12 arg14 f2 f3 f5 f6 f7 f10' hf).lseA (k0_off92 i) ((by decide +kernel : ∀ i : grid0.Coords, k0_off92 i = ![(i 1).val, 2 * 1, 192 * 1 + 64 * 2]) i) (Gen.k0_off92_inb i) x,
    prev⟩⟩
end

end Cert.KernelIdeal.Hand

end
-- ==== Proof.KernelIdeal.BodyTiles2.lean ====
module

public import proofs.«01_k».proof.Proof.KernelIdeal.BodyTools

@[expose] public section

/-! # KernelIdeal: tiles 12 to 17 of the body

What each tile's operands hold and what its two stored results are. -/

set_option maxRecDepth 16384
set_option maxHeartbeats 4000000

noncomputable section

namespace Cert.KernelIdeal.Hand

open Idealize.ShloMosaic Cert.KernelIdeal
open scoped BigOperators

section
variable (i : grid0.Coords) (arg2 arg3 arg4 : Memref sig .tc .smem S4x56 .f32) (arg5 arg6 arg7 : Memref sig .tc .vmem S1x384x1x8x128 .i8)
  (arg10 : Memref sig .tc .vmem S6x480x128 .f32) (arg11 : Memref sig .tc .vmem S3x8x96x128 .i32) (arg12 : Memref sig .tc .vmem S2x8x8x128 .i32) (arg14 : Memref sig .tc .vmem S768x128 .i32)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty) (f7 : BufTy.Contents (Elt Ideal) arg7.view.ty)
  (f10' : BufTy.Contents (Elt Ideal) arg10.view.ty)

variable (hf : ∀ y, arg10.view.read (Elt Ideal) f10' y = G10 y)
/-- The keys of tile 12, -/
def keys12 : FVec Ideal ⟨2, ![64, 256]⟩ .fp8e4m3 := (extractStridedSlice S64x256 ![0, 0] (cat192 (ldc192 arg5 arg6 arg7 arg11 arg14 f5 f6 f7 1 4 0 (by decide)) (ldc192 arg5 arg6 arg7 arg11 arg14 f5 f6 f7 1 5 0 (by decide))) Gen.slices_S192x256_o0_0_S64x256)
/-- its first and -/
def qa12 : FVec Ideal S64x128 .fp8e4m3 := (ldc64 arg5 arg6 arg7 arg11 arg14 f5 f6 f7 0 4 0 (by decide))
/-- its second queries, -/
def qb12 : FVec Ideal S64x128 .fp8e4m3 := (ldc64 arg5 arg6 arg7 arg11 arg14 f5 f6 f7 0 5 0 (by decide))
/-- its scales, -/
def cv12 : FVec Ideal S1x128 .f32 := (cvecOf (View.readAt (Elt Ideal) arg2.view (Rect.unit (s := S4x56) (k0_off62 i 4#32 0#32) S1x1.size (Gen.k0_off62_inb i 2 0)).toLoadRect f2 (Shape.Idx.first (show 0 < S1x1.numel by decide))) (View.readAt (Elt Ideal) arg3.view (Rect.unit (s := S4x56) (k0_off62 i 4#32 0#32) S1x1.size (Gen.k0_off62_inb i 2 0)).toLoadRect f3 (Shape.Idx.first (show 0 < S1x1.numel by decide))) (View.readAt (Elt Ideal) arg2.view (Rect.unit (s := S4x56) (k0_off62 i 4#32 1#32) S1x1.size (Gen.k0_off62_inb i 2 1)).toLoadRect f2 (Shape.Idx.first (show 0 < S1x1.numel by decide))) (View.readAt (Elt Ideal) arg3.view (Rect.unit (s := S4x56) (k0_off62 i 4#32 1#32) S1x1.size (Gen.k0_off62_inb i 2 1)).toLoadRect f3 (Shape.Idx.first (show 0 < S1x1.numel by decide))))
/-- its bias, -/
def bi12 : FVec Ideal ⟨2, ![64, 128]⟩ .f32 := (bLd arg10 f10' 64 (k0_off63 i 2#32) (Gen.k0_off63_inb i 2) (by decide))
/-- its first and -/
def va12 : FVec Ideal ⟨2, ![64, 128]⟩ .fp8e4m3 := (extractStridedSlice S64x128 ![0, 0] (ldc192 arg5 arg6 arg7 arg11 arg14 f5 f6 f7 2 4 0 (by decide)) Gen.slices_S192x128_o0_0_S64x128)
/-- its second values. -/
def vb12 : FVec Ideal ⟨2, ![64, 128]⟩ .fp8e4m3 := (extractStridedSlice S64x128 ![0, 0] (ldc192 arg5 arg6 arg7 arg11 arg14 f5 f6 f7 2 5 0 (by decide)) Gen.slices_S192x128_o0_0_S64x128)

include hf in
theorem tin12 : TileIn (codeOf arg6 f6) (codeOf arg5 f5) (csAt i arg2 arg3 f2 f3) (i 1).val 0 0 2 64 ok64 (keys12 arg5 arg6 arg7 arg11 arg14 f5 f6 f7) (qa12 arg5 arg6 arg7 arg11 arg14 f5 f6 f7) (qb12 arg5 arg6 arg7 arg11 arg14 f5 f6 f7) (cv12 i arg2 arg3 f2 f3) (bi12 i arg10 f10') :=
  mk0 (K := codeOf arg6 f6) (Q := codeOf arg5 f5) (cs := csAt i arg2 arg3 f2 f3) (g := (i 1).val) (p := 2) (by decide) (by decide) (ldc192 arg5 arg6 arg7 arg11 arg14 f5 f6 f7 1 4 0 (by decide)) (ldc192 arg5 arg6 arg7 arg11 arg14 f5 f6 f7 1 5 0 (by decide)) (fun κ j hκ => slice_rows _ _ κ hκ j) (fun κ d => (ldc192_k arg5 arg6 arg7 arg11 arg14 f5 f6 f7 (2 * 2) 0 _ κ d).trans (congrArg (fun s => codeOf arg6 f6 s (2 * 2) d.val) (by omega))) (fun κ d => (ldc192_k arg5 arg6 arg7 arg11 arg14 f5 f6 f7 (2 * 2 + 1) 0 _ κ d).trans (congrArg (fun s => codeOf arg6 f6 s (2 * 2 + 1) d.val) (by omega))) (fun κ d => (ldc64_q arg5 arg6 arg7 arg11 arg14 f5 f6 f7 (2 * 2) 0 _ κ d).trans (congrArg (fun s => codeOf arg5 f5 s (2 * 2) d.val) (by omega))) (fun κ d => (ldc64_q arg5 arg6 arg7 arg11 arg14 f5 f6 f7 (2 * 2 + 1) 0 _ κ d).trans (congrArg (fun s => codeOf arg5 f5 s (2 * 2 + 1) d.val) (by omega))) (fun l hl => (cvec_a _ _ _ _ l hl).trans (congrArg₂ csOf (scal_ld arg2 f2 (i 0).val (8 * (i 1).val + 2 * 2) (i0_lt i) (by have := i1_lt' i; omega) _ ((by decide +kernel : ∀ i : grid0.Coords, k0_off62 i 4#32 0#32 = ![(i 0).val, 8 * (i 1).val + 2 * 2]) i) _ _) (scal_ld arg3 f3 (i 0).val (8 * (i 1).val + 2 * 2) (i0_lt i) (by have := i1_lt' i; omega) _ ((by decide +kernel : ∀ i : grid0.Coords, k0_off62 i 4#32 0#32 = ![(i 0).val, 8 * (i 1).val + 2 * 2]) i) _ _))) (fun l hl => (cvec_b _ _ _ _ l hl).trans (congrArg₂ csOf (scal_ld arg2 f2 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) (scal_ld arg3 f3 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _))) (fun κ l hk hr => ldB arg10.view f10' hf _ _ hk _ ((by decide +kernel : ∀ i : grid0.Coords, k0_off63 i 2#32 = ![(4 * (i 1).val + 2) % 6, 32 * (0 * (0 + 1)), 0]) i) _ _ κ l hr)

theorem hva12 : ∀ (κ : Fin 64) (d : Fin 128), (va12 arg5 arg6 arg7 arg11 arg14 f5 f6 f7) (ix2 κ d) = codeOf arg7 f7 (keyOf 0 (8 * (i 1).val + (2 * 2)) κ.val) (2 * 2) d.val :=
  fun κ d => (slice_rows _ _ κ (by omega) d).trans ((ldc192_v arg5 arg6 arg7 arg11 arg14 f5 f6 f7 (2 * 2) 0 _ _ d).trans (congrArg (fun s => codeOf arg7 f7 s (2 * 2) d.val) (Nat.zero_add _)))

theorem hvb12 : ∀ (κ : Fin 64) (d : Fin 128), (vb12 arg5 arg6 arg7 arg11 arg14 f5 f6 f7) (ix2 κ d) = codeOf arg7 f7 (keyOf 0 (8 * (i 1).val + (2 * 2 + 1)) κ.val) (2 * 2 + 1) d.val :=
  fun κ d => (slice_rows _ _ κ (by omega) d).trans ((ldc192_v arg5 arg6 arg7 arg11 arg14 f5 f6 f7 (2 * 2 + 1) 0 _ _ d).trans (congrArg (fun s => codeOf arg7 f7 s (2 * 2 + 1) d.val) (Nat.zero_add _)))

include hf in
theorem h8_13 (prev : (∀ q ∈ bodyRun.sl.H8_12 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_13 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin12 i arg2 arg3 arg5 arg6 arg7 arg10 arg11 arg14 f2 f3 f5 f6 f7 f10' hf).out (V := codeOf arg7 f7) (vs := vsAt i arg4 f4) (va12 arg5 arg6 arg7 arg11 arg14 f5 f6 f7) (vb12 arg5 arg6 arg7 arg11 arg14 f5 f6 f7)
      _ _ (hva12 i arg5 arg6 arg7 arg11 arg14 f5 f6 f7) (hvb12 i arg5 arg6 arg7 arg11 arg14 f5 f6 f7) (scal_ld arg4 f4 (i 0).val (8 * (i 1).val + 2 * 2) (i0_lt i) (by have := i1_lt' i; omega) _ ((by decide +kernel : ∀ i : grid0.Coords, k0_off64 i 4#32 = ![(i 0).val, 8 * (i 1).val + 2 * 2]) i) _ _) (scal_ld arg4 f4 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) ![0, 0, 512] rfl (by decide) x,
    prev⟩

include hf in
theorem h13_26 (prev : (∀ q ∈ bodyRun.sl.H13_24 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_26 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin12 i arg2 arg3 arg5 arg6 arg7 arg10 arg11 arg14 f2 f3 f5 f6 f7 f10' hf).lseB (k0_off95 i) ((by decide +kernel : ∀ i : grid0.Coords, k0_off95 i = ![(i 1).val, 2 * 2 + 1, 192 * 0 + 64 * 0]) i) (Gen.k0_off95_inb i) x,
    List.forall_mem_cons.2 ⟨fun x => (tin12 i arg2 arg3 arg5 arg6 arg7 arg10 arg11 arg14 f2 f3 f5 f6 f7 f10' hf).lseA (k0_off94 i) ((by decide +kernel : ∀ i : grid0.Coords, k0_off94 i = ![(i 1).val, 2 * 2, 192 * 0 + 64 * 0]) i) (Gen.k0_off94_inb i) x,
    prev⟩⟩

/-- The keys of tile 13, -/
def keys13 : FVec Ideal ⟨2, ![128, 256]⟩ .fp8e4m3 := (extractStridedSlice S128x256 ![0, 0] (cat192 (ldc192 arg5 arg6 arg7 arg11 arg14 f5 f6 f7 1 4 0 (by decide)) (ldc192 arg5 arg6 arg7 arg11 arg14 f5 f6 f7 1 5 0 (by decide))) Gen.slices_S192x256_o0_0_S128x256)
/-- its first and -/
def qa13 : FVec Ideal S64x128 .fp8e4m3 := (ldc64 arg5 arg6 arg7 arg11 arg14 f5 f6 f7 0 4 16 (by decide))
/-- its second queries, -/
def qb13 : FVec Ideal S64x128 .fp8e4m3 := (ldc64 arg5 arg6 arg7 arg11 arg14 f5 f6 f7 0 5 16 (by decide))
/-- its scales, -/
def cv13 : FVec Ideal S1x128 .f32 := (cvecOf (View.readAt (Elt Ideal) arg2.view (Rect.unit (s := S4x56) (k0_off62 i 4#32 0#32) S1x1.size (Gen.k0_off62_inb i 2 0)).toLoadRect f2 (Shape.Idx.first (show 0 < S1x1.numel by decide))) (View.readAt (Elt Ideal) arg3.view (Rect.unit (s := S4x56) (k0_off62 i 4#32 0#32) S1x1.size (Gen.k0_off62_inb i 2 0)).toLoadRect f3 (Shape.Idx.first (show 0 < S1x1.numel by decide))) (View.readAt (Elt Ideal) arg2.view (Rect.unit (s := S4x56) (k0_off62 i 4#32 1#32) S1x1.size (Gen.k0_off62_inb i 2 1)).toLoadRect f2 (Shape.Idx.first (show 0 < S1x1.numel by decide))) (View.readAt (Elt Ideal) arg3.view (Rect.unit (s := S4x56) (k0_off62 i 4#32 1#32) S1x1.size (Gen.k0_off62_inb i 2 1)).toLoadRect f3 (Shape.Idx.first (show 0 < S1x1.numel by decide))))
/-- its bias, -/
def bi13 : FVec Ideal ⟨2, ![128, 128]⟩ .f32 := (bLd arg10 f10' 128 (k0_off67 i 2#32) (Gen.k0_off67_inb i 2) (by decide))
/-- its first and -/
def va13 : FVec Ideal ⟨2, ![128, 128]⟩ .fp8e4m3 := (extractStridedSlice S128x128 ![0, 0] (ldc192 arg5 arg6 arg7 arg11 arg14 f5 f6 f7 2 4 0 (by decide)) Gen.slices_S192x128_o0_0_S128x128)
/-- its second values. -/
def vb13 : FVec Ideal ⟨2, ![128, 128]⟩ .fp8e4m3 := (extractStridedSlice S128x128 ![0, 0] (ldc192 arg5 arg6 arg7 arg11 arg14 f5 f6 f7 2 5 0 (by decide)) Gen.slices_S192x128_o0_0_S128x128)

include hf in
theorem tin13 : TileIn (codeOf arg6 f6) (codeOf arg5 f5) (csAt i arg2 arg3 f2 f3) (i 1).val 0 1 2 128 ok128 (keys13 arg5 arg6 arg7 arg11 arg14 f5 f6 f7) (qa13 arg5 arg6 arg7 arg11 arg14 f5 f6 f7) (qb13 arg5 arg6 arg7 arg11 arg14 f5 f6 f7) (cv13 i arg2 arg3 f2 f3) (bi13 i arg10 f10') :=
  mk0 (K := codeOf arg6 f6) (Q := codeOf arg5 f5) (cs := csAt i arg2 arg3 f2 f3) (g := (i 1).val) (p := 2) (by decide) (by decide) (ldc192 arg5 arg6 arg7 arg11 arg14 f5 f6 f7 1 4 0 (by decide)) (ldc192 arg5 arg6 arg7 arg11 arg14 f5 f6 f7 1 5 0 (by decide)) (fun κ j hκ => slice_rows _ _ κ hκ j) (fun κ d => (ldc192_k arg5 arg6 arg7 arg11 arg14 f5 f6 f7 (2 * 2) 0 _ κ d).trans (congrArg (fun s => codeOf arg6 f6 s (2 * 2) d.val) (by omega))) (fun κ d => (ldc192_k arg5 arg6 arg7 arg11 arg14 f5 f6 f7 (2 * 2 + 1) 0 _ κ d).trans (congrArg (fun s => codeOf arg6 f6 s (2 * 2 + 1) d.val) (by omega))) (fun κ d => (ldc64_q arg5 arg6 arg7 arg11 arg14 f5 f6 f7 (2 * 2) 16 _ κ d).trans (congrArg (fun s => codeOf arg5 f5 s (2 * 2) d.val) (by omega))) (fun κ d => (ldc64_q arg5 arg6 arg7 arg11 arg14 f5 f6 f7 (2 * 2 + 1) 16 _ κ d).trans (congrArg (fun s => codeOf arg5 f5 s (2 * 2 + 1) d.val) (by omega))) (fun l hl => (cvec_a _ _ _ _ l hl).trans (congrArg₂ csOf (scal_ld arg2 f2 (i 0).val (8 * (i 1).val + 2 * 2) (i0_lt i) (by have := i1_lt' i; omega) _ ((by decide +kernel : ∀ i : grid0.Coords, k0_off62 i 4#32 0#32 = ![(i 0).val, 8 * (i 1).val + 2 * 2]) i) _ _) (scal_ld arg3 f3 (i 0).val (8 * (i 1).val + 2 * 2) (i0_lt i) (by have := i1_lt' i; omega) _ ((by decide +kernel : ∀ i : grid0.Coords, k0_off62 i 4#32 0#32 = ![(i 0).val, 8 * (i 1).val + 2 * 2]) i) _ _))) (fun l hl => (cvec_b _ _ _ _ l hl).trans (congrArg₂ csOf (scal_ld arg2 f2 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) (scal_ld arg3 f3 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _))) (fun κ l hk hr => ldB arg10.view f10' hf _ _ hk _ ((by decide +kernel : ∀ i : grid0.Coords, k0_off67 i 2#32 = ![(4 * (i 1).val + 2) % 6, 32 * (1 * (1 + 1)), 0]) i) _ _ κ l hr)

theorem hva13 : ∀ (κ : Fin 128) (d : Fin 128), (va13 arg5 arg6 arg7 arg11 arg14 f5 f6 f7) (ix2 κ d) = codeOf arg7 f7 (keyOf 0 (8 * (i 1).val + (2 * 2)) κ.val) (2 * 2) d.val :=
  fun κ d => (slice_rows _ _ κ (by omega) d).trans ((ldc192_v arg5 arg6 arg7 arg11 arg14 f5 f6 f7 (2 * 2) 0 _ _ d).trans (congrArg (fun s => codeOf arg7 f7 s (2 * 2) d.val) (Nat.zero_add _)))

theorem hvb13 : ∀ (κ : Fin 128) (d : Fin 128), (vb13 arg5 arg6 arg7 arg11 arg14 f5 f6 f7) (ix2 κ d) = codeOf arg7 f7 (keyOf 0 (8 * (i 1).val + (2 * 2 + 1)) κ.val) (2 * 2 + 1) d.val :=
  fun κ d => (slice_rows _ _ κ (by omega) d).trans ((ldc192_v arg5 arg6 arg7 arg11 arg14 f5 f6 f7 (2 * 2 + 1) 0 _ _ d).trans (congrArg (fun s => codeOf arg7 f7 s (2 * 2 + 1) d.val) (Nat.zero_add _)))

include hf in
theorem h8_14 (prev : (∀ q ∈ bodyRun.sl.H8_13 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_14 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin13 i arg2 arg3 arg5 arg6 arg7 arg10 arg11 arg14 f2 f3 f5 f6 f7 f10' hf).out (V := codeOf arg7 f7) (vs := vsAt i arg4 f4) (va13 arg5 arg6 arg7 arg11 arg14 f5 f6 f7) (vb13 arg5 arg6 arg7 arg11 arg14 f5 f6 f7)
      _ _ (hva13 i arg5 arg6 arg7 arg11 arg14 f5 f6 f7) (hvb13 i arg5 arg6 arg7 arg11 arg14 f5 f6 f7) (scal_ld arg4 f4 (i 0).val (8 * (i 1).val + 2 * 2) (i0_lt i) (by have := i1_lt' i; omega) _ ((by decide +kernel : ∀ i : grid0.Coords, k0_off64 i 4#32 = ![(i 0).val, 8 * (i 1).val + 2 * 2]) i) _ _) (scal_ld arg4 f4 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) ![0, 64, 512] rfl (by decide) x,
    prev⟩

include hf in
theorem h13_28 (prev : (∀ q ∈ bodyRun.sl.H13_26 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_28 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin13 i arg2 arg3 arg5 arg6 arg7 arg10 arg11 arg14 f2 f3 f5 f6 f7 f10' hf).lseB (k0_off97 i) ((by decide +kernel : ∀ i : grid0.Coords, k0_off97 i = ![(i 1).val, 2 * 2 + 1, 192 * 0 + 64 * 1]) i) (Gen.k0_off97_inb i) x,
    List.forall_mem_cons.2 ⟨fun x => (tin13 i arg2 arg3 arg5 arg6 arg7 arg10 arg11 arg14 f2 f3 f5 f6 f7 f10' hf).lseA (k0_off96 i) ((by decide +kernel : ∀ i : grid0.Coords, k0_off96 i = ![(i 1).val, 2 * 2, 192 * 0 + 64 * 1]) i) (Gen.k0_off96_inb i) x,
    prev⟩⟩

/-- The keys of tile 14, -/
def keys14 : FVec Ideal ⟨2, ![192, 256]⟩ .fp8e4m3 := (cat192 (ldc192 arg5 arg6 arg7 arg11 arg14 f5 f6 f7 1 4 0 (by decide)) (ldc192 arg5 arg6 arg7 arg11 arg14 f5 f6 f7 1 5 0 (by decide)))
/-- its first and -/
def qa14 : FVec Ideal S64x128 .fp8e4m3 := (ldc64 arg5 arg6 arg7 arg11 arg14 f5 f6 f7 0 4 32 (by decide))
/-- its second queries, -/
def qb14 : FVec Ideal S64x128 .fp8e4m3 := (ldc64 arg5 arg6 arg7 arg11 arg14 f5 f6 f7 0 5 32 (by decide))
/-- its scales, -/
def cv14 : FVec Ideal S1x128 .f32 := (cvecOf (View.readAt (Elt Ideal) arg2.view (Rect.unit (s := S4x56) (k0_off62 i 4#32 0#32) S1x1.size (Gen.k0_off62_inb i 2 0)).toLoadRect f2 (Shape.Idx.first (show 0 < S1x1.numel by decide))) (View.readAt (Elt Ideal) arg3.view (Rect.unit (s := S4x56) (k0_off62 i 4#32 0#32) S1x1.size (Gen.k0_off62_inb i 2 0)).toLoadRect f3 (Shape.Idx.first (show 0 < S1x1.numel by decide))) (View.readAt (Elt Ideal) arg2.view (Rect.unit (s := S4x56) (k0_off62 i 4#32 1#32) S1x1.size (Gen.k0_off62_inb i 2 1)).toLoadRect f2 (Shape.Idx.first (show 0 < S1x1.numel by decide))) (View.readAt (Elt Ideal) arg3.view (Rect.unit (s := S4x56) (k0_off62 i 4#32 1#32) S1x1.size (Gen.k0_off62_inb i 2 1)).toLoadRect f3 (Shape.Idx.first (show 0 < S1x1.numel by decide))))
/-- its bias, -/
def bi14 : FVec Ideal ⟨2, ![192, 128]⟩ .f32 := (bLd arg10 f10' 192 (k0_off70 i 2#32) (Gen.k0_off70_inb i 2) (by decide))
/-- its first and -/
def va14 : FVec Ideal ⟨2, ![192, 128]⟩ .fp8e4m3 := (ldc192 arg5 arg6 arg7 arg11 arg14 f5 f6 f7 2 4 0 (by decide))
/-- its second values. -/
def vb14 : FVec Ideal ⟨2, ![192, 128]⟩ .fp8e4m3 := (ldc192 arg5 arg6 arg7 arg11 arg14 f5 f6 f7 2 5 0 (by decide))

include hf in
theorem tin14 : TileIn (codeOf arg6 f6) (codeOf arg5 f5) (csAt i arg2 arg3 f2 f3) (i 1).val 0 2 2 192 ok192 (keys14 arg5 arg6 arg7 arg11 arg14 f5 f6 f7) (qa14 arg5 arg6 arg7 arg11 arg14 f5 f6 f7) (qb14 arg5 arg6 arg7 arg11 arg14 f5 f6 f7) (cv14 i arg2 arg3 f2 f3) (bi14 i arg10 f10') :=
  mk0 (K := codeOf arg6 f6) (Q := codeOf arg5 f5) (cs := csAt i arg2 arg3 f2 f3) (g := (i 1).val) (p := 2) (by decide) (by decide) (ldc192 arg5 arg6 arg7 arg11 arg14 f5 f6 f7 1 4 0 (by decide)) (ldc192 arg5 arg6 arg7 arg11 arg14 f5 f6 f7 1 5 0 (by decide)) (fun κ j hκ => rfl) (fun κ d => (ldc192_k arg5 arg6 arg7 arg11 arg14 f5 f6 f7 (2 * 2) 0 _ κ d).trans (congrArg (fun s => codeOf arg6 f6 s (2 * 2) d.val) (by omega))) (fun κ d => (ldc192_k arg5 arg6 arg7 arg11 arg14 f5 f6 f7 (2 * 2 + 1) 0 _ κ d).trans (congrArg (fun s => codeOf arg6 f6 s (2 * 2 + 1) d.val) (by omega))) (fun κ d => (ldc64_q arg5 arg6 arg7 arg11 arg14 f5 f6 f7 (2 * 2) 32 _ κ d).trans (congrArg (fun s => codeOf arg5 f5 s (2 * 2) d.val) (by omega))) (fun κ d => (ldc64_q arg5 arg6 arg7 arg11 arg14 f5 f6 f7 (2 * 2 + 1) 32 _ κ d).trans (congrArg (fun s => codeOf arg5 f5 s (2 * 2 + 1) d.val) (by omega))) (fun l hl => (cvec_a _ _ _ _ l hl).trans (congrArg₂ csOf (scal_ld arg2 f2 (i 0).val (8 * (i 1).val + 2 * 2) (i0_lt i) (by have := i1_lt' i; omega) _ ((by decide +kernel : ∀ i : grid0.Coords, k0_off62 i 4#32 0#32 = ![(i 0).val, 8 * (i 1).val + 2 * 2]) i) _ _) (scal_ld arg3 f3 (i 0).val (8 * (i 1).val + 2 * 2) (i0_lt i) (by have := i1_lt' i; omega) _ ((by decide +kernel : ∀ i : grid0.Coords, k0_off62 i 4#32 0#32 = ![(i 0).val, 8 * (i 1).val + 2 * 2]) i) _ _))) (fun l hl => (cvec_b _ _ _ _ l hl).trans (congrArg₂ csOf (scal_ld arg2 f2 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) (scal_ld arg3 f3 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _))) (fun κ l hk hr => ldB arg10.view f10' hf _ _ hk _ ((by decide +kernel : ∀ i : grid0.Coords, k0_off70 i 2#32 = ![(4 * (i 1).val + 2) % 6, 32 * (2 * (2 + 1)), 0]) i) _ _ κ l hr)

theorem hva14 : ∀ (κ : Fin 192) (d : Fin 128), (va14 arg5 arg6 arg7 arg11 arg14 f5 f6 f7) (ix2 κ d) = codeOf arg7 f7 (keyOf 0 (8 * (i 1).val + (2 * 2)) κ.val) (2 * 2) d.val :=
  fun κ d => (ldc192_v arg5 arg6 arg7 arg11 arg14 f5 f6 f7 (2 * 2) 0 _ _ d).trans (congrArg (fun s => codeOf arg7 f7 s (2 * 2) d.val) (Nat.zero_add _))

theorem hvb14 : ∀ (κ : Fin 192) (d : Fin 128), (vb14 arg5 arg6 arg7 arg11 arg14 f5 f6 f7) (ix2 κ d) = codeOf arg7 f7 (keyOf 0 (8 * (i 1).val + (2 * 2 + 1)) κ.val) (2 * 2 + 1) d.val :=
  fun κ d => (ldc192_v arg5 arg6 arg7 arg11 arg14 f5 f6 f7 (2 * 2 + 1) 0 _ _ d).trans (congrArg (fun s => codeOf arg7 f7 s (2 * 2 + 1) d.val) (Nat.zero_add _))

include hf in
theorem h8_15 (prev : (∀ q ∈ bodyRun.sl.H8_14 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_15 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin14 i arg2 arg3 arg5 arg6 arg7 arg10 arg11 arg14 f2 f3 f5 f6 f7 f10' hf).out (V := codeOf arg7 f7) (vs := vsAt i arg4 f4) (va14 arg5 arg6 arg7 arg11 arg14 f5 f6 f7) (vb14 arg5 arg6 arg7 arg11 arg14 f5 f6 f7)
      _ _ (hva14 i arg5 arg6 arg7 arg11 arg14 f5 f6 f7) (hvb14 i arg5 arg6 arg7 arg11 arg14 f5 f6 f7) (scal_ld arg4 f4 (i 0).val (8 * (i 1).val + 2 * 2) (i0_lt i) (by have := i1_lt' i; omega) _ ((by decide +kernel : ∀ i : grid0.Coords, k0_off64 i 4#32 = ![(i 0).val, 8 * (i 1).val + 2 * 2]) i) _ _) (scal_ld arg4 f4 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) ![0, 128, 512] rfl (by decide) x,
    prev⟩

include hf in
theorem h13_30 (prev : (∀ q ∈ bodyRun.sl.H13_28 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_30 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin14 i arg2 arg3 arg5 arg6 arg7 arg10 arg11 arg14 f2 f3 f5 f6 f7 f10' hf).lseB (k0_off99 i) ((by decide +kernel : ∀ i : grid0.Coords, k0_off99 i = ![(i 1).val, 2 * 2 + 1, 192 * 0 + 64 * 2]) i) (Gen.k0_off99_inb i) x,
    List.forall_mem_cons.2 ⟨fun x => (tin14 i arg2 arg3 arg5 arg6 arg7 arg10 arg11 arg14 f2 f3 f5 f6 f7 f10' hf).lseA (k0_off98 i) ((by decide +kernel : ∀ i : grid0.Coords, k0_off98 i = ![(i 1).val, 2 * 2, 192 * 0 + 64 * 2]) i) (Gen.k0_off98_inb i) x,
    prev⟩⟩

/-- The keys of tile 15, -/
def keys15 : FVec Ideal ⟨2, ![96, 256]⟩ .fp8e4m3 := (concatenate S96x256 0 [⟨S32x256, cat32 (ldc32 i arg5 arg6 arg7 arg12 arg14 f5 f6 f7 0 4 (by decide)) (ldc32 i arg5 arg6 arg7 arg12 arg14 f5 f6 f7 0 5 (by decide))⟩, ⟨S64x256, (extractStridedSlice S64x256 ![0, 0] (cat192 (ldc192 arg5 arg6 arg7 arg11 arg14 f5 f6 f7 1 4 48 (by decide)) (ldc192 arg5 arg6 arg7 arg11 arg14 f5 f6 f7 1 5 48 (by decide))) Gen.slices_S192x256_o0_0_S64x256)⟩] (show Shape.Concatenates [S32x256, S64x256] S96x256 0 by decide))
/-- its first and -/
def qa15 : FVec Ideal S64x128 .fp8e4m3 := (ldc64 arg5 arg6 arg7 arg11 arg14 f5 f6 f7 0 4 48 (by decide))
/-- its second queries, -/
def qb15 : FVec Ideal S64x128 .fp8e4m3 := (ldc64 arg5 arg6 arg7 arg11 arg14 f5 f6 f7 0 5 48 (by decide))
/-- its scales, -/
def cv15 : FVec Ideal S1x128 .f32 := (cvecOf (View.readAt (Elt Ideal) arg2.view (Rect.unit (s := S4x56) (k0_off62 i 4#32 0#32) S1x1.size (Gen.k0_off62_inb i 2 0)).toLoadRect f2 (Shape.Idx.first (show 0 < S1x1.numel by decide))) (View.readAt (Elt Ideal) arg3.view (Rect.unit (s := S4x56) (k0_off62 i 4#32 0#32) S1x1.size (Gen.k0_off62_inb i 2 0)).toLoadRect f3 (Shape.Idx.first (show 0 < S1x1.numel by decide))) (View.readAt (Elt Ideal) arg2.view (Rect.unit (s := S4x56) (k0_off62 i 4#32 1#32) S1x1.size (Gen.k0_off62_inb i 2 1)).toLoadRect f2 (Shape.Idx.first (show 0 < S1x1.numel by decide))) (View.readAt (Elt Ideal) arg3.view (Rect.unit (s := S4x56) (k0_off62 i 4#32 1#32) S1x1.size (Gen.k0_off62_inb i 2 1)).toLoadRect f3 (Shape.Idx.first (show 0 < S1x1.numel by decide))))
/-- its bias, -/
def bi15 : FVec Ideal ⟨2, ![96, 128]⟩ .f32 := (concatenate S96x128 0 [⟨S32x128, (bLd arg10 f10' 32 (k0_off73 i 2#32) (Gen.k0_off73_inb i 2) (by decide))⟩, ⟨S64x128, (bLd arg10 f10' 64 (k0_off63 i 2#32) (Gen.k0_off63_inb i 2) (by decide))⟩] (show Shape.Concatenates [S32x128, S64x128] S96x128 0 by decide))
/-- its first and -/
def va15 : FVec Ideal ⟨2, ![96, 128]⟩ .fp8e4m3 := (concatenate S96x128 0 [⟨S32x128, (ldc32 i arg5 arg6 arg7 arg12 arg14 f5 f6 f7 1 4 (by decide))⟩, ⟨S64x128, (extractStridedSlice S64x128 ![0, 0] (ldc192 arg5 arg6 arg7 arg11 arg14 f5 f6 f7 2 4 48 (by decide)) Gen.slices_S192x128_o0_0_S64x128)⟩] (show Shape.Concatenates [S32x128, S64x128] S96x128 0 by decide))
/-- its second values. -/
def vb15 : FVec Ideal ⟨2, ![96, 128]⟩ .fp8e4m3 := (concatenate S96x128 0 [⟨S32x128, (ldc32 i arg5 arg6 arg7 arg12 arg14 f5 f6 f7 1 5 (by decide))⟩, ⟨S64x128, (extractStridedSlice S64x128 ![0, 0] (ldc192 arg5 arg6 arg7 arg11 arg14 f5 f6 f7 2 5 48 (by decide)) Gen.slices_S192x128_o0_0_S64x128)⟩] (show Shape.Concatenates [S32x128, S64x128] S96x128 0 by decide))

include hf in
theorem tin15 : TileIn (codeOf arg6 f6) (codeOf arg5 f5) (csAt i arg2 arg3 f2 f3) (i 1).val 1 0 2 96 ok96 (keys15 i arg5 arg6 arg7 arg11 arg12 arg14 f5 f6 f7) (qa15 arg5 arg6 arg7 arg11 arg14 f5 f6 f7) (qb15 arg5 arg6 arg7 arg11 arg14 f5 f6 f7) (cv15 i arg2 arg3 f2 f3) (bi15 i arg10 f10') :=
  mk1 (n := 96) (m := 64) (blk := 0) (K := codeOf arg6 f6) (Q := codeOf arg5 f5) (cs := csAt i arg2 arg3 f2 f3) (g := (i 1).val) (p := 2) (by decide) (by decide) (by decide) (ldc192 arg5 arg6 arg7 arg11 arg14 f5 f6 f7 1 4 48 (by decide)) (ldc192 arg5 arg6 arg7 arg11 arg14 f5 f6 f7 1 5 48 (by decide)) (ldc32 i arg5 arg6 arg7 arg12 arg14 f5 f6 f7 0 4 (by decide)) (ldc32 i arg5 arg6 arg7 arg12 arg14 f5 f6 f7 0 5 (by decide)) _ _ (fun κ j hκ => slice_rows _ _ κ hκ j) (fun κ d => (ldc192_k arg5 arg6 arg7 arg11 arg14 f5 f6 f7 (2 * 2) 48 _ κ d).trans (congrArg (fun s => codeOf arg6 f6 s (2 * 2) d.val) (by omega))) (fun κ d => (ldc192_k arg5 arg6 arg7 arg11 arg14 f5 f6 f7 (2 * 2 + 1) 48 _ κ d).trans (congrArg (fun s => codeOf arg6 f6 s (2 * 2 + 1) d.val) (by omega))) (fun κ d => ldc32_k i arg5 arg6 arg7 arg12 arg14 f5 f6 f7 (2 * 2) _ κ d) (fun κ d => ldc32_k i arg5 arg6 arg7 arg12 arg14 f5 f6 f7 (2 * 2 + 1) _ κ d) (fun κ d => (ldc64_q arg5 arg6 arg7 arg11 arg14 f5 f6 f7 (2 * 2) 48 _ κ d).trans (congrArg (fun s => codeOf arg5 f5 s (2 * 2) d.val) (by omega))) (fun κ d => (ldc64_q arg5 arg6 arg7 arg11 arg14 f5 f6 f7 (2 * 2 + 1) 48 _ κ d).trans (congrArg (fun s => codeOf arg5 f5 s (2 * 2 + 1) d.val) (by omega))) (fun l hl => (cvec_a _ _ _ _ l hl).trans (congrArg₂ csOf (scal_ld arg2 f2 (i 0).val (8 * (i 1).val + 2 * 2) (i0_lt i) (by have := i1_lt' i; omega) _ ((by decide +kernel : ∀ i : grid0.Coords, k0_off62 i 4#32 0#32 = ![(i 0).val, 8 * (i 1).val + 2 * 2]) i) _ _) (scal_ld arg3 f3 (i 0).val (8 * (i 1).val + 2 * 2) (i0_lt i) (by have := i1_lt' i; omega) _ ((by decide +kernel : ∀ i : grid0.Coords, k0_off62 i 4#32 0#32 = ![(i 0).val, 8 * (i 1).val + 2 * 2]) i) _ _))) (fun l hl => (cvec_b _ _ _ _ l hl).trans (congrArg₂ csOf (scal_ld arg2 f2 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) (scal_ld arg3 f3 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _))) (fun κ l hk hr => ldB arg10.view f10' hf _ _ hk _ ((by decide +kernel : ∀ i : grid0.Coords, k0_off63 i 2#32 = ![(4 * (i 1).val + 2) % 6, 32 * (0 * (0 + 1)), 0]) i) _ _ κ l hr) (fun κ l hk hr => ldB arg10.view f10' hf _ _ hk _ ((by decide +kernel : ∀ i : grid0.Coords, k0_off73 i 2#32 = ![(4 * (i 1).val + 2) % 6, 384 + 32 * 0, 0]) i) _ _ κ l hr)

theorem hva15 : ∀ (κ : Fin 96) (d : Fin 128), (va15 i arg5 arg6 arg7 arg11 arg12 arg14 f5 f6 f7) (ix2 κ d) = codeOf arg7 f7 (keyOf 1 (8 * (i 1).val + (2 * 2)) κ.val) (2 * 2) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 2) _ _ d
  · exact (slice_rows _ _ _ (by show κ.val - 32 < 192; omega) d).trans ((ldc192_v arg5 arg6 arg7 arg11 arg14 f5 f6 f7 (2 * 2) 48 _ _ d).trans rfl)

theorem hvb15 : ∀ (κ : Fin 96) (d : Fin 128), (vb15 i arg5 arg6 arg7 arg11 arg12 arg14 f5 f6 f7) (ix2 κ d) = codeOf arg7 f7 (keyOf 1 (8 * (i 1).val + (2 * 2 + 1)) κ.val) (2 * 2 + 1) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 2 + 1) _ _ d
  · exact (slice_rows _ _ _ (by show κ.val - 32 < 192; omega) d).trans ((ldc192_v arg5 arg6 arg7 arg11 arg14 f5 f6 f7 (2 * 2 + 1) 48 _ _ d).trans rfl)

include hf in
theorem h8_16 (prev : (∀ q ∈ bodyRun.sl.H8_15 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_16 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin15 i arg2 arg3 arg5 arg6 arg7 arg10 arg11 arg12 arg14 f2 f3 f5 f6 f7 f10' hf).out (V := codeOf arg7 f7) (vs := vsAt i arg4 f4) (va15 i arg5 arg6 arg7 arg11 arg12 arg14 f5 f6 f7) (vb15 i arg5 arg6 arg7 arg11 arg12 arg14 f5 f6 f7)
      _ _ (hva15 i arg5 arg6 arg7 arg11 arg12 arg14 f5 f6 f7) (hvb15 i arg5 arg6 arg7 arg11 arg12 arg14 f5 f6 f7) (scal_ld arg4 f4 (i 0).val (8 * (i 1).val + 2 * 2) (i0_lt i) (by have := i1_lt' i; omega) _ ((by decide +kernel : ∀ i : grid0.Coords, k0_off64 i 4#32 = ![(i 0).val, 8 * (i 1).val + 2 * 2]) i) _ _) (scal_ld arg4 f4 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) ![0, 192, 512] rfl (by decide) x,
    prev⟩

include hf in
theorem h13_32 (prev : (∀ q ∈ bodyRun.sl.H13_30 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_32 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin15 i arg2 arg3 arg5 arg6 arg7 arg10 arg11 arg12 arg14 f2 f3 f5 f6 f7 f10' hf).lseB (k0_off101 i) ((by decide +kernel : ∀ i : grid0.Coords, k0_off101 i = ![(i 1).val, 2 * 2 + 1, 192 * 1 + 64 * 0]) i) (Gen.k0_off101_inb i) x,
    List.forall_mem_cons.2 ⟨fun x => (tin15 i arg2 arg3 arg5 arg6 arg7 arg10 arg11 arg12 arg14 f2 f3 f5 f6 f7 f10' hf).lseA (k0_off100 i) ((by decide +kernel : ∀ i : grid0.Coords, k0_off100 i = ![(i 1).val, 2 * 2, 192 * 1 + 64 * 0]) i) (Gen.k0_off100_inb i) x,
    prev⟩⟩

/-- The keys of tile 16, -/
def keys16 : FVec Ideal ⟨2, ![160, 256]⟩ .fp8e4m3 := (concatenate S160x256 0 [⟨S32x256, cat32 (ldc32 i arg5 arg6 arg7 arg12 arg14 f5 f6 f7 0 4 (by decide)) (ldc32 i arg5 arg6 arg7 arg12 arg14 f5 f6 f7 0 5 (by decide))⟩, ⟨S128x256, (extractStridedSlice S128x256 ![0, 0] (cat192 (ldc192 arg5 arg6 arg7 arg11 arg14 f5 f6 f7 1 4 48 (by decide)) (ldc192 arg5 arg6 arg7 arg11 arg14 f5 f6 f7 1 5 48 (by decide))) Gen.slices_S192x256_o0_0_S128x256)⟩] (show Shape.Concatenates [S32x256, S128x256] S160x256 0 by decide))
/-- its first and -/
def qa16 : FVec Ideal S64x128 .fp8e4m3 := (ldc64 arg5 arg6 arg7 arg11 arg14 f5 f6 f7 0 4 64 (by decide))
/-- its second queries, -/
def qb16 : FVec Ideal S64x128 .fp8e4m3 := (ldc64 arg5 arg6 arg7 arg11 arg14 f5 f6 f7 0 5 64 (by decide))
/-- its scales, -/
def cv16 : FVec Ideal S1x128 .f32 := (cvecOf (View.readAt (Elt Ideal) arg2.view (Rect.unit (s := S4x56) (k0_off62 i 4#32 0#32) S1x1.size (Gen.k0_off62_inb i 2 0)).toLoadRect f2 (Shape.Idx.first (show 0 < S1x1.numel by decide))) (View.readAt (Elt Ideal) arg3.view (Rect.unit (s := S4x56) (k0_off62 i 4#32 0#32) S1x1.size (Gen.k0_off62_inb i 2 0)).toLoadRect f3 (Shape.Idx.first (show 0 < S1x1.numel by decide))) (View.readAt (Elt Ideal) arg2.view (Rect.unit (s := S4x56) (k0_off62 i 4#32 1#32) S1x1.size (Gen.k0_off62_inb i 2 1)).toLoadRect f2 (Shape.Idx.first (show 0 < S1x1.numel by decide))) (View.readAt (Elt Ideal) arg3.view (Rect.unit (s := S4x56) (k0_off62 i 4#32 1#32) S1x1.size (Gen.k0_off62_inb i 2 1)).toLoadRect f3 (Shape.Idx.first (show 0 < S1x1.numel by decide))))
/-- its bias, -/
def bi16 : FVec Ideal ⟨2, ![160, 128]⟩ .f32 := (concatenate S160x128 0 [⟨S32x128, (bLd arg10 f10' 32 (k0_off76 i 2#32) (Gen.k0_off76_inb i 2) (by decide))⟩, ⟨S128x128, (bLd arg10 f10' 128 (k0_off67 i 2#32) (Gen.k0_off67_inb i 2) (by decide))⟩] (show Shape.Concatenates [S32x128, S128x128] S160x128 0 by decide))
/-- its first and -/
def va16 : FVec Ideal ⟨2, ![160, 128]⟩ .fp8e4m3 := (concatenate S160x128 0 [⟨S32x128, (ldc32 i arg5 arg6 arg7 arg12 arg14 f5 f6 f7 1 4 (by decide))⟩, ⟨S128x128, (extractStridedSlice S128x128 ![0, 0] (ldc192 arg5 arg6 arg7 arg11 arg14 f5 f6 f7 2 4 48 (by decide)) Gen.slices_S192x128_o0_0_S128x128)⟩] (show Shape.Concatenates [S32x128, S128x128] S160x128 0 by decide))
/-- its second values. -/
def vb16 : FVec Ideal ⟨2, ![160, 128]⟩ .fp8e4m3 := (concatenate S160x128 0 [⟨S32x128, (ldc32 i arg5 arg6 arg7 arg12 arg14 f5 f6 f7 1 5 (by decide))⟩, ⟨S128x128, (extractStridedSlice S128x128 ![0, 0] (ldc192 arg5 arg6 arg7 arg11 arg14 f5 f6 f7 2 5 48 (by decide)) Gen.slices_S192x128_o0_0_S128x128)⟩] (show Shape.Concatenates [S32x128, S128x128] S160x128 0 by decide))

include hf in
theorem tin16 : TileIn (codeOf arg6 f6) (codeOf arg5 f5) (csAt i arg2 arg3 f2 f3) (i 1).val 1 1 2 160 ok160 (keys16 i arg5 arg6 arg7 arg11 arg12 arg14 f5 f6 f7) (qa16 arg5 arg6 arg7 arg11 arg14 f5 f6 f7) (qb16 arg5 arg6 arg7 arg11 arg14 f5 f6 f7) (cv16 i arg2 arg3 f2 f3) (bi16 i arg10 f10') :=
  mk1 (n := 160) (m := 128) (blk := 1) (K := codeOf arg6 f6) (Q := codeOf arg5 f5) (cs := csAt i arg2 arg3 f2 f3) (g := (i 1).val) (p := 2) (by decide) (by decide) (by decide) (ldc192 arg5 arg6 arg7 arg11 arg14 f5 f6 f7 1 4 48 (by decide)) (ldc192 arg5 arg6 arg7 arg11 arg14 f5 f6 f7 1 5 48 (by decide)) (ldc32 i arg5 arg6 arg7 arg12 arg14 f5 f6 f7 0 4 (by decide)) (ldc32 i arg5 arg6 arg7 arg12 arg14 f5 f6 f7 0 5 (by decide)) _ _ (fun κ j hκ => slice_rows _ _ κ hκ j) (fun κ d => (ldc192_k arg5 arg6 arg7 arg11 arg14 f5 f6 f7 (2 * 2) 48 _ κ d).trans (congrArg (fun s => codeOf arg6 f6 s (2 * 2) d.val) (by omega))) (fun κ d => (ldc192_k arg5 arg6 arg7 arg11 arg14 f5 f6 f7 (2 * 2 + 1) 48 _ κ d).trans (congrArg (fun s => codeOf arg6 f6 s (2 * 2 + 1) d.val) (by omega))) (fun κ d => ldc32_k i arg5 arg6 arg7 arg12 arg14 f5 f6 f7 (2 * 2) _ κ d) (fun κ d => ldc32_k i arg5 arg6 arg7 arg12 arg14 f5 f6 f7 (2 * 2 + 1) _ κ d) (fun κ d => (ldc64_q arg5 arg6 arg7 arg11 arg14 f5 f6 f7 (2 * 2) 64 _ κ d).trans (congrArg (fun s => codeOf arg5 f5 s (2 * 2) d.val) (by omega))) (fun κ d => (ldc64_q arg5 arg6 arg7 arg11 arg14 f5 f6 f7 (2 * 2 + 1) 64 _ κ d).trans (congrArg (fun s => codeOf arg5 f5 s (2 * 2 + 1) d.val) (by omega))) (fun l hl => (cvec_a _ _ _ _ l hl).trans (congrArg₂ csOf (scal_ld arg2 f2 (i 0).val (8 * (i 1).val + 2 * 2) (i0_lt i) (by have := i1_lt' i; omega) _ ((by decide +kernel : ∀ i : grid0.Coords, k0_off62 i 4#32 0#32 = ![(i 0).val, 8 * (i 1).val + 2 * 2]) i) _ _) (scal_ld arg3 f3 (i 0).val (8 * (i 1).val + 2 * 2) (i0_lt i) (by have := i1_lt' i; omega) _ ((by decide +kernel : ∀ i : grid0.Coords, k0_off62 i 4#32 0#32 = ![(i 0).val, 8 * (i 1).val + 2 * 2]) i) _ _))) (fun l hl => (cvec_b _ _ _ _ l hl).trans (congrArg₂ csOf (scal_ld arg2 f2 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) (scal_ld arg3 f3 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _))) (fun κ l hk hr => ldB arg10.view f10' hf _ _ hk _ ((by decide +kernel : ∀ i : grid0.Coords, k0_off67 i 2#32 = ![(4 * (i 1).val + 2) % 6, 32 * (1 * (1 + 1)), 0]) i) _ _ κ l hr) (fun κ l hk hr => ldB arg10.view f10' hf _ _ hk _ ((by decide +kernel : ∀ i : grid0.Coords, k0_off76 i 2#32 = ![(4 * (i 1).val + 2) % 6, 384 + 32 * 1, 0]) i) _ _ κ l hr)

theorem hva16 : ∀ (κ : Fin 160) (d : Fin 128), (va16 i arg5 arg6 arg7 arg11 arg12 arg14 f5 f6 f7) (ix2 κ d) = codeOf arg7 f7 (keyOf 1 (8 * (i 1).val + (2 * 2)) κ.val) (2 * 2) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 2) _ _ d
  · exact (slice_rows _ _ _ (by show κ.val - 32 < 192; omega) d).trans ((ldc192_v arg5 arg6 arg7 arg11 arg14 f5 f6 f7 (2 * 2) 48 _ _ d).trans rfl)

theorem hvb16 : ∀ (κ : Fin 160) (d : Fin 128), (vb16 i arg5 arg6 arg7 arg11 arg12 arg14 f5 f6 f7) (ix2 κ d) = codeOf arg7 f7 (keyOf 1 (8 * (i 1).val + (2 * 2 + 1)) κ.val) (2 * 2 + 1) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 2 + 1) _ _ d
  · exact (slice_rows _ _ _ (by show κ.val - 32 < 192; omega) d).trans ((ldc192_v arg5 arg6 arg7 arg11 arg14 f5 f6 f7 (2 * 2 + 1) 48 _ _ d).trans rfl)

include hf in
theorem h8_17 (prev : (∀ q ∈ bodyRun.sl.H8_16 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_17 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin16 i arg2 arg3 arg5 arg6 arg7 arg10 arg11 arg12 arg14 f2 f3 f5 f6 f7 f10' hf).out (V := codeOf arg7 f7) (vs := vsAt i arg4 f4) (va16 i arg5 arg6 arg7 arg11 arg12 arg14 f5 f6 f7) (vb16 i arg5 arg6 arg7 arg11 arg12 arg14 f5 f6 f7)
      _ _ (hva16 i arg5 arg6 arg7 arg11 arg12 arg14 f5 f6 f7) (hvb16 i arg5 arg6 arg7 arg11 arg12 arg14 f5 f6 f7) (scal_ld arg4 f4 (i 0).val (8 * (i 1).val + 2 * 2) (i0_lt i) (by have := i1_lt' i; omega) _ ((by decide +kernel : ∀ i : grid0.Coords, k0_off64 i 4#32 = ![(i 0).val, 8 * (i 1).val + 2 * 2]) i) _ _) (scal_ld arg4 f4 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) ![0, 256, 512] rfl (by decide) x,
    prev⟩

include hf in
theorem h13_34 (prev : (∀ q ∈ bodyRun.sl.H13_32 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_34 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin16 i arg2 arg3 arg5 arg6 arg7 arg10 arg11 arg12 arg14 f2 f3 f5 f6 f7 f10' hf).lseB (k0_off103 i) ((by decide +kernel : ∀ i : grid0.Coords, k0_off103 i = ![(i 1).val, 2 * 2 + 1, 192 * 1 + 64 * 1]) i) (Gen.k0_off103_inb i) x,
    List.forall_mem_cons.2 ⟨fun x => (tin16 i arg2 arg3 arg5 arg6 arg7 arg10 arg11 arg12 arg14 f2 f3 f5 f6 f7 f10' hf).lseA (k0_off102 i) ((by decide +kernel : ∀ i : grid0.Coords, k0_off102 i = ![(i 1).val, 2 * 2, 192 * 1 + 64 * 1]) i) (Gen.k0_off102_inb i) x,
    prev⟩⟩

/-- The keys of tile 17, -/
def keys17 : FVec Ideal ⟨2, ![224, 256]⟩ .fp8e4m3 := (concatenate S224x256 0 [⟨S32x256, cat32 (ldc32 i arg5 arg6 arg7 arg12 arg14 f5 f6 f7 0 4 (by decide)) (ldc32 i arg5 arg6 arg7 arg12 arg14 f5 f6 f7 0 5 (by decide))⟩, ⟨S192x256, (cat192 (ldc192 arg5 arg6 arg7 arg11 arg14 f5 f6 f7 1 4 48 (by decide)) (ldc192 arg5 arg6 arg7 arg11 arg14 f5 f6 f7 1 5 48 (by decide)))⟩] (show Shape.Concatenates [S32x256, S192x256] S224x256 0 by decide))
/-- its first and -/
def qa17 : FVec Ideal S64x128 .fp8e4m3 := (ldc64 arg5 arg6 arg7 arg11 arg14 f5 f6 f7 0 4 80 (by decide))
/-- its second queries, -/
def qb17 : FVec Ideal S64x128 .fp8e4m3 := (ldc64 arg5 arg6 arg7 arg11 arg14 f5 f6 f7 0 5 80 (by decide))
/-- its scales, -/
def cv17 : FVec Ideal S1x128 .f32 := (cvecOf (View.readAt (Elt Ideal) arg2.view (Rect.unit (s := S4x56) (k0_off62 i 4#32 0#32) S1x1.size (Gen.k0_off62_inb i 2 0)).toLoadRect f2 (Shape.Idx.first (show 0 < S1x1.numel by decide))) (View.readAt (Elt Ideal) arg3.view (Rect.unit (s := S4x56) (k0_off62 i 4#32 0#32) S1x1.size (Gen.k0_off62_inb i 2 0)).toLoadRect f3 (Shape.Idx.first (show 0 < S1x1.numel by decide))) (View.readAt (Elt Ideal) arg2.view (Rect.unit (s := S4x56) (k0_off62 i 4#32 1#32) S1x1.size (Gen.k0_off62_inb i 2 1)).toLoadRect f2 (Shape.Idx.first (show 0 < S1x1.numel by decide))) (View.readAt (Elt Ideal) arg3.view (Rect.unit (s := S4x56) (k0_off62 i 4#32 1#32) S1x1.size (Gen.k0_off62_inb i 2 1)).toLoadRect f3 (Shape.Idx.first (show 0 < S1x1.numel by decide))))
/-- its bias, -/
def bi17 : FVec Ideal ⟨2, ![224, 128]⟩ .f32 := (concatenate S224x128 0 [⟨S32x128, (bLd arg10 f10' 32 (k0_off79 i 2#32) (Gen.k0_off79_inb i 2) (by decide))⟩, ⟨S192x128, (bLd arg10 f10' 192 (k0_off70 i 2#32) (Gen.k0_off70_inb i 2) (by decide))⟩] (show Shape.Concatenates [S32x128, S192x128] S224x128 0 by decide))
/-- its first and -/
def va17 : FVec Ideal ⟨2, ![224, 128]⟩ .fp8e4m3 := (concatenate S224x128 0 [⟨S32x128, (ldc32 i arg5 arg6 arg7 arg12 arg14 f5 f6 f7 1 4 (by decide))⟩, ⟨S192x128, (ldc192 arg5 arg6 arg7 arg11 arg14 f5 f6 f7 2 4 48 (by decide))⟩] (show Shape.Concatenates [S32x128, S192x128] S224x128 0 by decide))
/-- its second values. -/
def vb17 : FVec Ideal ⟨2, ![224, 128]⟩ .fp8e4m3 := (concatenate S224x128 0 [⟨S32x128, (ldc32 i arg5 arg6 arg7 arg12 arg14 f5 f6 f7 1 5 (by decide))⟩, ⟨S192x128, (ldc192 arg5 arg6 arg7 arg11 arg14 f5 f6 f7 2 5 48 (by decide))⟩] (show Shape.Concatenates [S32x128, S192x128] S224x128 0 by decide))

include hf in
theorem tin17 : TileIn (codeOf arg6 f6) (codeOf arg5 f5) (csAt i arg2 arg3 f2 f3) (i 1).val 1 2 2 224 ok224 (keys17 i arg5 arg6 arg7 arg11 arg12 arg14 f5 f6 f7) (qa17 arg5 arg6 arg7 arg11 arg14 f5 f6 f7) (qb17 arg5 arg6 arg7 arg11 arg14 f5 f6 f7) (cv17 i arg2 arg3 f2 f3) (bi17 i arg10 f10') :=
  mk1 (n := 224) (m := 192) (blk := 2) (K := codeOf arg6 f6) (Q := codeOf arg5 f5) (cs := csAt i arg2 arg3 f2 f3) (g := (i 1).val) (p := 2) (by decide) (by decide) (by decide) (ldc192 arg5 arg6 arg7 arg11 arg14 f5 f6 f7 1 4 48 (by decide)) (ldc192 arg5 arg6 arg7 arg11 arg14 f5 f6 f7 1 5 48 (by decide)) (ldc32 i arg5 arg6 arg7 arg12 arg14 f5 f6 f7 0 4 (by decide)) (ldc32 i arg5 arg6 arg7 arg12 arg14 f5 f6 f7 0 5 (by decide)) _ _ (fun κ j hκ => rfl) (fun κ d => (ldc192_k arg5 arg6 arg7 arg11 arg14 f5 f6 f7 (2 * 2) 48 _ κ d).trans (congrArg (fun s => codeOf arg6 f6 s (2 * 2) d.val) (by omega))) (fun κ d => (ldc192_k arg5 arg6 arg7 arg11 arg14 f5 f6 f7 (2 * 2 + 1) 48 _ κ d).trans (congrArg (fun s => codeOf arg6 f6 s (2 * 2 + 1) d.val) (by omega))) (fun κ d => ldc32_k i arg5 arg6 arg7 arg12 arg14 f5 f6 f7 (2 * 2) _ κ d) (fun κ d => ldc32_k i arg5 arg6 arg7 arg12 arg14 f5 f6 f7 (2 * 2 + 1) _ κ d) (fun κ d => (ldc64_q arg5 arg6 arg7 arg11 arg14 f5 f6 f7 (2 * 2) 80 _ κ d).trans (congrArg (fun s => codeOf arg5 f5 s (2 * 2) d.val) (by omega))) (fun κ d => (ldc64_q arg5 arg6 arg7 arg11 arg14 f5 f6 f7 (2 * 2 + 1) 80 _ κ d).trans (congrArg (fun s => codeOf arg5 f5 s (2 * 2 + 1) d.val) (by omega))) (fun l hl => (cvec_a _ _ _ _ l hl).trans (congrArg₂ csOf (scal_ld arg2 f2 (i 0).val (8 * (i 1).val + 2 * 2) (i0_lt i) (by have := i1_lt' i; omega) _ ((by decide +kernel : ∀ i : grid0.Coords, k0_off62 i 4#32 0#32 = ![(i 0).val, 8 * (i 1).val + 2 * 2]) i) _ _) (scal_ld arg3 f3 (i 0).val (8 * (i 1).val + 2 * 2) (i0_lt i) (by have := i1_lt' i; omega) _ ((by decide +kernel : ∀ i : grid0.Coords, k0_off62 i 4#32 0#32 = ![(i 0).val, 8 * (i 1).val + 2 * 2]) i) _ _))) (fun l hl => (cvec_b _ _ _ _ l hl).trans (congrArg₂ csOf (scal_ld arg2 f2 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) (scal_ld arg3 f3 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _))) (fun κ l hk hr => ldB arg10.view f10' hf _ _ hk _ ((by decide +kernel : ∀ i : grid0.Coords, k0_off70 i 2#32 = ![(4 * (i 1).val + 2) % 6, 32 * (2 * (2 + 1)), 0]) i) _ _ κ l hr) (fun κ l hk hr => ldB arg10.view f10' hf _ _ hk _ ((by decide +kernel : ∀ i : grid0.Coords, k0_off79 i 2#32 = ![(4 * (i 1).val + 2) % 6, 384 + 32 * 2, 0]) i) _ _ κ l hr)

theorem hva17 : ∀ (κ : Fin 224) (d : Fin 128), (va17 i arg5 arg6 arg7 arg11 arg12 arg14 f5 f6 f7) (ix2 κ d) = codeOf arg7 f7 (keyOf 1 (8 * (i 1).val + (2 * 2)) κ.val) (2 * 2) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 2) _ _ d
  · exact (ldc192_v arg5 arg6 arg7 arg11 arg14 f5 f6 f7 (2 * 2) 48 _ _ d).trans rfl

theorem hvb17 : ∀ (κ : Fin 224) (d : Fin 128), (vb17 i arg5 arg6 arg7 arg11 arg12 arg14 f5 f6 f7) (ix2 κ d) = codeOf arg7 f7 (keyOf 1 (8 * (i 1).val + (2 * 2 + 1)) κ.val) (2 * 2 + 1) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 2 + 1) _ _ d
  · exact (ldc192_v arg5 arg6 arg7 arg11 arg14 f5 f6 f7 (2 * 2 + 1) 48 _ _ d).trans rfl

include hf in
theorem h8_18 (prev : (∀ q ∈ bodyRun.sl.H8_17 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_18 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin17 i arg2 arg3 arg5 arg6 arg7 arg10 arg11 arg12 arg14 f2 f3 f5 f6 f7 f10' hf).out (V := codeOf arg7 f7) (vs := vsAt i arg4 f4) (va17 i arg5 arg6 arg7 arg11 arg12 arg14 f5 f6 f7) (vb17 i arg5 arg6 arg7 arg11 arg12 arg14 f5 f6 f7)
      _ _ (hva17 i arg5 arg6 arg7 arg11 arg12 arg14 f5 f6 f7) (hvb17 i arg5 arg6 arg7 arg11 arg12 arg14 f5 f6 f7) (scal_ld arg4 f4 (i 0).val (8 * (i 1).val + 2 * 2) (i0_lt i) (by have := i1_lt' i; omega) _ ((by decide +kernel : ∀ i : grid0.Coords, k0_off64 i 4#32 = ![(i 0).val, 8 * (i 1).val + 2 * 2]) i) _ _) (scal_ld arg4 f4 (i 0).val (8 * (i 1).val + (2 * 2 + 1)) (i0_lt i) (by have := i1_lt' i; omega) _ ((by decide +kernel : ∀ i : grid0.Coords, k0_off62 i 4#32 1#32 = ![(i 0).val, 8 * (i 1).val + (2 * 2 + 1)]) i) _ _) ![0, 320, 512] rfl (by decide) x,
    prev⟩

include hf in
theorem h13_36 (prev : (∀ q ∈ bodyRun.sl.H13_34 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_36 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin17 i arg2 arg3 arg5 arg6 arg7 arg10 arg11 arg12 arg14 f2 f3 f5 f6 f7 f10' hf).lseB (k0_off105 i) ((by decide +kernel : ∀ i : grid0.Coords, k0_off105 i = ![(i 1).val, 2 * 2 + 1, 192 * 1 + 64 * 2]) i) (Gen.k0_off105_inb i) x,
    List.forall_mem_cons.2 ⟨fun x => (tin17 i arg2 arg3 arg5 arg6 arg7 arg10 arg11 arg12 arg14 f2 f3 f5 f6 f7 f10' hf).lseA (k0_off104 i) ((by decide +kernel : ∀ i : grid0.Coords, k0_off104 i = ![(i 1).val, 2 * 2, 192 * 1 + 64 * 2]) i) (Gen.k0_off104_inb i) x,
    prev⟩⟩
end

end Cert.KernelIdeal.Hand

end
-- ==== Proof.KernelIdeal.BodyTiles3.lean ====
module

public import proofs.«01_k».proof.Proof.KernelIdeal.BodyTools

@[expose] public section

/-! # KernelIdeal: tiles 18 to 23 of the body

What each tile's operands hold and what its two stored results are. -/

set_option maxRecDepth 16384
set_option maxHeartbeats 4000000

noncomputable section

namespace Cert.KernelIdeal.Hand

open Idealize.ShloMosaic Cert.KernelIdeal
open scoped BigOperators

section
variable (i : grid0.Coords) (arg2 arg3 arg4 : Memref sig .tc .smem S4x56 .f32) (arg5 arg6 arg7 : Memref sig .tc .vmem S1x384x1x8x128 .i8)
  (arg10 : Memref sig .tc .vmem S6x480x128 .f32) (arg11 : Memref sig .tc .vmem S3x8x96x128 .i32) (arg12 : Memref sig .tc .vmem S2x8x8x128 .i32) (arg14 : Memref sig .tc .vmem S768x128 .i32)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty) (f7 : BufTy.Contents (Elt Ideal) arg7.view.ty)
  (f10' : BufTy.Contents (Elt Ideal) arg10.view.ty)

variable (hf : ∀ y, arg10.view.read (Elt Ideal) f10' y = G10 y)
/-- The keys of tile 18, -/
def keys18 : FVec Ideal ⟨2, ![64, 256]⟩ .fp8e4m3 := (extractStridedSlice S64x256 ![0, 0] (cat192 (ldc192 arg5 arg6 arg7 arg11 arg14 f5 f6 f7 1 6 0 (by decide)) (ldc192 arg5 arg6 arg7 arg11 arg14 f5 f6 f7 1 7 0 (by decide))) Gen.slices_S192x256_o0_0_S64x256)
/-- its first and -/
def qa18 : FVec Ideal S64x128 .fp8e4m3 := (ldc64 arg5 arg6 arg7 arg11 arg14 f5 f6 f7 0 6 0 (by decide))
/-- its second queries, -/
def qb18 : FVec Ideal S64x128 .fp8e4m3 := (ldc64 arg5 arg6 arg7 arg11 arg14 f5 f6 f7 0 7 0 (by decide))
/-- its scales, -/
def cv18 : FVec Ideal S1x128 .f32 := (cvecOf (View.readAt (Elt Ideal) arg2.view (Rect.unit (s := S4x56) (k0_off62 i 6#32 0#32) S1x1.size (Gen.k0_off62_inb i 3 0)).toLoadRect f2 (Shape.Idx.first (show 0 < S1x1.numel by decide))) (View.readAt (Elt Ideal) arg3.view (Rect.unit (s := S4x56) (k0_off62 i 6#32 0#32) S1x1.size (Gen.k0_off62_inb i 3 0)).toLoadRect f3 (Shape.Idx.first (show 0 < S1x1.numel by decide))) (View.readAt (Elt Ideal) arg2.view (Rect.unit (s := S4x56) (k0_off62 i 6#32 1#32) S1x1.size (Gen.k0_off62_inb i 3 1)).toLoadRect f2 (Shape.Idx.first (show 0 < S1x1.numel by decide))) (View.readAt (Elt Ideal) arg3.view (Rect.unit (s := S4x56) (k0_off62 i 6#32 1#32) S1x1.size (Gen.k0_off62_inb i 3 1)).toLoadRect f3 (Shape.Idx.first (show 0 < S1x1.numel by decide))))
/-- its bias, -/
def bi18 : FVec Ideal ⟨2, ![64, 128]⟩ .f32 := (bLd arg10 f10' 64 (k0_off63 i 3#32) (Gen.k0_off63_inb i 3) (by decide))
/-- its first and -/
def va18 : FVec Ideal ⟨2, ![64, 128]⟩ .fp8e4m3 := (extractStridedSlice S64x128 ![0, 0] (ldc192 arg5 arg6 arg7 arg11 arg14 f5 f6 f7 2 6 0 (by decide)) Gen.slices_S192x128_o0_0_S64x128)
/-- its second values. -/
def vb18 : FVec Ideal ⟨2, ![64, 128]⟩ .fp8e4m3 := (extractStridedSlice S64x128 ![0, 0] (ldc192 arg5 arg6 arg7 arg11 arg14 f5 f6 f7 2 7 0 (by decide)) Gen.slices_S192x128_o0_0_S64x128)

include hf in
theorem tin18 : TileIn (codeOf arg6 f6) (codeOf arg5 f5) (csAt i arg2 arg3 f2 f3) (i 1).val 0 0 3 64 ok64 (keys18 arg5 arg6 arg7 arg11 arg14 f5 f6 f7) (qa18 arg5 arg6 arg7 arg11 arg14 f5 f6 f7) (qb18 arg5 arg6 arg7 arg11 arg14 f5 f6 f7) (cv18 i arg2 arg3 f2 f3) (bi18 i arg10 f10') :=
  mk0 (K := codeOf arg6 f6) (Q := codeOf arg5 f5) (cs := csAt i arg2 arg3 f2 f3) (g := (i 1).val) (p := 3) (by decide) (by decide) (ldc192 arg5 arg6 arg7 arg11 arg14 f5 f6 f7 1 6 0 (by decide)) (ldc192 arg5 arg6 arg7 arg11 arg14 f5 f6 f7 1 7 0 (by decide)) (fun κ j hκ => slice_rows _ _ κ hκ j) (fun κ d => (ldc192_k arg5 arg6 arg7 arg11 arg14 f5 f6 f7 (2 * 3) 0 _ κ d).trans (congrArg (fun s => codeOf arg6 f6 s (2 * 3) d.val) (by omega))) (fun κ d => (ldc192_k arg5 arg6 arg7 arg11 arg14 f5 f6 f7 (2 * 3 + 1) 0 _ κ d).trans (congrArg (fun s => codeOf arg6 f6 s (2 * 3 + 1) d.val) (by omega))) (fun κ d => (ldc64_q arg5 arg6 arg7 arg11 arg14 f5 f6 f7 (2 * 3) 0 _ κ d).trans (congrArg (fun s => codeOf arg5 f5 s (2 * 3) d.val) (by omega))) (fun κ d => (ldc64_q arg5 arg6 arg7 arg11 arg14 f5 f6 f7 (2 * 3 + 1) 0 _ κ d).trans (congrArg (fun s => codeOf arg5 f5 s (2 * 3 + 1) d.val) (by omega))) (fun l hl => (cvec_a _ _ _ _ l hl).trans (congrArg₂ csOf (scal_ld arg2 f2 (i 0).val (8 * (i 1).val + 2 * 3) (i0_lt i) (by have := i1_lt' i; omega) _ ((by decide +kernel : ∀ i : grid0.Coords, k0_off62 i 6#32 0#32 = ![(i 0).val, 8 * (i 1).val + 2 * 3]) i) _ _) (scal_ld arg3 f3 (i 0).val (8 * (i 1).val + 2 * 3) (i0_lt i) (by have := i1_lt' i; omega) _ ((by decide +kernel : ∀ i : grid0.Coords, k0_off62 i 6#32 0#32 = ![(i 0).val, 8 * (i 1).val + 2 * 3]) i) _ _))) (fun l hl => (cvec_b _ _ _ _ l hl).trans (congrArg₂ csOf (scal_ld arg2 f2 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) (scal_ld arg3 f3 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _))) (fun κ l hk hr => ldB arg10.view f10' hf _ _ hk _ ((by decide +kernel : ∀ i : grid0.Coords, k0_off63 i 3#32 = ![(4 * (i 1).val + 3) % 6, 32 * (0 * (0 + 1)), 0]) i) _ _ κ l hr)

theorem hva18 : ∀ (κ : Fin 64) (d : Fin 128), (va18 arg5 arg6 arg7 arg11 arg14 f5 f6 f7) (ix2 κ d) = codeOf arg7 f7 (keyOf 0 (8 * (i 1).val + (2 * 3)) κ.val) (2 * 3) d.val :=
  fun κ d => (slice_rows _ _ κ (by omega) d).trans ((ldc192_v arg5 arg6 arg7 arg11 arg14 f5 f6 f7 (2 * 3) 0 _ _ d).trans (congrArg (fun s => codeOf arg7 f7 s (2 * 3) d.val) (Nat.zero_add _)))

theorem hvb18 : ∀ (κ : Fin 64) (d : Fin 128), (vb18 arg5 arg6 arg7 arg11 arg14 f5 f6 f7) (ix2 κ d) = codeOf arg7 f7 (keyOf 0 (8 * (i 1).val + (2 * 3 + 1)) κ.val) (2 * 3 + 1) d.val :=
  fun κ d => (slice_rows _ _ κ (by omega) d).trans ((ldc192_v arg5 arg6 arg7 arg11 arg14 f5 f6 f7 (2 * 3 + 1) 0 _ _ d).trans (congrArg (fun s => codeOf arg7 f7 s (2 * 3 + 1) d.val) (Nat.zero_add _)))

include hf in
theorem h8_19 (prev : (∀ q ∈ bodyRun.sl.H8_18 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_19 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin18 i arg2 arg3 arg5 arg6 arg7 arg10 arg11 arg14 f2 f3 f5 f6 f7 f10' hf).out (V := codeOf arg7 f7) (vs := vsAt i arg4 f4) (va18 arg5 arg6 arg7 arg11 arg14 f5 f6 f7) (vb18 arg5 arg6 arg7 arg11 arg14 f5 f6 f7)
      _ _ (hva18 i arg5 arg6 arg7 arg11 arg14 f5 f6 f7) (hvb18 i arg5 arg6 arg7 arg11 arg14 f5 f6 f7) (scal_ld arg4 f4 (i 0).val (8 * (i 1).val + 2 * 3) (i0_lt i) (by have := i1_lt' i; omega) _ ((by decide +kernel : ∀ i : grid0.Coords, k0_off64 i 6#32 = ![(i 0).val, 8 * (i 1).val + 2 * 3]) i) _ _) (scal_ld arg4 f4 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) ![0, 0, 768] rfl (by decide) x,
    prev⟩

include hf in
theorem h13_38 (prev : (∀ q ∈ bodyRun.sl.H13_36 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_38 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin18 i arg2 arg3 arg5 arg6 arg7 arg10 arg11 arg14 f2 f3 f5 f6 f7 f10' hf).lseB (k0_off107 i) ((by decide +kernel : ∀ i : grid0.Coords, k0_off107 i = ![(i 1).val, 2 * 3 + 1, 192 * 0 + 64 * 0]) i) (Gen.k0_off107_inb i) x,
    List.forall_mem_cons.2 ⟨fun x => (tin18 i arg2 arg3 arg5 arg6 arg7 arg10 arg11 arg14 f2 f3 f5 f6 f7 f10' hf).lseA (k0_off106 i) ((by decide +kernel : ∀ i : grid0.Coords, k0_off106 i = ![(i 1).val, 2 * 3, 192 * 0 + 64 * 0]) i) (Gen.k0_off106_inb i) x,
    prev⟩⟩

/-- The keys of tile 19, -/
def keys19 : FVec Ideal ⟨2, ![128, 256]⟩ .fp8e4m3 := (extractStridedSlice S128x256 ![0, 0] (cat192 (ldc192 arg5 arg6 arg7 arg11 arg14 f5 f6 f7 1 6 0 (by decide)) (ldc192 arg5 arg6 arg7 arg11 arg14 f5 f6 f7 1 7 0 (by decide))) Gen.slices_S192x256_o0_0_S128x256)
/-- its first and -/
def qa19 : FVec Ideal S64x128 .fp8e4m3 := (ldc64 arg5 arg6 arg7 arg11 arg14 f5 f6 f7 0 6 16 (by decide))
/-- its second queries, -/
def qb19 : FVec Ideal S64x128 .fp8e4m3 := (ldc64 arg5 arg6 arg7 arg11 arg14 f5 f6 f7 0 7 16 (by decide))
/-- its scales, -/
def cv19 : FVec Ideal S1x128 .f32 := (cvecOf (View.readAt (Elt Ideal) arg2.view (Rect.unit (s := S4x56) (k0_off62 i 6#32 0#32) S1x1.size (Gen.k0_off62_inb i 3 0)).toLoadRect f2 (Shape.Idx.first (show 0 < S1x1.numel by decide))) (View.readAt (Elt Ideal) arg3.view (Rect.unit (s := S4x56) (k0_off62 i 6#32 0#32) S1x1.size (Gen.k0_off62_inb i 3 0)).toLoadRect f3 (Shape.Idx.first (show 0 < S1x1.numel by decide))) (View.readAt (Elt Ideal) arg2.view (Rect.unit (s := S4x56) (k0_off62 i 6#32 1#32) S1x1.size (Gen.k0_off62_inb i 3 1)).toLoadRect f2 (Shape.Idx.first (show 0 < S1x1.numel by decide))) (View.readAt (Elt Ideal) arg3.view (Rect.unit (s := S4x56) (k0_off62 i 6#32 1#32) S1x1.size (Gen.k0_off62_inb i 3 1)).toLoadRect f3 (Shape.Idx.first (show 0 < S1x1.numel by decide))))
/-- its bias, -/
def bi19 : FVec Ideal ⟨2, ![128, 128]⟩ .f32 := (bLd arg10 f10' 128 (k0_off67 i 3#32) (Gen.k0_off67_inb i 3) (by decide))
/-- its first and -/
def va19 : FVec Ideal ⟨2, ![128, 128]⟩ .fp8e4m3 := (extractStridedSlice S128x128 ![0, 0] (ldc192 arg5 arg6 arg7 arg11 arg14 f5 f6 f7 2 6 0 (by decide)) Gen.slices_S192x128_o0_0_S128x128)
/-- its second values. -/
def vb19 : FVec Ideal ⟨2, ![128, 128]⟩ .fp8e4m3 := (extractStridedSlice S128x128 ![0, 0] (ldc192 arg5 arg6 arg7 arg11 arg14 f5 f6 f7 2 7 0 (by decide)) Gen.slices_S192x128_o0_0_S128x128)

include hf in
theorem tin19 : TileIn (codeOf arg6 f6) (codeOf arg5 f5) (csAt i arg2 arg3 f2 f3) (i 1).val 0 1 3 128 ok128 (keys19 arg5 arg6 arg7 arg11 arg14 f5 f6 f7) (qa19 arg5 arg6 arg7 arg11 arg14 f5 f6 f7) (qb19 arg5 arg6 arg7 arg11 arg14 f5 f6 f7) (cv19 i arg2 arg3 f2 f3) (bi19 i arg10 f10') :=
  mk0 (K := codeOf arg6 f6) (Q := codeOf arg5 f5) (cs := csAt i arg2 arg3 f2 f3) (g := (i 1).val) (p := 3) (by decide) (by decide) (ldc192 arg5 arg6 arg7 arg11 arg14 f5 f6 f7 1 6 0 (by decide)) (ldc192 arg5 arg6 arg7 arg11 arg14 f5 f6 f7 1 7 0 (by decide)) (fun κ j hκ => slice_rows _ _ κ hκ j) (fun κ d => (ldc192_k arg5 arg6 arg7 arg11 arg14 f5 f6 f7 (2 * 3) 0 _ κ d).trans (congrArg (fun s => codeOf arg6 f6 s (2 * 3) d.val) (by omega))) (fun κ d => (ldc192_k arg5 arg6 arg7 arg11 arg14 f5 f6 f7 (2 * 3 + 1) 0 _ κ d).trans (congrArg (fun s => codeOf arg6 f6 s (2 * 3 + 1) d.val) (by omega))) (fun κ d => (ldc64_q arg5 arg6 arg7 arg11 arg14 f5 f6 f7 (2 * 3) 16 _ κ d).trans (congrArg (fun s => codeOf arg5 f5 s (2 * 3) d.val) (by omega))) (fun κ d => (ldc64_q arg5 arg6 arg7 arg11 arg14 f5 f6 f7 (2 * 3 + 1) 16 _ κ d).trans (congrArg (fun s => codeOf arg5 f5 s (2 * 3 + 1) d.val) (by omega))) (fun l hl => (cvec_a _ _ _ _ l hl).trans (congrArg₂ csOf (scal_ld arg2 f2 (i 0).val (8 * (i 1).val + 2 * 3) (i0_lt i) (by have := i1_lt' i; omega) _ ((by decide +kernel : ∀ i : grid0.Coords, k0_off62 i 6#32 0#32 = ![(i 0).val, 8 * (i 1).val + 2 * 3]) i) _ _) (scal_ld arg3 f3 (i 0).val (8 * (i 1).val + 2 * 3) (i0_lt i) (by have := i1_lt' i; omega) _ ((by decide +kernel : ∀ i : grid0.Coords, k0_off62 i 6#32 0#32 = ![(i 0).val, 8 * (i 1).val + 2 * 3]) i) _ _))) (fun l hl => (cvec_b _ _ _ _ l hl).trans (congrArg₂ csOf (scal_ld arg2 f2 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) (scal_ld arg3 f3 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _))) (fun κ l hk hr => ldB arg10.view f10' hf _ _ hk _ ((by decide +kernel : ∀ i : grid0.Coords, k0_off67 i 3#32 = ![(4 * (i 1).val + 3) % 6, 32 * (1 * (1 + 1)), 0]) i) _ _ κ l hr)

theorem hva19 : ∀ (κ : Fin 128) (d : Fin 128), (va19 arg5 arg6 arg7 arg11 arg14 f5 f6 f7) (ix2 κ d) = codeOf arg7 f7 (keyOf 0 (8 * (i 1).val + (2 * 3)) κ.val) (2 * 3) d.val :=
  fun κ d => (slice_rows _ _ κ (by omega) d).trans ((ldc192_v arg5 arg6 arg7 arg11 arg14 f5 f6 f7 (2 * 3) 0 _ _ d).trans (congrArg (fun s => codeOf arg7 f7 s (2 * 3) d.val) (Nat.zero_add _)))

theorem hvb19 : ∀ (κ : Fin 128) (d : Fin 128), (vb19 arg5 arg6 arg7 arg11 arg14 f5 f6 f7) (ix2 κ d) = codeOf arg7 f7 (keyOf 0 (8 * (i 1).val + (2 * 3 + 1)) κ.val) (2 * 3 + 1) d.val :=
  fun κ d => (slice_rows _ _ κ (by omega) d).trans ((ldc192_v arg5 arg6 arg7 arg11 arg14 f5 f6 f7 (2 * 3 + 1) 0 _ _ d).trans (congrArg (fun s => codeOf arg7 f7 s (2 * 3 + 1) d.val) (Nat.zero_add _)))

include hf in
theorem h8_20 (prev : (∀ q ∈ bodyRun.sl.H8_19 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_20 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin19 i arg2 arg3 arg5 arg6 arg7 arg10 arg11 arg14 f2 f3 f5 f6 f7 f10' hf).out (V := codeOf arg7 f7) (vs := vsAt i arg4 f4) (va19 arg5 arg6 arg7 arg11 arg14 f5 f6 f7) (vb19 arg5 arg6 arg7 arg11 arg14 f5 f6 f7)
      _ _ (hva19 i arg5 arg6 arg7 arg11 arg14 f5 f6 f7) (hvb19 i arg5 arg6 arg7 arg11 arg14 f5 f6 f7) (scal_ld arg4 f4 (i 0).val (8 * (i 1).val + 2 * 3) (i0_lt i) (by have := i1_lt' i; omega) _ ((by decide +kernel : ∀ i : grid0.Coords, k0_off64 i 6#32 = ![(i 0).val, 8 * (i 1).val + 2 * 3]) i) _ _) (scal_ld arg4 f4 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) ![0, 64, 768] rfl (by decide) x,
    prev⟩

include hf in
theorem h13_40 (prev : (∀ q ∈ bodyRun.sl.H13_38 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_40 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin19 i arg2 arg3 arg5 arg6 arg7 arg10 arg11 arg14 f2 f3 f5 f6 f7 f10' hf).lseB (k0_off109 i) ((by decide +kernel : ∀ i : grid0.Coords, k0_off109 i = ![(i 1).val, 2 * 3 + 1, 192 * 0 + 64 * 1]) i) (Gen.k0_off109_inb i) x,
    List.forall_mem_cons.2 ⟨fun x => (tin19 i arg2 arg3 arg5 arg6 arg7 arg10 arg11 arg14 f2 f3 f5 f6 f7 f10' hf).lseA (k0_off108 i) ((by decide +kernel : ∀ i : grid0.Coords, k0_off108 i = ![(i 1).val, 2 * 3, 192 * 0 + 64 * 1]) i) (Gen.k0_off108_inb i) x,
    prev⟩⟩

/-- The keys of tile 20, -/
def keys20 : FVec Ideal ⟨2, ![192, 256]⟩ .fp8e4m3 := (cat192 (ldc192 arg5 arg6 arg7 arg11 arg14 f5 f6 f7 1 6 0 (by decide)) (ldc192 arg5 arg6 arg7 arg11 arg14 f5 f6 f7 1 7 0 (by decide)))
/-- its first and -/
def qa20 : FVec Ideal S64x128 .fp8e4m3 := (ldc64 arg5 arg6 arg7 arg11 arg14 f5 f6 f7 0 6 32 (by decide))
/-- its second queries, -/
def qb20 : FVec Ideal S64x128 .fp8e4m3 := (ldc64 arg5 arg6 arg7 arg11 arg14 f5 f6 f7 0 7 32 (by decide))
/-- its scales, -/
def cv20 : FVec Ideal S1x128 .f32 := (cvecOf (View.readAt (Elt Ideal) arg2.view (Rect.unit (s := S4x56) (k0_off62 i 6#32 0#32) S1x1.size (Gen.k0_off62_inb i 3 0)).toLoadRect f2 (Shape.Idx.first (show 0 < S1x1.numel by decide))) (View.readAt (Elt Ideal) arg3.view (Rect.unit (s := S4x56) (k0_off62 i 6#32 0#32) S1x1.size (Gen.k0_off62_inb i 3 0)).toLoadRect f3 (Shape.Idx.first (show 0 < S1x1.numel by decide))) (View.readAt (Elt Ideal) arg2.view (Rect.unit (s := S4x56) (k0_off62 i 6#32 1#32) S1x1.size (Gen.k0_off62_inb i 3 1)).toLoadRect f2 (Shape.Idx.first (show 0 < S1x1.numel by decide))) (View.readAt (Elt Ideal) arg3.view (Rect.unit (s := S4x56) (k0_off62 i 6#32 1#32) S1x1.size (Gen.k0_off62_inb i 3 1)).toLoadRect f3 (Shape.Idx.first (show 0 < S1x1.numel by decide))))
/-- its bias, -/
def bi20 : FVec Ideal ⟨2, ![192, 128]⟩ .f32 := (bLd arg10 f10' 192 (k0_off70 i 3#32) (Gen.k0_off70_inb i 3) (by decide))
/-- its first and -/
def va20 : FVec Ideal ⟨2, ![192, 128]⟩ .fp8e4m3 := (ldc192 arg5 arg6 arg7 arg11 arg14 f5 f6 f7 2 6 0 (by decide))
/-- its second values. -/
def vb20 : FVec Ideal ⟨2, ![192, 128]⟩ .fp8e4m3 := (ldc192 arg5 arg6 arg7 arg11 arg14 f5 f6 f7 2 7 0 (by decide))

include hf in
theorem tin20 : TileIn (codeOf arg6 f6) (codeOf arg5 f5) (csAt i arg2 arg3 f2 f3) (i 1).val 0 2 3 192 ok192 (keys20 arg5 arg6 arg7 arg11 arg14 f5 f6 f7) (qa20 arg5 arg6 arg7 arg11 arg14 f5 f6 f7) (qb20 arg5 arg6 arg7 arg11 arg14 f5 f6 f7) (cv20 i arg2 arg3 f2 f3) (bi20 i arg10 f10') :=
  mk0 (K := codeOf arg6 f6) (Q := codeOf arg5 f5) (cs := csAt i arg2 arg3 f2 f3) (g := (i 1).val) (p := 3) (by decide) (by decide) (ldc192 arg5 arg6 arg7 arg11 arg14 f5 f6 f7 1 6 0 (by decide)) (ldc192 arg5 arg6 arg7 arg11 arg14 f5 f6 f7 1 7 0 (by decide)) (fun κ j hκ => rfl) (fun κ d => (ldc192_k arg5 arg6 arg7 arg11 arg14 f5 f6 f7 (2 * 3) 0 _ κ d).trans (congrArg (fun s => codeOf arg6 f6 s (2 * 3) d.val) (by omega))) (fun κ d => (ldc192_k arg5 arg6 arg7 arg11 arg14 f5 f6 f7 (2 * 3 + 1) 0 _ κ d).trans (congrArg (fun s => codeOf arg6 f6 s (2 * 3 + 1) d.val) (by omega))) (fun κ d => (ldc64_q arg5 arg6 arg7 arg11 arg14 f5 f6 f7 (2 * 3) 32 _ κ d).trans (congrArg (fun s => codeOf arg5 f5 s (2 * 3) d.val) (by omega))) (fun κ d => (ldc64_q arg5 arg6 arg7 arg11 arg14 f5 f6 f7 (2 * 3 + 1) 32 _ κ d).trans (congrArg (fun s => codeOf arg5 f5 s (2 * 3 + 1) d.val) (by omega))) (fun l hl => (cvec_a _ _ _ _ l hl).trans (congrArg₂ csOf (scal_ld arg2 f2 (i 0).val (8 * (i 1).val + 2 * 3) (i0_lt i) (by have := i1_lt' i; omega) _ ((by decide +kernel : ∀ i : grid0.Coords, k0_off62 i 6#32 0#32 = ![(i 0).val, 8 * (i 1).val + 2 * 3]) i) _ _) (scal_ld arg3 f3 (i 0).val (8 * (i 1).val + 2 * 3) (i0_lt i) (by have := i1_lt' i; omega) _ ((by decide +kernel : ∀ i : grid0.Coords, k0_off62 i 6#32 0#32 = ![(i 0).val, 8 * (i 1).val + 2 * 3]) i) _ _))) (fun l hl => (cvec_b _ _ _ _ l hl).trans (congrArg₂ csOf (scal_ld arg2 f2 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) (scal_ld arg3 f3 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _))) (fun κ l hk hr => ldB arg10.view f10' hf _ _ hk _ ((by decide +kernel : ∀ i : grid0.Coords, k0_off70 i 3#32 = ![(4 * (i 1).val + 3) % 6, 32 * (2 * (2 + 1)), 0]) i) _ _ κ l hr)

theorem hva20 : ∀ (κ : Fin 192) (d : Fin 128), (va20 arg5 arg6 arg7 arg11 arg14 f5 f6 f7) (ix2 κ d) = codeOf arg7 f7 (keyOf 0 (8 * (i 1).val + (2 * 3)) κ.val) (2 * 3) d.val :=
  fun κ d => (ldc192_v arg5 arg6 arg7 arg11 arg14 f5 f6 f7 (2 * 3) 0 _ _ d).trans (congrArg (fun s => codeOf arg7 f7 s (2 * 3) d.val) (Nat.zero_add _))

theorem hvb20 : ∀ (κ : Fin 192) (d : Fin 128), (vb20 arg5 arg6 arg7 arg11 arg14 f5 f6 f7) (ix2 κ d) = codeOf arg7 f7 (keyOf 0 (8 * (i 1).val + (2 * 3 + 1)) κ.val) (2 * 3 + 1) d.val :=
  fun κ d => (ldc192_v arg5 arg6 arg7 arg11 arg14 f5 f6 f7 (2 * 3 + 1) 0 _ _ d).trans (congrArg (fun s => codeOf arg7 f7 s (2 * 3 + 1) d.val) (Nat.zero_add _))

include hf in
theorem h8_21 (prev : (∀ q ∈ bodyRun.sl.H8_20 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_21 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin20 i arg2 arg3 arg5 arg6 arg7 arg10 arg11 arg14 f2 f3 f5 f6 f7 f10' hf).out (V := codeOf arg7 f7) (vs := vsAt i arg4 f4) (va20 arg5 arg6 arg7 arg11 arg14 f5 f6 f7) (vb20 arg5 arg6 arg7 arg11 arg14 f5 f6 f7)
      _ _ (hva20 i arg5 arg6 arg7 arg11 arg14 f5 f6 f7) (hvb20 i arg5 arg6 arg7 arg11 arg14 f5 f6 f7) (scal_ld arg4 f4 (i 0).val (8 * (i 1).val + 2 * 3) (i0_lt i) (by have := i1_lt' i; omega) _ ((by decide +kernel : ∀ i : grid0.Coords, k0_off64 i 6#32 = ![(i 0).val, 8 * (i 1).val + 2 * 3]) i) _ _) (scal_ld arg4 f4 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) ![0, 128, 768] rfl (by decide) x,
    prev⟩

include hf in
theorem h13_42 (prev : (∀ q ∈ bodyRun.sl.H13_40 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_42 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin20 i arg2 arg3 arg5 arg6 arg7 arg10 arg11 arg14 f2 f3 f5 f6 f7 f10' hf).lseB (k0_off111 i) ((by decide +kernel : ∀ i : grid0.Coords, k0_off111 i = ![(i 1).val, 2 * 3 + 1, 192 * 0 + 64 * 2]) i) (Gen.k0_off111_inb i) x,
    List.forall_mem_cons.2 ⟨fun x => (tin20 i arg2 arg3 arg5 arg6 arg7 arg10 arg11 arg14 f2 f3 f5 f6 f7 f10' hf).lseA (k0_off110 i) ((by decide +kernel : ∀ i : grid0.Coords, k0_off110 i = ![(i 1).val, 2 * 3, 192 * 0 + 64 * 2]) i) (Gen.k0_off110_inb i) x,
    prev⟩⟩

/-- The keys of tile 21, -/
def keys21 : FVec Ideal ⟨2, ![96, 256]⟩ .fp8e4m3 := (concatenate S96x256 0 [⟨S32x256, cat32 (ldc32 i arg5 arg6 arg7 arg12 arg14 f5 f6 f7 0 6 (by decide)) (ldc32 i arg5 arg6 arg7 arg12 arg14 f5 f6 f7 0 7 (by decide))⟩, ⟨S64x256, (extractStridedSlice S64x256 ![0, 0] (cat192 (ldc192 arg5 arg6 arg7 arg11 arg14 f5 f6 f7 1 6 48 (by decide)) (ldc192 arg5 arg6 arg7 arg11 arg14 f5 f6 f7 1 7 48 (by decide))) Gen.slices_S192x256_o0_0_S64x256)⟩] (show Shape.Concatenates [S32x256, S64x256] S96x256 0 by decide))
/-- its first and -/
def qa21 : FVec Ideal S64x128 .fp8e4m3 := (ldc64 arg5 arg6 arg7 arg11 arg14 f5 f6 f7 0 6 48 (by decide))
/-- its second queries, -/
def qb21 : FVec Ideal S64x128 .fp8e4m3 := (ldc64 arg5 arg6 arg7 arg11 arg14 f5 f6 f7 0 7 48 (by decide))
/-- its scales, -/
def cv21 : FVec Ideal S1x128 .f32 := (cvecOf (View.readAt (Elt Ideal) arg2.view (Rect.unit (s := S4x56) (k0_off62 i 6#32 0#32) S1x1.size (Gen.k0_off62_inb i 3 0)).toLoadRect f2 (Shape.Idx.first (show 0 < S1x1.numel by decide))) (View.readAt (Elt Ideal) arg3.view (Rect.unit (s := S4x56) (k0_off62 i 6#32 0#32) S1x1.size (Gen.k0_off62_inb i 3 0)).toLoadRect f3 (Shape.Idx.first (show 0 < S1x1.numel by decide))) (View.readAt (Elt Ideal) arg2.view (Rect.unit (s := S4x56) (k0_off62 i 6#32 1#32) S1x1.size (Gen.k0_off62_inb i 3 1)).toLoadRect f2 (Shape.Idx.first (show 0 < S1x1.numel by decide))) (View.readAt (Elt Ideal) arg3.view (Rect.unit (s := S4x56) (k0_off62 i 6#32 1#32) S1x1.size (Gen.k0_off62_inb i 3 1)).toLoadRect f3 (Shape.Idx.first (show 0 < S1x1.numel by decide))))
/-- its bias, -/
def bi21 : FVec Ideal ⟨2, ![96, 128]⟩ .f32 := (concatenate S96x128 0 [⟨S32x128, (bLd arg10 f10' 32 (k0_off73 i 3#32) (Gen.k0_off73_inb i 3) (by decide))⟩, ⟨S64x128, (bLd arg10 f10' 64 (k0_off63 i 3#32) (Gen.k0_off63_inb i 3) (by decide))⟩] (show Shape.Concatenates [S32x128, S64x128] S96x128 0 by decide))
/-- its first and -/
def va21 : FVec Ideal ⟨2, ![96, 128]⟩ .fp8e4m3 := (concatenate S96x128 0 [⟨S32x128, (ldc32 i arg5 arg6 arg7 arg12 arg14 f5 f6 f7 1 6 (by decide))⟩, ⟨S64x128, (extractStridedSlice S64x128 ![0, 0] (ldc192 arg5 arg6 arg7 arg11 arg14 f5 f6 f7 2 6 48 (by decide)) Gen.slices_S192x128_o0_0_S64x128)⟩] (show Shape.Concatenates [S32x128, S64x128] S96x128 0 by decide))
/-- its second values. -/
def vb21 : FVec Ideal ⟨2, ![96, 128]⟩ .fp8e4m3 := (concatenate S96x128 0 [⟨S32x128, (ldc32 i arg5 arg6 arg7 arg12 arg14 f5 f6 f7 1 7 (by decide))⟩, ⟨S64x128, (extractStridedSlice S64x128 ![0, 0] (ldc192 arg5 arg6 arg7 arg11 arg14 f5 f6 f7 2 7 48 (by decide)) Gen.slices_S192x128_o0_0_S64x128)⟩] (show Shape.Concatenates [S32x128, S64x128] S96x128 0 by decide))

include hf in
theorem tin21 : TileIn (codeOf arg6 f6) (codeOf arg5 f5) (csAt i arg2 arg3 f2 f3) (i 1).val 1 0 3 96 ok96 (keys21 i arg5 arg6 arg7 arg11 arg12 arg14 f5 f6 f7) (qa21 arg5 arg6 arg7 arg11 arg14 f5 f6 f7) (qb21 arg5 arg6 arg7 arg11 arg14 f5 f6 f7) (cv21 i arg2 arg3 f2 f3) (bi21 i arg10 f10') :=
  mk1 (n := 96) (m := 64) (blk := 0) (K := codeOf arg6 f6) (Q := codeOf arg5 f5) (cs := csAt i arg2 arg3 f2 f3) (g := (i 1).val) (p := 3) (by decide) (by decide) (by decide) (ldc192 arg5 arg6 arg7 arg11 arg14 f5 f6 f7 1 6 48 (by decide)) (ldc192 arg5 arg6 arg7 arg11 arg14 f5 f6 f7 1 7 48 (by decide)) (ldc32 i arg5 arg6 arg7 arg12 arg14 f5 f6 f7 0 6 (by decide)) (ldc32 i arg5 arg6 arg7 arg12 arg14 f5 f6 f7 0 7 (by decide)) _ _ (fun κ j hκ => slice_rows _ _ κ hκ j) (fun κ d => (ldc192_k arg5 arg6 arg7 arg11 arg14 f5 f6 f7 (2 * 3) 48 _ κ d).trans (congrArg (fun s => codeOf arg6 f6 s (2 * 3) d.val) (by omega))) (fun κ d => (ldc192_k arg5 arg6 arg7 arg11 arg14 f5 f6 f7 (2 * 3 + 1) 48 _ κ d).trans (congrArg (fun s => codeOf arg6 f6 s (2 * 3 + 1) d.val) (by omega))) (fun κ d => ldc32_k i arg5 arg6 arg7 arg12 arg14 f5 f6 f7 (2 * 3) _ κ d) (fun κ d => ldc32_k i arg5 arg6 arg7 arg12 arg14 f5 f6 f7 (2 * 3 + 1) _ κ d) (fun κ d => (ldc64_q arg5 arg6 arg7 arg11 arg14 f5 f6 f7 (2 * 3) 48 _ κ d).trans (congrArg (fun s => codeOf arg5 f5 s (2 * 3) d.val) (by omega))) (fun κ d => (ldc64_q arg5 arg6 arg7 arg11 arg14 f5 f6 f7 (2 * 3 + 1) 48 _ κ d).trans (congrArg (fun s => codeOf arg5 f5 s (2 * 3 + 1) d.val) (by omega))) (fun l hl => (cvec_a _ _ _ _ l hl).trans (congrArg₂ csOf (scal_ld arg2 f2 (i 0).val (8 * (i 1).val + 2 * 3) (i0_lt i) (by have := i1_lt' i; omega) _ ((by decide +kernel : ∀ i : grid0.Coords, k0_off62 i 6#32 0#32 = ![(i 0).val, 8 * (i 1).val + 2 * 3]) i) _ _) (scal_ld arg3 f3 (i 0).val (8 * (i 1).val + 2 * 3) (i0_lt i) (by have := i1_lt' i; omega) _ ((by decide +kernel : ∀ i : grid0.Coords, k0_off62 i 6#32 0#32 = ![(i 0).val, 8 * (i 1).val + 2 * 3]) i) _ _))) (fun l hl => (cvec_b _ _ _ _ l hl).trans (congrArg₂ csOf (scal_ld arg2 f2 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) (scal_ld arg3 f3 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _))) (fun κ l hk hr => ldB arg10.view f10' hf _ _ hk _ ((by decide +kernel : ∀ i : grid0.Coords, k0_off63 i 3#32 = ![(4 * (i 1).val + 3) % 6, 32 * (0 * (0 + 1)), 0]) i) _ _ κ l hr) (fun κ l hk hr => ldB arg10.view f10' hf _ _ hk _ ((by decide +kernel : ∀ i : grid0.Coords, k0_off73 i 3#32 = ![(4 * (i 1).val + 3) % 6, 384 + 32 * 0, 0]) i) _ _ κ l hr)

theorem hva21 : ∀ (κ : Fin 96) (d : Fin 128), (va21 i arg5 arg6 arg7 arg11 arg12 arg14 f5 f6 f7) (ix2 κ d) = codeOf arg7 f7 (keyOf 1 (8 * (i 1).val + (2 * 3)) κ.val) (2 * 3) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 3) _ _ d
  · exact (slice_rows _ _ _ (by show κ.val - 32 < 192; omega) d).trans ((ldc192_v arg5 arg6 arg7 arg11 arg14 f5 f6 f7 (2 * 3) 48 _ _ d).trans rfl)

theorem hvb21 : ∀ (κ : Fin 96) (d : Fin 128), (vb21 i arg5 arg6 arg7 arg11 arg12 arg14 f5 f6 f7) (ix2 κ d) = codeOf arg7 f7 (keyOf 1 (8 * (i 1).val + (2 * 3 + 1)) κ.val) (2 * 3 + 1) d.val :=
  fun κ d => by
  refine (stack_rows (n := 96) (m := 64) _ _ _ κ (by decide) d).trans ?_
  unfold keyOf
  rw [if_neg (by decide)]
  split
  · exact ldc32_v i arg5 arg6 arg7 arg12 arg14 f5 f6 f7 (2 * 3 + 1) _ _ d
  · exact (slice_rows _ _ _ (by show κ.val - 32 < 192; omega) d).trans ((ldc192_v arg5 arg6 arg7 arg11 arg14 f5 f6 f7 (2 * 3 + 1) 48 _ _ d).trans rfl)

include hf in
theorem h8_22 (prev : (∀ q ∈ bodyRun.sl.H8_21 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_22 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin21 i arg2 arg3 arg5 arg6 arg7 arg10 arg11 arg12 arg14 f2 f3 f5 f6 f7 f10' hf).out (V := codeOf arg7 f7) (vs := vsAt i arg4 f4) (va21 i arg5 arg6 arg7 arg11 arg12 arg14 f5 f6 f7) (vb21 i arg5 arg6 arg7 arg11 arg12 arg14 f5 f6 f7)
      _ _ (hva21 i arg5 arg6 arg7 arg11 arg12 arg14 f5 f6 f7) (hvb21 i arg5 arg6 arg7 arg11 arg12 arg14 f5 f6 f7) (scal_ld arg4 f4 (i 0).val (8 * (i 1).val + 2 * 3) (i0_lt i) (by have := i1_lt' i; omega) _ ((by decide +kernel : ∀ i : grid0.Coords, k0_off64 i 6#32 = ![(i 0).val, 8 * (i 1).val + 2 * 3]) i) _ _) (scal_ld arg4 f4 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) ![0, 192, 768] rfl (by decide) x,
    prev⟩

include hf in
theorem h13_44 (prev : (∀ q ∈ bodyRun.sl.H13_42 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_44 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin21 i arg2 arg3 arg5 arg6 arg7 arg10 arg11 arg12 arg14 f2 f3 f5 f6 f7 f10' hf).lseB (k0_off113 i) ((by decide +kernel : ∀ i : grid0.Coords, k0_off113 i = ![(i 1).val, 2 * 3 + 1, 192 * 1 + 64 * 0]) i) (Gen.k0_off113_inb i) x,
    List.forall_mem_cons.2 ⟨fun x => (tin21 i arg2 arg3 arg5 arg6 arg7 arg10 arg11 arg12 arg14 f2 f3 f5 f6 f7 f10' hf).lseA (k0_off112 i) ((by decide +kernel : ∀ i : grid0.Coords, k0_off112 i = ![(i 1).val, 2 * 3, 192 * 1 + 64 * 0]) i) (Gen.k0_off112_inb i) x,
    prev⟩⟩

/-- The keys of tile 22, -/
def keys22 : FVec Ideal ⟨2, ![160, 256]⟩ .fp8e4m3 := (concatenate S160x256 0 [⟨S32x256, cat32 (ldc32 i arg5 arg6 arg7 arg12 arg14 f5 f6 f7 0 6 (by decide)) (ldc32 i arg5 arg6 arg7 arg12 arg14 f5 f6 f7 0 7 (by decide))⟩, ⟨S128x256, (extractStridedSlice S128x256 ![0, 0] (cat192 (ldc192 arg5 arg6 arg7 arg11 arg14 f5 f6 f7 1 6 48 (by decide)) (ldc192 arg5 arg6 arg7 arg11 arg14 f5 f6 f7 1 7 48 (by decide))) Gen.slices_S192x256_o0_0_S128x256)⟩] (show Shape.Concatenates [S32x256, S128x256] S160x256 0 by decide))
/-- its first and -/
def qa22 : FVec Ideal S64x128 .fp8e4m3 := (ldc64 arg5 arg6 arg7 arg11 arg14 f5 f6 f7 0 6 64 (by decide))
/-- its second queries, -/
def qb22 : FVec Ideal S64x128 .fp8e4m3 := (ldc64 arg5 arg6 arg7 arg11 arg14 f5 f6 f7 0 7 64 (by decide))
/-- its scales, -/
def cv22 : FVec Ideal S1x128 .f32 := (cvecOf (View.readAt (Elt Ideal) arg2.view (Rect.unit (s := S4x56) (k0_off62 i 6#32 0#32) S1x1.size (Gen.k0_off62_inb i 3 0)).toLoadRect f2 (Shape.Idx.first (show 0 < S1x1.numel by decide))) (View.readAt (Elt Ideal) arg3.view (Rect.unit (s := S4x56) (k0_off62 i 6#32 0#32) S1x1.size (Gen.k0_off62_inb i 3 0)).toLoadRect f3 (Shape.Idx.first (show 0 < S1x1.numel by decide))) (View.readAt (Elt Ideal) arg2.view (Rect.unit (s := S4x56) (k0_off62 i 6#32 1#32) S1x1.size (Gen.k0_off62_inb i 3 1)).toLoadRect f2 (Shape.Idx.first (show 0 < S1x1.numel by decide))) (View.readAt (Elt Ideal) arg3.view (Rect.unit (s := S4x56) (k0_off62 i 6#32 1#32) S1x1.size (Gen.k0_off62_inb i 3 1)).toLoadRect f3 (Shape.Idx.first (show 0 < S1x1.numel by decide))))
/-- its bias, -/
def bi22 : FVec Ideal ⟨2, ![160, 128]⟩ .f32 := (concatenate S160x128 0 [⟨S32x128, (bLd arg10 f10' 32 (k0_off76 i 3#32) (Gen.k0_off76_inb i 3) (by decide))⟩, ⟨S128x128, (bLd arg10 f10' 128 (k0_off67 i 3#32) (Gen.k0_off67_inb i 3) (by decide))⟩] (show Shape.Concatenates [S32x128, S128x128] S160x128 0 by decide))
/-- its first and -/
def va22 : FVec Ideal ⟨2, ![160, 128]⟩ .fp8e4m3 := (concatenate S160x128 0 [⟨S32x128, (ldc32 i arg5 arg6 arg7 arg12 arg14 f5 f6 f7 1 6 (by decide))⟩, ⟨S128x128, (extractStridedSlice S128x128 ![0, 0] (ldc192 arg5 arg6 arg7 arg11 arg14 f5 f6 f7 2 6 48 (by decide)) Gen.slices_S192x128_o0_0_S128x128)⟩] (show Shape.Concatenates [S32x128, S128x128] S160x128 0 by decide))
/-- its second values. -/
def vb22 : FVec Ideal ⟨2, ![160, 128]⟩ .fp8e4m3 := (concatenate S160x128 0 [⟨S32x128, (ldc32 i arg5 arg6 arg7 arg12 arg14 f5 f6 f7 1 7 (by decide))⟩, ⟨S128x128, (extractStridedSlice S128x128 ![0, 0] (ldc192 arg5 arg6 arg7 arg11 arg14 f5 f6 f7 2 7 48 (by decide)) Gen.slices_S192x128_o0_0_S128x128)⟩] (show Shape.Concatenates [S32x128, S128x128] S160x128 0 by decide))

include hf in
theorem tin22 : TileIn (codeOf arg6 f6) (codeOf arg5 f5) (csAt i arg2 arg3 f2 f3) (i 1).val 1 1 3 160 ok160 (keys22 i arg5 arg6 arg7 arg11 arg12 arg14 f5 f6 f7) (qa22 arg5 arg6 arg7 arg11 arg14 f5 f6 f7) (qb22 arg5 arg6 arg7 arg11 arg14 f5 f6 f7) (cv22 i arg2 arg3 f2 f3) (bi22 i arg10 f10') :=
  mk1 (n := 160) (m := 128) (blk := 1) (K := codeOf arg6 f6) (Q := codeOf arg5 f5) (cs := csAt i arg2 arg3 f2 f3) (g := (i 1).val) (p := 3) (by decide) (by decide) (by decide) (ldc192 arg5 arg6 arg7 arg11 arg14 f5 f6 f7 1 6 48 (by decide)) (ldc192 arg5 arg6 arg7 arg11 arg14 f5 f6 f7 1 7 48 (by decide)) (ldc32 i arg5 arg6 arg7 arg12 arg14 f5 f6 f7 0 6 (by decide)) (ldc32 i arg5 arg6 arg7 arg12 arg14 f5 f6 f7 0 7 (by decide)) _ _ (fun κ j hκ => slice_rows _ _ κ hκ j) (fun κ d => (ldc192_k arg5 arg6 arg7 arg11 arg14 f5 f6 f7 (2 * 3) 48 _ κ d).trans (congrArg (fun s => codeOf arg6 f6 s (2 * 3) d.val) (by omega))) (fun κ d => (ldc192_k arg5 arg6 arg7 arg11 arg14 f5 f6 f7 (2 * 3 + 1) 48 _ κ d).trans (congrArg (fun s => codeOf arg6 f6 s (2 * 3 + 1) d.val) (by omega))) (fun κ d => ldc32_k i arg5 arg6 arg7 arg12 arg14 f5 f6 f7 (2 * 3) _ κ d) (fun κ d => ldc32_k i arg5 arg6 arg7 arg12 arg14 f5 f6 f7 (2 * 3 + 1) _ κ d) (fun κ d => (ldc64_q arg5 arg6 arg7 arg11 arg14 f5 f6 f7 (2 * 3) 64 _ κ d).trans (congrArg (fun s => codeOf arg5 f5 s (2 * 3) d.val) (by omega))) (fun κ d => (ldc64_q arg5 arg6 arg7 arg11 arg14 f5 f6 f7 (2 * 3 + 1) 64 _ κ d).trans (congrArg (fun s => codeOf arg5 f5 s (2 * 3 + 1) d.val) (by omega))) (fun l hl => (cvec_a _ _ _ _ l hl).trans (congrArg₂ csOf (scal_ld arg2 f2 (i 0).val (8 * (i 1).val + 2 * 3) (i0_lt i) (by have := i1_lt' i; omega) _ ((by decide +kernel : ∀ i : grid0.Coords, k0_off62 i 6#32 0#32 = ![(i 0).val, 8 * (i 1).val + 2 * 3]) i) _ _) (scal_ld arg3 f3 (i 0).val (8 * (i 1).val + 2 * 3) (i0_lt i) (by have := i1_lt' i; omega) _ ((by decide +kernel : ∀ i : grid0.Coords, k0_off62 i 6#32 0#32 = ![(i 0).val, 8 * (i 1).val + 2 * 3]) i) _ _))) (fun l hl => (cvec_b _ _ _ _ l hl).trans (congrArg₂ csOf (scal_ld arg2 f2 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) (scal_ld arg3 f3 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _))) (fun κ l hk hr => ldB arg10.view f10' hf _ _ hk _ ((by decide +kernel : ∀ i : grid0.Coords, k0_off67 i 3#32 = ![(4 * (i 1).val + 3) % 6, 32 * (1 * (1 + 1)), 0]) i) _ _ κ l hr) (fun κ l hk hr => ldB arg10.view f10' hf _ _ hk _ ((by decide +kernel : ∀ i : grid0.Coords, k0_off76 i 3#32 = ![(4 * (i 1).val + 3) % 6, 384 + 32 * 1, 0]) i) _ _ κ l hr)

theorem hva22 : ∀ (κ : Fin 160) (d : Fin 128), (va22 i arg5 arg6 arg7 arg11 arg12 arg14 f5 f6 f7) (ix2 κ d) = codeOf arg7 f7 (keyOf 1 (8 * (i 1).val + (2 * 3)) κ.val) (2 * 3) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 3) _ _ d
  · exact (slice_rows _ _ _ (by show κ.val - 32 < 192; omega) d).trans ((ldc192_v arg5 arg6 arg7 arg11 arg14 f5 f6 f7 (2 * 3) 48 _ _ d).trans rfl)

theorem hvb22 : ∀ (κ : Fin 160) (d : Fin 128), (vb22 i arg5 arg6 arg7 arg11 arg12 arg14 f5 f6 f7) (ix2 κ d) = codeOf arg7 f7 (keyOf 1 (8 * (i 1).val + (2 * 3 + 1)) κ.val) (2 * 3 + 1) d.val :=
  fun κ d => by
  refine (stack_rows (n := 160) (m := 128) _ _ _ κ (by decide) d).trans ?_
  unfold keyOf
  rw [if_neg (by decide)]
  split
  · exact ldc32_v i arg5 arg6 arg7 arg12 arg14 f5 f6 f7 (2 * 3 + 1) _ _ d
  · exact (slice_rows _ _ _ (by show κ.val - 32 < 192; omega) d).trans ((ldc192_v arg5 arg6 arg7 arg11 arg14 f5 f6 f7 (2 * 3 + 1) 48 _ _ d).trans rfl)

include hf in
theorem h8_23 (prev : (∀ q ∈ bodyRun.sl.H8_22 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_23 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin22 i arg2 arg3 arg5 arg6 arg7 arg10 arg11 arg12 arg14 f2 f3 f5 f6 f7 f10' hf).out (V := codeOf arg7 f7) (vs := vsAt i arg4 f4) (va22 i arg5 arg6 arg7 arg11 arg12 arg14 f5 f6 f7) (vb22 i arg5 arg6 arg7 arg11 arg12 arg14 f5 f6 f7)
      _ _ (hva22 i arg5 arg6 arg7 arg11 arg12 arg14 f5 f6 f7) (hvb22 i arg5 arg6 arg7 arg11 arg12 arg14 f5 f6 f7) (scal_ld arg4 f4 (i 0).val (8 * (i 1).val + 2 * 3) (i0_lt i) (by have := i1_lt' i; omega) _ ((by decide +kernel : ∀ i : grid0.Coords, k0_off64 i 6#32 = ![(i 0).val, 8 * (i 1).val + 2 * 3]) i) _ _) (scal_ld arg4 f4 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) ![0, 256, 768] rfl (by decide) x,
    prev⟩

include hf in
theorem h13_46 (prev : (∀ q ∈ bodyRun.sl.H13_44 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_46 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin22 i arg2 arg3 arg5 arg6 arg7 arg10 arg11 arg12 arg14 f2 f3 f5 f6 f7 f10' hf).lseB (k0_off115 i) ((by decide +kernel : ∀ i : grid0.Coords, k0_off115 i = ![(i 1).val, 2 * 3 + 1, 192 * 1 + 64 * 1]) i) (Gen.k0_off115_inb i) x,
    List.forall_mem_cons.2 ⟨fun x => (tin22 i arg2 arg3 arg5 arg6 arg7 arg10 arg11 arg12 arg14 f2 f3 f5 f6 f7 f10' hf).lseA (k0_off114 i) ((by decide +kernel : ∀ i : grid0.Coords, k0_off114 i = ![(i 1).val, 2 * 3, 192 * 1 + 64 * 1]) i) (Gen.k0_off114_inb i) x,
    prev⟩⟩

/-- The keys of tile 23, -/
def keys23 : FVec Ideal ⟨2, ![224, 256]⟩ .fp8e4m3 := (concatenate S224x256 0 [⟨S32x256, cat32 (ldc32 i arg5 arg6 arg7 arg12 arg14 f5 f6 f7 0 6 (by decide)) (ldc32 i arg5 arg6 arg7 arg12 arg14 f5 f6 f7 0 7 (by decide))⟩, ⟨S192x256, (cat192 (ldc192 arg5 arg6 arg7 arg11 arg14 f5 f6 f7 1 6 48 (by decide)) (ldc192 arg5 arg6 arg7 arg11 arg14 f5 f6 f7 1 7 48 (by decide)))⟩] (show Shape.Concatenates [S32x256, S192x256] S224x256 0 by decide))
/-- its first and -/
def qa23 : FVec Ideal S64x128 .fp8e4m3 := (ldc64 arg5 arg6 arg7 arg11 arg14 f5 f6 f7 0 6 80 (by decide))
/-- its second queries, -/
def qb23 : FVec Ideal S64x128 .fp8e4m3 := (ldc64 arg5 arg6 arg7 arg11 arg14 f5 f6 f7 0 7 80 (by decide))
/-- its scales, -/
def cv23 : FVec Ideal S1x128 .f32 := (cvecOf (View.readAt (Elt Ideal) arg2.view (Rect.unit (s := S4x56) (k0_off62 i 6#32 0#32) S1x1.size (Gen.k0_off62_inb i 3 0)).toLoadRect f2 (Shape.Idx.first (show 0 < S1x1.numel by decide))) (View.readAt (Elt Ideal) arg3.view (Rect.unit (s := S4x56) (k0_off62 i 6#32 0#32) S1x1.size (Gen.k0_off62_inb i 3 0)).toLoadRect f3 (Shape.Idx.first (show 0 < S1x1.numel by decide))) (View.readAt (Elt Ideal) arg2.view (Rect.unit (s := S4x56) (k0_off62 i 6#32 1#32) S1x1.size (Gen.k0_off62_inb i 3 1)).toLoadRect f2 (Shape.Idx.first (show 0 < S1x1.numel by decide))) (View.readAt (Elt Ideal) arg3.view (Rect.unit (s := S4x56) (k0_off62 i 6#32 1#32) S1x1.size (Gen.k0_off62_inb i 3 1)).toLoadRect f3 (Shape.Idx.first (show 0 < S1x1.numel by decide))))
/-- its bias, -/
def bi23 : FVec Ideal ⟨2, ![224, 128]⟩ .f32 := (concatenate S224x128 0 [⟨S32x128, (bLd arg10 f10' 32 (k0_off79 i 3#32) (Gen.k0_off79_inb i 3) (by decide))⟩, ⟨S192x128, (bLd arg10 f10' 192 (k0_off70 i 3#32) (Gen.k0_off70_inb i 3) (by decide))⟩] (show Shape.Concatenates [S32x128, S192x128] S224x128 0 by decide))
/-- its first and -/
def va23 : FVec Ideal ⟨2, ![224, 128]⟩ .fp8e4m3 := (concatenate S224x128 0 [⟨S32x128, (ldc32 i arg5 arg6 arg7 arg12 arg14 f5 f6 f7 1 6 (by decide))⟩, ⟨S192x128, (ldc192 arg5 arg6 arg7 arg11 arg14 f5 f6 f7 2 6 48 (by decide))⟩] (show Shape.Concatenates [S32x128, S192x128] S224x128 0 by decide))
/-- its second values. -/
def vb23 : FVec Ideal ⟨2, ![224, 128]⟩ .fp8e4m3 := (concatenate S224x128 0 [⟨S32x128, (ldc32 i arg5 arg6 arg7 arg12 arg14 f5 f6 f7 1 7 (by decide))⟩, ⟨S192x128, (ldc192 arg5 arg6 arg7 arg11 arg14 f5 f6 f7 2 7 48 (by decide))⟩] (show Shape.Concatenates [S32x128, S192x128] S224x128 0 by decide))

include hf in
theorem tin23 : TileIn (codeOf arg6 f6) (codeOf arg5 f5) (csAt i arg2 arg3 f2 f3) (i 1).val 1 2 3 224 ok224 (keys23 i arg5 arg6 arg7 arg11 arg12 arg14 f5 f6 f7) (qa23 arg5 arg6 arg7 arg11 arg14 f5 f6 f7) (qb23 arg5 arg6 arg7 arg11 arg14 f5 f6 f7) (cv23 i arg2 arg3 f2 f3) (bi23 i arg10 f10') :=
  mk1 (n := 224) (m := 192) (blk := 2) (K := codeOf arg6 f6) (Q := codeOf arg5 f5) (cs := csAt i arg2 arg3 f2 f3) (g := (i 1).val) (p := 3) (by decide) (by decide) (by decide) (ldc192 arg5 arg6 arg7 arg11 arg14 f5 f6 f7 1 6 48 (by decide)) (ldc192 arg5 arg6 arg7 arg11 arg14 f5 f6 f7 1 7 48 (by decide)) (ldc32 i arg5 arg6 arg7 arg12 arg14 f5 f6 f7 0 6 (by decide)) (ldc32 i arg5 arg6 arg7 arg12 arg14 f5 f6 f7 0 7 (by decide)) _ _ (fun κ j hκ => rfl) (fun κ d => (ldc192_k arg5 arg6 arg7 arg11 arg14 f5 f6 f7 (2 * 3) 48 _ κ d).trans (congrArg (fun s => codeOf arg6 f6 s (2 * 3) d.val) (by omega))) (fun κ d => (ldc192_k arg5 arg6 arg7 arg11 arg14 f5 f6 f7 (2 * 3 + 1) 48 _ κ d).trans (congrArg (fun s => codeOf arg6 f6 s (2 * 3 + 1) d.val) (by omega))) (fun κ d => ldc32_k i arg5 arg6 arg7 arg12 arg14 f5 f6 f7 (2 * 3) _ κ d) (fun κ d => ldc32_k i arg5 arg6 arg7 arg12 arg14 f5 f6 f7 (2 * 3 + 1) _ κ d) (fun κ d => (ldc64_q arg5 arg6 arg7 arg11 arg14 f5 f6 f7 (2 * 3) 80 _ κ d).trans (congrArg (fun s => codeOf arg5 f5 s (2 * 3) d.val) (by omega))) (fun κ d => (ldc64_q arg5 arg6 arg7 arg11 arg14 f5 f6 f7 (2 * 3 + 1) 80 _ κ d).trans (congrArg (fun s => codeOf arg5 f5 s (2 * 3 + 1) d.val) (by omega))) (fun l hl => (cvec_a _ _ _ _ l hl).trans (congrArg₂ csOf (scal_ld arg2 f2 (i 0).val (8 * (i 1).val + 2 * 3) (i0_lt i) (by have := i1_lt' i; omega) _ ((by decide +kernel : ∀ i : grid0.Coords, k0_off62 i 6#32 0#32 = ![(i 0).val, 8 * (i 1).val + 2 * 3]) i) _ _) (scal_ld arg3 f3 (i 0).val (8 * (i 1).val + 2 * 3) (i0_lt i) (by have := i1_lt' i; omega) _ ((by decide +kernel : ∀ i : grid0.Coords, k0_off62 i 6#32 0#32 = ![(i 0).val, 8 * (i 1).val + 2 * 3]) i) _ _))) (fun l hl => (cvec_b _ _ _ _ l hl).trans (congrArg₂ csOf (scal_ld arg2 f2 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) (scal_ld arg3 f3 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _))) (fun κ l hk hr => ldB arg10.view f10' hf _ _ hk _ ((by decide +kernel : ∀ i : grid0.Coords, k0_off70 i 3#32 = ![(4 * (i 1).val + 3) % 6, 32 * (2 * (2 + 1)), 0]) i) _ _ κ l hr) (fun κ l hk hr => ldB arg10.view f10' hf _ _ hk _ ((by decide +kernel : ∀ i : grid0.Coords, k0_off79 i 3#32 = ![(4 * (i 1).val + 3) % 6, 384 + 32 * 2, 0]) i) _ _ κ l hr)

theorem hva23 : ∀ (κ : Fin 224) (d : Fin 128), (va23 i arg5 arg6 arg7 arg11 arg12 arg14 f5 f6 f7) (ix2 κ d) = codeOf arg7 f7 (keyOf 1 (8 * (i 1).val + (2 * 3)) κ.val) (2 * 3) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 3) _ _ d
  · exact (ldc192_v arg5 arg6 arg7 arg11 arg14 f5 f6 f7 (2 * 3) 48 _ _ d).trans rfl

theorem hvb23 : ∀ (κ : Fin 224) (d : Fin 128), (vb23 i arg5 arg6 arg7 arg11 arg12 arg14 f5 f6 f7) (ix2 κ d) = codeOf arg7 f7 (keyOf 1 (8 * (i 1).val + (2 * 3 + 1)) κ.val) (2 * 3 + 1) d.val :=
  fun κ d => by
  refine (stack_rows (n := 224) (m := 192) _ _ _ κ (by decide) d).trans ?_
  unfold keyOf
  rw [if_neg (by decide)]
  split
  · exact ldc32_v i arg5 arg6 arg7 arg12 arg14 f5 f6 f7 (2 * 3 + 1) _ _ d
  · exact (ldc192_v arg5 arg6 arg7 arg11 arg14 f5 f6 f7 (2 * 3 + 1) 48 _ _ d).trans rfl

include hf in
theorem h8_24 (prev : (∀ q ∈ bodyRun.sl.H8_23 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128))) : ∀ q ∈ bodyRun.sl.H8_24 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  List.forall_mem_cons.2 ⟨fun x => (tin23 i arg2 arg3 arg5 arg6 arg7 arg10 arg11 arg12 arg14 f2 f3 f5 f6 f7 f10' hf).out (V := codeOf arg7 f7) (vs := vsAt i arg4 f4) (va23 i arg5 arg6 arg7 arg11 arg12 arg14 f5 f6 f7) (vb23 i arg5 arg6 arg7 arg11 arg12 arg14 f5 f6 f7)
      _ _ (hva23 i arg5 arg6 arg7 arg11 arg12 arg14 f5 f6 f7) (hvb23 i arg5 arg6 arg7 arg11 arg12 arg14 f5 f6 f7) (scal_ld arg4 f4 (i 0).val (8 * (i 1).val + 2 * 3) (i0_lt i) (by have := i1_lt' i; omega) _ ((by decide +kernel : ∀ i : grid0.Coords, k0_off64 i 6#32 = ![(i 0).val, 8 * (i 1).val + 2 * 3]) i) _ _) (scal_ld arg4 f4 (i 0).val (8 * (i 1).val + (2 * 3 + 1)) (i0_lt i) (by have := i1_lt' i; omega) _ ((by decide +kernel : ∀ i : grid0.Coords, k0_off62 i 6#32 1#32 = ![(i 0).val, 8 * (i 1).val + (2 * 3 + 1)]) i) _ _) ![0, 320, 768] rfl (by decide) x,
    prev⟩

include hf in
theorem h13_48 (prev : (∀ q ∈ bodyRun.sl.H13_46 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val)) : ∀ q ∈ bodyRun.sl.H13_48 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  List.forall_mem_cons.2 ⟨fun x => (tin23 i arg2 arg3 arg5 arg6 arg7 arg10 arg11 arg12 arg14 f2 f3 f5 f6 f7 f10' hf).lseB (k0_off117 i) ((by decide +kernel : ∀ i : grid0.Coords, k0_off117 i = ![(i 1).val, 2 * 3 + 1, 192 * 1 + 64 * 2]) i) (Gen.k0_off117_inb i) x,
    List.forall_mem_cons.2 ⟨fun x => (tin23 i arg2 arg3 arg5 arg6 arg7 arg10 arg11 arg12 arg14 f2 f3 f5 f6 f7 f10' hf).lseA (k0_off116 i) ((by decide +kernel : ∀ i : grid0.Coords, k0_off116 i = ![(i 1).val, 2 * 3, 192 * 1 + 64 * 2]) i) (Gen.k0_off116_inb i) x,
    prev⟩⟩
end

end Cert.KernelIdeal.Hand

end
-- ==== Proof.KernelIdeal.BodyVal.lean ====
module

public import proofs.«01_k».proof.Proof.KernelIdeal.BodyTiles0
public import proofs.«01_k».proof.Proof.KernelIdeal.BodyTiles1
public import proofs.«01_k».proof.Proof.KernelIdeal.BodyTiles2
public import proofs.«01_k».proof.Proof.KernelIdeal.BodyTiles3

@[expose] public section

/-! # KernelIdeal: the body's two results

The output block and the log-sum-exp rows one point writes. -/

set_option maxRecDepth 16384
set_option maxHeartbeats 4000000

noncomputable section

namespace Cert.KernelIdeal.Hand

open Idealize.ShloMosaic Cert.KernelIdeal
open scoped BigOperators

section
variable (i : grid0.Coords) (arg2 arg3 arg4 : Memref sig .tc .smem S4x56 .f32) (arg5 arg6 arg7 : Memref sig .tc .vmem S1x384x1x8x128 .i8)
  (arg10 : Memref sig .tc .vmem S6x480x128 .f32) (arg11 : Memref sig .tc .vmem S3x8x96x128 .i32) (arg12 : Memref sig .tc .vmem S2x8x8x128 .i32) (arg14 : Memref sig .tc .vmem S768x128 .i32)
  (f2 : BufTy.Contents (Elt Ideal) arg2.view.ty) (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty) (f7 : BufTy.Contents (Elt Ideal) arg7.view.ty)
  (f10' : BufTy.Contents (Elt Ideal) arg10.view.ty)

variable (hf : ∀ y, arg10.view.read (Elt Ideal) f10' y = G10 y)
include hf in
/-- Every stored piece of the output block is the output's value where it lies, -/
theorem out_pieces : ∀ q ∈ bodyRun.sl.H8_24 (F := Ideal) i arg2 arg3 arg4 arg5 arg6 arg7 arg10 arg11 arg12 arg14 f2 f3 f4 f5 f6 f7 f10', ∀ x : q.1.shape.Idx,
    q.2 x = outOf (codeOf arg6 f6) (codeOf arg5 f5) (codeOf arg7 f7) (csAt i arg2 arg3 f2 f3) (vsAt i arg4 f4) (i 1).val ((q.1.emb x) 1).val (((q.1.emb x) 2).val / 128) (((q.1.emb x) 2).val % 128) :=
  (h8_24 i arg2 arg3 arg4 arg5 arg6 arg7 arg10 arg11 arg12 arg14 f2 f3 f4 f5 f6 f7 f10' hf (h8_23 i arg2 arg3 arg4 arg5 arg6 arg7 arg10 arg11 arg12 arg14 f2 f3 f4 f5 f6 f7 f10' hf (h8_22 i arg2 arg3 arg4 arg5 arg6 arg7 arg10 arg11 arg12 arg14 f2 f3 f4 f5 f6 f7 f10' hf (h8_21 i arg2 arg3 arg4 arg5 arg6 arg7 arg10 arg11 arg12 arg14 f2 f3 f4 f5 f6 f7 f10' hf (h8_20 i arg2 arg3 arg4 arg5 arg6 arg7 arg10 arg11 arg12 arg14 f2 f3 f4 f5 f6 f7 f10' hf (h8_19 i arg2 arg3 arg4 arg5 arg6 arg7 arg10 arg11 arg12 arg14 f2 f3 f4 f5 f6 f7 f10' hf (h8_18 i arg2 arg3 arg4 arg5 arg6 arg7 arg10 arg11 arg12 arg14 f2 f3 f4 f5 f6 f7 f10' hf (h8_17 i arg2 arg3 arg4 arg5 arg6 arg7 arg10 arg11 arg12 arg14 f2 f3 f4 f5 f6 f7 f10' hf (h8_16 i arg2 arg3 arg4 arg5 arg6 arg7 arg10 arg11 arg12 arg14 f2 f3 f4 f5 f6 f7 f10' hf (h8_15 i arg2 arg3 arg4 arg5 arg6 arg7 arg10 arg11 arg12 arg14 f2 f3 f4 f5 f6 f7 f10' hf (h8_14 i arg2 arg3 arg4 arg5 arg6 arg7 arg10 arg11 arg12 arg14 f2 f3 f4 f5 f6 f7 f10' hf (h8_13 i arg2 arg3 arg4 arg5 arg6 arg7 arg10 arg11 arg12 arg14 f2 f3 f4 f5 f6 f7 f10' hf (h8_12 i arg2 arg3 arg4 arg5 arg6 arg7 arg10 arg11 arg12 arg14 f2 f3 f4 f5 f6 f7 f10' hf (h8_11 i arg2 arg3 arg4 arg5 arg6 arg7 arg10 arg11 arg12 arg14 f2 f3 f4 f5 f6 f7 f10' hf (h8_10 i arg2 arg3 arg4 arg5 arg6 arg7 arg10 arg11 arg12 arg14 f2 f3 f4 f5 f6 f7 f10' hf (h8_9 i arg2 arg3 arg4 arg5 arg6 arg7 arg10 arg11 arg12 arg14 f2 f3 f4 f5 f6 f7 f10' hf (h8_8 i arg2 arg3 arg4 arg5 arg6 arg7 arg10 arg11 arg12 arg14 f2 f3 f4 f5 f6 f7 f10' hf (h8_7 i arg2 arg3 arg4 arg5 arg6 arg7 arg10 arg11 arg12 arg14 f2 f3 f4 f5 f6 f7 f10' hf (h8_6 i arg2 arg3 arg4 arg5 arg6 arg7 arg10 arg11 arg12 arg14 f2 f3 f4 f5 f6 f7 f10' hf (h8_5 i arg2 arg3 arg4 arg5 arg6 arg7 arg10 arg11 arg12 arg14 f2 f3 f4 f5 f6 f7 f10' hf (h8_4 i arg2 arg3 arg4 arg5 arg6 arg7 arg10 arg11 arg12 arg14 f2 f3 f4 f5 f6 f7 f10' hf (h8_3 i arg2 arg3 arg4 arg5 arg6 arg7 arg10 arg11 arg14 f2 f3 f4 f5 f6 f7 f10' hf (h8_2 i arg2 arg3 arg4 arg5 arg6 arg7 arg10 arg11 arg14 f2 f3 f4 f5 f6 f7 f10' hf (h8_1 i arg2 arg3 arg4 arg5 arg6 arg7 arg10 arg11 arg14 f2 f3 f4 f5 f6 f7 f10' hf))))))))))))))))))))))))

include hf in
/-- and every stored piece of the log-sum-exp block is its value. -/
theorem lse_pieces : ∀ q ∈ bodyRun.sl.H13_48 (F := Ideal) i arg2 arg3 arg5 arg6 arg7 arg10 arg11 arg12 arg14 f2 f3 f5 f6 f7 f10', ∀ x : q.1.shape.Idx,
    q.2 x = lseOf (codeOf arg6 f6) (codeOf arg5 f5) (csAt i arg2 arg3 f2 f3) (i 1).val ((q.1.emb x) 2).val ((q.1.emb x) 1).val :=
  (h13_48 i arg2 arg3 arg5 arg6 arg7 arg10 arg11 arg12 arg14 f2 f3 f5 f6 f7 f10' hf (h13_46 i arg2 arg3 arg5 arg6 arg7 arg10 arg11 arg12 arg14 f2 f3 f5 f6 f7 f10' hf (h13_44 i arg2 arg3 arg5 arg6 arg7 arg10 arg11 arg12 arg14 f2 f3 f5 f6 f7 f10' hf (h13_42 i arg2 arg3 arg5 arg6 arg7 arg10 arg11 arg12 arg14 f2 f3 f5 f6 f7 f10' hf (h13_40 i arg2 arg3 arg5 arg6 arg7 arg10 arg11 arg12 arg14 f2 f3 f5 f6 f7 f10' hf (h13_38 i arg2 arg3 arg5 arg6 arg7 arg10 arg11 arg12 arg14 f2 f3 f5 f6 f7 f10' hf (h13_36 i arg2 arg3 arg5 arg6 arg7 arg10 arg11 arg12 arg14 f2 f3 f5 f6 f7 f10' hf (h13_34 i arg2 arg3 arg5 arg6 arg7 arg10 arg11 arg12 arg14 f2 f3 f5 f6 f7 f10' hf (h13_32 i arg2 arg3 arg5 arg6 arg7 arg10 arg11 arg12 arg14 f2 f3 f5 f6 f7 f10' hf (h13_30 i arg2 arg3 arg5 arg6 arg7 arg10 arg11 arg12 arg14 f2 f3 f5 f6 f7 f10' hf (h13_28 i arg2 arg3 arg5 arg6 arg7 arg10 arg11 arg12 arg14 f2 f3 f5 f6 f7 f10' hf (h13_26 i arg2 arg3 arg5 arg6 arg7 arg10 arg11 arg12 arg14 f2 f3 f5 f6 f7 f10' hf (h13_24 i arg2 arg3 arg5 arg6 arg7 arg10 arg11 arg12 arg14 f2 f3 f5 f6 f7 f10' hf (h13_22 i arg2 arg3 arg5 arg6 arg7 arg10 arg11 arg12 arg14 f2 f3 f5 f6 f7 f10' hf (h13_20 i arg2 arg3 arg5 arg6 arg7 arg10 arg11 arg12 arg14 f2 f3 f5 f6 f7 f10' hf (h13_18 i arg2 arg3 arg5 arg6 arg7 arg10 arg11 arg12 arg14 f2 f3 f5 f6 f7 f10' hf (h13_16 i arg2 arg3 arg5 arg6 arg7 arg10 arg11 arg12 arg14 f2 f3 f5 f6 f7 f10' hf (h13_14 i arg2 arg3 arg5 arg6 arg7 arg10 arg11 arg12 arg14 f2 f3 f5 f6 f7 f10' hf (h13_12 i arg2 arg3 arg5 arg6 arg7 arg10 arg11 arg12 arg14 f2 f3 f5 f6 f7 f10' hf (h13_10 i arg2 arg3 arg5 arg6 arg7 arg10 arg11 arg12 arg14 f2 f3 f5 f6 f7 f10' hf (h13_8 i arg2 arg3 arg5 arg6 arg7 arg10 arg11 arg12 arg14 f2 f3 f5 f6 f7 f10' hf (h13_6 i arg2 arg3 arg5 arg6 arg7 arg10 arg11 arg14 f2 f3 f5 f6 f7 f10' hf (h13_4 i arg2 arg3 arg5 arg6 arg7 arg10 arg11 arg14 f2 f3 f5 f6 f7 f10' hf (h13_2 i arg2 arg3 arg5 arg6 arg7 arg10 arg11 arg14 f2 f3 f5 f6 f7 f10' hf))))))))))))))))))))))))

theorem row_emb (i : grid0.Coords) (off : Fin 3 → ℕ) (hl s0 : ℕ) (ho : off = ![(i 1).val, hl, s0]) (inb) (x : S1x1x64.Idx) :
    (((Rect.unit (s := S7x8x384) off S1x1x64.size inb).emb x) 0).val = (i 1).val := by
  have h : (x 0).val < 1 := (x 0).isLt
  show off 0 + 1 * (x 0).val = _
  rw [ho]
  show (i 1).val + 1 * (x 0).val = _
  omega
theorem row_hit (i : grid0.Coords) (off : Fin 3 → ℕ) (hl s0 : ℕ) (ho : off = ![(i 1).val, hl, s0]) (inb) (y : S7x8x384.Idx)
    (h0 : (y 0).val = (i 1).val) (h1 : (y 1).val = hl) (h2 : s0 ≤ (y 2).val) (h3 : (y 2).val < s0 + 64) :
    y ∈ (Rect.unit (s := S7x8x384) off S1x1x64.size inb).set := by
  have e : (Rect.unit (s := S7x8x384) off S1x1x64.size inb).emb (ix3 0 0 ⟨(y 2).val - s0, by omega⟩ : S1x1x64.Idx) = y := by
    funext a
    match a with
    | ⟨0, _⟩ => refine Fin.ext ?_; show off 0 + 1 * 0 = (y 0).val; rw [ho]; show (i 1).val + 1 * 0 = _; omega
    | ⟨1, _⟩ => refine Fin.ext ?_; show off 1 + 1 * 0 = (y 1).val; rw [ho]; show hl + 1 * 0 = _; omega
    | ⟨2, _⟩ => refine Fin.ext ?_; show off 2 + 1 * ((y 2).val - s0) = (y 2).val; rw [ho]; show s0 + 1 * ((y 2).val - s0) = _; omega
  exact e ▸ LoadRect.idx_mem (Rect.unit (s := S7x8x384) off S1x1x64.size inb).toLoadRect _

theorem row13_2 : ∀ q ∈ bodyRun.sl.H13_2 (F := Ideal) i arg2 arg3 arg5 arg6 arg7 arg10 arg11 arg14 f2 f3 f5 f6 f7 f10', ∀ x : q.1.shape.Idx, ((q.1.emb x) 0).val = (i 1).val :=
  List.forall_mem_cons.2 ⟨fun x => row_emb i (k0_off66 i) _ _ ((by decide +kernel : ∀ i : grid0.Coords, k0_off66 i = ![(i 1).val, 2 * 0 + 1, 192 * 0 + 64 * 0]) i) (Gen.k0_off66_inb i) x,
    List.forall_mem_cons.2 ⟨fun x => row_emb i (k0_off65 i) _ _ ((by decide +kernel : ∀ i : grid0.Coords, k0_off65 i = ![(i 1).val, 2 * 0, 192 * 0 + 64 * 0]) i) (Gen.k0_off65_inb i) x, (fun _ h => absurd h List.not_mem_nil)⟩⟩
theorem hit13_2 (y : S7x8x384.Idx) (h0 : (y 0).val = (i 1).val) (ht : ((y 1).val / 2) * 6 + ((y 2).val / 192) * 3 + ((y 2).val % 192) / 64 < 1) : ∃ q ∈ bodyRun.sl.H13_2 (F := Ideal) i arg2 arg3 arg5 arg6 arg7 arg10 arg11 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 0
  · by_cases hb : (y 1).val = 2 * 0
    · exact ⟨_, List.mem_cons_of_mem _ List.mem_cons_self, row_hit i (k0_off65 i) _ _ ((by decide +kernel : ∀ i : grid0.Coords, k0_off65 i = ![(i 1).val, 2 * 0, 192 * 0 + 64 * 0]) i) (Gen.k0_off65_inb i) y h0 hb (by omega) (by omega)⟩
    · exact ⟨_, List.mem_cons_self, row_hit i (k0_off66 i) _ _ ((by decide +kernel : ∀ i : grid0.Coords, k0_off66 i = ![(i 1).val, 2 * 0 + 1, 192 * 0 + 64 * 0]) i) (Gen.k0_off66_inb i) y h0 (by omega) (by omega) (by omega)⟩
  · exact absurd ht (by omega)

theorem row13_4 : ∀ q ∈ bodyRun.sl.H13_4 (F := Ideal) i arg2 arg3 arg5 arg6 arg7 arg10 arg11 arg14 f2 f3 f5 f6 f7 f10', ∀ x : q.1.shape.Idx, ((q.1.emb x) 0).val = (i 1).val :=
  List.forall_mem_cons.2 ⟨fun x => row_emb i (k0_off69 i) _ _ ((by decide +kernel : ∀ i : grid0.Coords, k0_off69 i = ![(i 1).val, 2 * 0 + 1, 192 * 0 + 64 * 1]) i) (Gen.k0_off69_inb i) x,
    List.forall_mem_cons.2 ⟨fun x => row_emb i (k0_off68 i) _ _ ((by decide +kernel : ∀ i : grid0.Coords, k0_off68 i = ![(i 1).val, 2 * 0, 192 * 0 + 64 * 1]) i) (Gen.k0_off68_inb i) x, (fun q h => row13_2 i arg2 arg3 arg5 arg6 arg7 arg10 arg11 arg14 f2 f3 f5 f6 f7 f10' q h)⟩⟩
theorem hit13_4 (y : S7x8x384.Idx) (h0 : (y 0).val = (i 1).val) (ht : ((y 1).val / 2) * 6 + ((y 2).val / 192) * 3 + ((y 2).val % 192) / 64 < 2) : ∃ q ∈ bodyRun.sl.H13_4 (F := Ideal) i arg2 arg3 arg5 arg6 arg7 arg10 arg11 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 1
  · by_cases hb : (y 1).val = 2 * 0
    · exact ⟨_, List.mem_cons_of_mem _ List.mem_cons_self, row_hit i (k0_off68 i) _ _ ((by decide +kernel : ∀ i : grid0.Coords, k0_off68 i = ![(i 1).val, 2 * 0, 192 * 0 + 64 * 1]) i) (Gen.k0_off68_inb i) y h0 hb (by omega) (by omega)⟩
    · exact ⟨_, List.mem_cons_self, row_hit i (k0_off69 i) _ _ ((by decide +kernel : ∀ i : grid0.Coords, k0_off69 i = ![(i 1).val, 2 * 0 + 1, 192 * 0 + 64 * 1]) i) (Gen.k0_off69_inb i) y h0 (by omega) (by omega) (by omega)⟩
  · obtain ⟨q, hq, hy⟩ := hit13_2 i arg2 arg3 arg5 arg6 arg7 arg10 arg11 arg14 f2 f3 f5 f6 f7 f10' y h0 (by omega)
    exact ⟨q, List.mem_cons_of_mem _ (List.mem_cons_of_mem _ hq), hy⟩

theorem row13_6 : ∀ q ∈ bodyRun.sl.H13_6 (F := Ideal) i arg2 arg3 arg5 arg6 arg7 arg10 arg11 arg14 f2 f3 f5 f6 f7 f10', ∀ x : q.1.shape.Idx, ((q.1.emb x) 0).val = (i 1).val :=
  List.forall_mem_cons.2 ⟨fun x => row_emb i (k0_off72 i) _ _ ((by decide +kernel : ∀ i : grid0.Coords, k0_off72 i = ![(i 1).val, 2 * 0 + 1, 192 * 0 + 64 * 2]) i) (Gen.k0_off72_inb i) x,
    List.forall_mem_cons.2 ⟨fun x => row_emb i (k0_off71 i) _ _ ((by decide +kernel : ∀ i : grid0.Coords, k0_off71 i = ![(i 1).val, 2 * 0, 192 * 0 + 64 * 2]) i) (Gen.k0_off71_inb i) x, (fun q h => row13_4 i arg2 arg3 arg5 arg6 arg7 arg10 arg11 arg14 f2 f3 f5 f6 f7 f10' q h)⟩⟩
theorem hit13_6 (y : S7x8x384.Idx) (h0 : (y 0).val = (i 1).val) (ht : ((y 1).val / 2) * 6 + ((y 2).val / 192) * 3 + ((y 2).val % 192) / 64 < 3) : ∃ q ∈ bodyRun.sl.H13_6 (F := Ideal) i arg2 arg3 arg5 arg6 arg7 arg10 arg11 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 2
  · by_cases hb : (y 1).val = 2 * 0
    · exact ⟨_, List.mem_cons_of_mem _ List.mem_cons_self, row_hit i (k0_off71 i) _ _ ((by decide +kernel : ∀ i : grid0.Coords, k0_off71 i = ![(i 1).val, 2 * 0, 192 * 0 + 64 * 2]) i) (Gen.k0_off71_inb i) y h0 hb (by omega) (by omega)⟩
    · exact ⟨_, List.mem_cons_self, row_hit i (k0_off72 i) _ _ ((by decide +kernel : ∀ i : grid0.Coords, k0_off72 i = ![(i 1).val, 2 * 0 + 1, 192 * 0 + 64 * 2]) i) (Gen.k0_off72_inb i) y h0 (by omega) (by omega) (by omega)⟩
  · obtain ⟨q, hq, hy⟩ := hit13_4 i arg2 arg3 arg5 arg6 arg7 arg10 arg11 arg14 f2 f3 f5 f6 f7 f10' y h0 (by omega)
    exact ⟨q, List.mem_cons_of_mem _ (List.mem_cons_of_mem _ hq), hy⟩

theorem row13_8 : ∀ q ∈ bodyRun.sl.H13_8 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off75 i) _ _ ((by decide +kernel : ∀ i : grid0.Coords, k0_off75 i = ![(i 1).val, 2 * 0 + 1, 192 * 1 + 64 * 0]) i) (Gen.k0_off75_inb i) x,
    List.forall_mem_cons.2 ⟨fun x => row_emb i (k0_off74 i) _ _ ((by decide +kernel : ∀ i : grid0.Coords, k0_off74 i = ![(i 1).val, 2 * 0, 192 * 1 + 64 * 0]) i) (Gen.k0_off74_inb i) x, (fun q h => row13_6 i arg2 arg3 arg5 arg6 arg7 arg10 arg11 arg14 f2 f3 f5 f6 f7 f10' q h)⟩⟩
theorem hit13_8 (y : S7x8x384.Idx) (h0 : (y 0).val = (i 1).val) (ht : ((y 1).val / 2) * 6 + ((y 2).val / 192) * 3 + ((y 2).val % 192) / 64 < 4) : ∃ q ∈ bodyRun.sl.H13_8 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 3
  · by_cases hb : (y 1).val = 2 * 0
    · exact ⟨_, List.mem_cons_of_mem _ List.mem_cons_self, row_hit i (k0_off74 i) _ _ ((by decide +kernel : ∀ i : grid0.Coords, k0_off74 i = ![(i 1).val, 2 * 0, 192 * 1 + 64 * 0]) i) (Gen.k0_off74_inb i) y h0 hb (by omega) (by omega)⟩
    · exact ⟨_, List.mem_cons_self, row_hit i (k0_off75 i) _ _ ((by decide +kernel : ∀ i : grid0.Coords, k0_off75 i = ![(i 1).val, 2 * 0 + 1, 192 * 1 + 64 * 0]) i) (Gen.k0_off75_inb i) y h0 (by omega) (by omega) (by omega)⟩
  · obtain ⟨q, hq, hy⟩ := hit13_6 i arg2 arg3 arg5 arg6 arg7 arg10 arg11 arg14 f2 f3 f5 f6 f7 f10' y h0 (by omega)
    exact ⟨q, List.mem_cons_of_mem _ (List.mem_cons_of_mem _ hq), hy⟩

theorem row13_10 : ∀ q ∈ bodyRun.sl.H13_10 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off78 i) _ _ ((by decide +kernel : ∀ i : grid0.Coords, k0_off78 i = ![(i 1).val, 2 * 0 + 1, 192 * 1 + 64 * 1]) i) (Gen.k0_off78_inb i) x,
    List.forall_mem_cons.2 ⟨fun x => row_emb i (k0_off77 i) _ _ ((by decide +kernel : ∀ i : grid0.Coords, k0_off77 i = ![(i 1).val, 2 * 0, 192 * 1 + 64 * 1]) i) (Gen.k0_off77_inb i) x, (fun q h => row13_8 i arg2 arg3 arg5 arg6 arg7 arg10 arg11 arg12 arg14 f2 f3 f5 f6 f7 f10' q h)⟩⟩
theorem hit13_10 (y : S7x8x384.Idx) (h0 : (y 0).val = (i 1).val) (ht : ((y 1).val / 2) * 6 + ((y 2).val / 192) * 3 + ((y 2).val % 192) / 64 < 5) : ∃ q ∈ bodyRun.sl.H13_10 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 4
  · by_cases hb : (y 1).val = 2 * 0
    · exact ⟨_, List.mem_cons_of_mem _ List.mem_cons_self, row_hit i (k0_off77 i) _ _ ((by decide +kernel : ∀ i : grid0.Coords, k0_off77 i = ![(i 1).val, 2 * 0, 192 * 1 + 64 * 1]) i) (Gen.k0_off77_inb i) y h0 hb (by omega) (by omega)⟩
    · exact ⟨_, List.mem_cons_self, row_hit i (k0_off78 i) _ _ ((by decide +kernel : ∀ i : grid0.Coords, k0_off78 i = ![(i 1).val, 2 * 0 + 1, 192 * 1 + 64 * 1]) i) (Gen.k0_off78_inb i) y h0 (by omega) (by omega) (by omega)⟩
  · obtain ⟨q, hq, hy⟩ := hit13_8 i arg2 arg3 arg5 arg6 arg7 arg10 arg11 arg12 arg14 f2 f3 f5 f6 f7 f10' y h0 (by omega)
    exact ⟨q, List.mem_cons_of_mem _ (List.mem_cons_of_mem _ hq), hy⟩

theorem row13_12 : ∀ q ∈ bodyRun.sl.H13_12 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off81 i) _ _ ((by decide +kernel : ∀ i : grid0.Coords, k0_off81 i = ![(i 1).val, 2 * 0 + 1, 192 * 1 + 64 * 2]) i) (Gen.k0_off81_inb i) x,
    List.forall_mem_cons.2 ⟨fun x => row_emb i (k0_off80 i) _ _ ((by decide +kernel : ∀ i : grid0.Coords, k0_off80 i = ![(i 1).val, 2 * 0, 192 * 1 + 64 * 2]) i) (Gen.k0_off80_inb i) x, (fun q h => row13_10 i arg2 arg3 arg5 arg6 arg7 arg10 arg11 arg12 arg14 f2 f3 f5 f6 f7 f10' q h)⟩⟩
theorem hit13_12 (y : S7x8x384.Idx) (h0 : (y 0).val = (i 1).val) (ht : ((y 1).val / 2) * 6 + ((y 2).val / 192) * 3 + ((y 2).val % 192) / 64 < 6) : ∃ q ∈ bodyRun.sl.H13_12 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 5
  · by_cases hb : (y 1).val = 2 * 0
    · exact ⟨_, List.mem_cons_of_mem _ List.mem_cons_self, row_hit i (k0_off80 i) _ _ ((by decide +kernel : ∀ i : grid0.Coords, k0_off80 i = ![(i 1).val, 2 * 0, 192 * 1 + 64 * 2]) i) (Gen.k0_off80_inb i) y h0 hb (by omega) (by omega)⟩
    · exact ⟨_, List.mem_cons_self, row_hit i (k0_off81 i) _ _ ((by decide +kernel : ∀ i : grid0.Coords, k0_off81 i = ![(i 1).val, 2 * 0 + 1, 192 * 1 + 64 * 2]) i) (Gen.k0_off81_inb i) y h0 (by omega) (by omega) (by omega)⟩
  · obtain ⟨q, hq, hy⟩ := hit13_10 i arg2 arg3 arg5 arg6 arg7 arg10 arg11 arg12 arg14 f2 f3 f5 f6 f7 f10' y h0 (by omega)
    exact ⟨q, List.mem_cons_of_mem _ (List.mem_cons_of_mem _ hq), hy⟩

theorem row13_14 : ∀ q ∈ bodyRun.sl.H13_14 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off83 i) _ _ ((by decide +kernel : ∀ i : grid0.Coords, k0_off83 i = ![(i 1).val, 2 * 1 + 1, 192 * 0 + 64 * 0]) i) (Gen.k0_off83_inb i) x,
    List.forall_mem_cons.2 ⟨fun x => row_emb i (k0_off82 i) _ _ ((by decide +kernel : ∀ i : grid0.Coords, k0_off82 i = ![(i 1).val, 2 * 1, 192 * 0 + 64 * 0]) i) (Gen.k0_off82_inb i) x, (fun q h => row13_12 i arg2 arg3 arg5 arg6 arg7 arg10 arg11 arg12 arg14 f2 f3 f5 f6 f7 f10' q h)⟩⟩
theorem hit13_14 (y : S7x8x384.Idx) (h0 : (y 0).val = (i 1).val) (ht : ((y 1).val / 2) * 6 + ((y 2).val / 192) * 3 + ((y 2).val % 192) / 64 < 7) : ∃ q ∈ bodyRun.sl.H13_14 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 6
  · by_cases hb : (y 1).val = 2 * 1
    · exact ⟨_, List.mem_cons_of_mem _ List.mem_cons_self, row_hit i (k0_off82 i) _ _ ((by decide +kernel : ∀ i : grid0.Coords, k0_off82 i = ![(i 1).val, 2 * 1, 192 * 0 + 64 * 0]) i) (Gen.k0_off82_inb i) y h0 hb (by omega) (by omega)⟩
    · exact ⟨_, List.mem_cons_self, row_hit i (k0_off83 i) _ _ ((by decide +kernel : ∀ i : grid0.Coords, k0_off83 i = ![(i 1).val, 2 * 1 + 1, 192 * 0 + 64 * 0]) i) (Gen.k0_off83_inb i) y h0 (by omega) (by omega) (by omega)⟩
  · obtain ⟨q, hq, hy⟩ := hit13_12 i arg2 arg3 arg5 arg6 arg7 arg10 arg11 arg12 arg14 f2 f3 f5 f6 f7 f10' y h0 (by omega)
    exact ⟨q, List.mem_cons_of_mem _ (List.mem_cons_of_mem _ hq), hy⟩

theorem row13_16 : ∀ q ∈ bodyRun.sl.H13_16 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off85 i) _ _ ((by decide +kernel : ∀ i : grid0.Coords, k0_off85 i = ![(i 1).val, 2 * 1 + 1, 192 * 0 + 64 * 1]) i) (Gen.k0_off85_inb i) x,
    List.forall_mem_cons.2 ⟨fun x => row_emb i (k0_off84 i) _ _ ((by decide +kernel : ∀ i : grid0.Coords, k0_off84 i = ![(i 1).val, 2 * 1, 192 * 0 + 64 * 1]) i) (Gen.k0_off84_inb i) x, (fun q h => row13_14 i arg2 arg3 arg5 arg6 arg7 arg10 arg11 arg12 arg14 f2 f3 f5 f6 f7 f10' q h)⟩⟩
theorem hit13_16 (y : S7x8x384.Idx) (h0 : (y 0).val = (i 1).val) (ht : ((y 1).val / 2) * 6 + ((y 2).val / 192) * 3 + ((y 2).val % 192) / 64 < 8) : ∃ q ∈ bodyRun.sl.H13_16 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 7
  · by_cases hb : (y 1).val = 2 * 1
    · exact ⟨_, List.mem_cons_of_mem _ List.mem_cons_self, row_hit i (k0_off84 i) _ _ ((by decide +kernel : ∀ i : grid0.Coords, k0_off84 i = ![(i 1).val, 2 * 1, 192 * 0 + 64 * 1]) i) (Gen.k0_off84_inb i) y h0 hb (by omega) (by omega)⟩
    · exact ⟨_, List.mem_cons_self, row_hit i (k0_off85 i) _ _ ((by decide +kernel : ∀ i : grid0.Coords, k0_off85 i = ![(i 1).val, 2 * 1 + 1, 192 * 0 + 64 * 1]) i) (Gen.k0_off85_inb i) y h0 (by omega) (by omega) (by omega)⟩
  · obtain ⟨q, hq, hy⟩ := hit13_14 i arg2 arg3 arg5 arg6 arg7 arg10 arg11 arg12 arg14 f2 f3 f5 f6 f7 f10' y h0 (by omega)
    exact ⟨q, List.mem_cons_of_mem _ (List.mem_cons_of_mem _ hq), hy⟩

theorem row13_18 : ∀ q ∈ bodyRun.sl.H13_18 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off87 i) _ _ ((by decide +kernel : ∀ i : grid0.Coords, k0_off87 i = ![(i 1).val, 2 * 1 + 1, 192 * 0 + 64 * 2]) i) (Gen.k0_off87_inb i) x,
    List.forall_mem_cons.2 ⟨fun x => row_emb i (k0_off86 i) _ _ ((by decide +kernel : ∀ i : grid0.Coords, k0_off86 i = ![(i 1).val, 2 * 1, 192 * 0 + 64 * 2]) i) (Gen.k0_off86_inb i) x, (fun q h => row13_16 i arg2 arg3 arg5 arg6 arg7 arg10 arg11 arg12 arg14 f2 f3 f5 f6 f7 f10' q h)⟩⟩
theorem hit13_18 (y : S7x8x384.Idx) (h0 : (y 0).val = (i 1).val) (ht : ((y 1).val / 2) * 6 + ((y 2).val / 192) * 3 + ((y 2).val % 192) / 64 < 9) : ∃ q ∈ bodyRun.sl.H13_18 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 8
  · by_cases hb : (y 1).val = 2 * 1
    · exact ⟨_, List.mem_cons_of_mem _ List.mem_cons_self, row_hit i (k0_off86 i) _ _ ((by decide +kernel : ∀ i : grid0.Coords, k0_off86 i = ![(i 1).val, 2 * 1, 192 * 0 + 64 * 2]) i) (Gen.k0_off86_inb i) y h0 hb (by omega) (by omega)⟩
    · exact ⟨_, List.mem_cons_self, row_hit i (k0_off87 i) _ _ ((by decide +kernel : ∀ i : grid0.Coords, k0_off87 i = ![(i 1).val, 2 * 1 + 1, 192 * 0 + 64 * 2]) i) (Gen.k0_off87_inb i) y h0 (by omega) (by omega) (by omega)⟩
  · obtain ⟨q, hq, hy⟩ := hit13_16 i arg2 arg3 arg5 arg6 arg7 arg10 arg11 arg12 arg14 f2 f3 f5 f6 f7 f10' y h0 (by omega)
    exact ⟨q, List.mem_cons_of_mem _ (List.mem_cons_of_mem _ hq), hy⟩

theorem row13_20 : ∀ q ∈ bodyRun.sl.H13_20 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off89 i) _ _ ((by decide +kernel : ∀ i : grid0.Coords, k0_off89 i = ![(i 1).val, 2 * 1 + 1, 192 * 1 + 64 * 0]) i) (Gen.k0_off89_inb i) x,
    List.forall_mem_cons.2 ⟨fun x => row_emb i (k0_off88 i) _ _ ((by decide +kernel : ∀ i : grid0.Coords, k0_off88 i = ![(i 1).val, 2 * 1, 192 * 1 + 64 * 0]) i) (Gen.k0_off88_inb i) x, (fun q h => row13_18 i arg2 arg3 arg5 arg6 arg7 arg10 arg11 arg12 arg14 f2 f3 f5 f6 f7 f10' q h)⟩⟩
theorem hit13_20 (y : S7x8x384.Idx) (h0 : (y 0).val = (i 1).val) (ht : ((y 1).val / 2) * 6 + ((y 2).val / 192) * 3 + ((y 2).val % 192) / 64 < 10) : ∃ q ∈ bodyRun.sl.H13_20 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 9
  · by_cases hb : (y 1).val = 2 * 1
    · exact ⟨_, List.mem_cons_of_mem _ List.mem_cons_self, row_hit i (k0_off88 i) _ _ ((by decide +kernel : ∀ i : grid0.Coords, k0_off88 i = ![(i 1).val, 2 * 1, 192 * 1 + 64 * 0]) i) (Gen.k0_off88_inb i) y h0 hb (by omega) (by omega)⟩
    · exact ⟨_, List.mem_cons_self, row_hit i (k0_off89 i) _ _ ((by decide +kernel : ∀ i : grid0.Coords, k0_off89 i = ![(i 1).val, 2 * 1 + 1, 192 * 1 + 64 * 0]) i) (Gen.k0_off89_inb i) y h0 (by omega) (by omega) (by omega)⟩
  · obtain ⟨q, hq, hy⟩ := hit13_18 i arg2 arg3 arg5 arg6 arg7 arg10 arg11 arg12 arg14 f2 f3 f5 f6 f7 f10' y h0 (by omega)
    exact ⟨q, List.mem_cons_of_mem _ (List.mem_cons_of_mem _ hq), hy⟩

theorem row13_22 : ∀ q ∈ bodyRun.sl.H13_22 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off91 i) _ _ ((by decide +kernel : ∀ i : grid0.Coords, k0_off91 i = ![(i 1).val, 2 * 1 + 1, 192 * 1 + 64 * 1]) i) (Gen.k0_off91_inb i) x,
    List.forall_mem_cons.2 ⟨fun x => row_emb i (k0_off90 i) _ _ ((by decide +kernel : ∀ i : grid0.Coords, k0_off90 i = ![(i 1).val, 2 * 1, 192 * 1 + 64 * 1]) i) (Gen.k0_off90_inb i) x, (fun q h => row13_20 i arg2 arg3 arg5 arg6 arg7 arg10 arg11 arg12 arg14 f2 f3 f5 f6 f7 f10' q h)⟩⟩
theorem hit13_22 (y : S7x8x384.Idx) (h0 : (y 0).val = (i 1).val) (ht : ((y 1).val / 2) * 6 + ((y 2).val / 192) * 3 + ((y 2).val % 192) / 64 < 11) : ∃ q ∈ bodyRun.sl.H13_22 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 10
  · by_cases hb : (y 1).val = 2 * 1
    · exact ⟨_, List.mem_cons_of_mem _ List.mem_cons_self, row_hit i (k0_off90 i) _ _ ((by decide +kernel : ∀ i : grid0.Coords, k0_off90 i = ![(i 1).val, 2 * 1, 192 * 1 + 64 * 1]) i) (Gen.k0_off90_inb i) y h0 hb (by omega) (by omega)⟩
    · exact ⟨_, List.mem_cons_self, row_hit i (k0_off91 i) _ _ ((by decide +kernel : ∀ i : grid0.Coords, k0_off91 i = ![(i 1).val, 2 * 1 + 1, 192 * 1 + 64 * 1]) i) (Gen.k0_off91_inb i) y h0 (by omega) (by omega) (by omega)⟩
  · obtain ⟨q, hq, hy⟩ := hit13_20 i arg2 arg3 arg5 arg6 arg7 arg10 arg11 arg12 arg14 f2 f3 f5 f6 f7 f10' y h0 (by omega)
    exact ⟨q, List.mem_cons_of_mem _ (List.mem_cons_of_mem _ hq), hy⟩

theorem row13_24 : ∀ q ∈ bodyRun.sl.H13_24 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off93 i) _ _ ((by decide +kernel : ∀ i : grid0.Coords, k0_off93 i = ![(i 1).val, 2 * 1 + 1, 192 * 1 + 64 * 2]) i) (Gen.k0_off93_inb i) x,
    List.forall_mem_cons.2 ⟨fun x => row_emb i (k0_off92 i) _ _ ((by decide +kernel : ∀ i : grid0.Coords, k0_off92 i = ![(i 1).val, 2 * 1, 192 * 1 + 64 * 2]) i) (Gen.k0_off92_inb i) x, (fun q h => row13_22 i arg2 arg3 arg5 arg6 arg7 arg10 arg11 arg12 arg14 f2 f3 f5 f6 f7 f10' q h)⟩⟩
theorem hit13_24 (y : S7x8x384.Idx) (h0 : (y 0).val = (i 1).val) (ht : ((y 1).val / 2) * 6 + ((y 2).val / 192) * 3 + ((y 2).val % 192) / 64 < 12) : ∃ q ∈ bodyRun.sl.H13_24 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 11
  · by_cases hb : (y 1).val = 2 * 1
    · exact ⟨_, List.mem_cons_of_mem _ List.mem_cons_self, row_hit i (k0_off92 i) _ _ ((by decide +kernel : ∀ i : grid0.Coords, k0_off92 i = ![(i 1).val, 2 * 1, 192 * 1 + 64 * 2]) i) (Gen.k0_off92_inb i) y h0 hb (by omega) (by omega)⟩
    · exact ⟨_, List.mem_cons_self, row_hit i (k0_off93 i) _ _ ((by decide +kernel : ∀ i : grid0.Coords, k0_off93 i = ![(i 1).val, 2 * 1 + 1, 192 * 1 + 64 * 2]) i) (Gen.k0_off93_inb i) y h0 (by omega) (by omega) (by omega)⟩
  · obtain ⟨q, hq, hy⟩ := hit13_22 i arg2 arg3 arg5 arg6 arg7 arg10 arg11 arg12 arg14 f2 f3 f5 f6 f7 f10' y h0 (by omega)
    exact ⟨q, List.mem_cons_of_mem _ (List.mem_cons_of_mem _ hq), hy⟩

theorem row13_26 : ∀ q ∈ bodyRun.sl.H13_26 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off95 i) _ _ ((by decide +kernel : ∀ i : grid0.Coords, k0_off95 i = ![(i 1).val, 2 * 2 + 1, 192 * 0 + 64 * 0]) i) (Gen.k0_off95_inb i) x,
    List.forall_mem_cons.2 ⟨fun x => row_emb i (k0_off94 i) _ _ ((by decide +kernel : ∀ i : grid0.Coords, k0_off94 i = ![(i 1).val, 2 * 2, 192 * 0 + 64 * 0]) i) (Gen.k0_off94_inb i) x, (fun q h => row13_24 i arg2 arg3 arg5 arg6 arg7 arg10 arg11 arg12 arg14 f2 f3 f5 f6 f7 f10' q h)⟩⟩
theorem hit13_26 (y : S7x8x384.Idx) (h0 : (y 0).val = (i 1).val) (ht : ((y 1).val / 2) * 6 + ((y 2).val / 192) * 3 + ((y 2).val % 192) / 64 < 13) : ∃ q ∈ bodyRun.sl.H13_26 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 12
  · by_cases hb : (y 1).val = 2 * 2
    · exact ⟨_, List.mem_cons_of_mem _ List.mem_cons_self, row_hit i (k0_off94 i) _ _ ((by decide +kernel : ∀ i : grid0.Coords, k0_off94 i = ![(i 1).val, 2 * 2, 192 * 0 + 64 * 0]) i) (Gen.k0_off94_inb i) y h0 hb (by omega) (by omega)⟩
    · exact ⟨_, List.mem_cons_self, row_hit i (k0_off95 i) _ _ ((by decide +kernel : ∀ i : grid0.Coords, k0_off95 i = ![(i 1).val, 2 * 2 + 1, 192 * 0 + 64 * 0]) i) (Gen.k0_off95_inb i) y h0 (by omega) (by omega) (by omega)⟩
  · obtain ⟨q, hq, hy⟩ := hit13_24 i arg2 arg3 arg5 arg6 arg7 arg10 arg11 arg12 arg14 f2 f3 f5 f6 f7 f10' y h0 (by omega)
    exact ⟨q, List.mem_cons_of_mem _ (List.mem_cons_of_mem _ hq), hy⟩

theorem row13_28 : ∀ q ∈ bodyRun.sl.H13_28 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off97 i) _ _ ((by decide +kernel : ∀ i : grid0.Coords, k0_off97 i = ![(i 1).val, 2 * 2 + 1, 192 * 0 + 64 * 1]) i) (Gen.k0_off97_inb i) x,
    List.forall_mem_cons.2 ⟨fun x => row_emb i (k0_off96 i) _ _ ((by decide +kernel : ∀ i : grid0.Coords, k0_off96 i = ![(i 1).val, 2 * 2, 192 * 0 + 64 * 1]) i) (Gen.k0_off96_inb i) x, (fun q h => row13_26 i arg2 arg3 arg5 arg6 arg7 arg10 arg11 arg12 arg14 f2 f3 f5 f6 f7 f10' q h)⟩⟩
theorem hit13_28 (y : S7x8x384.Idx) (h0 : (y 0).val = (i 1).val) (ht : ((y 1).val / 2) * 6 + ((y 2).val / 192) * 3 + ((y 2).val % 192) / 64 < 14) : ∃ q ∈ bodyRun.sl.H13_28 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 13
  · by_cases hb : (y 1).val = 2 * 2
    · exact ⟨_, List.mem_cons_of_mem _ List.mem_cons_self, row_hit i (k0_off96 i) _ _ ((by decide +kernel : ∀ i : grid0.Coords, k0_off96 i = ![(i 1).val, 2 * 2, 192 * 0 + 64 * 1]) i) (Gen.k0_off96_inb i) y h0 hb (by omega) (by omega)⟩
    · exact ⟨_, List.mem_cons_self, row_hit i (k0_off97 i) _ _ ((by decide +kernel : ∀ i : grid0.Coords, k0_off97 i = ![(i 1).val, 2 * 2 + 1, 192 * 0 + 64 * 1]) i) (Gen.k0_off97_inb i) y h0 (by omega) (by omega) (by omega)⟩
  · obtain ⟨q, hq, hy⟩ := hit13_26 i arg2 arg3 arg5 arg6 arg7 arg10 arg11 arg12 arg14 f2 f3 f5 f6 f7 f10' y h0 (by omega)
    exact ⟨q, List.mem_cons_of_mem _ (List.mem_cons_of_mem _ hq), hy⟩

theorem row13_30 : ∀ q ∈ bodyRun.sl.H13_30 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off99 i) _ _ ((by decide +kernel : ∀ i : grid0.Coords, k0_off99 i = ![(i 1).val, 2 * 2 + 1, 192 * 0 + 64 * 2]) i) (Gen.k0_off99_inb i) x,
    List.forall_mem_cons.2 ⟨fun x => row_emb i (k0_off98 i) _ _ ((by decide +kernel : ∀ i : grid0.Coords, k0_off98 i = ![(i 1).val, 2 * 2, 192 * 0 + 64 * 2]) i) (Gen.k0_off98_inb i) x, (fun q h => row13_28 i arg2 arg3 arg5 arg6 arg7 arg10 arg11 arg12 arg14 f2 f3 f5 f6 f7 f10' q h)⟩⟩
theorem hit13_30 (y : S7x8x384.Idx) (h0 : (y 0).val = (i 1).val) (ht : ((y 1).val / 2) * 6 + ((y 2).val / 192) * 3 + ((y 2).val % 192) / 64 < 15) : ∃ q ∈ bodyRun.sl.H13_30 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 14
  · by_cases hb : (y 1).val = 2 * 2
    · exact ⟨_, List.mem_cons_of_mem _ List.mem_cons_self, row_hit i (k0_off98 i) _ _ ((by decide +kernel : ∀ i : grid0.Coords, k0_off98 i = ![(i 1).val, 2 * 2, 192 * 0 + 64 * 2]) i) (Gen.k0_off98_inb i) y h0 hb (by omega) (by omega)⟩
    · exact ⟨_, List.mem_cons_self, row_hit i (k0_off99 i) _ _ ((by decide +kernel : ∀ i : grid0.Coords, k0_off99 i = ![(i 1).val, 2 * 2 + 1, 192 * 0 + 64 * 2]) i) (Gen.k0_off99_inb i) y h0 (by omega) (by omega) (by omega)⟩
  · obtain ⟨q, hq, hy⟩ := hit13_28 i arg2 arg3 arg5 arg6 arg7 arg10 arg11 arg12 arg14 f2 f3 f5 f6 f7 f10' y h0 (by omega)
    exact ⟨q, List.mem_cons_of_mem _ (List.mem_cons_of_mem _ hq), hy⟩

theorem row13_32 : ∀ q ∈ bodyRun.sl.H13_32 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off101 i) _ _ ((by decide +kernel : ∀ i : grid0.Coords, k0_off101 i = ![(i 1).val, 2 * 2 + 1, 192 * 1 + 64 * 0]) i) (Gen.k0_off101_inb i) x,
    List.forall_mem_cons.2 ⟨fun x => row_emb i (k0_off100 i) _ _ ((by decide +kernel : ∀ i : grid0.Coords, k0_off100 i = ![(i 1).val, 2 * 2, 192 * 1 + 64 * 0]) i) (Gen.k0_off100_inb i) x, (fun q h => row13_30 i arg2 arg3 arg5 arg6 arg7 arg10 arg11 arg12 arg14 f2 f3 f5 f6 f7 f10' q h)⟩⟩
theorem hit13_32 (y : S7x8x384.Idx) (h0 : (y 0).val = (i 1).val) (ht : ((y 1).val / 2) * 6 + ((y 2).val / 192) * 3 + ((y 2).val % 192) / 64 < 16) : ∃ q ∈ bodyRun.sl.H13_32 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 15
  · by_cases hb : (y 1).val = 2 * 2
    · exact ⟨_, List.mem_cons_of_mem _ List.mem_cons_self, row_hit i (k0_off100 i) _ _ ((by decide +kernel : ∀ i : grid0.Coords, k0_off100 i = ![(i 1).val, 2 * 2, 192 * 1 + 64 * 0]) i) (Gen.k0_off100_inb i) y h0 hb (by omega) (by omega)⟩
    · exact ⟨_, List.mem_cons_self, row_hit i (k0_off101 i) _ _ ((by decide +kernel : ∀ i : grid0.Coords, k0_off101 i = ![(i 1).val, 2 * 2 + 1, 192 * 1 + 64 * 0]) i) (Gen.k0_off101_inb i) y h0 (by omega) (by omega) (by omega)⟩
  · obtain ⟨q, hq, hy⟩ := hit13_30 i arg2 arg3 arg5 arg6 arg7 arg10 arg11 arg12 arg14 f2 f3 f5 f6 f7 f10' y h0 (by omega)
    exact ⟨q, List.mem_cons_of_mem _ (List.mem_cons_of_mem _ hq), hy⟩

theorem row13_34 : ∀ q ∈ bodyRun.sl.H13_34 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off103 i) _ _ ((by decide +kernel : ∀ i : grid0.Coords, k0_off103 i = ![(i 1).val, 2 * 2 + 1, 192 * 1 + 64 * 1]) i) (Gen.k0_off103_inb i) x,
    List.forall_mem_cons.2 ⟨fun x => row_emb i (k0_off102 i) _ _ ((by decide +kernel : ∀ i : grid0.Coords, k0_off102 i = ![(i 1).val, 2 * 2, 192 * 1 + 64 * 1]) i) (Gen.k0_off102_inb i) x, (fun q h => row13_32 i arg2 arg3 arg5 arg6 arg7 arg10 arg11 arg12 arg14 f2 f3 f5 f6 f7 f10' q h)⟩⟩
theorem hit13_34 (y : S7x8x384.Idx) (h0 : (y 0).val = (i 1).val) (ht : ((y 1).val / 2) * 6 + ((y 2).val / 192) * 3 + ((y 2).val % 192) / 64 < 17) : ∃ q ∈ bodyRun.sl.H13_34 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 16
  · by_cases hb : (y 1).val = 2 * 2
    · exact ⟨_, List.mem_cons_of_mem _ List.mem_cons_self, row_hit i (k0_off102 i) _ _ ((by decide +kernel : ∀ i : grid0.Coords, k0_off102 i = ![(i 1).val, 2 * 2, 192 * 1 + 64 * 1]) i) (Gen.k0_off102_inb i) y h0 hb (by omega) (by omega)⟩
    · exact ⟨_, List.mem_cons_self, row_hit i (k0_off103 i) _ _ ((by decide +kernel : ∀ i : grid0.Coords, k0_off103 i = ![(i 1).val, 2 * 2 + 1, 192 * 1 + 64 * 1]) i) (Gen.k0_off103_inb i) y h0 (by omega) (by omega) (by omega)⟩
  · obtain ⟨q, hq, hy⟩ := hit13_32 i arg2 arg3 arg5 arg6 arg7 arg10 arg11 arg12 arg14 f2 f3 f5 f6 f7 f10' y h0 (by omega)
    exact ⟨q, List.mem_cons_of_mem _ (List.mem_cons_of_mem _ hq), hy⟩

theorem row13_36 : ∀ q ∈ bodyRun.sl.H13_36 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off105 i) _ _ ((by decide +kernel : ∀ i : grid0.Coords, k0_off105 i = ![(i 1).val, 2 * 2 + 1, 192 * 1 + 64 * 2]) i) (Gen.k0_off105_inb i) x,
    List.forall_mem_cons.2 ⟨fun x => row_emb i (k0_off104 i) _ _ ((by decide +kernel : ∀ i : grid0.Coords, k0_off104 i = ![(i 1).val, 2 * 2, 192 * 1 + 64 * 2]) i) (Gen.k0_off104_inb i) x, (fun q h => row13_34 i arg2 arg3 arg5 arg6 arg7 arg10 arg11 arg12 arg14 f2 f3 f5 f6 f7 f10' q h)⟩⟩
theorem hit13_36 (y : S7x8x384.Idx) (h0 : (y 0).val = (i 1).val) (ht : ((y 1).val / 2) * 6 + ((y 2).val / 192) * 3 + ((y 2).val % 192) / 64 < 18) : ∃ q ∈ bodyRun.sl.H13_36 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 17
  · by_cases hb : (y 1).val = 2 * 2
    · exact ⟨_, List.mem_cons_of_mem _ List.mem_cons_self, row_hit i (k0_off104 i) _ _ ((by decide +kernel : ∀ i : grid0.Coords, k0_off104 i = ![(i 1).val, 2 * 2, 192 * 1 + 64 * 2]) i) (Gen.k0_off104_inb i) y h0 hb (by omega) (by omega)⟩
    · exact ⟨_, List.mem_cons_self, row_hit i (k0_off105 i) _ _ ((by decide +kernel : ∀ i : grid0.Coords, k0_off105 i = ![(i 1).val, 2 * 2 + 1, 192 * 1 + 64 * 2]) i) (Gen.k0_off105_inb i) y h0 (by omega) (by omega) (by omega)⟩
  · obtain ⟨q, hq, hy⟩ := hit13_34 i arg2 arg3 arg5 arg6 arg7 arg10 arg11 arg12 arg14 f2 f3 f5 f6 f7 f10' y h0 (by omega)
    exact ⟨q, List.mem_cons_of_mem _ (List.mem_cons_of_mem _ hq), hy⟩

theorem row13_38 : ∀ q ∈ bodyRun.sl.H13_38 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off107 i) _ _ ((by decide +kernel : ∀ i : grid0.Coords, k0_off107 i = ![(i 1).val, 2 * 3 + 1, 192 * 0 + 64 * 0]) i) (Gen.k0_off107_inb i) x,
    List.forall_mem_cons.2 ⟨fun x => row_emb i (k0_off106 i) _ _ ((by decide +kernel : ∀ i : grid0.Coords, k0_off106 i = ![(i 1).val, 2 * 3, 192 * 0 + 64 * 0]) i) (Gen.k0_off106_inb i) x, (fun q h => row13_36 i arg2 arg3 arg5 arg6 arg7 arg10 arg11 arg12 arg14 f2 f3 f5 f6 f7 f10' q h)⟩⟩
theorem hit13_38 (y : S7x8x384.Idx) (h0 : (y 0).val = (i 1).val) (ht : ((y 1).val / 2) * 6 + ((y 2).val / 192) * 3 + ((y 2).val % 192) / 64 < 19) : ∃ q ∈ bodyRun.sl.H13_38 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 18
  · by_cases hb : (y 1).val = 2 * 3
    · exact ⟨_, List.mem_cons_of_mem _ List.mem_cons_self, row_hit i (k0_off106 i) _ _ ((by decide +kernel : ∀ i : grid0.Coords, k0_off106 i = ![(i 1).val, 2 * 3, 192 * 0 + 64 * 0]) i) (Gen.k0_off106_inb i) y h0 hb (by omega) (by omega)⟩
    · exact ⟨_, List.mem_cons_self, row_hit i (k0_off107 i) _ _ ((by decide +kernel : ∀ i : grid0.Coords, k0_off107 i = ![(i 1).val, 2 * 3 + 1, 192 * 0 + 64 * 0]) i) (Gen.k0_off107_inb i) y h0 (by omega) (by omega) (by omega)⟩
  · obtain ⟨q, hq, hy⟩ := hit13_36 i arg2 arg3 arg5 arg6 arg7 arg10 arg11 arg12 arg14 f2 f3 f5 f6 f7 f10' y h0 (by omega)
    exact ⟨q, List.mem_cons_of_mem _ (List.mem_cons_of_mem _ hq), hy⟩

theorem row13_40 : ∀ q ∈ bodyRun.sl.H13_40 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off109 i) _ _ ((by decide +kernel : ∀ i : grid0.Coords, k0_off109 i = ![(i 1).val, 2 * 3 + 1, 192 * 0 + 64 * 1]) i) (Gen.k0_off109_inb i) x,
    List.forall_mem_cons.2 ⟨fun x => row_emb i (k0_off108 i) _ _ ((by decide +kernel : ∀ i : grid0.Coords, k0_off108 i = ![(i 1).val, 2 * 3, 192 * 0 + 64 * 1]) i) (Gen.k0_off108_inb i) x, (fun q h => row13_38 i arg2 arg3 arg5 arg6 arg7 arg10 arg11 arg12 arg14 f2 f3 f5 f6 f7 f10' q h)⟩⟩
theorem hit13_40 (y : S7x8x384.Idx) (h0 : (y 0).val = (i 1).val) (ht : ((y 1).val / 2) * 6 + ((y 2).val / 192) * 3 + ((y 2).val % 192) / 64 < 20) : ∃ q ∈ bodyRun.sl.H13_40 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 19
  · by_cases hb : (y 1).val = 2 * 3
    · exact ⟨_, List.mem_cons_of_mem _ List.mem_cons_self, row_hit i (k0_off108 i) _ _ ((by decide +kernel : ∀ i : grid0.Coords, k0_off108 i = ![(i 1).val, 2 * 3, 192 * 0 + 64 * 1]) i) (Gen.k0_off108_inb i) y h0 hb (by omega) (by omega)⟩
    · exact ⟨_, List.mem_cons_self, row_hit i (k0_off109 i) _ _ ((by decide +kernel : ∀ i : grid0.Coords, k0_off109 i = ![(i 1).val, 2 * 3 + 1, 192 * 0 + 64 * 1]) i) (Gen.k0_off109_inb i) y h0 (by omega) (by omega) (by omega)⟩
  · obtain ⟨q, hq, hy⟩ := hit13_38 i arg2 arg3 arg5 arg6 arg7 arg10 arg11 arg12 arg14 f2 f3 f5 f6 f7 f10' y h0 (by omega)
    exact ⟨q, List.mem_cons_of_mem _ (List.mem_cons_of_mem _ hq), hy⟩

theorem row13_42 : ∀ q ∈ bodyRun.sl.H13_42 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off111 i) _ _ ((by decide +kernel : ∀ i : grid0.Coords, k0_off111 i = ![(i 1).val, 2 * 3 + 1, 192 * 0 + 64 * 2]) i) (Gen.k0_off111_inb i) x,
    List.forall_mem_cons.2 ⟨fun x => row_emb i (k0_off110 i) _ _ ((by decide +kernel : ∀ i : grid0.Coords, k0_off110 i = ![(i 1).val, 2 * 3, 192 * 0 + 64 * 2]) i) (Gen.k0_off110_inb i) x, (fun q h => row13_40 i arg2 arg3 arg5 arg6 arg7 arg10 arg11 arg12 arg14 f2 f3 f5 f6 f7 f10' q h)⟩⟩
theorem hit13_42 (y : S7x8x384.Idx) (h0 : (y 0).val = (i 1).val) (ht : ((y 1).val / 2) * 6 + ((y 2).val / 192) * 3 + ((y 2).val % 192) / 64 < 21) : ∃ q ∈ bodyRun.sl.H13_42 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 20
  · by_cases hb : (y 1).val = 2 * 3
    · exact ⟨_, List.mem_cons_of_mem _ List.mem_cons_self, row_hit i (k0_off110 i) _ _ ((by decide +kernel : ∀ i : grid0.Coords, k0_off110 i = ![(i 1).val, 2 * 3, 192 * 0 + 64 * 2]) i) (Gen.k0_off110_inb i) y h0 hb (by omega) (by omega)⟩
    · exact ⟨_, List.mem_cons_self, row_hit i (k0_off111 i) _ _ ((by decide +kernel : ∀ i : grid0.Coords, k0_off111 i = ![(i 1).val, 2 * 3 + 1, 192 * 0 + 64 * 2]) i) (Gen.k0_off111_inb i) y h0 (by omega) (by omega) (by omega)⟩
  · obtain ⟨q, hq, hy⟩ := hit13_40 i arg2 arg3 arg5 arg6 arg7 arg10 arg11 arg12 arg14 f2 f3 f5 f6 f7 f10' y h0 (by omega)
    exact ⟨q, List.mem_cons_of_mem _ (List.mem_cons_of_mem _ hq), hy⟩

theorem row13_44 : ∀ q ∈ bodyRun.sl.H13_44 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off113 i) _ _ ((by decide +kernel : ∀ i : grid0.Coords, k0_off113 i = ![(i 1).val, 2 * 3 + 1, 192 * 1 + 64 * 0]) i) (Gen.k0_off113_inb i) x,
    List.forall_mem_cons.2 ⟨fun x => row_emb i (k0_off112 i) _ _ ((by decide +kernel : ∀ i : grid0.Coords, k0_off112 i = ![(i 1).val, 2 * 3, 192 * 1 + 64 * 0]) i) (Gen.k0_off112_inb i) x, (fun q h => row13_42 i arg2 arg3 arg5 arg6 arg7 arg10 arg11 arg12 arg14 f2 f3 f5 f6 f7 f10' q h)⟩⟩
theorem hit13_44 (y : S7x8x384.Idx) (h0 : (y 0).val = (i 1).val) (ht : ((y 1).val / 2) * 6 + ((y 2).val / 192) * 3 + ((y 2).val % 192) / 64 < 22) : ∃ q ∈ bodyRun.sl.H13_44 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 21
  · by_cases hb : (y 1).val = 2 * 3
    · exact ⟨_, List.mem_cons_of_mem _ List.mem_cons_self, row_hit i (k0_off112 i) _ _ ((by decide +kernel : ∀ i : grid0.Coords, k0_off112 i = ![(i 1).val, 2 * 3, 192 * 1 + 64 * 0]) i) (Gen.k0_off112_inb i) y h0 hb (by omega) (by omega)⟩
    · exact ⟨_, List.mem_cons_self, row_hit i (k0_off113 i) _ _ ((by decide +kernel : ∀ i : grid0.Coords, k0_off113 i = ![(i 1).val, 2 * 3 + 1, 192 * 1 + 64 * 0]) i) (Gen.k0_off113_inb i) y h0 (by omega) (by omega) (by omega)⟩
  · obtain ⟨q, hq, hy⟩ := hit13_42 i arg2 arg3 arg5 arg6 arg7 arg10 arg11 arg12 arg14 f2 f3 f5 f6 f7 f10' y h0 (by omega)
    exact ⟨q, List.mem_cons_of_mem _ (List.mem_cons_of_mem _ hq), hy⟩

theorem row13_46 : ∀ q ∈ bodyRun.sl.H13_46 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off115 i) _ _ ((by decide +kernel : ∀ i : grid0.Coords, k0_off115 i = ![(i 1).val, 2 * 3 + 1, 192 * 1 + 64 * 1]) i) (Gen.k0_off115_inb i) x,
    List.forall_mem_cons.2 ⟨fun x => row_emb i (k0_off114 i) _ _ ((by decide +kernel : ∀ i : grid0.Coords, k0_off114 i = ![(i 1).val, 2 * 3, 192 * 1 + 64 * 1]) i) (Gen.k0_off114_inb i) x, (fun q h => row13_44 i arg2 arg3 arg5 arg6 arg7 arg10 arg11 arg12 arg14 f2 f3 f5 f6 f7 f10' q h)⟩⟩
theorem hit13_46 (y : S7x8x384.Idx) (h0 : (y 0).val = (i 1).val) (ht : ((y 1).val / 2) * 6 + ((y 2).val / 192) * 3 + ((y 2).val % 192) / 64 < 23) : ∃ q ∈ bodyRun.sl.H13_46 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 22
  · by_cases hb : (y 1).val = 2 * 3
    · exact ⟨_, List.mem_cons_of_mem _ List.mem_cons_self, row_hit i (k0_off114 i) _ _ ((by decide +kernel : ∀ i : grid0.Coords, k0_off114 i = ![(i 1).val, 2 * 3, 192 * 1 + 64 * 1]) i) (Gen.k0_off114_inb i) y h0 hb (by omega) (by omega)⟩
    · exact ⟨_, List.mem_cons_self, row_hit i (k0_off115 i) _ _ ((by decide +kernel : ∀ i : grid0.Coords, k0_off115 i = ![(i 1).val, 2 * 3 + 1, 192 * 1 + 64 * 1]) i) (Gen.k0_off115_inb i) y h0 (by omega) (by omega) (by omega)⟩
  · obtain ⟨q, hq, hy⟩ := hit13_44 i arg2 arg3 arg5 arg6 arg7 arg10 arg11 arg12 arg14 f2 f3 f5 f6 f7 f10' y h0 (by omega)
    exact ⟨q, List.mem_cons_of_mem _ (List.mem_cons_of_mem _ hq), hy⟩

theorem row13_48 : ∀ q ∈ bodyRun.sl.H13_48 (F := Ideal) i arg2 arg3 arg5 arg6 arg7 arg10 arg11 arg12 arg14 f2 f3 f5 f6 f7 f10', ∀ x : q.1.shape.Idx, ((q.1.emb x) 0).val = (i 1).val :=
  List.forall_mem_cons.2 ⟨fun x => row_emb i (k0_off117 i) _ _ ((by decide +kernel : ∀ i : grid0.Coords, k0_off117 i = ![(i 1).val, 2 * 3 + 1, 192 * 1 + 64 * 2]) i) (Gen.k0_off117_inb i) x,
    List.forall_mem_cons.2 ⟨fun x => row_emb i (k0_off116 i) _ _ ((by decide +kernel : ∀ i : grid0.Coords, k0_off116 i = ![(i 1).val, 2 * 3, 192 * 1 + 64 * 2]) i) (Gen.k0_off116_inb i) x, (fun q h => row13_46 i arg2 arg3 arg5 arg6 arg7 arg10 arg11 arg12 arg14 f2 f3 f5 f6 f7 f10' q h)⟩⟩
theorem hit13_48 (y : S7x8x384.Idx) (h0 : (y 0).val = (i 1).val) (ht : ((y 1).val / 2) * 6 + ((y 2).val / 192) * 3 + ((y 2).val % 192) / 64 < 24) : ∃ q ∈ bodyRun.sl.H13_48 (F := Ideal) i arg2 arg3 arg5 arg6 arg7 arg10 arg11 arg12 arg14 f2 f3 f5 f6 f7 f10', y ∈ q.1.set := by
  have l1 : (y 1).val < 8 := (y 1).isLt
  have l2 : (y 2).val < 384 := (y 2).isLt
  by_cases h : ((y 1).val / 2) * 6 + ((y 2).val / 192) * 3 + ((y 2).val % 192) / 64 = 23
  · by_cases hb : (y 1).val = 2 * 3
    · exact ⟨_, List.mem_cons_of_mem _ List.mem_cons_self, row_hit i (k0_off116 i) _ _ ((by decide +kernel : ∀ i : grid0.Coords, k0_off116 i = ![(i 1).val, 2 * 3, 192 * 1 + 64 * 2]) i) (Gen.k0_off116_inb i) y h0 hb (by omega) (by omega)⟩
    · exact ⟨_, List.mem_cons_self, row_hit i (k0_off117 i) _ _ ((by decide +kernel : ∀ i : grid0.Coords, k0_off117 i = ![(i 1).val, 2 * 3 + 1, 192 * 1 + 64 * 2]) i) (Gen.k0_off117_inb i) y h0 (by omega) (by omega) (by omega)⟩
  · obtain ⟨q, hq, hy⟩ := hit13_46 i arg2 arg3 arg5 arg6 arg7 arg10 arg11 arg12 arg14 f2 f3 f5 f6 f7 f10' y h0 (by omega)
    exact ⟨q, List.mem_cons_of_mem _ (List.mem_cons_of_mem _ hq), hy⟩

include hf in
/-- The output block after the stores. -/
theorem out_read (v : View sig .tc .vmem S1x384x1024 .bf16) (f8 : BufTy.Contents (Elt Ideal) v.ty) (y : S1x384x1024.Idx) :
    v.read (Elt Ideal) (v.writes (Elt Ideal) f8 (bodyRun.sl.H8_24 (F := Ideal) i arg2 arg3 arg4 arg5 arg6 arg7 arg10 arg11 arg12 arg14 f2 f3 f4 f5 f6 f7 f10')) y
      = outOf (codeOf arg6 f6) (codeOf arg5 f5) (codeOf arg7 f7) (csAt i arg2 arg3 f2 f3) (vsAt i arg4 f4) (i 1).val (y 1).val ((y 2).val / 128) ((y 2).val % 128) :=
  View.read_writes_apply_of_pieces v f8 (fun y => outOf (codeOf arg6 f6) (codeOf arg5 f5) (codeOf arg7 f7) (csAt i arg2 arg3 f2 f3) (vsAt i arg4 f4) (i 1).val (y 1).val ((y 2).val / 128) ((y 2).val % 128)) _
    (out_pieces i arg2 arg3 arg4 arg5 arg6 arg7 arg10 arg11 arg12 arg14 f2 f3 f4 f5 f6 f7 f10' hf) y (View.cover_of_tiledL (s := S1x384x1024) _ S1x64x256.size (by sl_kernel_rfl) y)

include hf in
/-- The log-sum-exp rows after the stores: the point's own group, -/
theorem lse_read (v : View sig .tc .vmem S7x8x384 .f32) (f13 : BufTy.Contents (Elt Ideal) v.ty) (y : S7x8x384.Idx) (h0 : (y 0).val = (i 1).val) :
    v.read (Elt Ideal) (v.writes (Elt Ideal) f13 (bodyRun.sl.H13_48 (F := Ideal) i arg2 arg3 arg5 arg6 arg7 arg10 arg11 arg12 arg14 f2 f3 f5 f6 f7 f10')) y = lseOf (codeOf arg6 f6) (codeOf arg5 f5) (csAt i arg2 arg3 f2 f3) (i 1).val (y 2).val (y 1).val :=
  View.read_writes_apply_of_pieces v f13 (fun y => lseOf (codeOf arg6 f6) (codeOf arg5 f5) (csAt i arg2 arg3 f2 f3) (i 1).val (y 2).val (y 1).val) _ (lse_pieces i arg2 arg3 arg5 arg6 arg7 arg10 arg11 arg12 arg14 f2 f3 f5 f6 f7 f10' hf) y
    (hit13_48 i arg2 arg3 arg5 arg6 arg7 arg10 arg11 arg12 arg14 f2 f3 f5 f6 f7 f10' y h0 (by have l1 : (y 1).val < 8 := (y 1).isLt; have l2 : (y 2).val < 384 := (y 2).isLt; omega))

/-- and every other one, kept. -/
theorem lse_keep (v : View sig .tc .vmem S7x8x384 .f32) (f13 : BufTy.Contents (Elt Ideal) v.ty) (y : S7x8x384.Idx) (h0 : (y 0).val ≠ (i 1).val) :
    v.read (Elt Ideal) (v.writes (Elt Ideal) f13 (bodyRun.sl.H13_48 (F := Ideal) i arg2 arg3 arg5 arg6 arg7 arg10 arg11 arg12 arg14 f2 f3 f5 f6 f7 f10')) y = v.read (Elt Ideal) f13 y :=
  View.read_writes_apply_of_forall_not_mem v f13 y _ fun p hp hy => by
    rw [← Rect.map_emb_univ, Finset.mem_map] at hy
    obtain ⟨x, -, rfl⟩ := hy
    exact h0 (row13_48 i arg2 arg3 arg5 arg6 arg7 arg10 arg11 arg12 arg14 f2 f3 f5 f6 f7 f10' p hp x)
end

end Cert.KernelIdeal.Hand

end
-- ==== Proof.KernelIdeal.RunVal.lean ====
module

public import proofs.«01_k».proof.Proof.KernelIdeal.BodyVal
public import proofs.«01_k».proof.Proof.KernelIdeal.FrameRun
public import Idealize.ShloMosaic.Lib.Pipeline.ArrRel
public import Idealize.ShloMosaic.Lib.Pipeline.ValueKit
public import Idealize.ShloMosaic.Lib.VecWindow

@[expose] public section

/-! # KernelIdeal: what the run leaves in the two result arrays

The launch with the bias table and the log-sum-exp rows followed from point to point. -/

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat Cfg arrRef restRefs)

variable (m : (ℓ : Loc nD τ sig) → Buf (Elt Ideal) ℓ) (ρ : Dev nD → PrngReg) (c : Dev nD)

local notation "𝕄" => MT nD τ sig Unit (Elt Ideal) ℕ (UR sig nD τ) ℕ

/-- The decoded codes of batch row `b` and head group `g`. -/
def codeA (A : S4x384x7x8x128.Idx → BitVec 8) (b g s hl d : ℕ) : EReal :=
  dec (if h : b < 4 ∧ s < 384 ∧ g < 7 ∧ hl < 8 ∧ d < 128 then A (ix5 ⟨b, h.1⟩ ⟨s, h.2.1⟩ ⟨g, h.2.2.1⟩ ⟨hl, h.2.2.2.1⟩ ⟨d, h.2.2.2.2⟩) else 0)
/-- A scale. -/
def sc (Y : S4x56.Idx → EReal) (b h : ℕ) : EReal := if hh : b < 4 ∧ h < 56 then Y (ix2 ⟨b, hh.1⟩ ⟨h, hh.2⟩) else 0

/-- The log-sum-exp of query `s` of batch row `b`, group `g`, local head `hl`, of the arrays as the region finds them, -/
def LS (b g s hl : ℕ) : EReal :=
  lseOf (codeA (V m c main_v1) b g) (codeA (V m c main_v0) b g)
    (fun hl => csOf (sc (V m c main_arg3) b (8 * g + hl)) (sc (V m c main_arg4) b (8 * g + hl))) g s hl
/-- and column `d` of its output. -/
def OS (b g s hl d : ℕ) : EReal :=
  outOf (codeA (V m c main_v1) b g) (codeA (V m c main_v0) b g) (codeA (V m c main_v2) b g)
    (fun hl => csOf (sc (V m c main_arg3) b (8 * g + hl)) (sc (V m c main_arg4) b (8 * g + hl)))
    (fun hl => sc (V m c main_arg5) b (8 * g + hl)) g s hl d

theorem co0 : ∀ t : Fin grid0.N, (grid0.coords t 0).val = t.val / 7 := by decide +kernel
theorem co1 : ∀ t : Fin grid0.N, (grid0.coords t 1).val = t.val % 7 := by decide +kernel
theorem c1iff : ∀ t : Fin grid0.N, k0_cond1 (grid0.coords t) = 1#1 ↔ t.val = 0 := by decide +kernel
theorem c2iff : ∀ t : Fin grid0.N, k0_cond2 (grid0.coords t) = 1#1 ↔ t.val % 7 = 6 := by decide +kernel
theorem ind0 : ∀ t : Fin grid0.N, win0_0.index t = ![0, 0] := by decide +kernel
theorem ind1 : ∀ t : Fin grid0.N, win0_1.index t = ![0, 0] := by decide +kernel
theorem ind2 : ∀ t : Fin grid0.N, win0_2.index t = ![0, 0] := by decide +kernel
theorem ind3 : ∀ t : Fin grid0.N, win0_3.index t = ![t.val / 7, 0, t.val % 7, 0, 0] := by decide +kernel
theorem ind4 : ∀ t : Fin grid0.N, win0_4.index t = ![t.val / 7, 0, t.val % 7, 0, 0] := by decide +kernel
theorem ind5 : ∀ t : Fin grid0.N, win0_5.index t = ![t.val / 7, 0, t.val % 7, 0, 0] := by decide +kernel
theorem ind6 : ∀ t : Fin grid0.N, win0_6.index t = ![t.val / 7, 0, t.val % 7] := by decide +kernel
theorem ind7 : ∀ t : Fin grid0.N, win0_7.index t = ![t.val / 7, 0, 0] := by decide +kernel
theorem tlt (t : Fin cfg0.N) : t.val < 28 := lt_of_lt_of_eq t.isLt (by decide)

theorem code3 (t : Fin cfg0.N) (s hl d : ℕ) :
    dec (byteAt (iblk m c 3 t) s hl d) = codeA (V m c main_v0) (t.val / 7) (t.val % 7) s hl d := by
  have ht := tlt t
  unfold byteAt codeA
  by_cases h : s < 384 ∧ hl < 8 ∧ d < 128
  · rw [dif_pos h, dif_pos ⟨by omega, h.1, by omega, h.2.1, h.2.2⟩]
    refine congrArg dec ?_
    show V m c main_v0 ((win0_3.blk t).view.emb _) = _
    refine congrArg (V m c main_v0) ?_
    blk_ext [ind3]
  · rw [dif_neg h, dif_neg (fun h' => h ⟨h'.2.1, h'.2.2.2.1, h'.2.2.2.2⟩)]

theorem code4 (t : Fin cfg0.N) (s hl d : ℕ) :
    dec (byteAt (iblk m c 4 t) s hl d) = codeA (V m c main_v1) (t.val / 7) (t.val % 7) s hl d := by
  have ht := tlt t
  unfold byteAt codeA
  by_cases h : s < 384 ∧ hl < 8 ∧ d < 128
  · rw [dif_pos h, dif_pos ⟨by omega, h.1, by omega, h.2.1, h.2.2⟩]
    refine congrArg dec ?_
    show V m c main_v1 ((win0_4.blk t).view.emb _) = _
    refine congrArg (V m c main_v1) ?_
    blk_ext [ind4]
  · rw [dif_neg h, dif_neg (fun h' => h ⟨h'.2.1, h'.2.2.2.1, h'.2.2.2.2⟩)]

theorem code5 (t : Fin cfg0.N) (s hl d : ℕ) :
    dec (byteAt (iblk m c 5 t) s hl d) = codeA (V m c main_v2) (t.val / 7) (t.val % 7) s hl d := by
  have ht := tlt t
  unfold byteAt codeA
  by_cases h : s < 384 ∧ hl < 8 ∧ d < 128
  · rw [dif_pos h, dif_pos ⟨by omega, h.1, by omega, h.2.1, h.2.2⟩]
    refine congrArg dec ?_
    show V m c main_v2 ((win0_5.blk t).view.emb _) = _
    refine congrArg (V m c main_v2) ?_
    blk_ext [ind5]
  · rw [dif_neg h, dif_neg (fun h' => h ⟨h'.2.1, h'.2.2.2.1, h'.2.2.2.2⟩)]

theorem sc0 (t : Fin cfg0.N) : (iblk m c 0 t : S4x56.Idx → EReal) = V m c main_arg3 := by
  funext y
  show V m c main_arg3 ((win0_0.blk t).view.emb y) = _
  refine congrArg (V m c main_arg3) ?_
  blk_ext [ind0]

theorem sc1 (t : Fin cfg0.N) : (iblk m c 1 t : S4x56.Idx → EReal) = V m c main_arg4 := by
  funext y
  show V m c main_arg4 ((win0_1.blk t).view.emb y) = _
  refine congrArg (V m c main_arg4) ?_
  blk_ext [ind1]

theorem sc2 (t : Fin cfg0.N) : (iblk m c 2 t : S4x56.Idx → EReal) = V m c main_arg5 := by
  funext y
  show V m c main_arg5 ((win0_2.blk t).view.emb y) = _
  refine congrArg (V m c main_arg5) ?_
  blk_ext [ind2]

/-- The rows the kernel's last store of a batch row writes. -/
theorem pay3 (x : S7x8x384.Idx → EReal) (y : S1x384x56.Idx) :
    k0_pay3 (F := Ideal) x y = x (ix3 ⟨(y 2).val / 8, by have : (y 2).val < 56 := (y 2).isLt; omega⟩ ⟨(y 2).val % 8, Nat.mod_lt _ (by decide)⟩ (y 1)) := by
  have h0 : (y 0).val < 1 := (y 0).isLt
  have h1 : (y 1).val < 384 := (y 1).isLt
  have h2 : (y 2).val < 56 := (y 2).isLt
  unfold k0_pay3
  dsimp only
  rw [shapeCast_apply _ _ _ (ix2 (y 1) (y 2) : S384x56.Idx) ?_]
  · show shapeCast S56x384 x _ (ix2 (y 2) (y 1) : S56x384.Idx) = _
    refine shapeCast_apply _ _ _ _ ?_
    rw [Shape.rowMajor_val_two, Shape.rowMajor_val_three]
    show ((y 2).val / 8 * 8 + (y 2).val % 8) * 384 + (y 1).val = (y 2).val * 384 + (y 1).val
    omega
  · rw [Shape.rowMajor_val_two, Shape.rowMajor_val_three]
    show (y 1).val * 56 + (y 2).val = ((y 0).val * 384 + (y 1).val) * 56 + (y 2).val
    omega

/-- What the body leaves of a window's buffer at a point. -/
def aft (t : Fin cfg0.N) : (w : Fin cfg0.W) → (Y X : (cfg0.win w).block.Idx → Elt Ideal (cfg0.win w).elt) → Prop
  | ⟨0, _⟩, Y, X => X = Y
  | ⟨1, _⟩, Y, X => X = Y
  | ⟨2, _⟩, Y, X => X = Y
  | ⟨3, _⟩, Y, X => X = Y
  | ⟨4, _⟩, Y, X => X = Y
  | ⟨5, _⟩, Y, X => X = Y
  | ⟨6, _⟩, _, X => ∀ y : S1x384x1024.Idx, X y = OS m c (t.val / 7) (t.val % 7) (y 1).val ((y 2).val / 128) ((y 2).val % 128)
  | ⟨7, _⟩, _, X => t.val % 7 = 6 → ∀ y : S1x384x56.Idx, X y = LS m c (t.val / 7) ((y 2).val / 8) (y 1).val ((y 2).val % 8)
  | ⟨_ + 8, h⟩, _, _ => absurd h (Nat.not_lt.2 (Nat.le_add_left _ _))

/-- What the scratch buffers hold before a point: the bias table once it is built; the log-sum-exp rows of the batch
    row's earlier groups. -/
def Φv (n : ℕ) : sProp 𝕄 :=
  iprop(((∃ X : S6x480x128.Idx → EReal, ⌜0 < n → ∀ y, X y = G10 y⌝ ∗ owns (c : Thread nD τ) (Memref.whole cc0_scratch0) fullShare X)
    ∗ (∃ X, owns (c : Thread nD τ) (Memref.whole cc0_scratch1) fullShare X) ∗ (∃ X, owns (c : Thread nD τ) (Memref.whole cc0_scratch2) fullShare X)
    ∗ (∃ X : S7x8x384.Idx → EReal, ⌜∀ y : S7x8x384.Idx, (y 0).val < n % 7 → X y = LS m c (n / 7) (y 0).val (y 2).val (y 1).val⌝ ∗ owns (c : Thread nD τ) (Memref.whole cc0_scratch3) fullShare X)
    ∗ (∃ X, owns (c : Thread nD τ) (Memref.whole cc0_scratch4) fullShare X)) ∗ ∃ r, prngReg c r)

/-- The proof data with the values followed. -/
def rdatV (c : Dev nD) : RDat τ (Elt Ideal) Unit ℕ (UR sig nD τ) ℕ cfg0 c where
  A w := V m c (arrRef spec0 w)
  after w t Y X := aft m c t w Y X
  Φ t := Φv m c t.val
  q _ := fullShare
  owed _ := 0

theorem hinV : Pipeline.ΦA spec0 c ⊢ (rdatV m c).Φ 0 := by
  show Pipeline.ΦA spec0 c ⊢ Φv m c 0
  unfold Pipeline.ΦA Φv
  rw [scopedRest0_eq]
  simp only [← owns_whole]
  iintro ⟨⟨⟨%g0, S0⟩, ⟨%g1, S1⟩, ⟨%g2, S2⟩, ⟨%g3, S3⟩, ⟨%g4, S4⟩⟩, Hg⟩
  isplitl [S0 S1 S2 S3 S4]
  · isplitl [S0]
    · iexists _; isplitr; swap; · iexact S0
      ipureintro; exact fun h => absurd h (Nat.lt_irrefl 0)
    isplitl [S1]; · iexists _; iexact S1
    isplitl [S2]; · iexists _; iexact S2
    isplitl [S3]
    · iexists _; isplitr; swap; · iexact S3
      ipureintro; exact fun y h => absurd h (Nat.not_lt_zero _)
    iexists _; iexact S4
  iexact Hg

theorem houtV : (rdatV m c).Φ (Fin.last cfg0.N) ⊢ Pipeline.ΦA spec0 c := by
  show Φv m c (Fin.last cfg0.N).val ⊢ Pipeline.ΦA spec0 c
  unfold Pipeline.ΦA Φv
  rw [scopedRest0_eq]
  simp only [← owns_whole]
  iintro ⟨⟨⟨%g0, -, S0⟩, ⟨%g1, S1⟩, ⟨%g2, S2⟩, ⟨%g3, -, S3⟩, ⟨%g4, S4⟩⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hg

section point
variable (t : Fin cfg0.N)
  (f0 : BufTy.Contents (Elt Ideal) (win0_0.stage (cfg0.slots t 0)).view.ty) (f1 : BufTy.Contents (Elt Ideal) (win0_1.stage (cfg0.slots t 1)).view.ty) (f2 : BufTy.Contents (Elt Ideal) (win0_2.stage (cfg0.slots t 2)).view.ty)
  (f3 : BufTy.Contents (Elt Ideal) (win0_3.stage (cfg0.slots t 3)).view.ty) (f4 : BufTy.Contents (Elt Ideal) (win0_4.stage (cfg0.slots t 4)).view.ty) (f5 : BufTy.Contents (Elt Ideal) (win0_5.stage (cfg0.slots t 5)).view.ty)
  (d0 : BufTy.Contents (Elt Ideal) (Memref.whole cc0_scratch0).view.ty)
  (h0 : (win0_0.stage (cfg0.slots t 0)).view.read (Elt Ideal) f0 = iblk m c 0 t) (h1 : (win0_1.stage (cfg0.slots t 1)).view.read (Elt Ideal) f1 = iblk m c 1 t) (h2 : (win0_2.stage (cfg0.slots t 2)).view.read (Elt Ideal) f2 = iblk m c 2 t)
  (h3 : (win0_3.stage (cfg0.slots t 3)).view.read (Elt Ideal) f3 = iblk m c 3 t) (h4 : (win0_4.stage (cfg0.slots t 4)).view.read (Elt Ideal) f4 = iblk m c 4 t) (h5 : (win0_5.stage (cfg0.slots t 5)).view.read (Elt Ideal) f5 = iblk m c 5 t)
  (hd : 0 < t.val → ∀ y, (Memref.whole cc0_scratch0).view.read (Elt Ideal) d0 y = G10 y)

include hd in
/-- After the guarded build the bias table's buffer holds the table. -/
theorem bias_at (y) : (Memref.whole cc0_scratch0).view.read (Elt Ideal) (biasAfter c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0) y = G10 y := by
  unfold biasAfter
  split
  · exact table_read ..
  · next h => exact hd (Nat.pos_of_ne_zero fun e => h ((c1iff t).2 e)) y

include h3 in
theorem cq (s hl d : ℕ) : codeOf (win0_3.stage (cfg0.slots t 3)) f3 s hl d = codeA (V m c main_v0) (t.val / 7) (t.val % 7) s hl d := by
  rw [← code3, ← h3]; unfold codeOf blockOf; rw [View.readAt_full]
include h4 in
theorem ck (s hl d : ℕ) : codeOf (win0_4.stage (cfg0.slots t 4)) f4 s hl d = codeA (V m c main_v1) (t.val / 7) (t.val % 7) s hl d := by
  rw [← code4, ← h4]; unfold codeOf blockOf; rw [View.readAt_full]
include h5 in
theorem cv (s hl d : ℕ) : codeOf (win0_5.stage (cfg0.slots t 5)) f5 s hl d = codeA (V m c main_v2) (t.val / 7) (t.val % 7) s hl d := by
  rw [← code5, ← h5]; unfold codeOf blockOf; rw [View.readAt_full]
include h0 h1 in
theorem ccs (hl : ℕ) : csAt (grid0.coords t) (win0_0.stage (cfg0.slots t 0)) (win0_1.stage (cfg0.slots t 1)) f0 f1 hl
    = csOf (sc (V m c main_arg3) (t.val / 7) (8 * (t.val % 7) + hl)) (sc (V m c main_arg4) (t.val / 7) (8 * (t.val % 7) + hl)) := by
  unfold csAt; rw [co0, co1, ← sc0 m c t, ← sc1 m c t, ← h0, ← h1]; rfl
include h2 in
theorem cvs (hl : ℕ) : vsAt (grid0.coords t) (win0_2.stage (cfg0.slots t 2)) f2 hl = sc (V m c main_arg5) (t.val / 7) (8 * (t.val % 7) + hl) := by
  unfold vsAt; rw [co0, co1, ← sc2 m c t, ← h2]; rfl

include h0 h1 h2 h3 h4 h5 hd in
/-- The output block the body leaves. -/
theorem out_at_pt (f6 : BufTy.Contents (Elt Ideal) (win0_6.stage (cfg0.slots t 6)).view.ty) (y : S1x384x1024.Idx) :
    (win0_6.stage (cfg0.slots t 6)).view.read (Elt Ideal) ((win0_6.stage (cfg0.slots t 6)).view.writes (Elt Ideal) f6 (bodyRun.sl.H8_24 (F := Ideal) (grid0.coords t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (Memref.whole cc0_scratch0) (Memref.whole cc0_scratch1) (Memref.whole cc0_scratch2) (Memref.whole cc0_scratch4) f0 f1 f2 f3 f4 f5 (biasAfter c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0))) y
      = OS m c (t.val / 7) (t.val % 7) (y 1).val ((y 2).val / 128) ((y 2).val % 128) := by
  rw [out_read (hf := bias_at c t d0 hd)]
  unfold OS
  rw [show codeOf (win0_4.stage (cfg0.slots t 4)) f4 = _ from funext fun s => funext fun hl => funext fun d => ck m c t f4 h4 s hl d,
    show codeOf (win0_3.stage (cfg0.slots t 3)) f3 = _ from funext fun s => funext fun hl => funext fun d => cq m c t f3 h3 s hl d,
    show codeOf (win0_5.stage (cfg0.slots t 5)) f5 = _ from funext fun s => funext fun hl => funext fun d => cv m c t f5 h5 s hl d,
    show csAt (grid0.coords t) (win0_0.stage (cfg0.slots t 0)) (win0_1.stage (cfg0.slots t 1)) f0 f1 = _ from funext fun hl => ccs m c t f0 f1 h0 h1 hl,
    show vsAt (grid0.coords t) (win0_2.stage (cfg0.slots t 2)) f2 = _ from funext fun hl => cvs m c t f2 h2 hl, co1]

include h0 h1 h3 h4 hd in
/-- The log-sum-exp rows after the body. -/
theorem rows_at_pt (g3 : BufTy.Contents (Elt Ideal) (Memref.whole cc0_scratch3).view.ty)
    (hg : ∀ y : S7x8x384.Idx, (y 0).val < t.val % 7 → (Memref.whole cc0_scratch3).view.read (Elt Ideal) g3 y = LS m c (t.val / 7) (y 0).val (y 2).val (y 1).val)
    (y : S7x8x384.Idx) (hy : (y 0).val < t.val % 7 + 1) :
    (Memref.whole cc0_scratch3).view.read (Elt Ideal) ((Memref.whole cc0_scratch3).view.writes (Elt Ideal) g3 (bodyRun.sl.H13_48 (F := Ideal) (grid0.coords t) (win0_0.stage (cfg0.slots t 0)) (win0_1.stage (cfg0.slots t 1)) (win0_3.stage (cfg0.slots t 3)) (win0_4.stage (cfg0.slots t 4)) (win0_5.stage (cfg0.slots t 5)) (Memref.whole cc0_scratch0) (Memref.whole cc0_scratch1) (Memref.whole cc0_scratch2) (Memref.whole cc0_scratch4) f0 f1 f3 f4 f5 (biasAfter c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0))) y = LS m c (t.val / 7) (y 0).val (y 2).val (y 1).val := by
  by_cases h : (y 0).val = t.val % 7
  · rw [lse_read (hf := bias_at c t d0 hd) (h0 := h.trans (co1 t).symm)]
    unfold LS
    rw [show codeOf (win0_4.stage (cfg0.slots t 4)) f4 = _ from funext fun s => funext fun hl => funext fun d => ck m c t f4 h4 s hl d,
      show codeOf (win0_3.stage (cfg0.slots t 3)) f3 = _ from funext fun s => funext fun hl => funext fun d => cq m c t f3 h3 s hl d,
      show csAt (grid0.coords t) (win0_0.stage (cfg0.slots t 0)) (win0_1.stage (cfg0.slots t 1)) f0 f1 = _ from funext fun hl => ccs m c t f0 f1 h0 h1 hl, co1, h]
  · rw [lse_keep (h0 := fun e => h (e.trans (co1 t)))]
    exact hg y (by omega)

include h0 h1 h3 h4 hd in
/-- The log-sum-exp block the body leaves at a batch row's last group. -/
theorem lse_at_pt (f7 : BufTy.Contents (Elt Ideal) (win0_7.stage (cfg0.slots t 7)).view.ty) (g3 : BufTy.Contents (Elt Ideal) (Memref.whole cc0_scratch3).view.ty)
    (hg : ∀ y : S7x8x384.Idx, (y 0).val < t.val % 7 → (Memref.whole cc0_scratch3).view.read (Elt Ideal) g3 y = LS m c (t.val / 7) (y 0).val (y 2).val (y 1).val)
    (h6 : t.val % 7 = 6) (y : S1x384x56.Idx) :
    (win0_7.stage (cfg0.slots t 7)).view.read (Elt Ideal) (lseAfter (grid0.coords t) (win0_7.stage (cfg0.slots t 7)) (Memref.whole cc0_scratch3) f7 ((Memref.whole cc0_scratch3).view.writes (Elt Ideal) g3 (bodyRun.sl.H13_48 (F := Ideal) (grid0.coords t) (win0_0.stage (cfg0.slots t 0)) (win0_1.stage (cfg0.slots t 1)) (win0_3.stage (cfg0.slots t 3)) (win0_4.stage (cfg0.slots t 4)) (win0_5.stage (cfg0.slots t 5)) (Memref.whole cc0_scratch0) (Memref.whole cc0_scratch1) (Memref.whole cc0_scratch2) (Memref.whole cc0_scratch4) f0 f1 f3 f4 f5 (biasAfter c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0)))) y
      = LS m c (t.val / 7) ((y 2).val / 8) (y 1).val ((y 2).val % 8) := by
  unfold lseAfter
  have h2 : (y 2).val < 56 := (y 2).isLt
  rw [dif_pos ((c2iff t).2 h6), View.read_writes_full, pay3, View.readAt_full]
  exact rows_at_pt m c t f0 f1 f3 f4 f5 d0 h0 h1 h3 h4 hd g3 hg _ (by show (y 2).val / 8 < _; omega)

end point

/-- What the body is called with at a point, the windows' buffers at the contents `Y`, -/
def vPre (t : Fin cfg0.N) (Y : (w : Fin cfg0.W) → (cfg0.win w).block.Idx → Elt Ideal (cfg0.win w).elt) : sProp 𝕄 :=
  iprop((rdatV m c).Φ t.castSucc ∗ (rdatV m c).owesAt () t.castSucc
    ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7))

/-- and what it returns. -/
def vPost (t : Fin cfg0.N) (Y : (w : Fin cfg0.W) → (cfg0.win w).block.Idx → Elt Ideal (cfg0.win w).elt) : sProp 𝕄 :=
  iprop((rdatV m c).Φ t.succ ∗ (rdatV m c).owesAt () t.succ
    ∗ (∃ X, ⌜aft m c t 0 (Y 0) X⌝ ∗ owns (c : Thread nD τ) (win0_0.stage (cfg0.slots t 0)) fullShare X) ∗ (∃ X, ⌜aft m c t 1 (Y 1) X⌝ ∗ owns (c : Thread nD τ) (win0_1.stage (cfg0.slots t 1)) fullShare X) ∗ (∃ X, ⌜aft m c t 2 (Y 2) X⌝ ∗ owns (c : Thread nD τ) (win0_2.stage (cfg0.slots t 2)) fullShare X) ∗ (∃ X, ⌜aft m c t 3 (Y 3) X⌝ ∗ owns (c : Thread nD τ) (win0_3.stage (cfg0.slots t 3)) fullShare X) ∗ (∃ X, ⌜aft m c t 4 (Y 4) X⌝ ∗ owns (c : Thread nD τ) (win0_4.stage (cfg0.slots t 4)) fullShare X) ∗ (∃ X, ⌜aft m c t 5 (Y 5) X⌝ ∗ owns (c : Thread nD τ) (win0_5.stage (cfg0.slots t 5)) fullShare X) ∗ (∃ X, ⌜aft m c t 6 (Y 6) X⌝ ∗ owns (c : Thread nD τ) (win0_6.stage (cfg0.slots t 6)) fullShare X) ∗ (∃ X, ⌜aft m c t 7 (Y 7) X⌝ ∗ owns (c : Thread nD τ) (win0_7.stage (cfg0.slots t 7)) fullShare X))

/-- The body at any point. -/
theorem sound_bodyV (t : Fin cfg0.N) (Y : (w : Fin cfg0.W) → (cfg0.win w).block.Idx → Elt Ideal (cfg0.win w).elt)
    (h0 : Y 0 = iblk m c 0 t) (h1 : Y 1 = iblk m c 1 t) (h2 : Y 2 = iblk m c 2 t) (h3 : Y 3 = iblk m c 3 t) (h4 : Y 4 = iblk m c 4 t) (h5 : Y 5 = iblk m c 5 t) :
    vPre m c t Y ⊢ wp Idealize.ShloMosaic.frame (wpE (defs₀ (F := Ideal)) Variants.none c none) Set.univ (bodyAt0 t) (fun _ => vPost m c t Y) := by
  unfold vPre vPost bodyAt0
  rw [show (rdatV m c).owesAt () t.succ = (rdatV m c).owesAt () t.castSucc from rfl,
    show (rdatV m c).Φ t.castSucc = Φv m c t.val from rfl, show (rdatV m c).Φ t.succ = Φv m c (t.val + 1) from rfl]
  unfold Φv
  unfold owns
  iintro ⟨⟨⟨⟨%g0, %k0, %d0, %e0, S0⟩, ⟨%g1, %d1, -, S1⟩, ⟨%g2, %d2, -, S2⟩, ⟨%g3, %k3, %d3, %e3, S3⟩, ⟨%g4, %d4, -, S4⟩⟩, Hg⟩, Ho, ⟨%f0, %r0, H0⟩, ⟨%f1, %r1, H1⟩, ⟨%f2, %r2, H2⟩, ⟨%f3, %r3, H3⟩, ⟨%f4, %r4, H4⟩, ⟨%f5, %r5, H5⟩, ⟨%f6, -, H6⟩, ⟨%f7, -, H7⟩⟩
  have hd : 0 < t.val → ∀ y, (Memref.whole cc0_scratch0).view.read (Elt Ideal) d0 y = G10 y := fun h y => by rw [e0]; exact k0 h y
  have hg : ∀ y : S7x8x384.Idx, (y 0).val < t.val % 7 → (Memref.whole cc0_scratch3).view.read (Elt Ideal) d3 y = LS m c (t.val / 7) (y 0).val (y 2).val (y 1).val := fun y h => by rw [e3]; exact k3 y h

  iapply ((bodyRun (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) f0 f1 f2 f3 f4 f5
    (biasAfter c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0)).2 f6 f7 d0 d1 d2 d3 d4 _ (bias_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) d0)
    (fun h => by unfold biasAfter; rw [dif_neg h]))

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, ⟨%e1, S1⟩, ⟨%e2, S2⟩, S3, ⟨%e4, S4⟩⟩
  isplitl [S0 S1 S2 S3 S4 Hg]
  · isplitl [S0 S1 S2 S3 S4]
    · isplitl [S0]
      · iexists _; isplitr; swap
        · iexists _; isplitr; swap; · iexact S0
          ipureintro; rfl
        ipureintro; exact fun _ y => bias_at c t d0 hd y
      isplitl [S1]
      · iexists _, _; isplitr; swap; · iexact S1
        ipureintro; rfl
      isplitl [S2]
      · iexists _, _; isplitr; swap; · iexact S2
        ipureintro; rfl
      isplitl [S3]
      · iexists _; isplitr; swap
        · iexists _; isplitr; swap; · iexact S3
          ipureintro; rfl
        ipureintro
        intro y hy
        have ht := tlt t
        have q1 : (t.val + 1) / 7 = t.val / 7 := by omega
        rw [q1]
        exact rows_at_pt m c t f0 f1 f3 f4 f5 d0 (r0.trans h0) (r1.trans h1) (r3.trans h3) (r4.trans h4) hd d3 hg y (by omega)
      iexists _, _; isplitr; swap; · iexact S4
      ipureintro; rfl
    iexact Hg
  isplitl [Ho]; · iexact Ho
  isplitl [H0]
  · iexists _; isplitr; swap
    · iexists _; isplitr; swap; · iexact H0
      ipureintro; rfl
    ipureintro; exact r0
  isplitl [H1]
  · iexists _; isplitr; swap
    · iexists _; isplitr; swap; · iexact H1
      ipureintro; rfl
    ipureintro; exact r1
  isplitl [H2]
  · iexists _; isplitr; swap
    · iexists _; isplitr; swap; · iexact H2
      ipureintro; rfl
    ipureintro; exact r2
  isplitl [H3]
  · iexists _; isplitr; swap
    · iexists _; isplitr; swap; · iexact H3
      ipureintro; rfl
    ipureintro; exact r3
  isplitl [H4]
  · iexists _; isplitr; swap
    · iexists _; isplitr; swap; · iexact H4
      ipureintro; rfl
    ipureintro; exact r4
  isplitl [H5]
  · iexists _; isplitr; swap
    · iexists _; isplitr; swap; · iexact H5
      ipureintro; rfl
    ipureintro; exact r5
  isplitl [H6]
  · iexists _; isplitr; swap
    · iexists _; isplitr; swap; · iexact H6
      ipureintro; rfl
    ipureintro; exact fun y => out_at_pt m c t f0 f1 f2 f3 f4 f5 d0 (r0.trans h0) (r1.trans h1) (r2.trans h2) (r3.trans h3) (r4.trans h4) (r5.trans h5) hd f6 y
  iexists _; isplitr; swap
  · iexists _; isplitr; swap; · iexact H7
    ipureintro; rfl
  ipureintro; exact fun h6 y => lse_at_pt m c t f0 f1 f3 f4 f5 d0 (r0.trans h0) (r1.trans h1) (r3.trans h3) (r4.trans h4) hd f7 d3 hg h6 y

theorem find0 (t : Fin cfg0.N) (X) (h : (rdatV m c).Finds 0 t X) : X = iblk m c 0 t := by
  obtain ⟨d, hd⟩ := (rdatV m c).finds_in_eq_fetched 0 rfl (fun _ _ _ => rfl) (fun t Y X h => h) t X h
  exact hd
theorem find1 (t : Fin cfg0.N) (X) (h : (rdatV m c).Finds 1 t X) : X = iblk m c 1 t := by
  obtain ⟨d, hd⟩ := (rdatV m c).finds_in_eq_fetched 1 rfl (fun _ _ _ => rfl) (fun t Y X h => h) t X h
  exact hd
theorem find2 (t : Fin cfg0.N) (X) (h : (rdatV m c).Finds 2 t X) : X = iblk m c 2 t := by
  obtain ⟨d, hd⟩ := (rdatV m c).finds_in_eq_fetched 2 rfl (fun _ _ _ => rfl) (fun t Y X h => h) t X h
  exact hd
theorem find3 (t : Fin cfg0.N) (X) (h : (rdatV m c).Finds 3 t X) : X = iblk m c 3 t := by
  obtain ⟨d, hd⟩ := (rdatV m c).finds_in_eq_fetched 3 rfl (fun _ _ _ => rfl) (fun t Y X h => h) t X h
  exact hd
theorem find4 (t : Fin cfg0.N) (X) (h : (rdatV m c).Finds 4 t X) : X = iblk m c 4 t := by
  obtain ⟨d, hd⟩ := (rdatV m c).finds_in_eq_fetched 4 rfl (fun _ _ _ => rfl) (fun t Y X h => h) t X h
  exact hd
theorem find5 (t : Fin cfg0.N) (X) (h : (rdatV m c).Finds 5 t X) : X = iblk m c 5 t := by
  obtain ⟨d, hd⟩ := (rdatV m c).finds_in_eq_fetched 5 rfl (fun _ _ _ => rfl) (fun t Y X h => h) t X h
  exact hd

/-- The body's obligation, at every point. -/
theorem body_obligationV : (rdatV m c).BodyObligation (defs₀ (F := Ideal)) Variants.none () Set.univ := fun t Y hY => by
  rw [bigSep_W0, bigSep_W0, defs₀_row]
  exact triple_restated (sound_bodyV m c t Y (find0 m c t _ (hY 0)) (find1 m c t _ (hY 1)) (find2 m c t _ (hY 2)) (find3 m c t _ (hY 3)) (find4 m c t _ (hY 4)) (find5 m c t _ (hY 5))) rfl .rfl fun _ => .rfl

set_option backward.isDefEq.respectTransparency.types false in
/-- The run, with what the two result arrays hold at its end. -/
theorem runV : θ_run defs (onTc (τ := τ) (main (F := Ideal))) ⟨m, fun _ => 0, ρ⟩ (RDat.FramePost cfg0 (rdatV m) (V m)) :=
  Pipeline.RDat.θ_run_frame_track cfgs (0 : Fin 1) launch0 defs₀ Variants.none (rdatV m) m ρ main
    (hbody := body_obligationV m) (hshare := fun c => (rdatV m c).share_full fun _ => rfl)
    (howed := fun _ _ => rfl) (V := V m) (hmain := hmain m Variants.none) (hA := fun _ _ => rfl) (hin := hinV m) (hout := houtV m)

theorem out_arr {r : PUnit × MemSt nD τ sig (Elt Ideal)} (h : RDat.FramePost cfg0 (rdatV m) (V m) r) (c : Dev nD) :
    r.2.mem ((c.tc : Thread nD τ).loc main_v3_0) = (fun y : S4x384x7168.Idx => OS m c (y 0).val ((y 2).val / 1024) (y 1).val ((y 2).val % 1024 / 128) ((y 2).val % 128)) := by
  obtain ⟨after, hL, hA⟩ := h.exists_exact c
  refine (hA 6).trans ?_
  refine ((rdatV m c).withAfter after).arrAt_eq_of_covers 6 _ (by decide +kernel) fun t hf y => ?_
  obtain ⟨_, -, ha⟩ := hL 6 t hf
  have ht := tlt t
  have hy2 : (y 2).val < 1024 := (y 2).isLt
  have hy0 : (y 0).val < 1 := (y 0).isLt
  refine (ha _).trans ?_
  blk_simp [ind6]
  show OS m c (t.val / 7) (t.val % 7) (y 1).val ((y 2).val / 128) ((y 2).val % 128) = _
  rw [show (t.val % 7 * 1024 + (y 2).val) / 1024 = t.val % 7 by omega, show (t.val % 7 * 1024 + (y 2).val) % 1024 / 128 = (y 2).val / 128 by omega,
    show (t.val % 7 * 1024 + (y 2).val) % 128 = (y 2).val % 128 by omega]

theorem lse_arr {r : PUnit × MemSt nD τ sig (Elt Ideal)} (h : RDat.FramePost cfg0 (rdatV m) (V m) r) (c : Dev nD) :
    r.2.mem ((c.tc : Thread nD τ).loc main_v3_1) = (fun y : S4x384x56.Idx => LS m c (y 0).val ((y 2).val / 8) (y 1).val ((y 2).val % 8)) := by
  obtain ⟨after, hL, hA⟩ := h.exists_exact c
  refine (hA 7).trans ?_
  refine ((rdatV m c).withAfter after).arrAt_eq_of_covers 7 _ (by decide +kernel) fun t hf y => ?_
  obtain ⟨_, -, ha⟩ := hL 7 t hf
  have ht := tlt t
  refine (ha ((flush0_7 t).1 hf) _).trans ?_
  blk_simp [ind7]

end Cert.KernelIdeal.Hand

end
-- ==== Proof.Final.lean ====
module

public import proofs.«01_k».proof.Proof.Bridge
public import proofs.«01_k».proof.Proof.Pre
public import proofs.«01_k».proof.Proof.ReferenceIdeal.RefRun
public import proofs.«01_k».proof.Proof.KernelIdeal.RunVal

@[expose] public section

/-! # The two runs' results are equal, element by element -/

set_option maxRecDepth 16384
set_option maxHeartbeats 1000000

noncomputable section

namespace Cert.Final

open Cert.KernelIdeal.Hand Cert.ReferenceIdeal.Hand Cert.Pre_operands_valid.Hand Cert.Bridge
open Idealize.ShloMosaic Idealize.ShloMosaic.TcCoe Idealize.SL.Sem Idealize.ShloMosaic.Tactic

theorem scale_real : ∃ r : ℝ, Ideal.ofBits FTy.f32 1035273459#32 = (r : EReal) := by
  simp [Ideal.ofBits, Ideal.ieee]
  exact ⟨_, rfl⟩

theorem scores (q : Fin 128 → EReal) (k : Fin 384 → Fin 128 → EReal) (a b : EReal) (hq : ∀ d, ∃ r : ℝ, q d = (r : EReal)) (hk : ∀ j d, ∃ r : ℝ, k j d = (r : EReal))
    (ha : ∃ r : ℝ, a = (r : EReal)) (hb : ∃ r : ℝ, b = (r : EReal)) :
    ∃ σ : Fin 384 → ℝ, ∀ j, (∑ d, q d * k j d) * (a * b * Ideal.ofBits FTy.f32 1035273459#32) = (σ j : EReal)
      ∧ (∑ d, k j d * q d) * csOf a b = ((σ j * (Real.log 2)⁻¹ : ℝ) : EReal) := by
  choose q' hq using hq
  choose k' hk using hk
  obtain ⟨a', rfl⟩ := ha
  obtain ⟨b', rfl⟩ := hb
  obtain ⟨c', hc⟩ := scale_real
  have e : ∀ j, ∑ d, k j d * q d = ∑ d, q d * k j d := fun j => Finset.sum_congr rfl fun d _ => mul_comm _ _
  refine ⟨fun j => (∑ d, q' d * k' j d) * (a' * b' * c'), fun j => ?_⟩
  unfold csOf
  rw [e, hc]
  simp only [hq, hk, ← EReal.coe_mul, ← Cert.KernelIdeal.Hand.coe_sum]
  refine ⟨trivial, ?_⟩
  congr 1; ring

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel program's operands. -/
abbrev K0 : Cert.KernelIdeal.S4x384x56x128.Idx → BitVec 8 := m ((c.tc : Thread Cert.KernelIdeal.nD Cert.KernelIdeal.τ).loc Cert.KernelIdeal.main_arg0)
abbrev K1 : Cert.KernelIdeal.S4x384x56x128.Idx → BitVec 8 := m ((c.tc : Thread Cert.KernelIdeal.nD Cert.KernelIdeal.τ).loc Cert.KernelIdeal.main_arg1)
abbrev K2 : Cert.KernelIdeal.S4x384x56x128.Idx → BitVec 8 := m ((c.tc : Thread Cert.KernelIdeal.nD Cert.KernelIdeal.τ).loc Cert.KernelIdeal.main_arg2)
abbrev K3 : Cert.KernelIdeal.S4x56.Idx → EReal := m ((c.tc : Thread Cert.KernelIdeal.nD Cert.KernelIdeal.τ).loc Cert.KernelIdeal.main_arg3)
abbrev K4 : Cert.KernelIdeal.S4x56.Idx → EReal := m ((c.tc : Thread Cert.KernelIdeal.nD Cert.KernelIdeal.τ).loc Cert.KernelIdeal.main_arg4)
abbrev K5 : Cert.KernelIdeal.S4x56.Idx → EReal := m ((c.tc : Thread Cert.KernelIdeal.nD Cert.KernelIdeal.τ).loc Cert.KernelIdeal.main_arg5)

section kernel
open Cert.KernelIdeal Cert.KernelIdeal.Gen
abbrev u0 : S4x384x7x8x128.Idx → BitVec 8 := V m c main_v0
abbrev u1 : S4x384x7x8x128.Idx → BitVec 8 := V m c main_v1
abbrev u2 : S4x384x7x8x128.Idx → BitVec 8 := V m c main_v2
variable (b : Fin 4) (s : Fin 384) (g : Fin 7) (hl : Fin 8) (h : Fin 56) (d : Fin 128) (hh : h.val = 8 * g.val + hl.val)
include hh
theorem u0_at : u0 m c (ix5 b s g hl d) = K0 m c (ix4 b s h d) := by
  unfold u0
  simp only [V, List.flatten_cons, List.flatten_nil, List.append_nil]
  after_reads_at
  exact congrArg (fun x => K0 m c (ix4 b s x d)) (Fin.ext (by show g.val * 8 + hl.val = h.val; omega))
theorem u1_at : u1 m c (ix5 b s g hl d) = K1 m c (ix4 b s h d) := by
  unfold u1
  simp only [V, List.flatten_cons, List.flatten_nil, List.append_nil]
  after_reads_at
  exact congrArg (fun x => K1 m c (ix4 b s x d)) (Fin.ext (by show g.val * 8 + hl.val = h.val; omega))
theorem u2_at : u2 m c (ix5 b s g hl d) = K2 m c (ix4 b s h d) := by
  unfold u2
  simp only [V, List.flatten_cons, List.flatten_nil, List.append_nil]
  after_reads_at
  exact congrArg (fun x => K2 m c (ix4 b s x d)) (Fin.ext (by show g.val * 8 + hl.val = h.val; omega))
theorem c0_at : codeA (u0 m c) b g s hl d = dec (K0 m c (ix4 b s h d)) := by
  unfold codeA
  rw [dif_pos ⟨b.isLt, s.isLt, g.isLt, hl.isLt, d.isLt⟩]
  exact congrArg dec (u0_at m c b s g hl h d hh)
theorem c1_at : codeA (u1 m c) b g s hl d = dec (K1 m c (ix4 b s h d)) := by
  unfold codeA
  rw [dif_pos ⟨b.isLt, s.isLt, g.isLt, hl.isLt, d.isLt⟩]
  exact congrArg dec (u1_at m c b s g hl h d hh)
theorem c2_at : codeA (u2 m c) b g s hl d = dec (K2 m c (ix4 b s h d)) := by
  unfold codeA
  rw [dif_pos ⟨b.isLt, s.isLt, g.isLt, hl.isLt, d.isLt⟩]
  exact congrArg dec (u2_at m c b s g hl h d hh)
omit hh in
theorem sc_at (Y : S4x56.Idx → EReal) : sc Y b h = Y (ix2 b h) := by
  unfold sc
  rw [dif_pos ⟨b.isLt, h.isLt⟩]
end kernel

/-- The two programs' operands are the same. -/
structure Same : Prop where
  e0 : m' ((c.tc : Thread Cert.ReferenceIdeal.nD Cert.ReferenceIdeal.τ).loc Cert.ReferenceIdeal.main_arg0) = K0 m c
  e1 : m' ((c.tc : Thread Cert.ReferenceIdeal.nD Cert.ReferenceIdeal.τ).loc Cert.ReferenceIdeal.main_arg1) = K1 m c
  e2 : m' ((c.tc : Thread Cert.ReferenceIdeal.nD Cert.ReferenceIdeal.τ).loc Cert.ReferenceIdeal.main_arg2) = K2 m c
  e3 : m' ((c.tc : Thread Cert.ReferenceIdeal.nD Cert.ReferenceIdeal.τ).loc Cert.ReferenceIdeal.main_arg3) = K3 m c
  e4 : m' ((c.tc : Thread Cert.ReferenceIdeal.nD Cert.ReferenceIdeal.τ).loc Cert.ReferenceIdeal.main_arg4) = K4 m c
  e5 : m' ((c.tc : Thread Cert.ReferenceIdeal.nD Cert.ReferenceIdeal.τ).loc Cert.ReferenceIdeal.main_arg5) = K5 m c

variable (hs : Same m m' c) (hp : Cert.Pre_operands_valid.fn (F := Ideal) (K0 m c) (K1 m c) (K2 m c) (K3 m c) (K4 m c) (K5 m c) = fun _ => 1#1)
variable (b : Fin 4) (s : Fin 384) (g : Fin 7) (hl : Fin 8) (h : Fin 56) (d : Fin 128) (hh : h.val = 8 * g.val + hl.val)

/-- The kernel's scale of a head. -/
abbrev csK : ℕ → EReal := fun hl => csOf (sc (Cert.KernelIdeal.Gen.V m c Cert.KernelIdeal.main_arg3) b (8 * g + hl)) (sc (Cert.KernelIdeal.Gen.V m c Cert.KernelIdeal.main_arg4) b (8 * g + hl))
abbrev vsK : ℕ → EReal := fun hl => sc (Cert.KernelIdeal.Gen.V m c Cert.KernelIdeal.main_arg5) b (8 * g + hl)

include hh in
theorem csK_at : csK m c b g hl = csOf (K3 m c (ix2 b h)) (K4 m c (ix2 b h)) := by
  unfold csK
  rw [← hh, Cert.KernelIdeal.Gen.V_main_arg3, Cert.KernelIdeal.Gen.V_main_arg4, sc_at, sc_at]
include hh in
theorem vsK_at : vsK m c b g hl = K5 m c (ix2 b h) := by
  unfold vsK
  rw [← hh, Cert.KernelIdeal.Gen.V_main_arg5, sc_at]

include hs hp hh in
theorem score_eq : ∃ σ : Fin 384 → ℝ, (∀ j, score (W0 m' c) b h s j = (σ j : EReal))
    ∧ ∀ j : Fin 384, (∑ d : Fin 128, codeA (u1 m c) b g j.val hl d.val * codeA (u0 m c) b g s hl d.val) * csK m c b g hl = ((σ j * (Real.log 2)⁻¹ : ℝ) : EReal) := by
  obtain ⟨σ, hσ⟩ := scores (fun d => dec (K0 m c (ix4 b s h d))) (fun j d => dec (K1 m c (ix4 b j h d))) (K3 m c (ix2 b h)) (K4 m c (ix2 b h))
    (fun d => (at_elt _ _ _ _ _ _ hp b s h d).1.1) (fun j d => (at_elt _ _ _ _ _ _ hp b j h d).1.2)
    (at_elt _ _ _ _ _ _ hp b s h 0).2.1.1 (at_elt _ _ _ _ _ _ hp b s h 0).2.1.2
  refine ⟨σ, fun j => ?_, fun j => ?_⟩
  · unfold score
    rw [W_v0_0, W_v0_1, W_arg3, W_arg4]
    rw [hs.e0, hs.e1, hs.e3, hs.e4]
    exact (hσ j).1
  · rw [csK_at m c b g hl h hh]
    simp only [c1_at m c b j g hl h _ hh, c0_at m c b s g hl h _ hh]
    exact (hσ j).2

include hs hp hh in
theorem lse_final : (a_v76 (tail (W0 m' c))) (ix3 b s h) = LS m c b g s hl := by
  obtain ⟨σ, h1, h2⟩ := score_eq m m' c hs hp b s g hl h hh
  rw [ref_lse _ b h s σ h1 (W_lits m' c)]
  refine Eq.trans ?_ (lse_eq (codeA (u1 m c) b g) (codeA (u0 m c) b g) (csK m c b g) g hl s s.isLt σ h2).symm
  rw [hh]

include hs hp hh in
theorem out_final (e : Fin 7168) (he : e.val = 128 * h.val + d.val) : (a_v75 (tail (W0 m' c))) (ix3 b s e) = OS m c b g s hl d := by
  obtain ⟨σ, h1, h2⟩ := score_eq m m' c hs hp b s g hl h hh
  obtain ⟨v, hv⟩ := (at_elt _ _ _ _ _ _ hp b s h d).2.2
  rw [ref_out _ b h s d σ h1 (W_lits m' c) e he]
  refine Eq.trans ?_ (out_eq (codeA (u1 m c) b g) (codeA (u0 m c) b g) (codeA (u2 m c) b g) (csK m c b g) (vsK m c b g) g hl s s.isLt σ h2 d v
    ((vsK_at m c b g hl h hh).trans hv) (fun j => by rw [c2_at m c b j g hl h d hh]; exact dec_ne_top _)).symm
  rw [W_v0_2, W_arg5, hs.e2, hs.e5, hv, hh]
  simp only [c2_at m c b _ g hl h d hh]

end Cert.Final

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_operands_valid
public import proofs.«01_k».proof.Proof.Gen.ReferenceIdeal.Frame
public import proofs.«01_k».proof.Proof.Kernel.FrameRun
public import proofs.«01_k».proof.Proof.KernelIdeal.FrameRun
public import proofs.«01_k».proof.Proof.Final
public import Idealize.ShloMosaic.Adequacy
public import Idealize.ShloMosaic.Init

@[expose] public section

noncomputable section

namespace Cert.Proof

open Idealize.ShloMosaic Idealize.SL.Sem

/-- The four constants the ideal program names denote the reals they name. -/
theorem preserves : Cert.preserves_Kernel_KernelIdeal :=
  ⟨IdealRules.named_const.statement Cert.KernelIdeal.κ "log2_3" .f32 0x3FCAE00D#32 (((Real.log 3) * (Real.log 2)⁻¹ : ℝ) : EReal) rfl,
   IdealRules.named_const.statement Cert.KernelIdeal.κ "mask" .f32 0xF149F2CA#32 ⊥ rfl,
   IdealRules.named_const.statement Cert.KernelIdeal.κ "log2_e" .f32 0x3FB8AA3B#32 (((Real.log 2)⁻¹ : ℝ) : EReal) rfl,
   IdealRules.named_const.statement Cert.KernelIdeal.κ "ln_2" .f32 0x3F317218#32 ((Real.log 2 : ℝ) : EReal) rfl⟩

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD) (hs : Cert.Final.Same m m' c)
variable (hp : Cert.Pre_operands_valid.fn (F := Ideal) (Cert.Final.K0 m c) (Cert.Final.K1 m c) (Cert.Final.K2 m c) (Cert.Final.K3 m c) (Cert.Final.K4 m c) (Cert.Final.K5 m c) = fun _ => 1#1)

/-- What the kernel leaves in its two results. -/
def outs : Cert.KernelIdeal.S4x384x7168.Idx → EReal := fun y => Cert.KernelIdeal.Hand.OS m c (y 0).val ((y 2).val / 1024) (y 1).val ((y 2).val % 1024 / 128) ((y 2).val % 128)
def lses : Cert.KernelIdeal.S4x384x56.Idx → EReal := fun y => Cert.KernelIdeal.Hand.LS m c (y 0).val ((y 2).val / 8) (y 1).val ((y 2).val % 8)

include hs hp in
theorem out_same : Cert.ReferenceIdeal.Hand.a_v75 (Cert.ReferenceIdeal.Hand.tail (Cert.ReferenceIdeal.Hand.W0 m' c)) = outs m c := by
  funext y
  have h2 : (y 2).val < 7168 := (y 2).isLt
  refine Eq.trans (congrArg _ (eq_ix3 y)) ?_
  exact Cert.Final.out_final m m' c hs hp (y 0) (y 1) ⟨(y 2).val / 1024, by omega⟩ ⟨(y 2).val % 1024 / 128, by omega⟩ ⟨(y 2).val / 128, by omega⟩ ⟨(y 2).val % 128, by omega⟩
    (by show (y 2).val / 128 = 8 * ((y 2).val / 1024) + (y 2).val % 1024 / 128; omega) (y 2) (by show (y 2).val = 128 * ((y 2).val / 128) + (y 2).val % 128; omega)

include hs hp in
theorem lse_same : Cert.ReferenceIdeal.Hand.a_v76 (Cert.ReferenceIdeal.Hand.tail (Cert.ReferenceIdeal.Hand.W0 m' c)) = lses m c := by
  funext y
  have h2 : (y 2).val < 56 := (y 2).isLt
  refine Eq.trans (congrArg _ (eq_ix3 y)) ?_
  exact Cert.Final.lse_final m m' c hs hp (y 0) (y 1) ⟨(y 2).val / 8, by omega⟩ ⟨(y 2).val % 8, by omega⟩ (y 2)
    (by show (y 2).val = 8 * ((y 2).val / 8) + (y 2).val % 8; omega)

end

/-- Equal results of the two runs, from operands that are valid and the same. -/
theorem algebraic : Cert.algebraic_KernelIdeal_ReferenceIdeal_pre_operands_valid := fun m g m' g' hp hin => by
  have hs : ∀ c, Cert.Final.Same m m' c := fun c => ⟨(hin c).1, (hin c).2.1, (hin c).2.2.1, (hin c).2.2.2.1, (hin c).2.2.2.2.1, (hin c).2.2.2.2.2⟩
  refine ⟨fun c => outs m c, fun c => lses m c, ?_, ?_⟩
  · refine (θ_run _ _ _).mono (fun r h c => ?_) (θ_run_and (Cert.KernelIdeal.Hand.runV m g) (Cert.KernelIdeal.Hand.frame m g))
    exact ⟨Cert.KernelIdeal.Hand.out_arr m h.1 c, Cert.KernelIdeal.Hand.lse_arr m h.1 c, h.2.1 c⟩
  · refine (θ_run _ _ _).mono (fun r h c => ?_) (θ_run_and (Cert.ReferenceIdeal.Gen.run_main m' g') (Cert.ReferenceIdeal.Gen.frame m' g'))
    obtain ⟨e1, e2⟩ := Cert.ReferenceIdeal.Hand.tail_run m' c h.1
    exact ⟨e1.trans (out_same m m' c (hs c) (hp c)), e2.trans (lse_same m m' c (hs c) (hp c)), h.2.1 c⟩

theorem claim : Cert.Claim :=
  ⟨Cert.Kernel.Gen.facts, Cert.KernelIdeal.Gen.facts, Cert.ReferenceIdeal.Gen.facts, Cert.Pre_operands_valid.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, preserves, algebraic⟩

end Cert.Proof

end
